-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_GlaPost (m : (ℓ : Loc Cert.GlaPost.nD Cert.GlaPost.τ Cert.GlaPost.sig) → Buf (Elt Bits) ℓ) : Prop :=
  True

def Pre_GlaPostIdeal (m : (ℓ : Loc Cert.GlaPostIdeal.nD Cert.GlaPostIdeal.τ Cert.GlaPostIdeal.sig) → Buf (Elt Ideal) ℓ) : Prop :=
  True

def Pre_GlaPostIdeal_glapost_finite [hPre_glapost_finite : Cert.Pre_glapost_finite.Facts] (m : (ℓ : Loc Cert.GlaPostIdeal.nD Cert.GlaPostIdeal.τ Cert.GlaPostIdeal.sig) → Buf (Elt Ideal) ℓ) : Prop :=
  ∀ c : Dev Cert.GlaPostIdeal.nD,
    (Cert.Pre_glapost_finite.fn (F := Ideal) (m ((c.tc : Thread Cert.GlaPostIdeal.nD Cert.GlaPostIdeal.τ).loc Cert.GlaPostIdeal.main_arg0)) (m ((c.tc : Thread Cert.GlaPostIdeal.nD Cert.GlaPostIdeal.τ).loc Cert.GlaPostIdeal.main_arg1)) (m ((c.tc : Thread Cert.GlaPostIdeal.nD Cert.GlaPostIdeal.τ).loc Cert.GlaPostIdeal.main_arg2)) (m ((c.tc : Thread Cert.GlaPostIdeal.nD Cert.GlaPostIdeal.τ).loc Cert.GlaPostIdeal.main_arg3)) (m ((c.tc : Thread Cert.GlaPostIdeal.nD Cert.GlaPostIdeal.τ).loc Cert.GlaPostIdeal.main_arg4))) = (fun _ => 1#1)

def Pre_GlaPostRefIdeal (m : (ℓ : Loc Cert.GlaPostRefIdeal.nD Cert.GlaPostRefIdeal.τ Cert.GlaPostRefIdeal.sig) → Buf (Elt Ideal) ℓ) : Prop :=
  True

def Pre_GlaPostRefIdeal_glapost_finite [hPre_glapost_finite : Cert.Pre_glapost_finite.Facts] (m : (ℓ : Loc Cert.GlaPostRefIdeal.nD Cert.GlaPostRefIdeal.τ Cert.GlaPostRefIdeal.sig) → Buf (Elt Ideal) ℓ) : Prop :=
  ∀ c : Dev Cert.GlaPostRefIdeal.nD,
    (Cert.Pre_glapost_finite.fn (F := Ideal) (m ((c.tc : Thread Cert.GlaPostRefIdeal.nD Cert.GlaPostRefIdeal.τ).loc Cert.GlaPostRefIdeal.main_arg0)) (m ((c.tc : Thread Cert.GlaPostRefIdeal.nD Cert.GlaPostRefIdeal.τ).loc Cert.GlaPostRefIdeal.main_arg1)) (m ((c.tc : Thread Cert.GlaPostRefIdeal.nD Cert.GlaPostRefIdeal.τ).loc Cert.GlaPostRefIdeal.main_arg2)) (m ((c.tc : Thread Cert.GlaPostRefIdeal.nD Cert.GlaPostRefIdeal.τ).loc Cert.GlaPostRefIdeal.main_arg3)) (m ((c.tc : Thread Cert.GlaPostRefIdeal.nD Cert.GlaPostRefIdeal.τ).loc Cert.GlaPostRefIdeal.main_arg4))) = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffnact_finite [hPre_ffnact_finite : Cert.Pre_ffnact_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffnact_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffnact_finite [hPre_ffnact_finite : Cert.Pre_ffnact_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffnact_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))) = (fun _ => 1#1)

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormIdeal_ffnnorm_finite [hPre_ffnnorm_finite : Cert.Pre_ffnnorm_finite.Facts] (m : (ℓ : Loc Cert.FfnNormIdeal.nD Cert.FfnNormIdeal.τ Cert.FfnNormIdeal.sig) → Buf (Elt Ideal) ℓ) : Prop :=
  ∀ c : Dev Cert.FfnNormIdeal.nD,
    (Cert.Pre_ffnnorm_finite.fn (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)) (m ((c.tc : Thread Cert.FfnNormIdeal.nD Cert.FfnNormIdeal.τ).loc Cert.FfnNormIdeal.main_arg2)) (m ((c.tc : Thread Cert.FfnNormIdeal.nD Cert.FfnNormIdeal.τ).loc Cert.FfnNormIdeal.main_arg3)) (m ((c.tc : Thread Cert.FfnNormIdeal.nD Cert.FfnNormIdeal.τ).loc Cert.FfnNormIdeal.main_arg4)) (m ((c.tc : Thread Cert.FfnNormIdeal.nD Cert.FfnNormIdeal.τ).loc Cert.FfnNormIdeal.main_arg5)) (m ((c.tc : Thread Cert.FfnNormIdeal.nD Cert.FfnNormIdeal.τ).loc Cert.FfnNormIdeal.main_arg6))) = (fun _ => 1#1)

def Pre_FfnNormRefIdeal (m : (ℓ : Loc Cert.FfnNormRefIdeal.nD Cert.FfnNormRefIdeal.τ Cert.FfnNormRefIdeal.sig) → Buf (Elt Ideal) ℓ) : Prop :=
  True

def Pre_FfnNormRefIdeal_ffnnorm_finite [hPre_ffnnorm_finite : Cert.Pre_ffnnorm_finite.Facts] (m : (ℓ : Loc Cert.FfnNormRefIdeal.nD Cert.FfnNormRefIdeal.τ Cert.FfnNormRefIdeal.sig) → Buf (Elt Ideal) ℓ) : Prop :=
  ∀ c : Dev Cert.FfnNormRefIdeal.nD,
    (Cert.Pre_ffnnorm_finite.fn (F := Ideal) (m ((c.tc : Thread Cert.FfnNormRefIdeal.nD Cert.FfnNormRefIdeal.τ).loc Cert.FfnNormRefIdeal.main_arg0)) (m ((c.tc : Thread Cert.FfnNormRefIdeal.nD Cert.FfnNormRefIdeal.τ).loc Cert.FfnNormRefIdeal.main_arg1)) (m ((c.tc : Thread Cert.FfnNormRefIdeal.nD Cert.FfnNormRefIdeal.τ).loc Cert.FfnNormRefIdeal.main_arg2)) (m ((c.tc : Thread Cert.FfnNormRefIdeal.nD Cert.FfnNormRefIdeal.τ).loc Cert.FfnNormRefIdeal.main_arg3)) (m ((c.tc : Thread Cert.FfnNormRefIdeal.nD Cert.FfnNormRefIdeal.τ).loc Cert.FfnNormRefIdeal.main_arg4)) (m ((c.tc : Thread Cert.FfnNormRefIdeal.nD Cert.FfnNormRefIdeal.τ).loc Cert.FfnNormRefIdeal.main_arg5)) (m ((c.tc : Thread Cert.FfnNormRefIdeal.nD Cert.FfnNormRefIdeal.τ).loc Cert.FfnNormRefIdeal.main_arg6))) = (fun _ => 1#1)

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormIdeal_mixnorm_finite [hPre_mixnorm_finite : Cert.Pre_mixnorm_finite.Facts] (m : (ℓ : Loc Cert.MixNormIdeal.nD Cert.MixNormIdeal.τ Cert.MixNormIdeal.sig) → Buf (Elt Ideal) ℓ) : Prop :=
  ∀ c : Dev Cert.MixNormIdeal.nD,
    (Cert.Pre_mixnorm_finite.fn (F := Ideal) (m ((c.tc : Thread Cert.MixNormIdeal.nD Cert.MixNormIdeal.τ).loc Cert.MixNormIdeal.main_arg0)) (m ((c.tc : Thread Cert.MixNormIdeal.nD Cert.MixNormIdeal.τ).loc Cert.MixNormIdeal.main_arg1)) (m ((c.tc : Thread Cert.MixNormIdeal.nD Cert.MixNormIdeal.τ).loc Cert.MixNormIdeal.main_arg2)) (m ((c.tc : Thread Cert.MixNormIdeal.nD Cert.MixNormIdeal.τ).loc Cert.MixNormIdeal.main_arg3)) (m ((c.tc : Thread Cert.MixNormIdeal.nD Cert.MixNormIdeal.τ).loc Cert.MixNormIdeal.main_arg4)) (m ((c.tc : Thread Cert.MixNormIdeal.nD Cert.MixNormIdeal.τ).loc Cert.MixNormIdeal.main_arg5)) (m ((c.tc : Thread Cert.MixNormIdeal.nD Cert.MixNormIdeal.τ).loc Cert.MixNormIdeal.main_arg6))) = (fun _ => 1#1)

def Pre_MixNormRefIdeal (m : (ℓ : Loc Cert.MixNormRefIdeal.nD Cert.MixNormRefIdeal.τ Cert.MixNormRefIdeal.sig) → Buf (Elt Ideal) ℓ) : Prop :=
  True

def Pre_MixNormRefIdeal_mixnorm_finite [hPre_mixnorm_finite : Cert.Pre_mixnorm_finite.Facts] (m : (ℓ : Loc Cert.MixNormRefIdeal.nD Cert.MixNormRefIdeal.τ Cert.MixNormRefIdeal.sig) → Buf (Elt Ideal) ℓ) : Prop :=
  ∀ c : Dev Cert.MixNormRefIdeal.nD,
    (Cert.Pre_mixnorm_finite.fn (F := Ideal) (m ((c.tc : Thread Cert.MixNormRefIdeal.nD Cert.MixNormRefIdeal.τ).loc Cert.MixNormRefIdeal.main_arg0)) (m ((c.tc : Thread Cert.MixNormRefIdeal.nD Cert.MixNormRefIdeal.τ).loc Cert.MixNormRefIdeal.main_arg1)) (m ((c.tc : Thread Cert.MixNormRefIdeal.nD Cert.MixNormRefIdeal.τ).loc Cert.MixNormRefIdeal.main_arg2)) (m ((c.tc : Thread Cert.MixNormRefIdeal.nD Cert.MixNormRefIdeal.τ).loc Cert.MixNormRefIdeal.main_arg3)) (m ((c.tc : Thread Cert.MixNormRefIdeal.nD Cert.MixNormRefIdeal.τ).loc Cert.MixNormRefIdeal.main_arg4)) (m ((c.tc : Thread Cert.MixNormRefIdeal.nD Cert.MixNormRefIdeal.τ).loc Cert.MixNormRefIdeal.main_arg5)) (m ((c.tc : Thread Cert.MixNormRefIdeal.nD Cert.MixNormRefIdeal.τ).loc Cert.MixNormRefIdeal.main_arg6))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_losshead_finite [hPre_losshead_finite : Cert.Pre_losshead_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_losshead_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_losshead_finite [hPre_losshead_finite : Cert.Pre_losshead_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_losshead_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def Pre_GlaPrep (m : (ℓ : Loc Cert.GlaPrep.nD Cert.GlaPrep.τ Cert.GlaPrep.sig) → Buf (Elt Bits) ℓ) : Prop :=
  True

def Pre_GlaPrepIdeal (m : (ℓ : Loc Cert.GlaPrepIdeal.nD Cert.GlaPrepIdeal.τ Cert.GlaPrepIdeal.sig) → Buf (Elt Ideal) ℓ) : Prop :=
  True

def Pre_GlaPrepRefIdeal (m : (ℓ : Loc Cert.GlaPrepRefIdeal.nD Cert.GlaPrepRefIdeal.τ Cert.GlaPrepRefIdeal.sig) → Buf (Elt Ideal) ℓ) : Prop :=
  True

def Pre_S5Gate (m : (ℓ : Loc Cert.S5Gate.nD Cert.S5Gate.τ Cert.S5Gate.sig) → Buf (Elt Bits) ℓ) : Prop :=
  True

def Pre_S5GateIdeal (m : (ℓ : Loc Cert.S5GateIdeal.nD Cert.S5GateIdeal.τ Cert.S5GateIdeal.sig) → Buf (Elt Ideal) ℓ) : Prop :=
  True

def Pre_S5GateIdeal_s5gate_finite [hPre_s5gate_finite : Cert.Pre_s5gate_finite.Facts] (m : (ℓ : Loc Cert.S5GateIdeal.nD Cert.S5GateIdeal.τ Cert.S5GateIdeal.sig) → Buf (Elt Ideal) ℓ) : Prop :=
  ∀ c : Dev Cert.S5GateIdeal.nD,
    (Cert.Pre_s5gate_finite.fn (F := Ideal) (m ((c.tc : Thread Cert.S5GateIdeal.nD Cert.S5GateIdeal.τ).loc Cert.S5GateIdeal.main_arg0)) (m ((c.tc : Thread Cert.S5GateIdeal.nD Cert.S5GateIdeal.τ).loc Cert.S5GateIdeal.main_arg1)) (m ((c.tc : Thread Cert.S5GateIdeal.nD Cert.S5GateIdeal.τ).loc Cert.S5GateIdeal.main_arg2)) (m ((c.tc : Thread Cert.S5GateIdeal.nD Cert.S5GateIdeal.τ).loc Cert.S5GateIdeal.main_arg3)) (m ((c.tc : Thread Cert.S5GateIdeal.nD Cert.S5GateIdeal.τ).loc Cert.S5GateIdeal.main_arg4))) = (fun _ => 1#1)

def Pre_S5GateRefIdeal (m : (ℓ : Loc Cert.S5GateRefIdeal.nD Cert.S5GateRefIdeal.τ Cert.S5GateRefIdeal.sig) → Buf (Elt Ideal) ℓ) : Prop :=
  True

def Pre_S5GateRefIdeal_s5gate_finite [hPre_s5gate_finite : Cert.Pre_s5gate_finite.Facts] (m : (ℓ : Loc Cert.S5GateRefIdeal.nD Cert.S5GateRefIdeal.τ Cert.S5GateRefIdeal.sig) → Buf (Elt Ideal) ℓ) : Prop :=
  ∀ c : Dev Cert.S5GateRefIdeal.nD,
    (Cert.Pre_s5gate_finite.fn (F := Ideal) (m ((c.tc : Thread Cert.S5GateRefIdeal.nD Cert.S5GateRefIdeal.τ).loc Cert.S5GateRefIdeal.main_arg0)) (m ((c.tc : Thread Cert.S5GateRefIdeal.nD Cert.S5GateRefIdeal.τ).loc Cert.S5GateRefIdeal.main_arg1)) (m ((c.tc : Thread Cert.S5GateRefIdeal.nD Cert.S5GateRefIdeal.τ).loc Cert.S5GateRefIdeal.main_arg2)) (m ((c.tc : Thread Cert.S5GateRefIdeal.nD Cert.S5GateRefIdeal.τ).loc Cert.S5GateRefIdeal.main_arg3)) (m ((c.tc : Thread Cert.S5GateRefIdeal.nD Cert.S5GateRefIdeal.τ).loc Cert.S5GateRefIdeal.main_arg4))) = (fun _ => 1#1)

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutRefIdeal (m : (ℓ : Loc Cert.S5OutRefIdeal.nD Cert.S5OutRefIdeal.τ Cert.S5OutRefIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutRefIdeal (m : (ℓ : Loc Cert.GlaOutRefIdeal.nD Cert.GlaOutRefIdeal.τ Cert.GlaOutRefIdeal.sig) → Buf (Elt Ideal) ℓ) : Prop :=
  True

def Pre_GlaGate (m : (ℓ : Loc Cert.GlaGate.nD Cert.GlaGate.τ Cert.GlaGate.sig) → Buf (Elt Bits) ℓ) : Prop :=
  True

def Pre_GlaGateIdeal (m : (ℓ : Loc Cert.GlaGateIdeal.nD Cert.GlaGateIdeal.τ Cert.GlaGateIdeal.sig) → Buf (Elt Ideal) ℓ) : Prop :=
  True

def Pre_GlaGateRefIdeal (m : (ℓ : Loc Cert.GlaGateRefIdeal.nD Cert.GlaGateRefIdeal.τ Cert.GlaGateRefIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixDz (m : (ℓ : Loc Cert.MixDz.nD Cert.MixDz.τ Cert.MixDz.sig) → Buf (Elt Bits) ℓ) : Prop :=
  True

def Pre_MixDzIdeal (m : (ℓ : Loc Cert.MixDzIdeal.nD Cert.MixDzIdeal.τ Cert.MixDzIdeal.sig) → Buf (Elt Ideal) ℓ) : Prop :=
  True

def Pre_MixDzRefIdeal (m : (ℓ : Loc Cert.MixDzRefIdeal.nD Cert.MixDzRefIdeal.τ Cert.MixDzRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_Dwgate (m : (ℓ : Loc Cert.Dwgate.nD Cert.Dwgate.τ Cert.Dwgate.sig) → Buf (Elt Bits) ℓ) : Prop :=
  True

def Pre_DwgateIdeal (m : (ℓ : Loc Cert.DwgateIdeal.nD Cert.DwgateIdeal.τ Cert.DwgateIdeal.sig) → Buf (Elt Ideal) ℓ) : Prop :=
  True

def Pre_DwgateRefIdeal (m : (ℓ : Loc Cert.DwgateRefIdeal.nD Cert.DwgateRefIdeal.τ Cert.DwgateRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dbranch (m : (ℓ : Loc Cert.Dbranch.nD Cert.Dbranch.τ Cert.Dbranch.sig) → Buf (Elt Bits) ℓ) : Prop :=
  True

def Pre_DbranchIdeal (m : (ℓ : Loc Cert.DbranchIdeal.nD Cert.DbranchIdeal.τ Cert.DbranchIdeal.sig) → Buf (Elt Ideal) ℓ) : Prop :=
  True

def Pre_DbranchRefIdeal (m : (ℓ : Loc Cert.DbranchRefIdeal.nD Cert.DbranchRefIdeal.τ Cert.DbranchRefIdeal.sig) → Buf (Elt Ideal) ℓ) : Prop :=
  True

def Pre_DbranchAt (m : (ℓ : Loc Cert.DbranchAt.nD Cert.DbranchAt.τ Cert.DbranchAt.sig) → Buf (Elt Bits) ℓ) : Prop :=
  True

def Pre_DbranchAtIdeal (m : (ℓ : Loc Cert.DbranchAtIdeal.nD Cert.DbranchAtIdeal.τ Cert.DbranchAtIdeal.sig) → Buf (Elt Ideal) ℓ) : Prop :=
  True

def Pre_DbranchAtRefIdeal (m : (ℓ : Loc Cert.DbranchAtRefIdeal.nD Cert.DbranchAtRefIdeal.τ Cert.DbranchAtRefIdeal.sig) → Buf (Elt Ideal) ℓ) : Prop :=
  True

def Pre_Dglu (m : (ℓ : Loc Cert.Dglu.nD Cert.Dglu.τ Cert.Dglu.sig) → Buf (Elt Bits) ℓ) : Prop :=
  True

def Pre_DgluIdeal (m : (ℓ : Loc Cert.DgluIdeal.nD Cert.DgluIdeal.τ Cert.DgluIdeal.sig) → Buf (Elt Ideal) ℓ) : Prop :=
  True

def Pre_DgluRefIdeal (m : (ℓ : Loc Cert.DgluRefIdeal.nD Cert.DgluRefIdeal.τ Cert.DgluRefIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInRefIdeal (m : (ℓ : Loc Cert.FfnDwInRefIdeal.nD Cert.FfnDwInRefIdeal.τ Cert.FfnDwInRefIdeal.sig) → Buf (Elt Ideal) ℓ) : Prop :=
  True

def Pre_AdamwFfn (m : (ℓ : Loc Cert.AdamwFfn.nD Cert.AdamwFfn.τ Cert.AdamwFfn.sig) → Buf (Elt Bits) ℓ) : Prop :=
  True

def Pre_AdamwFfnIdeal (m : (ℓ : Loc Cert.AdamwFfnIdeal.nD Cert.AdamwFfnIdeal.τ Cert.AdamwFfnIdeal.sig) → Buf (Elt Ideal) ℓ) : Prop :=
  True

def Pre_AdamwFfnRefIdeal (m : (ℓ : Loc Cert.AdamwFfnRefIdeal.nD Cert.AdamwFfnRefIdeal.τ Cert.AdamwFfnRefIdeal.sig) → Buf (Elt Ideal) ℓ) : Prop :=
  True

def Pre_AdamwGate (m : (ℓ : Loc Cert.AdamwGate.nD Cert.AdamwGate.τ Cert.AdamwGate.sig) → Buf (Elt Bits) ℓ) : Prop :=
  True

def Pre_AdamwGateIdeal (m : (ℓ : Loc Cert.AdamwGateIdeal.nD Cert.AdamwGateIdeal.τ Cert.AdamwGateIdeal.sig) → Buf (Elt Ideal) ℓ) : Prop :=
  True

def Pre_AdamwGateRefIdeal (m : (ℓ : Loc Cert.AdamwGateRefIdeal.nD Cert.AdamwGateRefIdeal.τ Cert.AdamwGateRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwBranch (m : (ℓ : Loc Cert.AdamwBranch.nD Cert.AdamwBranch.τ Cert.AdamwBranch.sig) → Buf (Elt Bits) ℓ) : Prop :=
  True

def Pre_AdamwBranchIdeal (m : (ℓ : Loc Cert.AdamwBranchIdeal.nD Cert.AdamwBranchIdeal.τ Cert.AdamwBranchIdeal.sig) → Buf (Elt Ideal) ℓ) : Prop :=
  True

def Pre_AdamwBranchRefIdeal (m : (ℓ : Loc Cert.AdamwBranchRefIdeal.nD Cert.AdamwBranchRefIdeal.τ Cert.AdamwBranchRefIdeal.sig) → Buf (Elt Ideal) ℓ) : Prop :=
  True

def Pre_AdamwGlu (m : (ℓ : Loc Cert.AdamwGlu.nD Cert.AdamwGlu.τ Cert.AdamwGlu.sig) → Buf (Elt Bits) ℓ) : Prop :=
  True

def Pre_AdamwGluIdeal (m : (ℓ : Loc Cert.AdamwGluIdeal.nD Cert.AdamwGluIdeal.τ Cert.AdamwGluIdeal.sig) → Buf (Elt Ideal) ℓ) : Prop :=
  True

def Pre_AdamwGluRefIdeal (m : (ℓ : Loc Cert.AdamwGluRefIdeal.nD Cert.AdamwGluRefIdeal.τ Cert.AdamwGluRefIdeal.sig) → Buf (Elt Ideal) ℓ) : Prop :=
  True

def Pre_AdamwAlpha (m : (ℓ : Loc Cert.AdamwAlpha.nD Cert.AdamwAlpha.τ Cert.AdamwAlpha.sig) → Buf (Elt Bits) ℓ) : Prop :=
  True

def Pre_AdamwAlphaIdeal (m : (ℓ : Loc Cert.AdamwAlphaIdeal.nD Cert.AdamwAlphaIdeal.τ Cert.AdamwAlphaIdeal.sig) → Buf (Elt Ideal) ℓ) : Prop :=
  True

def Pre_AdamwAlphaRefIdeal (m : (ℓ : Loc Cert.AdamwAlphaRefIdeal.nD Cert.AdamwAlphaRefIdeal.τ Cert.AdamwAlphaRefIdeal.sig) → Buf (Elt Ideal) ℓ) : Prop :=
  True

def Pre_AdamwBias (m : (ℓ : Loc Cert.AdamwBias.nD Cert.AdamwBias.τ Cert.AdamwBias.sig) → Buf (Elt Bits) ℓ) : Prop :=
  True

def Pre_AdamwBiasIdeal (m : (ℓ : Loc Cert.AdamwBiasIdeal.nD Cert.AdamwBiasIdeal.τ Cert.AdamwBiasIdeal.sig) → Buf (Elt Ideal) ℓ) : Prop :=
  True

def Pre_AdamwBiasRefIdeal (m : (ℓ : Loc Cert.AdamwBiasRefIdeal.nD Cert.AdamwBiasRefIdeal.τ Cert.AdamwBiasRefIdeal.sig) → Buf (Elt Ideal) ℓ) : Prop :=
  True

def Pre_AdamwRep (m : (ℓ : Loc Cert.AdamwRep.nD Cert.AdamwRep.τ Cert.AdamwRep.sig) → Buf (Elt Bits) ℓ) : Prop :=
  True

def Pre_AdamwRepIdeal (m : (ℓ : Loc Cert.AdamwRepIdeal.nD Cert.AdamwRepIdeal.τ Cert.AdamwRepIdeal.sig) → Buf (Elt Ideal) ℓ) : Prop :=
  True

def Pre_AdamwRepRefIdeal (m : (ℓ : Loc Cert.AdamwRepRefIdeal.nD Cert.AdamwRepRefIdeal.τ Cert.AdamwRepRefIdeal.sig) → Buf (Elt Ideal) ℓ) : Prop :=
  True

def Pre_Dalpha (m : (ℓ : Loc Cert.Dalpha.nD Cert.Dalpha.τ Cert.Dalpha.sig) → Buf (Elt Bits) ℓ) : Prop :=
  True

def Pre_DalphaIdeal (m : (ℓ : Loc Cert.DalphaIdeal.nD Cert.DalphaIdeal.τ Cert.DalphaIdeal.sig) → Buf (Elt Ideal) ℓ) : Prop :=
  True

def Pre_DalphaRefIdeal (m : (ℓ : Loc Cert.DalphaRefIdeal.nD Cert.DalphaRefIdeal.τ Cert.DalphaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_GlaPost [hGlaPost : Cert.GlaPost.Facts] : Prop :=
  ∀ (m : (ℓ : Loc Cert.GlaPost.nD Cert.GlaPost.τ Cert.GlaPost.sig) → Buf (Elt Bits) ℓ) (g : Dev Cert.GlaPost.nD → PrngReg), Pre_GlaPost m →
    θ_run (Cert.GlaPost.defs (F := Bits)) (onTc (τ := Cert.GlaPost.τ) (Cert.GlaPost.main (F := Bits))) ⟨m, fun _ => 0, g⟩ (fun r => (∀ c : Dev Cert.GlaPost.nD,
      r.2.mem ((c.tc : Thread Cert.GlaPost.nD Cert.GlaPost.τ).loc Cert.GlaPost.main_arg0) = m ((c.tc : Thread Cert.GlaPost.nD Cert.GlaPost.τ).loc Cert.GlaPost.main_arg0)
      ∧ r.2.mem ((c.tc : Thread Cert.GlaPost.nD Cert.GlaPost.τ).loc Cert.GlaPost.main_arg1) = m ((c.tc : Thread Cert.GlaPost.nD Cert.GlaPost.τ).loc Cert.GlaPost.main_arg1)
      ∧ r.2.mem ((c.tc : Thread Cert.GlaPost.nD Cert.GlaPost.τ).loc Cert.GlaPost.main_arg2) = m ((c.tc : Thread Cert.GlaPost.nD Cert.GlaPost.τ).loc Cert.GlaPost.main_arg2)
      ∧ r.2.mem ((c.tc : Thread Cert.GlaPost.nD Cert.GlaPost.τ).loc Cert.GlaPost.main_arg3) = m ((c.tc : Thread Cert.GlaPost.nD Cert.GlaPost.τ).loc Cert.GlaPost.main_arg3)
      ∧ r.2.mem ((c.tc : Thread Cert.GlaPost.nD Cert.GlaPost.τ).loc Cert.GlaPost.main_arg4) = m ((c.tc : Thread Cert.GlaPost.nD Cert.GlaPost.τ).loc Cert.GlaPost.main_arg4))
      ∧ r.2.sem = fun _ => 0)

def quiescent_GlaPostIdeal [hGlaPostIdeal : Cert.GlaPostIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg), Pre_GlaPostIdeal m →
    θ_run (Cert.GlaPostIdeal.defs (F := Ideal)) (onTc (τ := Cert.GlaPostIdeal.τ) (Cert.GlaPostIdeal.main (F := Ideal))) ⟨m, fun _ => 0, g⟩ (fun r => (∀ c : Dev Cert.GlaPostIdeal.nD,
      r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
      ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
      ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
      ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3)
      ∧ r.2.mem ((c.tc : Thread Cert.GlaPostIdeal.nD Cert.GlaPostIdeal.τ).loc Cert.GlaPostIdeal.main_arg4) = m ((c.tc : Thread Cert.GlaPostIdeal.nD Cert.GlaPostIdeal.τ).loc Cert.GlaPostIdeal.main_arg4))
      ∧ r.2.sem = fun _ => 0)

def quiescent_GlaPostIdeal_pre_glapost_finite [hGlaPostIdeal : Cert.GlaPostIdeal.Facts] [hPre_glapost_finite : Cert.Pre_glapost_finite.Facts] : Prop :=
  ∀ (m : (ℓ : Loc Cert.GlaPostIdeal.nD Cert.GlaPostIdeal.τ Cert.GlaPostIdeal.sig) → Buf (Elt Ideal) ℓ) (g : Dev Cert.GlaPostIdeal.nD → PrngReg), Pre_GlaPostIdeal_glapost_finite m →
    θ_run (Cert.GlaPostIdeal.defs (F := Ideal)) (onTc (τ := Cert.GlaPostIdeal.τ) (Cert.GlaPostIdeal.main (F := Ideal))) ⟨m, fun _ => 0, g⟩ (fun r => (∀ c : Dev Cert.GlaPostIdeal.nD,
      r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
      ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
      ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
      ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3)
      ∧ r.2.mem ((c.tc : Thread Cert.GlaPostIdeal.nD Cert.GlaPostIdeal.τ).loc Cert.GlaPostIdeal.main_arg4) = m ((c.tc : Thread Cert.GlaPostIdeal.nD Cert.GlaPostIdeal.τ).loc Cert.GlaPostIdeal.main_arg4))
      ∧ r.2.sem = fun _ => 0)

def quiescent_GlaPostRefIdeal [hGlaPostRefIdeal : Cert.GlaPostRefIdeal.Facts] : Prop :=
  ∀ (m : (ℓ : Loc Cert.GlaPostRefIdeal.nD Cert.GlaPostRefIdeal.τ Cert.GlaPostRefIdeal.sig) → Buf (Elt Ideal) ℓ) (g : Dev Cert.GlaPostRefIdeal.nD → PrngReg), Pre_GlaPostRefIdeal m →
    θ_run (Cert.GlaPostRefIdeal.defs (F := Ideal)) (onTc (τ := Cert.GlaPostRefIdeal.τ) (Cert.GlaPostRefIdeal.main (F := Ideal))) ⟨m, fun _ => 0, g⟩ (fun r => (∀ c : Dev Cert.GlaPostRefIdeal.nD,
      r.2.mem ((c.tc : Thread Cert.GlaPostRefIdeal.nD Cert.GlaPostRefIdeal.τ).loc Cert.GlaPostRefIdeal.main_arg0) = m ((c.tc : Thread Cert.GlaPostRefIdeal.nD Cert.GlaPostRefIdeal.τ).loc Cert.GlaPostRefIdeal.main_arg0)
      ∧ r.2.mem ((c.tc : Thread Cert.GlaPostRefIdeal.nD Cert.GlaPostRefIdeal.τ).loc Cert.GlaPostRefIdeal.main_arg1) = m ((c.tc : Thread Cert.GlaPostRefIdeal.nD Cert.GlaPostRefIdeal.τ).loc Cert.GlaPostRefIdeal.main_arg1)
      ∧ r.2.mem ((c.tc : Thread Cert.GlaPostRefIdeal.nD Cert.GlaPostRefIdeal.τ).loc Cert.GlaPostRefIdeal.main_arg2) = m ((c.tc : Thread Cert.GlaPostRefIdeal.nD Cert.GlaPostRefIdeal.τ).loc Cert.GlaPostRefIdeal.main_arg2)
      ∧ r.2.mem ((c.tc : Thread Cert.GlaPostRefIdeal.nD Cert.GlaPostRefIdeal.τ).loc Cert.GlaPostRefIdeal.main_arg3) = m ((c.tc : Thread Cert.GlaPostRefIdeal.nD Cert.GlaPostRefIdeal.τ).loc Cert.GlaPostRefIdeal.main_arg3)
      ∧ r.2.mem ((c.tc : Thread Cert.GlaPostRefIdeal.nD Cert.GlaPostRefIdeal.τ).loc Cert.GlaPostRefIdeal.main_arg4) = m ((c.tc : Thread Cert.GlaPostRefIdeal.nD Cert.GlaPostRefIdeal.τ).loc Cert.GlaPostRefIdeal.main_arg4))
      ∧ r.2.sem = fun _ => 0)

def quiescent_GlaPostRefIdeal_pre_glapost_finite [hGlaPostRefIdeal : Cert.GlaPostRefIdeal.Facts] [hPre_glapost_finite : Cert.Pre_glapost_finite.Facts] : Prop :=
  ∀ (m : (ℓ : Loc Cert.GlaPostRefIdeal.nD Cert.GlaPostRefIdeal.τ Cert.GlaPostRefIdeal.sig) → Buf (Elt Ideal) ℓ) (g : Dev Cert.GlaPostRefIdeal.nD → PrngReg), Pre_GlaPostRefIdeal_glapost_finite m →
    θ_run (Cert.GlaPostRefIdeal.defs (F := Ideal)) (onTc (τ := Cert.GlaPostRefIdeal.τ) (Cert.GlaPostRefIdeal.main (F := Ideal))) ⟨m, fun _ => 0, g⟩ (fun r => (∀ c : Dev Cert.GlaPostRefIdeal.nD,
      r.2.mem ((c.tc : Thread Cert.GlaPostRefIdeal.nD Cert.GlaPostRefIdeal.τ).loc Cert.GlaPostRefIdeal.main_arg0) = m ((c.tc : Thread Cert.GlaPostRefIdeal.nD Cert.GlaPostRefIdeal.τ).loc Cert.GlaPostRefIdeal.main_arg0)
      ∧ r.2.mem ((c.tc : Thread Cert.GlaPostRefIdeal.nD Cert.GlaPostRefIdeal.τ).loc Cert.GlaPostRefIdeal.main_arg1) = m ((c.tc : Thread Cert.GlaPostRefIdeal.nD Cert.GlaPostRefIdeal.τ).loc Cert.GlaPostRefIdeal.main_arg1)
      ∧ r.2.mem ((c.tc : Thread Cert.GlaPostRefIdeal.nD Cert.GlaPostRefIdeal.τ).loc Cert.GlaPostRefIdeal.main_arg2) = m ((c.tc : Thread Cert.GlaPostRefIdeal.nD Cert.GlaPostRefIdeal.τ).loc Cert.GlaPostRefIdeal.main_arg2)
      ∧ r.2.mem ((c.tc : Thread Cert.GlaPostRefIdeal.nD Cert.GlaPostRefIdeal.τ).loc Cert.GlaPostRefIdeal.main_arg3) = m ((c.tc : Thread Cert.GlaPostRefIdeal.nD Cert.GlaPostRefIdeal.τ).loc Cert.GlaPostRefIdeal.main_arg3)
      ∧ r.2.mem ((c.tc : Thread Cert.GlaPostRefIdeal.nD Cert.GlaPostRefIdeal.τ).loc Cert.GlaPostRefIdeal.main_arg4) = m ((c.tc : Thread Cert.GlaPostRefIdeal.nD Cert.GlaPostRefIdeal.τ).loc Cert.GlaPostRefIdeal.main_arg4))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_ffnact_finite [hFfnActIdeal : Cert.FfnActIdeal.Facts] [hPre_ffnact_finite : Cert.Pre_ffnact_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffnact_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnActRefIdeal_pre_ffnact_finite [hFfnActRefIdeal : Cert.FfnActRefIdeal.Facts] [hPre_ffnact_finite : Cert.Pre_ffnact_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffnact_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4)
      ∧ r.2.mem ((c.tc : Thread Cert.FfnNorm.nD Cert.FfnNorm.τ).loc Cert.FfnNorm.main_arg5) = m ((c.tc : Thread Cert.FfnNorm.nD Cert.FfnNorm.τ).loc Cert.FfnNorm.main_arg5)
      ∧ r.2.mem ((c.tc : Thread Cert.FfnNorm.nD Cert.FfnNorm.τ).loc Cert.FfnNorm.main_arg6) = m ((c.tc : Thread Cert.FfnNorm.nD Cert.FfnNorm.τ).loc Cert.FfnNorm.main_arg6))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
      ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5)
      ∧ r.2.mem ((c.tc : Thread Cert.FfnNormIdeal.nD Cert.FfnNormIdeal.τ).loc Cert.FfnNormIdeal.main_arg6) = m ((c.tc : Thread Cert.FfnNormIdeal.nD Cert.FfnNormIdeal.τ).loc Cert.FfnNormIdeal.main_arg6))
      ∧ r.2.sem = fun _ => 0)

def quiescent_FfnNormIdeal_pre_ffnnorm_finite [hFfnNormIdeal : Cert.FfnNormIdeal.Facts] [hPre_ffnnorm_finite : Cert.Pre_ffnnorm_finite.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal_ffnnorm_finite m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
      ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5)
      ∧ r.2.mem ((c.tc : Thread Cert.FfnNormIdeal.nD Cert.FfnNormIdeal.τ).loc Cert.FfnNormIdeal.main_arg6) = m ((c.tc : Thread Cert.FfnNormIdeal.nD Cert.FfnNormIdeal.τ).loc Cert.FfnNormIdeal.main_arg6))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4)
      ∧ r.2.mem ((c.tc : Thread Cert.FfnNormRefIdeal.nD Cert.FfnNormRefIdeal.τ).loc Cert.FfnNormRefIdeal.main_arg5) = m ((c.tc : Thread Cert.FfnNormRefIdeal.nD Cert.FfnNormRefIdeal.τ).loc Cert.FfnNormRefIdeal.main_arg5)
      ∧ r.2.mem ((c.tc : Thread Cert.FfnNormRefIdeal.nD Cert.FfnNormRefIdeal.τ).loc Cert.FfnNormRefIdeal.main_arg6) = m ((c.tc : Thread Cert.FfnNormRefIdeal.nD Cert.FfnNormRefIdeal.τ).loc Cert.FfnNormRefIdeal.main_arg6))
      ∧ r.2.sem = fun _ => 0)

def quiescent_FfnNormRefIdeal_pre_ffnnorm_finite [hFfnNormRefIdeal : Cert.FfnNormRefIdeal.Facts] [hPre_ffnnorm_finite : Cert.Pre_ffnnorm_finite.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal_ffnnorm_finite m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4)
      ∧ r.2.mem ((c.tc : Thread Cert.FfnNormRefIdeal.nD Cert.FfnNormRefIdeal.τ).loc Cert.FfnNormRefIdeal.main_arg5) = m ((c.tc : Thread Cert.FfnNormRefIdeal.nD Cert.FfnNormRefIdeal.τ).loc Cert.FfnNormRefIdeal.main_arg5)
      ∧ r.2.mem ((c.tc : Thread Cert.FfnNormRefIdeal.nD Cert.FfnNormRefIdeal.τ).loc Cert.FfnNormRefIdeal.main_arg6) = m ((c.tc : Thread Cert.FfnNormRefIdeal.nD Cert.FfnNormRefIdeal.τ).loc Cert.FfnNormRefIdeal.main_arg6))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3)
      ∧ r.2.mem ((c.tc : Thread Cert.MixNorm.nD Cert.MixNorm.τ).loc Cert.MixNorm.main_arg4) = m ((c.tc : Thread Cert.MixNorm.nD Cert.MixNorm.τ).loc Cert.MixNorm.main_arg4)
      ∧ r.2.mem ((c.tc : Thread Cert.MixNorm.nD Cert.MixNorm.τ).loc Cert.MixNorm.main_arg5) = m ((c.tc : Thread Cert.MixNorm.nD Cert.MixNorm.τ).loc Cert.MixNorm.main_arg5)
      ∧ r.2.mem ((c.tc : Thread Cert.MixNorm.nD Cert.MixNorm.τ).loc Cert.MixNorm.main_arg6) = m ((c.tc : Thread Cert.MixNorm.nD Cert.MixNorm.τ).loc Cert.MixNorm.main_arg6))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
      ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
      ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6))
      ∧ r.2.sem = fun _ => 0)

def quiescent_MixNormIdeal_pre_mixnorm_finite [hMixNormIdeal : Cert.MixNormIdeal.Facts] [hPre_mixnorm_finite : Cert.Pre_mixnorm_finite.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal_mixnorm_finite m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
      ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
      ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4)
      ∧ r.2.mem ((c.tc : Thread Cert.MixNormRefIdeal.nD Cert.MixNormRefIdeal.τ).loc Cert.MixNormRefIdeal.main_arg5) = m ((c.tc : Thread Cert.MixNormRefIdeal.nD Cert.MixNormRefIdeal.τ).loc Cert.MixNormRefIdeal.main_arg5)
      ∧ r.2.mem ((c.tc : Thread Cert.MixNormRefIdeal.nD Cert.MixNormRefIdeal.τ).loc Cert.MixNormRefIdeal.main_arg6) = m ((c.tc : Thread Cert.MixNormRefIdeal.nD Cert.MixNormRefIdeal.τ).loc Cert.MixNormRefIdeal.main_arg6))
      ∧ r.2.sem = fun _ => 0)

def quiescent_MixNormRefIdeal_pre_mixnorm_finite [hMixNormRefIdeal : Cert.MixNormRefIdeal.Facts] [hPre_mixnorm_finite : Cert.Pre_mixnorm_finite.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal_mixnorm_finite m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4)
      ∧ r.2.mem ((c.tc : Thread Cert.MixNormRefIdeal.nD Cert.MixNormRefIdeal.τ).loc Cert.MixNormRefIdeal.main_arg5) = m ((c.tc : Thread Cert.MixNormRefIdeal.nD Cert.MixNormRefIdeal.τ).loc Cert.MixNormRefIdeal.main_arg5)
      ∧ r.2.mem ((c.tc : Thread Cert.MixNormRefIdeal.nD Cert.MixNormRefIdeal.τ).loc Cert.MixNormRefIdeal.main_arg6) = m ((c.tc : Thread Cert.MixNormRefIdeal.nD Cert.MixNormRefIdeal.τ).loc Cert.MixNormRefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_losshead_finite [hLossHeadIdeal : Cert.LossHeadIdeal.Facts] [hPre_losshead_finite : Cert.Pre_losshead_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_losshead_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_losshead_finite [hLossHeadRefIdeal : Cert.LossHeadRefIdeal.Facts] [hPre_losshead_finite : Cert.Pre_losshead_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_losshead_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_GlaPrep [hGlaPrep : Cert.GlaPrep.Facts] : Prop :=
  ∀ (m : (ℓ : Loc Cert.GlaPrep.nD Cert.GlaPrep.τ Cert.GlaPrep.sig) → Buf (Elt Bits) ℓ) (g : Dev Cert.GlaPrep.nD → PrngReg), Pre_GlaPrep m →
    θ_run (Cert.GlaPrep.defs (F := Bits)) (onTc (τ := Cert.GlaPrep.τ) (Cert.GlaPrep.main (F := Bits))) ⟨m, fun _ => 0, g⟩ (fun r => (∀ c : Dev Cert.GlaPrep.nD,
      r.2.mem ((c.tc : Thread Cert.GlaPrep.nD Cert.GlaPrep.τ).loc Cert.GlaPrep.main_arg0) = m ((c.tc : Thread Cert.GlaPrep.nD Cert.GlaPrep.τ).loc Cert.GlaPrep.main_arg0)
      ∧ r.2.mem ((c.tc : Thread Cert.GlaPrep.nD Cert.GlaPrep.τ).loc Cert.GlaPrep.main_arg1) = m ((c.tc : Thread Cert.GlaPrep.nD Cert.GlaPrep.τ).loc Cert.GlaPrep.main_arg1)
      ∧ r.2.mem ((c.tc : Thread Cert.GlaPrep.nD Cert.GlaPrep.τ).loc Cert.GlaPrep.main_arg2) = m ((c.tc : Thread Cert.GlaPrep.nD Cert.GlaPrep.τ).loc Cert.GlaPrep.main_arg2)
      ∧ r.2.mem ((c.tc : Thread Cert.GlaPrep.nD Cert.GlaPrep.τ).loc Cert.GlaPrep.main_arg3) = m ((c.tc : Thread Cert.GlaPrep.nD Cert.GlaPrep.τ).loc Cert.GlaPrep.main_arg3)
      ∧ r.2.mem ((c.tc : Thread Cert.GlaPrep.nD Cert.GlaPrep.τ).loc Cert.GlaPrep.main_arg4) = m ((c.tc : Thread Cert.GlaPrep.nD Cert.GlaPrep.τ).loc Cert.GlaPrep.main_arg4)
      ∧ r.2.mem ((c.tc : Thread Cert.GlaPrep.nD Cert.GlaPrep.τ).loc Cert.GlaPrep.main_arg5) = m ((c.tc : Thread Cert.GlaPrep.nD Cert.GlaPrep.τ).loc Cert.GlaPrep.main_arg5))
      ∧ r.2.sem = fun _ => 0)

def quiescent_GlaPrepIdeal [hGlaPrepIdeal : Cert.GlaPrepIdeal.Facts] : Prop :=
  ∀ (m : (ℓ : Loc Cert.GlaPrepIdeal.nD Cert.GlaPrepIdeal.τ Cert.GlaPrepIdeal.sig) → Buf (Elt Ideal) ℓ) (g : Dev Cert.GlaPrepIdeal.nD → PrngReg), Pre_GlaPrepIdeal m →
    θ_run (Cert.GlaPrepIdeal.defs (F := Ideal)) (onTc (τ := Cert.GlaPrepIdeal.τ) (Cert.GlaPrepIdeal.main (F := Ideal))) ⟨m, fun _ => 0, g⟩ (fun r => (∀ c : Dev Cert.GlaPrepIdeal.nD,
      r.2.mem ((c.tc : Thread Cert.GlaPrepIdeal.nD Cert.GlaPrepIdeal.τ).loc Cert.GlaPrepIdeal.main_arg0) = m ((c.tc : Thread Cert.GlaPrepIdeal.nD Cert.GlaPrepIdeal.τ).loc Cert.GlaPrepIdeal.main_arg0)
      ∧ r.2.mem ((c.tc : Thread Cert.GlaPrepIdeal.nD Cert.GlaPrepIdeal.τ).loc Cert.GlaPrepIdeal.main_arg1) = m ((c.tc : Thread Cert.GlaPrepIdeal.nD Cert.GlaPrepIdeal.τ).loc Cert.GlaPrepIdeal.main_arg1)
      ∧ r.2.mem ((c.tc : Thread Cert.GlaPrepIdeal.nD Cert.GlaPrepIdeal.τ).loc Cert.GlaPrepIdeal.main_arg2) = m ((c.tc : Thread Cert.GlaPrepIdeal.nD Cert.GlaPrepIdeal.τ).loc Cert.GlaPrepIdeal.main_arg2)
      ∧ r.2.mem ((c.tc : Thread Cert.GlaPrepIdeal.nD Cert.GlaPrepIdeal.τ).loc Cert.GlaPrepIdeal.main_arg3) = m ((c.tc : Thread Cert.GlaPrepIdeal.nD Cert.GlaPrepIdeal.τ).loc Cert.GlaPrepIdeal.main_arg3)
      ∧ r.2.mem ((c.tc : Thread Cert.GlaPrepIdeal.nD Cert.GlaPrepIdeal.τ).loc Cert.GlaPrepIdeal.main_arg4) = m ((c.tc : Thread Cert.GlaPrepIdeal.nD Cert.GlaPrepIdeal.τ).loc Cert.GlaPrepIdeal.main_arg4)
      ∧ r.2.mem ((c.tc : Thread Cert.GlaPrepIdeal.nD Cert.GlaPrepIdeal.τ).loc Cert.GlaPrepIdeal.main_arg5) = m ((c.tc : Thread Cert.GlaPrepIdeal.nD Cert.GlaPrepIdeal.τ).loc Cert.GlaPrepIdeal.main_arg5))
      ∧ r.2.sem = fun _ => 0)

def quiescent_GlaPrepRefIdeal [hGlaPrepRefIdeal : Cert.GlaPrepRefIdeal.Facts] : Prop :=
  ∀ (m : (ℓ : Loc Cert.GlaPrepRefIdeal.nD Cert.GlaPrepRefIdeal.τ Cert.GlaPrepRefIdeal.sig) → Buf (Elt Ideal) ℓ) (g : Dev Cert.GlaPrepRefIdeal.nD → PrngReg), Pre_GlaPrepRefIdeal m →
    θ_run (Cert.GlaPrepRefIdeal.defs (F := Ideal)) (onTc (τ := Cert.GlaPrepRefIdeal.τ) (Cert.GlaPrepRefIdeal.main (F := Ideal))) ⟨m, fun _ => 0, g⟩ (fun r => (∀ c : Dev Cert.GlaPrepRefIdeal.nD,
      r.2.mem ((c.tc : Thread Cert.GlaPrepRefIdeal.nD Cert.GlaPrepRefIdeal.τ).loc Cert.GlaPrepRefIdeal.main_arg0) = m ((c.tc : Thread Cert.GlaPrepRefIdeal.nD Cert.GlaPrepRefIdeal.τ).loc Cert.GlaPrepRefIdeal.main_arg0)
      ∧ r.2.mem ((c.tc : Thread Cert.GlaPrepRefIdeal.nD Cert.GlaPrepRefIdeal.τ).loc Cert.GlaPrepRefIdeal.main_arg1) = m ((c.tc : Thread Cert.GlaPrepRefIdeal.nD Cert.GlaPrepRefIdeal.τ).loc Cert.GlaPrepRefIdeal.main_arg1)
      ∧ r.2.mem ((c.tc : Thread Cert.GlaPrepRefIdeal.nD Cert.GlaPrepRefIdeal.τ).loc Cert.GlaPrepRefIdeal.main_arg2) = m ((c.tc : Thread Cert.GlaPrepRefIdeal.nD Cert.GlaPrepRefIdeal.τ).loc Cert.GlaPrepRefIdeal.main_arg2)
      ∧ r.2.mem ((c.tc : Thread Cert.GlaPrepRefIdeal.nD Cert.GlaPrepRefIdeal.τ).loc Cert.GlaPrepRefIdeal.main_arg3) = m ((c.tc : Thread Cert.GlaPrepRefIdeal.nD Cert.GlaPrepRefIdeal.τ).loc Cert.GlaPrepRefIdeal.main_arg3)
      ∧ r.2.mem ((c.tc : Thread Cert.GlaPrepRefIdeal.nD Cert.GlaPrepRefIdeal.τ).loc Cert.GlaPrepRefIdeal.main_arg4) = m ((c.tc : Thread Cert.GlaPrepRefIdeal.nD Cert.GlaPrepRefIdeal.τ).loc Cert.GlaPrepRefIdeal.main_arg4)
      ∧ r.2.mem ((c.tc : Thread Cert.GlaPrepRefIdeal.nD Cert.GlaPrepRefIdeal.τ).loc Cert.GlaPrepRefIdeal.main_arg5) = m ((c.tc : Thread Cert.GlaPrepRefIdeal.nD Cert.GlaPrepRefIdeal.τ).loc Cert.GlaPrepRefIdeal.main_arg5))
      ∧ r.2.sem = fun _ => 0)

def quiescent_S5Gate [hS5Gate : Cert.S5Gate.Facts] : Prop :=
  ∀ (m : (ℓ : Loc Cert.S5Gate.nD Cert.S5Gate.τ Cert.S5Gate.sig) → Buf (Elt Bits) ℓ) (g : Dev Cert.S5Gate.nD → PrngReg), Pre_S5Gate m →
    θ_run (Cert.S5Gate.defs (F := Bits)) (onTc (τ := Cert.S5Gate.τ) (Cert.S5Gate.main (F := Bits))) ⟨m, fun _ => 0, g⟩ (fun r => (∀ c : Dev Cert.S5Gate.nD,
      r.2.mem ((c.tc : Thread Cert.S5Gate.nD Cert.S5Gate.τ).loc Cert.S5Gate.main_arg0) = m ((c.tc : Thread Cert.S5Gate.nD Cert.S5Gate.τ).loc Cert.S5Gate.main_arg0)
      ∧ r.2.mem ((c.tc : Thread Cert.S5Gate.nD Cert.S5Gate.τ).loc Cert.S5Gate.main_arg1) = m ((c.tc : Thread Cert.S5Gate.nD Cert.S5Gate.τ).loc Cert.S5Gate.main_arg1)
      ∧ r.2.mem ((c.tc : Thread Cert.S5Gate.nD Cert.S5Gate.τ).loc Cert.S5Gate.main_arg2) = m ((c.tc : Thread Cert.S5Gate.nD Cert.S5Gate.τ).loc Cert.S5Gate.main_arg2)
      ∧ r.2.mem ((c.tc : Thread Cert.S5Gate.nD Cert.S5Gate.τ).loc Cert.S5Gate.main_arg3) = m ((c.tc : Thread Cert.S5Gate.nD Cert.S5Gate.τ).loc Cert.S5Gate.main_arg3)
      ∧ r.2.mem ((c.tc : Thread Cert.S5Gate.nD Cert.S5Gate.τ).loc Cert.S5Gate.main_arg4) = m ((c.tc : Thread Cert.S5Gate.nD Cert.S5Gate.τ).loc Cert.S5Gate.main_arg4))
      ∧ r.2.sem = fun _ => 0)

def quiescent_S5GateIdeal [hS5GateIdeal : Cert.S5GateIdeal.Facts] : Prop :=
  ∀ (m : (ℓ : Loc Cert.S5GateIdeal.nD Cert.S5GateIdeal.τ Cert.S5GateIdeal.sig) → Buf (Elt Ideal) ℓ) (g : Dev Cert.S5GateIdeal.nD → PrngReg), Pre_S5GateIdeal m →
    θ_run (Cert.S5GateIdeal.defs (F := Ideal)) (onTc (τ := Cert.S5GateIdeal.τ) (Cert.S5GateIdeal.main (F := Ideal))) ⟨m, fun _ => 0, g⟩ (fun r => (∀ c : Dev Cert.S5GateIdeal.nD,
      r.2.mem ((c.tc : Thread Cert.S5GateIdeal.nD Cert.S5GateIdeal.τ).loc Cert.S5GateIdeal.main_arg0) = m ((c.tc : Thread Cert.S5GateIdeal.nD Cert.S5GateIdeal.τ).loc Cert.S5GateIdeal.main_arg0)
      ∧ r.2.mem ((c.tc : Thread Cert.S5GateIdeal.nD Cert.S5GateIdeal.τ).loc Cert.S5GateIdeal.main_arg1) = m ((c.tc : Thread Cert.S5GateIdeal.nD Cert.S5GateIdeal.τ).loc Cert.S5GateIdeal.main_arg1)
      ∧ r.2.mem ((c.tc : Thread Cert.S5GateIdeal.nD Cert.S5GateIdeal.τ).loc Cert.S5GateIdeal.main_arg2) = m ((c.tc : Thread Cert.S5GateIdeal.nD Cert.S5GateIdeal.τ).loc Cert.S5GateIdeal.main_arg2)
      ∧ r.2.mem ((c.tc : Thread Cert.S5GateIdeal.nD Cert.S5GateIdeal.τ).loc Cert.S5GateIdeal.main_arg3) = m ((c.tc : Thread Cert.S5GateIdeal.nD Cert.S5GateIdeal.τ).loc Cert.S5GateIdeal.main_arg3)
      ∧ r.2.mem ((c.tc : Thread Cert.S5GateIdeal.nD Cert.S5GateIdeal.τ).loc Cert.S5GateIdeal.main_arg4) = m ((c.tc : Thread Cert.S5GateIdeal.nD Cert.S5GateIdeal.τ).loc Cert.S5GateIdeal.main_arg4))
      ∧ r.2.sem = fun _ => 0)

def quiescent_S5GateIdeal_pre_s5gate_finite [hS5GateIdeal : Cert.S5GateIdeal.Facts] [hPre_s5gate_finite : Cert.Pre_s5gate_finite.Facts] : Prop :=
  ∀ (m : (ℓ : Loc Cert.S5GateIdeal.nD Cert.S5GateIdeal.τ Cert.S5GateIdeal.sig) → Buf (Elt Ideal) ℓ) (g : Dev Cert.S5GateIdeal.nD → PrngReg), Pre_S5GateIdeal_s5gate_finite m →
    θ_run (Cert.S5GateIdeal.defs (F := Ideal)) (onTc (τ := Cert.S5GateIdeal.τ) (Cert.S5GateIdeal.main (F := Ideal))) ⟨m, fun _ => 0, g⟩ (fun r => (∀ c : Dev Cert.S5GateIdeal.nD,
      r.2.mem ((c.tc : Thread Cert.S5GateIdeal.nD Cert.S5GateIdeal.τ).loc Cert.S5GateIdeal.main_arg0) = m ((c.tc : Thread Cert.S5GateIdeal.nD Cert.S5GateIdeal.τ).loc Cert.S5GateIdeal.main_arg0)
      ∧ r.2.mem ((c.tc : Thread Cert.S5GateIdeal.nD Cert.S5GateIdeal.τ).loc Cert.S5GateIdeal.main_arg1) = m ((c.tc : Thread Cert.S5GateIdeal.nD Cert.S5GateIdeal.τ).loc Cert.S5GateIdeal.main_arg1)
      ∧ r.2.mem ((c.tc : Thread Cert.S5GateIdeal.nD Cert.S5GateIdeal.τ).loc Cert.S5GateIdeal.main_arg2) = m ((c.tc : Thread Cert.S5GateIdeal.nD Cert.S5GateIdeal.τ).loc Cert.S5GateIdeal.main_arg2)
      ∧ r.2.mem ((c.tc : Thread Cert.S5GateIdeal.nD Cert.S5GateIdeal.τ).loc Cert.S5GateIdeal.main_arg3) = m ((c.tc : Thread Cert.S5GateIdeal.nD Cert.S5GateIdeal.τ).loc Cert.S5GateIdeal.main_arg3)
      ∧ r.2.mem ((c.tc : Thread Cert.S5GateIdeal.nD Cert.S5GateIdeal.τ).loc Cert.S5GateIdeal.main_arg4) = m ((c.tc : Thread Cert.S5GateIdeal.nD Cert.S5GateIdeal.τ).loc Cert.S5GateIdeal.main_arg4))
      ∧ r.2.sem = fun _ => 0)

def quiescent_S5GateRefIdeal [hS5GateRefIdeal : Cert.S5GateRefIdeal.Facts] : Prop :=
  ∀ (m : (ℓ : Loc Cert.S5GateRefIdeal.nD Cert.S5GateRefIdeal.τ Cert.S5GateRefIdeal.sig) → Buf (Elt Ideal) ℓ) (g : Dev Cert.S5GateRefIdeal.nD → PrngReg), Pre_S5GateRefIdeal m →
    θ_run (Cert.S5GateRefIdeal.defs (F := Ideal)) (onTc (τ := Cert.S5GateRefIdeal.τ) (Cert.S5GateRefIdeal.main (F := Ideal))) ⟨m, fun _ => 0, g⟩ (fun r => (∀ c : Dev Cert.S5GateRefIdeal.nD,
      r.2.mem ((c.tc : Thread Cert.S5GateRefIdeal.nD Cert.S5GateRefIdeal.τ).loc Cert.S5GateRefIdeal.main_arg0) = m ((c.tc : Thread Cert.S5GateRefIdeal.nD Cert.S5GateRefIdeal.τ).loc Cert.S5GateRefIdeal.main_arg0)
      ∧ r.2.mem ((c.tc : Thread Cert.S5GateRefIdeal.nD Cert.S5GateRefIdeal.τ).loc Cert.S5GateRefIdeal.main_arg1) = m ((c.tc : Thread Cert.S5GateRefIdeal.nD Cert.S5GateRefIdeal.τ).loc Cert.S5GateRefIdeal.main_arg1)
      ∧ r.2.mem ((c.tc : Thread Cert.S5GateRefIdeal.nD Cert.S5GateRefIdeal.τ).loc Cert.S5GateRefIdeal.main_arg2) = m ((c.tc : Thread Cert.S5GateRefIdeal.nD Cert.S5GateRefIdeal.τ).loc Cert.S5GateRefIdeal.main_arg2)
      ∧ r.2.mem ((c.tc : Thread Cert.S5GateRefIdeal.nD Cert.S5GateRefIdeal.τ).loc Cert.S5GateRefIdeal.main_arg3) = m ((c.tc : Thread Cert.S5GateRefIdeal.nD Cert.S5GateRefIdeal.τ).loc Cert.S5GateRefIdeal.main_arg3)
      ∧ r.2.mem ((c.tc : Thread Cert.S5GateRefIdeal.nD Cert.S5GateRefIdeal.τ).loc Cert.S5GateRefIdeal.main_arg4) = m ((c.tc : Thread Cert.S5GateRefIdeal.nD Cert.S5GateRefIdeal.τ).loc Cert.S5GateRefIdeal.main_arg4))
      ∧ r.2.sem = fun _ => 0)

def quiescent_S5GateRefIdeal_pre_s5gate_finite [hS5GateRefIdeal : Cert.S5GateRefIdeal.Facts] [hPre_s5gate_finite : Cert.Pre_s5gate_finite.Facts] : Prop :=
  ∀ (m : (ℓ : Loc Cert.S5GateRefIdeal.nD Cert.S5GateRefIdeal.τ Cert.S5GateRefIdeal.sig) → Buf (Elt Ideal) ℓ) (g : Dev Cert.S5GateRefIdeal.nD → PrngReg), Pre_S5GateRefIdeal_s5gate_finite m →
    θ_run (Cert.S5GateRefIdeal.defs (F := Ideal)) (onTc (τ := Cert.S5GateRefIdeal.τ) (Cert.S5GateRefIdeal.main (F := Ideal))) ⟨m, fun _ => 0, g⟩ (fun r => (∀ c : Dev Cert.S5GateRefIdeal.nD,
      r.2.mem ((c.tc : Thread Cert.S5GateRefIdeal.nD Cert.S5GateRefIdeal.τ).loc Cert.S5GateRefIdeal.main_arg0) = m ((c.tc : Thread Cert.S5GateRefIdeal.nD Cert.S5GateRefIdeal.τ).loc Cert.S5GateRefIdeal.main_arg0)
      ∧ r.2.mem ((c.tc : Thread Cert.S5GateRefIdeal.nD Cert.S5GateRefIdeal.τ).loc Cert.S5GateRefIdeal.main_arg1) = m ((c.tc : Thread Cert.S5GateRefIdeal.nD Cert.S5GateRefIdeal.τ).loc Cert.S5GateRefIdeal.main_arg1)
      ∧ r.2.mem ((c.tc : Thread Cert.S5GateRefIdeal.nD Cert.S5GateRefIdeal.τ).loc Cert.S5GateRefIdeal.main_arg2) = m ((c.tc : Thread Cert.S5GateRefIdeal.nD Cert.S5GateRefIdeal.τ).loc Cert.S5GateRefIdeal.main_arg2)
      ∧ r.2.mem ((c.tc : Thread Cert.S5GateRefIdeal.nD Cert.S5GateRefIdeal.τ).loc Cert.S5GateRefIdeal.main_arg3) = m ((c.tc : Thread Cert.S5GateRefIdeal.nD Cert.S5GateRefIdeal.τ).loc Cert.S5GateRefIdeal.main_arg3)
      ∧ r.2.mem ((c.tc : Thread Cert.S5GateRefIdeal.nD Cert.S5GateRefIdeal.τ).loc Cert.S5GateRefIdeal.main_arg4) = m ((c.tc : Thread Cert.S5GateRefIdeal.nD Cert.S5GateRefIdeal.τ).loc Cert.S5GateRefIdeal.main_arg4))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3))
      ∧ r.2.sem = fun _ => 0)

def quiescent_S5OutRefIdeal [hS5OutRefIdeal : Cert.S5OutRefIdeal.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2)
      ∧ r.2.mem ((c.tc : Thread Cert.S5OutRefIdeal.nD Cert.S5OutRefIdeal.τ).loc Cert.S5OutRefIdeal.main_arg3) = m ((c.tc : Thread Cert.S5OutRefIdeal.nD Cert.S5OutRefIdeal.τ).loc Cert.S5OutRefIdeal.main_arg3))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2)
      ∧ r.2.mem ((c.tc : Thread Cert.GlaOut.nD Cert.GlaOut.τ).loc Cert.GlaOut.main_arg3) = m ((c.tc : Thread Cert.GlaOut.nD Cert.GlaOut.τ).loc Cert.GlaOut.main_arg3))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
      ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3))
      ∧ r.2.sem = fun _ => 0)

def quiescent_GlaOutRefIdeal [hGlaOutRefIdeal : Cert.GlaOutRefIdeal.Facts] : Prop :=
  ∀ (m : (ℓ : Loc Cert.GlaOutRefIdeal.nD Cert.GlaOutRefIdeal.τ Cert.GlaOutRefIdeal.sig) → Buf (Elt Ideal) ℓ) (g : Dev Cert.GlaOutRefIdeal.nD → PrngReg), Pre_GlaOutRefIdeal m →
    θ_run (Cert.GlaOutRefIdeal.defs (F := Ideal)) (onTc (τ := Cert.GlaOutRefIdeal.τ) (Cert.GlaOutRefIdeal.main (F := Ideal))) ⟨m, fun _ => 0, g⟩ (fun r => (∀ c : Dev Cert.GlaOutRefIdeal.nD,
      r.2.mem ((c.tc : Thread Cert.GlaOutRefIdeal.nD Cert.GlaOutRefIdeal.τ).loc Cert.GlaOutRefIdeal.main_arg0) = m ((c.tc : Thread Cert.GlaOutRefIdeal.nD Cert.GlaOutRefIdeal.τ).loc Cert.GlaOutRefIdeal.main_arg0)
      ∧ r.2.mem ((c.tc : Thread Cert.GlaOutRefIdeal.nD Cert.GlaOutRefIdeal.τ).loc Cert.GlaOutRefIdeal.main_arg1) = m ((c.tc : Thread Cert.GlaOutRefIdeal.nD Cert.GlaOutRefIdeal.τ).loc Cert.GlaOutRefIdeal.main_arg1)
      ∧ r.2.mem ((c.tc : Thread Cert.GlaOutRefIdeal.nD Cert.GlaOutRefIdeal.τ).loc Cert.GlaOutRefIdeal.main_arg2) = m ((c.tc : Thread Cert.GlaOutRefIdeal.nD Cert.GlaOutRefIdeal.τ).loc Cert.GlaOutRefIdeal.main_arg2)
      ∧ r.2.mem ((c.tc : Thread Cert.GlaOutRefIdeal.nD Cert.GlaOutRefIdeal.τ).loc Cert.GlaOutRefIdeal.main_arg3) = m ((c.tc : Thread Cert.GlaOutRefIdeal.nD Cert.GlaOutRefIdeal.τ).loc Cert.GlaOutRefIdeal.main_arg3))
      ∧ r.2.sem = fun _ => 0)

def quiescent_GlaGate [hGlaGate : Cert.GlaGate.Facts] : Prop :=
  ∀ (m : (ℓ : Loc Cert.GlaGate.nD Cert.GlaGate.τ Cert.GlaGate.sig) → Buf (Elt Bits) ℓ) (g : Dev Cert.GlaGate.nD → PrngReg), Pre_GlaGate m →
    θ_run (Cert.GlaGate.defs (F := Bits)) (onTc (τ := Cert.GlaGate.τ) (Cert.GlaGate.main (F := Bits))) ⟨m, fun _ => 0, g⟩ (fun r => (∀ c : Dev Cert.GlaGate.nD,
      r.2.mem ((c.tc : Thread Cert.GlaGate.nD Cert.GlaGate.τ).loc Cert.GlaGate.main_arg0) = m ((c.tc : Thread Cert.GlaGate.nD Cert.GlaGate.τ).loc Cert.GlaGate.main_arg0)
      ∧ r.2.mem ((c.tc : Thread Cert.GlaGate.nD Cert.GlaGate.τ).loc Cert.GlaGate.main_arg1) = m ((c.tc : Thread Cert.GlaGate.nD Cert.GlaGate.τ).loc Cert.GlaGate.main_arg1)
      ∧ r.2.mem ((c.tc : Thread Cert.GlaGate.nD Cert.GlaGate.τ).loc Cert.GlaGate.main_arg2) = m ((c.tc : Thread Cert.GlaGate.nD Cert.GlaGate.τ).loc Cert.GlaGate.main_arg2)
      ∧ r.2.mem ((c.tc : Thread Cert.GlaGate.nD Cert.GlaGate.τ).loc Cert.GlaGate.main_arg3) = m ((c.tc : Thread Cert.GlaGate.nD Cert.GlaGate.τ).loc Cert.GlaGate.main_arg3))
      ∧ r.2.sem = fun _ => 0)

def quiescent_GlaGateIdeal [hGlaGateIdeal : Cert.GlaGateIdeal.Facts] : Prop :=
  ∀ (m : (ℓ : Loc Cert.GlaGateIdeal.nD Cert.GlaGateIdeal.τ Cert.GlaGateIdeal.sig) → Buf (Elt Ideal) ℓ) (g : Dev Cert.GlaGateIdeal.nD → PrngReg), Pre_GlaGateIdeal m →
    θ_run (Cert.GlaGateIdeal.defs (F := Ideal)) (onTc (τ := Cert.GlaGateIdeal.τ) (Cert.GlaGateIdeal.main (F := Ideal))) ⟨m, fun _ => 0, g⟩ (fun r => (∀ c : Dev Cert.GlaGateIdeal.nD,
      r.2.mem ((c.tc : Thread Cert.GlaGateIdeal.nD Cert.GlaGateIdeal.τ).loc Cert.GlaGateIdeal.main_arg0) = m ((c.tc : Thread Cert.GlaGateIdeal.nD Cert.GlaGateIdeal.τ).loc Cert.GlaGateIdeal.main_arg0)
      ∧ r.2.mem ((c.tc : Thread Cert.GlaGateIdeal.nD Cert.GlaGateIdeal.τ).loc Cert.GlaGateIdeal.main_arg1) = m ((c.tc : Thread Cert.GlaGateIdeal.nD Cert.GlaGateIdeal.τ).loc Cert.GlaGateIdeal.main_arg1)
      ∧ r.2.mem ((c.tc : Thread Cert.GlaGateIdeal.nD Cert.GlaGateIdeal.τ).loc Cert.GlaGateIdeal.main_arg2) = m ((c.tc : Thread Cert.GlaGateIdeal.nD Cert.GlaGateIdeal.τ).loc Cert.GlaGateIdeal.main_arg2)
      ∧ r.2.mem ((c.tc : Thread Cert.GlaGateIdeal.nD Cert.GlaGateIdeal.τ).loc Cert.GlaGateIdeal.main_arg3) = m ((c.tc : Thread Cert.GlaGateIdeal.nD Cert.GlaGateIdeal.τ).loc Cert.GlaGateIdeal.main_arg3))
      ∧ r.2.sem = fun _ => 0)

def quiescent_GlaGateRefIdeal [hGlaGateRefIdeal : Cert.GlaGateRefIdeal.Facts] : Prop :=
  ∀ (m : (ℓ : Loc Cert.GlaGateRefIdeal.nD Cert.GlaGateRefIdeal.τ Cert.GlaGateRefIdeal.sig) → Buf (Elt Ideal) ℓ) (g : Dev Cert.GlaGateRefIdeal.nD → PrngReg), Pre_GlaGateRefIdeal m →
    θ_run (Cert.GlaGateRefIdeal.defs (F := Ideal)) (onTc (τ := Cert.GlaGateRefIdeal.τ) (Cert.GlaGateRefIdeal.main (F := Ideal))) ⟨m, fun _ => 0, g⟩ (fun r => (∀ c : Dev Cert.GlaGateRefIdeal.nD,
      r.2.mem ((c.tc : Thread Cert.GlaGateRefIdeal.nD Cert.GlaGateRefIdeal.τ).loc Cert.GlaGateRefIdeal.main_arg0) = m ((c.tc : Thread Cert.GlaGateRefIdeal.nD Cert.GlaGateRefIdeal.τ).loc Cert.GlaGateRefIdeal.main_arg0)
      ∧ r.2.mem ((c.tc : Thread Cert.GlaGateRefIdeal.nD Cert.GlaGateRefIdeal.τ).loc Cert.GlaGateRefIdeal.main_arg1) = m ((c.tc : Thread Cert.GlaGateRefIdeal.nD Cert.GlaGateRefIdeal.τ).loc Cert.GlaGateRefIdeal.main_arg1)
      ∧ r.2.mem ((c.tc : Thread Cert.GlaGateRefIdeal.nD Cert.GlaGateRefIdeal.τ).loc Cert.GlaGateRefIdeal.main_arg2) = m ((c.tc : Thread Cert.GlaGateRefIdeal.nD Cert.GlaGateRefIdeal.τ).loc Cert.GlaGateRefIdeal.main_arg2)
      ∧ r.2.mem ((c.tc : Thread Cert.GlaGateRefIdeal.nD Cert.GlaGateRefIdeal.τ).loc Cert.GlaGateRefIdeal.main_arg3) = m ((c.tc : Thread Cert.GlaGateRefIdeal.nD Cert.GlaGateRefIdeal.τ).loc Cert.GlaGateRefIdeal.main_arg3))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_MixDz [hMixDz : Cert.MixDz.Facts] : Prop :=
  ∀ (m : (ℓ : Loc Cert.MixDz.nD Cert.MixDz.τ Cert.MixDz.sig) → Buf (Elt Bits) ℓ) (g : Dev Cert.MixDz.nD → PrngReg), Pre_MixDz m →
    θ_run (Cert.MixDz.defs (F := Bits)) (onTc (τ := Cert.MixDz.τ) (Cert.MixDz.main (F := Bits))) ⟨m, fun _ => 0, g⟩ (fun r => (∀ c : Dev Cert.MixDz.nD,
      r.2.mem ((c.tc : Thread Cert.MixDz.nD Cert.MixDz.τ).loc Cert.MixDz.main_arg0) = m ((c.tc : Thread Cert.MixDz.nD Cert.MixDz.τ).loc Cert.MixDz.main_arg0)
      ∧ r.2.mem ((c.tc : Thread Cert.MixDz.nD Cert.MixDz.τ).loc Cert.MixDz.main_arg1) = m ((c.tc : Thread Cert.MixDz.nD Cert.MixDz.τ).loc Cert.MixDz.main_arg1)
      ∧ r.2.mem ((c.tc : Thread Cert.MixDz.nD Cert.MixDz.τ).loc Cert.MixDz.main_arg2) = m ((c.tc : Thread Cert.MixDz.nD Cert.MixDz.τ).loc Cert.MixDz.main_arg2)
      ∧ r.2.mem ((c.tc : Thread Cert.MixDz.nD Cert.MixDz.τ).loc Cert.MixDz.main_arg3) = m ((c.tc : Thread Cert.MixDz.nD Cert.MixDz.τ).loc Cert.MixDz.main_arg3)
      ∧ r.2.mem ((c.tc : Thread Cert.MixDz.nD Cert.MixDz.τ).loc Cert.MixDz.main_arg4) = m ((c.tc : Thread Cert.MixDz.nD Cert.MixDz.τ).loc Cert.MixDz.main_arg4)
      ∧ r.2.mem ((c.tc : Thread Cert.MixDz.nD Cert.MixDz.τ).loc Cert.MixDz.main_arg5) = m ((c.tc : Thread Cert.MixDz.nD Cert.MixDz.τ).loc Cert.MixDz.main_arg5)
      ∧ r.2.mem ((c.tc : Thread Cert.MixDz.nD Cert.MixDz.τ).loc Cert.MixDz.main_arg6) = m ((c.tc : Thread Cert.MixDz.nD Cert.MixDz.τ).loc Cert.MixDz.main_arg6)
      ∧ r.2.mem ((c.tc : Thread Cert.MixDz.nD Cert.MixDz.τ).loc Cert.MixDz.main_arg7) = m ((c.tc : Thread Cert.MixDz.nD Cert.MixDz.τ).loc Cert.MixDz.main_arg7)
      ∧ r.2.mem ((c.tc : Thread Cert.MixDz.nD Cert.MixDz.τ).loc Cert.MixDz.main_arg8) = m ((c.tc : Thread Cert.MixDz.nD Cert.MixDz.τ).loc Cert.MixDz.main_arg8)
      ∧ r.2.mem ((c.tc : Thread Cert.MixDz.nD Cert.MixDz.τ).loc Cert.MixDz.main_arg9) = m ((c.tc : Thread Cert.MixDz.nD Cert.MixDz.τ).loc Cert.MixDz.main_arg9)
      ∧ r.2.mem ((c.tc : Thread Cert.MixDz.nD Cert.MixDz.τ).loc Cert.MixDz.main_arg10) = m ((c.tc : Thread Cert.MixDz.nD Cert.MixDz.τ).loc Cert.MixDz.main_arg10)
      ∧ r.2.mem ((c.tc : Thread Cert.MixDz.nD Cert.MixDz.τ).loc Cert.MixDz.main_arg11) = m ((c.tc : Thread Cert.MixDz.nD Cert.MixDz.τ).loc Cert.MixDz.main_arg11))
      ∧ r.2.sem = fun _ => 0)

def quiescent_MixDzIdeal [hMixDzIdeal : Cert.MixDzIdeal.Facts] : Prop :=
  ∀ (m : (ℓ : Loc Cert.MixDzIdeal.nD Cert.MixDzIdeal.τ Cert.MixDzIdeal.sig) → Buf (Elt Ideal) ℓ) (g : Dev Cert.MixDzIdeal.nD → PrngReg), Pre_MixDzIdeal m →
    θ_run (Cert.MixDzIdeal.defs (F := Ideal)) (onTc (τ := Cert.MixDzIdeal.τ) (Cert.MixDzIdeal.main (F := Ideal))) ⟨m, fun _ => 0, g⟩ (fun r => (∀ c : Dev Cert.MixDzIdeal.nD,
      r.2.mem ((c.tc : Thread Cert.MixDzIdeal.nD Cert.MixDzIdeal.τ).loc Cert.MixDzIdeal.main_arg0) = m ((c.tc : Thread Cert.MixDzIdeal.nD Cert.MixDzIdeal.τ).loc Cert.MixDzIdeal.main_arg0)
      ∧ r.2.mem ((c.tc : Thread Cert.MixDzIdeal.nD Cert.MixDzIdeal.τ).loc Cert.MixDzIdeal.main_arg1) = m ((c.tc : Thread Cert.MixDzIdeal.nD Cert.MixDzIdeal.τ).loc Cert.MixDzIdeal.main_arg1)
      ∧ r.2.mem ((c.tc : Thread Cert.MixDzIdeal.nD Cert.MixDzIdeal.τ).loc Cert.MixDzIdeal.main_arg2) = m ((c.tc : Thread Cert.MixDzIdeal.nD Cert.MixDzIdeal.τ).loc Cert.MixDzIdeal.main_arg2)
      ∧ r.2.mem ((c.tc : Thread Cert.MixDzIdeal.nD Cert.MixDzIdeal.τ).loc Cert.MixDzIdeal.main_arg3) = m ((c.tc : Thread Cert.MixDzIdeal.nD Cert.MixDzIdeal.τ).loc Cert.MixDzIdeal.main_arg3)
      ∧ r.2.mem ((c.tc : Thread Cert.MixDzIdeal.nD Cert.MixDzIdeal.τ).loc Cert.MixDzIdeal.main_arg4) = m ((c.tc : Thread Cert.MixDzIdeal.nD Cert.MixDzIdeal.τ).loc Cert.MixDzIdeal.main_arg4)
      ∧ r.2.mem ((c.tc : Thread Cert.MixDzIdeal.nD Cert.MixDzIdeal.τ).loc Cert.MixDzIdeal.main_arg5) = m ((c.tc : Thread Cert.MixDzIdeal.nD Cert.MixDzIdeal.τ).loc Cert.MixDzIdeal.main_arg5)
      ∧ r.2.mem ((c.tc : Thread Cert.MixDzIdeal.nD Cert.MixDzIdeal.τ).loc Cert.MixDzIdeal.main_arg6) = m ((c.tc : Thread Cert.MixDzIdeal.nD Cert.MixDzIdeal.τ).loc Cert.MixDzIdeal.main_arg6)
      ∧ r.2.mem ((c.tc : Thread Cert.MixDzIdeal.nD Cert.MixDzIdeal.τ).loc Cert.MixDzIdeal.main_arg7) = m ((c.tc : Thread Cert.MixDzIdeal.nD Cert.MixDzIdeal.τ).loc Cert.MixDzIdeal.main_arg7)
      ∧ r.2.mem ((c.tc : Thread Cert.MixDzIdeal.nD Cert.MixDzIdeal.τ).loc Cert.MixDzIdeal.main_arg8) = m ((c.tc : Thread Cert.MixDzIdeal.nD Cert.MixDzIdeal.τ).loc Cert.MixDzIdeal.main_arg8)
      ∧ r.2.mem ((c.tc : Thread Cert.MixDzIdeal.nD Cert.MixDzIdeal.τ).loc Cert.MixDzIdeal.main_arg9) = m ((c.tc : Thread Cert.MixDzIdeal.nD Cert.MixDzIdeal.τ).loc Cert.MixDzIdeal.main_arg9)
      ∧ r.2.mem ((c.tc : Thread Cert.MixDzIdeal.nD Cert.MixDzIdeal.τ).loc Cert.MixDzIdeal.main_arg10) = m ((c.tc : Thread Cert.MixDzIdeal.nD Cert.MixDzIdeal.τ).loc Cert.MixDzIdeal.main_arg10)
      ∧ r.2.mem ((c.tc : Thread Cert.MixDzIdeal.nD Cert.MixDzIdeal.τ).loc Cert.MixDzIdeal.main_arg11) = m ((c.tc : Thread Cert.MixDzIdeal.nD Cert.MixDzIdeal.τ).loc Cert.MixDzIdeal.main_arg11))
      ∧ r.2.sem = fun _ => 0)

def quiescent_MixDzRefIdeal [hMixDzRefIdeal : Cert.MixDzRefIdeal.Facts] : Prop :=
  ∀ (m : (ℓ : Loc Cert.MixDzRefIdeal.nD Cert.MixDzRefIdeal.τ Cert.MixDzRefIdeal.sig) → Buf (Elt Ideal) ℓ) (g : Dev Cert.MixDzRefIdeal.nD → PrngReg), Pre_MixDzRefIdeal m →
    θ_run (Cert.MixDzRefIdeal.defs (F := Ideal)) (onTc (τ := Cert.MixDzRefIdeal.τ) (Cert.MixDzRefIdeal.main (F := Ideal))) ⟨m, fun _ => 0, g⟩ (fun r => (∀ c : Dev Cert.MixDzRefIdeal.nD,
      r.2.mem ((c.tc : Thread Cert.MixDzRefIdeal.nD Cert.MixDzRefIdeal.τ).loc Cert.MixDzRefIdeal.main_arg0) = m ((c.tc : Thread Cert.MixDzRefIdeal.nD Cert.MixDzRefIdeal.τ).loc Cert.MixDzRefIdeal.main_arg0)
      ∧ r.2.mem ((c.tc : Thread Cert.MixDzRefIdeal.nD Cert.MixDzRefIdeal.τ).loc Cert.MixDzRefIdeal.main_arg1) = m ((c.tc : Thread Cert.MixDzRefIdeal.nD Cert.MixDzRefIdeal.τ).loc Cert.MixDzRefIdeal.main_arg1)
      ∧ r.2.mem ((c.tc : Thread Cert.MixDzRefIdeal.nD Cert.MixDzRefIdeal.τ).loc Cert.MixDzRefIdeal.main_arg2) = m ((c.tc : Thread Cert.MixDzRefIdeal.nD Cert.MixDzRefIdeal.τ).loc Cert.MixDzRefIdeal.main_arg2)
      ∧ r.2.mem ((c.tc : Thread Cert.MixDzRefIdeal.nD Cert.MixDzRefIdeal.τ).loc Cert.MixDzRefIdeal.main_arg3) = m ((c.tc : Thread Cert.MixDzRefIdeal.nD Cert.MixDzRefIdeal.τ).loc Cert.MixDzRefIdeal.main_arg3)
      ∧ r.2.mem ((c.tc : Thread Cert.MixDzRefIdeal.nD Cert.MixDzRefIdeal.τ).loc Cert.MixDzRefIdeal.main_arg4) = m ((c.tc : Thread Cert.MixDzRefIdeal.nD Cert.MixDzRefIdeal.τ).loc Cert.MixDzRefIdeal.main_arg4)
      ∧ r.2.mem ((c.tc : Thread Cert.MixDzRefIdeal.nD Cert.MixDzRefIdeal.τ).loc Cert.MixDzRefIdeal.main_arg5) = m ((c.tc : Thread Cert.MixDzRefIdeal.nD Cert.MixDzRefIdeal.τ).loc Cert.MixDzRefIdeal.main_arg5)
      ∧ r.2.mem ((c.tc : Thread Cert.MixDzRefIdeal.nD Cert.MixDzRefIdeal.τ).loc Cert.MixDzRefIdeal.main_arg6) = m ((c.tc : Thread Cert.MixDzRefIdeal.nD Cert.MixDzRefIdeal.τ).loc Cert.MixDzRefIdeal.main_arg6)
      ∧ r.2.mem ((c.tc : Thread Cert.MixDzRefIdeal.nD Cert.MixDzRefIdeal.τ).loc Cert.MixDzRefIdeal.main_arg7) = m ((c.tc : Thread Cert.MixDzRefIdeal.nD Cert.MixDzRefIdeal.τ).loc Cert.MixDzRefIdeal.main_arg7)
      ∧ r.2.mem ((c.tc : Thread Cert.MixDzRefIdeal.nD Cert.MixDzRefIdeal.τ).loc Cert.MixDzRefIdeal.main_arg8) = m ((c.tc : Thread Cert.MixDzRefIdeal.nD Cert.MixDzRefIdeal.τ).loc Cert.MixDzRefIdeal.main_arg8)
      ∧ r.2.mem ((c.tc : Thread Cert.MixDzRefIdeal.nD Cert.MixDzRefIdeal.τ).loc Cert.MixDzRefIdeal.main_arg9) = m ((c.tc : Thread Cert.MixDzRefIdeal.nD Cert.MixDzRefIdeal.τ).loc Cert.MixDzRefIdeal.main_arg9)
      ∧ r.2.mem ((c.tc : Thread Cert.MixDzRefIdeal.nD Cert.MixDzRefIdeal.τ).loc Cert.MixDzRefIdeal.main_arg10) = m ((c.tc : Thread Cert.MixDzRefIdeal.nD Cert.MixDzRefIdeal.τ).loc Cert.MixDzRefIdeal.main_arg10)
      ∧ r.2.mem ((c.tc : Thread Cert.MixDzRefIdeal.nD Cert.MixDzRefIdeal.τ).loc Cert.MixDzRefIdeal.main_arg11) = m ((c.tc : Thread Cert.MixDzRefIdeal.nD Cert.MixDzRefIdeal.τ).loc Cert.MixDzRefIdeal.main_arg11))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1)
      ∧ r.2.mem ((c.tc : Thread Cert.FfnDw.nD Cert.FfnDw.τ).loc Cert.FfnDw.main_arg2) = m ((c.tc : Thread Cert.FfnDw.nD Cert.FfnDw.τ).loc Cert.FfnDw.main_arg2))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1)
      ∧ r.2.mem ((c.tc : Thread Cert.FfnDwRefIdeal.nD Cert.FfnDwRefIdeal.τ).loc Cert.FfnDwRefIdeal.main_arg2) = m ((c.tc : Thread Cert.FfnDwRefIdeal.nD Cert.FfnDwRefIdeal.τ).loc Cert.FfnDwRefIdeal.main_arg2))
      ∧ r.2.sem = fun _ => 0)

def quiescent_Dwgate [hDwgate : Cert.Dwgate.Facts] : Prop :=
  ∀ (m : (ℓ : Loc Cert.Dwgate.nD Cert.Dwgate.τ Cert.Dwgate.sig) → Buf (Elt Bits) ℓ) (g : Dev Cert.Dwgate.nD → PrngReg), Pre_Dwgate m →
    θ_run (Cert.Dwgate.defs (F := Bits)) (onTc (τ := Cert.Dwgate.τ) (Cert.Dwgate.main (F := Bits))) ⟨m, fun _ => 0, g⟩ (fun r => (∀ c : Dev Cert.Dwgate.nD,
      r.2.mem ((c.tc : Thread Cert.Dwgate.nD Cert.Dwgate.τ).loc Cert.Dwgate.main_arg0) = m ((c.tc : Thread Cert.Dwgate.nD Cert.Dwgate.τ).loc Cert.Dwgate.main_arg0)
      ∧ r.2.mem ((c.tc : Thread Cert.Dwgate.nD Cert.Dwgate.τ).loc Cert.Dwgate.main_arg1) = m ((c.tc : Thread Cert.Dwgate.nD Cert.Dwgate.τ).loc Cert.Dwgate.main_arg1))
      ∧ r.2.sem = fun _ => 0)

def quiescent_DwgateIdeal [hDwgateIdeal : Cert.DwgateIdeal.Facts] : Prop :=
  ∀ (m : (ℓ : Loc Cert.DwgateIdeal.nD Cert.DwgateIdeal.τ Cert.DwgateIdeal.sig) → Buf (Elt Ideal) ℓ) (g : Dev Cert.DwgateIdeal.nD → PrngReg), Pre_DwgateIdeal m →
    θ_run (Cert.DwgateIdeal.defs (F := Ideal)) (onTc (τ := Cert.DwgateIdeal.τ) (Cert.DwgateIdeal.main (F := Ideal))) ⟨m, fun _ => 0, g⟩ (fun r => (∀ c : Dev Cert.DwgateIdeal.nD,
      r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
      ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1))
      ∧ r.2.sem = fun _ => 0)

def quiescent_DwgateRefIdeal [hDwgateRefIdeal : Cert.DwgateRefIdeal.Facts] : Prop :=
  ∀ (m : (ℓ : Loc Cert.DwgateRefIdeal.nD Cert.DwgateRefIdeal.τ Cert.DwgateRefIdeal.sig) → Buf (Elt Ideal) ℓ) (g : Dev Cert.DwgateRefIdeal.nD → PrngReg), Pre_DwgateRefIdeal m →
    θ_run (Cert.DwgateRefIdeal.defs (F := Ideal)) (onTc (τ := Cert.DwgateRefIdeal.τ) (Cert.DwgateRefIdeal.main (F := Ideal))) ⟨m, fun _ => 0, g⟩ (fun r => (∀ c : Dev Cert.DwgateRefIdeal.nD,
      r.2.mem ((c.tc : Thread Cert.DwgateRefIdeal.nD Cert.DwgateRefIdeal.τ).loc Cert.DwgateRefIdeal.main_arg0) = m ((c.tc : Thread Cert.DwgateRefIdeal.nD Cert.DwgateRefIdeal.τ).loc Cert.DwgateRefIdeal.main_arg0)
      ∧ r.2.mem ((c.tc : Thread Cert.DwgateRefIdeal.nD Cert.DwgateRefIdeal.τ).loc Cert.DwgateRefIdeal.main_arg1) = m ((c.tc : Thread Cert.DwgateRefIdeal.nD Cert.DwgateRefIdeal.τ).loc Cert.DwgateRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dbranch [hDbranch : Cert.Dbranch.Facts] : Prop :=
  ∀ (m : (ℓ : Loc Cert.Dbranch.nD Cert.Dbranch.τ Cert.Dbranch.sig) → Buf (Elt Bits) ℓ) (g : Dev Cert.Dbranch.nD → PrngReg), Pre_Dbranch m →
    θ_run (Cert.Dbranch.defs (F := Bits)) (onTc (τ := Cert.Dbranch.τ) (Cert.Dbranch.main (F := Bits))) ⟨m, fun _ => 0, g⟩ (fun r => (∀ c : Dev Cert.Dbranch.nD,
      r.2.mem ((c.tc : Thread Cert.Dbranch.nD Cert.Dbranch.τ).loc Cert.Dbranch.main_arg0) = m ((c.tc : Thread Cert.Dbranch.nD Cert.Dbranch.τ).loc Cert.Dbranch.main_arg0)
      ∧ r.2.mem ((c.tc : Thread Cert.Dbranch.nD Cert.Dbranch.τ).loc Cert.Dbranch.main_arg1) = m ((c.tc : Thread Cert.Dbranch.nD Cert.Dbranch.τ).loc Cert.Dbranch.main_arg1))
      ∧ r.2.sem = fun _ => 0)

def quiescent_DbranchIdeal [hDbranchIdeal : Cert.DbranchIdeal.Facts] : Prop :=
  ∀ (m : (ℓ : Loc Cert.DbranchIdeal.nD Cert.DbranchIdeal.τ Cert.DbranchIdeal.sig) → Buf (Elt Ideal) ℓ) (g : Dev Cert.DbranchIdeal.nD → PrngReg), Pre_DbranchIdeal m →
    θ_run (Cert.DbranchIdeal.defs (F := Ideal)) (onTc (τ := Cert.DbranchIdeal.τ) (Cert.DbranchIdeal.main (F := Ideal))) ⟨m, fun _ => 0, g⟩ (fun r => (∀ c : Dev Cert.DbranchIdeal.nD,
      r.2.mem ((c.tc : Thread Cert.DbranchIdeal.nD Cert.DbranchIdeal.τ).loc Cert.DbranchIdeal.main_arg0) = m ((c.tc : Thread Cert.DbranchIdeal.nD Cert.DbranchIdeal.τ).loc Cert.DbranchIdeal.main_arg0)
      ∧ r.2.mem ((c.tc : Thread Cert.DbranchIdeal.nD Cert.DbranchIdeal.τ).loc Cert.DbranchIdeal.main_arg1) = m ((c.tc : Thread Cert.DbranchIdeal.nD Cert.DbranchIdeal.τ).loc Cert.DbranchIdeal.main_arg1))
      ∧ r.2.sem = fun _ => 0)

def quiescent_DbranchRefIdeal [hDbranchRefIdeal : Cert.DbranchRefIdeal.Facts] : Prop :=
  ∀ (m : (ℓ : Loc Cert.DbranchRefIdeal.nD Cert.DbranchRefIdeal.τ Cert.DbranchRefIdeal.sig) → Buf (Elt Ideal) ℓ) (g : Dev Cert.DbranchRefIdeal.nD → PrngReg), Pre_DbranchRefIdeal m →
    θ_run (Cert.DbranchRefIdeal.defs (F := Ideal)) (onTc (τ := Cert.DbranchRefIdeal.τ) (Cert.DbranchRefIdeal.main (F := Ideal))) ⟨m, fun _ => 0, g⟩ (fun r => (∀ c : Dev Cert.DbranchRefIdeal.nD,
      r.2.mem ((c.tc : Thread Cert.DbranchRefIdeal.nD Cert.DbranchRefIdeal.τ).loc Cert.DbranchRefIdeal.main_arg0) = m ((c.tc : Thread Cert.DbranchRefIdeal.nD Cert.DbranchRefIdeal.τ).loc Cert.DbranchRefIdeal.main_arg0)
      ∧ r.2.mem ((c.tc : Thread Cert.DbranchRefIdeal.nD Cert.DbranchRefIdeal.τ).loc Cert.DbranchRefIdeal.main_arg1) = m ((c.tc : Thread Cert.DbranchRefIdeal.nD Cert.DbranchRefIdeal.τ).loc Cert.DbranchRefIdeal.main_arg1))
      ∧ r.2.sem = fun _ => 0)

def quiescent_DbranchAt [hDbranchAt : Cert.DbranchAt.Facts] : Prop :=
  ∀ (m : (ℓ : Loc Cert.DbranchAt.nD Cert.DbranchAt.τ Cert.DbranchAt.sig) → Buf (Elt Bits) ℓ) (g : Dev Cert.DbranchAt.nD → PrngReg), Pre_DbranchAt m →
    θ_run (Cert.DbranchAt.defs (F := Bits)) (onTc (τ := Cert.DbranchAt.τ) (Cert.DbranchAt.main (F := Bits))) ⟨m, fun _ => 0, g⟩ (fun r => (∀ c : Dev Cert.DbranchAt.nD,
      r.2.mem ((c.tc : Thread Cert.DbranchAt.nD Cert.DbranchAt.τ).loc Cert.DbranchAt.main_arg0) = m ((c.tc : Thread Cert.DbranchAt.nD Cert.DbranchAt.τ).loc Cert.DbranchAt.main_arg0)
      ∧ r.2.mem ((c.tc : Thread Cert.DbranchAt.nD Cert.DbranchAt.τ).loc Cert.DbranchAt.main_arg1) = m ((c.tc : Thread Cert.DbranchAt.nD Cert.DbranchAt.τ).loc Cert.DbranchAt.main_arg1))
      ∧ r.2.sem = fun _ => 0)

def quiescent_DbranchAtIdeal [hDbranchAtIdeal : Cert.DbranchAtIdeal.Facts] : Prop :=
  ∀ (m : (ℓ : Loc Cert.DbranchAtIdeal.nD Cert.DbranchAtIdeal.τ Cert.DbranchAtIdeal.sig) → Buf (Elt Ideal) ℓ) (g : Dev Cert.DbranchAtIdeal.nD → PrngReg), Pre_DbranchAtIdeal m →
    θ_run (Cert.DbranchAtIdeal.defs (F := Ideal)) (onTc (τ := Cert.DbranchAtIdeal.τ) (Cert.DbranchAtIdeal.main (F := Ideal))) ⟨m, fun _ => 0, g⟩ (fun r => (∀ c : Dev Cert.DbranchAtIdeal.nD,
      r.2.mem ((c.tc : Thread Cert.DbranchAtIdeal.nD Cert.DbranchAtIdeal.τ).loc Cert.DbranchAtIdeal.main_arg0) = m ((c.tc : Thread Cert.DbranchAtIdeal.nD Cert.DbranchAtIdeal.τ).loc Cert.DbranchAtIdeal.main_arg0)
      ∧ r.2.mem ((c.tc : Thread Cert.DbranchAtIdeal.nD Cert.DbranchAtIdeal.τ).loc Cert.DbranchAtIdeal.main_arg1) = m ((c.tc : Thread Cert.DbranchAtIdeal.nD Cert.DbranchAtIdeal.τ).loc Cert.DbranchAtIdeal.main_arg1))
      ∧ r.2.sem = fun _ => 0)

def quiescent_DbranchAtRefIdeal [hDbranchAtRefIdeal : Cert.DbranchAtRefIdeal.Facts] : Prop :=
  ∀ (m : (ℓ : Loc Cert.DbranchAtRefIdeal.nD Cert.DbranchAtRefIdeal.τ Cert.DbranchAtRefIdeal.sig) → Buf (Elt Ideal) ℓ) (g : Dev Cert.DbranchAtRefIdeal.nD → PrngReg), Pre_DbranchAtRefIdeal m →
    θ_run (Cert.DbranchAtRefIdeal.defs (F := Ideal)) (onTc (τ := Cert.DbranchAtRefIdeal.τ) (Cert.DbranchAtRefIdeal.main (F := Ideal))) ⟨m, fun _ => 0, g⟩ (fun r => (∀ c : Dev Cert.DbranchAtRefIdeal.nD,
      r.2.mem ((c.tc : Thread Cert.DbranchAtRefIdeal.nD Cert.DbranchAtRefIdeal.τ).loc Cert.DbranchAtRefIdeal.main_arg0) = m ((c.tc : Thread Cert.DbranchAtRefIdeal.nD Cert.DbranchAtRefIdeal.τ).loc Cert.DbranchAtRefIdeal.main_arg0)
      ∧ r.2.mem ((c.tc : Thread Cert.DbranchAtRefIdeal.nD Cert.DbranchAtRefIdeal.τ).loc Cert.DbranchAtRefIdeal.main_arg1) = m ((c.tc : Thread Cert.DbranchAtRefIdeal.nD Cert.DbranchAtRefIdeal.τ).loc Cert.DbranchAtRefIdeal.main_arg1))
      ∧ r.2.sem = fun _ => 0)

def quiescent_Dglu [hDglu : Cert.Dglu.Facts] : Prop :=
  ∀ (m : (ℓ : Loc Cert.Dglu.nD Cert.Dglu.τ Cert.Dglu.sig) → Buf (Elt Bits) ℓ) (g : Dev Cert.Dglu.nD → PrngReg), Pre_Dglu m →
    θ_run (Cert.Dglu.defs (F := Bits)) (onTc (τ := Cert.Dglu.τ) (Cert.Dglu.main (F := Bits))) ⟨m, fun _ => 0, g⟩ (fun r => (∀ c : Dev Cert.Dglu.nD,
      r.2.mem ((c.tc : Thread Cert.Dglu.nD Cert.Dglu.τ).loc Cert.Dglu.main_arg0) = m ((c.tc : Thread Cert.Dglu.nD Cert.Dglu.τ).loc Cert.Dglu.main_arg0)
      ∧ r.2.mem ((c.tc : Thread Cert.Dglu.nD Cert.Dglu.τ).loc Cert.Dglu.main_arg1) = m ((c.tc : Thread Cert.Dglu.nD Cert.Dglu.τ).loc Cert.Dglu.main_arg1))
      ∧ r.2.sem = fun _ => 0)

def quiescent_DgluIdeal [hDgluIdeal : Cert.DgluIdeal.Facts] : Prop :=
  ∀ (m : (ℓ : Loc Cert.DgluIdeal.nD Cert.DgluIdeal.τ Cert.DgluIdeal.sig) → Buf (Elt Ideal) ℓ) (g : Dev Cert.DgluIdeal.nD → PrngReg), Pre_DgluIdeal m →
    θ_run (Cert.DgluIdeal.defs (F := Ideal)) (onTc (τ := Cert.DgluIdeal.τ) (Cert.DgluIdeal.main (F := Ideal))) ⟨m, fun _ => 0, g⟩ (fun r => (∀ c : Dev Cert.DgluIdeal.nD,
      r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
      ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1))
      ∧ r.2.sem = fun _ => 0)

def quiescent_DgluRefIdeal [hDgluRefIdeal : Cert.DgluRefIdeal.Facts] : Prop :=
  ∀ (m : (ℓ : Loc Cert.DgluRefIdeal.nD Cert.DgluRefIdeal.τ Cert.DgluRefIdeal.sig) → Buf (Elt Ideal) ℓ) (g : Dev Cert.DgluRefIdeal.nD → PrngReg), Pre_DgluRefIdeal m →
    θ_run (Cert.DgluRefIdeal.defs (F := Ideal)) (onTc (τ := Cert.DgluRefIdeal.τ) (Cert.DgluRefIdeal.main (F := Ideal))) ⟨m, fun _ => 0, g⟩ (fun r => (∀ c : Dev Cert.DgluRefIdeal.nD,
      r.2.mem ((c.tc : Thread Cert.DgluRefIdeal.nD Cert.DgluRefIdeal.τ).loc Cert.DgluRefIdeal.main_arg0) = m ((c.tc : Thread Cert.DgluRefIdeal.nD Cert.DgluRefIdeal.τ).loc Cert.DgluRefIdeal.main_arg0)
      ∧ r.2.mem ((c.tc : Thread Cert.DgluRefIdeal.nD Cert.DgluRefIdeal.τ).loc Cert.DgluRefIdeal.main_arg1) = m ((c.tc : Thread Cert.DgluRefIdeal.nD Cert.DgluRefIdeal.τ).loc Cert.DgluRefIdeal.main_arg1))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1)
      ∧ r.2.mem ((c.tc : Thread Cert.FfnDwIn.nD Cert.FfnDwIn.τ).loc Cert.FfnDwIn.main_arg2) = m ((c.tc : Thread Cert.FfnDwIn.nD Cert.FfnDwIn.τ).loc Cert.FfnDwIn.main_arg2))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1)
      ∧ r.2.mem ((c.tc : Thread Cert.FfnDwInIdeal.nD Cert.FfnDwInIdeal.τ).loc Cert.FfnDwInIdeal.main_arg2) = m ((c.tc : Thread Cert.FfnDwInIdeal.nD Cert.FfnDwInIdeal.τ).loc Cert.FfnDwInIdeal.main_arg2))
      ∧ r.2.sem = fun _ => 0)

def quiescent_FfnDwInRefIdeal [hFfnDwInRefIdeal : Cert.FfnDwInRefIdeal.Facts] : Prop :=
  ∀ (m : (ℓ : Loc Cert.FfnDwInRefIdeal.nD Cert.FfnDwInRefIdeal.τ Cert.FfnDwInRefIdeal.sig) → Buf (Elt Ideal) ℓ) (g : Dev Cert.FfnDwInRefIdeal.nD → PrngReg), Pre_FfnDwInRefIdeal m →
    θ_run (Cert.FfnDwInRefIdeal.defs (F := Ideal)) (onTc (τ := Cert.FfnDwInRefIdeal.τ) (Cert.FfnDwInRefIdeal.main (F := Ideal))) ⟨m, fun _ => 0, g⟩ (fun r => (∀ c : Dev Cert.FfnDwInRefIdeal.nD,
      r.2.mem ((c.tc : Thread Cert.FfnDwInRefIdeal.nD Cert.FfnDwInRefIdeal.τ).loc Cert.FfnDwInRefIdeal.main_arg0) = m ((c.tc : Thread Cert.FfnDwInRefIdeal.nD Cert.FfnDwInRefIdeal.τ).loc Cert.FfnDwInRefIdeal.main_arg0)
      ∧ r.2.mem ((c.tc : Thread Cert.FfnDwInRefIdeal.nD Cert.FfnDwInRefIdeal.τ).loc Cert.FfnDwInRefIdeal.main_arg1) = m ((c.tc : Thread Cert.FfnDwInRefIdeal.nD Cert.FfnDwInRefIdeal.τ).loc Cert.FfnDwInRefIdeal.main_arg1)
      ∧ r.2.mem ((c.tc : Thread Cert.FfnDwInRefIdeal.nD Cert.FfnDwInRefIdeal.τ).loc Cert.FfnDwInRefIdeal.main_arg2) = m ((c.tc : Thread Cert.FfnDwInRefIdeal.nD Cert.FfnDwInRefIdeal.τ).loc Cert.FfnDwInRefIdeal.main_arg2))
      ∧ r.2.sem = fun _ => 0)

def quiescent_AdamwFfn [hAdamwFfn : Cert.AdamwFfn.Facts] : Prop :=
  ∀ (m : (ℓ : Loc Cert.AdamwFfn.nD Cert.AdamwFfn.τ Cert.AdamwFfn.sig) → Buf (Elt Bits) ℓ) (g : Dev Cert.AdamwFfn.nD → PrngReg), Pre_AdamwFfn m →
    θ_run (Cert.AdamwFfn.defs (F := Bits)) (onTc (τ := Cert.AdamwFfn.τ) (Cert.AdamwFfn.main (F := Bits))) ⟨m, fun _ => 0, g⟩ (fun r => (∀ c : Dev Cert.AdamwFfn.nD,
      r.2.mem ((c.tc : Thread Cert.AdamwFfn.nD Cert.AdamwFfn.τ).loc Cert.AdamwFfn.main_arg0) = m ((c.tc : Thread Cert.AdamwFfn.nD Cert.AdamwFfn.τ).loc Cert.AdamwFfn.main_arg0)
      ∧ r.2.mem ((c.tc : Thread Cert.AdamwFfn.nD Cert.AdamwFfn.τ).loc Cert.AdamwFfn.main_arg1) = m ((c.tc : Thread Cert.AdamwFfn.nD Cert.AdamwFfn.τ).loc Cert.AdamwFfn.main_arg1)
      ∧ r.2.mem ((c.tc : Thread Cert.AdamwFfn.nD Cert.AdamwFfn.τ).loc Cert.AdamwFfn.main_arg2) = m ((c.tc : Thread Cert.AdamwFfn.nD Cert.AdamwFfn.τ).loc Cert.AdamwFfn.main_arg2)
      ∧ r.2.mem ((c.tc : Thread Cert.AdamwFfn.nD Cert.AdamwFfn.τ).loc Cert.AdamwFfn.main_arg3) = m ((c.tc : Thread Cert.AdamwFfn.nD Cert.AdamwFfn.τ).loc Cert.AdamwFfn.main_arg3))
      ∧ r.2.sem = fun _ => 0)

def quiescent_AdamwFfnIdeal [hAdamwFfnIdeal : Cert.AdamwFfnIdeal.Facts] : Prop :=
  ∀ (m : (ℓ : Loc Cert.AdamwFfnIdeal.nD Cert.AdamwFfnIdeal.τ Cert.AdamwFfnIdeal.sig) → Buf (Elt Ideal) ℓ) (g : Dev Cert.AdamwFfnIdeal.nD → PrngReg), Pre_AdamwFfnIdeal m →
    θ_run (Cert.AdamwFfnIdeal.defs (F := Ideal)) (onTc (τ := Cert.AdamwFfnIdeal.τ) (Cert.AdamwFfnIdeal.main (F := Ideal))) ⟨m, fun _ => 0, g⟩ (fun r => (∀ c : Dev Cert.AdamwFfnIdeal.nD,
      r.2.mem ((c.tc : Thread Cert.AdamwFfnIdeal.nD Cert.AdamwFfnIdeal.τ).loc Cert.AdamwFfnIdeal.main_arg0) = m ((c.tc : Thread Cert.AdamwFfnIdeal.nD Cert.AdamwFfnIdeal.τ).loc Cert.AdamwFfnIdeal.main_arg0)
      ∧ r.2.mem ((c.tc : Thread Cert.AdamwFfnIdeal.nD Cert.AdamwFfnIdeal.τ).loc Cert.AdamwFfnIdeal.main_arg1) = m ((c.tc : Thread Cert.AdamwFfnIdeal.nD Cert.AdamwFfnIdeal.τ).loc Cert.AdamwFfnIdeal.main_arg1)
      ∧ r.2.mem ((c.tc : Thread Cert.AdamwFfnIdeal.nD Cert.AdamwFfnIdeal.τ).loc Cert.AdamwFfnIdeal.main_arg2) = m ((c.tc : Thread Cert.AdamwFfnIdeal.nD Cert.AdamwFfnIdeal.τ).loc Cert.AdamwFfnIdeal.main_arg2)
      ∧ r.2.mem ((c.tc : Thread Cert.AdamwFfnIdeal.nD Cert.AdamwFfnIdeal.τ).loc Cert.AdamwFfnIdeal.main_arg3) = m ((c.tc : Thread Cert.AdamwFfnIdeal.nD Cert.AdamwFfnIdeal.τ).loc Cert.AdamwFfnIdeal.main_arg3))
      ∧ r.2.sem = fun _ => 0)

def quiescent_AdamwFfnRefIdeal [hAdamwFfnRefIdeal : Cert.AdamwFfnRefIdeal.Facts] : Prop :=
  ∀ (m : (ℓ : Loc Cert.AdamwFfnRefIdeal.nD Cert.AdamwFfnRefIdeal.τ Cert.AdamwFfnRefIdeal.sig) → Buf (Elt Ideal) ℓ) (g : Dev Cert.AdamwFfnRefIdeal.nD → PrngReg), Pre_AdamwFfnRefIdeal m →
    θ_run (Cert.AdamwFfnRefIdeal.defs (F := Ideal)) (onTc (τ := Cert.AdamwFfnRefIdeal.τ) (Cert.AdamwFfnRefIdeal.main (F := Ideal))) ⟨m, fun _ => 0, g⟩ (fun r => (∀ c : Dev Cert.AdamwFfnRefIdeal.nD,
      r.2.mem ((c.tc : Thread Cert.AdamwFfnRefIdeal.nD Cert.AdamwFfnRefIdeal.τ).loc Cert.AdamwFfnRefIdeal.main_arg0) = m ((c.tc : Thread Cert.AdamwFfnRefIdeal.nD Cert.AdamwFfnRefIdeal.τ).loc Cert.AdamwFfnRefIdeal.main_arg0)
      ∧ r.2.mem ((c.tc : Thread Cert.AdamwFfnRefIdeal.nD Cert.AdamwFfnRefIdeal.τ).loc Cert.AdamwFfnRefIdeal.main_arg1) = m ((c.tc : Thread Cert.AdamwFfnRefIdeal.nD Cert.AdamwFfnRefIdeal.τ).loc Cert.AdamwFfnRefIdeal.main_arg1)
      ∧ r.2.mem ((c.tc : Thread Cert.AdamwFfnRefIdeal.nD Cert.AdamwFfnRefIdeal.τ).loc Cert.AdamwFfnRefIdeal.main_arg2) = m ((c.tc : Thread Cert.AdamwFfnRefIdeal.nD Cert.AdamwFfnRefIdeal.τ).loc Cert.AdamwFfnRefIdeal.main_arg2)
      ∧ r.2.mem ((c.tc : Thread Cert.AdamwFfnRefIdeal.nD Cert.AdamwFfnRefIdeal.τ).loc Cert.AdamwFfnRefIdeal.main_arg3) = m ((c.tc : Thread Cert.AdamwFfnRefIdeal.nD Cert.AdamwFfnRefIdeal.τ).loc Cert.AdamwFfnRefIdeal.main_arg3))
      ∧ r.2.sem = fun _ => 0)

def quiescent_AdamwGate [hAdamwGate : Cert.AdamwGate.Facts] : Prop :=
  ∀ (m : (ℓ : Loc Cert.AdamwGate.nD Cert.AdamwGate.τ Cert.AdamwGate.sig) → Buf (Elt Bits) ℓ) (g : Dev Cert.AdamwGate.nD → PrngReg), Pre_AdamwGate m →
    θ_run (Cert.AdamwGate.defs (F := Bits)) (onTc (τ := Cert.AdamwGate.τ) (Cert.AdamwGate.main (F := Bits))) ⟨m, fun _ => 0, g⟩ (fun r => (∀ c : Dev Cert.AdamwGate.nD,
      r.2.mem ((c.tc : Thread Cert.AdamwGate.nD Cert.AdamwGate.τ).loc Cert.AdamwGate.main_arg0) = m ((c.tc : Thread Cert.AdamwGate.nD Cert.AdamwGate.τ).loc Cert.AdamwGate.main_arg0)
      ∧ r.2.mem ((c.tc : Thread Cert.AdamwGate.nD Cert.AdamwGate.τ).loc Cert.AdamwGate.main_arg1) = m ((c.tc : Thread Cert.AdamwGate.nD Cert.AdamwGate.τ).loc Cert.AdamwGate.main_arg1)
      ∧ r.2.mem ((c.tc : Thread Cert.AdamwGate.nD Cert.AdamwGate.τ).loc Cert.AdamwGate.main_arg2) = m ((c.tc : Thread Cert.AdamwGate.nD Cert.AdamwGate.τ).loc Cert.AdamwGate.main_arg2)
      ∧ r.2.mem ((c.tc : Thread Cert.AdamwGate.nD Cert.AdamwGate.τ).loc Cert.AdamwGate.main_arg3) = m ((c.tc : Thread Cert.AdamwGate.nD Cert.AdamwGate.τ).loc Cert.AdamwGate.main_arg3))
      ∧ r.2.sem = fun _ => 0)

def quiescent_AdamwGateIdeal [hAdamwGateIdeal : Cert.AdamwGateIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg), Pre_AdamwGateIdeal m →
    θ_run (Cert.AdamwGateIdeal.defs (F := Ideal)) (onTc (τ := Cert.AdamwGateIdeal.τ) (Cert.AdamwGateIdeal.main (F := Ideal))) ⟨m, fun _ => 0, g⟩ (fun r => (∀ c : Dev Cert.AdamwGateIdeal.nD,
      r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
      ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
      ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
      ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ r.2.sem = fun _ => 0)

def quiescent_AdamwGateRefIdeal [hAdamwGateRefIdeal : Cert.AdamwGateRefIdeal.Facts] : Prop :=
  ∀ (m : (ℓ : Loc Cert.AdamwGateRefIdeal.nD Cert.AdamwGateRefIdeal.τ Cert.AdamwGateRefIdeal.sig) → Buf (Elt Ideal) ℓ) (g : Dev Cert.AdamwGateRefIdeal.nD → PrngReg), Pre_AdamwGateRefIdeal m →
    θ_run (Cert.AdamwGateRefIdeal.defs (F := Ideal)) (onTc (τ := Cert.AdamwGateRefIdeal.τ) (Cert.AdamwGateRefIdeal.main (F := Ideal))) ⟨m, fun _ => 0, g⟩ (fun r => (∀ c : Dev Cert.AdamwGateRefIdeal.nD,
      r.2.mem ((c.tc : Thread Cert.AdamwGateRefIdeal.nD Cert.AdamwGateRefIdeal.τ).loc Cert.AdamwGateRefIdeal.main_arg0) = m ((c.tc : Thread Cert.AdamwGateRefIdeal.nD Cert.AdamwGateRefIdeal.τ).loc Cert.AdamwGateRefIdeal.main_arg0)
      ∧ r.2.mem ((c.tc : Thread Cert.AdamwGateRefIdeal.nD Cert.AdamwGateRefIdeal.τ).loc Cert.AdamwGateRefIdeal.main_arg1) = m ((c.tc : Thread Cert.AdamwGateRefIdeal.nD Cert.AdamwGateRefIdeal.τ).loc Cert.AdamwGateRefIdeal.main_arg1)
      ∧ r.2.mem ((c.tc : Thread Cert.AdamwGateRefIdeal.nD Cert.AdamwGateRefIdeal.τ).loc Cert.AdamwGateRefIdeal.main_arg2) = m ((c.tc : Thread Cert.AdamwGateRefIdeal.nD Cert.AdamwGateRefIdeal.τ).loc Cert.AdamwGateRefIdeal.main_arg2)
      ∧ r.2.mem ((c.tc : Thread Cert.AdamwGateRefIdeal.nD Cert.AdamwGateRefIdeal.τ).loc Cert.AdamwGateRefIdeal.main_arg3) = m ((c.tc : Thread Cert.AdamwGateRefIdeal.nD Cert.AdamwGateRefIdeal.τ).loc Cert.AdamwGateRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwBranch [hAdamwBranch : Cert.AdamwBranch.Facts] : Prop :=
  ∀ (m : (ℓ : Loc Cert.AdamwBranch.nD Cert.AdamwBranch.τ Cert.AdamwBranch.sig) → Buf (Elt Bits) ℓ) (g : Dev Cert.AdamwBranch.nD → PrngReg), Pre_AdamwBranch m →
    θ_run (Cert.AdamwBranch.defs (F := Bits)) (onTc (τ := Cert.AdamwBranch.τ) (Cert.AdamwBranch.main (F := Bits))) ⟨m, fun _ => 0, g⟩ (fun r => (∀ c : Dev Cert.AdamwBranch.nD,
      r.2.mem ((c.tc : Thread Cert.AdamwBranch.nD Cert.AdamwBranch.τ).loc Cert.AdamwBranch.main_arg0) = m ((c.tc : Thread Cert.AdamwBranch.nD Cert.AdamwBranch.τ).loc Cert.AdamwBranch.main_arg0)
      ∧ r.2.mem ((c.tc : Thread Cert.AdamwBranch.nD Cert.AdamwBranch.τ).loc Cert.AdamwBranch.main_arg1) = m ((c.tc : Thread Cert.AdamwBranch.nD Cert.AdamwBranch.τ).loc Cert.AdamwBranch.main_arg1)
      ∧ r.2.mem ((c.tc : Thread Cert.AdamwBranch.nD Cert.AdamwBranch.τ).loc Cert.AdamwBranch.main_arg2) = m ((c.tc : Thread Cert.AdamwBranch.nD Cert.AdamwBranch.τ).loc Cert.AdamwBranch.main_arg2)
      ∧ r.2.mem ((c.tc : Thread Cert.AdamwBranch.nD Cert.AdamwBranch.τ).loc Cert.AdamwBranch.main_arg3) = m ((c.tc : Thread Cert.AdamwBranch.nD Cert.AdamwBranch.τ).loc Cert.AdamwBranch.main_arg3))
      ∧ r.2.sem = fun _ => 0)

def quiescent_AdamwBranchIdeal [hAdamwBranchIdeal : Cert.AdamwBranchIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg), Pre_AdamwBranchIdeal m →
    θ_run (Cert.AdamwBranchIdeal.defs (F := Ideal)) (onTc (τ := Cert.AdamwBranchIdeal.τ) (Cert.AdamwBranchIdeal.main (F := Ideal))) ⟨m, fun _ => 0, g⟩ (fun r => (∀ c : Dev Cert.AdamwBranchIdeal.nD,
      r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
      ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
      ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
      ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ r.2.sem = fun _ => 0)

def quiescent_AdamwBranchRefIdeal [hAdamwBranchRefIdeal : Cert.AdamwBranchRefIdeal.Facts] : Prop :=
  ∀ (m : (ℓ : Loc Cert.AdamwBranchRefIdeal.nD Cert.AdamwBranchRefIdeal.τ Cert.AdamwBranchRefIdeal.sig) → Buf (Elt Ideal) ℓ) (g : Dev Cert.AdamwBranchRefIdeal.nD → PrngReg), Pre_AdamwBranchRefIdeal m →
    θ_run (Cert.AdamwBranchRefIdeal.defs (F := Ideal)) (onTc (τ := Cert.AdamwBranchRefIdeal.τ) (Cert.AdamwBranchRefIdeal.main (F := Ideal))) ⟨m, fun _ => 0, g⟩ (fun r => (∀ c : Dev Cert.AdamwBranchRefIdeal.nD,
      r.2.mem ((c.tc : Thread Cert.AdamwBranchRefIdeal.nD Cert.AdamwBranchRefIdeal.τ).loc Cert.AdamwBranchRefIdeal.main_arg0) = m ((c.tc : Thread Cert.AdamwBranchRefIdeal.nD Cert.AdamwBranchRefIdeal.τ).loc Cert.AdamwBranchRefIdeal.main_arg0)
      ∧ r.2.mem ((c.tc : Thread Cert.AdamwBranchRefIdeal.nD Cert.AdamwBranchRefIdeal.τ).loc Cert.AdamwBranchRefIdeal.main_arg1) = m ((c.tc : Thread Cert.AdamwBranchRefIdeal.nD Cert.AdamwBranchRefIdeal.τ).loc Cert.AdamwBranchRefIdeal.main_arg1)
      ∧ r.2.mem ((c.tc : Thread Cert.AdamwBranchRefIdeal.nD Cert.AdamwBranchRefIdeal.τ).loc Cert.AdamwBranchRefIdeal.main_arg2) = m ((c.tc : Thread Cert.AdamwBranchRefIdeal.nD Cert.AdamwBranchRefIdeal.τ).loc Cert.AdamwBranchRefIdeal.main_arg2)
      ∧ r.2.mem ((c.tc : Thread Cert.AdamwBranchRefIdeal.nD Cert.AdamwBranchRefIdeal.τ).loc Cert.AdamwBranchRefIdeal.main_arg3) = m ((c.tc : Thread Cert.AdamwBranchRefIdeal.nD Cert.AdamwBranchRefIdeal.τ).loc Cert.AdamwBranchRefIdeal.main_arg3))
      ∧ r.2.sem = fun _ => 0)

def quiescent_AdamwGlu [hAdamwGlu : Cert.AdamwGlu.Facts] : Prop :=
  ∀ (m : (ℓ : Loc Cert.AdamwGlu.nD Cert.AdamwGlu.τ Cert.AdamwGlu.sig) → Buf (Elt Bits) ℓ) (g : Dev Cert.AdamwGlu.nD → PrngReg), Pre_AdamwGlu m →
    θ_run (Cert.AdamwGlu.defs (F := Bits)) (onTc (τ := Cert.AdamwGlu.τ) (Cert.AdamwGlu.main (F := Bits))) ⟨m, fun _ => 0, g⟩ (fun r => (∀ c : Dev Cert.AdamwGlu.nD,
      r.2.mem ((c.tc : Thread Cert.AdamwGlu.nD Cert.AdamwGlu.τ).loc Cert.AdamwGlu.main_arg0) = m ((c.tc : Thread Cert.AdamwGlu.nD Cert.AdamwGlu.τ).loc Cert.AdamwGlu.main_arg0)
      ∧ r.2.mem ((c.tc : Thread Cert.AdamwGlu.nD Cert.AdamwGlu.τ).loc Cert.AdamwGlu.main_arg1) = m ((c.tc : Thread Cert.AdamwGlu.nD Cert.AdamwGlu.τ).loc Cert.AdamwGlu.main_arg1)
      ∧ r.2.mem ((c.tc : Thread Cert.AdamwGlu.nD Cert.AdamwGlu.τ).loc Cert.AdamwGlu.main_arg2) = m ((c.tc : Thread Cert.AdamwGlu.nD Cert.AdamwGlu.τ).loc Cert.AdamwGlu.main_arg2)
      ∧ r.2.mem ((c.tc : Thread Cert.AdamwGlu.nD Cert.AdamwGlu.τ).loc Cert.AdamwGlu.main_arg3) = m ((c.tc : Thread Cert.AdamwGlu.nD Cert.AdamwGlu.τ).loc Cert.AdamwGlu.main_arg3))
      ∧ r.2.sem = fun _ => 0)

def quiescent_AdamwGluIdeal [hAdamwGluIdeal : Cert.AdamwGluIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg), Pre_AdamwGluIdeal m →
    θ_run (Cert.AdamwGluIdeal.defs (F := Ideal)) (onTc (τ := Cert.AdamwGluIdeal.τ) (Cert.AdamwGluIdeal.main (F := Ideal))) ⟨m, fun _ => 0, g⟩ (fun r => (∀ c : Dev Cert.AdamwGluIdeal.nD,
      r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
      ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
      ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
      ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ r.2.sem = fun _ => 0)

def quiescent_AdamwGluRefIdeal [hAdamwGluRefIdeal : Cert.AdamwGluRefIdeal.Facts] : Prop :=
  ∀ (m : (ℓ : Loc Cert.AdamwGluRefIdeal.nD Cert.AdamwGluRefIdeal.τ Cert.AdamwGluRefIdeal.sig) → Buf (Elt Ideal) ℓ) (g : Dev Cert.AdamwGluRefIdeal.nD → PrngReg), Pre_AdamwGluRefIdeal m →
    θ_run (Cert.AdamwGluRefIdeal.defs (F := Ideal)) (onTc (τ := Cert.AdamwGluRefIdeal.τ) (Cert.AdamwGluRefIdeal.main (F := Ideal))) ⟨m, fun _ => 0, g⟩ (fun r => (∀ c : Dev Cert.AdamwGluRefIdeal.nD,
      r.2.mem ((c.tc : Thread Cert.AdamwGluRefIdeal.nD Cert.AdamwGluRefIdeal.τ).loc Cert.AdamwGluRefIdeal.main_arg0) = m ((c.tc : Thread Cert.AdamwGluRefIdeal.nD Cert.AdamwGluRefIdeal.τ).loc Cert.AdamwGluRefIdeal.main_arg0)
      ∧ r.2.mem ((c.tc : Thread Cert.AdamwGluRefIdeal.nD Cert.AdamwGluRefIdeal.τ).loc Cert.AdamwGluRefIdeal.main_arg1) = m ((c.tc : Thread Cert.AdamwGluRefIdeal.nD Cert.AdamwGluRefIdeal.τ).loc Cert.AdamwGluRefIdeal.main_arg1)
      ∧ r.2.mem ((c.tc : Thread Cert.AdamwGluRefIdeal.nD Cert.AdamwGluRefIdeal.τ).loc Cert.AdamwGluRefIdeal.main_arg2) = m ((c.tc : Thread Cert.AdamwGluRefIdeal.nD Cert.AdamwGluRefIdeal.τ).loc Cert.AdamwGluRefIdeal.main_arg2)
      ∧ r.2.mem ((c.tc : Thread Cert.AdamwGluRefIdeal.nD Cert.AdamwGluRefIdeal.τ).loc Cert.AdamwGluRefIdeal.main_arg3) = m ((c.tc : Thread Cert.AdamwGluRefIdeal.nD Cert.AdamwGluRefIdeal.τ).loc Cert.AdamwGluRefIdeal.main_arg3))
      ∧ r.2.sem = fun _ => 0)

def quiescent_AdamwAlpha [hAdamwAlpha : Cert.AdamwAlpha.Facts] : Prop :=
  ∀ (m : (ℓ : Loc Cert.AdamwAlpha.nD Cert.AdamwAlpha.τ Cert.AdamwAlpha.sig) → Buf (Elt Bits) ℓ) (g : Dev Cert.AdamwAlpha.nD → PrngReg), Pre_AdamwAlpha m →
    θ_run (Cert.AdamwAlpha.defs (F := Bits)) (onTc (τ := Cert.AdamwAlpha.τ) (Cert.AdamwAlpha.main (F := Bits))) ⟨m, fun _ => 0, g⟩ (fun r => (∀ c : Dev Cert.AdamwAlpha.nD,
      r.2.mem ((c.tc : Thread Cert.AdamwAlpha.nD Cert.AdamwAlpha.τ).loc Cert.AdamwAlpha.main_arg0) = m ((c.tc : Thread Cert.AdamwAlpha.nD Cert.AdamwAlpha.τ).loc Cert.AdamwAlpha.main_arg0)
      ∧ r.2.mem ((c.tc : Thread Cert.AdamwAlpha.nD Cert.AdamwAlpha.τ).loc Cert.AdamwAlpha.main_arg1) = m ((c.tc : Thread Cert.AdamwAlpha.nD Cert.AdamwAlpha.τ).loc Cert.AdamwAlpha.main_arg1)
      ∧ r.2.mem ((c.tc : Thread Cert.AdamwAlpha.nD Cert.AdamwAlpha.τ).loc Cert.AdamwAlpha.main_arg2) = m ((c.tc : Thread Cert.AdamwAlpha.nD Cert.AdamwAlpha.τ).loc Cert.AdamwAlpha.main_arg2)
      ∧ r.2.mem ((c.tc : Thread Cert.AdamwAlpha.nD Cert.AdamwAlpha.τ).loc Cert.AdamwAlpha.main_arg3) = m ((c.tc : Thread Cert.AdamwAlpha.nD Cert.AdamwAlpha.τ).loc Cert.AdamwAlpha.main_arg3))
      ∧ r.2.sem = fun _ => 0)

def quiescent_AdamwAlphaIdeal [hAdamwAlphaIdeal : Cert.AdamwAlphaIdeal.Facts] : Prop :=
  ∀ (m : (ℓ : Loc Cert.AdamwAlphaIdeal.nD Cert.AdamwAlphaIdeal.τ Cert.AdamwAlphaIdeal.sig) → Buf (Elt Ideal) ℓ) (g : Dev Cert.AdamwAlphaIdeal.nD → PrngReg), Pre_AdamwAlphaIdeal m →
    θ_run (Cert.AdamwAlphaIdeal.defs (F := Ideal)) (onTc (τ := Cert.AdamwAlphaIdeal.τ) (Cert.AdamwAlphaIdeal.main (F := Ideal))) ⟨m, fun _ => 0, g⟩ (fun r => (∀ c : Dev Cert.AdamwAlphaIdeal.nD,
      r.2.mem ((c.tc : Thread Cert.AdamwAlphaIdeal.nD Cert.AdamwAlphaIdeal.τ).loc Cert.AdamwAlphaIdeal.main_arg0) = m ((c.tc : Thread Cert.AdamwAlphaIdeal.nD Cert.AdamwAlphaIdeal.τ).loc Cert.AdamwAlphaIdeal.main_arg0)
      ∧ r.2.mem ((c.tc : Thread Cert.AdamwAlphaIdeal.nD Cert.AdamwAlphaIdeal.τ).loc Cert.AdamwAlphaIdeal.main_arg1) = m ((c.tc : Thread Cert.AdamwAlphaIdeal.nD Cert.AdamwAlphaIdeal.τ).loc Cert.AdamwAlphaIdeal.main_arg1)
      ∧ r.2.mem ((c.tc : Thread Cert.AdamwAlphaIdeal.nD Cert.AdamwAlphaIdeal.τ).loc Cert.AdamwAlphaIdeal.main_arg2) = m ((c.tc : Thread Cert.AdamwAlphaIdeal.nD Cert.AdamwAlphaIdeal.τ).loc Cert.AdamwAlphaIdeal.main_arg2)
      ∧ r.2.mem ((c.tc : Thread Cert.AdamwAlphaIdeal.nD Cert.AdamwAlphaIdeal.τ).loc Cert.AdamwAlphaIdeal.main_arg3) = m ((c.tc : Thread Cert.AdamwAlphaIdeal.nD Cert.AdamwAlphaIdeal.τ).loc Cert.AdamwAlphaIdeal.main_arg3))
      ∧ r.2.sem = fun _ => 0)

def quiescent_AdamwAlphaRefIdeal [hAdamwAlphaRefIdeal : Cert.AdamwAlphaRefIdeal.Facts] : Prop :=
  ∀ (m : (ℓ : Loc Cert.AdamwAlphaRefIdeal.nD Cert.AdamwAlphaRefIdeal.τ Cert.AdamwAlphaRefIdeal.sig) → Buf (Elt Ideal) ℓ) (g : Dev Cert.AdamwAlphaRefIdeal.nD → PrngReg), Pre_AdamwAlphaRefIdeal m →
    θ_run (Cert.AdamwAlphaRefIdeal.defs (F := Ideal)) (onTc (τ := Cert.AdamwAlphaRefIdeal.τ) (Cert.AdamwAlphaRefIdeal.main (F := Ideal))) ⟨m, fun _ => 0, g⟩ (fun r => (∀ c : Dev Cert.AdamwAlphaRefIdeal.nD,
      r.2.mem ((c.tc : Thread Cert.AdamwAlphaRefIdeal.nD Cert.AdamwAlphaRefIdeal.τ).loc Cert.AdamwAlphaRefIdeal.main_arg0) = m ((c.tc : Thread Cert.AdamwAlphaRefIdeal.nD Cert.AdamwAlphaRefIdeal.τ).loc Cert.AdamwAlphaRefIdeal.main_arg0)
      ∧ r.2.mem ((c.tc : Thread Cert.AdamwAlphaRefIdeal.nD Cert.AdamwAlphaRefIdeal.τ).loc Cert.AdamwAlphaRefIdeal.main_arg1) = m ((c.tc : Thread Cert.AdamwAlphaRefIdeal.nD Cert.AdamwAlphaRefIdeal.τ).loc Cert.AdamwAlphaRefIdeal.main_arg1)
      ∧ r.2.mem ((c.tc : Thread Cert.AdamwAlphaRefIdeal.nD Cert.AdamwAlphaRefIdeal.τ).loc Cert.AdamwAlphaRefIdeal.main_arg2) = m ((c.tc : Thread Cert.AdamwAlphaRefIdeal.nD Cert.AdamwAlphaRefIdeal.τ).loc Cert.AdamwAlphaRefIdeal.main_arg2)
      ∧ r.2.mem ((c.tc : Thread Cert.AdamwAlphaRefIdeal.nD Cert.AdamwAlphaRefIdeal.τ).loc Cert.AdamwAlphaRefIdeal.main_arg3) = m ((c.tc : Thread Cert.AdamwAlphaRefIdeal.nD Cert.AdamwAlphaRefIdeal.τ).loc Cert.AdamwAlphaRefIdeal.main_arg3))
      ∧ r.2.sem = fun _ => 0)

def quiescent_AdamwBias [hAdamwBias : Cert.AdamwBias.Facts] : Prop :=
  ∀ (m : (ℓ : Loc Cert.AdamwBias.nD Cert.AdamwBias.τ Cert.AdamwBias.sig) → Buf (Elt Bits) ℓ) (g : Dev Cert.AdamwBias.nD → PrngReg), Pre_AdamwBias m →
    θ_run (Cert.AdamwBias.defs (F := Bits)) (onTc (τ := Cert.AdamwBias.τ) (Cert.AdamwBias.main (F := Bits))) ⟨m, fun _ => 0, g⟩ (fun r => (∀ c : Dev Cert.AdamwBias.nD,
      r.2.mem ((c.tc : Thread Cert.AdamwBias.nD Cert.AdamwBias.τ).loc Cert.AdamwBias.main_arg0) = m ((c.tc : Thread Cert.AdamwBias.nD Cert.AdamwBias.τ).loc Cert.AdamwBias.main_arg0)
      ∧ r.2.mem ((c.tc : Thread Cert.AdamwBias.nD Cert.AdamwBias.τ).loc Cert.AdamwBias.main_arg1) = m ((c.tc : Thread Cert.AdamwBias.nD Cert.AdamwBias.τ).loc Cert.AdamwBias.main_arg1)
      ∧ r.2.mem ((c.tc : Thread Cert.AdamwBias.nD Cert.AdamwBias.τ).loc Cert.AdamwBias.main_arg2) = m ((c.tc : Thread Cert.AdamwBias.nD Cert.AdamwBias.τ).loc Cert.AdamwBias.main_arg2)
      ∧ r.2.mem ((c.tc : Thread Cert.AdamwBias.nD Cert.AdamwBias.τ).loc Cert.AdamwBias.main_arg3) = m ((c.tc : Thread Cert.AdamwBias.nD Cert.AdamwBias.τ).loc Cert.AdamwBias.main_arg3))
      ∧ r.2.sem = fun _ => 0)

def quiescent_AdamwBiasIdeal [hAdamwBiasIdeal : Cert.AdamwBiasIdeal.Facts] : Prop :=
  ∀ (m : (ℓ : Loc Cert.AdamwBiasIdeal.nD Cert.AdamwBiasIdeal.τ Cert.AdamwBiasIdeal.sig) → Buf (Elt Ideal) ℓ) (g : Dev Cert.AdamwBiasIdeal.nD → PrngReg), Pre_AdamwBiasIdeal m →
    θ_run (Cert.AdamwBiasIdeal.defs (F := Ideal)) (onTc (τ := Cert.AdamwBiasIdeal.τ) (Cert.AdamwBiasIdeal.main (F := Ideal))) ⟨m, fun _ => 0, g⟩ (fun r => (∀ c : Dev Cert.AdamwBiasIdeal.nD,
      r.2.mem ((c.tc : Thread Cert.AdamwBiasIdeal.nD Cert.AdamwBiasIdeal.τ).loc Cert.AdamwBiasIdeal.main_arg0) = m ((c.tc : Thread Cert.AdamwBiasIdeal.nD Cert.AdamwBiasIdeal.τ).loc Cert.AdamwBiasIdeal.main_arg0)
      ∧ r.2.mem ((c.tc : Thread Cert.AdamwBiasIdeal.nD Cert.AdamwBiasIdeal.τ).loc Cert.AdamwBiasIdeal.main_arg1) = m ((c.tc : Thread Cert.AdamwBiasIdeal.nD Cert.AdamwBiasIdeal.τ).loc Cert.AdamwBiasIdeal.main_arg1)
      ∧ r.2.mem ((c.tc : Thread Cert.AdamwBiasIdeal.nD Cert.AdamwBiasIdeal.τ).loc Cert.AdamwBiasIdeal.main_arg2) = m ((c.tc : Thread Cert.AdamwBiasIdeal.nD Cert.AdamwBiasIdeal.τ).loc Cert.AdamwBiasIdeal.main_arg2)
      ∧ r.2.mem ((c.tc : Thread Cert.AdamwBiasIdeal.nD Cert.AdamwBiasIdeal.τ).loc Cert.AdamwBiasIdeal.main_arg3) = m ((c.tc : Thread Cert.AdamwBiasIdeal.nD Cert.AdamwBiasIdeal.τ).loc Cert.AdamwBiasIdeal.main_arg3))
      ∧ r.2.sem = fun _ => 0)

def quiescent_AdamwBiasRefIdeal [hAdamwBiasRefIdeal : Cert.AdamwBiasRefIdeal.Facts] : Prop :=
  ∀ (m : (ℓ : Loc Cert.AdamwBiasRefIdeal.nD Cert.AdamwBiasRefIdeal.τ Cert.AdamwBiasRefIdeal.sig) → Buf (Elt Ideal) ℓ) (g : Dev Cert.AdamwBiasRefIdeal.nD → PrngReg), Pre_AdamwBiasRefIdeal m →
    θ_run (Cert.AdamwBiasRefIdeal.defs (F := Ideal)) (onTc (τ := Cert.AdamwBiasRefIdeal.τ) (Cert.AdamwBiasRefIdeal.main (F := Ideal))) ⟨m, fun _ => 0, g⟩ (fun r => (∀ c : Dev Cert.AdamwBiasRefIdeal.nD,
      r.2.mem ((c.tc : Thread Cert.AdamwBiasRefIdeal.nD Cert.AdamwBiasRefIdeal.τ).loc Cert.AdamwBiasRefIdeal.main_arg0) = m ((c.tc : Thread Cert.AdamwBiasRefIdeal.nD Cert.AdamwBiasRefIdeal.τ).loc Cert.AdamwBiasRefIdeal.main_arg0)
      ∧ r.2.mem ((c.tc : Thread Cert.AdamwBiasRefIdeal.nD Cert.AdamwBiasRefIdeal.τ).loc Cert.AdamwBiasRefIdeal.main_arg1) = m ((c.tc : Thread Cert.AdamwBiasRefIdeal.nD Cert.AdamwBiasRefIdeal.τ).loc Cert.AdamwBiasRefIdeal.main_arg1)
      ∧ r.2.mem ((c.tc : Thread Cert.AdamwBiasRefIdeal.nD Cert.AdamwBiasRefIdeal.τ).loc Cert.AdamwBiasRefIdeal.main_arg2) = m ((c.tc : Thread Cert.AdamwBiasRefIdeal.nD Cert.AdamwBiasRefIdeal.τ).loc Cert.AdamwBiasRefIdeal.main_arg2)
      ∧ r.2.mem ((c.tc : Thread Cert.AdamwBiasRefIdeal.nD Cert.AdamwBiasRefIdeal.τ).loc Cert.AdamwBiasRefIdeal.main_arg3) = m ((c.tc : Thread Cert.AdamwBiasRefIdeal.nD Cert.AdamwBiasRefIdeal.τ).loc Cert.AdamwBiasRefIdeal.main_arg3))
      ∧ r.2.sem = fun _ => 0)

def quiescent_AdamwRep [hAdamwRep : Cert.AdamwRep.Facts] : Prop :=
  ∀ (m : (ℓ : Loc Cert.AdamwRep.nD Cert.AdamwRep.τ Cert.AdamwRep.sig) → Buf (Elt Bits) ℓ) (g : Dev Cert.AdamwRep.nD → PrngReg), Pre_AdamwRep m →
    θ_run (Cert.AdamwRep.defs (F := Bits)) (onTc (τ := Cert.AdamwRep.τ) (Cert.AdamwRep.main (F := Bits))) ⟨m, fun _ => 0, g⟩ (fun r => (∀ c : Dev Cert.AdamwRep.nD,
      r.2.mem ((c.tc : Thread Cert.AdamwRep.nD Cert.AdamwRep.τ).loc Cert.AdamwRep.main_arg0) = m ((c.tc : Thread Cert.AdamwRep.nD Cert.AdamwRep.τ).loc Cert.AdamwRep.main_arg0)
      ∧ r.2.mem ((c.tc : Thread Cert.AdamwRep.nD Cert.AdamwRep.τ).loc Cert.AdamwRep.main_arg1) = m ((c.tc : Thread Cert.AdamwRep.nD Cert.AdamwRep.τ).loc Cert.AdamwRep.main_arg1)
      ∧ r.2.mem ((c.tc : Thread Cert.AdamwRep.nD Cert.AdamwRep.τ).loc Cert.AdamwRep.main_arg2) = m ((c.tc : Thread Cert.AdamwRep.nD Cert.AdamwRep.τ).loc Cert.AdamwRep.main_arg2)
      ∧ r.2.mem ((c.tc : Thread Cert.AdamwRep.nD Cert.AdamwRep.τ).loc Cert.AdamwRep.main_arg3) = m ((c.tc : Thread Cert.AdamwRep.nD Cert.AdamwRep.τ).loc Cert.AdamwRep.main_arg3))
      ∧ r.2.sem = fun _ => 0)

def quiescent_AdamwRepIdeal [hAdamwRepIdeal : Cert.AdamwRepIdeal.Facts] : Prop :=
  ∀ (m : (ℓ : Loc Cert.AdamwRepIdeal.nD Cert.AdamwRepIdeal.τ Cert.AdamwRepIdeal.sig) → Buf (Elt Ideal) ℓ) (g : Dev Cert.AdamwRepIdeal.nD → PrngReg), Pre_AdamwRepIdeal m →
    θ_run (Cert.AdamwRepIdeal.defs (F := Ideal)) (onTc (τ := Cert.AdamwRepIdeal.τ) (Cert.AdamwRepIdeal.main (F := Ideal))) ⟨m, fun _ => 0, g⟩ (fun r => (∀ c : Dev Cert.AdamwRepIdeal.nD,
      r.2.mem ((c.tc : Thread Cert.AdamwRepIdeal.nD Cert.AdamwRepIdeal.τ).loc Cert.AdamwRepIdeal.main_arg0) = m ((c.tc : Thread Cert.AdamwRepIdeal.nD Cert.AdamwRepIdeal.τ).loc Cert.AdamwRepIdeal.main_arg0)
      ∧ r.2.mem ((c.tc : Thread Cert.AdamwRepIdeal.nD Cert.AdamwRepIdeal.τ).loc Cert.AdamwRepIdeal.main_arg1) = m ((c.tc : Thread Cert.AdamwRepIdeal.nD Cert.AdamwRepIdeal.τ).loc Cert.AdamwRepIdeal.main_arg1)
      ∧ r.2.mem ((c.tc : Thread Cert.AdamwRepIdeal.nD Cert.AdamwRepIdeal.τ).loc Cert.AdamwRepIdeal.main_arg2) = m ((c.tc : Thread Cert.AdamwRepIdeal.nD Cert.AdamwRepIdeal.τ).loc Cert.AdamwRepIdeal.main_arg2)
      ∧ r.2.mem ((c.tc : Thread Cert.AdamwRepIdeal.nD Cert.AdamwRepIdeal.τ).loc Cert.AdamwRepIdeal.main_arg3) = m ((c.tc : Thread Cert.AdamwRepIdeal.nD Cert.AdamwRepIdeal.τ).loc Cert.AdamwRepIdeal.main_arg3))
      ∧ r.2.sem = fun _ => 0)

def quiescent_AdamwRepRefIdeal [hAdamwRepRefIdeal : Cert.AdamwRepRefIdeal.Facts] : Prop :=
  ∀ (m : (ℓ : Loc Cert.AdamwRepRefIdeal.nD Cert.AdamwRepRefIdeal.τ Cert.AdamwRepRefIdeal.sig) → Buf (Elt Ideal) ℓ) (g : Dev Cert.AdamwRepRefIdeal.nD → PrngReg), Pre_AdamwRepRefIdeal m →
    θ_run (Cert.AdamwRepRefIdeal.defs (F := Ideal)) (onTc (τ := Cert.AdamwRepRefIdeal.τ) (Cert.AdamwRepRefIdeal.main (F := Ideal))) ⟨m, fun _ => 0, g⟩ (fun r => (∀ c : Dev Cert.AdamwRepRefIdeal.nD,
      r.2.mem ((c.tc : Thread Cert.AdamwRepRefIdeal.nD Cert.AdamwRepRefIdeal.τ).loc Cert.AdamwRepRefIdeal.main_arg0) = m ((c.tc : Thread Cert.AdamwRepRefIdeal.nD Cert.AdamwRepRefIdeal.τ).loc Cert.AdamwRepRefIdeal.main_arg0)
      ∧ r.2.mem ((c.tc : Thread Cert.AdamwRepRefIdeal.nD Cert.AdamwRepRefIdeal.τ).loc Cert.AdamwRepRefIdeal.main_arg1) = m ((c.tc : Thread Cert.AdamwRepRefIdeal.nD Cert.AdamwRepRefIdeal.τ).loc Cert.AdamwRepRefIdeal.main_arg1)
      ∧ r.2.mem ((c.tc : Thread Cert.AdamwRepRefIdeal.nD Cert.AdamwRepRefIdeal.τ).loc Cert.AdamwRepRefIdeal.main_arg2) = m ((c.tc : Thread Cert.AdamwRepRefIdeal.nD Cert.AdamwRepRefIdeal.τ).loc Cert.AdamwRepRefIdeal.main_arg2)
      ∧ r.2.mem ((c.tc : Thread Cert.AdamwRepRefIdeal.nD Cert.AdamwRepRefIdeal.τ).loc Cert.AdamwRepRefIdeal.main_arg3) = m ((c.tc : Thread Cert.AdamwRepRefIdeal.nD Cert.AdamwRepRefIdeal.τ).loc Cert.AdamwRepRefIdeal.main_arg3))
      ∧ r.2.sem = fun _ => 0)

def quiescent_Dalpha [hDalpha : Cert.Dalpha.Facts] : Prop :=
  ∀ (m : (ℓ : Loc Cert.Dalpha.nD Cert.Dalpha.τ Cert.Dalpha.sig) → Buf (Elt Bits) ℓ) (g : Dev Cert.Dalpha.nD → PrngReg), Pre_Dalpha m →
    θ_run (Cert.Dalpha.defs (F := Bits)) (onTc (τ := Cert.Dalpha.τ) (Cert.Dalpha.main (F := Bits))) ⟨m, fun _ => 0, g⟩ (fun r => (∀ c : Dev Cert.Dalpha.nD,
      r.2.mem ((c.tc : Thread Cert.Dalpha.nD Cert.Dalpha.τ).loc Cert.Dalpha.main_arg0) = m ((c.tc : Thread Cert.Dalpha.nD Cert.Dalpha.τ).loc Cert.Dalpha.main_arg0)
      ∧ r.2.mem ((c.tc : Thread Cert.Dalpha.nD Cert.Dalpha.τ).loc Cert.Dalpha.main_arg1) = m ((c.tc : Thread Cert.Dalpha.nD Cert.Dalpha.τ).loc Cert.Dalpha.main_arg1)
      ∧ r.2.mem ((c.tc : Thread Cert.Dalpha.nD Cert.Dalpha.τ).loc Cert.Dalpha.main_arg2) = m ((c.tc : Thread Cert.Dalpha.nD Cert.Dalpha.τ).loc Cert.Dalpha.main_arg2))
      ∧ r.2.sem = fun _ => 0)

def quiescent_DalphaIdeal [hDalphaIdeal : Cert.DalphaIdeal.Facts] : Prop :=
  ∀ (m : (ℓ : Loc Cert.DalphaIdeal.nD Cert.DalphaIdeal.τ Cert.DalphaIdeal.sig) → Buf (Elt Ideal) ℓ) (g : Dev Cert.DalphaIdeal.nD → PrngReg), Pre_DalphaIdeal m →
    θ_run (Cert.DalphaIdeal.defs (F := Ideal)) (onTc (τ := Cert.DalphaIdeal.τ) (Cert.DalphaIdeal.main (F := Ideal))) ⟨m, fun _ => 0, g⟩ (fun r => (∀ c : Dev Cert.DalphaIdeal.nD,
      r.2.mem ((c.tc : Thread Cert.DalphaIdeal.nD Cert.DalphaIdeal.τ).loc Cert.DalphaIdeal.main_arg0) = m ((c.tc : Thread Cert.DalphaIdeal.nD Cert.DalphaIdeal.τ).loc Cert.DalphaIdeal.main_arg0)
      ∧ r.2.mem ((c.tc : Thread Cert.DalphaIdeal.nD Cert.DalphaIdeal.τ).loc Cert.DalphaIdeal.main_arg1) = m ((c.tc : Thread Cert.DalphaIdeal.nD Cert.DalphaIdeal.τ).loc Cert.DalphaIdeal.main_arg1)
      ∧ r.2.mem ((c.tc : Thread Cert.DalphaIdeal.nD Cert.DalphaIdeal.τ).loc Cert.DalphaIdeal.main_arg2) = m ((c.tc : Thread Cert.DalphaIdeal.nD Cert.DalphaIdeal.τ).loc Cert.DalphaIdeal.main_arg2))
      ∧ r.2.sem = fun _ => 0)

def quiescent_DalphaRefIdeal [hDalphaRefIdeal : Cert.DalphaRefIdeal.Facts] : Prop :=
  ∀ (m : (ℓ : Loc Cert.DalphaRefIdeal.nD Cert.DalphaRefIdeal.τ Cert.DalphaRefIdeal.sig) → Buf (Elt Ideal) ℓ) (g : Dev Cert.DalphaRefIdeal.nD → PrngReg), Pre_DalphaRefIdeal m →
    θ_run (Cert.DalphaRefIdeal.defs (F := Ideal)) (onTc (τ := Cert.DalphaRefIdeal.τ) (Cert.DalphaRefIdeal.main (F := Ideal))) ⟨m, fun _ => 0, g⟩ (fun r => (∀ c : Dev Cert.DalphaRefIdeal.nD,
      r.2.mem ((c.tc : Thread Cert.DalphaRefIdeal.nD Cert.DalphaRefIdeal.τ).loc Cert.DalphaRefIdeal.main_arg0) = m ((c.tc : Thread Cert.DalphaRefIdeal.nD Cert.DalphaRefIdeal.τ).loc Cert.DalphaRefIdeal.main_arg0)
      ∧ r.2.mem ((c.tc : Thread Cert.DalphaRefIdeal.nD Cert.DalphaRefIdeal.τ).loc Cert.DalphaRefIdeal.main_arg1) = m ((c.tc : Thread Cert.DalphaRefIdeal.nD Cert.DalphaRefIdeal.τ).loc Cert.DalphaRefIdeal.main_arg1)
      ∧ r.2.mem ((c.tc : Thread Cert.DalphaRefIdeal.nD Cert.DalphaRefIdeal.τ).loc Cert.DalphaRefIdeal.main_arg2) = m ((c.tc : Thread Cert.DalphaRefIdeal.nD Cert.DalphaRefIdeal.τ).loc Cert.DalphaRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_3)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_3) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v52) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v10_0)) (v1 : (c : Dev Cert.AttnIdeal.nD) → Buf (Elt Ideal) ((c.tc : Thread Cert.AttnIdeal.nD Cert.AttnIdeal.τ).loc Cert.AttnIdeal.main_v13)) (v2 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10_0) = v0 c
          ∧ r.2.mem ((c.tc : Thread Cert.AttnIdeal.nD Cert.AttnIdeal.τ).loc Cert.AttnIdeal.main_v13) = v1 c
          ∧ r.2.mem ((c.tc : Thread Cert.AttnIdeal.nD Cert.AttnIdeal.τ).loc Cert.AttnIdeal.main_v16) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v60) = v0 c
          ∧ r.2.mem ((c.tc : Thread Cert.AttnRefIdeal.nD Cert.AttnRefIdeal.τ).loc Cert.AttnRefIdeal.main_v59) = v1 c
          ∧ r.2.mem ((c.tc : Thread Cert.AttnRefIdeal.nD Cert.AttnRefIdeal.τ).loc Cert.AttnRefIdeal.main_v58) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_GlaPost_GlaPostIdeal : Prop :=
  True

def algebraic_GlaPostIdeal_GlaPostRefIdeal_pre_glapost_finite [hGlaPostIdeal : Cert.GlaPostIdeal.Facts] [hGlaPostRefIdeal : Cert.GlaPostRefIdeal.Facts] [hPre_glapost_finite : Cert.Pre_glapost_finite.Facts] : Prop :=
  ∀ (m : (ℓ : Loc Cert.GlaPostIdeal.nD Cert.GlaPostIdeal.τ Cert.GlaPostIdeal.sig) → Buf (Elt Ideal) ℓ) (g : Dev Cert.GlaPostIdeal.nD → PrngReg)
    (m' : (ℓ : Loc Cert.GlaPostRefIdeal.nD Cert.GlaPostRefIdeal.τ Cert.GlaPostRefIdeal.sig) → Buf (Elt Ideal) ℓ) (g' : Dev Cert.GlaPostRefIdeal.nD → PrngReg), Pre_GlaPostIdeal_glapost_finite m →
    (∀ c : Dev Cert.GlaPostIdeal.nD,
      m' ((c.tc : Thread Cert.GlaPostRefIdeal.nD Cert.GlaPostRefIdeal.τ).loc Cert.GlaPostRefIdeal.main_arg0) = m ((c.tc : Thread Cert.GlaPostIdeal.nD Cert.GlaPostIdeal.τ).loc Cert.GlaPostIdeal.main_arg0)
      ∧ m' ((c.tc : Thread Cert.GlaPostRefIdeal.nD Cert.GlaPostRefIdeal.τ).loc Cert.GlaPostRefIdeal.main_arg1) = m ((c.tc : Thread Cert.GlaPostIdeal.nD Cert.GlaPostIdeal.τ).loc Cert.GlaPostIdeal.main_arg1)
      ∧ m' ((c.tc : Thread Cert.GlaPostRefIdeal.nD Cert.GlaPostRefIdeal.τ).loc Cert.GlaPostRefIdeal.main_arg2) = m ((c.tc : Thread Cert.GlaPostIdeal.nD Cert.GlaPostIdeal.τ).loc Cert.GlaPostIdeal.main_arg2)
      ∧ m' ((c.tc : Thread Cert.GlaPostRefIdeal.nD Cert.GlaPostRefIdeal.τ).loc Cert.GlaPostRefIdeal.main_arg3) = m ((c.tc : Thread Cert.GlaPostIdeal.nD Cert.GlaPostIdeal.τ).loc Cert.GlaPostIdeal.main_arg3)
      ∧ m' ((c.tc : Thread Cert.GlaPostRefIdeal.nD Cert.GlaPostRefIdeal.τ).loc Cert.GlaPostRefIdeal.main_arg4) = m ((c.tc : Thread Cert.GlaPostIdeal.nD Cert.GlaPostIdeal.τ).loc Cert.GlaPostIdeal.main_arg4)) →
    ∃ (v0 : (c : Dev Cert.GlaPostIdeal.nD) → Buf (Elt Ideal) ((c.tc : Thread Cert.GlaPostIdeal.nD Cert.GlaPostIdeal.τ).loc Cert.GlaPostIdeal.main_v5_0)) (v1 : (c : Dev Cert.GlaPostIdeal.nD) → Buf (Elt Ideal) ((c.tc : Thread Cert.GlaPostIdeal.nD Cert.GlaPostIdeal.τ).loc Cert.GlaPostIdeal.main_v5_1)) (v2 : (c : Dev Cert.GlaPostIdeal.nD) → Buf (Elt Ideal) ((c.tc : Thread Cert.GlaPostIdeal.nD Cert.GlaPostIdeal.τ).loc Cert.GlaPostIdeal.main_v5_2)),
      θ_run (Cert.GlaPostIdeal.defs (F := Ideal)) (onTc (τ := Cert.GlaPostIdeal.τ) (Cert.GlaPostIdeal.main (F := Ideal))) ⟨m, fun _ => 0, g⟩ (fun r => ∀ c : Dev Cert.GlaPostIdeal.nD,
          r.2.mem ((c.tc : Thread Cert.GlaPostIdeal.nD Cert.GlaPostIdeal.τ).loc Cert.GlaPostIdeal.main_v5_0) = v0 c
          ∧ r.2.mem ((c.tc : Thread Cert.GlaPostIdeal.nD Cert.GlaPostIdeal.τ).loc Cert.GlaPostIdeal.main_v5_1) = v1 c
          ∧ r.2.mem ((c.tc : Thread Cert.GlaPostIdeal.nD Cert.GlaPostIdeal.τ).loc Cert.GlaPostIdeal.main_v5_2) = v2 c
          ∧ r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
          ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
          ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
          ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3)
          ∧ r.2.mem ((c.tc : Thread Cert.GlaPostIdeal.nD Cert.GlaPostIdeal.τ).loc Cert.GlaPostIdeal.main_arg4) = m ((c.tc : Thread Cert.GlaPostIdeal.nD Cert.GlaPostIdeal.τ).loc Cert.GlaPostIdeal.main_arg4))
      ∧ θ_run (Cert.GlaPostRefIdeal.defs (F := Ideal)) (onTc (τ := Cert.GlaPostRefIdeal.τ) (Cert.GlaPostRefIdeal.main (F := Ideal))) ⟨m', fun _ => 0, g'⟩ (fun r => ∀ c : Dev Cert.GlaPostRefIdeal.nD,
          r.2.mem ((c.tc : Thread Cert.GlaPostRefIdeal.nD Cert.GlaPostRefIdeal.τ).loc Cert.GlaPostRefIdeal.main_v46) = v0 c
          ∧ r.2.mem ((c.tc : Thread Cert.GlaPostRefIdeal.nD Cert.GlaPostRefIdeal.τ).loc Cert.GlaPostRefIdeal.main_v24) = v1 c
          ∧ r.2.mem ((c.tc : Thread Cert.GlaPostRefIdeal.nD Cert.GlaPostRefIdeal.τ).loc Cert.GlaPostRefIdeal.main_v47) = v2 c
          ∧ r.2.mem ((c.tc : Thread Cert.GlaPostRefIdeal.nD Cert.GlaPostRefIdeal.τ).loc Cert.GlaPostRefIdeal.main_arg0) = m' ((c.tc : Thread Cert.GlaPostRefIdeal.nD Cert.GlaPostRefIdeal.τ).loc Cert.GlaPostRefIdeal.main_arg0)
          ∧ r.2.mem ((c.tc : Thread Cert.GlaPostRefIdeal.nD Cert.GlaPostRefIdeal.τ).loc Cert.GlaPostRefIdeal.main_arg1) = m' ((c.tc : Thread Cert.GlaPostRefIdeal.nD Cert.GlaPostRefIdeal.τ).loc Cert.GlaPostRefIdeal.main_arg1)
          ∧ r.2.mem ((c.tc : Thread Cert.GlaPostRefIdeal.nD Cert.GlaPostRefIdeal.τ).loc Cert.GlaPostRefIdeal.main_arg2) = m' ((c.tc : Thread Cert.GlaPostRefIdeal.nD Cert.GlaPostRefIdeal.τ).loc Cert.GlaPostRefIdeal.main_arg2)
          ∧ r.2.mem ((c.tc : Thread Cert.GlaPostRefIdeal.nD Cert.GlaPostRefIdeal.τ).loc Cert.GlaPostRefIdeal.main_arg3) = m' ((c.tc : Thread Cert.GlaPostRefIdeal.nD Cert.GlaPostRefIdeal.τ).loc Cert.GlaPostRefIdeal.main_arg3)
          ∧ r.2.mem ((c.tc : Thread Cert.GlaPostRefIdeal.nD Cert.GlaPostRefIdeal.τ).loc Cert.GlaPostRefIdeal.main_arg4) = m' ((c.tc : Thread Cert.GlaPostRefIdeal.nD Cert.GlaPostRefIdeal.τ).loc Cert.GlaPostRefIdeal.main_arg4))

def preserves_FfnAct_FfnActIdeal : Prop :=
  True

def algebraic_FfnActIdeal_FfnActRefIdeal_pre_ffnact_finite [hFfnActIdeal : Cert.FfnActIdeal.Facts] [hFfnActRefIdeal : Cert.FfnActRefIdeal.Facts] [hPre_ffnact_finite : Cert.Pre_ffnact_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffnact_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v10_0)) (v1 : (c : Dev Cert.FfnActIdeal.nD) → Buf (Elt Ideal) ((c.tc : Thread Cert.FfnActIdeal.nD Cert.FfnActIdeal.τ).loc Cert.FfnActIdeal.main_v10_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v10_0) = v0 c
          ∧ r.2.mem ((c.tc : Thread Cert.FfnActIdeal.nD Cert.FfnActIdeal.τ).loc Cert.FfnActIdeal.main_v10_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v15) = v0 c
          ∧ r.2.mem ((c.tc : Thread Cert.FfnActRefIdeal.nD Cert.FfnActRefIdeal.τ).loc Cert.FfnActRefIdeal.main_v18) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_FfnNorm_FfnNormIdeal : Prop :=
  True

def algebraic_FfnNormIdeal_FfnNormRefIdeal_pre_ffnnorm_finite [hFfnNormIdeal : Cert.FfnNormIdeal.Facts] [hFfnNormRefIdeal : Cert.FfnNormRefIdeal.Facts] [hPre_ffnnorm_finite : Cert.Pre_ffnnorm_finite.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal_ffnnorm_finite m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)
      ∧ m' ((c.tc : Thread Cert.FfnNormRefIdeal.nD Cert.FfnNormRefIdeal.τ).loc Cert.FfnNormRefIdeal.main_arg5) = m ((c.tc : Thread Cert.FfnNormIdeal.nD Cert.FfnNormIdeal.τ).loc Cert.FfnNormIdeal.main_arg5)
      ∧ m' ((c.tc : Thread Cert.FfnNormRefIdeal.nD Cert.FfnNormRefIdeal.τ).loc Cert.FfnNormRefIdeal.main_arg6) = m ((c.tc : Thread Cert.FfnNormIdeal.nD Cert.FfnNormIdeal.τ).loc Cert.FfnNormIdeal.main_arg6)) →
    ∃ (v0 : (c : Dev Cert.FfnNormIdeal.nD) → Buf (Elt Ideal) ((c.tc : Thread Cert.FfnNormIdeal.nD Cert.FfnNormIdeal.τ).loc Cert.FfnNormIdeal.main_v15_0)) (v1 : (c : Dev Cert.FfnNormIdeal.nD) → Buf (Elt Ideal) ((c.tc : Thread Cert.FfnNormIdeal.nD Cert.FfnNormIdeal.τ).loc Cert.FfnNormIdeal.main_v15_1)) (v2 : (c : Dev Cert.FfnNormIdeal.nD) → Buf (Elt Ideal) ((c.tc : Thread Cert.FfnNormIdeal.nD Cert.FfnNormIdeal.τ).loc Cert.FfnNormIdeal.main_v15_2)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v15_0) = v0 c
          ∧ r.2.mem ((c.tc : Thread Cert.FfnNormIdeal.nD Cert.FfnNormIdeal.τ).loc Cert.FfnNormIdeal.main_v15_1) = v1 c
          ∧ r.2.mem ((c.tc : Thread Cert.FfnNormIdeal.nD Cert.FfnNormIdeal.τ).loc Cert.FfnNormIdeal.main_v15_2) = v2 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
          ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5)
          ∧ r.2.mem ((c.tc : Thread Cert.FfnNormIdeal.nD Cert.FfnNormIdeal.τ).loc Cert.FfnNormIdeal.main_arg6) = m ((c.tc : Thread Cert.FfnNormIdeal.nD Cert.FfnNormIdeal.τ).loc Cert.FfnNormIdeal.main_arg6))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v45) = v0 c
          ∧ r.2.mem ((c.tc : Thread Cert.FfnNormRefIdeal.nD Cert.FfnNormRefIdeal.τ).loc Cert.FfnNormRefIdeal.main_v46) = v1 c
          ∧ r.2.mem ((c.tc : Thread Cert.FfnNormRefIdeal.nD Cert.FfnNormRefIdeal.τ).loc Cert.FfnNormRefIdeal.main_v47) = v2 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4)
          ∧ r.2.mem ((c.tc : Thread Cert.FfnNormRefIdeal.nD Cert.FfnNormRefIdeal.τ).loc Cert.FfnNormRefIdeal.main_arg5) = m' ((c.tc : Thread Cert.FfnNormRefIdeal.nD Cert.FfnNormRefIdeal.τ).loc Cert.FfnNormRefIdeal.main_arg5)
          ∧ r.2.mem ((c.tc : Thread Cert.FfnNormRefIdeal.nD Cert.FfnNormRefIdeal.τ).loc Cert.FfnNormRefIdeal.main_arg6) = m' ((c.tc : Thread Cert.FfnNormRefIdeal.nD Cert.FfnNormRefIdeal.τ).loc Cert.FfnNormRefIdeal.main_arg6))

def preserves_MixNorm_MixNormIdeal : Prop :=
  True

def algebraic_MixNormIdeal_MixNormRefIdeal_pre_mixnorm_finite [hMixNormIdeal : Cert.MixNormIdeal.Facts] [hMixNormRefIdeal : Cert.MixNormRefIdeal.Facts] [hPre_mixnorm_finite : Cert.Pre_mixnorm_finite.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal_mixnorm_finite m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)
      ∧ m' ((c.tc : Thread Cert.MixNormRefIdeal.nD Cert.MixNormRefIdeal.τ).loc Cert.MixNormRefIdeal.main_arg4) = m ((c.tc : Thread Cert.MixNormIdeal.nD Cert.MixNormIdeal.τ).loc Cert.MixNormIdeal.main_arg4)
      ∧ m' ((c.tc : Thread Cert.MixNormRefIdeal.nD Cert.MixNormRefIdeal.τ).loc Cert.MixNormRefIdeal.main_arg5) = m ((c.tc : Thread Cert.MixNormIdeal.nD Cert.MixNormIdeal.τ).loc Cert.MixNormIdeal.main_arg5)
      ∧ m' ((c.tc : Thread Cert.MixNormRefIdeal.nD Cert.MixNormRefIdeal.τ).loc Cert.MixNormRefIdeal.main_arg6) = m ((c.tc : Thread Cert.MixNormIdeal.nD Cert.MixNormIdeal.τ).loc Cert.MixNormIdeal.main_arg6)) →
    ∃ (v0 : (c : Dev Cert.MixNormIdeal.nD) → Buf (Elt Ideal) ((c.tc : Thread Cert.MixNormIdeal.nD Cert.MixNormIdeal.τ).loc Cert.MixNormIdeal.main_v16_0)) (v1 : (c : Dev Cert.MixNormIdeal.nD) → Buf (Elt Ideal) ((c.tc : Thread Cert.MixNormIdeal.nD Cert.MixNormIdeal.τ).loc Cert.MixNormIdeal.main_v16_1)) (v2 : (c : Dev Cert.MixNormIdeal.nD) → Buf (Elt Ideal) ((c.tc : Thread Cert.MixNormIdeal.nD Cert.MixNormIdeal.τ).loc Cert.MixNormIdeal.main_v16_2)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v16_0) = v0 c
          ∧ r.2.mem ((c.tc : Thread Cert.MixNormIdeal.nD Cert.MixNormIdeal.τ).loc Cert.MixNormIdeal.main_v16_1) = v1 c
          ∧ r.2.mem ((c.tc : Thread Cert.MixNormIdeal.nD Cert.MixNormIdeal.τ).loc Cert.MixNormIdeal.main_v16_2) = v2 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
          ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4)
          ∧ r.2.mem ((c.tc : Thread Cert.MixNormIdeal.nD Cert.MixNormIdeal.τ).loc Cert.MixNormIdeal.main_arg5) = m ((c.tc : Thread Cert.MixNormIdeal.nD Cert.MixNormIdeal.τ).loc Cert.MixNormIdeal.main_arg5)
          ∧ r.2.mem ((c.tc : Thread Cert.MixNormIdeal.nD Cert.MixNormIdeal.τ).loc Cert.MixNormIdeal.main_arg6) = m ((c.tc : Thread Cert.MixNormIdeal.nD Cert.MixNormIdeal.τ).loc Cert.MixNormIdeal.main_arg6))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v41) = v0 c
          ∧ r.2.mem ((c.tc : Thread Cert.MixNormRefIdeal.nD Cert.MixNormRefIdeal.τ).loc Cert.MixNormRefIdeal.main_v42) = v1 c
          ∧ r.2.mem ((c.tc : Thread Cert.MixNormRefIdeal.nD Cert.MixNormRefIdeal.τ).loc Cert.MixNormRefIdeal.main_v43) = v2 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3)
          ∧ r.2.mem ((c.tc : Thread Cert.MixNormRefIdeal.nD Cert.MixNormRefIdeal.τ).loc Cert.MixNormRefIdeal.main_arg4) = m' ((c.tc : Thread Cert.MixNormRefIdeal.nD Cert.MixNormRefIdeal.τ).loc Cert.MixNormRefIdeal.main_arg4)
          ∧ r.2.mem ((c.tc : Thread Cert.MixNormRefIdeal.nD Cert.MixNormRefIdeal.τ).loc Cert.MixNormRefIdeal.main_arg5) = m' ((c.tc : Thread Cert.MixNormRefIdeal.nD Cert.MixNormRefIdeal.τ).loc Cert.MixNormRefIdeal.main_arg5)
          ∧ r.2.mem ((c.tc : Thread Cert.MixNormRefIdeal.nD Cert.MixNormRefIdeal.τ).loc Cert.MixNormRefIdeal.main_arg6) = m' ((c.tc : Thread Cert.MixNormRefIdeal.nD Cert.MixNormRefIdeal.τ).loc Cert.MixNormRefIdeal.main_arg6))

def preserves_LossHead_LossHeadIdeal : Prop :=
  True

def algebraic_LossHeadIdeal_LossHeadRefIdeal_pre_losshead_finite [hLossHeadIdeal : Cert.LossHeadIdeal.Facts] [hLossHeadRefIdeal : Cert.LossHeadRefIdeal.Facts] [hPre_losshead_finite : Cert.Pre_losshead_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_losshead_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_GlaPrep_GlaPrepIdeal : Prop :=
  True

def algebraic_GlaPrepIdeal_GlaPrepRefIdeal [hGlaPrepIdeal : Cert.GlaPrepIdeal.Facts] [hGlaPrepRefIdeal : Cert.GlaPrepRefIdeal.Facts] : Prop :=
  ∀ (m : (ℓ : Loc Cert.GlaPrepIdeal.nD Cert.GlaPrepIdeal.τ Cert.GlaPrepIdeal.sig) → Buf (Elt Ideal) ℓ) (g : Dev Cert.GlaPrepIdeal.nD → PrngReg)
    (m' : (ℓ : Loc Cert.GlaPrepRefIdeal.nD Cert.GlaPrepRefIdeal.τ Cert.GlaPrepRefIdeal.sig) → Buf (Elt Ideal) ℓ) (g' : Dev Cert.GlaPrepRefIdeal.nD → PrngReg), Pre_GlaPrepIdeal m →
    (∀ c : Dev Cert.GlaPrepIdeal.nD,
      m' ((c.tc : Thread Cert.GlaPrepRefIdeal.nD Cert.GlaPrepRefIdeal.τ).loc Cert.GlaPrepRefIdeal.main_arg0) = m ((c.tc : Thread Cert.GlaPrepIdeal.nD Cert.GlaPrepIdeal.τ).loc Cert.GlaPrepIdeal.main_arg0)
      ∧ m' ((c.tc : Thread Cert.GlaPrepRefIdeal.nD Cert.GlaPrepRefIdeal.τ).loc Cert.GlaPrepRefIdeal.main_arg1) = m ((c.tc : Thread Cert.GlaPrepIdeal.nD Cert.GlaPrepIdeal.τ).loc Cert.GlaPrepIdeal.main_arg1)
      ∧ m' ((c.tc : Thread Cert.GlaPrepRefIdeal.nD Cert.GlaPrepRefIdeal.τ).loc Cert.GlaPrepRefIdeal.main_arg2) = m ((c.tc : Thread Cert.GlaPrepIdeal.nD Cert.GlaPrepIdeal.τ).loc Cert.GlaPrepIdeal.main_arg2)
      ∧ m' ((c.tc : Thread Cert.GlaPrepRefIdeal.nD Cert.GlaPrepRefIdeal.τ).loc Cert.GlaPrepRefIdeal.main_arg3) = m ((c.tc : Thread Cert.GlaPrepIdeal.nD Cert.GlaPrepIdeal.τ).loc Cert.GlaPrepIdeal.main_arg3)
      ∧ m' ((c.tc : Thread Cert.GlaPrepRefIdeal.nD Cert.GlaPrepRefIdeal.τ).loc Cert.GlaPrepRefIdeal.main_arg4) = m ((c.tc : Thread Cert.GlaPrepIdeal.nD Cert.GlaPrepIdeal.τ).loc Cert.GlaPrepIdeal.main_arg4)
      ∧ m' ((c.tc : Thread Cert.GlaPrepRefIdeal.nD Cert.GlaPrepRefIdeal.τ).loc Cert.GlaPrepRefIdeal.main_arg5) = m ((c.tc : Thread Cert.GlaPrepIdeal.nD Cert.GlaPrepIdeal.τ).loc Cert.GlaPrepIdeal.main_arg5)) →
    ∃ (v0 : (c : Dev Cert.GlaPrepIdeal.nD) → Buf (Elt Ideal) ((c.tc : Thread Cert.GlaPrepIdeal.nD Cert.GlaPrepIdeal.τ).loc Cert.GlaPrepIdeal.main_v15_0)) (v1 : (c : Dev Cert.GlaPrepIdeal.nD) → Buf (Elt Ideal) ((c.tc : Thread Cert.GlaPrepIdeal.nD Cert.GlaPrepIdeal.τ).loc Cert.GlaPrepIdeal.main_v15_1)) (v2 : (c : Dev Cert.GlaPrepIdeal.nD) → Buf (Elt Ideal) ((c.tc : Thread Cert.GlaPrepIdeal.nD Cert.GlaPrepIdeal.τ).loc Cert.GlaPrepIdeal.main_v15_2)) (v3 : (c : Dev Cert.GlaPrepIdeal.nD) → Buf (Elt Ideal) ((c.tc : Thread Cert.GlaPrepIdeal.nD Cert.GlaPrepIdeal.τ).loc Cert.GlaPrepIdeal.main_v15_3)) (v4 : (c : Dev Cert.GlaPrepIdeal.nD) → Buf (Elt Ideal) ((c.tc : Thread Cert.GlaPrepIdeal.nD Cert.GlaPrepIdeal.τ).loc Cert.GlaPrepIdeal.main_v15_4)),
      θ_run (Cert.GlaPrepIdeal.defs (F := Ideal)) (onTc (τ := Cert.GlaPrepIdeal.τ) (Cert.GlaPrepIdeal.main (F := Ideal))) ⟨m, fun _ => 0, g⟩ (fun r => ∀ c : Dev Cert.GlaPrepIdeal.nD,
          r.2.mem ((c.tc : Thread Cert.GlaPrepIdeal.nD Cert.GlaPrepIdeal.τ).loc Cert.GlaPrepIdeal.main_v15_0) = v0 c
          ∧ r.2.mem ((c.tc : Thread Cert.GlaPrepIdeal.nD Cert.GlaPrepIdeal.τ).loc Cert.GlaPrepIdeal.main_v15_1) = v1 c
          ∧ r.2.mem ((c.tc : Thread Cert.GlaPrepIdeal.nD Cert.GlaPrepIdeal.τ).loc Cert.GlaPrepIdeal.main_v15_2) = v2 c
          ∧ r.2.mem ((c.tc : Thread Cert.GlaPrepIdeal.nD Cert.GlaPrepIdeal.τ).loc Cert.GlaPrepIdeal.main_v15_3) = v3 c
          ∧ r.2.mem ((c.tc : Thread Cert.GlaPrepIdeal.nD Cert.GlaPrepIdeal.τ).loc Cert.GlaPrepIdeal.main_v15_4) = v4 c
          ∧ r.2.mem ((c.tc : Thread Cert.GlaPrepIdeal.nD Cert.GlaPrepIdeal.τ).loc Cert.GlaPrepIdeal.main_arg0) = m ((c.tc : Thread Cert.GlaPrepIdeal.nD Cert.GlaPrepIdeal.τ).loc Cert.GlaPrepIdeal.main_arg0)
          ∧ r.2.mem ((c.tc : Thread Cert.GlaPrepIdeal.nD Cert.GlaPrepIdeal.τ).loc Cert.GlaPrepIdeal.main_arg1) = m ((c.tc : Thread Cert.GlaPrepIdeal.nD Cert.GlaPrepIdeal.τ).loc Cert.GlaPrepIdeal.main_arg1)
          ∧ r.2.mem ((c.tc : Thread Cert.GlaPrepIdeal.nD Cert.GlaPrepIdeal.τ).loc Cert.GlaPrepIdeal.main_arg2) = m ((c.tc : Thread Cert.GlaPrepIdeal.nD Cert.GlaPrepIdeal.τ).loc Cert.GlaPrepIdeal.main_arg2)
          ∧ r.2.mem ((c.tc : Thread Cert.GlaPrepIdeal.nD Cert.GlaPrepIdeal.τ).loc Cert.GlaPrepIdeal.main_arg3) = m ((c.tc : Thread Cert.GlaPrepIdeal.nD Cert.GlaPrepIdeal.τ).loc Cert.GlaPrepIdeal.main_arg3)
          ∧ r.2.mem ((c.tc : Thread Cert.GlaPrepIdeal.nD Cert.GlaPrepIdeal.τ).loc Cert.GlaPrepIdeal.main_arg4) = m ((c.tc : Thread Cert.GlaPrepIdeal.nD Cert.GlaPrepIdeal.τ).loc Cert.GlaPrepIdeal.main_arg4)
          ∧ r.2.mem ((c.tc : Thread Cert.GlaPrepIdeal.nD Cert.GlaPrepIdeal.τ).loc Cert.GlaPrepIdeal.main_arg5) = m ((c.tc : Thread Cert.GlaPrepIdeal.nD Cert.GlaPrepIdeal.τ).loc Cert.GlaPrepIdeal.main_arg5))
      ∧ θ_run (Cert.GlaPrepRefIdeal.defs (F := Ideal)) (onTc (τ := Cert.GlaPrepRefIdeal.τ) (Cert.GlaPrepRefIdeal.main (F := Ideal))) ⟨m', fun _ => 0, g'⟩ (fun r => ∀ c : Dev Cert.GlaPrepRefIdeal.nD,
          r.2.mem ((c.tc : Thread Cert.GlaPrepRefIdeal.nD Cert.GlaPrepRefIdeal.τ).loc Cert.GlaPrepRefIdeal.main_v43) = v0 c
          ∧ r.2.mem ((c.tc : Thread Cert.GlaPrepRefIdeal.nD Cert.GlaPrepRefIdeal.τ).loc Cert.GlaPrepRefIdeal.main_v44) = v1 c
          ∧ r.2.mem ((c.tc : Thread Cert.GlaPrepRefIdeal.nD Cert.GlaPrepRefIdeal.τ).loc Cert.GlaPrepRefIdeal.main_v42) = v2 c
          ∧ r.2.mem ((c.tc : Thread Cert.GlaPrepRefIdeal.nD Cert.GlaPrepRefIdeal.τ).loc Cert.GlaPrepRefIdeal.main_v45) = v3 c
          ∧ r.2.mem ((c.tc : Thread Cert.GlaPrepRefIdeal.nD Cert.GlaPrepRefIdeal.τ).loc Cert.GlaPrepRefIdeal.main_v46) = v4 c
          ∧ r.2.mem ((c.tc : Thread Cert.GlaPrepRefIdeal.nD Cert.GlaPrepRefIdeal.τ).loc Cert.GlaPrepRefIdeal.main_arg0) = m' ((c.tc : Thread Cert.GlaPrepRefIdeal.nD Cert.GlaPrepRefIdeal.τ).loc Cert.GlaPrepRefIdeal.main_arg0)
          ∧ r.2.mem ((c.tc : Thread Cert.GlaPrepRefIdeal.nD Cert.GlaPrepRefIdeal.τ).loc Cert.GlaPrepRefIdeal.main_arg1) = m' ((c.tc : Thread Cert.GlaPrepRefIdeal.nD Cert.GlaPrepRefIdeal.τ).loc Cert.GlaPrepRefIdeal.main_arg1)
          ∧ r.2.mem ((c.tc : Thread Cert.GlaPrepRefIdeal.nD Cert.GlaPrepRefIdeal.τ).loc Cert.GlaPrepRefIdeal.main_arg2) = m' ((c.tc : Thread Cert.GlaPrepRefIdeal.nD Cert.GlaPrepRefIdeal.τ).loc Cert.GlaPrepRefIdeal.main_arg2)
          ∧ r.2.mem ((c.tc : Thread Cert.GlaPrepRefIdeal.nD Cert.GlaPrepRefIdeal.τ).loc Cert.GlaPrepRefIdeal.main_arg3) = m' ((c.tc : Thread Cert.GlaPrepRefIdeal.nD Cert.GlaPrepRefIdeal.τ).loc Cert.GlaPrepRefIdeal.main_arg3)
          ∧ r.2.mem ((c.tc : Thread Cert.GlaPrepRefIdeal.nD Cert.GlaPrepRefIdeal.τ).loc Cert.GlaPrepRefIdeal.main_arg4) = m' ((c.tc : Thread Cert.GlaPrepRefIdeal.nD Cert.GlaPrepRefIdeal.τ).loc Cert.GlaPrepRefIdeal.main_arg4)
          ∧ r.2.mem ((c.tc : Thread Cert.GlaPrepRefIdeal.nD Cert.GlaPrepRefIdeal.τ).loc Cert.GlaPrepRefIdeal.main_arg5) = m' ((c.tc : Thread Cert.GlaPrepRefIdeal.nD Cert.GlaPrepRefIdeal.τ).loc Cert.GlaPrepRefIdeal.main_arg5))

def preserves_S5Gate_S5GateIdeal : Prop :=
  True

def algebraic_S5GateIdeal_S5GateRefIdeal_pre_s5gate_finite [hS5GateIdeal : Cert.S5GateIdeal.Facts] [hS5GateRefIdeal : Cert.S5GateRefIdeal.Facts] [hPre_s5gate_finite : Cert.Pre_s5gate_finite.Facts] : Prop :=
  ∀ (m : (ℓ : Loc Cert.S5GateIdeal.nD Cert.S5GateIdeal.τ Cert.S5GateIdeal.sig) → Buf (Elt Ideal) ℓ) (g : Dev Cert.S5GateIdeal.nD → PrngReg)
    (m' : (ℓ : Loc Cert.S5GateRefIdeal.nD Cert.S5GateRefIdeal.τ Cert.S5GateRefIdeal.sig) → Buf (Elt Ideal) ℓ) (g' : Dev Cert.S5GateRefIdeal.nD → PrngReg), Pre_S5GateIdeal_s5gate_finite m →
    (∀ c : Dev Cert.S5GateIdeal.nD,
      m' ((c.tc : Thread Cert.S5GateRefIdeal.nD Cert.S5GateRefIdeal.τ).loc Cert.S5GateRefIdeal.main_arg0) = m ((c.tc : Thread Cert.S5GateIdeal.nD Cert.S5GateIdeal.τ).loc Cert.S5GateIdeal.main_arg0)
      ∧ m' ((c.tc : Thread Cert.S5GateRefIdeal.nD Cert.S5GateRefIdeal.τ).loc Cert.S5GateRefIdeal.main_arg1) = m ((c.tc : Thread Cert.S5GateIdeal.nD Cert.S5GateIdeal.τ).loc Cert.S5GateIdeal.main_arg1)
      ∧ m' ((c.tc : Thread Cert.S5GateRefIdeal.nD Cert.S5GateRefIdeal.τ).loc Cert.S5GateRefIdeal.main_arg2) = m ((c.tc : Thread Cert.S5GateIdeal.nD Cert.S5GateIdeal.τ).loc Cert.S5GateIdeal.main_arg2)
      ∧ m' ((c.tc : Thread Cert.S5GateRefIdeal.nD Cert.S5GateRefIdeal.τ).loc Cert.S5GateRefIdeal.main_arg3) = m ((c.tc : Thread Cert.S5GateIdeal.nD Cert.S5GateIdeal.τ).loc Cert.S5GateIdeal.main_arg3)
      ∧ m' ((c.tc : Thread Cert.S5GateRefIdeal.nD Cert.S5GateRefIdeal.τ).loc Cert.S5GateRefIdeal.main_arg4) = m ((c.tc : Thread Cert.S5GateIdeal.nD Cert.S5GateIdeal.τ).loc Cert.S5GateIdeal.main_arg4)) →
    ∃ (v0 : (c : Dev Cert.S5GateIdeal.nD) → Buf (Elt Ideal) ((c.tc : Thread Cert.S5GateIdeal.nD Cert.S5GateIdeal.τ).loc Cert.S5GateIdeal.main_v23_0)) (v1 : (c : Dev Cert.S5GateIdeal.nD) → Buf (Elt Ideal) ((c.tc : Thread Cert.S5GateIdeal.nD Cert.S5GateIdeal.τ).loc Cert.S5GateIdeal.main_v23_1)) (v2 : (c : Dev Cert.S5GateIdeal.nD) → Buf (Elt Ideal) ((c.tc : Thread Cert.S5GateIdeal.nD Cert.S5GateIdeal.τ).loc Cert.S5GateIdeal.main_v23_2)) (v3 : (c : Dev Cert.S5GateIdeal.nD) → Buf (Elt Ideal) ((c.tc : Thread Cert.S5GateIdeal.nD Cert.S5GateIdeal.τ).loc Cert.S5GateIdeal.main_v23_3)) (v4 : (c : Dev Cert.S5GateIdeal.nD) → Buf (Elt Ideal) ((c.tc : Thread Cert.S5GateIdeal.nD Cert.S5GateIdeal.τ).loc Cert.S5GateIdeal.main_v23_4)),
      θ_run (Cert.S5GateIdeal.defs (F := Ideal)) (onTc (τ := Cert.S5GateIdeal.τ) (Cert.S5GateIdeal.main (F := Ideal))) ⟨m, fun _ => 0, g⟩ (fun r => ∀ c : Dev Cert.S5GateIdeal.nD,
          r.2.mem ((c.tc : Thread Cert.S5GateIdeal.nD Cert.S5GateIdeal.τ).loc Cert.S5GateIdeal.main_v23_0) = v0 c
          ∧ r.2.mem ((c.tc : Thread Cert.S5GateIdeal.nD Cert.S5GateIdeal.τ).loc Cert.S5GateIdeal.main_v23_1) = v1 c
          ∧ r.2.mem ((c.tc : Thread Cert.S5GateIdeal.nD Cert.S5GateIdeal.τ).loc Cert.S5GateIdeal.main_v23_2) = v2 c
          ∧ r.2.mem ((c.tc : Thread Cert.S5GateIdeal.nD Cert.S5GateIdeal.τ).loc Cert.S5GateIdeal.main_v23_3) = v3 c
          ∧ r.2.mem ((c.tc : Thread Cert.S5GateIdeal.nD Cert.S5GateIdeal.τ).loc Cert.S5GateIdeal.main_v23_4) = v4 c
          ∧ r.2.mem ((c.tc : Thread Cert.S5GateIdeal.nD Cert.S5GateIdeal.τ).loc Cert.S5GateIdeal.main_arg0) = m ((c.tc : Thread Cert.S5GateIdeal.nD Cert.S5GateIdeal.τ).loc Cert.S5GateIdeal.main_arg0)
          ∧ r.2.mem ((c.tc : Thread Cert.S5GateIdeal.nD Cert.S5GateIdeal.τ).loc Cert.S5GateIdeal.main_arg1) = m ((c.tc : Thread Cert.S5GateIdeal.nD Cert.S5GateIdeal.τ).loc Cert.S5GateIdeal.main_arg1)
          ∧ r.2.mem ((c.tc : Thread Cert.S5GateIdeal.nD Cert.S5GateIdeal.τ).loc Cert.S5GateIdeal.main_arg2) = m ((c.tc : Thread Cert.S5GateIdeal.nD Cert.S5GateIdeal.τ).loc Cert.S5GateIdeal.main_arg2)
          ∧ r.2.mem ((c.tc : Thread Cert.S5GateIdeal.nD Cert.S5GateIdeal.τ).loc Cert.S5GateIdeal.main_arg3) = m ((c.tc : Thread Cert.S5GateIdeal.nD Cert.S5GateIdeal.τ).loc Cert.S5GateIdeal.main_arg3)
          ∧ r.2.mem ((c.tc : Thread Cert.S5GateIdeal.nD Cert.S5GateIdeal.τ).loc Cert.S5GateIdeal.main_arg4) = m ((c.tc : Thread Cert.S5GateIdeal.nD Cert.S5GateIdeal.τ).loc Cert.S5GateIdeal.main_arg4))
      ∧ θ_run (Cert.S5GateRefIdeal.defs (F := Ideal)) (onTc (τ := Cert.S5GateRefIdeal.τ) (Cert.S5GateRefIdeal.main (F := Ideal))) ⟨m', fun _ => 0, g'⟩ (fun r => ∀ c : Dev Cert.S5GateRefIdeal.nD,
          r.2.mem ((c.tc : Thread Cert.S5GateRefIdeal.nD Cert.S5GateRefIdeal.τ).loc Cert.S5GateRefIdeal.main_v61) = v0 c
          ∧ r.2.mem ((c.tc : Thread Cert.S5GateRefIdeal.nD Cert.S5GateRefIdeal.τ).loc Cert.S5GateRefIdeal.main_v62) = v1 c
          ∧ r.2.mem ((c.tc : Thread Cert.S5GateRefIdeal.nD Cert.S5GateRefIdeal.τ).loc Cert.S5GateRefIdeal.main_v63) = v2 c
          ∧ r.2.mem ((c.tc : Thread Cert.S5GateRefIdeal.nD Cert.S5GateRefIdeal.τ).loc Cert.S5GateRefIdeal.main_v56) = v3 c
          ∧ r.2.mem ((c.tc : Thread Cert.S5GateRefIdeal.nD Cert.S5GateRefIdeal.τ).loc Cert.S5GateRefIdeal.main_v64) = v4 c
          ∧ r.2.mem ((c.tc : Thread Cert.S5GateRefIdeal.nD Cert.S5GateRefIdeal.τ).loc Cert.S5GateRefIdeal.main_arg0) = m' ((c.tc : Thread Cert.S5GateRefIdeal.nD Cert.S5GateRefIdeal.τ).loc Cert.S5GateRefIdeal.main_arg0)
          ∧ r.2.mem ((c.tc : Thread Cert.S5GateRefIdeal.nD Cert.S5GateRefIdeal.τ).loc Cert.S5GateRefIdeal.main_arg1) = m' ((c.tc : Thread Cert.S5GateRefIdeal.nD Cert.S5GateRefIdeal.τ).loc Cert.S5GateRefIdeal.main_arg1)
          ∧ r.2.mem ((c.tc : Thread Cert.S5GateRefIdeal.nD Cert.S5GateRefIdeal.τ).loc Cert.S5GateRefIdeal.main_arg2) = m' ((c.tc : Thread Cert.S5GateRefIdeal.nD Cert.S5GateRefIdeal.τ).loc Cert.S5GateRefIdeal.main_arg2)
          ∧ r.2.mem ((c.tc : Thread Cert.S5GateRefIdeal.nD Cert.S5GateRefIdeal.τ).loc Cert.S5GateRefIdeal.main_arg3) = m' ((c.tc : Thread Cert.S5GateRefIdeal.nD Cert.S5GateRefIdeal.τ).loc Cert.S5GateRefIdeal.main_arg3)
          ∧ r.2.mem ((c.tc : Thread Cert.S5GateRefIdeal.nD Cert.S5GateRefIdeal.τ).loc Cert.S5GateRefIdeal.main_arg4) = m' ((c.tc : Thread Cert.S5GateRefIdeal.nD Cert.S5GateRefIdeal.τ).loc Cert.S5GateRefIdeal.main_arg4))

def preserves_S5Out_S5OutIdeal : Prop :=
  True

def algebraic_S5OutIdeal_S5OutRefIdeal [hS5OutIdeal : Cert.S5OutIdeal.Facts] [hS5OutRefIdeal : Cert.S5OutRefIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutRefIdeal.nD Cert.S5OutRefIdeal.τ Cert.S5OutRefIdeal.sig) → Buf (Elt Ideal) ℓ) (g' : Dev Cert.S5OutRefIdeal.nD → PrngReg), Pre_S5OutIdeal m →
    (∀ c : Dev Cert.S5OutIdeal.nD,
      m' ((c.tc : Thread Cert.S5OutRefIdeal.nD Cert.S5OutRefIdeal.τ).loc Cert.S5OutRefIdeal.main_arg0) = m ((c.tc : Thread Cert.S5OutIdeal.nD Cert.S5OutIdeal.τ).loc Cert.S5OutIdeal.main_arg0)
      ∧ m' ((c.tc : Thread Cert.S5OutRefIdeal.nD Cert.S5OutRefIdeal.τ).loc Cert.S5OutRefIdeal.main_arg1) = m ((c.tc : Thread Cert.S5OutIdeal.nD Cert.S5OutIdeal.τ).loc Cert.S5OutIdeal.main_arg1)
      ∧ m' ((c.tc : Thread Cert.S5OutRefIdeal.nD Cert.S5OutRefIdeal.τ).loc Cert.S5OutRefIdeal.main_arg2) = m ((c.tc : Thread Cert.S5OutIdeal.nD Cert.S5OutIdeal.τ).loc Cert.S5OutIdeal.main_arg2)
      ∧ m' ((c.tc : Thread Cert.S5OutRefIdeal.nD Cert.S5OutRefIdeal.τ).loc Cert.S5OutRefIdeal.main_arg3) = m ((c.tc : Thread Cert.S5OutIdeal.nD Cert.S5OutIdeal.τ).loc Cert.S5OutIdeal.main_arg3)) →
    ∃ (v0 : (c : Dev Cert.S5OutIdeal.nD) → Buf (Elt Ideal) ((c.tc : Thread Cert.S5OutIdeal.nD Cert.S5OutIdeal.τ).loc Cert.S5OutIdeal.main_v5_0)) (v1 : (c : Dev Cert.S5OutIdeal.nD) → Buf (Elt Ideal) ((c.tc : Thread Cert.S5OutIdeal.nD Cert.S5OutIdeal.τ).loc Cert.S5OutIdeal.main_v5_1)) (v2 : (c : Dev Cert.S5OutIdeal.nD) → Buf (Elt Ideal) ((c.tc : Thread Cert.S5OutIdeal.nD Cert.S5OutIdeal.τ).loc Cert.S5OutIdeal.main_v5_2)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v5_0) = v0 c
          ∧ r.2.mem ((c.tc : Thread Cert.S5OutIdeal.nD Cert.S5OutIdeal.τ).loc Cert.S5OutIdeal.main_v5_1) = v1 c
          ∧ r.2.mem ((c.tc : Thread Cert.S5OutIdeal.nD Cert.S5OutIdeal.τ).loc Cert.S5OutIdeal.main_v5_2) = v2 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3))
      ∧ θ_run (Cert.S5OutRefIdeal.defs (F := Ideal)) (onTc (τ := Cert.S5OutRefIdeal.τ) (Cert.S5OutRefIdeal.main (F := Ideal))) ⟨m', fun _ => 0, g'⟩ (fun r => ∀ c : Dev Cert.S5OutRefIdeal.nD,
          r.2.mem ((c.tc : Thread Cert.S5OutRefIdeal.nD Cert.S5OutRefIdeal.τ).loc Cert.S5OutRefIdeal.main_v3) = v0 c
          ∧ r.2.mem ((c.tc : Thread Cert.S5OutRefIdeal.nD Cert.S5OutRefIdeal.τ).loc Cert.S5OutRefIdeal.main_v17) = v1 c
          ∧ r.2.mem ((c.tc : Thread Cert.S5OutRefIdeal.nD Cert.S5OutRefIdeal.τ).loc Cert.S5OutRefIdeal.main_v25) = v2 c
          ∧ r.2.mem ((c.tc : Thread Cert.S5OutRefIdeal.nD Cert.S5OutRefIdeal.τ).loc Cert.S5OutRefIdeal.main_arg0) = m' ((c.tc : Thread Cert.S5OutRefIdeal.nD Cert.S5OutRefIdeal.τ).loc Cert.S5OutRefIdeal.main_arg0)
          ∧ r.2.mem ((c.tc : Thread Cert.S5OutRefIdeal.nD Cert.S5OutRefIdeal.τ).loc Cert.S5OutRefIdeal.main_arg1) = m' ((c.tc : Thread Cert.S5OutRefIdeal.nD Cert.S5OutRefIdeal.τ).loc Cert.S5OutRefIdeal.main_arg1)
          ∧ r.2.mem ((c.tc : Thread Cert.S5OutRefIdeal.nD Cert.S5OutRefIdeal.τ).loc Cert.S5OutRefIdeal.main_arg2) = m' ((c.tc : Thread Cert.S5OutRefIdeal.nD Cert.S5OutRefIdeal.τ).loc Cert.S5OutRefIdeal.main_arg2)
          ∧ r.2.mem ((c.tc : Thread Cert.S5OutRefIdeal.nD Cert.S5OutRefIdeal.τ).loc Cert.S5OutRefIdeal.main_arg3) = m' ((c.tc : Thread Cert.S5OutRefIdeal.nD Cert.S5OutRefIdeal.τ).loc Cert.S5OutRefIdeal.main_arg3))

def preserves_GlaOut_GlaOutIdeal : Prop :=
  True

def algebraic_GlaOutIdeal_GlaOutRefIdeal [hGlaOutIdeal : Cert.GlaOutIdeal.Facts] [hGlaOutRefIdeal : Cert.GlaOutRefIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutRefIdeal.nD Cert.GlaOutRefIdeal.τ Cert.GlaOutRefIdeal.sig) → Buf (Elt Ideal) ℓ) (g' : Dev Cert.GlaOutRefIdeal.nD → PrngReg), Pre_GlaOutIdeal m →
    (∀ c : Dev Cert.GlaOutIdeal.nD,
      m' ((c.tc : Thread Cert.GlaOutRefIdeal.nD Cert.GlaOutRefIdeal.τ).loc Cert.GlaOutRefIdeal.main_arg0) = m ((c.tc : Thread Cert.GlaOutIdeal.nD Cert.GlaOutIdeal.τ).loc Cert.GlaOutIdeal.main_arg0)
      ∧ m' ((c.tc : Thread Cert.GlaOutRefIdeal.nD Cert.GlaOutRefIdeal.τ).loc Cert.GlaOutRefIdeal.main_arg1) = m ((c.tc : Thread Cert.GlaOutIdeal.nD Cert.GlaOutIdeal.τ).loc Cert.GlaOutIdeal.main_arg1)
      ∧ m' ((c.tc : Thread Cert.GlaOutRefIdeal.nD Cert.GlaOutRefIdeal.τ).loc Cert.GlaOutRefIdeal.main_arg2) = m ((c.tc : Thread Cert.GlaOutIdeal.nD Cert.GlaOutIdeal.τ).loc Cert.GlaOutIdeal.main_arg2)
      ∧ m' ((c.tc : Thread Cert.GlaOutRefIdeal.nD Cert.GlaOutRefIdeal.τ).loc Cert.GlaOutRefIdeal.main_arg3) = m ((c.tc : Thread Cert.GlaOutIdeal.nD Cert.GlaOutIdeal.τ).loc Cert.GlaOutIdeal.main_arg3)) →
    ∃ (v0 : (c : Dev Cert.GlaOutIdeal.nD) → Buf (Elt Ideal) ((c.tc : Thread Cert.GlaOutIdeal.nD Cert.GlaOutIdeal.τ).loc Cert.GlaOutIdeal.main_v5)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v5) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
          ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3))
      ∧ θ_run (Cert.GlaOutRefIdeal.defs (F := Ideal)) (onTc (τ := Cert.GlaOutRefIdeal.τ) (Cert.GlaOutRefIdeal.main (F := Ideal))) ⟨m', fun _ => 0, g'⟩ (fun r => ∀ c : Dev Cert.GlaOutRefIdeal.nD,
          r.2.mem ((c.tc : Thread Cert.GlaOutRefIdeal.nD Cert.GlaOutRefIdeal.τ).loc Cert.GlaOutRefIdeal.main_v18) = v0 c
          ∧ r.2.mem ((c.tc : Thread Cert.GlaOutRefIdeal.nD Cert.GlaOutRefIdeal.τ).loc Cert.GlaOutRefIdeal.main_arg0) = m' ((c.tc : Thread Cert.GlaOutRefIdeal.nD Cert.GlaOutRefIdeal.τ).loc Cert.GlaOutRefIdeal.main_arg0)
          ∧ r.2.mem ((c.tc : Thread Cert.GlaOutRefIdeal.nD Cert.GlaOutRefIdeal.τ).loc Cert.GlaOutRefIdeal.main_arg1) = m' ((c.tc : Thread Cert.GlaOutRefIdeal.nD Cert.GlaOutRefIdeal.τ).loc Cert.GlaOutRefIdeal.main_arg1)
          ∧ r.2.mem ((c.tc : Thread Cert.GlaOutRefIdeal.nD Cert.GlaOutRefIdeal.τ).loc Cert.GlaOutRefIdeal.main_arg2) = m' ((c.tc : Thread Cert.GlaOutRefIdeal.nD Cert.GlaOutRefIdeal.τ).loc Cert.GlaOutRefIdeal.main_arg2)
          ∧ r.2.mem ((c.tc : Thread Cert.GlaOutRefIdeal.nD Cert.GlaOutRefIdeal.τ).loc Cert.GlaOutRefIdeal.main_arg3) = m' ((c.tc : Thread Cert.GlaOutRefIdeal.nD Cert.GlaOutRefIdeal.τ).loc Cert.GlaOutRefIdeal.main_arg3))

def preserves_GlaGate_GlaGateIdeal : Prop :=
  True

def algebraic_GlaGateIdeal_GlaGateRefIdeal [hGlaGateIdeal : Cert.GlaGateIdeal.Facts] [hGlaGateRefIdeal : Cert.GlaGateRefIdeal.Facts] : Prop :=
  ∀ (m : (ℓ : Loc Cert.GlaGateIdeal.nD Cert.GlaGateIdeal.τ Cert.GlaGateIdeal.sig) → Buf (Elt Ideal) ℓ) (g : Dev Cert.GlaGateIdeal.nD → PrngReg)
    (m' : (ℓ : Loc Cert.GlaGateRefIdeal.nD Cert.GlaGateRefIdeal.τ Cert.GlaGateRefIdeal.sig) → Buf (Elt Ideal) ℓ) (g' : Dev Cert.GlaGateRefIdeal.nD → PrngReg), Pre_GlaGateIdeal m →
    (∀ c : Dev Cert.GlaGateIdeal.nD,
      m' ((c.tc : Thread Cert.GlaGateRefIdeal.nD Cert.GlaGateRefIdeal.τ).loc Cert.GlaGateRefIdeal.main_arg0) = m ((c.tc : Thread Cert.GlaGateIdeal.nD Cert.GlaGateIdeal.τ).loc Cert.GlaGateIdeal.main_arg0)
      ∧ m' ((c.tc : Thread Cert.GlaGateRefIdeal.nD Cert.GlaGateRefIdeal.τ).loc Cert.GlaGateRefIdeal.main_arg1) = m ((c.tc : Thread Cert.GlaGateIdeal.nD Cert.GlaGateIdeal.τ).loc Cert.GlaGateIdeal.main_arg1)
      ∧ m' ((c.tc : Thread Cert.GlaGateRefIdeal.nD Cert.GlaGateRefIdeal.τ).loc Cert.GlaGateRefIdeal.main_arg2) = m ((c.tc : Thread Cert.GlaGateIdeal.nD Cert.GlaGateIdeal.τ).loc Cert.GlaGateIdeal.main_arg2)
      ∧ m' ((c.tc : Thread Cert.GlaGateRefIdeal.nD Cert.GlaGateRefIdeal.τ).loc Cert.GlaGateRefIdeal.main_arg3) = m ((c.tc : Thread Cert.GlaGateIdeal.nD Cert.GlaGateIdeal.τ).loc Cert.GlaGateIdeal.main_arg3)) →
    ∃ (v0 : (c : Dev Cert.GlaGateIdeal.nD) → Buf (Elt Ideal) ((c.tc : Thread Cert.GlaGateIdeal.nD Cert.GlaGateIdeal.τ).loc Cert.GlaGateIdeal.main_v15_0)) (v1 : (c : Dev Cert.GlaGateIdeal.nD) → Buf (Elt Ideal) ((c.tc : Thread Cert.GlaGateIdeal.nD Cert.GlaGateIdeal.τ).loc Cert.GlaGateIdeal.main_v15_1)),
      θ_run (Cert.GlaGateIdeal.defs (F := Ideal)) (onTc (τ := Cert.GlaGateIdeal.τ) (Cert.GlaGateIdeal.main (F := Ideal))) ⟨m, fun _ => 0, g⟩ (fun r => ∀ c : Dev Cert.GlaGateIdeal.nD,
          r.2.mem ((c.tc : Thread Cert.GlaGateIdeal.nD Cert.GlaGateIdeal.τ).loc Cert.GlaGateIdeal.main_v15_0) = v0 c
          ∧ r.2.mem ((c.tc : Thread Cert.GlaGateIdeal.nD Cert.GlaGateIdeal.τ).loc Cert.GlaGateIdeal.main_v15_1) = v1 c
          ∧ r.2.mem ((c.tc : Thread Cert.GlaGateIdeal.nD Cert.GlaGateIdeal.τ).loc Cert.GlaGateIdeal.main_arg0) = m ((c.tc : Thread Cert.GlaGateIdeal.nD Cert.GlaGateIdeal.τ).loc Cert.GlaGateIdeal.main_arg0)
          ∧ r.2.mem ((c.tc : Thread Cert.GlaGateIdeal.nD Cert.GlaGateIdeal.τ).loc Cert.GlaGateIdeal.main_arg1) = m ((c.tc : Thread Cert.GlaGateIdeal.nD Cert.GlaGateIdeal.τ).loc Cert.GlaGateIdeal.main_arg1)
          ∧ r.2.mem ((c.tc : Thread Cert.GlaGateIdeal.nD Cert.GlaGateIdeal.τ).loc Cert.GlaGateIdeal.main_arg2) = m ((c.tc : Thread Cert.GlaGateIdeal.nD Cert.GlaGateIdeal.τ).loc Cert.GlaGateIdeal.main_arg2)
          ∧ r.2.mem ((c.tc : Thread Cert.GlaGateIdeal.nD Cert.GlaGateIdeal.τ).loc Cert.GlaGateIdeal.main_arg3) = m ((c.tc : Thread Cert.GlaGateIdeal.nD Cert.GlaGateIdeal.τ).loc Cert.GlaGateIdeal.main_arg3))
      ∧ θ_run (Cert.GlaGateRefIdeal.defs (F := Ideal)) (onTc (τ := Cert.GlaGateRefIdeal.τ) (Cert.GlaGateRefIdeal.main (F := Ideal))) ⟨m', fun _ => 0, g'⟩ (fun r => ∀ c : Dev Cert.GlaGateRefIdeal.nD,
          r.2.mem ((c.tc : Thread Cert.GlaGateRefIdeal.nD Cert.GlaGateRefIdeal.τ).loc Cert.GlaGateRefIdeal.main_v10) = v0 c
          ∧ r.2.mem ((c.tc : Thread Cert.GlaGateRefIdeal.nD Cert.GlaGateRefIdeal.τ).loc Cert.GlaGateRefIdeal.main_v21) = v1 c
          ∧ r.2.mem ((c.tc : Thread Cert.GlaGateRefIdeal.nD Cert.GlaGateRefIdeal.τ).loc Cert.GlaGateRefIdeal.main_arg0) = m' ((c.tc : Thread Cert.GlaGateRefIdeal.nD Cert.GlaGateRefIdeal.τ).loc Cert.GlaGateRefIdeal.main_arg0)
          ∧ r.2.mem ((c.tc : Thread Cert.GlaGateRefIdeal.nD Cert.GlaGateRefIdeal.τ).loc Cert.GlaGateRefIdeal.main_arg1) = m' ((c.tc : Thread Cert.GlaGateRefIdeal.nD Cert.GlaGateRefIdeal.τ).loc Cert.GlaGateRefIdeal.main_arg1)
          ∧ r.2.mem ((c.tc : Thread Cert.GlaGateRefIdeal.nD Cert.GlaGateRefIdeal.τ).loc Cert.GlaGateRefIdeal.main_arg2) = m' ((c.tc : Thread Cert.GlaGateRefIdeal.nD Cert.GlaGateRefIdeal.τ).loc Cert.GlaGateRefIdeal.main_arg2)
          ∧ r.2.mem ((c.tc : Thread Cert.GlaGateRefIdeal.nD Cert.GlaGateRefIdeal.τ).loc Cert.GlaGateRefIdeal.main_arg3) = m' ((c.tc : Thread Cert.GlaGateRefIdeal.nD Cert.GlaGateRefIdeal.τ).loc Cert.GlaGateRefIdeal.main_arg3))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)) →
    ∃ (v0 : (c : Dev Cert.MergeOutIdeal.nD) → Buf (Elt Ideal) ((c.tc : Thread Cert.MergeOutIdeal.nD Cert.MergeOutIdeal.τ).loc Cert.MergeOutIdeal.main_v1)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v1) = v0 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v25) = v0 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v9_0)) (v1 : (c : Dev Cert.FfnUpIdeal.nD) → Buf (Elt Ideal) ((c.tc : Thread Cert.FfnUpIdeal.nD Cert.FfnUpIdeal.τ).loc Cert.FfnUpIdeal.main_v9_1)) (v2 : (c : Dev Cert.FfnUpIdeal.nD) → Buf (Elt Ideal) ((c.tc : Thread Cert.FfnUpIdeal.nD Cert.FfnUpIdeal.τ).loc Cert.FfnUpIdeal.main_v9_2)) (v3 : (c : Dev Cert.FfnUpIdeal.nD) → Buf (Elt Ideal) ((c.tc : Thread Cert.FfnUpIdeal.nD Cert.FfnUpIdeal.τ).loc Cert.FfnUpIdeal.main_v9_3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v9_0) = v0 c
          ∧ r.2.mem ((c.tc : Thread Cert.FfnUpIdeal.nD Cert.FfnUpIdeal.τ).loc Cert.FfnUpIdeal.main_v9_1) = v1 c
          ∧ r.2.mem ((c.tc : Thread Cert.FfnUpIdeal.nD Cert.FfnUpIdeal.τ).loc Cert.FfnUpIdeal.main_v9_2) = v2 c
          ∧ r.2.mem ((c.tc : Thread Cert.FfnUpIdeal.nD Cert.FfnUpIdeal.τ).loc Cert.FfnUpIdeal.main_v9_3) = v3 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v19) = v0 c
          ∧ r.2.mem ((c.tc : Thread Cert.FfnUpRefIdeal.nD Cert.FfnUpRefIdeal.τ).loc Cert.FfnUpRefIdeal.main_v22) = v1 c
          ∧ r.2.mem ((c.tc : Thread Cert.FfnUpRefIdeal.nD Cert.FfnUpRefIdeal.τ).loc Cert.FfnUpRefIdeal.main_v25) = v2 c
          ∧ r.2.mem ((c.tc : Thread Cert.FfnUpRefIdeal.nD Cert.FfnUpRefIdeal.τ).loc Cert.FfnUpRefIdeal.main_v30) = v3 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)) →
    ∃ (v0 : (c : Dev Cert.MixInIdeal.nD) → Buf (Elt Ideal) ((c.tc : Thread Cert.MixInIdeal.nD Cert.MixInIdeal.τ).loc Cert.MixInIdeal.main_v9_0)) (v1 : (c : Dev Cert.MixInIdeal.nD) → Buf (Elt Ideal) ((c.tc : Thread Cert.MixInIdeal.nD Cert.MixInIdeal.τ).loc Cert.MixInIdeal.main_v9_1)) (v2 : (c : Dev Cert.MixInIdeal.nD) → Buf (Elt Ideal) ((c.tc : Thread Cert.MixInIdeal.nD Cert.MixInIdeal.τ).loc Cert.MixInIdeal.main_v9_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v9_0) = v0 c
          ∧ r.2.mem ((c.tc : Thread Cert.MixInIdeal.nD Cert.MixInIdeal.τ).loc Cert.MixInIdeal.main_v9_1) = v1 c
          ∧ r.2.mem ((c.tc : Thread Cert.MixInIdeal.nD Cert.MixInIdeal.τ).loc Cert.MixInIdeal.main_v9_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v19) = v0 c
          ∧ r.2.mem ((c.tc : Thread Cert.MixInRefIdeal.nD Cert.MixInRefIdeal.τ).loc Cert.MixInRefIdeal.main_v20) = v1 c
          ∧ r.2.mem ((c.tc : Thread Cert.MixInRefIdeal.nD Cert.MixInRefIdeal.τ).loc Cert.MixInRefIdeal.main_v22) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v7)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v7) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v10) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v6)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v6) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_MixDz_MixDzIdeal : Prop :=
  True

def algebraic_MixDzIdeal_MixDzRefIdeal [hMixDzIdeal : Cert.MixDzIdeal.Facts] [hMixDzRefIdeal : Cert.MixDzRefIdeal.Facts] : Prop :=
  ∀ (m : (ℓ : Loc Cert.MixDzIdeal.nD Cert.MixDzIdeal.τ Cert.MixDzIdeal.sig) → Buf (Elt Ideal) ℓ) (g : Dev Cert.MixDzIdeal.nD → PrngReg)
    (m' : (ℓ : Loc Cert.MixDzRefIdeal.nD Cert.MixDzRefIdeal.τ Cert.MixDzRefIdeal.sig) → Buf (Elt Ideal) ℓ) (g' : Dev Cert.MixDzRefIdeal.nD → PrngReg), Pre_MixDzIdeal m →
    (∀ c : Dev Cert.MixDzIdeal.nD,
      m' ((c.tc : Thread Cert.MixDzRefIdeal.nD Cert.MixDzRefIdeal.τ).loc Cert.MixDzRefIdeal.main_arg0) = m ((c.tc : Thread Cert.MixDzIdeal.nD Cert.MixDzIdeal.τ).loc Cert.MixDzIdeal.main_arg0)
      ∧ m' ((c.tc : Thread Cert.MixDzRefIdeal.nD Cert.MixDzRefIdeal.τ).loc Cert.MixDzRefIdeal.main_arg1) = m ((c.tc : Thread Cert.MixDzIdeal.nD Cert.MixDzIdeal.τ).loc Cert.MixDzIdeal.main_arg1)
      ∧ m' ((c.tc : Thread Cert.MixDzRefIdeal.nD Cert.MixDzRefIdeal.τ).loc Cert.MixDzRefIdeal.main_arg2) = m ((c.tc : Thread Cert.MixDzIdeal.nD Cert.MixDzIdeal.τ).loc Cert.MixDzIdeal.main_arg2)
      ∧ m' ((c.tc : Thread Cert.MixDzRefIdeal.nD Cert.MixDzRefIdeal.τ).loc Cert.MixDzRefIdeal.main_arg3) = m ((c.tc : Thread Cert.MixDzIdeal.nD Cert.MixDzIdeal.τ).loc Cert.MixDzIdeal.main_arg3)
      ∧ m' ((c.tc : Thread Cert.MixDzRefIdeal.nD Cert.MixDzRefIdeal.τ).loc Cert.MixDzRefIdeal.main_arg4) = m ((c.tc : Thread Cert.MixDzIdeal.nD Cert.MixDzIdeal.τ).loc Cert.MixDzIdeal.main_arg4)
      ∧ m' ((c.tc : Thread Cert.MixDzRefIdeal.nD Cert.MixDzRefIdeal.τ).loc Cert.MixDzRefIdeal.main_arg5) = m ((c.tc : Thread Cert.MixDzIdeal.nD Cert.MixDzIdeal.τ).loc Cert.MixDzIdeal.main_arg5)
      ∧ m' ((c.tc : Thread Cert.MixDzRefIdeal.nD Cert.MixDzRefIdeal.τ).loc Cert.MixDzRefIdeal.main_arg6) = m ((c.tc : Thread Cert.MixDzIdeal.nD Cert.MixDzIdeal.τ).loc Cert.MixDzIdeal.main_arg6)
      ∧ m' ((c.tc : Thread Cert.MixDzRefIdeal.nD Cert.MixDzRefIdeal.τ).loc Cert.MixDzRefIdeal.main_arg7) = m ((c.tc : Thread Cert.MixDzIdeal.nD Cert.MixDzIdeal.τ).loc Cert.MixDzIdeal.main_arg7)
      ∧ m' ((c.tc : Thread Cert.MixDzRefIdeal.nD Cert.MixDzRefIdeal.τ).loc Cert.MixDzRefIdeal.main_arg8) = m ((c.tc : Thread Cert.MixDzIdeal.nD Cert.MixDzIdeal.τ).loc Cert.MixDzIdeal.main_arg8)
      ∧ m' ((c.tc : Thread Cert.MixDzRefIdeal.nD Cert.MixDzRefIdeal.τ).loc Cert.MixDzRefIdeal.main_arg9) = m ((c.tc : Thread Cert.MixDzIdeal.nD Cert.MixDzIdeal.τ).loc Cert.MixDzIdeal.main_arg9)
      ∧ m' ((c.tc : Thread Cert.MixDzRefIdeal.nD Cert.MixDzRefIdeal.τ).loc Cert.MixDzRefIdeal.main_arg10) = m ((c.tc : Thread Cert.MixDzIdeal.nD Cert.MixDzIdeal.τ).loc Cert.MixDzIdeal.main_arg10)
      ∧ m' ((c.tc : Thread Cert.MixDzRefIdeal.nD Cert.MixDzRefIdeal.τ).loc Cert.MixDzRefIdeal.main_arg11) = m ((c.tc : Thread Cert.MixDzIdeal.nD Cert.MixDzIdeal.τ).loc Cert.MixDzIdeal.main_arg11)) →
    ∃ (v0 : (c : Dev Cert.MixDzIdeal.nD) → Buf (Elt Ideal) ((c.tc : Thread Cert.MixDzIdeal.nD Cert.MixDzIdeal.τ).loc Cert.MixDzIdeal.main_v2)),
      θ_run (Cert.MixDzIdeal.defs (F := Ideal)) (onTc (τ := Cert.MixDzIdeal.τ) (Cert.MixDzIdeal.main (F := Ideal))) ⟨m, fun _ => 0, g⟩ (fun r => ∀ c : Dev Cert.MixDzIdeal.nD,
          r.2.mem ((c.tc : Thread Cert.MixDzIdeal.nD Cert.MixDzIdeal.τ).loc Cert.MixDzIdeal.main_v2) = v0 c
          ∧ r.2.mem ((c.tc : Thread Cert.MixDzIdeal.nD Cert.MixDzIdeal.τ).loc Cert.MixDzIdeal.main_arg0) = m ((c.tc : Thread Cert.MixDzIdeal.nD Cert.MixDzIdeal.τ).loc Cert.MixDzIdeal.main_arg0)
          ∧ r.2.mem ((c.tc : Thread Cert.MixDzIdeal.nD Cert.MixDzIdeal.τ).loc Cert.MixDzIdeal.main_arg1) = m ((c.tc : Thread Cert.MixDzIdeal.nD Cert.MixDzIdeal.τ).loc Cert.MixDzIdeal.main_arg1)
          ∧ r.2.mem ((c.tc : Thread Cert.MixDzIdeal.nD Cert.MixDzIdeal.τ).loc Cert.MixDzIdeal.main_arg2) = m ((c.tc : Thread Cert.MixDzIdeal.nD Cert.MixDzIdeal.τ).loc Cert.MixDzIdeal.main_arg2)
          ∧ r.2.mem ((c.tc : Thread Cert.MixDzIdeal.nD Cert.MixDzIdeal.τ).loc Cert.MixDzIdeal.main_arg3) = m ((c.tc : Thread Cert.MixDzIdeal.nD Cert.MixDzIdeal.τ).loc Cert.MixDzIdeal.main_arg3)
          ∧ r.2.mem ((c.tc : Thread Cert.MixDzIdeal.nD Cert.MixDzIdeal.τ).loc Cert.MixDzIdeal.main_arg4) = m ((c.tc : Thread Cert.MixDzIdeal.nD Cert.MixDzIdeal.τ).loc Cert.MixDzIdeal.main_arg4)
          ∧ r.2.mem ((c.tc : Thread Cert.MixDzIdeal.nD Cert.MixDzIdeal.τ).loc Cert.MixDzIdeal.main_arg5) = m ((c.tc : Thread Cert.MixDzIdeal.nD Cert.MixDzIdeal.τ).loc Cert.MixDzIdeal.main_arg5)
          ∧ r.2.mem ((c.tc : Thread Cert.MixDzIdeal.nD Cert.MixDzIdeal.τ).loc Cert.MixDzIdeal.main_arg6) = m ((c.tc : Thread Cert.MixDzIdeal.nD Cert.MixDzIdeal.τ).loc Cert.MixDzIdeal.main_arg6)
          ∧ r.2.mem ((c.tc : Thread Cert.MixDzIdeal.nD Cert.MixDzIdeal.τ).loc Cert.MixDzIdeal.main_arg7) = m ((c.tc : Thread Cert.MixDzIdeal.nD Cert.MixDzIdeal.τ).loc Cert.MixDzIdeal.main_arg7)
          ∧ r.2.mem ((c.tc : Thread Cert.MixDzIdeal.nD Cert.MixDzIdeal.τ).loc Cert.MixDzIdeal.main_arg8) = m ((c.tc : Thread Cert.MixDzIdeal.nD Cert.MixDzIdeal.τ).loc Cert.MixDzIdeal.main_arg8)
          ∧ r.2.mem ((c.tc : Thread Cert.MixDzIdeal.nD Cert.MixDzIdeal.τ).loc Cert.MixDzIdeal.main_arg9) = m ((c.tc : Thread Cert.MixDzIdeal.nD Cert.MixDzIdeal.τ).loc Cert.MixDzIdeal.main_arg9)
          ∧ r.2.mem ((c.tc : Thread Cert.MixDzIdeal.nD Cert.MixDzIdeal.τ).loc Cert.MixDzIdeal.main_arg10) = m ((c.tc : Thread Cert.MixDzIdeal.nD Cert.MixDzIdeal.τ).loc Cert.MixDzIdeal.main_arg10)
          ∧ r.2.mem ((c.tc : Thread Cert.MixDzIdeal.nD Cert.MixDzIdeal.τ).loc Cert.MixDzIdeal.main_arg11) = m ((c.tc : Thread Cert.MixDzIdeal.nD Cert.MixDzIdeal.τ).loc Cert.MixDzIdeal.main_arg11))
      ∧ θ_run (Cert.MixDzRefIdeal.defs (F := Ideal)) (onTc (τ := Cert.MixDzRefIdeal.τ) (Cert.MixDzRefIdeal.main (F := Ideal))) ⟨m', fun _ => 0, g'⟩ (fun r => ∀ c : Dev Cert.MixDzRefIdeal.nD,
          r.2.mem ((c.tc : Thread Cert.MixDzRefIdeal.nD Cert.MixDzRefIdeal.τ).loc Cert.MixDzRefIdeal.main_v9) = v0 c
          ∧ r.2.mem ((c.tc : Thread Cert.MixDzRefIdeal.nD Cert.MixDzRefIdeal.τ).loc Cert.MixDzRefIdeal.main_arg0) = m' ((c.tc : Thread Cert.MixDzRefIdeal.nD Cert.MixDzRefIdeal.τ).loc Cert.MixDzRefIdeal.main_arg0)
          ∧ r.2.mem ((c.tc : Thread Cert.MixDzRefIdeal.nD Cert.MixDzRefIdeal.τ).loc Cert.MixDzRefIdeal.main_arg1) = m' ((c.tc : Thread Cert.MixDzRefIdeal.nD Cert.MixDzRefIdeal.τ).loc Cert.MixDzRefIdeal.main_arg1)
          ∧ r.2.mem ((c.tc : Thread Cert.MixDzRefIdeal.nD Cert.MixDzRefIdeal.τ).loc Cert.MixDzRefIdeal.main_arg2) = m' ((c.tc : Thread Cert.MixDzRefIdeal.nD Cert.MixDzRefIdeal.τ).loc Cert.MixDzRefIdeal.main_arg2)
          ∧ r.2.mem ((c.tc : Thread Cert.MixDzRefIdeal.nD Cert.MixDzRefIdeal.τ).loc Cert.MixDzRefIdeal.main_arg3) = m' ((c.tc : Thread Cert.MixDzRefIdeal.nD Cert.MixDzRefIdeal.τ).loc Cert.MixDzRefIdeal.main_arg3)
          ∧ r.2.mem ((c.tc : Thread Cert.MixDzRefIdeal.nD Cert.MixDzRefIdeal.τ).loc Cert.MixDzRefIdeal.main_arg4) = m' ((c.tc : Thread Cert.MixDzRefIdeal.nD Cert.MixDzRefIdeal.τ).loc Cert.MixDzRefIdeal.main_arg4)
          ∧ r.2.mem ((c.tc : Thread Cert.MixDzRefIdeal.nD Cert.MixDzRefIdeal.τ).loc Cert.MixDzRefIdeal.main_arg5) = m' ((c.tc : Thread Cert.MixDzRefIdeal.nD Cert.MixDzRefIdeal.τ).loc Cert.MixDzRefIdeal.main_arg5)
          ∧ r.2.mem ((c.tc : Thread Cert.MixDzRefIdeal.nD Cert.MixDzRefIdeal.τ).loc Cert.MixDzRefIdeal.main_arg6) = m' ((c.tc : Thread Cert.MixDzRefIdeal.nD Cert.MixDzRefIdeal.τ).loc Cert.MixDzRefIdeal.main_arg6)
          ∧ r.2.mem ((c.tc : Thread Cert.MixDzRefIdeal.nD Cert.MixDzRefIdeal.τ).loc Cert.MixDzRefIdeal.main_arg7) = m' ((c.tc : Thread Cert.MixDzRefIdeal.nD Cert.MixDzRefIdeal.τ).loc Cert.MixDzRefIdeal.main_arg7)
          ∧ r.2.mem ((c.tc : Thread Cert.MixDzRefIdeal.nD Cert.MixDzRefIdeal.τ).loc Cert.MixDzRefIdeal.main_arg8) = m' ((c.tc : Thread Cert.MixDzRefIdeal.nD Cert.MixDzRefIdeal.τ).loc Cert.MixDzRefIdeal.main_arg8)
          ∧ r.2.mem ((c.tc : Thread Cert.MixDzRefIdeal.nD Cert.MixDzRefIdeal.τ).loc Cert.MixDzRefIdeal.main_arg9) = m' ((c.tc : Thread Cert.MixDzRefIdeal.nD Cert.MixDzRefIdeal.τ).loc Cert.MixDzRefIdeal.main_arg9)
          ∧ r.2.mem ((c.tc : Thread Cert.MixDzRefIdeal.nD Cert.MixDzRefIdeal.τ).loc Cert.MixDzRefIdeal.main_arg10) = m' ((c.tc : Thread Cert.MixDzRefIdeal.nD Cert.MixDzRefIdeal.τ).loc Cert.MixDzRefIdeal.main_arg10)
          ∧ r.2.mem ((c.tc : Thread Cert.MixDzRefIdeal.nD Cert.MixDzRefIdeal.τ).loc Cert.MixDzRefIdeal.main_arg11) = m' ((c.tc : Thread Cert.MixDzRefIdeal.nD Cert.MixDzRefIdeal.τ).loc Cert.MixDzRefIdeal.main_arg11))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)
      ∧ m' ((c.tc : Thread Cert.FfnDwRefIdeal.nD Cert.FfnDwRefIdeal.τ).loc Cert.FfnDwRefIdeal.main_arg2) = m ((c.tc : Thread Cert.FfnDwIdeal.nD Cert.FfnDwIdeal.τ).loc Cert.FfnDwIdeal.main_arg2)) →
    ∃ (v0 : (c : Dev Cert.FfnDwIdeal.nD) → Buf (Elt Ideal) ((c.tc : Thread Cert.FfnDwIdeal.nD Cert.FfnDwIdeal.τ).loc Cert.FfnDwIdeal.main_v5)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v5) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
          ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v11) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1)
          ∧ r.2.mem ((c.tc : Thread Cert.FfnDwRefIdeal.nD Cert.FfnDwRefIdeal.τ).loc Cert.FfnDwRefIdeal.main_arg2) = m' ((c.tc : Thread Cert.FfnDwRefIdeal.nD Cert.FfnDwRefIdeal.τ).loc Cert.FfnDwRefIdeal.main_arg2))

def preserves_Dwgate_DwgateIdeal : Prop :=
  True

def algebraic_DwgateIdeal_DwgateRefIdeal [hDwgateIdeal : Cert.DwgateIdeal.Facts] [hDwgateRefIdeal : Cert.DwgateRefIdeal.Facts] : Prop :=
  ∀ (m : (ℓ : Loc Cert.DwgateIdeal.nD Cert.DwgateIdeal.τ Cert.DwgateIdeal.sig) → Buf (Elt Ideal) ℓ) (g : Dev Cert.DwgateIdeal.nD → PrngReg)
    (m' : (ℓ : Loc Cert.DwgateRefIdeal.nD Cert.DwgateRefIdeal.τ Cert.DwgateRefIdeal.sig) → Buf (Elt Ideal) ℓ) (g' : Dev Cert.DwgateRefIdeal.nD → PrngReg), Pre_DwgateIdeal m →
    (∀ c : Dev Cert.DwgateIdeal.nD,
      m' ((c.tc : Thread Cert.DwgateRefIdeal.nD Cert.DwgateRefIdeal.τ).loc Cert.DwgateRefIdeal.main_arg0) = m ((c.tc : Thread Cert.DwgateIdeal.nD Cert.DwgateIdeal.τ).loc Cert.DwgateIdeal.main_arg0)
      ∧ m' ((c.tc : Thread Cert.DwgateRefIdeal.nD Cert.DwgateRefIdeal.τ).loc Cert.DwgateRefIdeal.main_arg1) = m ((c.tc : Thread Cert.DwgateIdeal.nD Cert.DwgateIdeal.τ).loc Cert.DwgateIdeal.main_arg1)) →
    ∃ (v0 : (c : Dev Cert.DwgateIdeal.nD) → Buf (Elt Ideal) ((c.tc : Thread Cert.DwgateIdeal.nD Cert.DwgateIdeal.τ).loc Cert.DwgateIdeal.main_v2)),
      θ_run (Cert.DwgateIdeal.defs (F := Ideal)) (onTc (τ := Cert.DwgateIdeal.τ) (Cert.DwgateIdeal.main (F := Ideal))) ⟨m, fun _ => 0, g⟩ (fun r => ∀ c : Dev Cert.DwgateIdeal.nD,
          r.2.mem ((c.tc : Thread Cert.DwgateIdeal.nD Cert.DwgateIdeal.τ).loc Cert.DwgateIdeal.main_v2) = v0 c
          ∧ r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
          ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1))
      ∧ θ_run (Cert.DwgateRefIdeal.defs (F := Ideal)) (onTc (τ := Cert.DwgateRefIdeal.τ) (Cert.DwgateRefIdeal.main (F := Ideal))) ⟨m', fun _ => 0, g'⟩ (fun r => ∀ c : Dev Cert.DwgateRefIdeal.nD,
          r.2.mem ((c.tc : Thread Cert.DwgateRefIdeal.nD Cert.DwgateRefIdeal.τ).loc Cert.DwgateRefIdeal.main_v4) = v0 c
          ∧ r.2.mem ((c.tc : Thread Cert.DwgateRefIdeal.nD Cert.DwgateRefIdeal.τ).loc Cert.DwgateRefIdeal.main_arg0) = m' ((c.tc : Thread Cert.DwgateRefIdeal.nD Cert.DwgateRefIdeal.τ).loc Cert.DwgateRefIdeal.main_arg0)
          ∧ r.2.mem ((c.tc : Thread Cert.DwgateRefIdeal.nD Cert.DwgateRefIdeal.τ).loc Cert.DwgateRefIdeal.main_arg1) = m' ((c.tc : Thread Cert.DwgateRefIdeal.nD Cert.DwgateRefIdeal.τ).loc Cert.DwgateRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v2) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v4) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dbranch_DbranchIdeal : Prop :=
  True

def algebraic_DbranchIdeal_DbranchRefIdeal [hDbranchIdeal : Cert.DbranchIdeal.Facts] [hDbranchRefIdeal : Cert.DbranchRefIdeal.Facts] : Prop :=
  ∀ (m : (ℓ : Loc Cert.DbranchIdeal.nD Cert.DbranchIdeal.τ Cert.DbranchIdeal.sig) → Buf (Elt Ideal) ℓ) (g : Dev Cert.DbranchIdeal.nD → PrngReg)
    (m' : (ℓ : Loc Cert.DbranchRefIdeal.nD Cert.DbranchRefIdeal.τ Cert.DbranchRefIdeal.sig) → Buf (Elt Ideal) ℓ) (g' : Dev Cert.DbranchRefIdeal.nD → PrngReg), Pre_DbranchIdeal m →
    (∀ c : Dev Cert.DbranchIdeal.nD,
      m' ((c.tc : Thread Cert.DbranchRefIdeal.nD Cert.DbranchRefIdeal.τ).loc Cert.DbranchRefIdeal.main_arg0) = m ((c.tc : Thread Cert.DbranchIdeal.nD Cert.DbranchIdeal.τ).loc Cert.DbranchIdeal.main_arg0)
      ∧ m' ((c.tc : Thread Cert.DbranchRefIdeal.nD Cert.DbranchRefIdeal.τ).loc Cert.DbranchRefIdeal.main_arg1) = m ((c.tc : Thread Cert.DbranchIdeal.nD Cert.DbranchIdeal.τ).loc Cert.DbranchIdeal.main_arg1)) →
    ∃ (v0 : (c : Dev Cert.DbranchIdeal.nD) → Buf (Elt Ideal) ((c.tc : Thread Cert.DbranchIdeal.nD Cert.DbranchIdeal.τ).loc Cert.DbranchIdeal.main_v2)),
      θ_run (Cert.DbranchIdeal.defs (F := Ideal)) (onTc (τ := Cert.DbranchIdeal.τ) (Cert.DbranchIdeal.main (F := Ideal))) ⟨m, fun _ => 0, g⟩ (fun r => ∀ c : Dev Cert.DbranchIdeal.nD,
          r.2.mem ((c.tc : Thread Cert.DbranchIdeal.nD Cert.DbranchIdeal.τ).loc Cert.DbranchIdeal.main_v2) = v0 c
          ∧ r.2.mem ((c.tc : Thread Cert.DbranchIdeal.nD Cert.DbranchIdeal.τ).loc Cert.DbranchIdeal.main_arg0) = m ((c.tc : Thread Cert.DbranchIdeal.nD Cert.DbranchIdeal.τ).loc Cert.DbranchIdeal.main_arg0)
          ∧ r.2.mem ((c.tc : Thread Cert.DbranchIdeal.nD Cert.DbranchIdeal.τ).loc Cert.DbranchIdeal.main_arg1) = m ((c.tc : Thread Cert.DbranchIdeal.nD Cert.DbranchIdeal.τ).loc Cert.DbranchIdeal.main_arg1))
      ∧ θ_run (Cert.DbranchRefIdeal.defs (F := Ideal)) (onTc (τ := Cert.DbranchRefIdeal.τ) (Cert.DbranchRefIdeal.main (F := Ideal))) ⟨m', fun _ => 0, g'⟩ (fun r => ∀ c : Dev Cert.DbranchRefIdeal.nD,
          r.2.mem ((c.tc : Thread Cert.DbranchRefIdeal.nD Cert.DbranchRefIdeal.τ).loc Cert.DbranchRefIdeal.main_v4) = v0 c
          ∧ r.2.mem ((c.tc : Thread Cert.DbranchRefIdeal.nD Cert.DbranchRefIdeal.τ).loc Cert.DbranchRefIdeal.main_arg0) = m' ((c.tc : Thread Cert.DbranchRefIdeal.nD Cert.DbranchRefIdeal.τ).loc Cert.DbranchRefIdeal.main_arg0)
          ∧ r.2.mem ((c.tc : Thread Cert.DbranchRefIdeal.nD Cert.DbranchRefIdeal.τ).loc Cert.DbranchRefIdeal.main_arg1) = m' ((c.tc : Thread Cert.DbranchRefIdeal.nD Cert.DbranchRefIdeal.τ).loc Cert.DbranchRefIdeal.main_arg1))

def preserves_DbranchAt_DbranchAtIdeal : Prop :=
  True

def algebraic_DbranchAtIdeal_DbranchAtRefIdeal [hDbranchAtIdeal : Cert.DbranchAtIdeal.Facts] [hDbranchAtRefIdeal : Cert.DbranchAtRefIdeal.Facts] : Prop :=
  ∀ (m : (ℓ : Loc Cert.DbranchAtIdeal.nD Cert.DbranchAtIdeal.τ Cert.DbranchAtIdeal.sig) → Buf (Elt Ideal) ℓ) (g : Dev Cert.DbranchAtIdeal.nD → PrngReg)
    (m' : (ℓ : Loc Cert.DbranchAtRefIdeal.nD Cert.DbranchAtRefIdeal.τ Cert.DbranchAtRefIdeal.sig) → Buf (Elt Ideal) ℓ) (g' : Dev Cert.DbranchAtRefIdeal.nD → PrngReg), Pre_DbranchAtIdeal m →
    (∀ c : Dev Cert.DbranchAtIdeal.nD,
      m' ((c.tc : Thread Cert.DbranchAtRefIdeal.nD Cert.DbranchAtRefIdeal.τ).loc Cert.DbranchAtRefIdeal.main_arg0) = m ((c.tc : Thread Cert.DbranchAtIdeal.nD Cert.DbranchAtIdeal.τ).loc Cert.DbranchAtIdeal.main_arg0)
      ∧ m' ((c.tc : Thread Cert.DbranchAtRefIdeal.nD Cert.DbranchAtRefIdeal.τ).loc Cert.DbranchAtRefIdeal.main_arg1) = m ((c.tc : Thread Cert.DbranchAtIdeal.nD Cert.DbranchAtIdeal.τ).loc Cert.DbranchAtIdeal.main_arg1)) →
    ∃ (v0 : (c : Dev Cert.DbranchAtIdeal.nD) → Buf (Elt Ideal) ((c.tc : Thread Cert.DbranchAtIdeal.nD Cert.DbranchAtIdeal.τ).loc Cert.DbranchAtIdeal.main_v1)),
      θ_run (Cert.DbranchAtIdeal.defs (F := Ideal)) (onTc (τ := Cert.DbranchAtIdeal.τ) (Cert.DbranchAtIdeal.main (F := Ideal))) ⟨m, fun _ => 0, g⟩ (fun r => ∀ c : Dev Cert.DbranchAtIdeal.nD,
          r.2.mem ((c.tc : Thread Cert.DbranchAtIdeal.nD Cert.DbranchAtIdeal.τ).loc Cert.DbranchAtIdeal.main_v1) = v0 c
          ∧ r.2.mem ((c.tc : Thread Cert.DbranchAtIdeal.nD Cert.DbranchAtIdeal.τ).loc Cert.DbranchAtIdeal.main_arg0) = m ((c.tc : Thread Cert.DbranchAtIdeal.nD Cert.DbranchAtIdeal.τ).loc Cert.DbranchAtIdeal.main_arg0)
          ∧ r.2.mem ((c.tc : Thread Cert.DbranchAtIdeal.nD Cert.DbranchAtIdeal.τ).loc Cert.DbranchAtIdeal.main_arg1) = m ((c.tc : Thread Cert.DbranchAtIdeal.nD Cert.DbranchAtIdeal.τ).loc Cert.DbranchAtIdeal.main_arg1))
      ∧ θ_run (Cert.DbranchAtRefIdeal.defs (F := Ideal)) (onTc (τ := Cert.DbranchAtRefIdeal.τ) (Cert.DbranchAtRefIdeal.main (F := Ideal))) ⟨m', fun _ => 0, g'⟩ (fun r => ∀ c : Dev Cert.DbranchAtRefIdeal.nD,
          r.2.mem ((c.tc : Thread Cert.DbranchAtRefIdeal.nD Cert.DbranchAtRefIdeal.τ).loc Cert.DbranchAtRefIdeal.main_v4) = v0 c
          ∧ r.2.mem ((c.tc : Thread Cert.DbranchAtRefIdeal.nD Cert.DbranchAtRefIdeal.τ).loc Cert.DbranchAtRefIdeal.main_arg0) = m' ((c.tc : Thread Cert.DbranchAtRefIdeal.nD Cert.DbranchAtRefIdeal.τ).loc Cert.DbranchAtRefIdeal.main_arg0)
          ∧ r.2.mem ((c.tc : Thread Cert.DbranchAtRefIdeal.nD Cert.DbranchAtRefIdeal.τ).loc Cert.DbranchAtRefIdeal.main_arg1) = m' ((c.tc : Thread Cert.DbranchAtRefIdeal.nD Cert.DbranchAtRefIdeal.τ).loc Cert.DbranchAtRefIdeal.main_arg1))

def preserves_Dglu_DgluIdeal : Prop :=
  True

def algebraic_DgluIdeal_DgluRefIdeal [hDgluIdeal : Cert.DgluIdeal.Facts] [hDgluRefIdeal : Cert.DgluRefIdeal.Facts] : Prop :=
  ∀ (m : (ℓ : Loc Cert.DgluIdeal.nD Cert.DgluIdeal.τ Cert.DgluIdeal.sig) → Buf (Elt Ideal) ℓ) (g : Dev Cert.DgluIdeal.nD → PrngReg)
    (m' : (ℓ : Loc Cert.DgluRefIdeal.nD Cert.DgluRefIdeal.τ Cert.DgluRefIdeal.sig) → Buf (Elt Ideal) ℓ) (g' : Dev Cert.DgluRefIdeal.nD → PrngReg), Pre_DgluIdeal m →
    (∀ c : Dev Cert.DgluIdeal.nD,
      m' ((c.tc : Thread Cert.DgluRefIdeal.nD Cert.DgluRefIdeal.τ).loc Cert.DgluRefIdeal.main_arg0) = m ((c.tc : Thread Cert.DgluIdeal.nD Cert.DgluIdeal.τ).loc Cert.DgluIdeal.main_arg0)
      ∧ m' ((c.tc : Thread Cert.DgluRefIdeal.nD Cert.DgluRefIdeal.τ).loc Cert.DgluRefIdeal.main_arg1) = m ((c.tc : Thread Cert.DgluIdeal.nD Cert.DgluIdeal.τ).loc Cert.DgluIdeal.main_arg1)) →
    ∃ (v0 : (c : Dev Cert.DgluIdeal.nD) → Buf (Elt Ideal) ((c.tc : Thread Cert.DgluIdeal.nD Cert.DgluIdeal.τ).loc Cert.DgluIdeal.main_v2)),
      θ_run (Cert.DgluIdeal.defs (F := Ideal)) (onTc (τ := Cert.DgluIdeal.τ) (Cert.DgluIdeal.main (F := Ideal))) ⟨m, fun _ => 0, g⟩ (fun r => ∀ c : Dev Cert.DgluIdeal.nD,
          r.2.mem ((c.tc : Thread Cert.DgluIdeal.nD Cert.DgluIdeal.τ).loc Cert.DgluIdeal.main_v2) = v0 c
          ∧ r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
          ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1))
      ∧ θ_run (Cert.DgluRefIdeal.defs (F := Ideal)) (onTc (τ := Cert.DgluRefIdeal.τ) (Cert.DgluRefIdeal.main (F := Ideal))) ⟨m', fun _ => 0, g'⟩ (fun r => ∀ c : Dev Cert.DgluRefIdeal.nD,
          r.2.mem ((c.tc : Thread Cert.DgluRefIdeal.nD Cert.DgluRefIdeal.τ).loc Cert.DgluRefIdeal.main_v4) = v0 c
          ∧ r.2.mem ((c.tc : Thread Cert.DgluRefIdeal.nD Cert.DgluRefIdeal.τ).loc Cert.DgluRefIdeal.main_arg0) = m' ((c.tc : Thread Cert.DgluRefIdeal.nD Cert.DgluRefIdeal.τ).loc Cert.DgluRefIdeal.main_arg0)
          ∧ r.2.mem ((c.tc : Thread Cert.DgluRefIdeal.nD Cert.DgluRefIdeal.τ).loc Cert.DgluRefIdeal.main_arg1) = m' ((c.tc : Thread Cert.DgluRefIdeal.nD Cert.DgluRefIdeal.τ).loc Cert.DgluRefIdeal.main_arg1))

def preserves_FfnDwIn_FfnDwInIdeal : Prop :=
  True

def algebraic_FfnDwInIdeal_FfnDwInRefIdeal [hFfnDwInIdeal : Cert.FfnDwInIdeal.Facts] [hFfnDwInRefIdeal : Cert.FfnDwInRefIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInRefIdeal.nD Cert.FfnDwInRefIdeal.τ Cert.FfnDwInRefIdeal.sig) → Buf (Elt Ideal) ℓ) (g' : Dev Cert.FfnDwInRefIdeal.nD → PrngReg), Pre_FfnDwInIdeal m →
    (∀ c : Dev Cert.FfnDwInIdeal.nD,
      m' ((c.tc : Thread Cert.FfnDwInRefIdeal.nD Cert.FfnDwInRefIdeal.τ).loc Cert.FfnDwInRefIdeal.main_arg0) = m ((c.tc : Thread Cert.FfnDwInIdeal.nD Cert.FfnDwInIdeal.τ).loc Cert.FfnDwInIdeal.main_arg0)
      ∧ m' ((c.tc : Thread Cert.FfnDwInRefIdeal.nD Cert.FfnDwInRefIdeal.τ).loc Cert.FfnDwInRefIdeal.main_arg1) = m ((c.tc : Thread Cert.FfnDwInIdeal.nD Cert.FfnDwInIdeal.τ).loc Cert.FfnDwInIdeal.main_arg1)
      ∧ m' ((c.tc : Thread Cert.FfnDwInRefIdeal.nD Cert.FfnDwInRefIdeal.τ).loc Cert.FfnDwInRefIdeal.main_arg2) = m ((c.tc : Thread Cert.FfnDwInIdeal.nD Cert.FfnDwInIdeal.τ).loc Cert.FfnDwInIdeal.main_arg2)) →
    ∃ (v0 : (c : Dev Cert.FfnDwInIdeal.nD) → Buf (Elt Ideal) ((c.tc : Thread Cert.FfnDwInIdeal.nD Cert.FfnDwInIdeal.τ).loc Cert.FfnDwInIdeal.main_v5)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v5) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1)
          ∧ r.2.mem ((c.tc : Thread Cert.FfnDwInIdeal.nD Cert.FfnDwInIdeal.τ).loc Cert.FfnDwInIdeal.main_arg2) = m ((c.tc : Thread Cert.FfnDwInIdeal.nD Cert.FfnDwInIdeal.τ).loc Cert.FfnDwInIdeal.main_arg2))
      ∧ θ_run (Cert.FfnDwInRefIdeal.defs (F := Ideal)) (onTc (τ := Cert.FfnDwInRefIdeal.τ) (Cert.FfnDwInRefIdeal.main (F := Ideal))) ⟨m', fun _ => 0, g'⟩ (fun r => ∀ c : Dev Cert.FfnDwInRefIdeal.nD,
          r.2.mem ((c.tc : Thread Cert.FfnDwInRefIdeal.nD Cert.FfnDwInRefIdeal.τ).loc Cert.FfnDwInRefIdeal.main_v8) = v0 c
          ∧ r.2.mem ((c.tc : Thread Cert.FfnDwInRefIdeal.nD Cert.FfnDwInRefIdeal.τ).loc Cert.FfnDwInRefIdeal.main_arg0) = m' ((c.tc : Thread Cert.FfnDwInRefIdeal.nD Cert.FfnDwInRefIdeal.τ).loc Cert.FfnDwInRefIdeal.main_arg0)
          ∧ r.2.mem ((c.tc : Thread Cert.FfnDwInRefIdeal.nD Cert.FfnDwInRefIdeal.τ).loc Cert.FfnDwInRefIdeal.main_arg1) = m' ((c.tc : Thread Cert.FfnDwInRefIdeal.nD Cert.FfnDwInRefIdeal.τ).loc Cert.FfnDwInRefIdeal.main_arg1)
          ∧ r.2.mem ((c.tc : Thread Cert.FfnDwInRefIdeal.nD Cert.FfnDwInRefIdeal.τ).loc Cert.FfnDwInRefIdeal.main_arg2) = m' ((c.tc : Thread Cert.FfnDwInRefIdeal.nD Cert.FfnDwInRefIdeal.τ).loc Cert.FfnDwInRefIdeal.main_arg2))

def preserves_AdamwFfn_AdamwFfnIdeal : Prop :=
  True

def algebraic_AdamwFfnIdeal_AdamwFfnRefIdeal [hAdamwFfnIdeal : Cert.AdamwFfnIdeal.Facts] [hAdamwFfnRefIdeal : Cert.AdamwFfnRefIdeal.Facts] : Prop :=
  ∀ (m : (ℓ : Loc Cert.AdamwFfnIdeal.nD Cert.AdamwFfnIdeal.τ Cert.AdamwFfnIdeal.sig) → Buf (Elt Ideal) ℓ) (g : Dev Cert.AdamwFfnIdeal.nD → PrngReg)
    (m' : (ℓ : Loc Cert.AdamwFfnRefIdeal.nD Cert.AdamwFfnRefIdeal.τ Cert.AdamwFfnRefIdeal.sig) → Buf (Elt Ideal) ℓ) (g' : Dev Cert.AdamwFfnRefIdeal.nD → PrngReg), Pre_AdamwFfnIdeal m →
    (∀ c : Dev Cert.AdamwFfnIdeal.nD,
      m' ((c.tc : Thread Cert.AdamwFfnRefIdeal.nD Cert.AdamwFfnRefIdeal.τ).loc Cert.AdamwFfnRefIdeal.main_arg0) = m ((c.tc : Thread Cert.AdamwFfnIdeal.nD Cert.AdamwFfnIdeal.τ).loc Cert.AdamwFfnIdeal.main_arg0)
      ∧ m' ((c.tc : Thread Cert.AdamwFfnRefIdeal.nD Cert.AdamwFfnRefIdeal.τ).loc Cert.AdamwFfnRefIdeal.main_arg1) = m ((c.tc : Thread Cert.AdamwFfnIdeal.nD Cert.AdamwFfnIdeal.τ).loc Cert.AdamwFfnIdeal.main_arg1)
      ∧ m' ((c.tc : Thread Cert.AdamwFfnRefIdeal.nD Cert.AdamwFfnRefIdeal.τ).loc Cert.AdamwFfnRefIdeal.main_arg2) = m ((c.tc : Thread Cert.AdamwFfnIdeal.nD Cert.AdamwFfnIdeal.τ).loc Cert.AdamwFfnIdeal.main_arg2)
      ∧ m' ((c.tc : Thread Cert.AdamwFfnRefIdeal.nD Cert.AdamwFfnRefIdeal.τ).loc Cert.AdamwFfnRefIdeal.main_arg3) = m ((c.tc : Thread Cert.AdamwFfnIdeal.nD Cert.AdamwFfnIdeal.τ).loc Cert.AdamwFfnIdeal.main_arg3)) →
    ∃ (v0 : (c : Dev Cert.AdamwFfnIdeal.nD) → Buf (Elt Ideal) ((c.tc : Thread Cert.AdamwFfnIdeal.nD Cert.AdamwFfnIdeal.τ).loc Cert.AdamwFfnIdeal.main_v0_0)) (v1 : (c : Dev Cert.AdamwFfnIdeal.nD) → Buf (Elt Ideal) ((c.tc : Thread Cert.AdamwFfnIdeal.nD Cert.AdamwFfnIdeal.τ).loc Cert.AdamwFfnIdeal.main_v0_1)) (v2 : (c : Dev Cert.AdamwFfnIdeal.nD) → Buf (Elt Ideal) ((c.tc : Thread Cert.AdamwFfnIdeal.nD Cert.AdamwFfnIdeal.τ).loc Cert.AdamwFfnIdeal.main_v0_2)),
      θ_run (Cert.AdamwFfnIdeal.defs (F := Ideal)) (onTc (τ := Cert.AdamwFfnIdeal.τ) (Cert.AdamwFfnIdeal.main (F := Ideal))) ⟨m, fun _ => 0, g⟩ (fun r => ∀ c : Dev Cert.AdamwFfnIdeal.nD,
          r.2.mem ((c.tc : Thread Cert.AdamwFfnIdeal.nD Cert.AdamwFfnIdeal.τ).loc Cert.AdamwFfnIdeal.main_v0_0) = v0 c
          ∧ r.2.mem ((c.tc : Thread Cert.AdamwFfnIdeal.nD Cert.AdamwFfnIdeal.τ).loc Cert.AdamwFfnIdeal.main_v0_1) = v1 c
          ∧ r.2.mem ((c.tc : Thread Cert.AdamwFfnIdeal.nD Cert.AdamwFfnIdeal.τ).loc Cert.AdamwFfnIdeal.main_v0_2) = v2 c
          ∧ r.2.mem ((c.tc : Thread Cert.AdamwFfnIdeal.nD Cert.AdamwFfnIdeal.τ).loc Cert.AdamwFfnIdeal.main_arg0) = m ((c.tc : Thread Cert.AdamwFfnIdeal.nD Cert.AdamwFfnIdeal.τ).loc Cert.AdamwFfnIdeal.main_arg0)
          ∧ r.2.mem ((c.tc : Thread Cert.AdamwFfnIdeal.nD Cert.AdamwFfnIdeal.τ).loc Cert.AdamwFfnIdeal.main_arg1) = m ((c.tc : Thread Cert.AdamwFfnIdeal.nD Cert.AdamwFfnIdeal.τ).loc Cert.AdamwFfnIdeal.main_arg1)
          ∧ r.2.mem ((c.tc : Thread Cert.AdamwFfnIdeal.nD Cert.AdamwFfnIdeal.τ).loc Cert.AdamwFfnIdeal.main_arg2) = m ((c.tc : Thread Cert.AdamwFfnIdeal.nD Cert.AdamwFfnIdeal.τ).loc Cert.AdamwFfnIdeal.main_arg2)
          ∧ r.2.mem ((c.tc : Thread Cert.AdamwFfnIdeal.nD Cert.AdamwFfnIdeal.τ).loc Cert.AdamwFfnIdeal.main_arg3) = m ((c.tc : Thread Cert.AdamwFfnIdeal.nD Cert.AdamwFfnIdeal.τ).loc Cert.AdamwFfnIdeal.main_arg3))
      ∧ θ_run (Cert.AdamwFfnRefIdeal.defs (F := Ideal)) (onTc (τ := Cert.AdamwFfnRefIdeal.τ) (Cert.AdamwFfnRefIdeal.main (F := Ideal))) ⟨m', fun _ => 0, g'⟩ (fun r => ∀ c : Dev Cert.AdamwFfnRefIdeal.nD,
          r.2.mem ((c.tc : Thread Cert.AdamwFfnRefIdeal.nD Cert.AdamwFfnRefIdeal.τ).loc Cert.AdamwFfnRefIdeal.main_v23) = v0 c
          ∧ r.2.mem ((c.tc : Thread Cert.AdamwFfnRefIdeal.nD Cert.AdamwFfnRefIdeal.τ).loc Cert.AdamwFfnRefIdeal.main_v4) = v1 c
          ∧ r.2.mem ((c.tc : Thread Cert.AdamwFfnRefIdeal.nD Cert.AdamwFfnRefIdeal.τ).loc Cert.AdamwFfnRefIdeal.main_v10) = v2 c
          ∧ r.2.mem ((c.tc : Thread Cert.AdamwFfnRefIdeal.nD Cert.AdamwFfnRefIdeal.τ).loc Cert.AdamwFfnRefIdeal.main_arg0) = m' ((c.tc : Thread Cert.AdamwFfnRefIdeal.nD Cert.AdamwFfnRefIdeal.τ).loc Cert.AdamwFfnRefIdeal.main_arg0)
          ∧ r.2.mem ((c.tc : Thread Cert.AdamwFfnRefIdeal.nD Cert.AdamwFfnRefIdeal.τ).loc Cert.AdamwFfnRefIdeal.main_arg1) = m' ((c.tc : Thread Cert.AdamwFfnRefIdeal.nD Cert.AdamwFfnRefIdeal.τ).loc Cert.AdamwFfnRefIdeal.main_arg1)
          ∧ r.2.mem ((c.tc : Thread Cert.AdamwFfnRefIdeal.nD Cert.AdamwFfnRefIdeal.τ).loc Cert.AdamwFfnRefIdeal.main_arg2) = m' ((c.tc : Thread Cert.AdamwFfnRefIdeal.nD Cert.AdamwFfnRefIdeal.τ).loc Cert.AdamwFfnRefIdeal.main_arg2)
          ∧ r.2.mem ((c.tc : Thread Cert.AdamwFfnRefIdeal.nD Cert.AdamwFfnRefIdeal.τ).loc Cert.AdamwFfnRefIdeal.main_arg3) = m' ((c.tc : Thread Cert.AdamwFfnRefIdeal.nD Cert.AdamwFfnRefIdeal.τ).loc Cert.AdamwFfnRefIdeal.main_arg3))

def preserves_AdamwGate_AdamwGateIdeal : Prop :=
  True

def algebraic_AdamwGateIdeal_AdamwGateRefIdeal [hAdamwGateIdeal : Cert.AdamwGateIdeal.Facts] [hAdamwGateRefIdeal : Cert.AdamwGateRefIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg)
    (m' : (ℓ : Loc Cert.AdamwGateRefIdeal.nD Cert.AdamwGateRefIdeal.τ Cert.AdamwGateRefIdeal.sig) → Buf (Elt Ideal) ℓ) (g' : Dev Cert.AdamwGateRefIdeal.nD → PrngReg), Pre_AdamwGateIdeal m →
    (∀ c : Dev Cert.AdamwGateIdeal.nD,
      m' ((c.tc : Thread Cert.AdamwGateRefIdeal.nD Cert.AdamwGateRefIdeal.τ).loc Cert.AdamwGateRefIdeal.main_arg0) = m ((c.tc : Thread Cert.AdamwGateIdeal.nD Cert.AdamwGateIdeal.τ).loc Cert.AdamwGateIdeal.main_arg0)
      ∧ m' ((c.tc : Thread Cert.AdamwGateRefIdeal.nD Cert.AdamwGateRefIdeal.τ).loc Cert.AdamwGateRefIdeal.main_arg1) = m ((c.tc : Thread Cert.AdamwGateIdeal.nD Cert.AdamwGateIdeal.τ).loc Cert.AdamwGateIdeal.main_arg1)
      ∧ m' ((c.tc : Thread Cert.AdamwGateRefIdeal.nD Cert.AdamwGateRefIdeal.τ).loc Cert.AdamwGateRefIdeal.main_arg2) = m ((c.tc : Thread Cert.AdamwGateIdeal.nD Cert.AdamwGateIdeal.τ).loc Cert.AdamwGateIdeal.main_arg2)
      ∧ m' ((c.tc : Thread Cert.AdamwGateRefIdeal.nD Cert.AdamwGateRefIdeal.τ).loc Cert.AdamwGateRefIdeal.main_arg3) = m ((c.tc : Thread Cert.AdamwGateIdeal.nD Cert.AdamwGateIdeal.τ).loc Cert.AdamwGateIdeal.main_arg3)) →
    ∃ (v0 : (c : Dev Cert.AdamwGateIdeal.nD) → Buf (Elt Ideal) ((c.tc : Thread Cert.AdamwGateIdeal.nD Cert.AdamwGateIdeal.τ).loc Cert.AdamwGateIdeal.main_v0_0)) (v1 : (c : Dev Cert.AdamwGateIdeal.nD) → Buf (Elt Ideal) ((c.tc : Thread Cert.AdamwGateIdeal.nD Cert.AdamwGateIdeal.τ).loc Cert.AdamwGateIdeal.main_v0_1)) (v2 : (c : Dev Cert.AdamwGateIdeal.nD) → Buf (Elt Ideal) ((c.tc : Thread Cert.AdamwGateIdeal.nD Cert.AdamwGateIdeal.τ).loc Cert.AdamwGateIdeal.main_v0_2)),
      θ_run (Cert.AdamwGateIdeal.defs (F := Ideal)) (onTc (τ := Cert.AdamwGateIdeal.τ) (Cert.AdamwGateIdeal.main (F := Ideal))) ⟨m, fun _ => 0, g⟩ (fun r => ∀ c : Dev Cert.AdamwGateIdeal.nD,
          r.2.mem ((c.tc : Thread Cert.AdamwGateIdeal.nD Cert.AdamwGateIdeal.τ).loc Cert.AdamwGateIdeal.main_v0_0) = v0 c
          ∧ r.2.mem ((c.tc : Thread Cert.AdamwGateIdeal.nD Cert.AdamwGateIdeal.τ).loc Cert.AdamwGateIdeal.main_v0_1) = v1 c
          ∧ r.2.mem ((c.tc : Thread Cert.AdamwGateIdeal.nD Cert.AdamwGateIdeal.τ).loc Cert.AdamwGateIdeal.main_v0_2) = v2 c
          ∧ r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
          ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
          ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
          ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ θ_run (Cert.AdamwGateRefIdeal.defs (F := Ideal)) (onTc (τ := Cert.AdamwGateRefIdeal.τ) (Cert.AdamwGateRefIdeal.main (F := Ideal))) ⟨m', fun _ => 0, g'⟩ (fun r => ∀ c : Dev Cert.AdamwGateRefIdeal.nD,
          r.2.mem ((c.tc : Thread Cert.AdamwGateRefIdeal.nD Cert.AdamwGateRefIdeal.τ).loc Cert.AdamwGateRefIdeal.main_v23) = v0 c
          ∧ r.2.mem ((c.tc : Thread Cert.AdamwGateRefIdeal.nD Cert.AdamwGateRefIdeal.τ).loc Cert.AdamwGateRefIdeal.main_v4) = v1 c
          ∧ r.2.mem ((c.tc : Thread Cert.AdamwGateRefIdeal.nD Cert.AdamwGateRefIdeal.τ).loc Cert.AdamwGateRefIdeal.main_v10) = v2 c
          ∧ r.2.mem ((c.tc : Thread Cert.AdamwGateRefIdeal.nD Cert.AdamwGateRefIdeal.τ).loc Cert.AdamwGateRefIdeal.main_arg0) = m' ((c.tc : Thread Cert.AdamwGateRefIdeal.nD Cert.AdamwGateRefIdeal.τ).loc Cert.AdamwGateRefIdeal.main_arg0)
          ∧ r.2.mem ((c.tc : Thread Cert.AdamwGateRefIdeal.nD Cert.AdamwGateRefIdeal.τ).loc Cert.AdamwGateRefIdeal.main_arg1) = m' ((c.tc : Thread Cert.AdamwGateRefIdeal.nD Cert.AdamwGateRefIdeal.τ).loc Cert.AdamwGateRefIdeal.main_arg1)
          ∧ r.2.mem ((c.tc : Thread Cert.AdamwGateRefIdeal.nD Cert.AdamwGateRefIdeal.τ).loc Cert.AdamwGateRefIdeal.main_arg2) = m' ((c.tc : Thread Cert.AdamwGateRefIdeal.nD Cert.AdamwGateRefIdeal.τ).loc Cert.AdamwGateRefIdeal.main_arg2)
          ∧ r.2.mem ((c.tc : Thread Cert.AdamwGateRefIdeal.nD Cert.AdamwGateRefIdeal.τ).loc Cert.AdamwGateRefIdeal.main_arg3) = m' ((c.tc : Thread Cert.AdamwGateRefIdeal.nD Cert.AdamwGateRefIdeal.τ).loc Cert.AdamwGateRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwBranch_AdamwBranchIdeal : Prop :=
  True

def algebraic_AdamwBranchIdeal_AdamwBranchRefIdeal [hAdamwBranchIdeal : Cert.AdamwBranchIdeal.Facts] [hAdamwBranchRefIdeal : Cert.AdamwBranchRefIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg)
    (m' : (ℓ : Loc Cert.AdamwBranchRefIdeal.nD Cert.AdamwBranchRefIdeal.τ Cert.AdamwBranchRefIdeal.sig) → Buf (Elt Ideal) ℓ) (g' : Dev Cert.AdamwBranchRefIdeal.nD → PrngReg), Pre_AdamwBranchIdeal m →
    (∀ c : Dev Cert.AdamwBranchIdeal.nD,
      m' ((c.tc : Thread Cert.AdamwBranchRefIdeal.nD Cert.AdamwBranchRefIdeal.τ).loc Cert.AdamwBranchRefIdeal.main_arg0) = m ((c.tc : Thread Cert.AdamwBranchIdeal.nD Cert.AdamwBranchIdeal.τ).loc Cert.AdamwBranchIdeal.main_arg0)
      ∧ m' ((c.tc : Thread Cert.AdamwBranchRefIdeal.nD Cert.AdamwBranchRefIdeal.τ).loc Cert.AdamwBranchRefIdeal.main_arg1) = m ((c.tc : Thread Cert.AdamwBranchIdeal.nD Cert.AdamwBranchIdeal.τ).loc Cert.AdamwBranchIdeal.main_arg1)
      ∧ m' ((c.tc : Thread Cert.AdamwBranchRefIdeal.nD Cert.AdamwBranchRefIdeal.τ).loc Cert.AdamwBranchRefIdeal.main_arg2) = m ((c.tc : Thread Cert.AdamwBranchIdeal.nD Cert.AdamwBranchIdeal.τ).loc Cert.AdamwBranchIdeal.main_arg2)
      ∧ m' ((c.tc : Thread Cert.AdamwBranchRefIdeal.nD Cert.AdamwBranchRefIdeal.τ).loc Cert.AdamwBranchRefIdeal.main_arg3) = m ((c.tc : Thread Cert.AdamwBranchIdeal.nD Cert.AdamwBranchIdeal.τ).loc Cert.AdamwBranchIdeal.main_arg3)) →
    ∃ (v0 : (c : Dev Cert.AdamwBranchIdeal.nD) → Buf (Elt Ideal) ((c.tc : Thread Cert.AdamwBranchIdeal.nD Cert.AdamwBranchIdeal.τ).loc Cert.AdamwBranchIdeal.main_v0_0)) (v1 : (c : Dev Cert.AdamwBranchIdeal.nD) → Buf (Elt Ideal) ((c.tc : Thread Cert.AdamwBranchIdeal.nD Cert.AdamwBranchIdeal.τ).loc Cert.AdamwBranchIdeal.main_v0_1)) (v2 : (c : Dev Cert.AdamwBranchIdeal.nD) → Buf (Elt Ideal) ((c.tc : Thread Cert.AdamwBranchIdeal.nD Cert.AdamwBranchIdeal.τ).loc Cert.AdamwBranchIdeal.main_v0_2)),
      θ_run (Cert.AdamwBranchIdeal.defs (F := Ideal)) (onTc (τ := Cert.AdamwBranchIdeal.τ) (Cert.AdamwBranchIdeal.main (F := Ideal))) ⟨m, fun _ => 0, g⟩ (fun r => ∀ c : Dev Cert.AdamwBranchIdeal.nD,
          r.2.mem ((c.tc : Thread Cert.AdamwBranchIdeal.nD Cert.AdamwBranchIdeal.τ).loc Cert.AdamwBranchIdeal.main_v0_0) = v0 c
          ∧ r.2.mem ((c.tc : Thread Cert.AdamwBranchIdeal.nD Cert.AdamwBranchIdeal.τ).loc Cert.AdamwBranchIdeal.main_v0_1) = v1 c
          ∧ r.2.mem ((c.tc : Thread Cert.AdamwBranchIdeal.nD Cert.AdamwBranchIdeal.τ).loc Cert.AdamwBranchIdeal.main_v0_2) = v2 c
          ∧ r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
          ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
          ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
          ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ θ_run (Cert.AdamwBranchRefIdeal.defs (F := Ideal)) (onTc (τ := Cert.AdamwBranchRefIdeal.τ) (Cert.AdamwBranchRefIdeal.main (F := Ideal))) ⟨m', fun _ => 0, g'⟩ (fun r => ∀ c : Dev Cert.AdamwBranchRefIdeal.nD,
          r.2.mem ((c.tc : Thread Cert.AdamwBranchRefIdeal.nD Cert.AdamwBranchRefIdeal.τ).loc Cert.AdamwBranchRefIdeal.main_v23) = v0 c
          ∧ r.2.mem ((c.tc : Thread Cert.AdamwBranchRefIdeal.nD Cert.AdamwBranchRefIdeal.τ).loc Cert.AdamwBranchRefIdeal.main_v4) = v1 c
          ∧ r.2.mem ((c.tc : Thread Cert.AdamwBranchRefIdeal.nD Cert.AdamwBranchRefIdeal.τ).loc Cert.AdamwBranchRefIdeal.main_v10) = v2 c
          ∧ r.2.mem ((c.tc : Thread Cert.AdamwBranchRefIdeal.nD Cert.AdamwBranchRefIdeal.τ).loc Cert.AdamwBranchRefIdeal.main_arg0) = m' ((c.tc : Thread Cert.AdamwBranchRefIdeal.nD Cert.AdamwBranchRefIdeal.τ).loc Cert.AdamwBranchRefIdeal.main_arg0)
          ∧ r.2.mem ((c.tc : Thread Cert.AdamwBranchRefIdeal.nD Cert.AdamwBranchRefIdeal.τ).loc Cert.AdamwBranchRefIdeal.main_arg1) = m' ((c.tc : Thread Cert.AdamwBranchRefIdeal.nD Cert.AdamwBranchRefIdeal.τ).loc Cert.AdamwBranchRefIdeal.main_arg1)
          ∧ r.2.mem ((c.tc : Thread Cert.AdamwBranchRefIdeal.nD Cert.AdamwBranchRefIdeal.τ).loc Cert.AdamwBranchRefIdeal.main_arg2) = m' ((c.tc : Thread Cert.AdamwBranchRefIdeal.nD Cert.AdamwBranchRefIdeal.τ).loc Cert.AdamwBranchRefIdeal.main_arg2)
          ∧ r.2.mem ((c.tc : Thread Cert.AdamwBranchRefIdeal.nD Cert.AdamwBranchRefIdeal.τ).loc Cert.AdamwBranchRefIdeal.main_arg3) = m' ((c.tc : Thread Cert.AdamwBranchRefIdeal.nD Cert.AdamwBranchRefIdeal.τ).loc Cert.AdamwBranchRefIdeal.main_arg3))

def preserves_AdamwGlu_AdamwGluIdeal : Prop :=
  True

def algebraic_AdamwGluIdeal_AdamwGluRefIdeal [hAdamwGluIdeal : Cert.AdamwGluIdeal.Facts] [hAdamwGluRefIdeal : Cert.AdamwGluRefIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg)
    (m' : (ℓ : Loc Cert.AdamwGluRefIdeal.nD Cert.AdamwGluRefIdeal.τ Cert.AdamwGluRefIdeal.sig) → Buf (Elt Ideal) ℓ) (g' : Dev Cert.AdamwGluRefIdeal.nD → PrngReg), Pre_AdamwGluIdeal m →
    (∀ c : Dev Cert.AdamwGluIdeal.nD,
      m' ((c.tc : Thread Cert.AdamwGluRefIdeal.nD Cert.AdamwGluRefIdeal.τ).loc Cert.AdamwGluRefIdeal.main_arg0) = m ((c.tc : Thread Cert.AdamwGluIdeal.nD Cert.AdamwGluIdeal.τ).loc Cert.AdamwGluIdeal.main_arg0)
      ∧ m' ((c.tc : Thread Cert.AdamwGluRefIdeal.nD Cert.AdamwGluRefIdeal.τ).loc Cert.AdamwGluRefIdeal.main_arg1) = m ((c.tc : Thread Cert.AdamwGluIdeal.nD Cert.AdamwGluIdeal.τ).loc Cert.AdamwGluIdeal.main_arg1)
      ∧ m' ((c.tc : Thread Cert.AdamwGluRefIdeal.nD Cert.AdamwGluRefIdeal.τ).loc Cert.AdamwGluRefIdeal.main_arg2) = m ((c.tc : Thread Cert.AdamwGluIdeal.nD Cert.AdamwGluIdeal.τ).loc Cert.AdamwGluIdeal.main_arg2)
      ∧ m' ((c.tc : Thread Cert.AdamwGluRefIdeal.nD Cert.AdamwGluRefIdeal.τ).loc Cert.AdamwGluRefIdeal.main_arg3) = m ((c.tc : Thread Cert.AdamwGluIdeal.nD Cert.AdamwGluIdeal.τ).loc Cert.AdamwGluIdeal.main_arg3)) →
    ∃ (v0 : (c : Dev Cert.AdamwGluIdeal.nD) → Buf (Elt Ideal) ((c.tc : Thread Cert.AdamwGluIdeal.nD Cert.AdamwGluIdeal.τ).loc Cert.AdamwGluIdeal.main_v0_0)) (v1 : (c : Dev Cert.AdamwGluIdeal.nD) → Buf (Elt Ideal) ((c.tc : Thread Cert.AdamwGluIdeal.nD Cert.AdamwGluIdeal.τ).loc Cert.AdamwGluIdeal.main_v0_1)) (v2 : (c : Dev Cert.AdamwGluIdeal.nD) → Buf (Elt Ideal) ((c.tc : Thread Cert.AdamwGluIdeal.nD Cert.AdamwGluIdeal.τ).loc Cert.AdamwGluIdeal.main_v0_2)),
      θ_run (Cert.AdamwGluIdeal.defs (F := Ideal)) (onTc (τ := Cert.AdamwGluIdeal.τ) (Cert.AdamwGluIdeal.main (F := Ideal))) ⟨m, fun _ => 0, g⟩ (fun r => ∀ c : Dev Cert.AdamwGluIdeal.nD,
          r.2.mem ((c.tc : Thread Cert.AdamwGluIdeal.nD Cert.AdamwGluIdeal.τ).loc Cert.AdamwGluIdeal.main_v0_0) = v0 c
          ∧ r.2.mem ((c.tc : Thread Cert.AdamwGluIdeal.nD Cert.AdamwGluIdeal.τ).loc Cert.AdamwGluIdeal.main_v0_1) = v1 c
          ∧ r.2.mem ((c.tc : Thread Cert.AdamwGluIdeal.nD Cert.AdamwGluIdeal.τ).loc Cert.AdamwGluIdeal.main_v0_2) = v2 c
          ∧ r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
          ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
          ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
          ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ θ_run (Cert.AdamwGluRefIdeal.defs (F := Ideal)) (onTc (τ := Cert.AdamwGluRefIdeal.τ) (Cert.AdamwGluRefIdeal.main (F := Ideal))) ⟨m', fun _ => 0, g'⟩ (fun r => ∀ c : Dev Cert.AdamwGluRefIdeal.nD,
          r.2.mem ((c.tc : Thread Cert.AdamwGluRefIdeal.nD Cert.AdamwGluRefIdeal.τ).loc Cert.AdamwGluRefIdeal.main_v23) = v0 c
          ∧ r.2.mem ((c.tc : Thread Cert.AdamwGluRefIdeal.nD Cert.AdamwGluRefIdeal.τ).loc Cert.AdamwGluRefIdeal.main_v4) = v1 c
          ∧ r.2.mem ((c.tc : Thread Cert.AdamwGluRefIdeal.nD Cert.AdamwGluRefIdeal.τ).loc Cert.AdamwGluRefIdeal.main_v10) = v2 c
          ∧ r.2.mem ((c.tc : Thread Cert.AdamwGluRefIdeal.nD Cert.AdamwGluRefIdeal.τ).loc Cert.AdamwGluRefIdeal.main_arg0) = m' ((c.tc : Thread Cert.AdamwGluRefIdeal.nD Cert.AdamwGluRefIdeal.τ).loc Cert.AdamwGluRefIdeal.main_arg0)
          ∧ r.2.mem ((c.tc : Thread Cert.AdamwGluRefIdeal.nD Cert.AdamwGluRefIdeal.τ).loc Cert.AdamwGluRefIdeal.main_arg1) = m' ((c.tc : Thread Cert.AdamwGluRefIdeal.nD Cert.AdamwGluRefIdeal.τ).loc Cert.AdamwGluRefIdeal.main_arg1)
          ∧ r.2.mem ((c.tc : Thread Cert.AdamwGluRefIdeal.nD Cert.AdamwGluRefIdeal.τ).loc Cert.AdamwGluRefIdeal.main_arg2) = m' ((c.tc : Thread Cert.AdamwGluRefIdeal.nD Cert.AdamwGluRefIdeal.τ).loc Cert.AdamwGluRefIdeal.main_arg2)
          ∧ r.2.mem ((c.tc : Thread Cert.AdamwGluRefIdeal.nD Cert.AdamwGluRefIdeal.τ).loc Cert.AdamwGluRefIdeal.main_arg3) = m' ((c.tc : Thread Cert.AdamwGluRefIdeal.nD Cert.AdamwGluRefIdeal.τ).loc Cert.AdamwGluRefIdeal.main_arg3))

def preserves_AdamwAlpha_AdamwAlphaIdeal : Prop :=
  True

def algebraic_AdamwAlphaIdeal_AdamwAlphaRefIdeal [hAdamwAlphaIdeal : Cert.AdamwAlphaIdeal.Facts] [hAdamwAlphaRefIdeal : Cert.AdamwAlphaRefIdeal.Facts] : Prop :=
  ∀ (m : (ℓ : Loc Cert.AdamwAlphaIdeal.nD Cert.AdamwAlphaIdeal.τ Cert.AdamwAlphaIdeal.sig) → Buf (Elt Ideal) ℓ) (g : Dev Cert.AdamwAlphaIdeal.nD → PrngReg)
    (m' : (ℓ : Loc Cert.AdamwAlphaRefIdeal.nD Cert.AdamwAlphaRefIdeal.τ Cert.AdamwAlphaRefIdeal.sig) → Buf (Elt Ideal) ℓ) (g' : Dev Cert.AdamwAlphaRefIdeal.nD → PrngReg), Pre_AdamwAlphaIdeal m →
    (∀ c : Dev Cert.AdamwAlphaIdeal.nD,
      m' ((c.tc : Thread Cert.AdamwAlphaRefIdeal.nD Cert.AdamwAlphaRefIdeal.τ).loc Cert.AdamwAlphaRefIdeal.main_arg0) = m ((c.tc : Thread Cert.AdamwAlphaIdeal.nD Cert.AdamwAlphaIdeal.τ).loc Cert.AdamwAlphaIdeal.main_arg0)
      ∧ m' ((c.tc : Thread Cert.AdamwAlphaRefIdeal.nD Cert.AdamwAlphaRefIdeal.τ).loc Cert.AdamwAlphaRefIdeal.main_arg1) = m ((c.tc : Thread Cert.AdamwAlphaIdeal.nD Cert.AdamwAlphaIdeal.τ).loc Cert.AdamwAlphaIdeal.main_arg1)
      ∧ m' ((c.tc : Thread Cert.AdamwAlphaRefIdeal.nD Cert.AdamwAlphaRefIdeal.τ).loc Cert.AdamwAlphaRefIdeal.main_arg2) = m ((c.tc : Thread Cert.AdamwAlphaIdeal.nD Cert.AdamwAlphaIdeal.τ).loc Cert.AdamwAlphaIdeal.main_arg2)
      ∧ m' ((c.tc : Thread Cert.AdamwAlphaRefIdeal.nD Cert.AdamwAlphaRefIdeal.τ).loc Cert.AdamwAlphaRefIdeal.main_arg3) = m ((c.tc : Thread Cert.AdamwAlphaIdeal.nD Cert.AdamwAlphaIdeal.τ).loc Cert.AdamwAlphaIdeal.main_arg3)) →
    ∃ (v0 : (c : Dev Cert.AdamwAlphaIdeal.nD) → Buf (Elt Ideal) ((c.tc : Thread Cert.AdamwAlphaIdeal.nD Cert.AdamwAlphaIdeal.τ).loc Cert.AdamwAlphaIdeal.main_v0_0)) (v1 : (c : Dev Cert.AdamwAlphaIdeal.nD) → Buf (Elt Ideal) ((c.tc : Thread Cert.AdamwAlphaIdeal.nD Cert.AdamwAlphaIdeal.τ).loc Cert.AdamwAlphaIdeal.main_v0_1)) (v2 : (c : Dev Cert.AdamwAlphaIdeal.nD) → Buf (Elt Ideal) ((c.tc : Thread Cert.AdamwAlphaIdeal.nD Cert.AdamwAlphaIdeal.τ).loc Cert.AdamwAlphaIdeal.main_v0_2)),
      θ_run (Cert.AdamwAlphaIdeal.defs (F := Ideal)) (onTc (τ := Cert.AdamwAlphaIdeal.τ) (Cert.AdamwAlphaIdeal.main (F := Ideal))) ⟨m, fun _ => 0, g⟩ (fun r => ∀ c : Dev Cert.AdamwAlphaIdeal.nD,
          r.2.mem ((c.tc : Thread Cert.AdamwAlphaIdeal.nD Cert.AdamwAlphaIdeal.τ).loc Cert.AdamwAlphaIdeal.main_v0_0) = v0 c
          ∧ r.2.mem ((c.tc : Thread Cert.AdamwAlphaIdeal.nD Cert.AdamwAlphaIdeal.τ).loc Cert.AdamwAlphaIdeal.main_v0_1) = v1 c
          ∧ r.2.mem ((c.tc : Thread Cert.AdamwAlphaIdeal.nD Cert.AdamwAlphaIdeal.τ).loc Cert.AdamwAlphaIdeal.main_v0_2) = v2 c
          ∧ r.2.mem ((c.tc : Thread Cert.AdamwAlphaIdeal.nD Cert.AdamwAlphaIdeal.τ).loc Cert.AdamwAlphaIdeal.main_arg0) = m ((c.tc : Thread Cert.AdamwAlphaIdeal.nD Cert.AdamwAlphaIdeal.τ).loc Cert.AdamwAlphaIdeal.main_arg0)
          ∧ r.2.mem ((c.tc : Thread Cert.AdamwAlphaIdeal.nD Cert.AdamwAlphaIdeal.τ).loc Cert.AdamwAlphaIdeal.main_arg1) = m ((c.tc : Thread Cert.AdamwAlphaIdeal.nD Cert.AdamwAlphaIdeal.τ).loc Cert.AdamwAlphaIdeal.main_arg1)
          ∧ r.2.mem ((c.tc : Thread Cert.AdamwAlphaIdeal.nD Cert.AdamwAlphaIdeal.τ).loc Cert.AdamwAlphaIdeal.main_arg2) = m ((c.tc : Thread Cert.AdamwAlphaIdeal.nD Cert.AdamwAlphaIdeal.τ).loc Cert.AdamwAlphaIdeal.main_arg2)
          ∧ r.2.mem ((c.tc : Thread Cert.AdamwAlphaIdeal.nD Cert.AdamwAlphaIdeal.τ).loc Cert.AdamwAlphaIdeal.main_arg3) = m ((c.tc : Thread Cert.AdamwAlphaIdeal.nD Cert.AdamwAlphaIdeal.τ).loc Cert.AdamwAlphaIdeal.main_arg3))
      ∧ θ_run (Cert.AdamwAlphaRefIdeal.defs (F := Ideal)) (onTc (τ := Cert.AdamwAlphaRefIdeal.τ) (Cert.AdamwAlphaRefIdeal.main (F := Ideal))) ⟨m', fun _ => 0, g'⟩ (fun r => ∀ c : Dev Cert.AdamwAlphaRefIdeal.nD,
          r.2.mem ((c.tc : Thread Cert.AdamwAlphaRefIdeal.nD Cert.AdamwAlphaRefIdeal.τ).loc Cert.AdamwAlphaRefIdeal.main_v23) = v0 c
          ∧ r.2.mem ((c.tc : Thread Cert.AdamwAlphaRefIdeal.nD Cert.AdamwAlphaRefIdeal.τ).loc Cert.AdamwAlphaRefIdeal.main_v4) = v1 c
          ∧ r.2.mem ((c.tc : Thread Cert.AdamwAlphaRefIdeal.nD Cert.AdamwAlphaRefIdeal.τ).loc Cert.AdamwAlphaRefIdeal.main_v10) = v2 c
          ∧ r.2.mem ((c.tc : Thread Cert.AdamwAlphaRefIdeal.nD Cert.AdamwAlphaRefIdeal.τ).loc Cert.AdamwAlphaRefIdeal.main_arg0) = m' ((c.tc : Thread Cert.AdamwAlphaRefIdeal.nD Cert.AdamwAlphaRefIdeal.τ).loc Cert.AdamwAlphaRefIdeal.main_arg0)
          ∧ r.2.mem ((c.tc : Thread Cert.AdamwAlphaRefIdeal.nD Cert.AdamwAlphaRefIdeal.τ).loc Cert.AdamwAlphaRefIdeal.main_arg1) = m' ((c.tc : Thread Cert.AdamwAlphaRefIdeal.nD Cert.AdamwAlphaRefIdeal.τ).loc Cert.AdamwAlphaRefIdeal.main_arg1)
          ∧ r.2.mem ((c.tc : Thread Cert.AdamwAlphaRefIdeal.nD Cert.AdamwAlphaRefIdeal.τ).loc Cert.AdamwAlphaRefIdeal.main_arg2) = m' ((c.tc : Thread Cert.AdamwAlphaRefIdeal.nD Cert.AdamwAlphaRefIdeal.τ).loc Cert.AdamwAlphaRefIdeal.main_arg2)
          ∧ r.2.mem ((c.tc : Thread Cert.AdamwAlphaRefIdeal.nD Cert.AdamwAlphaRefIdeal.τ).loc Cert.AdamwAlphaRefIdeal.main_arg3) = m' ((c.tc : Thread Cert.AdamwAlphaRefIdeal.nD Cert.AdamwAlphaRefIdeal.τ).loc Cert.AdamwAlphaRefIdeal.main_arg3))

def preserves_AdamwBias_AdamwBiasIdeal : Prop :=
  True

def algebraic_AdamwBiasIdeal_AdamwBiasRefIdeal [hAdamwBiasIdeal : Cert.AdamwBiasIdeal.Facts] [hAdamwBiasRefIdeal : Cert.AdamwBiasRefIdeal.Facts] : Prop :=
  ∀ (m : (ℓ : Loc Cert.AdamwBiasIdeal.nD Cert.AdamwBiasIdeal.τ Cert.AdamwBiasIdeal.sig) → Buf (Elt Ideal) ℓ) (g : Dev Cert.AdamwBiasIdeal.nD → PrngReg)
    (m' : (ℓ : Loc Cert.AdamwBiasRefIdeal.nD Cert.AdamwBiasRefIdeal.τ Cert.AdamwBiasRefIdeal.sig) → Buf (Elt Ideal) ℓ) (g' : Dev Cert.AdamwBiasRefIdeal.nD → PrngReg), Pre_AdamwBiasIdeal m →
    (∀ c : Dev Cert.AdamwBiasIdeal.nD,
      m' ((c.tc : Thread Cert.AdamwBiasRefIdeal.nD Cert.AdamwBiasRefIdeal.τ).loc Cert.AdamwBiasRefIdeal.main_arg0) = m ((c.tc : Thread Cert.AdamwBiasIdeal.nD Cert.AdamwBiasIdeal.τ).loc Cert.AdamwBiasIdeal.main_arg0)
      ∧ m' ((c.tc : Thread Cert.AdamwBiasRefIdeal.nD Cert.AdamwBiasRefIdeal.τ).loc Cert.AdamwBiasRefIdeal.main_arg1) = m ((c.tc : Thread Cert.AdamwBiasIdeal.nD Cert.AdamwBiasIdeal.τ).loc Cert.AdamwBiasIdeal.main_arg1)
      ∧ m' ((c.tc : Thread Cert.AdamwBiasRefIdeal.nD Cert.AdamwBiasRefIdeal.τ).loc Cert.AdamwBiasRefIdeal.main_arg2) = m ((c.tc : Thread Cert.AdamwBiasIdeal.nD Cert.AdamwBiasIdeal.τ).loc Cert.AdamwBiasIdeal.main_arg2)
      ∧ m' ((c.tc : Thread Cert.AdamwBiasRefIdeal.nD Cert.AdamwBiasRefIdeal.τ).loc Cert.AdamwBiasRefIdeal.main_arg3) = m ((c.tc : Thread Cert.AdamwBiasIdeal.nD Cert.AdamwBiasIdeal.τ).loc Cert.AdamwBiasIdeal.main_arg3)) →
    ∃ (v0 : (c : Dev Cert.AdamwBiasIdeal.nD) → Buf (Elt Ideal) ((c.tc : Thread Cert.AdamwBiasIdeal.nD Cert.AdamwBiasIdeal.τ).loc Cert.AdamwBiasIdeal.main_v0_0)) (v1 : (c : Dev Cert.AdamwBiasIdeal.nD) → Buf (Elt Ideal) ((c.tc : Thread Cert.AdamwBiasIdeal.nD Cert.AdamwBiasIdeal.τ).loc Cert.AdamwBiasIdeal.main_v0_1)) (v2 : (c : Dev Cert.AdamwBiasIdeal.nD) → Buf (Elt Ideal) ((c.tc : Thread Cert.AdamwBiasIdeal.nD Cert.AdamwBiasIdeal.τ).loc Cert.AdamwBiasIdeal.main_v0_2)),
      θ_run (Cert.AdamwBiasIdeal.defs (F := Ideal)) (onTc (τ := Cert.AdamwBiasIdeal.τ) (Cert.AdamwBiasIdeal.main (F := Ideal))) ⟨m, fun _ => 0, g⟩ (fun r => ∀ c : Dev Cert.AdamwBiasIdeal.nD,
          r.2.mem ((c.tc : Thread Cert.AdamwBiasIdeal.nD Cert.AdamwBiasIdeal.τ).loc Cert.AdamwBiasIdeal.main_v0_0) = v0 c
          ∧ r.2.mem ((c.tc : Thread Cert.AdamwBiasIdeal.nD Cert.AdamwBiasIdeal.τ).loc Cert.AdamwBiasIdeal.main_v0_1) = v1 c
          ∧ r.2.mem ((c.tc : Thread Cert.AdamwBiasIdeal.nD Cert.AdamwBiasIdeal.τ).loc Cert.AdamwBiasIdeal.main_v0_2) = v2 c
          ∧ r.2.mem ((c.tc : Thread Cert.AdamwBiasIdeal.nD Cert.AdamwBiasIdeal.τ).loc Cert.AdamwBiasIdeal.main_arg0) = m ((c.tc : Thread Cert.AdamwBiasIdeal.nD Cert.AdamwBiasIdeal.τ).loc Cert.AdamwBiasIdeal.main_arg0)
          ∧ r.2.mem ((c.tc : Thread Cert.AdamwBiasIdeal.nD Cert.AdamwBiasIdeal.τ).loc Cert.AdamwBiasIdeal.main_arg1) = m ((c.tc : Thread Cert.AdamwBiasIdeal.nD Cert.AdamwBiasIdeal.τ).loc Cert.AdamwBiasIdeal.main_arg1)
          ∧ r.2.mem ((c.tc : Thread Cert.AdamwBiasIdeal.nD Cert.AdamwBiasIdeal.τ).loc Cert.AdamwBiasIdeal.main_arg2) = m ((c.tc : Thread Cert.AdamwBiasIdeal.nD Cert.AdamwBiasIdeal.τ).loc Cert.AdamwBiasIdeal.main_arg2)
          ∧ r.2.mem ((c.tc : Thread Cert.AdamwBiasIdeal.nD Cert.AdamwBiasIdeal.τ).loc Cert.AdamwBiasIdeal.main_arg3) = m ((c.tc : Thread Cert.AdamwBiasIdeal.nD Cert.AdamwBiasIdeal.τ).loc Cert.AdamwBiasIdeal.main_arg3))
      ∧ θ_run (Cert.AdamwBiasRefIdeal.defs (F := Ideal)) (onTc (τ := Cert.AdamwBiasRefIdeal.τ) (Cert.AdamwBiasRefIdeal.main (F := Ideal))) ⟨m', fun _ => 0, g'⟩ (fun r => ∀ c : Dev Cert.AdamwBiasRefIdeal.nD,
          r.2.mem ((c.tc : Thread Cert.AdamwBiasRefIdeal.nD Cert.AdamwBiasRefIdeal.τ).loc Cert.AdamwBiasRefIdeal.main_v23) = v0 c
          ∧ r.2.mem ((c.tc : Thread Cert.AdamwBiasRefIdeal.nD Cert.AdamwBiasRefIdeal.τ).loc Cert.AdamwBiasRefIdeal.main_v4) = v1 c
          ∧ r.2.mem ((c.tc : Thread Cert.AdamwBiasRefIdeal.nD Cert.AdamwBiasRefIdeal.τ).loc Cert.AdamwBiasRefIdeal.main_v10) = v2 c
          ∧ r.2.mem ((c.tc : Thread Cert.AdamwBiasRefIdeal.nD Cert.AdamwBiasRefIdeal.τ).loc Cert.AdamwBiasRefIdeal.main_arg0) = m' ((c.tc : Thread Cert.AdamwBiasRefIdeal.nD Cert.AdamwBiasRefIdeal.τ).loc Cert.AdamwBiasRefIdeal.main_arg0)
          ∧ r.2.mem ((c.tc : Thread Cert.AdamwBiasRefIdeal.nD Cert.AdamwBiasRefIdeal.τ).loc Cert.AdamwBiasRefIdeal.main_arg1) = m' ((c.tc : Thread Cert.AdamwBiasRefIdeal.nD Cert.AdamwBiasRefIdeal.τ).loc Cert.AdamwBiasRefIdeal.main_arg1)
          ∧ r.2.mem ((c.tc : Thread Cert.AdamwBiasRefIdeal.nD Cert.AdamwBiasRefIdeal.τ).loc Cert.AdamwBiasRefIdeal.main_arg2) = m' ((c.tc : Thread Cert.AdamwBiasRefIdeal.nD Cert.AdamwBiasRefIdeal.τ).loc Cert.AdamwBiasRefIdeal.main_arg2)
          ∧ r.2.mem ((c.tc : Thread Cert.AdamwBiasRefIdeal.nD Cert.AdamwBiasRefIdeal.τ).loc Cert.AdamwBiasRefIdeal.main_arg3) = m' ((c.tc : Thread Cert.AdamwBiasRefIdeal.nD Cert.AdamwBiasRefIdeal.τ).loc Cert.AdamwBiasRefIdeal.main_arg3))

def preserves_AdamwRep_AdamwRepIdeal : Prop :=
  True

def algebraic_AdamwRepIdeal_AdamwRepRefIdeal [hAdamwRepIdeal : Cert.AdamwRepIdeal.Facts] [hAdamwRepRefIdeal : Cert.AdamwRepRefIdeal.Facts] : Prop :=
  ∀ (m : (ℓ : Loc Cert.AdamwRepIdeal.nD Cert.AdamwRepIdeal.τ Cert.AdamwRepIdeal.sig) → Buf (Elt Ideal) ℓ) (g : Dev Cert.AdamwRepIdeal.nD → PrngReg)
    (m' : (ℓ : Loc Cert.AdamwRepRefIdeal.nD Cert.AdamwRepRefIdeal.τ Cert.AdamwRepRefIdeal.sig) → Buf (Elt Ideal) ℓ) (g' : Dev Cert.AdamwRepRefIdeal.nD → PrngReg), Pre_AdamwRepIdeal m →
    (∀ c : Dev Cert.AdamwRepIdeal.nD,
      m' ((c.tc : Thread Cert.AdamwRepRefIdeal.nD Cert.AdamwRepRefIdeal.τ).loc Cert.AdamwRepRefIdeal.main_arg0) = m ((c.tc : Thread Cert.AdamwRepIdeal.nD Cert.AdamwRepIdeal.τ).loc Cert.AdamwRepIdeal.main_arg0)
      ∧ m' ((c.tc : Thread Cert.AdamwRepRefIdeal.nD Cert.AdamwRepRefIdeal.τ).loc Cert.AdamwRepRefIdeal.main_arg1) = m ((c.tc : Thread Cert.AdamwRepIdeal.nD Cert.AdamwRepIdeal.τ).loc Cert.AdamwRepIdeal.main_arg1)
      ∧ m' ((c.tc : Thread Cert.AdamwRepRefIdeal.nD Cert.AdamwRepRefIdeal.τ).loc Cert.AdamwRepRefIdeal.main_arg2) = m ((c.tc : Thread Cert.AdamwRepIdeal.nD Cert.AdamwRepIdeal.τ).loc Cert.AdamwRepIdeal.main_arg2)
      ∧ m' ((c.tc : Thread Cert.AdamwRepRefIdeal.nD Cert.AdamwRepRefIdeal.τ).loc Cert.AdamwRepRefIdeal.main_arg3) = m ((c.tc : Thread Cert.AdamwRepIdeal.nD Cert.AdamwRepIdeal.τ).loc Cert.AdamwRepIdeal.main_arg3)) →
    ∃ (v0 : (c : Dev Cert.AdamwRepIdeal.nD) → Buf (Elt Ideal) ((c.tc : Thread Cert.AdamwRepIdeal.nD Cert.AdamwRepIdeal.τ).loc Cert.AdamwRepIdeal.main_v0_0)) (v1 : (c : Dev Cert.AdamwRepIdeal.nD) → Buf (Elt Ideal) ((c.tc : Thread Cert.AdamwRepIdeal.nD Cert.AdamwRepIdeal.τ).loc Cert.AdamwRepIdeal.main_v0_1)) (v2 : (c : Dev Cert.AdamwRepIdeal.nD) → Buf (Elt Ideal) ((c.tc : Thread Cert.AdamwRepIdeal.nD Cert.AdamwRepIdeal.τ).loc Cert.AdamwRepIdeal.main_v0_2)),
      θ_run (Cert.AdamwRepIdeal.defs (F := Ideal)) (onTc (τ := Cert.AdamwRepIdeal.τ) (Cert.AdamwRepIdeal.main (F := Ideal))) ⟨m, fun _ => 0, g⟩ (fun r => ∀ c : Dev Cert.AdamwRepIdeal.nD,
          r.2.mem ((c.tc : Thread Cert.AdamwRepIdeal.nD Cert.AdamwRepIdeal.τ).loc Cert.AdamwRepIdeal.main_v0_0) = v0 c
          ∧ r.2.mem ((c.tc : Thread Cert.AdamwRepIdeal.nD Cert.AdamwRepIdeal.τ).loc Cert.AdamwRepIdeal.main_v0_1) = v1 c
          ∧ r.2.mem ((c.tc : Thread Cert.AdamwRepIdeal.nD Cert.AdamwRepIdeal.τ).loc Cert.AdamwRepIdeal.main_v0_2) = v2 c
          ∧ r.2.mem ((c.tc : Thread Cert.AdamwRepIdeal.nD Cert.AdamwRepIdeal.τ).loc Cert.AdamwRepIdeal.main_arg0) = m ((c.tc : Thread Cert.AdamwRepIdeal.nD Cert.AdamwRepIdeal.τ).loc Cert.AdamwRepIdeal.main_arg0)
          ∧ r.2.mem ((c.tc : Thread Cert.AdamwRepIdeal.nD Cert.AdamwRepIdeal.τ).loc Cert.AdamwRepIdeal.main_arg1) = m ((c.tc : Thread Cert.AdamwRepIdeal.nD Cert.AdamwRepIdeal.τ).loc Cert.AdamwRepIdeal.main_arg1)
          ∧ r.2.mem ((c.tc : Thread Cert.AdamwRepIdeal.nD Cert.AdamwRepIdeal.τ).loc Cert.AdamwRepIdeal.main_arg2) = m ((c.tc : Thread Cert.AdamwRepIdeal.nD Cert.AdamwRepIdeal.τ).loc Cert.AdamwRepIdeal.main_arg2)
          ∧ r.2.mem ((c.tc : Thread Cert.AdamwRepIdeal.nD Cert.AdamwRepIdeal.τ).loc Cert.AdamwRepIdeal.main_arg3) = m ((c.tc : Thread Cert.AdamwRepIdeal.nD Cert.AdamwRepIdeal.τ).loc Cert.AdamwRepIdeal.main_arg3))
      ∧ θ_run (Cert.AdamwRepRefIdeal.defs (F := Ideal)) (onTc (τ := Cert.AdamwRepRefIdeal.τ) (Cert.AdamwRepRefIdeal.main (F := Ideal))) ⟨m', fun _ => 0, g'⟩ (fun r => ∀ c : Dev Cert.AdamwRepRefIdeal.nD,
          r.2.mem ((c.tc : Thread Cert.AdamwRepRefIdeal.nD Cert.AdamwRepRefIdeal.τ).loc Cert.AdamwRepRefIdeal.main_v23) = v0 c
          ∧ r.2.mem ((c.tc : Thread Cert.AdamwRepRefIdeal.nD Cert.AdamwRepRefIdeal.τ).loc Cert.AdamwRepRefIdeal.main_v4) = v1 c
          ∧ r.2.mem ((c.tc : Thread Cert.AdamwRepRefIdeal.nD Cert.AdamwRepRefIdeal.τ).loc Cert.AdamwRepRefIdeal.main_v10) = v2 c
          ∧ r.2.mem ((c.tc : Thread Cert.AdamwRepRefIdeal.nD Cert.AdamwRepRefIdeal.τ).loc Cert.AdamwRepRefIdeal.main_arg0) = m' ((c.tc : Thread Cert.AdamwRepRefIdeal.nD Cert.AdamwRepRefIdeal.τ).loc Cert.AdamwRepRefIdeal.main_arg0)
          ∧ r.2.mem ((c.tc : Thread Cert.AdamwRepRefIdeal.nD Cert.AdamwRepRefIdeal.τ).loc Cert.AdamwRepRefIdeal.main_arg1) = m' ((c.tc : Thread Cert.AdamwRepRefIdeal.nD Cert.AdamwRepRefIdeal.τ).loc Cert.AdamwRepRefIdeal.main_arg1)
          ∧ r.2.mem ((c.tc : Thread Cert.AdamwRepRefIdeal.nD Cert.AdamwRepRefIdeal.τ).loc Cert.AdamwRepRefIdeal.main_arg2) = m' ((c.tc : Thread Cert.AdamwRepRefIdeal.nD Cert.AdamwRepRefIdeal.τ).loc Cert.AdamwRepRefIdeal.main_arg2)
          ∧ r.2.mem ((c.tc : Thread Cert.AdamwRepRefIdeal.nD Cert.AdamwRepRefIdeal.τ).loc Cert.AdamwRepRefIdeal.main_arg3) = m' ((c.tc : Thread Cert.AdamwRepRefIdeal.nD Cert.AdamwRepRefIdeal.τ).loc Cert.AdamwRepRefIdeal.main_arg3))

def preserves_Dalpha_DalphaIdeal : Prop :=
  True

def algebraic_DalphaIdeal_DalphaRefIdeal [hDalphaIdeal : Cert.DalphaIdeal.Facts] [hDalphaRefIdeal : Cert.DalphaRefIdeal.Facts] : Prop :=
  ∀ (m : (ℓ : Loc Cert.DalphaIdeal.nD Cert.DalphaIdeal.τ Cert.DalphaIdeal.sig) → Buf (Elt Ideal) ℓ) (g : Dev Cert.DalphaIdeal.nD → PrngReg)
    (m' : (ℓ : Loc Cert.DalphaRefIdeal.nD Cert.DalphaRefIdeal.τ Cert.DalphaRefIdeal.sig) → Buf (Elt Ideal) ℓ) (g' : Dev Cert.DalphaRefIdeal.nD → PrngReg), Pre_DalphaIdeal m →
    (∀ c : Dev Cert.DalphaIdeal.nD,
      m' ((c.tc : Thread Cert.DalphaRefIdeal.nD Cert.DalphaRefIdeal.τ).loc Cert.DalphaRefIdeal.main_arg0) = m ((c.tc : Thread Cert.DalphaIdeal.nD Cert.DalphaIdeal.τ).loc Cert.DalphaIdeal.main_arg0)
      ∧ m' ((c.tc : Thread Cert.DalphaRefIdeal.nD Cert.DalphaRefIdeal.τ).loc Cert.DalphaRefIdeal.main_arg1) = m ((c.tc : Thread Cert.DalphaIdeal.nD Cert.DalphaIdeal.τ).loc Cert.DalphaIdeal.main_arg1)
      ∧ m' ((c.tc : Thread Cert.DalphaRefIdeal.nD Cert.DalphaRefIdeal.τ).loc Cert.DalphaRefIdeal.main_arg2) = m ((c.tc : Thread Cert.DalphaIdeal.nD Cert.DalphaIdeal.τ).loc Cert.DalphaIdeal.main_arg2)) →
    ∃ (v0 : (c : Dev Cert.DalphaIdeal.nD) → Buf (Elt Ideal) ((c.tc : Thread Cert.DalphaIdeal.nD Cert.DalphaIdeal.τ).loc Cert.DalphaIdeal.main_v5)),
      θ_run (Cert.DalphaIdeal.defs (F := Ideal)) (onTc (τ := Cert.DalphaIdeal.τ) (Cert.DalphaIdeal.main (F := Ideal))) ⟨m, fun _ => 0, g⟩ (fun r => ∀ c : Dev Cert.DalphaIdeal.nD,
          r.2.mem ((c.tc : Thread Cert.DalphaIdeal.nD Cert.DalphaIdeal.τ).loc Cert.DalphaIdeal.main_v5) = v0 c
          ∧ r.2.mem ((c.tc : Thread Cert.DalphaIdeal.nD Cert.DalphaIdeal.τ).loc Cert.DalphaIdeal.main_arg0) = m ((c.tc : Thread Cert.DalphaIdeal.nD Cert.DalphaIdeal.τ).loc Cert.DalphaIdeal.main_arg0)
          ∧ r.2.mem ((c.tc : Thread Cert.DalphaIdeal.nD Cert.DalphaIdeal.τ).loc Cert.DalphaIdeal.main_arg1) = m ((c.tc : Thread Cert.DalphaIdeal.nD Cert.DalphaIdeal.τ).loc Cert.DalphaIdeal.main_arg1)
          ∧ r.2.mem ((c.tc : Thread Cert.DalphaIdeal.nD Cert.DalphaIdeal.τ).loc Cert.DalphaIdeal.main_arg2) = m ((c.tc : Thread Cert.DalphaIdeal.nD Cert.DalphaIdeal.τ).loc Cert.DalphaIdeal.main_arg2))
      ∧ θ_run (Cert.DalphaRefIdeal.defs (F := Ideal)) (onTc (τ := Cert.DalphaRefIdeal.τ) (Cert.DalphaRefIdeal.main (F := Ideal))) ⟨m', fun _ => 0, g'⟩ (fun r => ∀ c : Dev Cert.DalphaRefIdeal.nD,
          r.2.mem ((c.tc : Thread Cert.DalphaRefIdeal.nD Cert.DalphaRefIdeal.τ).loc Cert.DalphaRefIdeal.main_v8) = v0 c
          ∧ r.2.mem ((c.tc : Thread Cert.DalphaRefIdeal.nD Cert.DalphaRefIdeal.τ).loc Cert.DalphaRefIdeal.main_arg0) = m' ((c.tc : Thread Cert.DalphaRefIdeal.nD Cert.DalphaRefIdeal.τ).loc Cert.DalphaRefIdeal.main_arg0)
          ∧ r.2.mem ((c.tc : Thread Cert.DalphaRefIdeal.nD Cert.DalphaRefIdeal.τ).loc Cert.DalphaRefIdeal.main_arg1) = m' ((c.tc : Thread Cert.DalphaRefIdeal.nD Cert.DalphaRefIdeal.τ).loc Cert.DalphaRefIdeal.main_arg1)
          ∧ r.2.mem ((c.tc : Thread Cert.DalphaRefIdeal.nD Cert.DalphaRefIdeal.τ).loc Cert.DalphaRefIdeal.main_arg2) = m' ((c.tc : Thread Cert.DalphaRefIdeal.nD Cert.DalphaRefIdeal.τ).loc Cert.DalphaRefIdeal.main_arg2))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hGlaPost : Cert.GlaPost.Facts) (hGlaPostIdeal : Cert.GlaPostIdeal.Facts) (hGlaPostRefIdeal : Cert.GlaPostRefIdeal.Facts) (hFfnAct : Cert.FfnAct.Facts) (hFfnActIdeal : Cert.FfnActIdeal.Facts) (hFfnActRefIdeal : Cert.FfnActRefIdeal.Facts) (hFfnNorm : Cert.FfnNorm.Facts) (hFfnNormIdeal : Cert.FfnNormIdeal.Facts) (hFfnNormRefIdeal : Cert.FfnNormRefIdeal.Facts) (hMixNorm : Cert.MixNorm.Facts) (hMixNormIdeal : Cert.MixNormIdeal.Facts) (hMixNormRefIdeal : Cert.MixNormRefIdeal.Facts) (hLossHead : Cert.LossHead.Facts) (hLossHeadIdeal : Cert.LossHeadIdeal.Facts) (hLossHeadRefIdeal : Cert.LossHeadRefIdeal.Facts) (hGlaPrep : Cert.GlaPrep.Facts) (hGlaPrepIdeal : Cert.GlaPrepIdeal.Facts) (hGlaPrepRefIdeal : Cert.GlaPrepRefIdeal.Facts) (hS5Gate : Cert.S5Gate.Facts) (hS5GateIdeal : Cert.S5GateIdeal.Facts) (hS5GateRefIdeal : Cert.S5GateRefIdeal.Facts) (hS5Out : Cert.S5Out.Facts) (hS5OutIdeal : Cert.S5OutIdeal.Facts) (hS5OutRefIdeal : Cert.S5OutRefIdeal.Facts) (hGlaOut : Cert.GlaOut.Facts) (hGlaOutIdeal : Cert.GlaOutIdeal.Facts) (hGlaOutRefIdeal : Cert.GlaOutRefIdeal.Facts) (hGlaGate : Cert.GlaGate.Facts) (hGlaGateIdeal : Cert.GlaGateIdeal.Facts) (hGlaGateRefIdeal : Cert.GlaGateRefIdeal.Facts) (hMergeOut : Cert.MergeOut.Facts) (hMergeOutIdeal : Cert.MergeOutIdeal.Facts) (hMergeOutRefIdeal : Cert.MergeOutRefIdeal.Facts) (hFfnUp : Cert.FfnUp.Facts) (hFfnUpIdeal : Cert.FfnUpIdeal.Facts) (hFfnUpRefIdeal : Cert.FfnUpRefIdeal.Facts) (hMixIn : Cert.MixIn.Facts) (hMixInIdeal : Cert.MixInIdeal.Facts) (hMixInRefIdeal : Cert.MixInRefIdeal.Facts) (hDwin : Cert.Dwin.Facts) (hDwinIdeal : Cert.DwinIdeal.Facts) (hDwinRefIdeal : Cert.DwinRefIdeal.Facts) (hFfnDown : Cert.FfnDown.Facts) (hFfnDownIdeal : Cert.FfnDownIdeal.Facts) (hFfnDownRefIdeal : Cert.FfnDownRefIdeal.Facts) (hMixDz : Cert.MixDz.Facts) (hMixDzIdeal : Cert.MixDzIdeal.Facts) (hMixDzRefIdeal : Cert.MixDzRefIdeal.Facts) (hAdamw : Cert.Adamw.Facts) (hAdamwIdeal : Cert.AdamwIdeal.Facts) (hAdamwRefIdeal : Cert.AdamwRefIdeal.Facts) (hFfnDw : Cert.FfnDw.Facts) (hFfnDwIdeal : Cert.FfnDwIdeal.Facts) (hFfnDwRefIdeal : Cert.FfnDwRefIdeal.Facts) (hDwgate : Cert.Dwgate.Facts) (hDwgateIdeal : Cert.DwgateIdeal.Facts) (hDwgateRefIdeal : Cert.DwgateRefIdeal.Facts) (hDwout : Cert.Dwout.Facts) (hDwoutIdeal : Cert.DwoutIdeal.Facts) (hDwoutRefIdeal : Cert.DwoutRefIdeal.Facts) (hDbranch : Cert.Dbranch.Facts) (hDbranchIdeal : Cert.DbranchIdeal.Facts) (hDbranchRefIdeal : Cert.DbranchRefIdeal.Facts) (hDbranchAt : Cert.DbranchAt.Facts) (hDbranchAtIdeal : Cert.DbranchAtIdeal.Facts) (hDbranchAtRefIdeal : Cert.DbranchAtRefIdeal.Facts) (hDglu : Cert.Dglu.Facts) (hDgluIdeal : Cert.DgluIdeal.Facts) (hDgluRefIdeal : Cert.DgluRefIdeal.Facts) (hFfnDwIn : Cert.FfnDwIn.Facts) (hFfnDwInIdeal : Cert.FfnDwInIdeal.Facts) (hFfnDwInRefIdeal : Cert.FfnDwInRefIdeal.Facts) (hAdamwFfn : Cert.AdamwFfn.Facts) (hAdamwFfnIdeal : Cert.AdamwFfnIdeal.Facts) (hAdamwFfnRefIdeal : Cert.AdamwFfnRefIdeal.Facts) (hAdamwGate : Cert.AdamwGate.Facts) (hAdamwGateIdeal : Cert.AdamwGateIdeal.Facts) (hAdamwGateRefIdeal : Cert.AdamwGateRefIdeal.Facts) (hAdamwOut : Cert.AdamwOut.Facts) (hAdamwOutIdeal : Cert.AdamwOutIdeal.Facts) (hAdamwOutRefIdeal : Cert.AdamwOutRefIdeal.Facts) (hAdamwBranch : Cert.AdamwBranch.Facts) (hAdamwBranchIdeal : Cert.AdamwBranchIdeal.Facts) (hAdamwBranchRefIdeal : Cert.AdamwBranchRefIdeal.Facts) (hAdamwGlu : Cert.AdamwGlu.Facts) (hAdamwGluIdeal : Cert.AdamwGluIdeal.Facts) (hAdamwGluRefIdeal : Cert.AdamwGluRefIdeal.Facts) (hAdamwAlpha : Cert.AdamwAlpha.Facts) (hAdamwAlphaIdeal : Cert.AdamwAlphaIdeal.Facts) (hAdamwAlphaRefIdeal : Cert.AdamwAlphaRefIdeal.Facts) (hAdamwBias : Cert.AdamwBias.Facts) (hAdamwBiasIdeal : Cert.AdamwBiasIdeal.Facts) (hAdamwBiasRefIdeal : Cert.AdamwBiasRefIdeal.Facts) (hAdamwRep : Cert.AdamwRep.Facts) (hAdamwRepIdeal : Cert.AdamwRepIdeal.Facts) (hAdamwRepRefIdeal : Cert.AdamwRepRefIdeal.Facts) (hDalpha : Cert.Dalpha.Facts) (hDalphaIdeal : Cert.DalphaIdeal.Facts) (hDalphaRefIdeal : Cert.DalphaRefIdeal.Facts) (hPre_attn_finite : Cert.Pre_attn_finite.Facts) (hPre_glapost_finite : Cert.Pre_glapost_finite.Facts) (hPre_ffnact_finite : Cert.Pre_ffnact_finite.Facts) (hPre_ffnnorm_finite : Cert.Pre_ffnnorm_finite.Facts) (hPre_mixnorm_finite : Cert.Pre_mixnorm_finite.Facts) (hPre_losshead_finite : Cert.Pre_losshead_finite.Facts) (hPre_s5gate_finite : Cert.Pre_s5gate_finite.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_GlaPost (hGlaPost := hGlaPost)
    ∧ quiescent_GlaPostIdeal (hGlaPostIdeal := hGlaPostIdeal)
    ∧ quiescent_GlaPostIdeal_pre_glapost_finite (hGlaPostIdeal := hGlaPostIdeal) (hPre_glapost_finite := hPre_glapost_finite)
    ∧ quiescent_GlaPostRefIdeal (hGlaPostRefIdeal := hGlaPostRefIdeal)
    ∧ quiescent_GlaPostRefIdeal_pre_glapost_finite (hGlaPostRefIdeal := hGlaPostRefIdeal) (hPre_glapost_finite := hPre_glapost_finite)
    ∧ quiescent_FfnAct (hFfnAct := hFfnAct)
    ∧ quiescent_FfnActIdeal (hFfnActIdeal := hFfnActIdeal)
    ∧ quiescent_FfnActIdeal_pre_ffnact_finite (hFfnActIdeal := hFfnActIdeal) (hPre_ffnact_finite := hPre_ffnact_finite)
    ∧ quiescent_FfnActRefIdeal (hFfnActRefIdeal := hFfnActRefIdeal)
    ∧ quiescent_FfnActRefIdeal_pre_ffnact_finite (hFfnActRefIdeal := hFfnActRefIdeal) (hPre_ffnact_finite := hPre_ffnact_finite)
    ∧ quiescent_FfnNorm (hFfnNorm := hFfnNorm)
    ∧ quiescent_FfnNormIdeal (hFfnNormIdeal := hFfnNormIdeal)
    ∧ quiescent_FfnNormIdeal_pre_ffnnorm_finite (hFfnNormIdeal := hFfnNormIdeal) (hPre_ffnnorm_finite := hPre_ffnnorm_finite)
    ∧ quiescent_FfnNormRefIdeal (hFfnNormRefIdeal := hFfnNormRefIdeal)
    ∧ quiescent_FfnNormRefIdeal_pre_ffnnorm_finite (hFfnNormRefIdeal := hFfnNormRefIdeal) (hPre_ffnnorm_finite := hPre_ffnnorm_finite)
    ∧ quiescent_MixNorm (hMixNorm := hMixNorm)
    ∧ quiescent_MixNormIdeal (hMixNormIdeal := hMixNormIdeal)
    ∧ quiescent_MixNormIdeal_pre_mixnorm_finite (hMixNormIdeal := hMixNormIdeal) (hPre_mixnorm_finite := hPre_mixnorm_finite)
    ∧ quiescent_MixNormRefIdeal (hMixNormRefIdeal := hMixNormRefIdeal)
    ∧ quiescent_MixNormRefIdeal_pre_mixnorm_finite (hMixNormRefIdeal := hMixNormRefIdeal) (hPre_mixnorm_finite := hPre_mixnorm_finite)
    ∧ quiescent_LossHead (hLossHead := hLossHead)
    ∧ quiescent_LossHeadIdeal (hLossHeadIdeal := hLossHeadIdeal)
    ∧ quiescent_LossHeadIdeal_pre_losshead_finite (hLossHeadIdeal := hLossHeadIdeal) (hPre_losshead_finite := hPre_losshead_finite)
    ∧ quiescent_LossHeadRefIdeal (hLossHeadRefIdeal := hLossHeadRefIdeal)
    ∧ quiescent_LossHeadRefIdeal_pre_losshead_finite (hLossHeadRefIdeal := hLossHeadRefIdeal) (hPre_losshead_finite := hPre_losshead_finite)
    ∧ quiescent_GlaPrep (hGlaPrep := hGlaPrep)
    ∧ quiescent_GlaPrepIdeal (hGlaPrepIdeal := hGlaPrepIdeal)
    ∧ quiescent_GlaPrepRefIdeal (hGlaPrepRefIdeal := hGlaPrepRefIdeal)
    ∧ quiescent_S5Gate (hS5Gate := hS5Gate)
    ∧ quiescent_S5GateIdeal (hS5GateIdeal := hS5GateIdeal)
    ∧ quiescent_S5GateIdeal_pre_s5gate_finite (hS5GateIdeal := hS5GateIdeal) (hPre_s5gate_finite := hPre_s5gate_finite)
    ∧ quiescent_S5GateRefIdeal (hS5GateRefIdeal := hS5GateRefIdeal)
    ∧ quiescent_S5GateRefIdeal_pre_s5gate_finite (hS5GateRefIdeal := hS5GateRefIdeal) (hPre_s5gate_finite := hPre_s5gate_finite)
    ∧ quiescent_S5Out (hS5Out := hS5Out)
    ∧ quiescent_S5OutIdeal (hS5OutIdeal := hS5OutIdeal)
    ∧ quiescent_S5OutRefIdeal (hS5OutRefIdeal := hS5OutRefIdeal)
    ∧ quiescent_GlaOut (hGlaOut := hGlaOut)
    ∧ quiescent_GlaOutIdeal (hGlaOutIdeal := hGlaOutIdeal)
    ∧ quiescent_GlaOutRefIdeal (hGlaOutRefIdeal := hGlaOutRefIdeal)
    ∧ quiescent_GlaGate (hGlaGate := hGlaGate)
    ∧ quiescent_GlaGateIdeal (hGlaGateIdeal := hGlaGateIdeal)
    ∧ quiescent_GlaGateRefIdeal (hGlaGateRefIdeal := hGlaGateRefIdeal)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Dwin (hDwin := hDwin)
    ∧ quiescent_DwinIdeal (hDwinIdeal := hDwinIdeal)
    ∧ quiescent_DwinRefIdeal (hDwinRefIdeal := hDwinRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixDz (hMixDz := hMixDz)
    ∧ quiescent_MixDzIdeal (hMixDzIdeal := hMixDzIdeal)
    ∧ quiescent_MixDzRefIdeal (hMixDzRefIdeal := hMixDzRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_Dwgate (hDwgate := hDwgate)
    ∧ quiescent_DwgateIdeal (hDwgateIdeal := hDwgateIdeal)
    ∧ quiescent_DwgateRefIdeal (hDwgateRefIdeal := hDwgateRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dbranch (hDbranch := hDbranch)
    ∧ quiescent_DbranchIdeal (hDbranchIdeal := hDbranchIdeal)
    ∧ quiescent_DbranchRefIdeal (hDbranchRefIdeal := hDbranchRefIdeal)
    ∧ quiescent_DbranchAt (hDbranchAt := hDbranchAt)
    ∧ quiescent_DbranchAtIdeal (hDbranchAtIdeal := hDbranchAtIdeal)
    ∧ quiescent_DbranchAtRefIdeal (hDbranchAtRefIdeal := hDbranchAtRefIdeal)
    ∧ quiescent_Dglu (hDglu := hDglu)
    ∧ quiescent_DgluIdeal (hDgluIdeal := hDgluIdeal)
    ∧ quiescent_DgluRefIdeal (hDgluRefIdeal := hDgluRefIdeal)
    ∧ quiescent_FfnDwIn (hFfnDwIn := hFfnDwIn)
    ∧ quiescent_FfnDwInIdeal (hFfnDwInIdeal := hFfnDwInIdeal)
    ∧ quiescent_FfnDwInRefIdeal (hFfnDwInRefIdeal := hFfnDwInRefIdeal)
    ∧ quiescent_AdamwFfn (hAdamwFfn := hAdamwFfn)
    ∧ quiescent_AdamwFfnIdeal (hAdamwFfnIdeal := hAdamwFfnIdeal)
    ∧ quiescent_AdamwFfnRefIdeal (hAdamwFfnRefIdeal := hAdamwFfnRefIdeal)
    ∧ quiescent_AdamwGate (hAdamwGate := hAdamwGate)
    ∧ quiescent_AdamwGateIdeal (hAdamwGateIdeal := hAdamwGateIdeal)
    ∧ quiescent_AdamwGateRefIdeal (hAdamwGateRefIdeal := hAdamwGateRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwBranch (hAdamwBranch := hAdamwBranch)
    ∧ quiescent_AdamwBranchIdeal (hAdamwBranchIdeal := hAdamwBranchIdeal)
    ∧ quiescent_AdamwBranchRefIdeal (hAdamwBranchRefIdeal := hAdamwBranchRefIdeal)
    ∧ quiescent_AdamwGlu (hAdamwGlu := hAdamwGlu)
    ∧ quiescent_AdamwGluIdeal (hAdamwGluIdeal := hAdamwGluIdeal)
    ∧ quiescent_AdamwGluRefIdeal (hAdamwGluRefIdeal := hAdamwGluRefIdeal)
    ∧ quiescent_AdamwAlpha (hAdamwAlpha := hAdamwAlpha)
    ∧ quiescent_AdamwAlphaIdeal (hAdamwAlphaIdeal := hAdamwAlphaIdeal)
    ∧ quiescent_AdamwAlphaRefIdeal (hAdamwAlphaRefIdeal := hAdamwAlphaRefIdeal)
    ∧ quiescent_AdamwBias (hAdamwBias := hAdamwBias)
    ∧ quiescent_AdamwBiasIdeal (hAdamwBiasIdeal := hAdamwBiasIdeal)
    ∧ quiescent_AdamwBiasRefIdeal (hAdamwBiasRefIdeal := hAdamwBiasRefIdeal)
    ∧ quiescent_AdamwRep (hAdamwRep := hAdamwRep)
    ∧ quiescent_AdamwRepIdeal (hAdamwRepIdeal := hAdamwRepIdeal)
    ∧ quiescent_AdamwRepRefIdeal (hAdamwRepRefIdeal := hAdamwRepRefIdeal)
    ∧ quiescent_Dalpha (hDalpha := hDalpha)
    ∧ quiescent_DalphaIdeal (hDalphaIdeal := hDalphaIdeal)
    ∧ quiescent_DalphaRefIdeal (hDalphaRefIdeal := hDalphaRefIdeal)
    ∧ preserves_Kernel_KernelIdeal
    ∧ algebraic_KernelIdeal_ReferenceIdeal (hKernelIdeal := hKernelIdeal) (hReferenceIdeal := hReferenceIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_GlaPost_GlaPostIdeal
    ∧ algebraic_GlaPostIdeal_GlaPostRefIdeal_pre_glapost_finite (hGlaPostIdeal := hGlaPostIdeal) (hGlaPostRefIdeal := hGlaPostRefIdeal) (hPre_glapost_finite := hPre_glapost_finite)
    ∧ preserves_FfnAct_FfnActIdeal
    ∧ algebraic_FfnActIdeal_FfnActRefIdeal_pre_ffnact_finite (hFfnActIdeal := hFfnActIdeal) (hFfnActRefIdeal := hFfnActRefIdeal) (hPre_ffnact_finite := hPre_ffnact_finite)
    ∧ preserves_FfnNorm_FfnNormIdeal
    ∧ algebraic_FfnNormIdeal_FfnNormRefIdeal_pre_ffnnorm_finite (hFfnNormIdeal := hFfnNormIdeal) (hFfnNormRefIdeal := hFfnNormRefIdeal) (hPre_ffnnorm_finite := hPre_ffnnorm_finite)
    ∧ preserves_MixNorm_MixNormIdeal
    ∧ algebraic_MixNormIdeal_MixNormRefIdeal_pre_mixnorm_finite (hMixNormIdeal := hMixNormIdeal) (hMixNormRefIdeal := hMixNormRefIdeal) (hPre_mixnorm_finite := hPre_mixnorm_finite)
    ∧ preserves_LossHead_LossHeadIdeal
    ∧ algebraic_LossHeadIdeal_LossHeadRefIdeal_pre_losshead_finite (hLossHeadIdeal := hLossHeadIdeal) (hLossHeadRefIdeal := hLossHeadRefIdeal) (hPre_losshead_finite := hPre_losshead_finite)
    ∧ preserves_GlaPrep_GlaPrepIdeal
    ∧ algebraic_GlaPrepIdeal_GlaPrepRefIdeal (hGlaPrepIdeal := hGlaPrepIdeal) (hGlaPrepRefIdeal := hGlaPrepRefIdeal)
    ∧ preserves_S5Gate_S5GateIdeal
    ∧ algebraic_S5GateIdeal_S5GateRefIdeal_pre_s5gate_finite (hS5GateIdeal := hS5GateIdeal) (hS5GateRefIdeal := hS5GateRefIdeal) (hPre_s5gate_finite := hPre_s5gate_finite)
    ∧ preserves_S5Out_S5OutIdeal
    ∧ algebraic_S5OutIdeal_S5OutRefIdeal (hS5OutIdeal := hS5OutIdeal) (hS5OutRefIdeal := hS5OutRefIdeal)
    ∧ preserves_GlaOut_GlaOutIdeal
    ∧ algebraic_GlaOutIdeal_GlaOutRefIdeal (hGlaOutIdeal := hGlaOutIdeal) (hGlaOutRefIdeal := hGlaOutRefIdeal)
    ∧ preserves_GlaGate_GlaGateIdeal
    ∧ algebraic_GlaGateIdeal_GlaGateRefIdeal (hGlaGateIdeal := hGlaGateIdeal) (hGlaGateRefIdeal := hGlaGateRefIdeal)
    ∧ preserves_MergeOut_MergeOutIdeal
    ∧ algebraic_MergeOutIdeal_MergeOutRefIdeal (hMergeOutIdeal := hMergeOutIdeal) (hMergeOutRefIdeal := hMergeOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_MixIn_MixInIdeal
    ∧ algebraic_MixInIdeal_MixInRefIdeal (hMixInIdeal := hMixInIdeal) (hMixInRefIdeal := hMixInRefIdeal)
    ∧ preserves_Dwin_DwinIdeal
    ∧ algebraic_DwinIdeal_DwinRefIdeal (hDwinIdeal := hDwinIdeal) (hDwinRefIdeal := hDwinRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixDz_MixDzIdeal
    ∧ algebraic_MixDzIdeal_MixDzRefIdeal (hMixDzIdeal := hMixDzIdeal) (hMixDzRefIdeal := hMixDzRefIdeal)
    ∧ preserves_Adamw_AdamwIdeal
    ∧ algebraic_AdamwIdeal_AdamwRefIdeal (hAdamwIdeal := hAdamwIdeal) (hAdamwRefIdeal := hAdamwRefIdeal)
    ∧ preserves_FfnDw_FfnDwIdeal
    ∧ algebraic_FfnDwIdeal_FfnDwRefIdeal (hFfnDwIdeal := hFfnDwIdeal) (hFfnDwRefIdeal := hFfnDwRefIdeal)
    ∧ preserves_Dwgate_DwgateIdeal
    ∧ algebraic_DwgateIdeal_DwgateRefIdeal (hDwgateIdeal := hDwgateIdeal) (hDwgateRefIdeal := hDwgateRefIdeal)
    ∧ preserves_Dwout_DwoutIdeal
    ∧ algebraic_DwoutIdeal_DwoutRefIdeal (hDwoutIdeal := hDwoutIdeal) (hDwoutRefIdeal := hDwoutRefIdeal)
    ∧ preserves_Dbranch_DbranchIdeal
    ∧ algebraic_DbranchIdeal_DbranchRefIdeal (hDbranchIdeal := hDbranchIdeal) (hDbranchRefIdeal := hDbranchRefIdeal)
    ∧ preserves_DbranchAt_DbranchAtIdeal
    ∧ algebraic_DbranchAtIdeal_DbranchAtRefIdeal (hDbranchAtIdeal := hDbranchAtIdeal) (hDbranchAtRefIdeal := hDbranchAtRefIdeal)
    ∧ preserves_Dglu_DgluIdeal
    ∧ algebraic_DgluIdeal_DgluRefIdeal (hDgluIdeal := hDgluIdeal) (hDgluRefIdeal := hDgluRefIdeal)
    ∧ preserves_FfnDwIn_FfnDwInIdeal
    ∧ algebraic_FfnDwInIdeal_FfnDwInRefIdeal (hFfnDwInIdeal := hFfnDwInIdeal) (hFfnDwInRefIdeal := hFfnDwInRefIdeal)
    ∧ preserves_AdamwFfn_AdamwFfnIdeal
    ∧ algebraic_AdamwFfnIdeal_AdamwFfnRefIdeal (hAdamwFfnIdeal := hAdamwFfnIdeal) (hAdamwFfnRefIdeal := hAdamwFfnRefIdeal)
    ∧ preserves_AdamwGate_AdamwGateIdeal
    ∧ algebraic_AdamwGateIdeal_AdamwGateRefIdeal (hAdamwGateIdeal := hAdamwGateIdeal) (hAdamwGateRefIdeal := hAdamwGateRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwBranch_AdamwBranchIdeal
    ∧ algebraic_AdamwBranchIdeal_AdamwBranchRefIdeal (hAdamwBranchIdeal := hAdamwBranchIdeal) (hAdamwBranchRefIdeal := hAdamwBranchRefIdeal)
    ∧ preserves_AdamwGlu_AdamwGluIdeal
    ∧ algebraic_AdamwGluIdeal_AdamwGluRefIdeal (hAdamwGluIdeal := hAdamwGluIdeal) (hAdamwGluRefIdeal := hAdamwGluRefIdeal)
    ∧ preserves_AdamwAlpha_AdamwAlphaIdeal
    ∧ algebraic_AdamwAlphaIdeal_AdamwAlphaRefIdeal (hAdamwAlphaIdeal := hAdamwAlphaIdeal) (hAdamwAlphaRefIdeal := hAdamwAlphaRefIdeal)
    ∧ preserves_AdamwBias_AdamwBiasIdeal
    ∧ algebraic_AdamwBiasIdeal_AdamwBiasRefIdeal (hAdamwBiasIdeal := hAdamwBiasIdeal) (hAdamwBiasRefIdeal := hAdamwBiasRefIdeal)
    ∧ preserves_AdamwRep_AdamwRepIdeal
    ∧ algebraic_AdamwRepIdeal_AdamwRepRefIdeal (hAdamwRepIdeal := hAdamwRepIdeal) (hAdamwRepRefIdeal := hAdamwRepRefIdeal)
    ∧ preserves_Dalpha_DalphaIdeal
    ∧ algebraic_DalphaIdeal_DalphaRefIdeal (hDalphaIdeal := hDalphaIdeal) (hDalphaRefIdeal := hDalphaRefIdeal)
-- ==== Pre_attn_finite.lean ====
abbrev S4096x512 : Shape := ⟨2, ![4096, 512]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x128 .f32) (main_arg2 : FVec F S4096x128 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_ffnact_finite.lean ====
abbrev S4096x2816 : Shape := ⟨2, ![4096, 2816]⟩
abbrev S2x2816x1024 : Shape := ⟨3, ![2, 2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2x2816x1024 : S_.BroadcastsInDim S2x2816x1024 (![] : Fin 0 → Fin S2x2816x1024.rank)
  reducesTo_S2x2816x1024_S_d0_1_2 : S2x2816x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x2816 .f32) (main_arg1 : FVec F S4096x2816 .f32) (main_arg2 : FVec F S2x2816x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : FVec F S2x2816x1024 .f32 := Host.absf main_arg2
  let main_cst_2 : FVec F S_ .f32 := constant S_ .f32 0x7F800000#32
  let main_v9 : FVec F S2x2816x1024 .f32 := broadcastInDim S2x2816x1024 ![] bcast_S_S2x2816x1024 main_cst_2
  let main_v10 : IVec S2x2816x1024 1 := cmpf .olt main_v8 main_v9
  let main_c_3 : IVec S_ 1 := constantI S_ 1 1#1
  let main_v11 : IVec S_ 1 := (fun x v => Host.reduce IntOp.andi x v reducesTo_S2x2816x1024_S_d0_1_2 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_v3 main_v7 main_v11 main_v15
-- ==== Pre_ffnnorm_finite.lean ====
abbrev S4096x1024 : Shape := ⟨2, ![4096, 1024]⟩
abbrev S1024 : Shape := ⟨1, ![1024]⟩
abbrev S2x1024x2816 : Shape := ⟨3, ![2, 1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x2816 : S_.BroadcastsInDim S2x1024x2816 (![] : Fin 0 → Fin S2x1024x2816.rank)
  reducesTo_S2x1024x2816_S_d0_1_2 : S2x1024x2816.ReducesTo [0, 1, 2] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg5 : FVec F S4096x2816 .f32) (main_arg6 : FVec F S4096x2816 .f32) (main_v3 : IVec S_ 1) (main_v7 : IVec S_ 1) (main_v11 : IVec S_ 1) (main_v15 : IVec S_ 1) : IVec S_ 1 :=
  let main_v16 : FVec F S4096x2816 .f32 := Host.absf main_arg5
  let main_cst_6 : FVec F S_ .f32 := constant S_ .f32 0x7F800000#32
  let main_v17 : FVec F S4096x2816 .f32 := broadcastInDim S4096x2816 ![] bcast_S_S4096x2816 main_cst_6
  let main_v18 : IVec S4096x2816 1 := cmpf .olt main_v16 main_v17
  let main_c_7 : IVec S_ 1 := constantI S_ 1 1#1
  let main_v19 : IVec S_ 1 := (fun x v => Host.reduce IntOp.andi x v reducesTo_S4096x2816_S_d0_1 h_S_) main_v18 main_c_7
  let main_v20 : FVec F S4096x2816 .f32 := Host.absf main_arg6
  let main_cst_8 : FVec F S_ .f32 := constant S_ .f32 0x7F800000#32
  let main_v21 : FVec F S4096x2816 .f32 := broadcastInDim S4096x2816 ![] bcast_S_S4096x2816 main_cst_8
  let main_v22 : IVec S4096x2816 1 := cmpf .olt main_v20 main_v21
  let main_c_9 : IVec S_ 1 := constantI S_ 1 1#1
  let main_v23 : IVec S_ 1 := (fun x v => Host.reduce IntOp.andi x v reducesTo_S4096x2816_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S1024 .f32) (main_arg2 : FVec F S2x1024x2816 .f32) (main_arg3 : FVec F S2x1024x2816 .f32) (main_arg4 : FVec F S4096x1024 .f32) (main_arg5 : FVec F S4096x2816 .f32) (main_arg6 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S2x1024x2816 .f32 := Host.absf main_arg2
  let main_cst_2 : FVec F S_ .f32 := constant S_ .f32 0x7F800000#32
  let main_v9 : FVec F S2x1024x2816 .f32 := broadcastInDim S2x1024x2816 ![] bcast_S_S2x1024x2816 main_cst_2
  let main_v10 : IVec S2x1024x2816 1 := cmpf .olt main_v8 main_v9
  let main_c_3 : IVec S_ 1 := constantI S_ 1 1#1
  let main_v11 : IVec S_ 1 := (fun x v => Host.reduce IntOp.andi x v reducesTo_S2x1024x2816_S_d0_1_2 h_S_) main_v10 main_c_3
  let main_v12 : FVec F S2x1024x2816 .f32 := Host.absf main_arg3
  let main_cst_4 : FVec F S_ .f32 := constant S_ .f32 0x7F800000#32
  let main_v13 : FVec F S2x1024x2816 .f32 := broadcastInDim S2x1024x2816 ![] bcast_S_S2x1024x2816 main_cst_4
  let main_v14 : IVec S2x1024x2816 1 := cmpf .olt main_v12 main_v13
  let main_c_5 : IVec S_ 1 := constantI S_ 1 1#1
  let main_v15 : IVec S_ 1 := (fun x v => Host.reduce IntOp.andi x v reducesTo_S2x1024x2816_S_d0_1_2 h_S_) main_v14 main_c_5
  fn_part1 (F := F) main_arg5 main_arg6 main_v3 main_v7 main_v11 main_v15
-- ==== Pre_glapost_finite.lean ====
abbrev S4096x512 : Shape := ⟨2, ![4096, 512]⟩
abbrev S128 : Shape := ⟨1, ![128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S4096x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x512 .f32) (main_arg1 : FVec F S4096x512 .f32) (main_arg2 : FVec F S4096x512 .f32) (main_arg3 : FVec F S128 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S128 .f32 := Host.absf main_arg3
  let main_cst_4 : FVec F S_ .f32 := constant S_ .f32 0x7F800000#32
  let main_v13 : FVec F S128 .f32 := broadcastInDim S128 ![] bcast_S_S128 main_cst_4
  let main_v14 : IVec S128 1 := cmpf .olt main_v12 main_v13
  let main_c_5 : IVec S_ 1 := constantI S_ 1 1#1
  let main_v15 : IVec S_ 1 := (fun x v => Host.reduce IntOp.andi x v reducesTo_S128_S_d0 h_S_) main_v14 main_c_5
  fn_part1 (F := F) main_arg4 main_v3 main_v7 main_v11 main_v15
-- ==== Pre_losshead_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : IVec S_ 1 := andi main_v3 main_v7
  let main_v13 : IVec S_ 1 := andi main_v12 main_v11
  main_v13
-- ==== Pre_mixnorm_finite.lean ====
abbrev S4096x1024 : Shape := ⟨2, ![4096, 1024]⟩
abbrev S1024 : Shape := ⟨1, ![1024]⟩
abbrev S1024x3072 : Shape := ⟨2, ![1024, 3072]⟩
abbrev S1024x3360 : Shape := ⟨2, ![1024, 3360]⟩
abbrev S4096x3072 : Shape := ⟨2, ![4096, 3072]⟩
abbrev S4096x3360 : Shape := ⟨2, ![4096, 3360]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024x3360 : S_.BroadcastsInDim S1024x3360 (![] : Fin 0 → Fin S1024x3360.rank)
  reducesTo_S1024x3360_S_d0_1 : S1024x3360.ReducesTo [0, 1] S_
  bcast_S_S4096x3072 : S_.BroadcastsInDim S4096x3072 (![] : Fin 0 → Fin S4096x3072.rank)
  reducesTo_S4096x3072_S_d0_1 : S4096x3072.ReducesTo [0, 1] S_
  bcast_S_S4096x3360 : S_.BroadcastsInDim S4096x3360 (![] : Fin 0 → Fin S4096x3360.rank)
  reducesTo_S4096x3360_S_d0_1 : S4096x3360.ReducesTo [0, 1] S_

variable [Facts]

def fn_part1 {F : FTy → Type} [FloatOps F] (main_arg5 : FVec F S4096x3072 .f32) (main_arg6 : FVec F S4096x3360 .f32) (main_v3 : IVec S_ 1) (main_v7 : IVec S_ 1) (main_v11 : IVec S_ 1) (main_v15 : IVec S_ 1) : IVec S_ 1 :=
  let main_v16 : FVec F S4096x3072 .f32 := Host.absf main_arg5
  let main_cst_6 : FVec F S_ .f32 := constant S_ .f32 0x7F800000#32
  let main_v17 : FVec F S4096x3072 .f32 := broadcastInDim S4096x3072 ![] bcast_S_S4096x3072 main_cst_6
  let main_v18 : IVec S4096x3072 1 := cmpf .olt main_v16 main_v17
  let main_c_7 : IVec S_ 1 := constantI S_ 1 1#1
  let main_v19 : IVec S_ 1 := (fun x v => Host.reduce IntOp.andi x v reducesTo_S4096x3072_S_d0_1 h_S_) main_v18 main_c_7
  let main_v20 : FVec F S4096x3360 .f32 := Host.absf main_arg6
  let main_cst_8 : FVec F S_ .f32 := constant S_ .f32 0x7F800000#32
  let main_v21 : FVec F S4096x3360 .f32 := broadcastInDim S4096x3360 ![] bcast_S_S4096x3360 main_cst_8
  let main_v22 : IVec S4096x3360 1 := cmpf .olt main_v20 main_v21
  let main_c_9 : IVec S_ 1 := constantI S_ 1 1#1
  let main_v23 : IVec S_ 1 := (fun x v => Host.reduce IntOp.andi x v reducesTo_S4096x3360_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S1024 .f32) (main_arg2 : FVec F S1024x3072 .f32) (main_arg3 : FVec F S1024x3360 .f32) (main_arg4 : FVec F S4096x1024 .f32) (main_arg5 : FVec F S4096x3072 .f32) (main_arg6 : FVec F S4096x3360 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x3072 .f32 := Host.absf main_arg2
  let main_cst_2 : FVec F S_ .f32 := constant S_ .f32 0x7F800000#32
  let main_v9 : FVec F S1024x3072 .f32 := broadcastInDim S1024x3072 ![] bcast_S_S1024x3072 main_cst_2
  let main_v10 : IVec S1024x3072 1 := cmpf .olt main_v8 main_v9
  let main_c_3 : IVec S_ 1 := constantI S_ 1 1#1
  let main_v11 : IVec S_ 1 := (fun x v => Host.reduce IntOp.andi x v reducesTo_S1024x3072_S_d0_1 h_S_) main_v10 main_c_3
  let main_v12 : FVec F S1024x3360 .f32 := Host.absf main_arg3
  let main_cst_4 : FVec F S_ .f32 := constant S_ .f32 0x7F800000#32
  let main_v13 : FVec F S1024x3360 .f32 := broadcastInDim S1024x3360 ![] bcast_S_S1024x3360 main_cst_4
  let main_v14 : IVec S1024x3360 1 := cmpf .olt main_v12 main_v13
  let main_c_5 : IVec S_ 1 := constantI S_ 1 1#1
  let main_v15 : IVec S_ 1 := (fun x v => Host.reduce IntOp.andi x v reducesTo_S1024x3360_S_d0_1 h_S_) main_v14 main_c_5
  fn_part1 (F := F) main_arg5 main_arg6 main_v3 main_v7 main_v11 main_v15
-- ==== Pre_s5gate_finite.lean ====
abbrev S4096x512 : Shape := ⟨2, ![4096, 512]⟩
abbrev S512 : Shape := ⟨1, ![512]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S4096x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x512 .f32) (main_arg1 : FVec F S4096x512 .f32) (main_arg2 : FVec F S512 .f32) (main_arg3 : FVec F S512x512 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S512 .f32 := Host.absf main_arg2
  let main_cst_2 : FVec F S_ .f32 := constant S_ .f32 0x7F800000#32
  let main_v9 : FVec F S512 .f32 := broadcastInDim S512 ![] bcast_S_S512 main_cst_2
  let main_v10 : IVec S512 1 := cmpf .olt main_v8 main_v9
  let main_c_3 : IVec S_ 1 := constantI S_ 1 1#1
  let main_v11 : IVec S_ 1 := (fun x v => Host.reduce IntOp.andi x v reducesTo_S512_S_d0 h_S_) main_v10 main_c_3
  let main_v12 : FVec F S512x512 .f32 := Host.absf main_arg3
  let main_cst_4 : FVec F S_ .f32 := constant S_ .f32 0x7F800000#32
  let main_v13 : FVec F S512x512 .f32 := broadcastInDim S512x512 ![] bcast_S_S512x512 main_cst_4
  let main_v14 : IVec S512x512 1 := cmpf .olt main_v12 main_v13
  let main_c_5 : IVec S_ 1 := constantI S_ 1 1#1
  let main_v15 : IVec S_ 1 := (fun x v => Host.reduce IntOp.andi x v reducesTo_S512x512_S_d0_1 h_S_) main_v14 main_c_5
  fn_part1 (F := F) main_arg4 main_v3 main_v7 main_v11 main_v15
-- ==== Kernel.lean ====
abbrev S4096x3072 : Shape := ⟨2, ![4096, 3072]⟩
abbrev S4096x1024 : Shape := ⟨2, ![4096, 1024]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩

abbrev nBuf : Space → Nat
  | .hbm => 12
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S3072, .f32⟩
  | .hbm, ⟨5, _⟩ => ⟨S4096x1024, .bf16⟩
  | .hbm, ⟨6, _⟩ => ⟨S1x3072, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x3072, .bf16⟩
  | .hbm, ⟨11, _⟩ => ⟨S1x3072, .f32⟩
  | .local _ .vmem, ⟨0, _⟩ => ⟨S256x1024, .bf16⟩
  | .local _ .vmem, ⟨1, _⟩ => ⟨S256x1024, .bf16⟩
  | .local _ .vmem, ⟨2, _⟩ => ⟨S256x3072, .bf16⟩
  | .local _ .vmem, ⟨3, _⟩ => ⟨S256x3072, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x3072, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | .local _ .vmem, ⟨19, _⟩ => ⟨S1x3072, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x3072 : Shape := ⟨2, ![4096, 3072]⟩
abbrev S4096x1024 : Shape := ⟨2, ![4096, 1024]⟩
abbrev S3072 : Shape := ⟨1, ![3072]⟩
abbrev S1x3072 : Shape := ⟨2, ![1, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S3072, .f32⟩
  | .hbm, ⟨5, _⟩ => ⟨S4096x1024, .bf16⟩
  | .hbm, ⟨6, _⟩ => ⟨S4096x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1x1024, .f32⟩
  | .hbm, ⟨42, _⟩ => ⟨S_, .f32⟩
  | .hbm, ⟨43, _⟩ => ⟨S4096x3x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1x1024, .f32⟩
  | .hbm, ⟨48, _⟩ => ⟨S_, .f32⟩
  | .hbm, ⟨49, _⟩ => ⟨S4096x3x1024, .f32⟩
  | .hbm, ⟨50, _⟩ => ⟨S4096x3x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x1x1024, .f32⟩
  | .hbm, ⟨55, _⟩ => ⟨S_, .f32⟩
  | .hbm, ⟨56, _⟩ => ⟨S4096x3x1024, .f32⟩
  | .hbm, ⟨57, _⟩ => ⟨S4096x3x1024, .f32⟩
  | .hbm, ⟨58, _⟩ => ⟨S4096x3072, .f32⟩
  | .hbm, ⟨59, _⟩ => ⟨S4096x3072, .f32⟩
  | .hbm, ⟨60, _⟩ => ⟨S_, .f32⟩
  | .hbm, ⟨61, _⟩ => ⟨S3072, .f32⟩
  | .hbm, ⟨62, _⟩ => ⟨S1x3072, .f32⟩
  | .hbm, ⟨63, _⟩ => ⟨S_, .f32⟩
  | .hbm, ⟨64, _⟩ => ⟨S3072, .f32⟩
  | .hbm, ⟨65, _⟩ => ⟨S4096x3072, .bf16⟩
  | .hbm, ⟨66, _⟩ => ⟨S1x3072, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Attn.lean ====
abbrev S4096x512 : Shape := ⟨2, ![4096, 512]⟩
abbrev S4096x128 : Shape := ⟨2, ![4096, 128]⟩
abbrev S4096x2x1x64 : Shape := ⟨4, ![4096, 2, 1, 64]⟩
abbrev S4096x2x2x64 : Shape := ⟨4, ![4096, 2, 2, 64]⟩
abbrev S4096x256 : Shape := ⟨2, ![4096, 256]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S_ : Shape := ⟨0, ![]⟩
abbrev S4096x2x64 : Shape := ⟨3, ![4096, 2, 64]⟩

abbrev nBuf : Space → Nat
  | .hbm => 26
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S4096x512, .bf16⟩
  | .hbm, ⟨5, _⟩ => ⟨S4096x2x1x64, .f32⟩
  | .hbm, ⟨6, _⟩ => ⟨S4096x2x2x64, .f32⟩
  | .hbm, ⟨7, _⟩ => ⟨S4096x256, .f32⟩
  | .hbm, ⟨8, _⟩ => ⟨S4096x256, .bf16⟩
  | .hbm, ⟨9, _⟩ => ⟨S4096x2x1x64, .f32⟩
  | .hbm, ⟨10, _⟩ => ⟨S4096x2x2x64, .f32⟩
  | .hbm, ⟨11, _⟩ => ⟨S4096x256, .f32⟩
  | .hbm, ⟨12, _⟩ => ⟨S4096x256, .bf16⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x256, .f32⟩
  | .hbm, ⟨17, _⟩ => ⟨S4096x256, .f32⟩
  | .hbm, ⟨18, _⟩ => ⟨S4096x2x2x64, .f32⟩
  | .hbm, ⟨19, _⟩ => ⟨S_, .f32⟩
  | .hbm, ⟨20, _⟩ => ⟨S4096x2x64, .f32⟩
  | .hbm, ⟨21, _⟩ => ⟨S4096x128, .f32⟩
  | .hbm, ⟨22, _⟩ => ⟨S4096x2x2x64, .f32⟩
  | .hbm, ⟨23, _⟩ => ⟨S_, .f32⟩
  | .hbm, ⟨24, _⟩ => ⟨S4096x2x64, .f32⟩
  | .hbm, ⟨25, _⟩ => ⟨S4096x128, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 2, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== AttnIdeal.lean ====
variable {F : FTy → Type} [FloatOps F] [Named F]
def κ : String → Option EReal := fun
  | "mask" => some ⊥
  | _ => none
-- ==== AttnRefIdeal.lean ====
abbrev S4096x512 : Shape := ⟨2, ![4096, 512]⟩
abbrev S4096x128 : Shape := ⟨2, ![4096, 128]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩
abbrev S2x4096x64 : Shape := ⟨3, ![2, 4096, 64]⟩

abbrev nBuf : Space → Nat
  | .hbm => 77
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S4096x2x4x64, .f32⟩
  | .hbm, ⟨5, _⟩ => ⟨S4096x2x64, .f32⟩
  | .hbm, ⟨6, _⟩ => ⟨S4096x2x64, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S2x4x4096, .f32⟩
  | .hbm, ⟨11, _⟩ => ⟨S2x4x4096x1, .f32⟩
  | .hbm, ⟨12, _⟩ => ⟨S2x4x4096x4096, .f32⟩
  | .hbm, ⟨13, _⟩ => ⟨S2x4x4096x4096, .i1⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .i1⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S_, .f32⟩
  | .hbm, ⟨29, _⟩ => ⟨S2x4x4096, .f32⟩
  | .hbm, ⟨30, _⟩ => ⟨S_, .f32⟩
  | .hbm, ⟨31, _⟩ => ⟨S2x4x4096, .f32⟩
  | .hbm, ⟨32, _⟩ => ⟨S2x4x4096, .f32⟩
  | .hbm, ⟨33, _⟩ => ⟨S2x4x4096, .f32⟩
  | .hbm, ⟨34, _⟩ => ⟨S2x4x4096x1, .f32⟩
  | .hbm, ⟨35, _⟩ => ⟨S2x4x4096x4096, .f32⟩
  | .hbm, ⟨36, _⟩ => ⟨S2x4x4096x4096, .f32⟩
  | .hbm, ⟨37, _⟩ => ⟨S2x4x4096x4096, .f32⟩
  | .hbm, ⟨38, _⟩ => ⟨S_, .f32⟩
  | .hbm, ⟨39, _⟩ => ⟨S2x4x4096, .f32⟩
  | .hbm, ⟨40, _⟩ => ⟨S2x4x4096x1, .f32⟩
  | .hbm, ⟨41, _⟩ => ⟨S2x4x4096x4096, .f32⟩
  | .hbm, ⟨42, _⟩ => ⟨S2x4x4096x4096, .f32⟩
  | .hbm, ⟨43, _⟩ => ⟨S2x4x4096x1, .f32⟩
  | .hbm, ⟨44, _⟩ => ⟨S_, .f32⟩
  | .hbm, ⟨45, _⟩ => ⟨S2x4x4096x1, .f32⟩
  | .hbm, ⟨46, _⟩ => ⟨S2x4x4096x1, .f32⟩
  | .hbm, ⟨47, _⟩ => ⟨S2x64x4x4096, .f32⟩
  | .hbm, ⟨48, _⟩ => ⟨S4096x2x4x64, .f32⟩
  | .hbm, ⟨49, _⟩ => ⟨S4096x512, .f32⟩
  | .hbm, ⟨50, _⟩ => ⟨S4096x2x4x64, .f32⟩
  | .hbm, ⟨51, _⟩ => ⟨S2x64x4x4096, .f32⟩
  | .hbm, ⟨52, _⟩ => ⟨S2x4x4096x4096, .f32⟩
  | .hbm, ⟨53, _⟩ => ⟨S2x64x4096, .f32⟩
  | .hbm, ⟨54, _⟩ => ⟨S4096x2x64, .f32⟩
  | .hbm, ⟨55, _⟩ => ⟨S2x4x4096x4096, .f32⟩
  | .hbm, ⟨56, _⟩ => ⟨S2x4x4096x4096, .f32⟩
  | .hbm, ⟨57, _⟩ => ⟨S2x4x4096x4096, .f32⟩
  | .hbm, ⟨58, _⟩ => ⟨S_, .f32⟩
  | .hbm, ⟨59, _⟩ => ⟨S2x4x4096, .f32⟩
  | .hbm, ⟨60, _⟩ => ⟨S2x4x4096x1, .f32⟩
  | .hbm, ⟨61, _⟩ => ⟨S2x4x4096x1, .f32⟩
  | .hbm, ⟨62, _⟩ => ⟨S2x4x4096x4096, .f32⟩
  | .hbm, ⟨63, _⟩ => ⟨S2x4x4096x4096, .f32⟩
  | .hbm, ⟨64, _⟩ => ⟨S_, .f32⟩
  | .hbm, ⟨65, _⟩ => ⟨S2x4x4096, .f32⟩
  | .hbm, ⟨66, _⟩ => ⟨S2x4x4096x4096, .f32⟩
  | .hbm, ⟨67, _⟩ => ⟨S2x4x4096x4096, .f32⟩
  | .hbm, ⟨68, _⟩ => ⟨S2x4x4096x4096, .f32⟩
  | .hbm, ⟨69, _⟩ => ⟨S2x4096x4096x4, .f32⟩
  | .hbm, ⟨70, _⟩ => ⟨S2x4096x4x64, .f32⟩
  | .hbm, ⟨71, _⟩ => ⟨S4096x2x4x64, .f32⟩
  | .hbm, ⟨72, _⟩ => ⟨S2x4096x64, .f32⟩
  | .hbm, ⟨73, _⟩ => ⟨S4096x2x64, .f32⟩
  | .hbm, ⟨74, _⟩ => ⟨S4096x128, .f32⟩
  | .hbm, ⟨75, _⟩ => ⟨S4096x128, .f32⟩
  | .hbm, ⟨76, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== GlaPost.lean ====
abbrev S4096x512 : Shape := ⟨2, ![4096, 512]⟩
abbrev S128 : Shape := ⟨1, ![128]⟩
abbrev S_ : Shape := ⟨0, ![]⟩
abbrev S4096x2048 : Shape := ⟨2, ![4096, 2048]⟩
abbrev S4096x896 : Shape := ⟨2, ![4096, 896]⟩
abbrev S4096x3456 : Shape := ⟨2, ![4096, 3456]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S128, .f32⟩
  | .hbm, ⟨4, _⟩ => ⟨S4096x512, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x896, .f32⟩
  | .hbm, ⟨9, _⟩ => ⟨S4096x3456, .f32⟩
  | .hbm, ⟨10, _⟩ => ⟨S4096x3456, .bf16⟩
  | .hbm, ⟨11, _⟩ => ⟨S1x128, .f32⟩
  | .hbm, ⟨12, _⟩ => ⟨S4096x512, .f32⟩
  | .hbm, ⟨13, _⟩ => ⟨S4096x512, .f32⟩
  | .hbm, ⟨14, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S1x128, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GlaPostRefIdeal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S128, .f32⟩
  | .hbm, ⟨4, _⟩ => ⟨S4096x512, .f32⟩
  | .hbm, ⟨5, _⟩ => ⟨S4096x4x128, .f32⟩
  | .hbm, ⟨6, _⟩ => ⟨S4096x4x128, .f32⟩
  | .hbm, ⟨7, _⟩ => ⟨S4096x4x128, .f32⟩
  | .hbm, ⟨8, _⟩ => ⟨S4096x4x128, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x128, .f32⟩
  | .hbm, ⟨24, _⟩ => ⟨S4096x4x128, .f32⟩
  | .hbm, ⟨25, _⟩ => ⟨S1x1x128, .f32⟩
  | .hbm, ⟨26, _⟩ => ⟨S4096x4x128, .f32⟩
  | .hbm, ⟨27, _⟩ => ⟨S4096x4x128, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x4x128, .f32⟩
  | .hbm, ⟨50, _⟩ => ⟨S4096x4x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S4096x4x128, .f32⟩
  | .hbm, ⟨55, _⟩ => ⟨S4096x4x128, .f32⟩
  | .hbm, ⟨56, _⟩ => ⟨S_, .f32⟩
  | .hbm, ⟨57, _⟩ => ⟨S128, .f32⟩
  | .hbm, ⟨58, _⟩ => ⟨S4096x4x128, .f32⟩
  | .hbm, ⟨59, _⟩ => ⟨S_, .f32⟩
  | .hbm, ⟨60, _⟩ => ⟨S4096x4, .f32⟩
  | .hbm, ⟨61, _⟩ => ⟨S4096x4x1, .f32⟩
  | .hbm, ⟨62, _⟩ => ⟨S4096x4x128, .f32⟩
  | .hbm, ⟨63, _⟩ => ⟨S4096x4x128, .f32⟩
  | .hbm, ⟨64, _⟩ => ⟨S4096x4x1, .f32⟩
  | .hbm, ⟨65, _⟩ => ⟨S_, .f32⟩
  | .hbm, ⟨66, _⟩ => ⟨S4096x4x1, .f32⟩
  | .hbm, ⟨67, _⟩ => ⟨S4096x4x1, .f32⟩
  | .hbm, ⟨68, _⟩ => ⟨S_, .f32⟩
  | .hbm, ⟨69, _⟩ => ⟨S4096x4, .f32⟩
  | .hbm, ⟨70, _⟩ => ⟨S4096x4x128, .f32⟩
  | .hbm, ⟨71, _⟩ => ⟨S4096x4x128, .f32⟩
  | .hbm, ⟨72, _⟩ => ⟨S4096x4x128, .f32⟩
  | .hbm, ⟨73, _⟩ => ⟨S4096x4x128, .f32⟩
  | .hbm, ⟨74, _⟩ => ⟨S4096x4x128, .f32⟩
  | .hbm, ⟨75, _⟩ => ⟨S4096x512, .f32⟩
  | .hbm, ⟨76, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩

abbrev nD : Nat := 1
abbrev τ : Topo := Topo.v7x

variable {F : FTy → Type} [FloatOps F]
-- ==== FfnAct.lean ====
abbrev S4096x2816 : Shape := ⟨2, ![4096, 2816]⟩
abbrev S2x2816x1024 : Shape := ⟨3, ![2, 2816, 1024]⟩
abbrev S4096x1024 : Shape := ⟨2, ![4096, 1024]⟩
abbrev S2x4x704x1024 : Shape := ⟨4, ![2, 4, 704, 1024]⟩
abbrev S4x2x704x1024 : Shape := ⟨4, ![4, 2, 704, 1024]⟩
abbrev S4096x4x704 : Shape := ⟨3, ![4096, 4, 704]⟩
abbrev S4x4096x704 : Shape := ⟨3, ![4, 4096, 704]⟩
abbrev S512x1024 : Shape := ⟨2, ![512, 1024]⟩
abbrev S4x1x704x1024 : Shape := ⟨4, ![4, 1, 704, 1024]⟩
abbrev S4x512x704 : Shape := ⟨3, ![4, 512, 704]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 16
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2x2816x1024, .f32⟩
  | .hbm, ⟨3, _⟩ => ⟨S4096x1024, .f32⟩
  | .hbm, ⟨4, _⟩ => ⟨S4096x1024, .bf16⟩
  | .hbm, ⟨5, _⟩ => ⟨S2x4x704x1024, .f32⟩
  | .hbm, ⟨6, _⟩ => ⟨S4x2x704x1024, .f32⟩
  | .hbm, ⟨7, _⟩ => ⟨S4x2x704x1024, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x4x704, .f32⟩
  | .hbm, ⟨12, _⟩ => ⟨S4x4096x704, .f32⟩
  | .hbm, ⟨13, _⟩ => ⟨S4x4096x704, .bf16⟩
  | .hbm, ⟨14, _⟩ => ⟨S4x4096x704, .bf16⟩
  | .hbm, ⟨15, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S4x1x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnActRefIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S_ : Shape := ⟨0, ![]⟩
abbrev S1x2816x1024 : Shape := ⟨3, ![1, 2816, 1024]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2x2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S1x2816x1024, .f32⟩
  | .hbm, ⟨19, _⟩ => ⟨S2816x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x4x704, .f32⟩
  | .hbm, ⟨35, _⟩ => ⟨S4x4096x704, .f32⟩
  | .hbm, ⟨36, _⟩ => ⟨S4x4096x704, .bf16⟩
  | .hbm, ⟨37, _⟩ => ⟨S4096x4x704, .f32⟩
  | .hbm, ⟨38, _⟩ => ⟨S4x4096x704, .f32⟩
  | .hbm, ⟨39, _⟩ => ⟨S4x4096x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== FfnNorm.lean ====
abbrev S4096x1024 : Shape := ⟨2, ![4096, 1024]⟩
abbrev S1024 : Shape := ⟨1, ![1024]⟩
abbrev S2x1024x2816 : Shape := ⟨3, ![2, 1024, 2816]⟩
abbrev S4096x2816 : Shape := ⟨2, ![4096, 2816]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S4096x4x704 : Shape := ⟨3, ![4096, 4, 704]⟩
abbrev S4x4096x704 : Shape := ⟨3, ![4, 4096, 704]⟩
abbrev S1x1024 : Shape := ⟨2, ![1, 1024]⟩
abbrev S4x256x704 : Shape := ⟨3, ![4, 256, 704]⟩
abbrev S4x1x704x1024 : Shape := ⟨4, ![4, 1, 704, 1024]⟩
abbrev S256x1024 : Shape := ⟨2, ![256, 1024]⟩
abbrev S1x256x704 : Shape := ⟨3, ![1, 256, 704]⟩
abbrev S256x704 : Shape := ⟨2, ![256, 704]⟩
abbrev S1x1x704x1024 : Shape := ⟨4, ![1, 1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 25
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2x2816x1024, .f32⟩
  | .hbm, ⟨8, _⟩ => ⟨S2x4x704x1024, .f32⟩
  | .hbm, ⟨9, _⟩ => ⟨S4x2x704x1024, .f32⟩
  | .hbm, ⟨10, _⟩ => ⟨S4x2x704x1024, .bf16⟩
  | .hbm, ⟨11, _⟩ => ⟨S2x2816x1024, .f32⟩
  | .hbm, ⟨12, _⟩ => ⟨S2x4x704x1024, .f32⟩
  | .hbm, ⟨13, _⟩ => ⟨S4x2x704x1024, .f32⟩
  | .hbm, ⟨14, _⟩ => ⟨S4x2x704x1024, .bf16⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S1x1024, .f32⟩
  | .hbm, ⟨22, _⟩ => ⟨S4096x1024, .f32⟩
  | .hbm, ⟨23, _⟩ => ⟨S4096x1024, .bf16⟩
  | .hbm, ⟨24, _⟩ => ⟨S1x1024, .f32⟩
  | .local _ .vmem, ⟨0, _⟩ => ⟨S4x256x704, .bf16⟩
  | .local _ .vmem, ⟨1, _⟩ => ⟨S4x256x704, .bf16⟩
  | .local _ .vmem, ⟨2, _⟩ => ⟨S4x256x704, .bf16⟩
  | .local _ .vmem, ⟨3, _⟩ => ⟨S4x256x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnNormRefIdeal.lean ====
abbrev S4096x1024 : Shape := ⟨2, ![4096, 1024]⟩
abbrev S1024 : Shape := ⟨1, ![1024]⟩
abbrev S2x1024x2816 : Shape := ⟨3, ![2, 1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x2816 : Shape := ⟨3, ![1, 1024, 2816]⟩
abbrev S1024x2816 : Shape := ⟨2, ![1024, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024x2816, .f32⟩
  | .hbm, ⟨28, _⟩ => ⟨S1024x2816, .f32⟩
  | .hbm, ⟨29, _⟩ => ⟨S4096x2816, .f32⟩
  | .hbm, ⟨30, _⟩ => ⟨S1x1024x2816, .f32⟩
  | .hbm, ⟨31, _⟩ => ⟨S1024x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== MixNorm.lean ====
abbrev S4096x1024 : Shape := ⟨2, ![4096, 1024]⟩
abbrev S1024 : Shape := ⟨1, ![1024]⟩
abbrev S1024x3072 : Shape := ⟨2, ![1024, 3072]⟩
abbrev S1024x3360 : Shape := ⟨2, ![1024, 3360]⟩
abbrev S4096x3072 : Shape := ⟨2, ![4096, 3072]⟩
abbrev S4096x3360 : Shape := ⟨2, ![4096, 3360]⟩
abbrev S4096x2560 : Shape := ⟨2, ![4096, 2560]⟩
abbrev S4096x768 : Shape := ⟨2, ![4096, 768]⟩
abbrev S4096x32 : Shape := ⟨2, ![4096, 32]⟩
abbrev S_ : Shape := ⟨0, ![]⟩
abbrev S4096x96 : Shape := ⟨2, ![4096, 96]⟩
abbrev S4096x3456 : Shape := ⟨2, ![4096, 3456]⟩
abbrev S3360x1024 : Shape := ⟨2, ![3360, 1024]⟩
abbrev S2560x1024 : Shape := ⟨2, ![2560, 1024]⟩
abbrev S768x1024 : Shape := ⟨2, ![768, 1024]⟩
abbrev S32x1024 : Shape := ⟨2, ![32, 1024]⟩
abbrev S96x1024 : Shape := ⟨2, ![96, 1024]⟩
abbrev S3456x1024 : Shape := ⟨2, ![3456, 1024]⟩
abbrev S1x1024 : Shape := ⟨2, ![1, 1024]⟩
abbrev S256x3072 : Shape := ⟨2, ![256, 3072]⟩
abbrev S256x3456 : Shape := ⟨2, ![256, 3456]⟩
abbrev S256x1024 : Shape := ⟨2, ![256, 1024]⟩
abbrev S256 : Shape := ⟨1, ![256]⟩
abbrev S256x1 : Shape := ⟨2, ![256, 1]⟩

abbrev nBuf : Space → Nat
  | .hbm => 28
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1024x3360, .f32⟩
  | .hbm, ⟨4, _⟩ => ⟨S4096x1024, .f32⟩
  | .hbm, ⟨5, _⟩ => ⟨S4096x3072, .f32⟩
  | .hbm, ⟨6, _⟩ => ⟨S4096x3360, .f32⟩
  | .hbm, ⟨7, _⟩ => ⟨S4096x2560, .f32⟩
  | .hbm, ⟨8, _⟩ => ⟨S4096x768, .f32⟩
  | .hbm, ⟨9, _⟩ => ⟨S4096x32, .f32⟩
  | .hbm, ⟨10, _⟩ => ⟨S_, .f32⟩
  | .hbm, ⟨11, _⟩ => ⟨S4096x96, .f32⟩
  | .hbm, ⟨12, _⟩ => ⟨S4096x3456, .f32⟩
  | .hbm, ⟨13, _⟩ => ⟨S4096x3072, .bf16⟩
  | .hbm, ⟨14, _⟩ => ⟨S4096x3456, .bf16⟩
  | .hbm, ⟨15, _⟩ => ⟨S1024x3072, .bf16⟩
  | .hbm, ⟨16, _⟩ => ⟨S3360x1024, .f32⟩
  | .hbm, ⟨17, _⟩ => ⟨S2560x1024, .f32⟩
  | .hbm, ⟨18, _⟩ => ⟨S768x1024, .f32⟩
  | .hbm, ⟨19, _⟩ => ⟨S32x1024, .f32⟩
  | .hbm, ⟨20, _⟩ => ⟨S_, .f32⟩
  | .hbm, ⟨21, _⟩ => ⟨S96x1024, .f32⟩
  | .hbm, ⟨22, _⟩ => ⟨S3456x1024, .f32⟩
  | .hbm, ⟨23, _⟩ => ⟨S3456x1024, .bf16⟩
  | .hbm, ⟨24, _⟩ => ⟨S1x1024, .f32⟩
  | .hbm, ⟨25, _⟩ => ⟨S4096x1024, .f32⟩
  | .hbm, ⟨26, _⟩ => ⟨S4096x1024, .bf16⟩
  | .hbm, ⟨27, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S256x3456, .bf16⟩
  | .local _ .vmem, ⟨3, _⟩ => ⟨S256x3456, .bf16⟩
  | .local _ .vmem, ⟨4, _⟩ => ⟨S1024x3072, .bf16⟩
  | .local _ .vmem, ⟨5, _⟩ => ⟨S3456x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3456x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixNormRefIdeal.lean ====
abbrev S4096x1024 : Shape := ⟨2, ![4096, 1024]⟩
abbrev S1024 : Shape := ⟨1, ![1024]⟩
abbrev S1024x3072 : Shape := ⟨2, ![1024, 3072]⟩
abbrev S1024x3360 : Shape := ⟨2, ![1024, 3360]⟩
abbrev S4096x3072 : Shape := ⟨2, ![4096, 3072]⟩
abbrev S4096x3360 : Shape := ⟨2, ![4096, 3360]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1024x3360, .f32⟩
  | .hbm, ⟨4, _⟩ => ⟨S4096x1024, .f32⟩
  | .hbm, ⟨5, _⟩ => ⟨S4096x3072, .f32⟩
  | .hbm, ⟨6, _⟩ => ⟨S4096x3360, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x3072, .f32⟩
  | .hbm, ⟨28, _⟩ => ⟨S4096x3360, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== GlaPrep.lean ====
abbrev S4096x16 : Shape := ⟨2, ![4096, 16]⟩
abbrev S2x16x512 : Shape := ⟨3, ![2, 16, 512]⟩
abbrev S2x512 : Shape := ⟨2, ![2, 512]⟩
abbrev S4096x512 : Shape := ⟨2, ![4096, 512]⟩
abbrev S_ : Shape := ⟨0, ![]⟩
abbrev S4096x3328 : Shape := ⟨2, ![4096, 3328]⟩
abbrev S4096x96 : Shape := ⟨2, ![4096, 96]⟩
abbrev S4096x3456 : Shape := ⟨2, ![4096, 3456]⟩
abbrev S96x512 : Shape := ⟨2, ![96, 512]⟩
abbrev S1x16x512 : Shape := ⟨3, ![1, 16, 512]⟩
abbrev S16x512 : Shape := ⟨2, ![16, 512]⟩
abbrev S128x512 : Shape := ⟨2, ![128, 512]⟩
abbrev S1x512 : Shape := ⟨2, ![1, 512]⟩
abbrev S4096x128 : Shape := ⟨2, ![4096, 128]⟩
abbrev S256x512 : Shape := ⟨2, ![256, 512]⟩
abbrev S256x128 : Shape := ⟨2, ![256, 128]⟩
abbrev S512 : Shape := ⟨1, ![512]⟩

abbrev nBuf : Space → Nat
  | .hbm => 31
  | .vmem => 18
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S2x16x512, .f32⟩
  | .hbm, ⟨3, _⟩ => ⟨S2x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x3328, .f32⟩
  | .hbm, ⟨8, _⟩ => ⟨S_, .f32⟩
  | .hbm, ⟨9, _⟩ => ⟨S4096x96, .f32⟩
  | .hbm, ⟨10, _⟩ => ⟨S4096x3456, .f32⟩
  | .hbm, ⟨11, _⟩ => ⟨S_, .f32⟩
  | .hbm, ⟨12, _⟩ => ⟨S96x512, .f32⟩
  | .hbm, ⟨13, _⟩ => ⟨S1x16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S128x512, .f32⟩
  | .hbm, ⟨18, _⟩ => ⟨S_, .f32⟩
  | .hbm, ⟨19, _⟩ => ⟨S16x512, .f32⟩
  | .hbm, ⟨20, _⟩ => ⟨S1x16x512, .f32⟩
  | .hbm, ⟨21, _⟩ => ⟨S16x512, .f32⟩
  | .hbm, ⟨22, _⟩ => ⟨S128x512, .f32⟩
  | .hbm, ⟨23, _⟩ => ⟨S1x512, .f32⟩
  | .hbm, ⟨24, _⟩ => ⟨S1x512, .f32⟩
  | .hbm, ⟨25, _⟩ => ⟨S4096x3456, .bf16⟩
  | .hbm, ⟨26, _⟩ => ⟨S4096x512, .bf16⟩
  | .hbm, ⟨27, _⟩ => ⟨S4096x512, .bf16⟩
  | .hbm, ⟨28, _⟩ => ⟨S4096x128, .f32⟩
  | .hbm, ⟨29, _⟩ => ⟨S1x512, .f32⟩
  | .hbm, ⟨30, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x128, .bf16⟩
  | .local _ .vmem, ⟨5, _⟩ => ⟨S256x128, .bf16⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x128, .f32⟩
  | .local _ .vmem, ⟨15, _⟩ => ⟨S256x128, .f32⟩
  | .local _ .vmem, ⟨16, _⟩ => ⟨S1x512, .f32⟩
  | .local _ .vmem, ⟨17, _⟩ => ⟨S1x512, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GlaPrepRefIdeal.lean ====
abbrev S4096x16 : Shape := ⟨2, ![4096, 16]⟩
abbrev S2x16x512 : Shape := ⟨3, ![2, 16, 512]⟩
abbrev S2x512 : Shape := ⟨2, ![2, 512]⟩
abbrev S4096x512 : Shape := ⟨2, ![4096, 512]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S_ : Shape := ⟨0, ![]⟩
abbrev S4096x96 : Shape := ⟨2, ![4096, 96]⟩
abbrev S4096x128 : Shape := ⟨2, ![4096, 128]⟩

abbrev nBuf : Space → Nat
  | .hbm => 162
  | .vmem => 0
  | .smem => 0
  | _ => 0

abbrev hbmTy0_0 (i : Nat) : BufTy := match i % 128 with
  | 0 => ⟨S4096x16, .f32⟩
  | 1 => ⟨S4096x16, .f32⟩
  | 2 => ⟨S2x16x512, .f32⟩
  | 3 => ⟨S2x512, .f32⟩
  | 4 => ⟨S4096x512, .f32⟩
  | 5 => ⟨S4096x512, .f32⟩
  | 6 => ⟨S1x16x512, .f32⟩
  | 7 => ⟨S16x512, .f32⟩
  | 8 => ⟨S4096x512, .f32⟩
  | 9 => ⟨S1x512, .f32⟩
  | 10 => ⟨S512, .f32⟩
  | 11 => ⟨S1x512, .f32⟩
  | 12 => ⟨S4096x512, .f32⟩
  | 13 => ⟨S4096x512, .f32⟩
  | 14 => ⟨S1x16x512, .f32⟩
  | 15 => ⟨S16x512, .f32⟩
  | 16 => ⟨S4096x512, .f32⟩
  | 17 => ⟨S1x512, .f32⟩
  | 18 => ⟨S512, .f32⟩
  | 19 => ⟨S1x512, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S4096x512, .f32⟩
  | 28 => ⟨S4096x512, .i1⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S4096x512, .f32⟩
  | 39 => ⟨S4096x512, .i1⟩
  | 40 => ⟨S_, .f32⟩
  | 41 => ⟨S4096x512, .f32⟩
  | 42 => ⟨S4096x512, .f32⟩
  | 43 => ⟨S_, .f32⟩
  | 44 => ⟨S4096x512, .f32⟩
  | 45 => ⟨S4096x512, .i1⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4096x512, .f32⟩
  | 59 => ⟨S4096x512, .i1⟩
  | 60 => ⟨S_, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S4096x512, .f32⟩
  | 84 => ⟨S4096x512, .f32⟩
  | 85 => ⟨S4096x512, .i1⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S_, .f32⟩
  | 95 => ⟨S4096x512, .f32⟩
  | 96 => ⟨S4096x512, .i1⟩
  | 97 => ⟨S_, .f32⟩
  | 98 => ⟨S4096x512, .f32⟩
  | 99 => ⟨S4096x512, .f32⟩
  | 100 => ⟨S_, .f32⟩
  | 101 => ⟨S4096x512, .f32⟩
  | 102 => ⟨S4096x512, .i1⟩
  | 103 => ⟨S_, .f32⟩
  | 104 => ⟨S4096x512, .f32⟩
  | 105 => ⟨S4096x512, .f32⟩
  | 106 => ⟨S4096x512, .f32⟩
  | 107 => ⟨S4096x512, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S4096x512, .f32⟩
  | 116 => ⟨S4096x512, .i1⟩
  | 117 => ⟨S_, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S_, .f32⟩
  | 124 => ⟨S4096x512, .f32⟩
  | 125 => ⟨S4096x512, .f32⟩
  | 126 => ⟨S4096x512, .f32⟩
  | 127 => ⟨S_, .f32⟩
  | _ => ⟨S4096x16, .f32⟩

abbrev hbmTy0_1 (i : Nat) : BufTy := match i % 128 with
  | 0 => ⟨S4096x512, .f32⟩
  | 1 => ⟨S4096x512, .f32⟩
  | 2 => ⟨S_, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S512, .f32⟩
  | 10 => ⟨S1x512, .f32⟩
  | 11 => ⟨S_, .f32⟩
  | 12 => ⟨S512, .f32⟩
  | 13 => ⟨S1x512, .f32⟩
  | 14 => ⟨S_, .f32⟩
  | 15 => ⟨S2x512, .f32⟩
  | 16 => ⟨S4096x16, .f32⟩
  | 17 => ⟨S_, .f32⟩
  | 18 => ⟨S512, .f32⟩
  | 19 => ⟨S1x512, .f32⟩
  | 20 => ⟨S_, .f32⟩
  | 21 => ⟨S512, .f32⟩
  | 22 => ⟨S1x512, .f32⟩
  | 23 => ⟨S_, .f32⟩
  | 24 => ⟨S2x512, .f32⟩
  | 25 => ⟨S2x512, .f32⟩
  | 26 => ⟨S4096x16, .f32⟩
  | 27 => ⟨S_, .f32⟩
  | 28 => ⟨S4096x96, .f32⟩
  | 29 => ⟨S4096x128, .f32⟩
  | 30 => ⟨S4096x512, .bf16⟩
  | 31 => ⟨S4096x512, .bf16⟩
  | 32 => ⟨S1x512, .f32⟩
  | 33 => ⟨S1x512, .f32⟩
  | _ => ⟨S4096x16, .f32⟩

abbrev hbmTy (i : Nat) : BufTy := match i / 128 with
  | 0 => hbmTy0_0 i
  | 1 => hbmTy0_1 i
  | _ => ⟨S4096x16, .f32⟩

abbrev bufTy : (tb : Table) → Fin (tcTables nBuf tb) → BufTy
  | .hbm, ⟨i, _⟩ => hbmTy i
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v16_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v16_2 : Ref sig .tc := ⟨.hbm, 68, rfl⟩
abbrev main_v16_0 : Ref sig .tc := ⟨.hbm, 69, rfl⟩
abbrev main_cst : Ref sig .tc := ⟨.hbm, 70, rfl⟩
abbrev main_v17 : Ref sig .tc := ⟨.hbm, 71, rfl⟩
abbrev main_v18 : Ref sig .tc := ⟨.hbm, 72, rfl⟩
abbrev main_cst_0 : Ref sig .tc := ⟨.hbm, 73, rfl⟩
abbrev main_v19 : Ref sig .tc := ⟨.hbm, 74, rfl⟩
abbrev main_v20 : Ref sig .tc := ⟨.hbm, 75, rfl⟩
abbrev main_call1_v0 : Ref sig .tc := ⟨.hbm, 76, rfl⟩
abbrev main_call1_v1 : Ref sig .tc := ⟨.hbm, 77, rfl⟩
abbrev main_v21 : Ref sig .tc := ⟨.hbm, 78, rfl⟩
abbrev main_call2_v0 : Ref sig .tc := ⟨.hbm, 79, rfl⟩
abbrev main_call2_call0_cst : Ref sig .tc := ⟨.hbm, 80, rfl⟩
abbrev main_call2_call0_v0 : Ref sig .tc := ⟨.hbm, 81, rfl⟩
abbrev main_call2_call0_v1 : Ref sig .tc := ⟨.hbm, 82, rfl⟩
abbrev main_call2_call0_v2 : Ref sig .tc := ⟨.hbm, 83, rfl⟩
abbrev main_call2_call0_v3 : Ref sig .tc := ⟨.hbm, 84, rfl⟩
abbrev main_call2_call0_v4 : Ref sig .tc := ⟨.hbm, 85, rfl⟩
abbrev main_call2_call0_v5 : Ref sig .tc := ⟨.hbm, 86, rfl⟩
abbrev main_call2_call0_v6 : Ref sig .tc := ⟨.hbm, 87, rfl⟩
abbrev main_call2_call0_v7 : Ref sig .tc := ⟨.hbm, 88, rfl⟩
abbrev main_call2_call0_v8 : Ref sig .tc := ⟨.hbm, 89, rfl⟩
abbrev main_call2_call0_v9 : Ref sig .tc := ⟨.hbm, 90, rfl⟩
abbrev main_call2_call0_v10 : Ref sig .tc := ⟨.hbm, 91, rfl⟩
abbrev main_call2_call0_v11 : Ref sig .tc := ⟨.hbm, 92, rfl⟩
abbrev main_call2_v1_0 : Ref sig .tc := ⟨.hbm, 93, rfl⟩
abbrev main_call2_call0_cst_0 : Ref sig .tc := ⟨.hbm, 94, rfl⟩
abbrev main_call2_call0_v13 : Ref sig .tc := ⟨.hbm, 95, rfl⟩
abbrev main_call2_call0_v14 : Ref sig .tc := ⟨.hbm, 96, rfl⟩
abbrev main_call2_call0_cst_1 : Ref sig .tc := ⟨.hbm, 97, rfl⟩
abbrev main_call2_call0_v15 : Ref sig .tc := ⟨.hbm, 98, rfl⟩
abbrev main_call2_call0_v16 : Ref sig .tc := ⟨.hbm, 99, rfl⟩
abbrev main_call2_call0_cst_2 : Ref sig .tc := ⟨.hbm, 100, rfl⟩
abbrev main_call2_call0_v17 : Ref sig .tc := ⟨.hbm, 101, rfl⟩
abbrev main_call2_call0_v18 : Ref sig .tc := ⟨.hbm, 102, rfl⟩
abbrev main_call2_call0_cst_3 : Ref sig .tc := ⟨.hbm, 103, rfl⟩
abbrev main_call2_call0_v19 : Ref sig .tc := ⟨.hbm, 104, rfl⟩
abbrev main_call2_call0_v20 : Ref sig .tc := ⟨.hbm, 105, rfl⟩
abbrev main_call2_call0_v21 : Ref sig .tc := ⟨.hbm, 106, rfl⟩
abbrev main_v22_1 : Ref sig .tc := ⟨.hbm, 107, rfl⟩
abbrev main_call2_call0_cst_4 : Ref sig .tc := ⟨.hbm, 108, rfl⟩
abbrev main_call2_call0_cst_5 : Ref sig .tc := ⟨.hbm, 109, rfl⟩
abbrev main_call2_call0_v23 : Ref sig .tc := ⟨.hbm, 110, rfl⟩
abbrev main_call2_call0_cst_6 : Ref sig .tc := ⟨.hbm, 111, rfl⟩
abbrev main_call2_call0_cst_7 : Ref sig .tc := ⟨.hbm, 112, rfl⟩
abbrev main_call2_call0_v24 : Ref sig .tc := ⟨.hbm, 113, rfl⟩
abbrev main_call2_call0_cst_8 : Ref sig .tc := ⟨.hbm, 114, rfl⟩
abbrev main_call2_call0_v25 : Ref sig .tc := ⟨.hbm, 115, rfl⟩
abbrev main_call2_call0_v26 : Ref sig .tc := ⟨.hbm, 116, rfl⟩
abbrev main_call2_call0_cst_9 : Ref sig .tc := ⟨.hbm, 117, rfl⟩
abbrev main_call2_call0_v27 : Ref sig .tc := ⟨.hbm, 118, rfl⟩
abbrev main_call2_call0_v28 : Ref sig .tc := ⟨.hbm, 119, rfl⟩
abbrev main_call2_call0_v29 : Ref sig .tc := ⟨.hbm, 120, rfl⟩
abbrev main_call2_call0_v30 : Ref sig .tc := ⟨.hbm, 121, rfl⟩
abbrev main_call2_call0_v31 : Ref sig .tc := ⟨.hbm, 122, rfl⟩
abbrev main_call2_call0_cst_10 : Ref sig .tc := ⟨.hbm, 123, rfl⟩
abbrev main_call2_call0_v32 : Ref sig .tc := ⟨.hbm, 124, rfl⟩
abbrev main_v22_2 : Ref sig .tc := ⟨.hbm, 125, rfl⟩
abbrev main_v22_0 : Ref sig .tc := ⟨.hbm, 126, rfl⟩
abbrev main_cst_1 : Ref sig .tc := ⟨.hbm, 127, rfl⟩
abbrev main_v23 : Ref sig .tc := ⟨.hbm, 128, rfl⟩
abbrev main_v24 : Ref sig .tc := ⟨.hbm, 129, rfl⟩
abbrev main_cst_2 : Ref sig .tc := ⟨.hbm, 130, rfl⟩
abbrev main_v25 : Ref sig .tc := ⟨.hbm, 131, rfl⟩
abbrev main_v26 : Ref sig .tc := ⟨.hbm, 132, rfl⟩
abbrev main_call3_v0 : Ref sig .tc := ⟨.hbm, 133, rfl⟩
abbrev main_call3_v1 : Ref sig .tc := ⟨.hbm, 134, rfl⟩
abbrev main_v27 : Ref sig .tc := ⟨.hbm, 135, rfl⟩
abbrev main_cst_3 : Ref sig .tc := ⟨.hbm, 136, rfl⟩
abbrev main_v28 : Ref sig .tc := ⟨.hbm, 137, rfl⟩
abbrev main_v29 : Ref sig .tc := ⟨.hbm, 138, rfl⟩
abbrev main_cst_4 : Ref sig .tc := ⟨.hbm, 139, rfl⟩
abbrev main_v30 : Ref sig .tc := ⟨.hbm, 140, rfl⟩
abbrev main_v31 : Ref sig .tc := ⟨.hbm, 141, rfl⟩
abbrev main_cst_5 : Ref sig .tc := ⟨.hbm, 142, rfl⟩
abbrev main_v32 : Ref sig .tc := ⟨.hbm, 143, rfl⟩
abbrev main_v33 : Ref sig .tc := ⟨.hbm, 144, rfl⟩
abbrev main_cst_6 : Ref sig .tc := ⟨.hbm, 145, rfl⟩
abbrev main_v34 : Ref sig .tc := ⟨.hbm, 146, rfl⟩
abbrev main_v35 : Ref sig .tc := ⟨.hbm, 147, rfl⟩
abbrev main_cst_7 : Ref sig .tc := ⟨.hbm, 148, rfl⟩
abbrev main_v36 : Ref sig .tc := ⟨.hbm, 149, rfl⟩
abbrev main_v37 : Ref sig .tc := ⟨.hbm, 150, rfl⟩
abbrev main_cst_8 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_cst_9 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩

abbrev nD : Nat := 1
abbrev τ : Topo := Topo.v7x

variable {F : FTy → Type} [FloatOps F]
-- ==== S5Gate.lean ====
abbrev S4096x512 : Shape := ⟨2, ![4096, 512]⟩
abbrev S512 : Shape := ⟨1, ![512]⟩
abbrev S512x512 : Shape := ⟨2, ![512, 512]⟩
abbrev S1x512 : Shape := ⟨2, ![1, 512]⟩
abbrev S_ : Shape := ⟨0, ![]⟩
abbrev S4096x2944 : Shape := ⟨2, ![4096, 2944]⟩
abbrev S4096x3456 : Shape := ⟨2, ![4096, 3456]⟩
abbrev S256x512 : Shape := ⟨2, ![256, 512]⟩

abbrev nBuf : Space → Nat
  | .hbm => 38
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S512x512, .f32⟩
  | .hbm, ⟨4, _⟩ => ⟨S4096x512, .f32⟩
  | .hbm, ⟨5, _⟩ => ⟨S1x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x2944, .f32⟩
  | .hbm, ⟨29, _⟩ => ⟨S4096x3456, .f32⟩
  | .hbm, ⟨30, _⟩ => ⟨S4096x3456, .bf16⟩
  | .hbm, ⟨31, _⟩ => ⟨S1x512, .f32⟩
  | .hbm, ⟨32, _⟩ => ⟨S512x512, .bf16⟩
  | .hbm, ⟨33, _⟩ => ⟨S4096x512, .bf16⟩
  | .hbm, ⟨34, _⟩ => ⟨S4096x512, .bf16⟩
  | .hbm, ⟨35, _⟩ => ⟨S4096x512, .bf16⟩
  | .hbm, ⟨36, _⟩ => ⟨S4096x512, .f32⟩
  | .hbm, ⟨37, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S1x512, .f32⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | .local _ .vmem, ⟨18, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== S5GateRefIdeal.lean ====
abbrev S4096x512 : Shape := ⟨2, ![4096, 512]⟩
abbrev S512 : Shape := ⟨1, ![512]⟩
abbrev S512x512 : Shape := ⟨2, ![512, 512]⟩
abbrev S_ : Shape := ⟨0, ![]⟩
abbrev S1x512 : Shape := ⟨2, ![1, 512]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S512x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S512, .f32⟩
  | .hbm, ⟨82, _⟩ => ⟨S4096x512, .bf16⟩
  | .hbm, ⟨83, _⟩ => ⟨S4096x512, .bf16⟩
  | .hbm, ⟨84, _⟩ => ⟨S4096x512, .bf16⟩
  | .hbm, ⟨85, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== S5Out.lean ====
abbrev S4096x512 : Shape := ⟨2, ![4096, 512]⟩
abbrev S512 : Shape := ⟨1, ![512]⟩
abbrev S512x512 : Shape := ⟨2, ![512, 512]⟩
abbrev S_ : Shape := ⟨0, ![]⟩
abbrev S4096x2944 : Shape := ⟨2, ![4096, 2944]⟩
abbrev S4096x3456 : Shape := ⟨2, ![4096, 3456]⟩
abbrev S1x512 : Shape := ⟨2, ![1, 512]⟩
abbrev S256x512 : Shape := ⟨2, ![256, 512]⟩

abbrev nBuf : Space → Nat
  | .hbm => 13
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S512x512, .f32⟩
  | .hbm, ⟨4, _⟩ => ⟨S_, .f32⟩
  | .hbm, ⟨5, _⟩ => ⟨S4096x2944, .f32⟩
  | .hbm, ⟨6, _⟩ => ⟨S4096x3456, .f32⟩
  | .hbm, ⟨7, _⟩ => ⟨S4096x3456, .bf16⟩
  | .hbm, ⟨8, _⟩ => ⟨S1x512, .f32⟩
  | .hbm, ⟨9, _⟩ => ⟨S512x512, .bf16⟩
  | .hbm, ⟨10, _⟩ => ⟨S4096x512, .f32⟩
  | .hbm, ⟨11, _⟩ => ⟨S4096x512, .f32⟩
  | .hbm, ⟨12, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S512x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== S5OutRefIdeal.lean ====
abbrev S4096x512 : Shape := ⟨2, ![4096, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S512x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== GlaOut.lean ====
abbrev S4096x512 : Shape := ⟨2, ![4096, 512]⟩
abbrev S128 : Shape := ⟨1, ![128]⟩
abbrev S_ : Shape := ⟨0, ![]⟩
abbrev S4096x2048 : Shape := ⟨2, ![4096, 2048]⟩
abbrev S4096x896 : Shape := ⟨2, ![4096, 896]⟩
abbrev S4096x3456 : Shape := ⟨2, ![4096, 3456]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S128, .f32⟩
  | .hbm, ⟨4, _⟩ => ⟨S_, .f32⟩
  | .hbm, ⟨5, _⟩ => ⟨S4096x2048, .f32⟩
  | .hbm, ⟨6, _⟩ => ⟨S_, .f32⟩
  | .hbm, ⟨7, _⟩ => ⟨S4096x896, .f32⟩
  | .hbm, ⟨8, _⟩ => ⟨S4096x3456, .f32⟩
  | .hbm, ⟨9, _⟩ => ⟨S4096x3456, .bf16⟩
  | .hbm, ⟨10, _⟩ => ⟨S1x128, .f32⟩
  | .hbm, ⟨11, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S1x128, .f32⟩
  | .local _ .vmem, ⟨7, _⟩ => ⟨S256x512, .bf16⟩
  | .local _ .vmem, ⟨8, _⟩ => ⟨S256x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GlaOutRefIdeal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S128, .f32⟩
  | .hbm, ⟨4, _⟩ => ⟨S4096x512, .f32⟩
  | .hbm, ⟨5, _⟩ => ⟨S4096x4x128, .f32⟩
  | .hbm, ⟨6, _⟩ => ⟨S4096x4x128, .f32⟩
  | .hbm, ⟨7, _⟩ => ⟨S_, .f32⟩
  | .hbm, ⟨8, _⟩ => ⟨S4096x4, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S4096x4x128, .f32⟩
  | .hbm, ⟨18, _⟩ => ⟨S4096x4x128, .f32⟩
  | .hbm, ⟨19, _⟩ => ⟨S1x1x128, .f32⟩
  | .hbm, ⟨20, _⟩ => ⟨S4096x4x128, .f32⟩
  | .hbm, ⟨21, _⟩ => ⟨S4096x4x128, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== GlaGate.lean ====
abbrev S4096x16 : Shape := ⟨2, ![4096, 16]⟩
abbrev S2x16x512 : Shape := ⟨3, ![2, 16, 512]⟩
abbrev S2x512 : Shape := ⟨2, ![2, 512]⟩
abbrev S_ : Shape := ⟨0, ![]⟩
abbrev S4096x3328 : Shape := ⟨2, ![4096, 3328]⟩
abbrev S4096x96 : Shape := ⟨2, ![4096, 96]⟩
abbrev S4096x3456 : Shape := ⟨2, ![4096, 3456]⟩
abbrev S96x512 : Shape := ⟨2, ![96, 512]⟩
abbrev S1x16x512 : Shape := ⟨3, ![1, 16, 512]⟩
abbrev S16x512 : Shape := ⟨2, ![16, 512]⟩
abbrev S128x512 : Shape := ⟨2, ![128, 512]⟩
abbrev S1x512 : Shape := ⟨2, ![1, 512]⟩
abbrev S4096x512 : Shape := ⟨2, ![4096, 512]⟩
abbrev S256x128 : Shape := ⟨2, ![256, 128]⟩
abbrev S256x512 : Shape := ⟨2, ![256, 512]⟩

abbrev nBuf : Space → Nat
  | .hbm => 26
  | .vmem => 10
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S2x16x512, .f32⟩
  | .hbm, ⟨3, _⟩ => ⟨S2x512, .f32⟩
  | .hbm, ⟨4, _⟩ => ⟨S_, .f32⟩
  | .hbm, ⟨5, _⟩ => ⟨S4096x3328, .f32⟩
  | .hbm, ⟨6, _⟩ => ⟨S_, .f32⟩
  | .hbm, ⟨7, _⟩ => ⟨S4096x96, .f32⟩
  | .hbm, ⟨8, _⟩ => ⟨S4096x3456, .f32⟩
  | .hbm, ⟨9, _⟩ => ⟨S_, .f32⟩
  | .hbm, ⟨10, _⟩ => ⟨S96x512, .f32⟩
  | .hbm, ⟨11, _⟩ => ⟨S1x16x512, .f32⟩
  | .hbm, ⟨12, _⟩ => ⟨S16x512, .f32⟩
  | .hbm, ⟨13, _⟩ => ⟨S_, .f32⟩
  | .hbm, ⟨14, _⟩ => ⟨S16x512, .f32⟩
  | .hbm, ⟨15, _⟩ => ⟨S128x512, .f32⟩
  | .hbm, ⟨16, _⟩ => ⟨S_, .f32⟩
  | .hbm, ⟨17, _⟩ => ⟨S16x512, .f32⟩
  | .hbm, ⟨18, _⟩ => ⟨S1x16x512, .f32⟩
  | .hbm, ⟨19, _⟩ => ⟨S16x512, .f32⟩
  | .hbm, ⟨20, _⟩ => ⟨S128x512, .f32⟩
  | .hbm, ⟨21, _⟩ => ⟨S1x512, .f32⟩
  | .hbm, ⟨22, _⟩ => ⟨S1x512, .f32⟩
  | .hbm, ⟨23, _⟩ => ⟨S4096x3456, .bf16⟩
  | .hbm, ⟨24, _⟩ => ⟨S4096x512, .f32⟩
  | .hbm, ⟨25, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaGateRefIdeal.lean ====
abbrev S4096x16 : Shape := ⟨2, ![4096, 16]⟩
abbrev S2x16x512 : Shape := ⟨3, ![2, 16, 512]⟩
abbrev S2x512 : Shape := ⟨2, ![2, 512]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S4096x512 : Shape := ⟨2, ![4096, 512]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S2x16x512, .f32⟩
  | .hbm, ⟨3, _⟩ => ⟨S2x512, .f32⟩
  | .hbm, ⟨4, _⟩ => ⟨S1x16x512, .f32⟩
  | .hbm, ⟨5, _⟩ => ⟨S16x512, .f32⟩
  | .hbm, ⟨6, _⟩ => ⟨S1x512, .f32⟩
  | .hbm, ⟨7, _⟩ => ⟨S512, .f32⟩
  | .hbm, ⟨8, _⟩ => ⟨S4096x512, .f32⟩
  | .hbm, ⟨9, _⟩ => ⟨S1x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .i1⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S1x16x512, .f32⟩
  | .hbm, ⟨32, _⟩ => ⟨S16x512, .f32⟩
  | .hbm, ⟨33, _⟩ => ⟨S1x512, .f32⟩
  | .hbm, ⟨34, _⟩ => ⟨S512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .i1⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v19 : Ref sig .tc := ⟨.hbm, 54, rfl⟩
abbrev main_cst_0 : Ref sig .tc := ⟨.hbm, 55, rfl⟩
abbrev main_v20 : Ref sig .tc := ⟨.hbm, 56, rfl⟩
abbrev main_v21 : Ref sig .tc := ⟨.hbm, 57, rfl⟩

abbrev nD : Nat := 1
abbrev τ : Topo := Topo.v7x

variable {F : FTy → Type} [FloatOps F]
-- ==== MergeOut.lean ====
abbrev S4096x3072 : Shape := ⟨2, ![4096, 3072]⟩
abbrev S4096x1024 : Shape := ⟨2, ![4096, 1024]⟩
abbrev S3072 : Shape := ⟨1, ![3072]⟩
abbrev S1x3072 : Shape := ⟨2, ![1, 3072]⟩
abbrev S256x3072 : Shape := ⟨2, ![256, 3072]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S3072, .f32⟩
  | .hbm, ⟨5, _⟩ => ⟨S1x3072, .f32⟩
  | .hbm, ⟨6, _⟩ => ⟨S4096x1024, .bf16⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x3072, .f32⟩
  | .local _ .vmem, ⟨9, _⟩ => ⟨S256x1024, .bf16⟩
  | .local _ .vmem, ⟨10, _⟩ => ⟨S256x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeOutRefIdeal.lean ====
abbrev S4096x3072 : Shape := ⟨2, ![4096, 3072]⟩
abbrev S4096x1024 : Shape := ⟨2, ![4096, 1024]⟩
abbrev S3072 : Shape := ⟨1, ![3072]⟩
abbrev S1x3072 : Shape := ⟨2, ![1, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S3072, .f32⟩
  | .hbm, ⟨5, _⟩ => ⟨S4096x3072, .f32⟩
  | .hbm, ⟨6, _⟩ => ⟨S1x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== FfnUp.lean ====
abbrev S4096x1024 : Shape := ⟨2, ![4096, 1024]⟩
abbrev S1024 : Shape := ⟨1, ![1024]⟩
abbrev S2x1024x2816 : Shape := ⟨3, ![2, 1024, 2816]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S4x4096x704 : Shape := ⟨3, ![4, 4096, 704]⟩
abbrev S512x1024 : Shape := ⟨2, ![512, 1024]⟩
abbrev S4x1x704x1024 : Shape := ⟨4, ![4, 1, 704, 1024]⟩
abbrev S4x512x704 : Shape := ⟨3, ![4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x4x704x1024, .f32⟩
  | .hbm, ⟨6, _⟩ => ⟨S4x2x704x1024, .f32⟩
  | .hbm, ⟨7, _⟩ => ⟨S4x2x704x1024, .bf16⟩
  | .hbm, ⟨8, _⟩ => ⟨S2x2816x1024, .f32⟩
  | .hbm, ⟨9, _⟩ => ⟨S2x4x704x1024, .f32⟩
  | .hbm, ⟨10, _⟩ => ⟨S4x2x704x1024, .f32⟩
  | .hbm, ⟨11, _⟩ => ⟨S4x2x704x1024, .bf16⟩
  | .hbm, ⟨12, _⟩ => ⟨S1x1024, .f32⟩
  | .hbm, ⟨13, _⟩ => ⟨S4096x1024, .bf16⟩
  | .hbm, ⟨14, _⟩ => ⟨S4x4096x704, .bf16⟩
  | .hbm, ⟨15, _⟩ => ⟨S4x4096x704, .bf16⟩
  | .hbm, ⟨16, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x704x1024, .bf16⟩
  | .local _ .vmem, ⟨4, _⟩ => ⟨S4x1x704x1024, .bf16⟩
  | .local _ .vmem, ⟨5, _⟩ => ⟨S512x1024, .bf16⟩
  | .local _ .vmem, ⟨6, _⟩ => ⟨S512x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnUpRefIdeal.lean ====
abbrev S4096x1024 : Shape := ⟨2, ![4096, 1024]⟩
abbrev S1024 : Shape := ⟨1, ![1024]⟩
abbrev S2x1024x2816 : Shape := ⟨3, ![2, 1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x2816 : Shape := ⟨3, ![1, 1024, 2816]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024x2816, .f32⟩
  | .hbm, ⟨21, _⟩ => ⟨S1024x2816, .f32⟩
  | .hbm, ⟨22, _⟩ => ⟨S4096x2816, .f32⟩
  | .hbm, ⟨23, _⟩ => ⟨S1x1024x2816, .f32⟩
  | .hbm, ⟨24, _⟩ => ⟨S1024x2816, .f32⟩
  | .hbm, ⟨25, _⟩ => ⟨S4096x2816, .f32⟩
  | .hbm, ⟨26, _⟩ => ⟨S4096x1024, .bf16⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S4096x4x704, .f32⟩
  | .hbm, ⟨31, _⟩ => ⟨S4x4096x704, .f32⟩
  | .hbm, ⟨32, _⟩ => ⟨S4x4096x704, .bf16⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x4x704, .f32⟩
  | .hbm, ⟨44, _⟩ => ⟨S4x4096x704, .f32⟩
  | .hbm, ⟨45, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== MixIn.lean ====
abbrev S4096x1024 : Shape := ⟨2, ![4096, 1024]⟩
abbrev S1024 : Shape := ⟨1, ![1024]⟩
abbrev S1024x3072 : Shape := ⟨2, ![1024, 3072]⟩
abbrev S1024x3360 : Shape := ⟨2, ![1024, 3360]⟩
abbrev S3360x1024 : Shape := ⟨2, ![3360, 1024]⟩
abbrev S2560x1024 : Shape := ⟨2, ![2560, 1024]⟩
abbrev S768x1024 : Shape := ⟨2, ![768, 1024]⟩
abbrev S32x1024 : Shape := ⟨2, ![32, 1024]⟩
abbrev S_ : Shape := ⟨0, ![]⟩
abbrev S96x1024 : Shape := ⟨2, ![96, 1024]⟩
abbrev S3456x1024 : Shape := ⟨2, ![3456, 1024]⟩
abbrev S1x1024 : Shape := ⟨2, ![1, 1024]⟩
abbrev S4096x3456 : Shape := ⟨2, ![4096, 3456]⟩
abbrev S4096x3072 : Shape := ⟨2, ![4096, 3072]⟩
abbrev S256x1024 : Shape := ⟨2, ![256, 1024]⟩
abbrev S256x3456 : Shape := ⟨2, ![256, 3456]⟩
abbrev S256x3072 : Shape := ⟨2, ![256, 3072]⟩
abbrev S256 : Shape := ⟨1, ![256]⟩
abbrev S256x1 : Shape := ⟨2, ![256, 1]⟩

abbrev nBuf : Space → Nat
  | .hbm => 17
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1024x3360, .f32⟩
  | .hbm, ⟨4, _⟩ => ⟨S3360x1024, .f32⟩
  | .hbm, ⟨5, _⟩ => ⟨S2560x1024, .f32⟩
  | .hbm, ⟨6, _⟩ => ⟨S768x1024, .f32⟩
  | .hbm, ⟨7, _⟩ => ⟨S32x1024, .f32⟩
  | .hbm, ⟨8, _⟩ => ⟨S_, .f32⟩
  | .hbm, ⟨9, _⟩ => ⟨S96x1024, .f32⟩
  | .hbm, ⟨10, _⟩ => ⟨S3456x1024, .f32⟩
  | .hbm, ⟨11, _⟩ => ⟨S3456x1024, .bf16⟩
  | .hbm, ⟨12, _⟩ => ⟨S1024x3072, .bf16⟩
  | .hbm, ⟨13, _⟩ => ⟨S1x1024, .f32⟩
  | .hbm, ⟨14, _⟩ => ⟨S4096x1024, .bf16⟩
  | .hbm, ⟨15, _⟩ => ⟨S4096x3456, .bf16⟩
  | .hbm, ⟨16, _⟩ => ⟨S4096x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3456x1024, .bf16⟩
  | .local _ .vmem, ⟨4, _⟩ => ⟨S1024x3072, .bf16⟩
  | .local _ .vmem, ⟨5, _⟩ => ⟨S256x1024, .bf16⟩
  | .local _ .vmem, ⟨6, _⟩ => ⟨S256x1024, .bf16⟩
  | .local _ .vmem, ⟨7, _⟩ => ⟨S256x3456, .bf16⟩
  | .local _ .vmem, ⟨8, _⟩ => ⟨S256x3456, .bf16⟩
  | .local _ .vmem, ⟨9, _⟩ => ⟨S256x3072, .bf16⟩
  | .local _ .vmem, ⟨10, _⟩ => ⟨S256x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3456x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3456 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixInRefIdeal.lean ====
abbrev S4096x1024 : Shape := ⟨2, ![4096, 1024]⟩
abbrev S1024 : Shape := ⟨1, ![1024]⟩
abbrev S1024x3072 : Shape := ⟨2, ![1024, 3072]⟩
abbrev S1024x3360 : Shape := ⟨2, ![1024, 3360]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3360 : Shape := ⟨2, ![4096, 3360]⟩
abbrev S4096x2560 : Shape := ⟨2, ![4096, 2560]⟩
abbrev S4096x768 : Shape := ⟨2, ![4096, 768]⟩
abbrev S4096x32 : Shape := ⟨2, ![4096, 32]⟩
abbrev S4096x96 : Shape := ⟨2, ![4096, 96]⟩
abbrev S4096x3456 : Shape := ⟨2, ![4096, 3456]⟩
abbrev S4096x3072 : Shape := ⟨2, ![4096, 3072]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1024x3360, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3360, .f32⟩
  | .hbm, ⟨21, _⟩ => ⟨S4096x2560, .f32⟩
  | .hbm, ⟨22, _⟩ => ⟨S4096x768, .f32⟩
  | .hbm, ⟨23, _⟩ => ⟨S4096x32, .f32⟩
  | .hbm, ⟨24, _⟩ => ⟨S_, .f32⟩
  | .hbm, ⟨25, _⟩ => ⟨S4096x96, .f32⟩
  | .hbm, ⟨26, _⟩ => ⟨S4096x3456, .f32⟩
  | .hbm, ⟨27, _⟩ => ⟨S4096x1024, .bf16⟩
  | .hbm, ⟨28, _⟩ => ⟨S4096x3456, .bf16⟩
  | .hbm, ⟨29, _⟩ => ⟨S4096x3072, .f32⟩
  | .hbm, ⟨30, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Dwin.lean ====
abbrev S4096x1024 : Shape := ⟨2, ![4096, 1024]⟩
abbrev S4096x3360 : Shape := ⟨2, ![4096, 3360]⟩
abbrev S4096x2560 : Shape := ⟨2, ![4096, 2560]⟩
abbrev S4096x768 : Shape := ⟨2, ![4096, 768]⟩
abbrev S4096x32 : Shape := ⟨2, ![4096, 32]⟩
abbrev S_ : Shape := ⟨0, ![]⟩
abbrev S4096x96 : Shape := ⟨2, ![4096, 96]⟩
abbrev S4096x3456 : Shape := ⟨2, ![4096, 3456]⟩
abbrev S3456x1024 : Shape := ⟨2, ![3456, 1024]⟩
abbrev S4096x384 : Shape := ⟨2, ![4096, 384]⟩
abbrev S4096x512 : Shape := ⟨2, ![4096, 512]⟩
abbrev S384x512 : Shape := ⟨2, ![384, 512]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3360, .f32⟩
  | .hbm, ⟨2, _⟩ => ⟨S4096x2560, .f32⟩
  | .hbm, ⟨3, _⟩ => ⟨S4096x768, .f32⟩
  | .hbm, ⟨4, _⟩ => ⟨S4096x32, .f32⟩
  | .hbm, ⟨5, _⟩ => ⟨S_, .f32⟩
  | .hbm, ⟨6, _⟩ => ⟨S4096x96, .f32⟩
  | .hbm, ⟨7, _⟩ => ⟨S4096x3456, .f32⟩
  | .hbm, ⟨8, _⟩ => ⟨S4096x3456, .bf16⟩
  | .hbm, ⟨9, _⟩ => ⟨S4096x1024, .bf16⟩
  | .hbm, ⟨10, _⟩ => ⟨S3456x1024, .bf16⟩
  | .local _ .vmem, ⟨0, _⟩ => ⟨S4096x384, .bf16⟩
  | .local _ .vmem, ⟨1, _⟩ => ⟨S4096x384, .bf16⟩
  | .local _ .vmem, ⟨2, _⟩ => ⟨S4096x512, .bf16⟩
  | .local _ .vmem, ⟨3, _⟩ => ⟨S4096x512, .bf16⟩
  | .local _ .vmem, ⟨4, _⟩ => ⟨S384x512, .bf16⟩
  | .local _ .vmem, ⟨5, _⟩ => ⟨S384x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwinRefIdeal.lean ====
abbrev S4096x1024 : Shape := ⟨2, ![4096, 1024]⟩
abbrev S4096x3360 : Shape := ⟨2, ![4096, 3360]⟩
abbrev S_ : Shape := ⟨0, ![]⟩
abbrev S1024x3360 : Shape := ⟨2, ![1024, 3360]⟩
abbrev S3360x1024 : Shape := ⟨2, ![3360, 1024]⟩
abbrev S2560x1024 : Shape := ⟨2, ![2560, 1024]⟩
abbrev S768x1024 : Shape := ⟨2, ![768, 1024]⟩
abbrev S32x1024 : Shape := ⟨2, ![32, 1024]⟩
abbrev S96x1024 : Shape := ⟨2, ![96, 1024]⟩
abbrev S3456x1024 : Shape := ⟨2, ![3456, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3360, .f32⟩
  | .hbm, ⟨2, _⟩ => ⟨S_, .f32⟩
  | .hbm, ⟨3, _⟩ => ⟨S1024x3360, .f32⟩
  | .hbm, ⟨4, _⟩ => ⟨S4096x3360, .f32⟩
  | .hbm, ⟨5, _⟩ => ⟨S3360x1024, .f32⟩
  | .hbm, ⟨6, _⟩ => ⟨S1024x3360, .f32⟩
  | .hbm, ⟨7, _⟩ => ⟨S3360x1024, .f32⟩
  | .hbm, ⟨8, _⟩ => ⟨S2560x1024, .f32⟩
  | .hbm, ⟨9, _⟩ => ⟨S768x1024, .f32⟩
  | .hbm, ⟨10, _⟩ => ⟨S32x1024, .f32⟩
  | .hbm, ⟨11, _⟩ => ⟨S_, .f32⟩
  | .hbm, ⟨12, _⟩ => ⟨S96x1024, .f32⟩
  | .hbm, ⟨13, _⟩ => ⟨S3456x1024, .f32⟩
  | .hbm, ⟨14, _⟩ => ⟨S3456x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfnDown.lean ====
abbrev S4096x1024 : Shape := ⟨2, ![4096, 1024]⟩
abbrev S4096x2816 : Shape := ⟨2, ![4096, 2816]⟩
abbrev S2x2816x1024 : Shape := ⟨3, ![2, 2816, 1024]⟩
abbrev S4096x4x704 : Shape := ⟨3, ![4096, 4, 704]⟩
abbrev S4x4096x704 : Shape := ⟨3, ![4, 4096, 704]⟩
abbrev S2x4x704x1024 : Shape := ⟨4, ![2, 4, 704, 1024]⟩
abbrev S4x2x704x1024 : Shape := ⟨4, ![4, 2, 704, 1024]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2x2816x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S2x4x704x1024, .f32⟩
  | .hbm, ⟨7, _⟩ => ⟨S4x2x704x1024, .f32⟩
  | .hbm, ⟨8, _⟩ => ⟨S4x2x704x1024, .bf16⟩
  | .hbm, ⟨9, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownRefIdeal.lean ====
abbrev S4096x1024 : Shape := ⟨2, ![4096, 1024]⟩
abbrev S4096x2816 : Shape := ⟨2, ![4096, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2x2816x1024, .f32⟩
  | .hbm, ⟨3, _⟩ => ⟨S1x2816x1024, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixDz.lean ====
abbrev S4096x512 : Shape := ⟨2, ![4096, 512]⟩
abbrev S4096x128 : Shape := ⟨2, ![4096, 128]⟩
abbrev S4096x32 : Shape := ⟨2, ![4096, 32]⟩
abbrev S_ : Shape := ⟨0, ![]⟩
abbrev S4096x96 : Shape := ⟨2, ![4096, 96]⟩
abbrev S4096x3456 : Shape := ⟨2, ![4096, 3456]⟩
abbrev S256x512 : Shape := ⟨2, ![256, 512]⟩
abbrev S256x128 : Shape := ⟨2, ![256, 128]⟩
abbrev S256x3456 : Shape := ⟨2, ![256, 3456]⟩

abbrev nBuf : Space → Nat
  | .hbm => 16
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x32, .f32⟩
  | .hbm, ⟨12, _⟩ => ⟨S_, .f32⟩
  | .hbm, ⟨13, _⟩ => ⟨S4096x96, .f32⟩
  | .hbm, ⟨14, _⟩ => ⟨S4096x128, .f32⟩
  | .hbm, ⟨15, _⟩ => ⟨S4096x3456, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x3456, .bf16⟩
  | .local _ .vmem, ⟨25, _⟩ => ⟨S256x3456, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3456 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixDzRefIdeal.lean ====
abbrev S4096x512 : Shape := ⟨2, ![4096, 512]⟩
abbrev S4096x128 : Shape := ⟨2, ![4096, 128]⟩
abbrev S4096x32 : Shape := ⟨2, ![4096, 32]⟩
abbrev S4096x3360 : Shape := ⟨2, ![4096, 3360]⟩
abbrev S4096x2560 : Shape := ⟨2, ![4096, 2560]⟩
abbrev S4096x768 : Shape := ⟨2, ![4096, 768]⟩
abbrev S_ : Shape := ⟨0, ![]⟩
abbrev S4096x96 : Shape := ⟨2, ![4096, 96]⟩
abbrev S4096x3456 : Shape := ⟨2, ![4096, 3456]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x32, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x3360, .f32⟩
  | .hbm, ⟨16, _⟩ => ⟨S4096x2560, .f32⟩
  | .hbm, ⟨17, _⟩ => ⟨S4096x768, .f32⟩
  | .hbm, ⟨18, _⟩ => ⟨S4096x32, .f32⟩
  | .hbm, ⟨19, _⟩ => ⟨S_, .f32⟩
  | .hbm, ⟨20, _⟩ => ⟨S4096x96, .f32⟩
  | .hbm, ⟨21, _⟩ => ⟨S4096x3456, .f32⟩
  | .hbm, ⟨22, _⟩ => ⟨S4096x3456, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Adamw.lean ====
abbrev S2x840x1024 : Shape := ⟨3, ![2, 840, 1024]⟩
abbrev S1x280x1024 : Shape := ⟨3, ![1, 280, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x840x1024, .f32⟩
  | .hbm, ⟨1, _⟩ => ⟨S2x840x1024, .f32⟩
  | .hbm, ⟨2, _⟩ => ⟨S2x840x1024, .f32⟩
  | .hbm, ⟨3, _⟩ => ⟨S2x840x1024, .f32⟩
  | .hbm, ⟨4, _⟩ => ⟨S2x840x1024, .f32⟩
  | .hbm, ⟨5, _⟩ => ⟨S2x840x1024, .f32⟩
  | .hbm, ⟨6, _⟩ => ⟨S2x840x1024, .f32⟩
  | .local _ .vmem, ⟨0, _⟩ => ⟨S1x280x1024, .f32⟩
  | .local _ .vmem, ⟨1, _⟩ => ⟨S1x280x1024, .f32⟩
  | .local _ .vmem, ⟨2, _⟩ => ⟨S1x280x1024, .f32⟩
  | .local _ .vmem, ⟨3, _⟩ => ⟨S1x280x1024, .f32⟩
  | .local _ .vmem, ⟨4, _⟩ => ⟨S1x280x1024, .f32⟩
  | .local _ .vmem, ⟨5, _⟩ => ⟨S1x280x1024, .f32⟩
  | .local _ .vmem, ⟨6, _⟩ => ⟨S1x280x1024, .f32⟩
  | .local _ .vmem, ⟨7, _⟩ => ⟨S1x280x1024, .f32⟩
  | .local _ .vmem, ⟨8, _⟩ => ⟨S1x280x1024, .f32⟩
  | .local _ .vmem, ⟨9, _⟩ => ⟨S1x280x1024, .f32⟩
  | .local _ .vmem, ⟨10, _⟩ => ⟨S1x280x1024, .f32⟩
  | .local _ .vmem, ⟨11, _⟩ => ⟨S1x280x1024, .f32⟩
  | .local _ .vmem, ⟨12, _⟩ => ⟨S1x280x1024, .f32⟩
  | .local _ .vmem, ⟨13, _⟩ => ⟨S1x280x1024, .f32⟩
  | _, _ => ⟨S2x840x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x280x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x280x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwRefIdeal.lean ====
abbrev S2x840x1024 : Shape := ⟨3, ![2, 840, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x840x1024, .f32⟩
  | .hbm, ⟨1, _⟩ => ⟨S2x840x1024, .f32⟩
  | .hbm, ⟨2, _⟩ => ⟨S2x840x1024, .f32⟩
  | .hbm, ⟨3, _⟩ => ⟨S2x840x1024, .f32⟩
  | .hbm, ⟨4, _⟩ => ⟨S_, .f32⟩
  | .hbm, ⟨5, _⟩ => ⟨S2x840x1024, .f32⟩
  | .hbm, ⟨6, _⟩ => ⟨S2x840x1024, .f32⟩
  | .hbm, ⟨7, _⟩ => ⟨S_, .f32⟩
  | .hbm, ⟨8, _⟩ => ⟨S2x840x1024, .f32⟩
  | .hbm, ⟨9, _⟩ => ⟨S2x840x1024, .f32⟩
  | .hbm, ⟨10, _⟩ => ⟨S2x840x1024, .f32⟩
  | .hbm, ⟨11, _⟩ => ⟨S_, .f32⟩
  | .hbm, ⟨12, _⟩ => ⟨S2x840x1024, .f32⟩
  | .hbm, ⟨13, _⟩ => ⟨S2x840x1024, .f32⟩
  | .hbm, ⟨14, _⟩ => ⟨S2x840x1024, .f32⟩
  | .hbm, ⟨15, _⟩ => ⟨S_, .f32⟩
  | .hbm, ⟨16, _⟩ => ⟨S2x840x1024, .f32⟩
  | .hbm, ⟨17, _⟩ => ⟨S2x840x1024, .f32⟩
  | .hbm, ⟨18, _⟩ => ⟨S2x840x1024, .f32⟩
  | .hbm, ⟨19, _⟩ => ⟨S_, .f32⟩
  | .hbm, ⟨20, _⟩ => ⟨S2x840x1024, .f32⟩
  | .hbm, ⟨21, _⟩ => ⟨S2x840x1024, .f32⟩
  | .hbm, ⟨22, _⟩ => ⟨S_, .f32⟩
  | .hbm, ⟨23, _⟩ => ⟨S2x840x1024, .f32⟩
  | .hbm, ⟨24, _⟩ => ⟨S2x840x1024, .f32⟩
  | .hbm, ⟨25, _⟩ => ⟨S2x840x1024, .f32⟩
  | .hbm, ⟨26, _⟩ => ⟨S_, .f32⟩
  | .hbm, ⟨27, _⟩ => ⟨S2x840x1024, .f32⟩
  | .hbm, ⟨28, _⟩ => ⟨S2x840x1024, .f32⟩
  | .hbm, ⟨29, _⟩ => ⟨S2x840x1024, .f32⟩
  | .hbm, ⟨30, _⟩ => ⟨S_, .f32⟩
  | .hbm, ⟨31, _⟩ => ⟨S2x840x1024, .f32⟩
  | .hbm, ⟨32, _⟩ => ⟨S2x840x1024, .f32⟩
  | .hbm, ⟨33, _⟩ => ⟨S2x840x1024, .f32⟩
  | .hbm, ⟨34, _⟩ => ⟨S_, .f32⟩
  | .hbm, ⟨35, _⟩ => ⟨S2x840x1024, .f32⟩
  | .hbm, ⟨36, _⟩ => ⟨S2x840x1024, .f32⟩
  | _, _ => ⟨S2x840x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnDw.lean ====
abbrev S4096x2816 : Shape := ⟨2, ![4096, 2816]⟩
abbrev S4096x1024 : Shape := ⟨2, ![4096, 1024]⟩
abbrev S4x2x704x1024 : Shape := ⟨4, ![4, 2, 704, 1024]⟩
abbrev S4096x4x704 : Shape := ⟨3, ![4096, 4, 704]⟩
abbrev S4x4096x704 : Shape := ⟨3, ![4, 4096, 704]⟩
abbrev S1x4096x704 : Shape := ⟨3, ![1, 4096, 704]⟩
abbrev S4096x512 : Shape := ⟨2, ![4096, 512]⟩
abbrev S1x1x704x512 : Shape := ⟨4, ![1, 1, 704, 512]⟩
abbrev S4096x704 : Shape := ⟨2, ![4096, 704]⟩
abbrev S704x512 : Shape := ⟨2, ![704, 512]⟩

abbrev nBuf : Space → Nat
  | .hbm => 9
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x2x704x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4096x1024, .bf16⟩
  | .hbm, ⟨7, _⟩ => ⟨S4x2x704x1024, .bf16⟩
  | .hbm, ⟨8, _⟩ => ⟨S4x2x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x512, .bf16⟩
  | .local _ .vmem, ⟨3, _⟩ => ⟨S4096x512, .bf16⟩
  | .local _ .vmem, ⟨4, _⟩ => ⟨S1x1x704x512, .bf16⟩
  | .local _ .vmem, ⟨5, _⟩ => ⟨S1x1x704x512, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDwRefIdeal.lean ====
abbrev S4096x2816 : Shape := ⟨2, ![4096, 2816]⟩
abbrev S4096x1024 : Shape := ⟨2, ![4096, 1024]⟩
abbrev S4x2x704x1024 : Shape := ⟨4, ![4, 2, 704, 1024]⟩
abbrev S_ : Shape := ⟨0, ![]⟩
abbrev S2816x1024 : Shape := ⟨2, ![2816, 1024]⟩
abbrev S1024x2816 : Shape := ⟨2, ![1024, 2816]⟩
abbrev S4x1x704x1024 : Shape := ⟨4, ![4, 1, 704, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4x2x704x1024, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S4x1x704x1024, .f32⟩
  | .hbm, ⟨15, _⟩ => ⟨S4x1x704x1024, .f32⟩
  | .hbm, ⟨16, _⟩ => ⟨S4x2x704x1024, .f32⟩
  | .hbm, ⟨17, _⟩ => ⟨S4x2x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Dwgate.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1024x3072, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwgateRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwout.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dbranch.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DbranchRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DbranchAt.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .bf16⟩
  | .hbm, ⟨3, _⟩ => ⟨S512x1024, .bf16⟩
  | .local _ .vmem, ⟨0, _⟩ => ⟨S4096x512, .f32⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DbranchAtRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dglu.lean ====
abbrev S4096x512 : Shape := ⟨2, ![4096, 512]⟩
abbrev S512x512 : Shape := ⟨2, ![512, 512]⟩

abbrev nBuf : Space → Nat
  | .hbm => 5
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S512x512, .bf16⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DgluRefIdeal.lean ====
abbrev S4096x512 : Shape := ⟨2, ![4096, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S512x512, .f32⟩
  | .hbm, ⟨6, _⟩ => ⟨S512x512, .f32⟩
  | .hbm, ⟨7, _⟩ => ⟨S512x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDwIn.lean ====
abbrev S4096x1024 : Shape := ⟨2, ![4096, 1024]⟩
abbrev S4096x2816 : Shape := ⟨2, ![4096, 2816]⟩
abbrev S4x2x704x1024 : Shape := ⟨4, ![4, 2, 704, 1024]⟩
abbrev S4096x4x704 : Shape := ⟨3, ![4096, 4, 704]⟩
abbrev S4x4096x704 : Shape := ⟨3, ![4, 4096, 704]⟩
abbrev S1x4096x704 : Shape := ⟨3, ![1, 4096, 704]⟩
abbrev S4096x512 : Shape := ⟨2, ![4096, 512]⟩
abbrev S1x1x704x512 : Shape := ⟨4, ![1, 1, 704, 512]⟩
abbrev S4096x704 : Shape := ⟨2, ![4096, 704]⟩
abbrev S704x512 : Shape := ⟨2, ![704, 512]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x2x704x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4096x1024, .bf16⟩
  | .hbm, ⟨7, _⟩ => ⟨S4x2x704x1024, .bf16⟩
  | .hbm, ⟨8, _⟩ => ⟨S4x2x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x512, .bf16⟩
  | .local _ .vmem, ⟨3, _⟩ => ⟨S4096x512, .bf16⟩
  | .local _ .vmem, ⟨4, _⟩ => ⟨S1x1x704x512, .bf16⟩
  | .local _ .vmem, ⟨5, _⟩ => ⟨S1x1x704x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDwInRefIdeal.lean ====
abbrev S4096x1024 : Shape := ⟨2, ![4096, 1024]⟩
abbrev S4096x2816 : Shape := ⟨2, ![4096, 2816]⟩
abbrev S4x2x704x1024 : Shape := ⟨4, ![4, 2, 704, 1024]⟩
abbrev S_ : Shape := ⟨0, ![]⟩
abbrev S1024x2816 : Shape := ⟨2, ![1024, 2816]⟩
abbrev S2816x1024 : Shape := ⟨2, ![2816, 1024]⟩
abbrev S4x1x704x1024 : Shape := ⟨4, ![4, 1, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x2x704x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S4x1x704x1024, .f32⟩
  | .hbm, ⟨10, _⟩ => ⟨S4x1x704x1024, .f32⟩
  | .hbm, ⟨11, _⟩ => ⟨S4x2x704x1024, .f32⟩
  | .hbm, ⟨12, _⟩ => ⟨S4x2x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AdamwFfn.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwFfnRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGate.lean ====
abbrev S2x1024x768 : Shape := ⟨3, ![2, 1024, 768]⟩
abbrev S1x512x768 : Shape := ⟨3, ![1, 512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwGateRefIdeal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBranch.lean ====
abbrev S2x512x256 : Shape := ⟨3, ![2, 512, 256]⟩
abbrev S1x512x256 : Shape := ⟨3, ![1, 512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwBranchRefIdeal.lean ====
abbrev S2x512x256 : Shape := ⟨3, ![2, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlu.lean ====
abbrev S2x128x512 : Shape := ⟨3, ![2, 128, 512]⟩
abbrev S1x128x512 : Shape := ⟨3, ![1, 128, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwGluRefIdeal.lean ====
abbrev S2x128x512 : Shape := ⟨3, ![2, 128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAlpha.lean ====
abbrev S2x32x128 : Shape := ⟨3, ![2, 32, 128]⟩
abbrev S1x32x128 : Shape := ⟨3, ![1, 32, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x32x128, .f32⟩
  | .hbm, ⟨1, _⟩ => ⟨S2x32x128, .f32⟩
  | .hbm, ⟨2, _⟩ => ⟨S2x32x128, .f32⟩
  | .hbm, ⟨3, _⟩ => ⟨S2x32x128, .f32⟩
  | .hbm, ⟨4, _⟩ => ⟨S2x32x128, .f32⟩
  | .hbm, ⟨5, _⟩ => ⟨S2x32x128, .f32⟩
  | .hbm, ⟨6, _⟩ => ⟨S2x32x128, .f32⟩
  | .local _ .vmem, ⟨0, _⟩ => ⟨S1x32x128, .f32⟩
  | .local _ .vmem, ⟨1, _⟩ => ⟨S1x32x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x32x128, .f32⟩
  | .local _ .vmem, ⟨11, _⟩ => ⟨S1x32x128, .f32⟩
  | .local _ .vmem, ⟨12, _⟩ => ⟨S1x32x128, .f32⟩
  | .local _ .vmem, ⟨13, _⟩ => ⟨S1x32x128, .f32⟩
  | _, _ => ⟨S2x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwAlphaRefIdeal.lean ====
abbrev S2x32x128 : Shape := ⟨3, ![2, 32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32x128, .f32⟩
  | .hbm, ⟨1, _⟩ => ⟨S2x32x128, .f32⟩
  | .hbm, ⟨2, _⟩ => ⟨S2x32x128, .f32⟩
  | .hbm, ⟨3, _⟩ => ⟨S2x32x128, .f32⟩
  | .hbm, ⟨4, _⟩ => ⟨S_, .f32⟩
  | .hbm, ⟨5, _⟩ => ⟨S2x32x128, .f32⟩
  | .hbm, ⟨6, _⟩ => ⟨S2x32x128, .f32⟩
  | .hbm, ⟨7, _⟩ => ⟨S_, .f32⟩
  | .hbm, ⟨8, _⟩ => ⟨S2x32x128, .f32⟩
  | .hbm, ⟨9, _⟩ => ⟨S2x32x128, .f32⟩
  | .hbm, ⟨10, _⟩ => ⟨S2x32x128, .f32⟩
  | .hbm, ⟨11, _⟩ => ⟨S_, .f32⟩
  | .hbm, ⟨12, _⟩ => ⟨S2x32x128, .f32⟩
  | .hbm, ⟨13, _⟩ => ⟨S2x32x128, .f32⟩
  | .hbm, ⟨14, _⟩ => ⟨S2x32x128, .f32⟩
  | .hbm, ⟨15, _⟩ => ⟨S_, .f32⟩
  | .hbm, ⟨16, _⟩ => ⟨S2x32x128, .f32⟩
  | .hbm, ⟨17, _⟩ => ⟨S2x32x128, .f32⟩
  | .hbm, ⟨18, _⟩ => ⟨S2x32x128, .f32⟩
  | .hbm, ⟨19, _⟩ => ⟨S_, .f32⟩
  | .hbm, ⟨20, _⟩ => ⟨S2x32x128, .f32⟩
  | .hbm, ⟨21, _⟩ => ⟨S2x32x128, .f32⟩
  | .hbm, ⟨22, _⟩ => ⟨S_, .f32⟩
  | .hbm, ⟨23, _⟩ => ⟨S2x32x128, .f32⟩
  | .hbm, ⟨24, _⟩ => ⟨S2x32x128, .f32⟩
  | .hbm, ⟨25, _⟩ => ⟨S2x32x128, .f32⟩
  | .hbm, ⟨26, _⟩ => ⟨S_, .f32⟩
  | .hbm, ⟨27, _⟩ => ⟨S2x32x128, .f32⟩
  | .hbm, ⟨28, _⟩ => ⟨S2x32x128, .f32⟩
  | .hbm, ⟨29, _⟩ => ⟨S2x32x128, .f32⟩
  | .hbm, ⟨30, _⟩ => ⟨S_, .f32⟩
  | .hbm, ⟨31, _⟩ => ⟨S2x32x128, .f32⟩
  | .hbm, ⟨32, _⟩ => ⟨S2x32x128, .f32⟩
  | .hbm, ⟨33, _⟩ => ⟨S2x32x128, .f32⟩
  | .hbm, ⟨34, _⟩ => ⟨S_, .f32⟩
  | .hbm, ⟨35, _⟩ => ⟨S2x32x128, .f32⟩
  | .hbm, ⟨36, _⟩ => ⟨S2x32x128, .f32⟩
  | _, _ => ⟨S2x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBias.lean ====
abbrev S2x2x128 : Shape := ⟨3, ![2, 2, 128]⟩
abbrev S1x2x128 : Shape := ⟨3, ![1, 2, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x2x128, .f32⟩
  | .hbm, ⟨1, _⟩ => ⟨S2x2x128, .f32⟩
  | .hbm, ⟨2, _⟩ => ⟨S2x2x128, .f32⟩
  | .hbm, ⟨3, _⟩ => ⟨S2x2x128, .f32⟩
  | .hbm, ⟨4, _⟩ => ⟨S2x2x128, .f32⟩
  | .hbm, ⟨5, _⟩ => ⟨S2x2x128, .f32⟩
  | .hbm, ⟨6, _⟩ => ⟨S2x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | .local _ .vmem, ⟨8, _⟩ => ⟨S1x2x128, .f32⟩
  | .local _ .vmem, ⟨9, _⟩ => ⟨S1x2x128, .f32⟩
  | .local _ .vmem, ⟨10, _⟩ => ⟨S1x2x128, .f32⟩
  | .local _ .vmem, ⟨11, _⟩ => ⟨S1x2x128, .f32⟩
  | .local _ .vmem, ⟨12, _⟩ => ⟨S1x2x128, .f32⟩
  | .local _ .vmem, ⟨13, _⟩ => ⟨S1x2x128, .f32⟩
  | _, _ => ⟨S2x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwBiasRefIdeal.lean ====
abbrev S2x2x128 : Shape := ⟨3, ![2, 2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x128, .f32⟩
  | .hbm, ⟨1, _⟩ => ⟨S2x2x128, .f32⟩
  | .hbm, ⟨2, _⟩ => ⟨S2x2x128, .f32⟩
  | .hbm, ⟨3, _⟩ => ⟨S2x2x128, .f32⟩
  | .hbm, ⟨4, _⟩ => ⟨S_, .f32⟩
  | .hbm, ⟨5, _⟩ => ⟨S2x2x128, .f32⟩
  | .hbm, ⟨6, _⟩ => ⟨S2x2x128, .f32⟩
  | .hbm, ⟨7, _⟩ => ⟨S_, .f32⟩
  | .hbm, ⟨8, _⟩ => ⟨S2x2x128, .f32⟩
  | .hbm, ⟨9, _⟩ => ⟨S2x2x128, .f32⟩
  | .hbm, ⟨10, _⟩ => ⟨S2x2x128, .f32⟩
  | .hbm, ⟨11, _⟩ => ⟨S_, .f32⟩
  | .hbm, ⟨12, _⟩ => ⟨S2x2x128, .f32⟩
  | .hbm, ⟨13, _⟩ => ⟨S2x2x128, .f32⟩
  | .hbm, ⟨14, _⟩ => ⟨S2x2x128, .f32⟩
  | .hbm, ⟨15, _⟩ => ⟨S_, .f32⟩
  | .hbm, ⟨16, _⟩ => ⟨S2x2x128, .f32⟩
  | .hbm, ⟨17, _⟩ => ⟨S2x2x128, .f32⟩
  | .hbm, ⟨18, _⟩ => ⟨S2x2x128, .f32⟩
  | .hbm, ⟨19, _⟩ => ⟨S_, .f32⟩
  | .hbm, ⟨20, _⟩ => ⟨S2x2x128, .f32⟩
  | .hbm, ⟨21, _⟩ => ⟨S2x2x128, .f32⟩
  | .hbm, ⟨22, _⟩ => ⟨S_, .f32⟩
  | .hbm, ⟨23, _⟩ => ⟨S2x2x128, .f32⟩
  | .hbm, ⟨24, _⟩ => ⟨S2x2x128, .f32⟩
  | .hbm, ⟨25, _⟩ => ⟨S2x2x128, .f32⟩
  | .hbm, ⟨26, _⟩ => ⟨S_, .f32⟩
  | .hbm, ⟨27, _⟩ => ⟨S2x2x128, .f32⟩
  | .hbm, ⟨28, _⟩ => ⟨S2x2x128, .f32⟩
  | .hbm, ⟨29, _⟩ => ⟨S2x2x128, .f32⟩
  | .hbm, ⟨30, _⟩ => ⟨S_, .f32⟩
  | .hbm, ⟨31, _⟩ => ⟨S2x2x128, .f32⟩
  | .hbm, ⟨32, _⟩ => ⟨S2x2x128, .f32⟩
  | .hbm, ⟨33, _⟩ => ⟨S2x2x128, .f32⟩
  | .hbm, ⟨34, _⟩ => ⟨S_, .f32⟩
  | .hbm, ⟨35, _⟩ => ⟨S2x2x128, .f32⟩
  | .hbm, ⟨36, _⟩ => ⟨S2x2x128, .f32⟩
  | _, _ => ⟨S2x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRep.lean ====
abbrev S1x576x1024 : Shape := ⟨3, ![1, 576, 1024]⟩
abbrev S1x288x1024 : Shape := ⟨3, ![1, 288, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x576x1024, .f32⟩
  | .hbm, ⟨1, _⟩ => ⟨S1x576x1024, .f32⟩
  | .hbm, ⟨2, _⟩ => ⟨S1x576x1024, .f32⟩
  | .hbm, ⟨3, _⟩ => ⟨S1x576x1024, .f32⟩
  | .hbm, ⟨4, _⟩ => ⟨S1x576x1024, .f32⟩
  | .hbm, ⟨5, _⟩ => ⟨S1x576x1024, .f32⟩
  | .hbm, ⟨6, _⟩ => ⟨S1x576x1024, .f32⟩
  | .local _ .vmem, ⟨0, _⟩ => ⟨S1x288x1024, .f32⟩
  | .local _ .vmem, ⟨1, _⟩ => ⟨S1x288x1024, .f32⟩
  | .local _ .vmem, ⟨2, _⟩ => ⟨S1x288x1024, .f32⟩
  | .local _ .vmem, ⟨3, _⟩ => ⟨S1x288x1024, .f32⟩
  | .local _ .vmem, ⟨4, _⟩ => ⟨S1x288x1024, .f32⟩
  | .local _ .vmem, ⟨5, _⟩ => ⟨S1x288x1024, .f32⟩
  | .local _ .vmem, ⟨6, _⟩ => ⟨S1x288x1024, .f32⟩
  | .local _ .vmem, ⟨7, _⟩ => ⟨S1x288x1024, .f32⟩
  | .local _ .vmem, ⟨8, _⟩ => ⟨S1x288x1024, .f32⟩
  | .local _ .vmem, ⟨9, _⟩ => ⟨S1x288x1024, .f32⟩
  | .local _ .vmem, ⟨10, _⟩ => ⟨S1x288x1024, .f32⟩
  | .local _ .vmem, ⟨11, _⟩ => ⟨S1x288x1024, .f32⟩
  | .local _ .vmem, ⟨12, _⟩ => ⟨S1x288x1024, .f32⟩
  | .local _ .vmem, ⟨13, _⟩ => ⟨S1x288x1024, .f32⟩
  | _, _ => ⟨S1x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x288x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x288x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x288x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x288x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x288x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x288x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x288x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwRepRefIdeal.lean ====
abbrev S1x576x1024 : Shape := ⟨3, ![1, 576, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x576x1024, .f32⟩
  | .hbm, ⟨1, _⟩ => ⟨S1x576x1024, .f32⟩
  | .hbm, ⟨2, _⟩ => ⟨S1x576x1024, .f32⟩
  | .hbm, ⟨3, _⟩ => ⟨S1x576x1024, .f32⟩
  | .hbm, ⟨4, _⟩ => ⟨S_, .f32⟩
  | .hbm, ⟨5, _⟩ => ⟨S1x576x1024, .f32⟩
  | .hbm, ⟨6, _⟩ => ⟨S1x576x1024, .f32⟩
  | .hbm, ⟨7, _⟩ => ⟨S_, .f32⟩
  | .hbm, ⟨8, _⟩ => ⟨S1x576x1024, .f32⟩
  | .hbm, ⟨9, _⟩ => ⟨S1x576x1024, .f32⟩
  | .hbm, ⟨10, _⟩ => ⟨S1x576x1024, .f32⟩
  | .hbm, ⟨11, _⟩ => ⟨S_, .f32⟩
  | .hbm, ⟨12, _⟩ => ⟨S1x576x1024, .f32⟩
  | .hbm, ⟨13, _⟩ => ⟨S1x576x1024, .f32⟩
  | .hbm, ⟨14, _⟩ => ⟨S1x576x1024, .f32⟩
  | .hbm, ⟨15, _⟩ => ⟨S_, .f32⟩
  | .hbm, ⟨16, _⟩ => ⟨S1x576x1024, .f32⟩
  | .hbm, ⟨17, _⟩ => ⟨S1x576x1024, .f32⟩
  | .hbm, ⟨18, _⟩ => ⟨S1x576x1024, .f32⟩
  | .hbm, ⟨19, _⟩ => ⟨S_, .f32⟩
  | .hbm, ⟨20, _⟩ => ⟨S1x576x1024, .f32⟩
  | .hbm, ⟨21, _⟩ => ⟨S1x576x1024, .f32⟩
  | .hbm, ⟨22, _⟩ => ⟨S_, .f32⟩
  | .hbm, ⟨23, _⟩ => ⟨S1x576x1024, .f32⟩
  | .hbm, ⟨24, _⟩ => ⟨S1x576x1024, .f32⟩
  | .hbm, ⟨25, _⟩ => ⟨S1x576x1024, .f32⟩
  | .hbm, ⟨26, _⟩ => ⟨S_, .f32⟩
  | .hbm, ⟨27, _⟩ => ⟨S1x576x1024, .f32⟩
  | .hbm, ⟨28, _⟩ => ⟨S1x576x1024, .f32⟩
  | .hbm, ⟨29, _⟩ => ⟨S1x576x1024, .f32⟩
  | .hbm, ⟨30, _⟩ => ⟨S_, .f32⟩
  | .hbm, ⟨31, _⟩ => ⟨S1x576x1024, .f32⟩
  | .hbm, ⟨32, _⟩ => ⟨S1x576x1024, .f32⟩
  | .hbm, ⟨33, _⟩ => ⟨S1x576x1024, .f32⟩
  | .hbm, ⟨34, _⟩ => ⟨S_, .f32⟩
  | .hbm, ⟨35, _⟩ => ⟨S1x576x1024, .f32⟩
  | .hbm, ⟨36, _⟩ => ⟨S1x576x1024, .f32⟩
  | _, _ => ⟨S1x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Dalpha.lean ====
abbrev S4096x16 : Shape := ⟨2, ![4096, 16]⟩
abbrev S4096x512 : Shape := ⟨2, ![4096, 512]⟩
abbrev S_ : Shape := ⟨0, ![]⟩
abbrev S4096x3328 : Shape := ⟨2, ![4096, 3328]⟩
abbrev S4096x96 : Shape := ⟨2, ![4096, 96]⟩
abbrev S4096x3456 : Shape := ⟨2, ![4096, 3456]⟩
abbrev S128x512 : Shape := ⟨2, ![128, 512]⟩
abbrev S4096x128 : Shape := ⟨2, ![4096, 128]⟩

abbrev nBuf : Space → Nat
  | .hbm => 11
  | .vmem => 3
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x512, .f32⟩
  | .hbm, ⟨3, _⟩ => ⟨S_, .f32⟩
  | .hbm, ⟨4, _⟩ => ⟨S4096x3328, .f32⟩
  | .hbm, ⟨5, _⟩ => ⟨S_, .f32⟩
  | .hbm, ⟨6, _⟩ => ⟨S4096x96, .f32⟩
  | .hbm, ⟨7, _⟩ => ⟨S4096x3456, .f32⟩
  | .hbm, ⟨8, _⟩ => ⟨S4096x3456, .bf16⟩
  | .hbm, ⟨9, _⟩ => ⟨S4096x512, .bf16⟩
  | .hbm, ⟨10, _⟩ => ⟨S128x512, .f32⟩
  | .local _ .vmem, ⟨0, _⟩ => ⟨S4096x128, .bf16⟩
  | .local _ .vmem, ⟨1, _⟩ => ⟨S4096x512, .bf16⟩
  | .local _ .vmem, ⟨2, _⟩ => ⟨S128x512, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DalphaRefIdeal.lean ====
abbrev S4096x16 : Shape := ⟨2, ![4096, 16]⟩
abbrev S4096x512 : Shape := ⟨2, ![4096, 512]⟩
abbrev S_ : Shape := ⟨0, ![]⟩
abbrev S16x512 : Shape := ⟨2, ![16, 512]⟩
abbrev S512x16 : Shape := ⟨2, ![512, 16]⟩
abbrev S96x512 : Shape := ⟨2, ![96, 512]⟩
abbrev S128x512 : Shape := ⟨2, ![128, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x512, .f32⟩
  | .hbm, ⟨3, _⟩ => ⟨S_, .f32⟩
  | .hbm, ⟨4, _⟩ => ⟨S16x512, .f32⟩
  | .hbm, ⟨5, _⟩ => ⟨S4096x512, .f32⟩
  | .hbm, ⟨6, _⟩ => ⟨S512x16, .f32⟩
  | .hbm, ⟨7, _⟩ => ⟨S16x512, .f32⟩
  | .hbm, ⟨8, _⟩ => ⟨S4096x512, .f32⟩
  | .hbm, ⟨9, _⟩ => ⟨S512x16, .f32⟩
  | .hbm, ⟨10, _⟩ => ⟨S16x512, .f32⟩
  | .hbm, ⟨11, _⟩ => ⟨S_, .f32⟩
  | .hbm, ⟨12, _⟩ => ⟨S96x512, .f32⟩
  | .hbm, ⟨13, _⟩ => ⟨S128x512, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Sigmoid.lean ====
/- The logistic function, written as a hyperbolic tangent by the kernels and as a quotient by the reference. -/
module

public import Idealize.ShloMosaic.Lib.Pointwise
public import Idealize.ShloMosaic.PureOps.Ideal.Laws

@[expose] public section

noncomputable section

namespace Cert.Sigmoid

open Idealize.ShloMosaic

/-- The logistic function as a quotient. -/
def gate (x : EReal) : EReal := Ideal.div 1 (1 + Ideal.exp (-x))

/-- The float word of one half is the number one half. -/
theorem half : Ideal.ofBits FTy.f32 0x3F000000#32 = ((1 / 2 : ℝ) : EReal) := by
  simp [Ideal.ofBits, Ideal.ieee, -EReal.coe_mul]; norm_num

/-- `tanh (x / 2) / 2 + 1 / 2` is the logistic function, at the infinities too. -/
theorem tanh_gate (x : EReal) :
    Ideal.ofBits FTy.f32 0x3F000000#32 * Ideal.tanh (Ideal.ofBits FTy.f32 0x3F000000#32 * x)
      + Ideal.ofBits FTy.f32 0x3F000000#32 = gate x := by
  rw [half, gate]
  induction x using EReal.rec with
  | bot =>
    rw [EReal.coe_mul_bot_of_pos (by norm_num), Ideal.tanh_bot, EReal.neg_bot, Ideal.exp_top,
      EReal.add_top_of_ne_bot (by decide), Ideal.div, if_neg (by decide), EReal.inv_top, mul_zero]
    rw [show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot, add_zero,
      mul_one, ← EReal.coe_add, show (1 : EReal) = ((1 : ℝ) : EReal) from rfl, Ideal.div_coe one_ne_zero,
      ← EReal.coe_mul]
    norm_num
  | coe r =>
    have hp : (1 : ℝ) + Real.exp (-r) ≠ 0 := by positivity
    rw [← EReal.coe_mul, Ideal.tanh_coe, ← EReal.coe_neg, Ideal.exp_coe, ← EReal.coe_mul, ← EReal.coe_add,
      show (1 : EReal) = ((1 : ℝ) : EReal) from rfl, ← EReal.coe_add, Ideal.div_coe hp, ← EReal.coe_mul]
    congr 1
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    have ha : 0 < Real.exp (1 / 2 * r) := Real.exp_pos _
    have hb : 0 < Real.exp (-(1 / 2 * r)) := Real.exp_pos _
    rw [Real.tanh_eq_sinh_div_cosh, Real.sinh_eq, Real.cosh_eq, h1]
    rw [h1] at hp
    generalize Real.exp (1 / 2 * r) = a at *
    generalize Real.exp (-(1 / 2 * r)) = b at *
    field_simp
    nlinarith [h2]

end Cert.Sigmoid

end
-- ==== Proof.Merge.lean ====
/- The merge gate's gradient: every window of the kernel's call, element by element, is the reference's array. -/
module

public import proofs.«01_k».proof.Proof.Gen.KernelIdeal.Value
public import proofs.«01_k».proof.Proof.Gen.ReferenceIdeal.Read
public import proofs.«01_k».proof.Proof.Sigmoid
public import Idealize.ShloMosaic.Lib.Pipeline.ValueKit
public import Idealize.ShloMosaic.Lib.Pointwise

@[expose] public section

set_option maxRecDepth 16384

noncomputable section

namespace Cert.Merge

open Cert.KernelIdeal Cert.KernelIdeal.Gen Cert.Sigmoid
open Idealize.ShloMosaic Idealize.ShloMosaic.TcCoe Idealize.SL.Sem
open Cert.ReferenceIdeal.Read

variable (m : (ℓ : Loc nD τ sig) → Buf (Elt Ideal) ℓ)

/-- Of three numbers the one whose branch the column `l` of a row of 3072 belongs to. -/
def pick (l : ℕ) (a b c : EReal) : EReal := if l < 1024 then a else if l < 2048 then b else c

/-! ### The kernel's block -/

theorem kgate (v1 : Vec Ideal S256x3072 .bf16) (v5 : Vec Ideal S1x3072 .f32) (r : Fin 256) (l : Fin 3072) :
    k0_pay9 v1 v5 (ix2 r l) = gate (v1 (ix2 r l) + v5 (ix2 0 l)) := by
  pointwise [k0_pay9]
  exact tanh_gate _

/-- The block stored for a branch, over the columns `o + l` of the gates. -/
theorem kdp0 (v0 : Vec Ideal S256x1024 .bf16) (v1 : Vec Ideal S256x3072 .bf16) (v5 : Vec Ideal S1x3072 .f32)
    (r : Fin 256) (l : Fin 1024) : k0_pay2 (k0_pay11 v0 v1 v5) (ix2 r l)
      = v0 (ix2 r l) * gate (v1 (ix2 r ⟨l.val, by omega⟩) + v5 (ix2 0 ⟨l.val, by omega⟩)) := by
  pointwise [k0_pay2, k0_pay11, k0_pay8, k0_pay10]
  rw [kgate]

theorem kdp1 (v0 : Vec Ideal S256x1024 .bf16) (v1 : Vec Ideal S256x3072 .bf16) (v5 : Vec Ideal S1x3072 .f32)
    (r : Fin 256) (l : Fin 1024) : k0_pay3 (k0_pay14 v0 v1 v5) (ix2 r l)
      = v0 (ix2 r l) * gate (v1 (ix2 r ⟨1024 + l.val, by omega⟩) + v5 (ix2 0 ⟨1024 + l.val, by omega⟩)) := by
  pointwise [k0_pay3, k0_pay14, k0_pay8, k0_pay13]
  rw [kgate]

theorem kdp2 (v0 : Vec Ideal S256x1024 .bf16) (v1 : Vec Ideal S256x3072 .bf16) (v5 : Vec Ideal S1x3072 .f32)
    (r : Fin 256) (l : Fin 1024) : k0_pay4 (k0_pay17 v0 v1 v5) (ix2 r l)
      = v0 (ix2 r l) * gate (v1 (ix2 r ⟨2048 + l.val, by omega⟩) + v5 (ix2 0 ⟨2048 + l.val, by omega⟩)) := by
  pointwise [k0_pay4, k0_pay17, k0_pay8, k0_pay16]
  rw [kgate]

/-- The gradient of the gates' preactivations in one block. -/
theorem kdgp (v0 v2 v3 v4 : Vec Ideal S256x1024 .bf16) (v1 : Vec Ideal S256x3072 .bf16) (v5 : Vec Ideal S1x3072 .f32)
    (r : Fin 256) (l : Fin 3072) :
    k0_pay1 (k0_pay12 v0 v1 v2 v5) (k0_pay15 v0 v1 v3 v5) (k0_pay18 v0 v1 v4 v5) (k0_pay19 v1 v5) (ix2 r l)
      = v0 (ix2 r ⟨l.val % 1024, by omega⟩)
        * pick l.val (v2 (ix2 r ⟨l.val % 1024, by omega⟩)) (v3 (ix2 r ⟨l.val % 1024, by omega⟩))
            (v4 (ix2 r ⟨l.val % 1024, by omega⟩))
        * gate (v1 (ix2 r l) + v5 (ix2 0 l)) * (1 - gate (v1 (ix2 r l) + v5 (ix2 0 l))) := by
  pointwise [k0_pay1, k0_pay12, k0_pay15, k0_pay18, k0_pay19, k0_pay8, k0_pay10, k0_pay13, k0_pay16]
  simp only [kgate, pick]
  obtain ⟨l, hl⟩ := l
  dsimp only
  by_cases h1 : l < 1024
  · simp only [dif_pos h1, if_pos h1, Nat.mod_eq_of_lt h1]
  · by_cases h2 : l < 2048
    · have e : l - 1024 = l % 1024 := by omega
      have e' : 1024 + l % 1024 = l := by omega
      have hm : l % 1024 < 1024 := Nat.mod_lt _ (by norm_num)
      simp only [dif_neg h1, if_neg h1, if_pos h2, e, e', dif_pos hm]
    · have e : l - 1024 - 1024 = l % 1024 := by omega
      have e' : 2048 + l % 1024 = l := by omega
      simp only [dif_neg h1, if_neg h1, dif_neg (show ¬ l - 1024 < 1024 by omega), if_neg h2, e, e']

/-! ### The reference's arrays -/

theorem rgate (x0 : FVec Ideal S4096x3072 .bf16) (x4 : FVec Ideal Cert.ReferenceIdeal.S3072 .f32)
    (r : Fin 4096) (l : Fin 3072) : val_main_v9 (F := Ideal) x0 x4 (ix2 r l) = gate (x0 (ix2 r l) + x4 (ix1 l)) := by
  pointwise [val_main_v9, val_main_v8, val_main_v7, val_main_v6, val_main_v5, val_main_v4, val_main_v3, val_main_v2,
    val_main_v1, val_main_v0, val_main_cst, val_main_cst_0]
  rfl

/-- The gradient of the gates' preactivations. -/
theorem rdgp (x0 : FVec Ideal S4096x3072 .bf16) (x1 x2 x3 x5 : FVec Ideal S4096x1024 .bf16)
    (x4 : FVec Ideal Cert.ReferenceIdeal.S3072 .f32) (r : Fin 4096) (l : Fin 3072) :
    val_main_v47 (F := Ideal) x0 x1 x2 x3 x4 x5 (ix2 r l)
      = x5 (ix2 r ⟨l.val % 1024, by omega⟩)
        * pick l.val (x1 (ix2 r ⟨l.val % 1024, by omega⟩)) (x2 (ix2 r ⟨l.val % 1024, by omega⟩))
            (x3 (ix2 r ⟨l.val % 1024, by omega⟩))
        * gate (x0 (ix2 r l) + x4 (ix1 l)) * (1 - gate (x0 (ix2 r l) + x4 (ix1 l))) := by
  pointwise [val_main_v47, val_main_v46, val_main_v45, val_main_v44, val_main_v43, val_main_v39, val_main_v38,
    val_main_v33, val_main_v41, val_main_v28, val_main_v25, val_main_v20, val_main_v16, val_main_v12, val_main_v11,
    val_main_v10, val_main_cst_1, val_main_cst_2, val_main_cst_3, val_main_cst_4, val_main_v30, val_main_v32,
    val_main_v35, val_main_v37]
  simp only [rgate, pick]
  rw [← mul_assoc]
  obtain ⟨l, hl⟩ := l
  dsimp only
  have hm : l % 1024 < 1024 := Nat.mod_lt _ (by norm_num)
  by_cases h1 : l < 1024
  · have e1 : ¬ 2 ≤ l / 1024 := by omega
    have e2 : ¬ 1 ≤ l / 1024 := by omega
    have e3 : l / 1024 < 1 := by omega
    simp only [e1, e2, e3, hm, h1, false_and, and_self, dite_false, dite_true, if_true, zero_add]
  · by_cases h2 : l < 2048
    · have e1 : ¬ 2 ≤ l / 1024 := by omega
      have e2 : 1 ≤ l / 1024 ∧ l / 1024 - 1 < 1 := by omega
      have e3 : ¬ l / 1024 < 1 := by omega
      simp only [e1, e2, e3, hm, h1, h2, false_and, and_self, dite_false, dite_true, if_true, if_false, zero_add, add_zero]
    · have e1 : 2 ≤ l / 1024 ∧ l / 1024 - 2 < 1 := by omega
      have e2 : ¬ l / 1024 - 1 < 1 := by omega
      have e3 : ¬ l / 1024 < 1 := by omega
      simp only [e1, e2, e3, hm, h1, h2, false_and, and_false, and_self, dite_false, dite_true, if_true, if_false, zero_add,
        add_zero]

theorem rdp0 (x0 : FVec Ideal S4096x3072 .bf16) (x4 : FVec Ideal Cert.ReferenceIdeal.S3072 .f32)
    (x5 : FVec Ideal S4096x1024 .bf16) (r : Fin 4096) (l : Fin 1024) :
    val_main_v42 (F := Ideal) x0 x4 x5 (ix2 r l)
      = gate (x0 (ix2 r ⟨l.val, by omega⟩) + x4 (ix1 ⟨l.val, by omega⟩)) * x5 (ix2 r l) := by
  pointwise [val_main_v42, val_main_v40, val_main_v28, val_main_v15, val_main_v14, val_main_v13]
  rw [rgate]

theorem rdp1 (x0 : FVec Ideal S4096x3072 .bf16) (x4 : FVec Ideal Cert.ReferenceIdeal.S3072 .f32)
    (x5 : FVec Ideal S4096x1024 .bf16) (r : Fin 4096) (l : Fin 1024) :
    val_main_v36 (F := Ideal) x0 x4 x5 (ix2 r l)
      = gate (x0 (ix2 r ⟨1024 + l.val, by omega⟩) + x4 (ix1 ⟨1024 + l.val, by omega⟩)) * x5 (ix2 r l) := by
  pointwise [val_main_v36, val_main_v34, val_main_v28, val_main_v19, val_main_v18, val_main_v13]
  rw [rgate]

theorem rdp2 (x0 : FVec Ideal S4096x3072 .bf16) (x4 : FVec Ideal Cert.ReferenceIdeal.S3072 .f32)
    (x5 : FVec Ideal S4096x1024 .bf16) (r : Fin 4096) (l : Fin 1024) :
    val_main_v31 (F := Ideal) x0 x4 x5 (ix2 r l)
      = gate (x0 (ix2 r ⟨2048 + l.val, by omega⟩) + x4 (ix1 ⟨2048 + l.val, by omega⟩)) * x5 (ix2 r l) := by
  pointwise [val_main_v31, val_main_v29, val_main_v28, val_main_v24, val_main_v23, val_main_v13]
  rw [rgate]

theorem rdb (x0 : FVec Ideal S4096x3072 .bf16) (x1 x2 x3 x5 : FVec Ideal S4096x1024 .bf16)
    (x4 : FVec Ideal Cert.ReferenceIdeal.S3072 .f32) (j : S1x3072.Idx) :
    val_main_v52 (F := Ideal) x0 x1 x2 x3 x4 x5 j
      = ∑ r : Fin 4096, val_main_v47 (F := Ideal) x0 x1 x2 x3 x4 x5 (ix2 r (j 1)) := by
  pointwise [val_main_v52, val_main_v50, val_main_v49, val_main_v48, val_main_cst_5, val_main_cst_6]
  simp only [Fin.sum_univ_one]

/-! ### The arrays after the run -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![0, 0] :=
  (by decide +kernel : ∀ t : Fin grid0.N, _)

/-- The bias's gradient: what a block adds to the row the call keeps. -/
theorem kdb (v0 v2 v3 v4 : Vec Ideal S256x1024 .bf16) (v1 : Vec Ideal S256x3072 .bf16)
    (v5 : Vec Ideal S1x3072 .f32) (acc : Vec Ideal S1x3072 .f32) (j : S1x3072.Idx) :
    k0_pay7 (k0_pay12 v0 v1 v2 v5) (k0_pay15 v0 v1 v3 v5) (k0_pay18 v0 v1 v4 v5) (k0_pay19 v1 v5) acc j
      = acc j + ∑ r : Fin 256,
        k0_pay1 (k0_pay12 v0 v1 v2 v5) (k0_pay15 v0 v1 v3 v5) (k0_pay18 v0 v1 v4 v5) (k0_pay19 v1 v5) (ix2 r (j 1)) := by
  pointwise [k0_pay7]

theorem kzero (j : S1x3072.Idx) : k0_pay6 (F := Ideal) j = 0 := by
  pointwise! [k0_pay6]

/-- The row of the whole array that row `r` of block `t` is. -/
def row (t : Fin cfg0.N) (r : Fin 256) : Fin 4096 :=
  ⟨t.val * 256 + r.val, by have h : t.val < 16 := lt_of_lt_of_eq t.isLt N_0; omega⟩

theorem read_0 (c : Dev nD) (t : Fin cfg0.N) (r : Fin 256) (l : Fin 1024) :
    (show Vec Ideal S256x1024 .bf16 from iblk m c 0 t) (ix2 r l)
      = (show FVec Ideal S4096x1024 .bf16 from m ((c : Thread nD τ).loc main_arg5)) (ix2 (row t r) l) := by
  unfold row
  blk_ext [iblk, V, idx t]

theorem read_1 (c : Dev nD) (t : Fin cfg0.N) (r : Fin 256) (l : Fin 3072) :
    (show Vec Ideal S256x3072 .bf16 from iblk m c 1 t) (ix2 r l)
      = (show FVec Ideal S4096x3072 .bf16 from m ((c : Thread nD τ).loc main_arg0)) (ix2 (row t r) l) := by
  unfold row
  blk_ext [iblk, V, idx t]

theorem read_2 (c : Dev nD) (t : Fin cfg0.N) (r : Fin 256) (l : Fin 1024) :
    (show Vec Ideal S256x1024 .bf16 from iblk m c 2 t) (ix2 r l)
      = (show FVec Ideal S4096x1024 .bf16 from m ((c : Thread nD τ).loc main_arg1)) (ix2 (row t r) l) := by
  unfold row
  blk_ext [iblk, V, idx t]

theorem read_3 (c : Dev nD) (t : Fin cfg0.N) (r : Fin 256) (l : Fin 1024) :
    (show Vec Ideal S256x1024 .bf16 from iblk m c 3 t) (ix2 r l)
      = (show FVec Ideal S4096x1024 .bf16 from m ((c : Thread nD τ).loc main_arg2)) (ix2 (row t r) l) := by
  unfold row
  blk_ext [iblk, V, idx t]

theorem read_4 (c : Dev nD) (t : Fin cfg0.N) (r : Fin 256) (l : Fin 1024) :
    (show Vec Ideal S256x1024 .bf16 from iblk m c 4 t) (ix2 r l)
      = (show FVec Ideal S4096x1024 .bf16 from m ((c : Thread nD τ).loc main_arg3)) (ix2 (row t r) l) := by
  unfold row
  blk_ext [iblk, V, idx t]

theorem read_5 (c : Dev nD) (t : Fin cfg0.N) (l : Fin 3072) :
    (show Vec Ideal S1x3072 .f32 from iblk m c 5 t) (ix2 0 l)
      = (show FVec Ideal Cert.ReferenceIdeal.S3072 .f32 from m ((c : Thread nD τ).loc main_arg4)) (ix1 l) := by
  blk_point [iblk, V, idx t]

/-- A block of branch 0's gradient is the reference's rows. -/
theorem point_6 (c : Dev nD) (t : Fin cfg0.N) (i : S256x1024.Idx) :
    k0_pay2 (k0_pay11 (iblk m c 0 t) (iblk m c 1 t) (iblk m c 5 t)) i
      = val_main_v42 (F := Ideal) (m ((c : Thread nD τ).loc main_arg0)) (m ((c : Thread nD τ).loc main_arg4))
        (m ((c : Thread nD τ).loc main_arg5)) (ix2 (row t (i 0)) (i 1)) := by
  idx_vars i
  refine (kdp0 _ _ _ i0 i1).trans (Eq.trans ?_ (rdp0 _ _ _ (row t i0) i1).symm)
  have h0 := read_0 m c t i0 i1
  have h1 := read_1 m c t i0 ⟨i1.val, by omega⟩
  have h5 := read_5 m c t ⟨i1.val, by omega⟩
  dsimp only at h0 h1 h5
  rw [h0, h1, h5, mul_comm]

/-- A block of branch 1's gradient is the reference's rows. -/
theorem point_7 (c : Dev nD) (t : Fin cfg0.N) (i : S256x1024.Idx) :
    k0_pay3 (k0_pay14 (iblk m c 0 t) (iblk m c 1 t) (iblk m c 5 t)) i
      = val_main_v36 (F := Ideal) (m ((c : Thread nD τ).loc main_arg0)) (m ((c : Thread nD τ).loc main_arg4))
        (m ((c : Thread nD τ).loc main_arg5)) (ix2 (row t (i 0)) (i 1)) := by
  idx_vars i
  refine (kdp1 _ _ _ i0 i1).trans (Eq.trans ?_ (rdp1 _ _ _ (row t i0) i1).symm)
  have h0 := read_0 m c t i0 i1
  have h1 := read_1 m c t i0 ⟨1024 + i1.val, by omega⟩
  have h5 := read_5 m c t ⟨1024 + i1.val, by omega⟩
  dsimp only at h0 h1 h5
  rw [h0, h1, h5, mul_comm]

/-- A block of branch 2's gradient is the reference's rows. -/
theorem point_8 (c : Dev nD) (t : Fin cfg0.N) (i : S256x1024.Idx) :
    k0_pay4 (k0_pay17 (iblk m c 0 t) (iblk m c 1 t) (iblk m c 5 t)) i
      = val_main_v31 (F := Ideal) (m ((c : Thread nD τ).loc main_arg0)) (m ((c : Thread nD τ).loc main_arg4))
        (m ((c : Thread nD τ).loc main_arg5)) (ix2 (row t (i 0)) (i 1)) := by
  idx_vars i
  refine (kdp2 _ _ _ i0 i1).trans (Eq.trans ?_ (rdp2 _ _ _ (row t i0) i1).symm)
  have h0 := read_0 m c t i0 i1
  have h1 := read_1 m c t i0 ⟨2048 + i1.val, by omega⟩
  have h5 := read_5 m c t ⟨2048 + i1.val, by omega⟩
  dsimp only at h0 h1 h5
  rw [h0, h1, h5, mul_comm]

/-- A block of the gates' gradient is the reference's rows. -/
theorem point (c : Dev nD) (t : Fin cfg0.N) (r : Fin 256) (l : Fin 3072) :
    k0_pay1 (k0_pay12 (iblk m c 0 t) (iblk m c 1 t) (iblk m c 2 t) (iblk m c 5 t))
      (k0_pay15 (iblk m c 0 t) (iblk m c 1 t) (iblk m c 3 t) (iblk m c 5 t))
      (k0_pay18 (iblk m c 0 t) (iblk m c 1 t) (iblk m c 4 t) (iblk m c 5 t))
      (k0_pay19 (iblk m c 1 t) (iblk m c 5 t)) (ix2 r l)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) l) := by
  rw [kdgp, rdgp]
  have h0 := read_0 m c t r ⟨l.val % 1024, by omega⟩
  have h1 := read_1 m c t r l
  have h2 := read_2 m c t r ⟨l.val % 1024, by omega⟩
  have h3 := read_3 m c t r ⟨l.val % 1024, by omega⟩
  have h4 := read_4 m c t r ⟨l.val % 1024, by omega⟩
  have h5 := read_5 m c t l
  dsimp only at h0 h1 h2 h3 h4 h5
  rw [h0, h1, h2, h3, h4, h5]

theorem point_9 (c : Dev nD) (t : Fin cfg0.N) (i : S256x3072.Idx) :
    k0_pay5 (k0_pay12 (iblk m c 0 t) (iblk m c 1 t) (iblk m c 2 t) (iblk m c 5 t))
      (k0_pay15 (iblk m c 0 t) (iblk m c 1 t) (iblk m c 3 t) (iblk m c 5 t))
      (k0_pay18 (iblk m c 0 t) (iblk m c 1 t) (iblk m c 4 t) (iblk m c 5 t))
      (k0_pay19 (iblk m c 1 t) (iblk m c 5 t)) i
      = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t (i 0)) (i 1)) := by
  idx_vars i
  pointwise [k0_pay5, val_main_v51]
  exact point m c t _ _

end Cert.Merge

end
-- ==== Proof.MergeFinal.lean ====
/- The merge gate's gradient: the arrays after the run are the reference's. -/
module

public import proofs.«01_k».proof.Proof.Merge
public import Idealize.ShloMosaic.Lib.Pipeline.ValueKit
public import Idealize.ShloMosaic.Lib.Pointwise

@[expose] public section

set_option maxRecDepth 16384

noncomputable section

namespace Cert.Merge

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ)

theorem final_6 (c : Dev nD) : (dats m 0 c).arrAt 6 cfg0.N
    = val_main_v42 (F := Ideal) (m ((c : Thread nD τ).loc main_arg0)) (m ((c : Thread nD τ).loc main_arg4))
        (m ((c : Thread nD τ).loc main_arg5)) := by
  refine (dats m 0 c).arrAt_eq_of_covers 6 _ (by decide +kernel) fun t hf y => ?_
  blk_simp
  rw [after0_6]
  by_cases h : t.val % 16 = 0
  · rw [outsAt0_A m c t h]; frame_out; rw [point_6]; unfold row; blk_ext [idx t]
  · rw [outsAt0_B m c t h]; frame_out; rw [point_6]; unfold row; blk_ext [idx t]

theorem final_7 (c : Dev nD) : (dats m 0 c).arrAt 7 cfg0.N
    = val_main_v36 (F := Ideal) (m ((c : Thread nD τ).loc main_arg0)) (m ((c : Thread nD τ).loc main_arg4))
        (m ((c : Thread nD τ).loc main_arg5)) := by
  refine (dats m 0 c).arrAt_eq_of_covers 7 _ (by decide +kernel) fun t hf y => ?_
  blk_simp
  rw [after0_7]
  by_cases h : t.val % 16 = 0
  · rw [outsAt0_A m c t h]; frame_out; rw [point_7]; unfold row; blk_ext [idx t]
  · rw [outsAt0_B m c t h]; frame_out; rw [point_7]; unfold row; blk_ext [idx t]

theorem final_8 (c : Dev nD) : (dats m 0 c).arrAt 8 cfg0.N
    = val_main_v31 (F := Ideal) (m ((c : Thread nD τ).loc main_arg0)) (m ((c : Thread nD τ).loc main_arg4))
        (m ((c : Thread nD τ).loc main_arg5)) := by
  refine (dats m 0 c).arrAt_eq_of_covers 8 _ (by decide +kernel) fun t hf y => ?_
  blk_simp
  rw [after0_8]
  by_cases h : t.val % 16 = 0
  · rw [outsAt0_A m c t h]; frame_out; rw [point_8]; unfold row; blk_ext [idx t]
  · rw [outsAt0_B m c t h]; frame_out; rw [point_8]; unfold row; blk_ext [idx t]

theorem final_9 (c : Dev nD) : (dats m 0 c).arrAt 9 cfg0.N
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  by_cases h : t.val % 16 = 0
  · rw [outsAt0_A m c t h]; frame_out; rw [point_9]; unfold row; blk_ext [idx t]
  · rw [outsAt0_B m c t h]; frame_out; rw [point_9]; unfold row; blk_ext [idx t]

theorem final_10 (c : Dev nD) : (dats m 0 c).arrAt 10 cfg0.N
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) _
    (fun t h j => by rw [outsAt0_A m c t h]; frame_out; rw [kdb, kzero])
    (fun t h j => by rw [outsAt0_B m c t h]; frame_out; rw [kdb])
    (le_of_eq N_0) t0_15 rfl j, zero_add, rdb]
  refine Fin.sum_mul_add_congr fun t r hl => ?_
  refine (point m c t r _).trans ?_
  rfl

end Cert.Merge
end
-- ==== Proof.MergeClaim.lean ====
/- The claims about the merge gate's gradient. -/
module

public import proofs.«01_k».proof.Defs
public import proofs.«01_k».proof.Proof.Gen.Kernel.Frame
public import proofs.«01_k».proof.Proof.Gen.ReferenceIdeal.Run
public import proofs.«01_k».proof.Proof.MergeFinal
public import Idealize.ShloMosaic.Lib.Claim

@[expose] public section

set_option maxRecDepth 16384

noncomputable section

namespace Cert.Merge

open Idealize.ShloMosaic Idealize.ShloMosaic.TcCoe Idealize.SL.Sem

theorem frame_reference : Cert.quiescent_ReferenceIdeal := by
  intro m g _
  refine θ_run_mono (Cert.ReferenceIdeal.Value.run m g) fun r h => ⟨?_, sem_eq_zero_of_no_sems (by decide) r.2⟩
  intro c
  exact (h c).2.2.2.2.2

/-- The call's five results are the reference's. -/
theorem algebraic : Cert.algebraic_KernelIdeal_ReferenceIdeal := by
  pair_intro
  · run_from Cert.KernelIdeal.Value.run_blocks m g
  · run_from Cert.ReferenceIdeal.Value.run m' g'
    · exact (final_9 m c).symm
    · exact (final_6 m c).symm
    · exact (final_7 m c).symm
    · exact (final_8 m c).symm
    · exact (final_10 m c).symm

end Cert.Merge

end
-- ==== Proof.Softmax.lean ====
/- Softmax over a row of real numbers, its derivative in the reference's form and in the kernel's form. -/
module

public import Idealize.ShloMosaic.PureOps.Ideal
public import Idealize.ShloMosaic.Lib.Pointwise

@[expose] public section

noncomputable section

namespace Cert.Softmax

open Idealize.ShloMosaic

/-! ### Real numbers among the extended ones -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

variable {n : ℕ} [NeZero n]

/-- The largest number of a row. -/
def top (s : Fin n → ℝ) : ℝ := Finset.univ.sup' ⟨0, Finset.mem_univ _⟩ s

theorem fold_max (s : Fin n → ℝ) : Finset.univ.fold max (⊥ : EReal) (fun j => ((s j : ℝ) : EReal)) = ((top s : ℝ) : EReal) := by
  apply le_antisymm
  · rw [Finset.fold_max_le]
    exact ⟨bot_le, fun j hj => EReal.coe_le_coe_iff.mpr (Finset.le_sup' s hj)⟩
  · obtain ⟨j, hj, e⟩ := Finset.exists_mem_eq_sup' ⟨0, Finset.mem_univ _⟩ s
    rw [Finset.le_fold_max]
    exact .inr ⟨j, hj, by rw [← e]; rfl⟩

/-- The exponentials of a row, shifted by its largest number. -/
def ex (s : Fin n → ℝ) (j : Fin n) : ℝ := Real.exp (s j - top s)

def norm (s : Fin n → ℝ) : ℝ := ∑ j, ex s j

theorem norm_pos (s : Fin n → ℝ) : 0 < norm s :=
  Finset.sum_pos (fun j _ => Real.exp_pos _) ⟨0, Finset.mem_univ _⟩

/-- The softmax of a row. -/
def prob (s : Fin n → ℝ) (j : Fin n) : ℝ := ex s j / norm s

/-- The log-sum of a row, as the forward call saves it. -/
def lse (s : Fin n → ℝ) : ℝ := top s + Real.log (norm s)

theorem exp_sub_lse (s : Fin n → ℝ) (j : Fin n) : Real.exp (s j - lse s) = prob s j := by
  unfold lse prob ex
  rw [show s j - (top s + Real.log (norm s)) = (s j - top s) - Real.log (norm s) by ring, Real.exp_sub, Real.exp_log (norm_pos s)]

theorem div_sum_ex (x : ℝ) (s : Fin n → ℝ) :
    Ideal.div (x : EReal) ((∑ j, ex s j : ℝ) : EReal) = ((x / norm s : ℝ) : EReal) := div_coe (norm_pos s).ne'

theorem log_sum_ex (s : Fin n → ℝ) : Ideal.log ((∑ j, ex s j : ℝ) : EReal) = ((Real.log (norm s) : ℝ) : EReal) := by
  exact (Ideal.log_coe _).trans (if_neg (not_le.mpr (norm_pos s)))

/-- A product with the softmax, divided once at the end. -/
theorem sum_prob (s v : Fin n → ℝ) : (∑ j, ex s j * v j) / norm s = ∑ j, prob s j * v j := by
  rw [Finset.sum_div]
  exact Finset.sum_congr rfl fun j _ => by unfold prob; ring

/-- The cotangent of a row of scores from the cotangent `d` of its softmax. -/
def grad (s d : Fin n → ℝ) (j : Fin n) : ℝ := prob s j * (d j - ∑ i, prob s i * d i)

/-- It in the form that the derivative of the quotient gives. -/
theorem grad_quotient (s d : Fin n → ℝ) (j : Fin n) :
    (d j / norm s + -∑ i, d i * (1 / (norm s * norm s)) * ex s i) * ex s j = grad s d j := by
  have h := (norm_pos s).ne'
  have e : ∑ i, d i * (1 / (norm s * norm s)) * ex s i = (∑ i, prob s i * d i) / norm s := by
    rw [Finset.sum_div]
    exact Finset.sum_congr rfl fun i _ => by unfold prob; field_simp
  rw [e]
  unfold grad prob
  field_simp
  ring

end Cert.Softmax

end
-- ==== Proof.AttnBlock.lean ====
/- The attention's two calls, one block: a pair of heads lies in 128 columns, `64 b + d` being column `d` of head `b` of the
   pair; a head is picked by a mask of its half of the columns. Every entry is a real number. -/
module

public import proofs.«01_k».proof.Proof.Gen.AttnIdeal.Skeleton
public import proofs.«01_k».proof.Proof.Softmax
public import Idealize.ShloMosaic.Lib.Pipeline.ValueKit
public import Idealize.ShloMosaic.Lib.Pointwise

@[expose] public section

set_option maxRecDepth 16384

noncomputable section

namespace Cert.Attention

open Cert.AttnIdeal Cert.AttnIdeal.Gen
open Idealize.ShloMosaic Idealize.ShloMosaic.TcCoe Idealize.SL.Sem

/-! ### The masks -/

theorem low (l : Fin 128) : IntOp.cmpi CmpIPredicate.slt (BitVec.ofNat 32 l.val) 64#32 = if l.val / 64 = 0 then 1#1 else 0#1 := by
  revert l; decide +kernel

theorem high (l : Fin 128) :
    IntOp.xori (IntOp.cmpi CmpIPredicate.slt (BitVec.ofNat 32 l.val) 64#32) 1#1 = if l.val / 64 = 1 then 1#1 else 0#1 := by
  revert l; decide +kernel

theorem select_ite {α : Type} (p : Prop) [Decidable p] (a b : α) : Scalar.select (if p then 1#1 else 0#1) a b = if p then a else b := by
  by_cases h : p <;> simp [h, Scalar.select]

theorem ite_coe (p : Prop) [Decidable p] (a b : ℝ) : (if p then ((a : ℝ) : EReal) else ((b : ℝ) : EReal)) = ((if p then a else b : ℝ) : EReal) := by
  by_cases h : p <;> simp [h]

theorem ofBits_bot : Ideal.ofBits FTy.f32 4286578688#32 = ⊥ := by simp [Ideal.ofBits, Ideal.ieee]

theorem mask_bot : (Named.named κ "mask" 4048155338#32 : Ideal .f32) = (⊥ : EReal) :=
  IdealRules.named_const.ideal_named_scalar _ _ _ _ rfl

/-- The masked product of two rows: over the half `b` of the columns. -/
def dot (b : ℕ) (x y : Fin 128 → ℝ) : ℝ := ∑ l : Fin 128, if l.val / 64 = b then x l * y l else 0

theorem dot_sum_right (b : ℕ) (x : Fin 128 → ℝ) {n : ℕ} (p : Fin n → ℝ) (y : Fin n → Fin 128 → ℝ) :
    dot b x (fun l => ∑ s, p s * y s l) = ∑ s, p s * dot b x (y s) := by
  unfold dot
  simp only [Finset.mul_sum]
  rw [Finset.sum_comm]
  refine Finset.sum_congr rfl fun l _ => ?_
  by_cases h : l.val / 64 = b
  · simp only [h, if_true, Finset.mul_sum]; exact Finset.sum_congr rfl fun s _ => by ring
  · simp only [h, if_false, mul_zero, Finset.sum_const_zero]

theorem half_cases (l : Fin 128) : l.val / 64 = 0 ∨ l.val / 64 = 1 := by omega

/-- The largest of a row that holds one number on the half `b` and −∞ elsewhere. -/
theorem fold_max_half (b : ℕ) (hb : b < 2) (x : ℝ) :
    Finset.univ.fold max (⊥ : EReal) (fun l : Fin 128 => if l.val / 64 = b then ((x : ℝ) : EReal) else ⊥) = (x : EReal) := by
  apply le_antisymm
  · rw [Finset.fold_max_le]
    exact ⟨bot_le, fun l _ => by by_cases h : l.val / 64 = b <;> simp [h]⟩
  · rw [Finset.le_fold_max]
    refine .inr ⟨⟨64 * b, by omega⟩, Finset.mem_univ _, ?_⟩
    rw [if_pos (by dsimp only; omega)]

section Block

variable (q : Vec Ideal S256x128 .bf16) (k v : Vec Ideal S4096x128 .bf16)
variable {a g : Fin 256 → Fin 128 → ℝ} {kk vv : Fin 4096 → Fin 128 → ℝ}
variable {q k v}

/-! ### The forward call -/

theorem f_scores0 (hq : ∀ r l, q (ix2 r l) = ((a r l : ℝ) : EReal)) (hk : ∀ s l, k (ix2 s l) = ((kk s l : ℝ) : EReal))
    (r : Fin 256) (s : Fin 4096) : k0_pay7 q k (ix2 r s) = ((dot 0 (a r) (kk s) : ℝ) : EReal) := by
  pointwise [k0_pay7, k0_pay6, k0_pay4, k0_pay3]
  simp only [low, select_ite, hq, hk, ← EReal.coe_mul, ← EReal.coe_zero, ite_coe, Softmax.coe_sum, dot]

theorem f_scores1 (hq : ∀ r l, q (ix2 r l) = ((a r l : ℝ) : EReal)) (hk : ∀ s l, k (ix2 s l) = ((kk s l : ℝ) : EReal))
    (r : Fin 256) (s : Fin 4096) : k0_pay13 q k (ix2 r s) = ((dot 1 (a r) (kk s) : ℝ) : EReal) := by
  pointwise [k0_pay13, k0_pay6, k0_pay4, k0_pay3]
  simp only [high, select_ite, hq, hk, ← EReal.coe_mul, ← EReal.coe_zero, ite_coe, Softmax.coe_sum, dot]

theorem f_top0 (hq : ∀ r l, q (ix2 r l) = ((a r l : ℝ) : EReal)) (hk : ∀ s l, k (ix2 s l) = ((kk s l : ℝ) : EReal))
    (r : Fin 256) (z : Fin 1) : k0_pay8 q k (ix2 r z) = ((Softmax.top fun s => dot 0 (a r) (kk s) : ℝ) : EReal) := by
  pointwise [k0_pay8]
  simp only [f_scores0 hq hk, ofBits_bot, Softmax.fold_max]

theorem f_top1 (hq : ∀ r l, q (ix2 r l) = ((a r l : ℝ) : EReal)) (hk : ∀ s l, k (ix2 s l) = ((kk s l : ℝ) : EReal))
    (r : Fin 256) (z : Fin 1) : k0_pay14 q k (ix2 r z) = ((Softmax.top fun s => dot 1 (a r) (kk s) : ℝ) : EReal) := by
  pointwise [k0_pay14]
  simp only [f_scores1 hq hk, ofBits_bot, Softmax.fold_max]

theorem f_ex0 (hq : ∀ r l, q (ix2 r l) = ((a r l : ℝ) : EReal)) (hk : ∀ s l, k (ix2 s l) = ((kk s l : ℝ) : EReal))
    (r : Fin 256) (s : Fin 4096) : k0_pay9 q k (ix2 r s) = ((Softmax.ex (fun s => dot 0 (a r) (kk s)) s : ℝ) : EReal) := by
  pointwise [k0_pay9]
  rw [f_scores0 hq hk, f_top0 hq hk, ← EReal.coe_sub, Ideal.exp_coe, Softmax.ex]

theorem f_ex1 (hq : ∀ r l, q (ix2 r l) = ((a r l : ℝ) : EReal)) (hk : ∀ s l, k (ix2 s l) = ((kk s l : ℝ) : EReal))
    (r : Fin 256) (s : Fin 4096) : k0_pay15 q k (ix2 r s) = ((Softmax.ex (fun s => dot 1 (a r) (kk s)) s : ℝ) : EReal) := by
  pointwise [k0_pay15]
  rw [f_scores1 hq hk, f_top1 hq hk, ← EReal.coe_sub, Ideal.exp_coe, Softmax.ex]

/-- The rows of the output in one block. -/
theorem f_out (hq : ∀ r l, q (ix2 r l) = ((a r l : ℝ) : EReal)) (hk : ∀ s l, k (ix2 s l) = ((kk s l : ℝ) : EReal))
    (hv : ∀ s l, v (ix2 s l) = ((vv s l : ℝ) : EReal)) (r : Fin 256) (l : Fin 128) :
    k0_pay1 k0_pay6 (k0_pay11 q k v) (k0_pay17 q k v) (ix2 r l)
      = ((∑ s, Softmax.prob (fun s => dot (l.val / 64) (a r) (kk s)) s * vv s l : ℝ) : EReal) := by
  pointwise [k0_pay1, k0_pay6, k0_pay11, k0_pay17, k0_pay5, k0_pay10, k0_pay16]
  simp only [low, select_ite, f_ex0 hq hk, f_ex1 hq hk, hv, ← EReal.coe_mul, Softmax.coe_sum]
  rw [Softmax.div_sum_ex, Softmax.div_sum_ex]
  rcases half_cases l with h | h
  · rw [if_pos h, h]; exact congrArg _ (Softmax.sum_prob _ _)
  · rw [if_neg (by omega), h]; exact congrArg _ (Softmax.sum_prob _ _)

theorem p_lse (v8 : IVec S256x128 1) (v25 v30 v35 : FVec Ideal S256x1 .f32) (r : Fin 256) (l : Fin 128) :
    k0_pay2 v8 v25 v30 v35 (ix2 r l) = Scalar.select (v8 (ix2 r l)) (v25 (ix2 r 0)) (v30 (ix2 r 0) + Ideal.log (v35 (ix2 r 0))) := by
  pointwise [k0_pay2]

theorem addf_log (x y : FVec Ideal S256x1 .f32) (i : S256x1.Idx) : addf x (log y) i = x i + Ideal.log (y i) := by
  pointwise

theorem p_lse0 (r : Fin 256) : k0_pay12 q k (ix2 r 0) = k0_pay8 q k (ix2 r 0) + Ideal.log (k0_pay10 q k (ix2 r 0)) := by
  rw [k0_pay12, addf_log]

/-- The log-sum of a row, repeated over the columns of its head. -/
theorem f_lse (hq : ∀ r l, q (ix2 r l) = ((a r l : ℝ) : EReal)) (hk : ∀ s l, k (ix2 s l) = ((kk s l : ℝ) : EReal))
    (r : Fin 256) (l : Fin 128) :
    k0_pay2 k0_pay6 (k0_pay12 q k) (k0_pay14 q k) (k0_pay16 q k) (ix2 r l)
      = ((Softmax.lse (fun s => dot (l.val / 64) (a r) (kk s)) : ℝ) : EReal) := by
  have e6 : k0_pay6 (ix2 r l) = if l.val / 64 = 0 then 1#1 else 0#1 := by pointwise [k0_pay6]; exact low l
  have e10 : k0_pay10 q k (ix2 r 0) = ((∑ s, Softmax.ex (fun s => dot 0 (a r) (kk s)) s : ℝ) : EReal) := by
    pointwise [k0_pay10]; simp only [f_ex0 hq hk, Softmax.coe_sum]
  have e16 : k0_pay16 q k (ix2 r 0) = ((∑ s, Softmax.ex (fun s => dot 1 (a r) (kk s)) s : ℝ) : EReal) := by
    pointwise [k0_pay16]; simp only [f_ex1 hq hk, Softmax.coe_sum]
  rw [p_lse, p_lse0, e6, select_ite, f_top0 hq hk, f_top1 hq hk, e10, e16]
  rw [Softmax.log_sum_ex, Softmax.log_sum_ex, ← EReal.coe_add, ← EReal.coe_add]
  rcases half_cases l with h | h
  · rw [if_pos h, h, Softmax.lse]
  · rw [if_neg (by omega), h, Softmax.lse]

/-! ### The backward call -/

theorem mask_low (r : Fin 256) (l : Fin 128) : k1_pay12 (ix2 r l) = if l.val / 64 = 0 then 1#1 else 0#1 := by
  pointwise [k1_pay12]; exact low l

theorem mask_high (r : Fin 256) (l : Fin 128) : k1_pay14 (ix2 r l) = if l.val / 64 = 1 then 1#1 else 0#1 := by
  pointwise [k1_pay14, k1_pay12]; exact high l

/-- The stored blocks as sums over the values before them. -/
theorem p_dq (v8 v10 : FVec Ideal S4096x128 .bf16) (v20 : IVec S256x128 1) (v43 : FVec Ideal S256x128 .f32)
    (v60 : FVec Ideal S256x128 .bf16) (v68 : FVec Ideal S256x4096 .f32) (v70 : FVec Ideal S256x128 .f32) (r : Fin 256) (l : Fin 128) :
    k1_pay4 v8 v10 v20 v43 v60 v68 v70 (ix2 r l)
      = Scalar.select (v20 (ix2 r l)) (∑ s : Fin 4096, k1_pay1 v10 v60 v68 v70 (ix2 r s) * v8 (ix2 s l)) (v43 (ix2 r l)) := by
  pointwise [k1_pay4]

theorem p_ds1 (v10 : FVec Ideal S4096x128 .bf16) (v60 : FVec Ideal S256x128 .bf16) (v68 : FVec Ideal S256x4096 .f32)
    (v70 : FVec Ideal S256x128 .f32) (r : Fin 256) (s : Fin 4096) :
    k1_pay1 v10 v60 v68 v70 (ix2 r s)
      = v68 (ix2 r s) * ((∑ l : Fin 128, v60 (ix2 r l) * v10 (ix2 s l)) - ∑ l : Fin 128, v70 (ix2 r l)) := by
  pointwise [k1_pay1]

theorem p_dq0 (v8 v10 : FVec Ideal S4096x128 .bf16) (v15 : FVec Ideal S256x128 .f32) (v18 : IVec S256x128 1)
    (v24 : FVec Ideal S256x128 .bf16) (v32 : FVec Ideal S256x4096 .f32) (r : Fin 256) (l : Fin 128) :
    k1_pay19 v8 v10 v15 v18 k1_pay13 v24 v32 (ix2 r l)
      = Scalar.select (v18 (ix2 r l)) (∑ s : Fin 4096, k1_pay18 v10 v15 v18 v24 v32 (ix2 r s) * v8 (ix2 s l)) 0 := by
  pointwise [k1_pay19, k1_pay13]

theorem p_dk (v10 : FVec Ideal S4096x128 .bf16) (v58 v60 : FVec Ideal S256x128 .bf16) (v68 : FVec Ideal S256x4096 .f32)
    (v70 : FVec Ideal S256x128 .f32) (acc : Vec Ideal S4096x128 .f32) (s : Fin 4096) (l : Fin 128) :
    k1_pay2 v10 v58 v60 v68 v70 acc (ix2 s l)
      = acc (ix2 s l) + ∑ r : Fin 256, k1_pay1 v10 v60 v68 v70 (ix2 r s) * v58 (ix2 r l) := by
  pointwise [k1_pay2]

theorem p_dk0 (v10 : FVec Ideal S4096x128 .bf16) (v15 : FVec Ideal S256x128 .f32) (v18 : IVec S256x128 1)
    (v22 v24 : FVec Ideal S256x128 .bf16) (v32 : FVec Ideal S256x4096 .f32) (acc : Vec Ideal S4096x128 .f32) (s : Fin 4096) (l : Fin 128) :
    k1_pay20 v10 v15 v18 v22 v24 v32 acc (ix2 s l)
      = acc (ix2 s l) + ∑ r : Fin 256, k1_pay18 v10 v15 v18 v24 v32 (ix2 r s) * v22 (ix2 r l) := by
  pointwise [k1_pay20]

theorem p_dv (v60 : FVec Ideal S256x128 .bf16) (v68 : FVec Ideal S256x4096 .f32) (acc : Vec Ideal S4096x128 .f32)
    (s : Fin 4096) (l : Fin 128) :
    k1_pay3 v60 v68 acc (ix2 s l) = acc (ix2 s l) + ∑ r : Fin 256, v68 (ix2 r s) * v60 (ix2 r l) := by
  pointwise [k1_pay3]

theorem p_dv0 (v24 : FVec Ideal S256x128 .bf16) (v32 : FVec Ideal S256x4096 .f32) (acc : Vec Ideal S4096x128 .f32)
    (s : Fin 4096) (l : Fin 128) :
    k1_pay21 v24 v32 acc (ix2 s l) = acc (ix2 s l) + ∑ r : Fin 256, v32 (ix2 r s) * v24 (ix2 r l) := by
  pointwise [k1_pay21]

/-- The probabilities of the lower head, formed again from the scores and the saved log-sum. -/
theorem b_prob0 {L : Vec Ideal S256x128 .f32} (hq : ∀ r l, q (ix2 r l) = ((a r l : ℝ) : EReal))
    (hk : ∀ s l, k (ix2 s l) = ((kk s l : ℝ) : EReal))
    (hL : ∀ r l, L (ix2 r l) = ((Softmax.lse (fun s => dot (l.val / 64) (a r) (kk s)) : ℝ) : EReal)) (r : Fin 256) (s : Fin 4096) :
    k1_pay17 q k L (ix2 r s) = ((Softmax.prob (fun s => dot 0 (a r) (kk s)) s : ℝ) : EReal) := by
  pointwise [k1_pay17, k1_pay15, k1_pay12, k1_pay8, k1_pay7]
  have e (l : Fin 128) : (if l.val / 64 = 0 then L (ix2 r l) else ⊥)
      = if l.val / 64 = 0 then ((Softmax.lse (fun s => dot 0 (a r) (kk s)) : ℝ) : EReal) else ⊥ := by
    by_cases h : l.val / 64 = 0
    · rw [if_pos h, if_pos h, hL, h]
    · rw [if_neg h, if_neg h]
  simp only [low, select_ite, hq, hk, ← EReal.coe_mul, ← EReal.coe_zero, ite_coe, Softmax.coe_sum, mask_bot, ofBits_bot, e,
    fold_max_half 0 (by norm_num)]
  rw [← EReal.coe_sub, Ideal.exp_coe]
  rw [← Softmax.exp_sub_lse]; unfold dot; rfl

theorem b_prob1 {L : Vec Ideal S256x128 .f32} (hq : ∀ r l, q (ix2 r l) = ((a r l : ℝ) : EReal))
    (hk : ∀ s l, k (ix2 s l) = ((kk s l : ℝ) : EReal))
    (hL : ∀ r l, L (ix2 r l) = ((Softmax.lse (fun s => dot (l.val / 64) (a r) (kk s)) : ℝ) : EReal)) (r : Fin 256) (s : Fin 4096) :
    k1_pay24 (k1_pay7 q) (k1_pay8 k) L k1_pay14 (ix2 r s) = ((Softmax.prob (fun s => dot 1 (a r) (kk s)) s : ℝ) : EReal) := by
  pointwise [k1_pay24, k1_pay22, k1_pay14, k1_pay12, k1_pay8, k1_pay7]
  have e (l : Fin 128) : (if l.val / 64 = 1 then L (ix2 r l) else ⊥)
      = if l.val / 64 = 1 then ((Softmax.lse (fun s => dot 1 (a r) (kk s)) : ℝ) : EReal) else ⊥ := by
    by_cases h : l.val / 64 = 1
    · rw [if_pos h, if_pos h, hL, h]
    · rw [if_neg h, if_neg h]
  simp only [high, select_ite, hq, hk, ← EReal.coe_mul, ← EReal.coe_zero, ite_coe, Softmax.coe_sum, mask_bot, ofBits_bot, e,
    fold_max_half 1 (by norm_num)]
  rw [← EReal.coe_sub, Ideal.exp_coe]
  rw [← Softmax.exp_sub_lse]; unfold dot; rfl

/-- The row sum of `do · o` is the mean of the cotangent of the softmax. -/
theorem delta (b : ℕ) (r : Fin 256) :
    dot b (g r) (fun l => ∑ s, Softmax.prob (fun s => dot (l.val / 64) (a r) (kk s)) s * vv s l)
      = ∑ s, Softmax.prob (fun s => dot b (a r) (kk s)) s * dot b (g r) (vv s) := by
  rw [← dot_sum_right]
  unfold dot
  refine Finset.sum_congr rfl fun l _ => ?_
  by_cases h : l.val / 64 = b
  · simp only [h, if_true]
  · simp only [h, if_false]

/-- The cotangent of the scores of head `b` in one block. -/
def ds (b : ℕ) (x y : Fin 128 → ℝ) (kk vv : Fin 4096 → Fin 128 → ℝ) : Fin 4096 → ℝ :=
  Softmax.grad (fun s => dot b x (kk s)) (fun s => dot b y (vv s))

theorem ds_eq (b : ℕ) (r : Fin 256) (s : Fin 4096) :
    ds b (a r) (g r) kk vv s = Softmax.prob (fun s => dot b (a r) (kk s)) s * (dot b (g r) (vv s)
      - dot b (g r) (fun l => ∑ s, Softmax.prob (fun s => dot (l.val / 64) (a r) (kk s)) s * vv s l)) := by
  rw [delta]; rfl

variable {q' o L : Vec Ideal S256x128 .f32}

theorem b_ds0 (hq : ∀ r l, q (ix2 r l) = ((a r l : ℝ) : EReal)) (hk : ∀ s l, k (ix2 s l) = ((kk s l : ℝ) : EReal))
    (hv : ∀ s l, v (ix2 s l) = ((vv s l : ℝ) : EReal))
    (ho : ∀ r l, o (ix2 r l) = ((∑ s, Softmax.prob (fun s => dot (l.val / 64) (a r) (kk s)) s * vv s l : ℝ) : EReal))
    (hL : ∀ r l, L (ix2 r l) = ((Softmax.lse (fun s => dot (l.val / 64) (a r) (kk s)) : ℝ) : EReal))
    (hg : ∀ r l, q' (ix2 r l) = ((g r l : ℝ) : EReal)) (r : Fin 256) (s : Fin 4096) :
    k1_pay18 (k1_pay9 v) (k1_pay11 q' o) k1_pay12 (k1_pay16 q') (k1_pay17 q k L) (ix2 r s)
      = ((ds 0 (a r) (g r) kk vv s : ℝ) : EReal) := by
  pointwise [k1_pay18, k1_pay9, k1_pay11, k1_pay12, k1_pay16, k1_pay10]
  simp only [low, select_ite, b_prob0 hq hk hL, hv, ho, hg, ← EReal.coe_mul, ← EReal.coe_zero, ite_coe, Softmax.coe_sum,
    ← EReal.coe_sub]
  rw [ds_eq]
  simp only [dot, ite_mul, zero_mul]

theorem b_ds1 (hq : ∀ r l, q (ix2 r l) = ((a r l : ℝ) : EReal)) (hk : ∀ s l, k (ix2 s l) = ((kk s l : ℝ) : EReal))
    (hv : ∀ s l, v (ix2 s l) = ((vv s l : ℝ) : EReal))
    (ho : ∀ r l, o (ix2 r l) = ((∑ s, Softmax.prob (fun s => dot (l.val / 64) (a r) (kk s)) s * vv s l : ℝ) : EReal))
    (hL : ∀ r l, L (ix2 r l) = ((Softmax.lse (fun s => dot (l.val / 64) (a r) (kk s)) : ℝ) : EReal))
    (hg : ∀ r l, q' (ix2 r l) = ((g r l : ℝ) : EReal)) (r : Fin 256) (s : Fin 4096) :
    k1_pay1 (k1_pay9 v) (k1_pay23 (k1_pay10 q') k1_pay14) (k1_pay24 (k1_pay7 q) (k1_pay8 k) L k1_pay14)
      (k1_pay25 (k1_pay11 q' o) k1_pay14) (ix2 r s)
      = ((ds 1 (a r) (g r) kk vv s : ℝ) : EReal) := by
  rw [p_ds1]
  have e1 (l : Fin 128) : k1_pay23 (k1_pay10 q') k1_pay14 (ix2 r l) = (((if l.val / 64 = 1 then g r l else 0 : ℝ) : ℝ) : EReal) := by
    pointwise [k1_pay23, k1_pay14, k1_pay12, k1_pay10]
    simp only [high, select_ite, hg, ← EReal.coe_zero, ite_coe]
  have e2 (l : Fin 128) : k1_pay9 v (ix2 s l) = ((vv s l : ℝ) : EReal) := by pointwise [k1_pay9]; exact hv s l
  have e3 (l : Fin 128) : k1_pay25 (k1_pay11 q' o) k1_pay14 (ix2 r l) = (((if l.val / 64 = 1 then g r l * (∑ s, Softmax.prob (fun s => dot (l.val / 64) (a r) (kk s)) s * vv s l) else 0 : ℝ) : ℝ) : EReal) := by
    pointwise [k1_pay25, k1_pay11, k1_pay14, k1_pay12]
    simp only [high, select_ite, hg, ho, ← EReal.coe_mul, ← EReal.coe_zero, ite_coe]
  simp only [e1, e2, e3, select_ite, b_prob1 hq hk hL, hv, ho, hg, ← EReal.coe_mul, ← EReal.coe_zero, ite_coe, Softmax.coe_sum,
    ← EReal.coe_sub]
  rw [ds_eq]
  simp only [dot, ite_mul, zero_mul]

/-- The gradient of q in one block. -/
theorem b_dq (hq : ∀ r l, q (ix2 r l) = ((a r l : ℝ) : EReal)) (hk : ∀ s l, k (ix2 s l) = ((kk s l : ℝ) : EReal))
    (hv : ∀ s l, v (ix2 s l) = ((vv s l : ℝ) : EReal))
    (ho : ∀ r l, o (ix2 r l) = ((∑ s, Softmax.prob (fun s => dot (l.val / 64) (a r) (kk s)) s * vv s l : ℝ) : EReal))
    (hL : ∀ r l, L (ix2 r l) = ((Softmax.lse (fun s => dot (l.val / 64) (a r) (kk s)) : ℝ) : EReal))
    (hg : ∀ r l, q' (ix2 r l) = ((g r l : ℝ) : EReal)) (r : Fin 256) (l : Fin 128) :
    k1_pay4 (k1_pay8 k) (k1_pay9 v) k1_pay14
      (k1_pay19 (k1_pay8 k) (k1_pay9 v) (k1_pay11 q' o) k1_pay12 k1_pay13 (k1_pay16 q') (k1_pay17 q k L))
      (k1_pay23 (k1_pay10 q') k1_pay14) (k1_pay24 (k1_pay7 q) (k1_pay8 k) L k1_pay14)
      (k1_pay25 (k1_pay11 q' o) k1_pay14) (ix2 r l)
      = ((∑ s, ds (l.val / 64) (a r) (g r) kk vv s * kk s l : ℝ) : EReal) := by
  have h0 := b_ds0 hq hk hv ho hL hg
  have h1 := b_ds1 hq hk hv ho hL hg
  rw [p_dq, p_dq0, mask_low, mask_high]
  have e8 (s : Fin 4096) : k1_pay8 k (ix2 s l) = ((kk s l : ℝ) : EReal) := by pointwise [k1_pay8]; exact hk s l
  simp only [select_ite, h0, h1, e8, ← EReal.coe_mul, Softmax.coe_sum]
  rcases half_cases l with h | h
  · rw [if_neg (by omega), if_pos h, h]
  · rw [if_pos h, h]

/-- What one block adds to the gradient of the pair's k. -/
theorem b_dk (hq : ∀ r l, q (ix2 r l) = ((a r l : ℝ) : EReal)) (hk : ∀ s l, k (ix2 s l) = ((kk s l : ℝ) : EReal))
    (hv : ∀ s l, v (ix2 s l) = ((vv s l : ℝ) : EReal))
    (ho : ∀ r l, o (ix2 r l) = ((∑ s, Softmax.prob (fun s => dot (l.val / 64) (a r) (kk s)) s * vv s l : ℝ) : EReal))
    (hL : ∀ r l, L (ix2 r l) = ((Softmax.lse (fun s => dot (l.val / 64) (a r) (kk s)) : ℝ) : EReal))
    (hg : ∀ r l, q' (ix2 r l) = ((g r l : ℝ) : EReal)) (acc : Vec Ideal S4096x128 .f32) (s : Fin 4096) (l : Fin 128) :
    k1_pay2 (k1_pay9 v) (k1_pay22 (k1_pay7 q) k1_pay14)
      (k1_pay23 (k1_pay10 q') k1_pay14) (k1_pay24 (k1_pay7 q) (k1_pay8 k) L k1_pay14)
      (k1_pay25 (k1_pay11 q' o) k1_pay14)
      (k1_pay20 (k1_pay9 v) (k1_pay11 q' o) k1_pay12 (k1_pay15 q) (k1_pay16 q') (k1_pay17 q k L) acc) (ix2 s l)
      = acc (ix2 s l) + ((∑ r, ds (l.val / 64) (a r) (g r) kk vv s * a r l : ℝ) : EReal) := by
  have h0 := b_ds0 hq hk hv ho hL hg
  have h1 := b_ds1 hq hk hv ho hL hg
  have e0 (r : Fin 256) : k1_pay15 q (ix2 r l) = (((if l.val / 64 = 0 then a r l else 0 : ℝ) : ℝ) : EReal) := by
    pointwise [k1_pay15, k1_pay12, k1_pay7]
    simp only [low, select_ite, hq, ← EReal.coe_zero, ite_coe]
  have e1 (r : Fin 256) : k1_pay22 (k1_pay7 q) k1_pay14 (ix2 r l) = (((if l.val / 64 = 1 then a r l else 0 : ℝ) : ℝ) : EReal) := by
    pointwise [k1_pay22, k1_pay14, k1_pay12, k1_pay7]
    simp only [high, select_ite, hq, ← EReal.coe_zero, ite_coe]
  rw [p_dk, p_dk0]
  simp only [h0, h1, e0, e1, ← EReal.coe_mul, Softmax.coe_sum]
  rw [add_assoc, ← EReal.coe_add]
  rcases half_cases l with h | h <;> simp [h]

/-- What one block adds to the gradient of the pair's v. -/
theorem b_dv (hq : ∀ r l, q (ix2 r l) = ((a r l : ℝ) : EReal)) (hk : ∀ s l, k (ix2 s l) = ((kk s l : ℝ) : EReal))
    (hL : ∀ r l, L (ix2 r l) = ((Softmax.lse (fun s => dot (l.val / 64) (a r) (kk s)) : ℝ) : EReal))
    (hg : ∀ r l, q' (ix2 r l) = ((g r l : ℝ) : EReal)) (acc : Vec Ideal S4096x128 .f32) (s : Fin 4096) (l : Fin 128) :
    k1_pay3 (k1_pay23 (k1_pay10 q') k1_pay14) (k1_pay24 (k1_pay7 q) (k1_pay8 k) L k1_pay14)
      (k1_pay21 (k1_pay16 q') (k1_pay17 q k L) acc) (ix2 s l)
      = acc (ix2 s l) + ((∑ r, Softmax.prob (fun s => dot (l.val / 64) (a r) (kk s)) s * g r l : ℝ) : EReal) := by
  have h0 := b_prob0 hq hk hL
  have h1 := b_prob1 hq hk hL
  have e0 (r : Fin 256) : k1_pay16 q' (ix2 r l) = (((if l.val / 64 = 0 then g r l else 0 : ℝ) : ℝ) : EReal) := by
    pointwise [k1_pay16, k1_pay12, k1_pay10]
    simp only [low, select_ite, hg, ← EReal.coe_zero, ite_coe]
  have e1 (r : Fin 256) : k1_pay23 (k1_pay10 q') k1_pay14 (ix2 r l) = (((if l.val / 64 = 1 then g r l else 0 : ℝ) : ℝ) : EReal) := by
    pointwise [k1_pay23, k1_pay14, k1_pay12, k1_pay10]
    simp only [high, select_ite, hg, ← EReal.coe_zero, ite_coe]
  rw [p_dv, p_dv0]
  simp only [h0, h1, e0, e1, ← EReal.coe_mul, Softmax.coe_sum]
  rw [add_assoc, ← EReal.coe_add]
  rcases half_cases l with h | h <;> simp [h]

theorem b_zero7 (j : S4096x128.Idx) : k1_pay5 (F := Ideal) j = 0 := by pointwise! [k1_pay5]

theorem b_zero8 (j : S4096x128.Idx) : k1_pay6 (F := Ideal) j = 0 := by pointwise! [k1_pay6]

end Block

end Cert.Attention

end
-- ==== Proof.AttnArr.lean ====
/- What the arrays of the attention's two calls hold after the run. -/
module

public import proofs.«01_k».proof.Proof.Gen.AttnIdeal.Frame
public import proofs.«01_k».proof.Proof.AttnBlock
public import Idealize.ShloMosaic.Lib.Pipeline.ValueKit
public import Idealize.ShloMosaic.Lib.Pointwise

@[expose] public section

set_option maxRecDepth 16384

noncomputable section

namespace Cert.Attention

open Cert.AttnIdeal Cert.AttnIdeal.Gen
open Idealize.ShloMosaic Idealize.ShloMosaic.TcCoe Idealize.SL.Sem

variable (m : (ℓ : Loc nD τ sig) → Buf (Elt Ideal) ℓ) (ρ : Dev nD → PrngReg)

theorem idx0 : ∀ t : Fin cfg0.N, win0_0.index t = ![t.val % 16, t.val / 16] ∧ win0_1.index t = ![0, t.val / 32]
    ∧ win0_2.index t = ![0, t.val / 32] ∧ win0_3.index t = ![t.val % 16, t.val / 16] ∧ win0_4.index t = ![t.val % 16, t.val / 16] :=
  (by decide +kernel : ∀ t : Fin grid0.N, _)

theorem idx1 : ∀ t : Fin cfg1.N, win1_0.index t = ![t.val % 16, t.val / 16] ∧ win1_1.index t = ![0, t.val / 32]
    ∧ win1_2.index t = ![0, t.val / 32] ∧ win1_3.index t = ![t.val % 16, t.val / 16] ∧ win1_4.index t = ![t.val % 16, t.val / 16]
    ∧ win1_5.index t = ![t.val % 16, t.val / 16] ∧ win1_6.index t = ![t.val % 16, t.val / 16]
    ∧ win1_7.index t = ![0, t.val / 32] ∧ win1_8.index t = ![0, t.val / 32] :=
  (by decide +kernel : ∀ t : Fin grid1.N, _)

theorem host_q (c : Dev nD) (n : Fin 4096) (l : Fin 512) :
    (show FVec Ideal S4096x512 .bf16 from V1 m ρ c main_v0) (ix2 n l)
      = (show FVec Ideal S4096x512 .f32 from m ((c : Thread nD τ).loc main_arg0)) (ix2 n l) := by
  blk_point [V1, W1, W0]

theorem host_k (c : Dev nD) (n : Fin 4096) (l : Fin 256) :
    (show FVec Ideal S4096x256 .bf16 from V1 m ρ c main_v4) (ix2 n l)
      = (show FVec Ideal S4096x128 .f32 from m ((c : Thread nD τ).loc main_arg1)) (ix2 n ⟨64 * (l.val / 128) + l.val % 64, by omega⟩) := by
  unfold V1 W1 hostOps0
  after_results
  pointwise
  simp only [Nat.mul_comm]
  split_ifs <;> rfl

theorem host_v (c : Dev nD) (n : Fin 4096) (l : Fin 256) :
    (show FVec Ideal S4096x256 .bf16 from V1 m ρ c main_v8) (ix2 n l)
      = (show FVec Ideal S4096x128 .f32 from m ((c : Thread nD τ).loc main_arg2)) (ix2 n ⟨64 * (l.val / 128) + l.val % 64, by omega⟩) := by
  unfold V1 W1 hostOps0
  after_results
  pointwise
  simp only [Nat.mul_comm]
  split_ifs <;> rfl

/-- The row of the array that a step's row is. -/
def row (t : ℕ) (r : Fin 256) : Fin 4096 := ⟨t % 16 * 256 + r.val, by omega⟩
/-- The pair of heads of a step. -/
def pair (t : ℕ) (h : t < 64) : Fin 4 := ⟨t / 16, by omega⟩
/-- A pair's columns of q. -/
def pcol (p : Fin 4) (l : Fin 128) : Fin 512 := ⟨128 * p.val + l.val, by omega⟩
/-- A pair's columns of k, once for each of its two heads. -/
def gcol (p : Fin 4) (l : Fin 128) : Fin 128 := ⟨64 * (p.val / 2) + l.val % 64, by omega⟩
/-- The same columns of the array that holds each group's columns twice. -/
def dcol (p : Fin 4) (l : Fin 128) : Fin 256 := ⟨128 * (p.val / 2) + l.val, by omega⟩

/-- Row `n` of q in a pair's columns. -/
def qrow (q : Fin 4096 → Fin 512 → ℝ) (p : Fin 4) (n : Fin 4096) : Fin 128 → ℝ := fun l => q n (pcol p l)
/-- Row `s` of k in a pair's columns. -/
def krow (k : Fin 4096 → Fin 128 → ℝ) (p : Fin 4) (s : Fin 4096) : Fin 128 → ℝ := fun l => k s (gcol p l)

theorem read0_0 (c : Dev nD) (t : Fin cfg0.N) (r : Fin 256) (l : Fin 128) :
    (show FVec Ideal S256x128 .bf16 from iblk0 (V1 m ρ) c 0 t) (ix2 r l)
      = (show FVec Ideal S4096x512 .bf16 from V1 m ρ c main_v0) (ix2 (row t r) (pcol (pair t.val t.isLt) l)) := by
  unfold row pcol pair
  blk_ext [iblk0, idx0 t]

theorem read0_1 (c : Dev nD) (t : Fin cfg0.N) (r : Fin 4096) (l : Fin 128) :
    (show FVec Ideal S4096x128 .bf16 from iblk0 (V1 m ρ) c 1 t) (ix2 r l)
      = (show FVec Ideal S4096x256 .bf16 from V1 m ρ c main_v4) (ix2 r (dcol (pair t.val t.isLt) l)) := by
  unfold dcol pair
  blk_ext [iblk0, idx0 t]

theorem read0_2 (c : Dev nD) (t : Fin cfg0.N) (r : Fin 4096) (l : Fin 128) :
    (show FVec Ideal S4096x128 .bf16 from iblk0 (V1 m ρ) c 2 t) (ix2 r l)
      = (show FVec Ideal S4096x256 .bf16 from V1 m ρ c main_v8) (ix2 r (dcol (pair t.val t.isLt) l)) := by
  unfold dcol pair
  blk_ext [iblk0, idx0 t]

theorem gcol_eq (p : Fin 4) (l : Fin 128) :
    (⟨64 * ((dcol p l).val / 128) + (dcol p l).val % 64, by omega⟩ : Fin 128) = gcol p l :=
  Fin.ext (by unfold dcol gcol; dsimp only; omega)

variable {c : Dev nD} {q g : Fin 4096 → Fin 512 → ℝ} {k v : Fin 4096 → Fin 128 → ℝ}

section
variable (hq : ∀ n l, (show FVec Ideal S4096x512 .f32 from m ((c : Thread nD τ).loc main_arg0)) (ix2 n l) = ((q n l : ℝ) : EReal))
  (hk : ∀ n l, (show FVec Ideal S4096x128 .f32 from m ((c : Thread nD τ).loc main_arg1)) (ix2 n l) = ((k n l : ℝ) : EReal))
  (hv : ∀ n l, (show FVec Ideal S4096x128 .f32 from m ((c : Thread nD τ).loc main_arg2)) (ix2 n l) = ((v n l : ℝ) : EReal))
include hq in
theorem blk0_q (t : Fin cfg0.N) (r : Fin 256) (l : Fin 128) :
    (show FVec Ideal S256x128 .bf16 from iblk0 (V1 m ρ) c 0 t) (ix2 r l)
      = ((qrow q (pair t.val t.isLt) (row t r) l : ℝ) : EReal) := by
  rw [read0_0, host_q, hq]; rfl
include hk in
theorem blk0_k (t : Fin cfg0.N) (s : Fin 4096) (l : Fin 128) :
    (show FVec Ideal S4096x128 .bf16 from iblk0 (V1 m ρ) c 1 t) (ix2 s l)
      = ((krow k (pair t.val t.isLt) s l : ℝ) : EReal) := by
  rw [read0_1, host_k, gcol_eq, hk]; rfl
include hv in
theorem blk0_v (t : Fin cfg0.N) (s : Fin 4096) (l : Fin 128) :
    (show FVec Ideal S4096x128 .bf16 from iblk0 (V1 m ρ) c 2 t) (ix2 s l)
      = ((krow v (pair t.val t.isLt) s l : ℝ) : EReal) := by
  rw [read0_2, host_v, gcol_eq, hv]; rfl
end

/-- The pair, and the lane in the pair, of a column of q. -/
def cpair (i : Fin 512) : Fin 4 := ⟨i.val / 128, by omega⟩
def clane (i : Fin 512) : Fin 128 := ⟨i.val % 128, by omega⟩

/-- The scores of row `n` in half `b` of a pair. -/
def score (q : Fin 4096 → Fin 512 → ℝ) (k : Fin 4096 → Fin 128 → ℝ) (p : Fin 4) (b : ℕ) (n : Fin 4096) : Fin 4096 → ℝ :=
  fun s => dot b (qrow q p n) (krow k p s)

/-- The attention's output. -/
def outv (q : Fin 4096 → Fin 512 → ℝ) (k v : Fin 4096 → Fin 128 → ℝ) (p : Fin 4) (n : Fin 4096) (l : Fin 128) : ℝ :=
  ∑ s, Softmax.prob (score q k p (l.val / 64) n) s * krow v p s l

def lsev (q : Fin 4096 → Fin 512 → ℝ) (k : Fin 4096 → Fin 128 → ℝ) (p : Fin 4) (n : Fin 4096) (l : Fin 128) : ℝ :=
  Softmax.lse (score q k p (l.val / 64) n)

section
variable (hq : ∀ n l, (show FVec Ideal S4096x512 .f32 from m ((c : Thread nD τ).loc main_arg0)) (ix2 n l) = ((q n l : ℝ) : EReal))
  (hk : ∀ n l, (show FVec Ideal S4096x128 .f32 from m ((c : Thread nD τ).loc main_arg1)) (ix2 n l) = ((k n l : ℝ) : EReal))
  (hv : ∀ n l, (show FVec Ideal S4096x128 .f32 from m ((c : Thread nD τ).loc main_arg2)) (ix2 n l) = ((v n l : ℝ) : EReal))

include hq hk hv in
theorem final_o : (dat0 (V1 m ρ) c).arrAt 3 cfg0.N
    = (fun i => ((outv q k v (cpair (i 1)) (i 0) (clane (i 1)) : ℝ) : EReal) : FVec Ideal S4096x512 .f32) := by
  refine (dat0 (V1 m ρ) c).arrAt_eq_of_covers 3 _ (by decide +kernel) fun t hf y => ?_
  blk_simp
  rw [after0_3]
  frame_out
  idx_vars y
  rw [show k0_pay18 _ _ _ = k0_pay6 from rfl, f_out (blk0_q m ρ hq t) (blk0_k m ρ hk t) (blk0_v m ρ hv t)]
  have e0 : ((View.whole main_v9_0).slice (win0_3.rect t)).emb (ix2 y0 y1) 0 = row t y0 :=
    Fin.ext (by unfold row; blk_simp [idx0 t])
  have e1 : cpair (((View.whole main_v9_0).slice (win0_3.rect t)).emb (ix2 y0 y1) 1) = pair t.val t.isLt :=
    Fin.ext (by unfold cpair pair; blk_simp [idx0 t]; dsimp only; omega)
  have e2 : clane (((View.whole main_v9_0).slice (win0_3.rect t)).emb (ix2 y0 y1) 1) = y1 :=
    Fin.ext (by unfold clane; blk_simp [idx0 t]; dsimp only; omega)
  rw [e0, e1, e2]
  rfl

include hq hk in
theorem final_lse : (dat0 (V1 m ρ) c).arrAt 4 cfg0.N
    = (fun i => ((lsev q k (cpair (i 1)) (i 0) (clane (i 1)) : ℝ) : EReal) : FVec Ideal S4096x512 .f32) := by
  refine (dat0 (V1 m ρ) c).arrAt_eq_of_covers 4 _ (by decide +kernel) fun t hf y => ?_
  blk_simp
  rw [after0_4]
  frame_out
  idx_vars y
  rw [show k0_pay18 _ _ _ = k0_pay6 from rfl, f_lse (blk0_q m ρ hq t) (blk0_k m ρ hk t)]
  have e0 : ((View.whole main_v9_1).slice (win0_4.rect t)).emb (ix2 y0 y1) 0 = row t y0 :=
    Fin.ext (by unfold row; blk_simp [idx0 t])
  have e1 : cpair (((View.whole main_v9_1).slice (win0_4.rect t)).emb (ix2 y0 y1) 1) = pair t.val t.isLt :=
    Fin.ext (by unfold cpair pair; blk_simp [idx0 t]; dsimp only; omega)
  have e2 : clane (((View.whole main_v9_1).slice (win0_4.rect t)).emb (ix2 y0 y1) 1) = y1 :=
    Fin.ext (by unfold clane; blk_simp [idx0 t]; dsimp only; omega)
  rw [e0, e1, e2]
  rfl
end

/-! The second call reads the same arrays, the first call's results and the cotangent. -/

theorem read1_0 (c : Dev nD) (t : Fin cfg1.N) (r : Fin 256) (l : Fin 128) :
    (show FVec Ideal S256x128 .bf16 from iblk1 (V2 m ρ) c 0 t) (ix2 r l)
      = (show FVec Ideal S4096x512 .bf16 from V2 m ρ c main_v0) (ix2 (row t r) (pcol (pair t.val t.isLt) l)) := by
  unfold row pcol pair
  blk_ext [iblk1, idx1 t]

theorem read1_1 (c : Dev nD) (t : Fin cfg1.N) (r : Fin 4096) (l : Fin 128) :
    (show FVec Ideal S4096x128 .bf16 from iblk1 (V2 m ρ) c 1 t) (ix2 r l)
      = (show FVec Ideal S4096x256 .bf16 from V2 m ρ c main_v4) (ix2 r (dcol (pair t.val t.isLt) l)) := by
  unfold dcol pair
  blk_ext [iblk1, idx1 t]

theorem read1_2 (c : Dev nD) (t : Fin cfg1.N) (r : Fin 4096) (l : Fin 128) :
    (show FVec Ideal S4096x128 .bf16 from iblk1 (V2 m ρ) c 2 t) (ix2 r l)
      = (show FVec Ideal S4096x256 .bf16 from V2 m ρ c main_v8) (ix2 r (dcol (pair t.val t.isLt) l)) := by
  unfold dcol pair
  blk_ext [iblk1, idx1 t]

theorem read1_3 (c : Dev nD) (t : Fin cfg1.N) (r : Fin 256) (l : Fin 128) :
    (show FVec Ideal S256x128 .f32 from iblk1 (V2 m ρ) c 3 t) (ix2 r l)
      = (show FVec Ideal S4096x512 .f32 from V2 m ρ c main_v9_0) (ix2 (row t r) (pcol (pair t.val t.isLt) l)) := by
  unfold row pcol pair
  blk_ext [iblk1, idx1 t]

theorem read1_4 (c : Dev nD) (t : Fin cfg1.N) (r : Fin 256) (l : Fin 128) :
    (show FVec Ideal S256x128 .f32 from iblk1 (V2 m ρ) c 4 t) (ix2 r l)
      = (show FVec Ideal S4096x512 .f32 from V2 m ρ c main_v9_1) (ix2 (row t r) (pcol (pair t.val t.isLt) l)) := by
  unfold row pcol pair
  blk_ext [iblk1, idx1 t]

theorem read1_5 (c : Dev nD) (t : Fin cfg1.N) (r : Fin 256) (l : Fin 128) :
    (show FVec Ideal S256x128 .f32 from iblk1 (V2 m ρ) c 5 t) (ix2 r l)
      = (show FVec Ideal S4096x512 .f32 from V2 m ρ c main_arg3) (ix2 (row t r) (pcol (pair t.val t.isLt) l)) := by
  unfold row pcol pair
  blk_ext [iblk1, idx1 t]

theorem cpair_pcol (p : Fin 4) (l : Fin 128) : cpair (pcol p l) = p := Fin.ext (by unfold cpair pcol; dsimp only; omega)
theorem clane_pcol (p : Fin 4) (l : Fin 128) : clane (pcol p l) = l := Fin.ext (by unfold clane pcol; dsimp only; omega)

section
variable (hq : ∀ n l, (show FVec Ideal S4096x512 .f32 from m ((c : Thread nD τ).loc main_arg0)) (ix2 n l) = ((q n l : ℝ) : EReal))
  (hk : ∀ n l, (show FVec Ideal S4096x128 .f32 from m ((c : Thread nD τ).loc main_arg1)) (ix2 n l) = ((k n l : ℝ) : EReal))
  (hv : ∀ n l, (show FVec Ideal S4096x128 .f32 from m ((c : Thread nD τ).loc main_arg2)) (ix2 n l) = ((v n l : ℝ) : EReal))
  (hg : ∀ n l, (show FVec Ideal S4096x512 .f32 from m ((c : Thread nD τ).loc main_arg3)) (ix2 n l) = ((g n l : ℝ) : EReal))
include hq in
theorem blk1_q (t : Fin cfg1.N) (r : Fin 256) (l : Fin 128) :
    (show FVec Ideal S256x128 .bf16 from iblk1 (V2 m ρ) c 0 t) (ix2 r l)
      = ((qrow q (pair t.val t.isLt) (row t r) l : ℝ) : EReal) := by
  rw [read1_0]
  exact (congrFun (W2_of m ρ c main_v0 (by decide)) _).trans ((host_q m ρ c _ _).trans (hq _ _))
include hk in
theorem blk1_k (t : Fin cfg1.N) (s : Fin 4096) (l : Fin 128) :
    (show FVec Ideal S4096x128 .bf16 from iblk1 (V2 m ρ) c 1 t) (ix2 s l)
      = ((krow k (pair t.val t.isLt) s l : ℝ) : EReal) := by
  rw [read1_1]
  refine (congrFun (W2_of m ρ c main_v4 (by decide)) _).trans ((host_k m ρ c _ _).trans ?_)
  rw [gcol_eq, hk]; rfl
include hv in
theorem blk1_v (t : Fin cfg1.N) (s : Fin 4096) (l : Fin 128) :
    (show FVec Ideal S4096x128 .bf16 from iblk1 (V2 m ρ) c 2 t) (ix2 s l)
      = ((krow v (pair t.val t.isLt) s l : ℝ) : EReal) := by
  rw [read1_2]
  refine (congrFun (W2_of m ρ c main_v8 (by decide)) _).trans ((host_v m ρ c _ _).trans ?_)
  rw [gcol_eq, hv]; rfl
include hq hk hv in
theorem blk1_o (t : Fin cfg1.N) (r : Fin 256) (l : Fin 128) :
    (show FVec Ideal S256x128 .f32 from iblk1 (V2 m ρ) c 3 t) (ix2 r l)
      = ((outv q k v (pair t.val t.isLt) (row t r) l : ℝ) : EReal) := by
  rw [read1_3]
  refine (congrFun ((W2_arr m ρ c 3).trans (final_o m ρ hq hk hv)) _).trans ?_
  show ((outv q k v (cpair (pcol _ l)) (row t r) (clane (pcol _ l)) : ℝ) : EReal) = _
  rw [cpair_pcol, clane_pcol]
include hq hk in
theorem blk1_lse (t : Fin cfg1.N) (r : Fin 256) (l : Fin 128) :
    (show FVec Ideal S256x128 .f32 from iblk1 (V2 m ρ) c 4 t) (ix2 r l)
      = ((lsev q k (pair t.val t.isLt) (row t r) l : ℝ) : EReal) := by
  rw [read1_4]
  refine (congrFun ((W2_arr m ρ c 4).trans (final_lse m ρ hq hk)) _).trans ?_
  show ((lsev q k (cpair (pcol _ l)) (row t r) (clane (pcol _ l)) : ℝ) : EReal) = _
  rw [cpair_pcol, clane_pcol]
include hg in
theorem blk1_do (t : Fin cfg1.N) (r : Fin 256) (l : Fin 128) :
    (show FVec Ideal S256x128 .f32 from iblk1 (V2 m ρ) c 5 t) (ix2 r l)
      = ((qrow g (pair t.val t.isLt) (row t r) l : ℝ) : EReal) := by
  rw [read1_5]
  exact (congrFun (W2_args m ρ c main_arg3 (by decide)) _).trans (hg _ _)

/-- The gradient of the scores of row `n` in half `b` of a pair. -/
def dscore (q : Fin 4096 → Fin 512 → ℝ) (k v : Fin 4096 → Fin 128 → ℝ) (g : Fin 4096 → Fin 512 → ℝ) (p : Fin 4) (b : ℕ)
    (n : Fin 4096) : Fin 4096 → ℝ :=
  ds b (qrow q p n) (qrow g p n) (krow k p) (krow v p)

include hq hk hv hg in
theorem final_dq : (dat1 (V2 m ρ) c).arrAt 6 cfg1.N
    = (fun i => ((∑ s, dscore q k v g (cpair (i 1)) ((clane (i 1)).val / 64) (i 0) s * krow k (cpair (i 1)) s (clane (i 1)) : ℝ) : EReal)
        : FVec Ideal S4096x512 .f32) := by
  refine (dat1 (V2 m ρ) c).arrAt_eq_of_covers 6 _ (by decide +kernel) fun t hf y => ?_
  blk_simp
  rw [after1_6]
  idx_vars y
  have e0 : ((View.whole main_v10_0).slice (win1_6.rect t)).emb (ix2 y0 y1) 0 = row t y0 :=
    Fin.ext (by unfold row; blk_simp [idx1 t])
  have e1 : cpair (((View.whole main_v10_0).slice (win1_6.rect t)).emb (ix2 y0 y1) 1) = pair t.val t.isLt :=
    Fin.ext (by unfold cpair pair; blk_simp [idx1 t]; dsimp only; omega)
  have e2 : clane (((View.whole main_v10_0).slice (win1_6.rect t)).emb (ix2 y0 y1) 1) = y1 :=
    Fin.ext (by unfold clane; blk_simp [idx1 t]; dsimp only; omega)
  rw [e0, e1, e2]
  have hb := b_dq (blk1_q m ρ hq t) (blk1_k m ρ hk t) (blk1_v m ρ hv t) (blk1_o m ρ hq hk hv t) (blk1_lse m ρ hq hk t)
    (blk1_do m ρ hg t) y0 y1
  by_cases h : t.val % 32 = 0
  · rw [outsAt1_A (V2 m ρ) c t h]; frame_out; exact hb
  · rw [outsAt1_B (V2 m ρ) c t h]; frame_out; exact hb

/-- One step's share of the gradient of k. -/
def dk_part (q : Fin 4096 → Fin 512 → ℝ) (k v : Fin 4096 → Fin 128 → ℝ) (g : Fin 4096 → Fin 512 → ℝ) (t : Fin cfg1.N) (s : Fin 4096) (l : Fin 128) : ℝ :=
  ∑ r : Fin 256, dscore q k v g (pair t.val t.isLt) (l.val / 64) (row t r) s * qrow q (pair t.val t.isLt) (row t r) l

include hq hk hv hg in
theorem acc_dk (t : Fin cfg1.N) (hf : (cfg1.win 7).flush t = true) (s : Fin 4096) (l : Fin 128) :
    (outsAt1 (V2 m ρ) c t.val t.isLt).2.1 (ix2 s l)
      = ((∑ j : Fin 32, dk_part q k v g ⟨32 * (t.val / 32) + j.val, by have := t.isLt; have : cfg1.N = 64 := N_1; omega⟩ s l : ℝ) : EReal) := by
  rw [Pipeline.eq_sum_fin_of_reset_step_apply_of_flush (fun n h => (outsAt1 (V2 m ρ) c n h).2.1) 32 (fun _ => (0 : EReal))
    (fun t i => ((dk_part q k v g t (i 0) (i 1) : ℝ) : EReal))
    (fun t h i => by
      idx_vars i
      rw [outsAt1_A (V2 m ρ) c t h]; frame_out
      refine (b_dk (blk1_q m ρ hq t) (blk1_k m ρ hk t) (blk1_v m ρ hv t) (blk1_o m ρ hq hk hv t) (blk1_lse m ρ hq hk t) (blk1_do m ρ hg t) _ _ _).trans ?_
      rw [b_zero7]; rfl)
    (fun t h i => by
      idx_vars i
      rw [outsAt1_B (V2 m ρ) c t h]; frame_out
      exact b_dk (blk1_q m ρ hq t) (blk1_k m ρ hk t) (blk1_v m ρ hv t) (blk1_o m ρ hq hk hv t) (blk1_lse m ρ hq hk t) (blk1_do m ρ hg t) _ _ _)
    t ((flush1_7 t).mp hf) (ix2 s l), zero_add]
  exact Softmax.coe_sum _ _

/-- One step's share of the gradient of v. -/
def dv_part (q : Fin 4096 → Fin 512 → ℝ) (k v : Fin 4096 → Fin 128 → ℝ) (g : Fin 4096 → Fin 512 → ℝ) (t : Fin cfg1.N) (s : Fin 4096) (l : Fin 128) : ℝ :=
  ∑ r : Fin 256, Softmax.prob (score q k (pair t.val t.isLt) (l.val / 64) (row t r)) s * qrow g (pair t.val t.isLt) (row t r) l

include hq hk hv hg in
theorem acc_dv (t : Fin cfg1.N) (hf : (cfg1.win 8).flush t = true) (s : Fin 4096) (l : Fin 128) :
    (outsAt1 (V2 m ρ) c t.val t.isLt).2.2 (ix2 s l)
      = ((∑ j : Fin 32, dv_part q k v g ⟨32 * (t.val / 32) + j.val, by have := t.isLt; have : cfg1.N = 64 := N_1; omega⟩ s l : ℝ) : EReal) := by
  rw [Pipeline.eq_sum_fin_of_reset_step_apply_of_flush (fun n h => (outsAt1 (V2 m ρ) c n h).2.2) 32 (fun _ => (0 : EReal))
    (fun t i => ((dv_part q k v g t (i 0) (i 1) : ℝ) : EReal))
    (fun t h i => by
      idx_vars i
      rw [outsAt1_A (V2 m ρ) c t h]; frame_out
      refine (b_dv (blk1_q m ρ hq t) (blk1_k m ρ hk t) (blk1_lse m ρ hq hk t) (blk1_do m ρ hg t) _ _ _).trans ?_
      rw [b_zero8]; rfl)
    (fun t h i => by
      idx_vars i
      rw [outsAt1_B (V2 m ρ) c t h]; frame_out
      exact b_dv (blk1_q m ρ hq t) (blk1_k m ρ hk t) (blk1_lse m ρ hq hk t) (blk1_do m ρ hg t) _ _ _)
    t ((flush1_8 t).mp hf) (ix2 s l), zero_add]
  exact Softmax.coe_sum _ _

/-- The group, and the lane in it, of a column of the doubled arrays. -/
def dgroup (i : Fin 256) : Fin 2 := ⟨i.val / 128, by omega⟩
def dlane (i : Fin 256) : Fin 128 := ⟨i.val % 128, by omega⟩
/-- The two pairs of a group. -/
def gpair (G j : Fin 2) : Fin 4 := ⟨2 * G.val + j.val, by omega⟩

/-- The gradient of k in a group's doubled columns: over the group's two pairs and all rows. -/
def dkv (q : Fin 4096 → Fin 512 → ℝ) (k v : Fin 4096 → Fin 128 → ℝ) (g : Fin 4096 → Fin 512 → ℝ) (G : Fin 2) (s : Fin 4096)
    (l : Fin 128) : ℝ :=
  ∑ j : Fin 2, ∑ n : Fin 4096, dscore q k v g (gpair G j) (l.val / 64) n s * qrow q (gpair G j) n l

theorem dk_rows (q : Fin 4096 → Fin 512 → ℝ) (k v : Fin 4096 → Fin 128 → ℝ) (g : Fin 4096 → Fin 512 → ℝ) (t : Fin cfg1.N)
    (s : Fin 4096) (l : Fin 128) :
    (∑ j : Fin 32, dk_part q k v g ⟨32 * (t.val / 32) + j.val, by have := t.isLt; have : cfg1.N = 64 := N_1; omega⟩ s l)
      = dkv q k v g ⟨t.val / 32, by have := t.isLt; have : cfg1.N = 64 := N_1; omega⟩ s l := by
  unfold dk_part dkv
  refine Fin.sum_points_lanes_congr 16 fun j r ha hl => ?_
  have e0 : row (32 * (t.val / 32) + j.val) r = ⟨j.val % 16 * 256 + r.val, hl⟩ := Fin.ext (by unfold row; dsimp only; omega)
  have e1 : ∀ h, pair (32 * (t.val / 32) + j.val) h = gpair ⟨t.val / 32, by have := t.isLt; have : cfg1.N = 64 := N_1; omega⟩ ⟨j.val / 16, ha⟩ :=
    fun h => Fin.ext (by unfold pair gpair; dsimp only; omega)
  have hh : 32 * (t.val / 32) + j.val < 64 := by have : t.val < 64 := t.isLt; omega
  change dscore q k v g (pair (32 * (t.val / 32) + j.val) hh) (l.val / 64) (row (32 * (t.val / 32) + j.val) r) s * qrow q (pair (32 * (t.val / 32) + j.val) hh) (row (32 * (t.val / 32) + j.val) r) l = _
  rw [e0, e1]

include hq hk hv hg in
theorem final_dk : (dat1 (V2 m ρ) c).arrAt 7 cfg1.N
    = (fun i => ((dkv q k v g (dgroup (i 1)) (i 0) (dlane (i 1)) : ℝ) : EReal) : FVec Ideal S4096x256 .f32) := by
  refine (dat1 (V2 m ρ) c).arrAt_eq_of_covers 7 _ (by decide +kernel) fun t hf y => ?_
  blk_simp
  rw [after1_7]
  idx_vars y
  rw [acc_dk m ρ hq hk hv hg t hf, dk_rows]
  have e0 : ((View.whole main_v10_1).slice (win1_7.rect t)).emb (ix2 y0 y1) 0 = y0 :=
    Fin.ext (by blk_simp [idx1 t])
  have ht : t.val < 64 := t.isLt
  have e1 : dgroup (((View.whole main_v10_1).slice (win1_7.rect t)).emb (ix2 y0 y1) 1)
      = ⟨t.val / 32, by have := t.isLt; have : cfg1.N = 64 := N_1; omega⟩ :=
    Fin.ext (by unfold dgroup; blk_simp [idx1 t]; dsimp only; omega)
  have e2 : dlane (((View.whole main_v10_1).slice (win1_7.rect t)).emb (ix2 y0 y1) 1) = y1 :=
    Fin.ext (by unfold dlane; blk_simp [idx1 t]; dsimp only; omega)
  rw [e0, e1, e2]

/-- The gradient of v in a group's doubled columns: over the group's two pairs and all rows. -/
def dvv (q : Fin 4096 → Fin 512 → ℝ) (k v : Fin 4096 → Fin 128 → ℝ) (g : Fin 4096 → Fin 512 → ℝ) (G : Fin 2) (s : Fin 4096)
    (l : Fin 128) : ℝ :=
  ∑ j : Fin 2, ∑ n : Fin 4096, Softmax.prob (score q k (gpair G j) (l.val / 64) n) s * qrow g (gpair G j) n l

theorem dv_rows (q : Fin 4096 → Fin 512 → ℝ) (k v : Fin 4096 → Fin 128 → ℝ) (g : Fin 4096 → Fin 512 → ℝ) (t : Fin cfg1.N)
    (s : Fin 4096) (l : Fin 128) :
    (∑ j : Fin 32, dv_part q k v g ⟨32 * (t.val / 32) + j.val, by have := t.isLt; have : cfg1.N = 64 := N_1; omega⟩ s l)
      = dvv q k v g ⟨t.val / 32, by have := t.isLt; have : cfg1.N = 64 := N_1; omega⟩ s l := by
  unfold dv_part dvv
  refine Fin.sum_points_lanes_congr 16 fun j r ha hl => ?_
  have e0 : row (32 * (t.val / 32) + j.val) r = ⟨j.val % 16 * 256 + r.val, hl⟩ := Fin.ext (by unfold row; dsimp only; omega)
  have e1 : ∀ h, pair (32 * (t.val / 32) + j.val) h = gpair ⟨t.val / 32, by have := t.isLt; have : cfg1.N = 64 := N_1; omega⟩ ⟨j.val / 16, ha⟩ :=
    fun h => Fin.ext (by unfold pair gpair; dsimp only; omega)
  have hh : 32 * (t.val / 32) + j.val < 64 := by have : t.val < 64 := t.isLt; omega
  change Softmax.prob (score q k (pair (32 * (t.val / 32) + j.val) hh) (l.val / 64) (row (32 * (t.val / 32) + j.val) r)) s * qrow g (pair (32 * (t.val / 32) + j.val) hh) (row (32 * (t.val / 32) + j.val) r) l = _
  rw [e0, e1]

include hq hk hv hg in
theorem final_dv : (dat1 (V2 m ρ) c).arrAt 8 cfg1.N
    = (fun i => ((dvv q k v g (dgroup (i 1)) (i 0) (dlane (i 1)) : ℝ) : EReal) : FVec Ideal S4096x256 .f32) := by
  refine (dat1 (V2 m ρ) c).arrAt_eq_of_covers 8 _ (by decide +kernel) fun t hf y => ?_
  blk_simp
  rw [after1_8]
  idx_vars y
  rw [acc_dv m ρ hq hk hv hg t hf, dv_rows]
  have e0 : ((View.whole main_v10_2).slice (win1_8.rect t)).emb (ix2 y0 y1) 0 = y0 :=
    Fin.ext (by blk_simp [idx1 t])
  have ht : t.val < 64 := t.isLt
  have e1 : dgroup (((View.whole main_v10_2).slice (win1_8.rect t)).emb (ix2 y0 y1) 1)
      = ⟨t.val / 32, by have := t.isLt; have : cfg1.N = 64 := N_1; omega⟩ :=
    Fin.ext (by unfold dgroup; blk_simp [idx1 t]; dsimp only; omega)
  have e2 : dlane (((View.whole main_v10_2).slice (win1_8.rect t)).emb (ix2 y0 y1) 1) = y1 :=
    Fin.ext (by unfold dlane; blk_simp [idx1 t]; dsimp only; omega)
  rw [e0, e1, e2]
end

end Cert.Attention
end
-- ==== Proof.AttnRef.lean ====
/- The attention's reference, read entry by entry on real arguments. -/
module

public import proofs.«01_k».proof.Proof.Gen.AttnRefIdeal.Run
public import proofs.«01_k».proof.Proof.Gen.AttnRefIdeal.Read
public import proofs.«01_k».proof.Proof.Softmax
public import Idealize.ShloMosaic.Lib.Pointwise

@[expose] public section

set_option maxRecDepth 16384

noncomputable section

namespace Cert.AttnRef

open Cert.AttnRefIdeal Cert.AttnRefIdeal.Gen Cert.AttnRefIdeal.Read
open Idealize.ShloMosaic Idealize.ShloMosaic.TcCoe Idealize.SL.Sem

/-- A head's column of q. -/
def qc (G : Fin 2) (h : Fin 4) (d : Fin 64) : Fin 512 := ⟨G.val * 256 + h.val * 64 + d.val, by omega⟩
/-- A group's column of k. -/
def kc (G : Fin 2) (d : Fin 64) : Fin 128 := ⟨G.val * 64 + d.val, by omega⟩

variable {x0 x3 : (⟨S4096x512, .f32⟩ : BufTy).Contents (Elt Ideal)} {x1 x2 : (⟨S4096x128, .f32⟩ : BufTy).Contents (Elt Ideal)}
  {q g : Fin 4096 → Fin 512 → ℝ} {k v : Fin 4096 → Fin 128 → ℝ}

/-- A head's scores, row `n`. -/
def score (q : Fin 4096 → Fin 512 → ℝ) (k : Fin 4096 → Fin 128 → ℝ) (G : Fin 2) (h : Fin 4) (n : Fin 4096) : Fin 4096 → ℝ :=
  fun s => ∑ d : Fin 64, q n (qc G h d) * k s (kc G d)

theorem r_score (hq : ∀ n l, x0 (ix2 n l) = ((q n l : ℝ) : EReal)) (hk : ∀ n l, x1 (ix2 n l) = ((k n l : ℝ) : EReal))
    (G : Fin 2) (h : Fin 4) (n s : Fin 4096) :
    val_main_v4 (F := Ideal) x0 x1 (ix4 G h n s) = ((score q k G h n s : ℝ) : EReal) := by
  unfold val_main_v4 val_main_v3 val_main_v1 val_main_v0
  pointwise
  simp only [hq, hk, ← EReal.coe_mul, Softmax.coe_sum]
  refine congrArg _ (Finset.sum_congr rfl fun d _ => ?_)
  exact mul_comm _ _

variable {sc dd : Fin 2 → Fin 4 → Fin 4096 → Fin 4096 → ℝ}

theorem reduce_max (T : FVec Ideal S2x4x4096x4096 .f32) (z : FVec Ideal S_ .f32) (G : Fin 2) (h : Fin 4) (n : Fin 4096) :
    Host.reduce FloatOps.maximumf T z reducesTo_S2x4x4096x4096_S2x4x4096_d3 h_S_ (ix3 G h n)
      = Finset.univ.fold max (z (Shape.Idx.first h_S_)) (fun s => T (ix4 G h n s)) := by
  pointwise

theorem ofBits_bot : FloatOps.ofBits (F := Ideal) .f32 0xFF800000#32 = (⊥ : EReal) := by
  show Ideal.ofBits .f32 0xFF800000#32 = (⊥ : EReal)
  simp [Ideal.ofBits, Ideal.ieee]

theorem r_max (hs : ∀ G h n s, val_main_v4 (F := Ideal) x0 x1 (ix4 G h n s) = ((sc G h n s : ℝ) : EReal))
    (G : Fin 2) (h : Fin 4) (n : Fin 4096) :
    val_main_v12 (F := Ideal) x0 x1 (ix3 G h n) = ((Softmax.top (sc G h n) : ℝ) : EReal) := by
  have e : val_main_v5 (F := Ideal) x0 x1 (ix3 G h n) = ((Softmax.top (sc G h n) : ℝ) : EReal) := by
    rw [val_main_v5, reduce_max, val_main_cst_apply, ofBits_bot, ← Softmax.fold_max]
    simp only [hs]
  rw [val_main_v12_apply, e, val_main_v11_apply, val_main_cst_1_apply, ofBits_bot]
  exact max_eq_right bot_le

theorem r_exp (hs : ∀ G h n s, val_main_v4 (F := Ideal) x0 x1 (ix4 G h n s) = ((sc G h n s : ℝ) : EReal))
    (G : Fin 2) (h : Fin 4) (n s : Fin 4096) :
    val_main_v25 (F := Ideal) x0 x1 (ix4 G h n s) = ((Softmax.ex (sc G h n) s : ℝ) : EReal) := by
  unfold val_main_v25 val_main_v24 val_main_v23 val_main_v22
  pointwise
  rw [hs, r_max hs, ← EReal.coe_sub, Ideal.exp_coe]
  rw [Softmax.ex]

theorem r_norm (hs : ∀ G h n s, val_main_v4 (F := Ideal) x0 x1 (ix4 G h n s) = ((sc G h n s : ℝ) : EReal))
    (G : Fin 2) (h : Fin 4) (n : Fin 4096) :
    val_main_v26 (F := Ideal) x0 x1 (ix3 G h n) = ((Softmax.norm (sc G h n) : ℝ) : EReal) := by
  unfold val_main_v26 val_main_cst_7
  pointwise
  simp only [r_exp hs, Softmax.coe_sum]
  rw [Softmax.norm]

theorem r_prob (hs : ∀ G h n s, val_main_v4 (F := Ideal) x0 x1 (ix4 G h n s) = ((sc G h n s : ℝ) : EReal))
    (G : Fin 2) (h : Fin 4) (n s : Fin 4096) :
    val_main_v29 (F := Ideal) x0 x1 (ix4 G h n s) = ((Softmax.prob (sc G h n) s : ℝ) : EReal) := by
  unfold val_main_v29 val_main_v28 val_main_v27
  pointwise
  rw [r_exp hs, r_norm hs]
  exact Softmax.div_coe (Softmax.norm_pos _).ne'

theorem r_dprob (hv : ∀ n l, x2 (ix2 n l) = ((v n l : ℝ) : EReal)) (hg : ∀ n l, x3 (ix2 n l) = ((g n l : ℝ) : EReal))
    (G : Fin 2) (h : Fin 4) (n s : Fin 4096) :
    val_main_v38 (F := Ideal) x2 x3 (ix4 G h n s) = ((score g v G h n s : ℝ) : EReal) := by
  unfold val_main_v38 val_main_v37 val_main_v36 val_main_v2
  pointwise
  simp only [hv, hg, ← EReal.coe_mul, Softmax.coe_sum]
  refine congrArg _ (Finset.sum_congr rfl fun d _ => ?_)
  rfl

theorem r_grad (hs : ∀ G h n s, val_main_v4 (F := Ideal) x0 x1 (ix4 G h n s) = ((sc G h n s : ℝ) : EReal))
    (hd : ∀ G h n s, val_main_v38 (F := Ideal) x2 x3 (ix4 G h n s) = ((dd G h n s : ℝ) : EReal))
    (G : Fin 2) (h : Fin 4) (n s : Fin 4096) :
    val_main_v52 (F := Ideal) x0 x1 x2 x3 (ix4 G h n s) = ((Softmax.grad (sc G h n) (dd G h n) s : ℝ) : EReal) := by
  have e1 (s : Fin 4096) : val_main_v43 (F := Ideal) x0 x1 x2 x3 (ix4 G h n s)
      = ((dd G h n s * (1 / (Softmax.norm (sc G h n) * Softmax.norm (sc G h n))) * Softmax.ex (sc G h n) s : ℝ) : EReal) := by
    unfold val_main_v43 val_main_v42 val_main_v41 val_main_v32 val_main_v31 val_main_v30 val_main_v27 val_main_cst_8
    pointwise
    rw [hd, r_exp hs, r_norm hs, ← EReal.coe_mul, ← EReal.coe_one,
      Softmax.div_coe (mul_pos (Softmax.norm_pos _) (Softmax.norm_pos _)).ne', ← EReal.coe_mul, ← EReal.coe_mul]
  have e2 : val_main_v49 (F := Ideal) x0 x1 x2 x3 (ix3 G h n)
      = ((-∑ s, dd G h n s * (1 / (Softmax.norm (sc G h n) * Softmax.norm (sc G h n))) * Softmax.ex (sc G h n) s : ℝ) : EReal) := by
    unfold val_main_v49 val_main_v46 val_main_v45 val_main_v44 val_main_cst_9 val_main_cst_10
    pointwise
    simp only [e1, Softmax.coe_sum]
    rw [Fin.sum_univ_one, ← EReal.coe_neg]
  unfold val_main_v52 val_main_v51 val_main_v50 val_main_v48 val_main_v47 val_main_v27
  pointwise
  rw [hd, r_exp hs, r_norm hs, e2, Softmax.div_coe (Softmax.norm_pos _).ne', ← EReal.coe_add, ← EReal.coe_mul, Softmax.grad_quotient]

theorem r_dq (hk : ∀ n l, x1 (ix2 n l) = ((k n l : ℝ) : EReal))
    (hd : ∀ G h n s, val_main_v52 (F := Ideal) x0 x1 x2 x3 (ix4 G h n s) = ((dd G h n s : ℝ) : EReal))
    (n : Fin 4096) (i : Fin 512) :
    val_main_v60 (F := Ideal) x0 x1 x2 x3 (ix2 n i)
      = ((∑ s, dd ⟨i.val / 256, by omega⟩ ⟨i.val / 64 % 4, by omega⟩ n s * k s (kc ⟨i.val / 256, by omega⟩ ⟨i.val % 64, by omega⟩) : ℝ) : EReal) := by
  unfold val_main_v60 val_main_v55 val_main_v54 val_main_v53 val_main_v1
  pointwise
  simp only [hk, hd, ← EReal.coe_mul, Softmax.coe_sum]
  rfl

theorem r_dk (hq : ∀ n l, x0 (ix2 n l) = ((q n l : ℝ) : EReal))
    (hd : ∀ G h n s, val_main_v52 (F := Ideal) x0 x1 x2 x3 (ix4 G h n s) = ((dd G h n s : ℝ) : EReal))
    (s : Fin 4096) (i : Fin 128) :
    val_main_v59 (F := Ideal) x0 x1 x2 x3 (ix2 s i)
      = ((∑ n, ∑ h, dd ⟨i.val / 64, by omega⟩ h n s * q n (qc ⟨i.val / 64, by omega⟩ h ⟨i.val % 64, by omega⟩) : ℝ) : EReal) := by
  unfold val_main_v59 val_main_v57 val_main_v56 val_main_v53 val_main_v0
  pointwise
  simp only [hq, hd, ← EReal.coe_mul, Softmax.coe_sum]
  rfl

theorem r_dv (hg : ∀ n l, x3 (ix2 n l) = ((g n l : ℝ) : EReal))
    (hd : ∀ G h n s, val_main_v29 (F := Ideal) x0 x1 (ix4 G h n s) = ((dd G h n s : ℝ) : EReal))
    (s : Fin 4096) (i : Fin 128) :
    val_main_v58 (F := Ideal) x0 x1 x3 (ix2 s i)
      = ((∑ h, ∑ n, g n (qc ⟨i.val / 64, by omega⟩ h ⟨i.val % 64, by omega⟩) * dd ⟨i.val / 64, by omega⟩ h n s : ℝ) : EReal) := by
  unfold val_main_v58 val_main_v40 val_main_v39 val_main_v37 val_main_v36
  pointwise
  simp only [hg, hd, ← EReal.coe_mul, Softmax.coe_sum]
  rfl

end Cert.AttnRef
end
-- ==== Proof.AttnEq.lean ====
/- The attention's gradients: the arrays of the calls against the reference's sums, over the heads. -/
module

public import proofs.«01_k».proof.Proof.AttnArr
public import proofs.«01_k».proof.Proof.AttnRef

@[expose] public section

set_option maxRecDepth 16384

noncomputable section

namespace Cert.Attention

open Idealize.ShloMosaic Idealize.ShloMosaic.TcCoe Idealize.SL.Sem

/-- The lane of a half. -/
def hl (b : Fin 2) (d : Fin 64) : Fin 128 := ⟨b.val * 64 + d.val, by omega⟩

/-- A product over the lanes of one half. -/
theorem dot_half (b : Fin 2) (x y : Fin 128 → ℝ) : dot b.val x y = ∑ d : Fin 64, x (hl b d) * y (hl b d) := by
  unfold dot
  rw [← Fin.sum_mul_add_fin 2 64 (fun l : Fin 128 => if l.val / 64 = b.val then x l * y l else 0),
    Finset.sum_eq_single b (fun a _ hab => ?_) (fun h => absurd (Finset.mem_univ b) h)]
  · exact Finset.sum_congr rfl fun d _ => if_pos (by dsimp only; omega)
  · refine Finset.sum_eq_zero fun d _ => if_neg ?_
    have : a.val ≠ b.val := fun h => hab (Fin.ext h)
    dsimp only
    omega

/-- A head of a group is half `b` of its pair `j`. -/
def head (j b : Fin 2) : Fin 4 := ⟨2 * j.val + b.val, by omega⟩

theorem qrow_head (q : Fin 4096 → Fin 512 → ℝ) (G j b : Fin 2) (n : Fin 4096) (d : Fin 64) :
    qrow q (gpair G j) n (hl b d) = q n (AttnRef.qc G (head j b) d) :=
  congrArg (q n) (Fin.ext (by unfold pcol gpair hl AttnRef.qc head; dsimp only; omega))

theorem krow_head (k : Fin 4096 → Fin 128 → ℝ) (G j b : Fin 2) (s : Fin 4096) (d : Fin 64) :
    krow k (gpair G j) s (hl b d) = k s (AttnRef.kc G d) :=
  congrArg (k s) (Fin.ext (by unfold gcol gpair hl AttnRef.kc; dsimp only; omega))

theorem score_head (q : Fin 4096 → Fin 512 → ℝ) (k : Fin 4096 → Fin 128 → ℝ) (G j b : Fin 2) (n : Fin 4096) :
    score q k (gpair G j) b.val n = AttnRef.score q k G (head j b) n := by
  funext s
  unfold score AttnRef.score
  rw [dot_half]
  exact Finset.sum_congr rfl fun d _ => by rw [qrow_head, krow_head]

theorem dscore_head (q g : Fin 4096 → Fin 512 → ℝ) (k v : Fin 4096 → Fin 128 → ℝ) (G j b : Fin 2) (n : Fin 4096) :
    dscore q k v g (gpair G j) b.val n = Softmax.grad (AttnRef.score q k G (head j b) n) (AttnRef.score g v G (head j b) n) := by
  unfold dscore ds
  rw [← score_head, ← score_head]
  rfl

theorem hl_div (b : Fin 2) (d : Fin 64) : (hl b d).val / 64 = b.val := by unfold hl; dsimp only; omega

theorem dk_heads (q g : Fin 4096 → Fin 512 → ℝ) (k v : Fin 4096 → Fin 128 → ℝ) (G : Fin 2) (s : Fin 4096) (d : Fin 64) :
    dkv q k v g G s (hl 0 d) + dkv q k v g G s (hl 1 d)
      = ∑ n, ∑ h, Softmax.grad (AttnRef.score q k G h n) (AttnRef.score g v G h n) s * q n (AttnRef.qc G h d) := by
  unfold dkv
  simp only [hl_div, dscore_head, qrow_head]
  rw [Finset.sum_comm (s := (Finset.univ : Finset (Fin 4096))), Fin.sum_univ_two, Fin.sum_univ_two, Fin.sum_univ_four]
  rw [show head 0 0 = 0 from rfl, show head 0 1 = 1 from rfl, show head 1 0 = 2 from rfl, show head 1 1 = 3 from rfl]
  ring

theorem dv_heads (q g : Fin 4096 → Fin 512 → ℝ) (k v : Fin 4096 → Fin 128 → ℝ) (G : Fin 2) (s : Fin 4096) (d : Fin 64) :
    dvv q k v g G s (hl 0 d) + dvv q k v g G s (hl 1 d)
      = ∑ h, ∑ n, g n (AttnRef.qc G h d) * Softmax.prob (AttnRef.score q k G h n) s := by
  unfold dvv
  simp only [hl_div, score_head, qrow_head, mul_comm]
  rw [Fin.sum_univ_two, Fin.sum_univ_two, Fin.sum_univ_four]
  rw [show head 0 0 = 0 from rfl, show head 0 1 = 1 from rfl, show head 1 0 = 2 from rfl, show head 1 1 = 3 from rfl]
  ring

section
open Cert.AttnIdeal Cert.AttnIdeal.Gen
variable (m : (ℓ : Loc nD τ sig) → Buf (Elt Ideal) ℓ) (ρ : Dev nD → PrngReg)

theorem host_dk (c : Dev nD) (s : Fin 4096) (i : Fin 128) :
    (show FVec Ideal S4096x128 .f32 from W4 m ρ c main_v13) (ix2 s i)
      = ∑ b : Fin 2, (show FVec Ideal S4096x256 .f32 from W3 m ρ c main_v10_1) (ix2 s ⟨i.val / 64 * 128 + b.val * 64 + i.val % 64, by omega⟩) := by
  unfold W4 hostOps2
  after_results
  pointwise

theorem host_dv (c : Dev nD) (s : Fin 4096) (i : Fin 128) :
    (show FVec Ideal S4096x128 .f32 from W4 m ρ c main_v16) (ix2 s i)
      = ∑ b : Fin 2, (show FVec Ideal S4096x256 .f32 from W3 m ρ c main_v10_2) (ix2 s ⟨i.val / 64 * 128 + b.val * 64 + i.val % 64, by omega⟩) := by
  unfold W4 hostOps2
  after_results
  pointwise

variable {c : Dev nD} {q g : Fin 4096 → Fin 512 → ℝ} {k v : Fin 4096 → Fin 128 → ℝ}
variable (hq : ∀ n l, (show FVec Ideal S4096x512 .f32 from m ((c : Thread nD τ).loc main_arg0)) (ix2 n l) = ((q n l : ℝ) : EReal))
  (hk : ∀ n l, (show FVec Ideal S4096x128 .f32 from m ((c : Thread nD τ).loc main_arg1)) (ix2 n l) = ((k n l : ℝ) : EReal))
  (hv : ∀ n l, (show FVec Ideal S4096x128 .f32 from m ((c : Thread nD τ).loc main_arg2)) (ix2 n l) = ((v n l : ℝ) : EReal))
  (hg : ∀ n l, (show FVec Ideal S4096x512 .f32 from m ((c : Thread nD τ).loc main_arg3)) (ix2 n l) = ((g n l : ℝ) : EReal))

include hq hk hv hg in
theorem dq_eq : W4 m ρ c main_v10_0
    = Cert.AttnRefIdeal.Read.val_main_v60 (F := Ideal) (m ((c : Thread nD τ).loc main_arg0)) (m ((c : Thread nD τ).loc main_arg1))
        (m ((c : Thread nD τ).loc main_arg2)) (m ((c : Thread nD τ).loc main_arg3)) := by
  refine ((W4_of m ρ c main_v10_0 (by decide)).trans ((W3_arr m ρ c 6).trans (final_dq m ρ hq hk hv hg))).trans ?_
  funext i
  idx_vars i
  refine Eq.trans ?_ (AttnRef.r_dq hk (AttnRef.r_grad (AttnRef.r_score hq hk) (AttnRef.r_dprob hv hg)) i0 i1).symm
  show ((∑ s, dscore q k v g (cpair i1) ((clane i1).val / 64) i0 s * krow k (cpair i1) s (clane i1) : ℝ) : EReal) = _
  have e1 : cpair i1 = gpair ⟨i1.val / 256, by omega⟩ ⟨i1.val / 128 % 2, by omega⟩ :=
    Fin.ext (by unfold cpair gpair; dsimp only; omega)
  have e2 : clane i1 = hl ⟨i1.val / 64 % 2, by omega⟩ ⟨i1.val % 64, by omega⟩ :=
    Fin.ext (by unfold clane hl; dsimp only; omega)
  have e3 : (⟨i1.val / 64 % 4, by omega⟩ : Fin 4) = head ⟨i1.val / 128 % 2, by omega⟩ ⟨i1.val / 64 % 2, by omega⟩ :=
    Fin.ext (by unfold head; dsimp only; omega)
  rw [e1, e2, e3, hl_div, dscore_head]
  simp only [krow_head]

/-- A group's two halves of a column, added. -/
theorem fold_col (f : Fin 2 → Fin 4096 → Fin 128 → ℝ) (s : Fin 4096) (i : Fin 128) :
    (∑ b : Fin 2, ((f (dgroup ⟨i.val / 64 * 128 + b.val * 64 + i.val % 64, by omega⟩) s
        (dlane ⟨i.val / 64 * 128 + b.val * 64 + i.val % 64, by omega⟩) : ℝ) : EReal))
      = ((f ⟨i.val / 64, by omega⟩ s (hl 0 ⟨i.val % 64, by omega⟩) + f ⟨i.val / 64, by omega⟩ s (hl 1 ⟨i.val % 64, by omega⟩) : ℝ) : EReal) := by
  have e1 (b : Fin 2) (h) : dgroup ⟨i.val / 64 * 128 + b.val * 64 + i.val % 64, h⟩ = ⟨i.val / 64, by omega⟩ :=
    Fin.ext (by unfold dgroup; dsimp only; omega)
  have e2 (b : Fin 2) (h) : dlane ⟨i.val / 64 * 128 + b.val * 64 + i.val % 64, h⟩ = hl b ⟨i.val % 64, by omega⟩ :=
    Fin.ext (by unfold dlane hl; dsimp only; omega)
  simp only [e1, e2]
  rw [Fin.sum_univ_two, EReal.coe_add]

include hq hk hv hg in
theorem dk_eq : W4 m ρ c main_v13
    = Cert.AttnRefIdeal.Read.val_main_v59 (F := Ideal) (m ((c : Thread nD τ).loc main_arg0)) (m ((c : Thread nD τ).loc main_arg1))
        (m ((c : Thread nD τ).loc main_arg2)) (m ((c : Thread nD τ).loc main_arg3)) := by
  funext i
  idx_vars i
  refine Eq.trans ?_ (AttnRef.r_dk hq (AttnRef.r_grad (AttnRef.r_score hq hk) (AttnRef.r_dprob hv hg)) i0 i1).symm
  refine (host_dk m ρ c i0 i1).trans ?_
  rw [show W3 m ρ c main_v10_1 = _ from (W3_arr m ρ c 7).trans (final_dk m ρ hq hk hv hg), ← dk_heads]
  exact fold_col (dkv q k v g) i0 i1

include hq hk hv hg in
theorem dv_eq : W4 m ρ c main_v16
    = Cert.AttnRefIdeal.Read.val_main_v58 (F := Ideal) (m ((c : Thread nD τ).loc main_arg0)) (m ((c : Thread nD τ).loc main_arg1))
        (m ((c : Thread nD τ).loc main_arg3)) := by
  funext i
  idx_vars i
  refine Eq.trans ?_ (AttnRef.r_dv hg (AttnRef.r_prob (AttnRef.r_score hq hk)) i0 i1).symm
  refine (host_dv m ρ c i0 i1).trans ?_
  rw [show W3 m ρ c main_v10_2 = _ from (W3_arr m ρ c 8).trans (final_dv m ρ hq hk hv hg), ← dv_heads]
  exact fold_col (dvv q k v g) i0 i1
end

end Cert.Attention
end
-- ==== Proof.Finite.lean ====
/- What a precondition that asks for finite arguments says of an entry. -/
module

public import Idealize.ShloMosaic.Lib.ReduceAll
public import Idealize.ShloMosaic.Lib.Pointwise
public import Idealize.ShloMosaic.PureOps.Ideal.Laws

@[expose] public section

noncomputable section

namespace Cert.Finite

open Idealize.ShloMosaic

theorem ofBits_inf : Ideal.ofBits .f32 0x7F800000#32 = (⊤ : EReal) := by simp [Ideal.ofBits, Ideal.ieee]

/-- An extended real whose absolute value is below infinity is a real. -/
theorem of_abs_lt {x : EReal} (h : max x (-x) < ⊤) : x = ((x.toReal : ℝ) : EReal) := by
  refine (EReal.coe_toReal ?_ ?_).symm
  · rintro rfl
    simp at h
  · rintro rfl
    simp at h

/-- Every entry of an array that passes the test `all (|x| < inf)` is a real. -/
theorem entry {s t u : Shape} {axes : List (Fin s.rank)} [Subsingleton t.Idx] (x : FVec Ideal s .f32) (top : FVec Ideal s .f32)
    (htop : ∀ i, top i = (⊤ : EReal)) (init : IVec u 1) (h : s.ReducesTo axes t) (hu : 0 < u.numel) (j : t.Idx)
    (e : Host.reduce IntOp.andi (cmpf .olt (Host.absf x) top) init h hu j = 1#1) (i : s.Idx) :
    x i = (((x i : EReal).toReal : ℝ) : EReal) := by
  have h1 := Host.reduce_andi_all _ init h hu j e i
  have h2 : max (x i : EReal) (-(x i : EReal)) < top i := by
    have h3 : BitVec.ofBool (decide (max (x i : EReal) (-(x i : EReal)) < top i)) = 1#1 := h1
    by_contra hn
    rw [decide_eq_false hn] at h3
    exact absurd h3 (by decide)
  rw [htop] at h2
  exact of_abs_lt h2

end Cert.Finite
end
-- ==== Proof.AttnClaim.lean ====
/- The claims about the attention's gradients. -/
module

public import proofs.«01_k».proof.Defs
public import proofs.«01_k».proof.Proof.AttnEq
public import proofs.«01_k».proof.Proof.Finite
public import proofs.«01_k».proof.Proof.Gen.Pre_attn_finite
public import Idealize.ShloMosaic.Lib.Claim

@[expose] public section

set_option maxRecDepth 16384

noncomputable section

namespace Cert.Attention

open Idealize.ShloMosaic Idealize.ShloMosaic.TcCoe Idealize.SL.Sem

theorem frame_reference : Cert.quiescent_AttnRefIdeal := by
  intro m g _
  refine θ_run_mono (Cert.AttnRefIdeal.Value.run m g) fun r h => ⟨?_, sem_eq_zero_of_no_sems (by decide) r.2⟩
  intro c
  exact (h c).2.2.2

theorem preserves : Cert.preserves_Attn_AttnIdeal :=
  IdealRules.named_const.statement Cert.AttnIdeal.κ "mask" .f32 0xF149F2CA#32 ⊥ rfl

theorem finite {x0 x3 : FVec Ideal Cert.Pre_attn_finite.S4096x512 .f32} {x1 x2 : FVec Ideal Cert.Pre_attn_finite.S4096x128 .f32}
    (h : Cert.Pre_attn_finite.fn (F := Ideal) x0 x1 x2 x3 ix0 = 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  dsimp only [Cert.Pre_attn_finite.fn, Cert.Pre_attn_finite.fn_part1] at h
  have hi : ∀ (p q : BitVec 1), IntOp.andi p q = 1#1 → p = 1#1 ∧ q = 1#1 := by decide
  obtain ⟨h, h3⟩ := hi _ _ h
  obtain ⟨h, h2⟩ := hi _ _ h
  obtain ⟨h0, h1⟩ := hi _ _ h
  exact ⟨Finite.entry x0 _ (fun _ => Finite.ofBits_inf) _ _ _ _ h0, Finite.entry x1 _ (fun _ => Finite.ofBits_inf) _ _ _ _ h1,
    Finite.entry x2 _ (fun _ => Finite.ofBits_inf) _ _ _ _ h2, Finite.entry x3 _ (fun _ => Finite.ofBits_inf) _ _ _ _ h3⟩

section
open Cert.AttnIdeal Cert.AttnIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
local notation "𝕄" => MT nD τ sig Unit (Elt Ideal) ℕ (UR sig nD τ) ℕ
variable (m : (ℓ : Loc nD τ sig) → Buf (Elt Ideal) ℓ) (ρ : Dev nD → PrngReg)

set_option backward.isDefEq.respectTransparency.types false in
/-- Every buffer of the calls ends as the last stage leaves it. -/
theorem run_main : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)
end

open Cert.AttnIdeal Cert.AttnIdeal.Gen in
/-- The three gradients are the reference's. -/
theorem algebraic : Cert.algebraic_AttnIdeal_AttnRefIdeal_pre_attn_finite := by
  intro m g m' g' hpre hagree
  have hf := fun c => finite (congrFun (hpre c) ix0)
  refine ⟨fun c => W4 m g c main_v10_0, fun c => W4 m g c main_v13, fun c => W4 m g c main_v16, ?_, ?_⟩
  · refine θ_run_mono (run_main m g) fun r h c => ?_
    exact ⟨h c _ (mem_uc main_v10_0 (by decide)), h c _ (mem_uc main_v13 (by decide)), h c _ (mem_uc main_v16 (by decide)),
      (h c _ (mem_uc main_arg0 (by decide))).trans (W4_main_arg0 m g c), (h c _ (mem_uc main_arg1 (by decide))).trans (W4_main_arg1 m g c),
      (h c _ (mem_uc main_arg2 (by decide))).trans (W4_main_arg2 m g c), (h c _ (mem_uc main_arg3 (by decide))).trans (W4_main_arg3 m g c)⟩
  · refine θ_run_mono (Cert.AttnRefIdeal.Value.run m' g') fun r h c => ?_
    obtain ⟨h0, h1, h2, h3⟩ := h c
    obtain ⟨a0, a1, a2, a3⟩ := hagree c
    obtain ⟨f0, f1, f2, f3⟩ := hf c
    refine ⟨h0.trans ?_, h1.trans ?_, h2.trans ?_, h3⟩
    · rw [Cert.AttnRefIdeal.Read.val_main_v60_eq, a0, a1, a2, a3]
      exact (dq_eq m g (fun n l => f0 (ix2 n l)) (fun n l => f1 (ix2 n l)) (fun n l => f2 (ix2 n l)) (fun n l => f3 (ix2 n l))).symm
    · rw [Cert.AttnRefIdeal.Read.val_main_v59_eq, a0, a1, a2, a3]
      exact (dk_eq m g (fun n l => f0 (ix2 n l)) (fun n l => f1 (ix2 n l)) (fun n l => f2 (ix2 n l)) (fun n l => f3 (ix2 n l))).symm
    · rw [Cert.AttnRefIdeal.Read.val_main_v58_eq, a0, a1, a3]
      exact (dv_eq m g (fun n l => f0 (ix2 n l)) (fun n l => f1 (ix2 n l)) (fun n l => f2 (ix2 n l)) (fun n l => f3 (ix2 n l))).symm

end Cert.Attention
end
-- ==== Proof.RmsNorm.lean ====
/- The root-mean-square norm of a row and its gradient: the form the kernels compute, the form the derivative of the norm gives. -/
module

public import proofs.«01_k».proof.Proof.Softmax
public import Idealize.ShloMosaic.PureOps.Ideal.Laws

@[expose] public section

noncomputable section

namespace Cert.RmsNorm

open Idealize.ShloMosaic

/-! ### The float words -/

theorem w_1024 : Ideal.ofBits FTy.f32 0x44800000#32 = ((1024 : ℝ) : EReal) := by
  simp [Ideal.ofBits, Ideal.ieee, -EReal.coe_mul]; norm_num

theorem w_128 : Ideal.ofBits FTy.f32 0x43000000#32 = ((128 : ℝ) : EReal) := by
  simp [Ideal.ofBits, Ideal.ieee, -EReal.coe_mul]; norm_num

theorem w_neg_half : Ideal.ofBits FTy.f32 0xBF000000#32 = ((-(1 / 2) : ℝ) : EReal) := by
  simp [Ideal.ofBits, Ideal.ieee, -EReal.coe_mul]; norm_num

/-- The small number the norm adds under its root. -/
theorem w_eps : Ideal.ofBits FTy.f32 0x358637BD#32 = ((8796093 / 2 ^ 43 : ℝ) : EReal) := by
  simp [Ideal.ofBits, Ideal.ieee, -EReal.coe_mul]; norm_num

/-- A sum of products of reals is a real. -/
theorem dot_real {m : ℕ} {a b : Fin m → EReal} (ha : ∀ k, a k = (((a k).toReal : ℝ) : EReal))
    (hb : ∀ k, b k = (((b k).toReal : ℝ) : EReal)) : ∃ d : ℝ, ∑ k, a k * b k = (d : EReal) := by
  refine ⟨∑ k, (a k).toReal * (b k).toReal, ?_⟩
  rw [← Softmax.coe_sum]
  exact Finset.sum_congr rfl fun k _ => by rw [EReal.coe_mul, ← ha, ← hb]

/-! ### The row -/

variable {n : ℕ}

/-- The mean of the squares of a row, and the small number. -/
def var (c e : EReal) (x : Fin n → EReal) : EReal := Ideal.div (∑ k, x k * x k) c + e

/-- What the norm multiplies a row by. -/
def inv (c e : EReal) (x : Fin n → EReal) : EReal := Ideal.rsqrt (var c e x)

/-- The gradient in the kernels' form. -/
def kgrad (c e : EReal) (x g d : Fin n → EReal) (l : Fin n) : EReal :=
  inv c e x * (d l * g l - x l * inv c e x * Ideal.div (∑ k, d k * g k * (x k * inv c e x)) c)

/-- What the derivative of the root sends back to each entry of the row, but for the entry itself. -/
def back (c e h : EReal) (x g d : Fin n → EReal) : EReal :=
  Ideal.div ((∑ k, x k * (d k * g k)) * (h * Ideal.div (inv c e x) (var c e x))) c

theorem var_coe {c ε : ℝ} (hc : 0 < c) (x : Fin n → ℝ) :
    var (c : EReal) (ε : EReal) (fun k => ((x k : ℝ) : EReal)) = (((∑ k, x k * x k) / c + ε : ℝ) : EReal) := by
  unfold var
  simp only [← EReal.coe_mul, Softmax.coe_sum, Softmax.div_coe hc.ne', ← EReal.coe_add]

theorem var_pos {c ε : ℝ} (hc : 0 < c) (hε : 0 < ε) (x : Fin n → ℝ) : 0 < (∑ k, x k * x k) / c + ε := by
  have h : 0 ≤ ∑ k, x k * x k := Finset.sum_nonneg fun k _ => mul_self_nonneg _
  positivity

theorem inv_coe {c ε : ℝ} (hc : 0 < c) (hε : 0 < ε) (x : Fin n → ℝ) :
    inv (c : EReal) (ε : EReal) (fun k => ((x k : ℝ) : EReal))
      = (((Real.sqrt ((∑ k, x k * x k) / c + ε))⁻¹ : ℝ) : EReal) := by
  have h := var_pos hc hε x
  unfold inv
  rw [var_coe hc, Ideal.rsqrt_coe, if_neg (not_lt.mpr h.le), if_neg h.ne']

/-- The two forms of the gradient are one, over rows of reals; `y` is the cotangent that reaches the row past the norm. -/
theorem grad_eq {c ε : ℝ} (hc : 0 < c) (hε : 0 < ε) (x g d : Fin n → ℝ) (y : EReal) (l : Fin n) :
    y + kgrad (c : EReal) (ε : EReal) (fun k => ((x k : ℝ) : EReal)) (fun k => ((g k : ℝ) : EReal)) (fun k => ((d k : ℝ) : EReal)) l
      = y + (d l : EReal) * (g l : EReal) * inv (c : EReal) (ε : EReal) (fun k => ((x k : ℝ) : EReal))
        + (x l : EReal) * back (c : EReal) (ε : EReal) ((-(1 / 2) : ℝ) : EReal) (fun k => ((x k : ℝ) : EReal))
            (fun k => ((g k : ℝ) : EReal)) (fun k => ((d k : ℝ) : EReal))
        + back (c : EReal) (ε : EReal) ((-(1 / 2) : ℝ) : EReal) (fun k => ((x k : ℝ) : EReal))
            (fun k => ((g k : ℝ) : EReal)) (fun k => ((d k : ℝ) : EReal)) * (x l : EReal) := by
  have hv := var_pos hc hε x
  unfold kgrad back
  rw [inv_coe hc hε, var_coe hc]
  simp only [← EReal.coe_mul, Softmax.coe_sum, Softmax.div_coe hc.ne', Softmax.div_coe hv.ne', ← EReal.coe_sub]
  rw [add_assoc, add_assoc, ← EReal.coe_add, ← EReal.coe_add]
  congr 2
  have hs : Real.sqrt ((∑ k, x k * x k) / c + ε) ^ 2 = (∑ k, x k * x k) / c + ε := Real.sq_sqrt hv.le
  have hp : 0 < Real.sqrt ((∑ k, x k * x k) / c + ε) := Real.sqrt_pos.mpr hv
  rw [← hs]
  generalize hσ : Real.sqrt ((∑ k, x k * x k) / c + ε) = σ at hp ⊢
  have e : ∑ k, d k * g k * (x k * σ⁻¹) = (∑ k, x k * (d k * g k)) * σ⁻¹ := by
    rw [Finset.sum_mul]
    exact Finset.sum_congr rfl fun k _ => by ring
  rw [Real.sqrt_sq hp.le, e]
  field_simp
  ring

end Cert.RmsNorm

end
-- ==== Proof.FfnAct.lean ====
/- The gradient of a feed-forward block's gate: a block of the kernel, and the reference's arrays, entry by entry. -/
module

public import proofs.«01_k».proof.Proof.Gen.FfnActIdeal.Value
public import proofs.«01_k».proof.Proof.Gen.FfnActRefIdeal.Read
public import proofs.«01_k».proof.Proof.Sigmoid
public import Idealize.ShloMosaic.Lib.Pipeline.ValueKit
public import Idealize.ShloMosaic.Lib.Pointwise

@[expose] public section

set_option maxRecDepth 16384

noncomputable section

namespace Cert.FfnAct

open Cert.FfnActIdeal Cert.FfnActIdeal.Gen
open Idealize.ShloMosaic Idealize.ShloMosaic.TcCoe Idealize.SL.Sem
open Cert.FfnActRefIdeal.Read

abbrev half : EReal := Ideal.ofBits FTy.f32 0x3F000000#32

/-- The logistic function, as the kernel computes it. -/
abbrev tgate (a : EReal) : EReal := half * Ideal.tanh (half * a) + half

/-- The kernel's gradients of the two factors: `s` the product with the down weight. -/
abbrev kA (s a b : EReal) : EReal := half * s * b * tgate a * (1 + a * (1 - tgate a))
abbrev kB (s a : EReal) : EReal := half * s * a * tgate a

section
variable (x0 : Vec Ideal S512x1024 .bf16) (x1 : Vec Ideal S4x1x704x1024 .bf16) (x2 x3 : Vec Ideal S4x512x704 .bf16)

theorem out_4 (y : S4x512x704.Idx) : out0_4 x0 x1 x2 x3 y
    = kA (∑ l : Fin 1024, x0 (ix2 (y 1) l) * x1 (ix4 (y 0) 0 (y 2) l)) (x2 y) (x3 y) := by
  unfold_out out0_4
  canon_tiles x h
  all_goals (open_payloads; pointwise [h0, h1, h2, kA, tgate]; blk_point [h0, h1, h2])

theorem out_5 (y : S4x512x704.Idx) : out0_5 x0 x1 x2 x3 y
    = kB (∑ l : Fin 1024, x0 (ix2 (y 1) l) * x1 (ix4 (y 0) 0 (y 2) l)) (x2 y) := by
  unfold_out out0_5
  canon_tiles x h
  all_goals (open_payloads; pointwise [h0, h1, h2, kB, tgate]; blk_point [h0, h1, h2])

end

/-- The column of the whole array that column `k` of quarter `j` is. -/
def col (j : Fin 4) (k : Fin 704) : Fin 2816 := ⟨j.val * 704 + k.val, by omega⟩

/-! ### The reference's arrays -/

section
variable (x0 x1 : FVec Ideal S4096x2816 .f32) (x2 : FVec Ideal S2x2816x1024 .f32) (x3 : FVec Ideal S4096x1024 .f32)

/-- The reference's gradients of the two factors: `p` the cotangent of their product. -/
abbrev rA (p a b : EReal) : EReal := p * b * Sigmoid.gate a + a * (p * b) * (Sigmoid.gate a * (1 - Sigmoid.gate a))
abbrev rB (p a : EReal) : EReal := a * Sigmoid.gate a * p

theorem rgate (i : S4096x2816.Idx) : val_main_v0_2 (F := Ideal) x0 i = Sigmoid.gate (x0 i) := by
  idx_vars i
  pointwise [val_main_v0_2, val_main_call0_v4, val_main_call0_v3, val_main_call0_v2, val_main_call0_v1, val_main_call0_v0,
    val_main_call0_cst, val_main_call0_cst_0]
  rfl

theorem rp (r : Fin 4096) (k : Fin 2816) : val_main_v9 (F := Ideal) x2 x3 (ix2 r k)
    = ∑ l : Fin 1024, half * x3 (ix2 r l) * x2 (ix3 0 k l) := by
  pointwise [val_main_v9, val_main_v8, val_main_v7, val_main_v3, val_main_v2, val_main_cst_0]

theorem ref_a (j : Fin 4) (r : Fin 4096) (k : Fin 704) : val_main_v15 (F := Ideal) x0 x1 x2 x3 (ix3 j r k)
    = rA (∑ l : Fin 1024, half * x3 (ix2 r l) * x2 (ix3 0 (col j k) l)) (x0 (ix2 r (col j k))) (x1 (ix2 r (col j k))) := by
  have e : val_main_v15 (F := Ideal) x0 x1 x2 x3 (ix3 j r k) = val_main_v12 (F := Ideal) x0 x1 x2 x3 (ix2 r (col j k)) := by
    unfold col
    pointwise [val_main_v15, val_main_v14, val_main_v13]
  rw [e]
  pointwise [val_main_v12, val_main_call1_v2, val_main_call1_v1, val_main_call1_v0, val_main_v11, val_main_v0_1,
    val_main_call0_v7, val_main_call0_v6, val_main_call0_cst_1]
  rw [rgate, rp]

theorem ref_b (j : Fin 4) (r : Fin 4096) (k : Fin 704) : val_main_v18 (F := Ideal) x0 x2 x3 (ix3 j r k)
    = rB (∑ l : Fin 1024, half * x3 (ix2 r l) * x2 (ix3 0 (col j k) l)) (x0 (ix2 r (col j k))) := by
  have e : val_main_v18 (F := Ideal) x0 x2 x3 (ix3 j r k) = val_main_v10 (F := Ideal) x0 x2 x3 (ix2 r (col j k)) := by
    unfold col
    pointwise [val_main_v18, val_main_v17, val_main_v16]
  rw [e]
  pointwise [val_main_v10, val_main_v0_0]
  rw [rgate, rp]

end

end Cert.FfnAct

end
-- ==== Proof.GlaPost.lean ====
/- The gradient of the gated linear attention's output norm and gate: a block of the kernel, and the reference's arrays, entry by entry. -/
module

public import proofs.«01_k».proof.Proof.Gen.GlaPostIdeal.Value
public import proofs.«01_k».proof.Proof.Gen.GlaPostRefIdeal.Read
public import proofs.«01_k».proof.Proof.RmsNorm
public import proofs.«01_k».proof.Proof.FfnAct
public import Idealize.ShloMosaic.Lib.Pipeline.ValueKit
public import Idealize.ShloMosaic.Lib.Pointwise

@[expose] public section

set_option maxRecDepth 16384

noncomputable section

namespace Cert.GlaPost

open Cert.GlaPostIdeal Cert.GlaPostIdeal.Gen Cert.RmsNorm
open Idealize.ShloMosaic Idealize.ShloMosaic.TcCoe Idealize.SL.Sem
open Cert.GlaPostRefIdeal.Read
open Cert.FfnAct (half tgate)

/-- The length of a head's row, as the programs' float word. -/
abbrev len : EReal := Ideal.ofBits FTy.f32 0x43000000#32
abbrev eps : EReal := Ideal.ofBits FTy.f32 0x358637BD#32
abbrev nhalf : EReal := Ideal.ofBits FTy.f32 0xBF000000#32

/-- The column of the whole row that column `k` of head `h` is. -/
def col (h : Fin 4) (k : Fin 128) : Fin 512 := ⟨h.val * 128 + k.val, by omega⟩

theorem col_cases (l : Fin 512) : ∃ h k, l = col h k :=
  ⟨⟨l.val / 128, by omega⟩, ⟨l.val % 128, by omega⟩, Fin.ext (by unfold col; dsimp only; omega)⟩

theorem c_0 (k : Fin 128) (h : k.val < 512) : (⟨k.val, h⟩ : Fin 512) = col 0 k := Fin.ext (Nat.zero_add _).symm
theorem c_1 (k : Fin 128) (h : 128 + k.val < 512) : (⟨128 + k.val, h⟩ : Fin 512) = col 1 k := rfl
theorem c_2 (k : Fin 128) (h : 256 + k.val < 512) : (⟨256 + k.val, h⟩ : Fin 512) = col 2 k := rfl
theorem c_3 (k : Fin 128) (h : 384 + k.val < 512) : (⟨384 + k.val, h⟩ : Fin 512) = col 3 k := rfl

/-! ### The kernel's block -/

/-- The cotangent of the norm's output. -/
abbrev kdh (y z : EReal) : EReal := y * z * tgate z

/-- The gradient of the gate: `n` the norm's output. -/
abbrev kgate (y n z : EReal) : EReal := y * n * tgate z * (1 + z * (1 - tgate z))

section
variable (y : Vec Ideal S256x512 .f32) (a b : Vec Ideal S256x512 .f32) (z : Vec Ideal S256x512 .bf16) (g : Vec Ideal S1x128 .f32)

/-- What the kernel stores of the gradient of the recurrence's output. -/
def out5 : FVec Ideal S256x512 .f32 := k0_pay1 (k0_pay17 (k0_pay5 g) (k0_pay6 a b) (k0_pay9 z) (k0_pay10 y) (k0_pay11 z))
  (k0_pay29 (k0_pay5 g) (k0_pay6 a b) (k0_pay19 (k0_pay7 z)) (k0_pay20 y) (k0_pay21 (k0_pay7 z)))
  (k0_pay40 (k0_pay5 g) (k0_pay6 a b) (k0_pay31 (k0_pay7 z)) (k0_pay32 y) (k0_pay33 (k0_pay7 z)))
  (k0_pay47 y (k0_pay7 z)) (k0_pay48 (k0_pay6 a b)) (k0_pay49 (k0_pay6 a b)) (k0_pay51 (k0_pay5 g))

/-- What the kernel stores of the gradient of the gate. -/
def out6 : FVec Ideal S256x512 .f32 := k0_pay2 (k0_pay12 y a b z g)
  (k0_pay24 (k0_pay5 g) (k0_pay19 (k0_pay7 z)) (k0_pay20 y) (k0_pay21 (k0_pay7 z)) (k0_pay22 (k0_pay6 a b)) (k0_pay23 (k0_pay6 a b)))
  (k0_pay34 (k0_pay5 g) (k0_pay6 a b) (k0_pay31 (k0_pay7 z)) (k0_pay32 y) (k0_pay33 (k0_pay7 z)))
  (k0_pay45 y (k0_pay5 g) (k0_pay6 a b) (k0_pay7 z))

/-- What the kernel stores of the gradient of the norm's gain, over what it finds there. -/
def out7 (acc : Vec Ideal S1x128 .f32) : FVec Ideal S1x128 .f32 := k0_pay4 (k0_pay41 (k0_pay30 (k0_pay6 a b) (k0_pay18 (k0_pay6 a b) k0_pay8 (k0_pay9 z) (k0_pay10 y) (k0_pay11 z)) (k0_pay19 (k0_pay7 z))
    (k0_pay20 y) (k0_pay21 (k0_pay7 z))) (k0_pay39 (k0_pay6 a b) (k0_pay31 (k0_pay7 z)) (k0_pay32 y) (k0_pay33 (k0_pay7 z))))
  (k0_pay50 y (k0_pay6 a b) (k0_pay7 z)) acc

/-- The row of head `h`. -/
abbrev hrow (h : Fin 4) (r : Fin 256) : Fin 128 → EReal := fun k => a (ix2 r (col h k)) + b (ix2 r (col h k))

abbrev kx (h : Fin 4) (r : Fin 256) (k : Fin 128) : EReal :=
  kgrad len eps (hrow a b h r) (fun k => g (ix2 0 k)) (fun k => kdh (y (ix2 r (col h k))) (z (ix2 r (col h k)))) k

theorem kx_0 (r : Fin 256) (k : Fin 128) : k0_pay17 (k0_pay5 g) (k0_pay6 a b) (k0_pay9 z) (k0_pay10 y) (k0_pay11 z) (ix2 r k)
    = kx y a b z g 0 r k := by
  pointwise [k0_pay17, k0_pay5, k0_pay6, k0_pay9, k0_pay10, k0_pay11, k0_pay7, k0_pay13, k0_pay14, k0_pay15, k0_pay16]
  simp only [c_0]
  rfl

theorem kx_1 (r : Fin 256) (k : Fin 128) :
    k0_pay29 (k0_pay5 g) (k0_pay6 a b) (k0_pay19 (k0_pay7 z)) (k0_pay20 y) (k0_pay21 (k0_pay7 z)) (ix2 r k) = kx y a b z g 1 r k := by
  pointwise [k0_pay29, k0_pay5, k0_pay6, k0_pay7, k0_pay19, k0_pay20, k0_pay21, k0_pay22, k0_pay23, k0_pay24, k0_pay25, k0_pay26, k0_pay27, k0_pay28, k0_pay29]
  simp only [c_1]
  rfl

theorem kx_2 (r : Fin 256) (k : Fin 128) :
    k0_pay40 (k0_pay5 g) (k0_pay6 a b) (k0_pay31 (k0_pay7 z)) (k0_pay32 y) (k0_pay33 (k0_pay7 z)) (ix2 r k) = kx y a b z g 2 r k := by
  pointwise [k0_pay40, k0_pay5, k0_pay6, k0_pay7, k0_pay31, k0_pay32, k0_pay33, k0_pay34, k0_pay35, k0_pay36, k0_pay37, k0_pay38, k0_pay39]
  simp only [c_2]
  rfl

/-- The gradient of the recurrence's output. -/
theorem kO (h : Fin 4) (r : Fin 256) (k : Fin 128) : out5 y a b z g (ix2 r (col h k)) = kx y a b z g h r k := by
  unfold col out5
  fin_cases h
  · pointwise [k0_pay1]
    exact kx_0 y a b z g r k
  · pointwise [k0_pay1]
    exact kx_1 y a b z g r k
  · pointwise [k0_pay1]
    have e : 256 + k.val - 128 - 128 = k.val := by omega
    rw [dif_neg (by omega), dif_neg (by omega), dif_pos (by omega)]
    simp only [e]
    exact kx_2 y a b z g r k
  · pointwise [k0_pay1, k0_pay5, k0_pay6, k0_pay7, k0_pay42, k0_pay43, k0_pay44, k0_pay45, k0_pay46, k0_pay47, k0_pay48, k0_pay49, k0_pay50, k0_pay51]
    have e : 384 + k.val - 128 - 128 - 128 = k.val := by omega
    rw [dif_neg (by omega), dif_neg (by omega), dif_neg (by omega)]
    simp only [e, c_3]
    rfl

abbrev kn (h : Fin 4) (r : Fin 256) (k : Fin 128) : EReal :=
  kgate (y (ix2 r (col h k))) (hrow a b h r k * inv len eps (hrow a b h r) * g (ix2 0 k)) (z (ix2 r (col h k)))

/-- The gradient of the gate. -/
theorem kZ (h : Fin 4) (r : Fin 256) (k : Fin 128) : out6 y a b z g (ix2 r (col h k)) = kn y a b z g h r k := by
  unfold col out6
  fin_cases h
  · pointwise [k0_pay2, k0_pay12, k0_pay5, k0_pay6, k0_pay7, k0_pay9, k0_pay10, k0_pay11]
    simp only [c_0]
    rfl
  · pointwise [k0_pay2, k0_pay24, k0_pay5, k0_pay6, k0_pay7, k0_pay19, k0_pay20, k0_pay21, k0_pay22, k0_pay23]
    simp only [c_1]
    rfl
  · pointwise [k0_pay2, k0_pay34, k0_pay5, k0_pay6, k0_pay7, k0_pay31, k0_pay32, k0_pay33]
    have e : 256 + k.val - 128 - 128 = k.val := by omega
    rw [dif_neg (by omega), dif_neg (by omega), dif_pos (by omega)]
    simp only [e, c_2]
    rfl
  · pointwise [k0_pay2, k0_pay45, k0_pay5, k0_pay6, k0_pay7, k0_pay42, k0_pay43, k0_pay44]
    have e : 384 + k.val - 128 - 128 - 128 = k.val := by omega
    rw [dif_neg (by omega), dif_neg (by omega), dif_neg (by omega)]
    simp only [e, c_3]
    rfl

/-- One block's term of the gradient of the norm's gain. -/
theorem kG (acc : Vec Ideal S1x128 .f32) (j : S1x128.Idx) : out7 y a b z acc j
    = acc j + ∑ r : Fin 256, ∑ h : Fin 4, kdh (y (ix2 r (col h (j 1)))) (z (ix2 r (col h (j 1))))
        * (hrow a b h r (j 1) * inv len eps (hrow a b h r)) := by
  idx_vars j
  obtain rfl : j0 = 0 := Subsingleton.elim _ _
  unfold out7
  pointwise [k0_pay4, k0_pay41, k0_pay30, k0_pay18, k0_pay8, k0_pay9, k0_pay10, k0_pay11, k0_pay19, k0_pay20, k0_pay21, k0_pay31, k0_pay32, k0_pay33, k0_pay39, k0_pay50, k0_pay6, k0_pay7, k0_pay13, k0_pay14, k0_pay15, k0_pay16, k0_pay25, k0_pay26, k0_pay27, k0_pay28, k0_pay35, k0_pay36, k0_pay37, k0_pay38, k0_pay42, k0_pay43, k0_pay44, k0_pay46, k0_pay47, k0_pay48, k0_pay49]
  simp only [c_0, c_1, c_2, c_3]
  rw [Finset.sum_comm, Fin.sum_univ_four]
  rfl

theorem kzero (j : S1x128.Idx) : k0_pay3 (F := Ideal) j = 0 := by
  pointwise! [k0_pay3]

end

/-! ### The reference's arrays -/

section
variable (x0 x1 x2 x4 : FVec Ideal S4096x512 .f32) (x3 : FVec Ideal S128 .f32)

/-- The row of head `h`. -/
abbrev rrow (h : Fin 4) (r : Fin 4096) : Fin 128 → EReal := fun k => x0 (ix2 r (col h k)) + x1 (ix2 r (col h k))

/-- The cotangent of the norm's output. -/
abbrev rdh (h : Fin 4) (r : Fin 4096) : Fin 128 → EReal := fun k =>
  x4 (ix2 r (col h k)) * (x2 (ix2 r (col h k)) * Sigmoid.gate (x2 (ix2 r (col h k))))

theorem rgate (i : S4096x512.Idx) : val_main_v20_2 (F := Ideal) x2 i = Sigmoid.gate (x2 i) := by
  idx_vars i
  pointwise [val_main_v20_2, val_main_call0_v4, val_main_call0_v3, val_main_call0_v2, val_main_call0_v1, val_main_call0_v0,
    val_main_call0_cst, val_main_call0_cst_0]
  rfl

theorem ro (r : Fin 4096) (h : Fin 4) (k : Fin 128) : val_main_v2 (F := Ideal) x0 x1 (ix3 r h k) = rrow x0 x1 h r k := by
  unfold rrow col
  pointwise [val_main_v2, val_main_v1, val_main_v0]

theorem rd (r : Fin 4096) (h : Fin 4) (k : Fin 128) : val_main_v25 (F := Ideal) x2 x4 (ix3 r h k) = rdh x2 x4 h r k := by
  have e : val_main_v25 (F := Ideal) x2 x4 (ix3 r h k) = val_main_v23 (F := Ideal) x2 x4 (ix2 r (col h k)) := by
    unfold col
    pointwise [val_main_v25]
  rw [e]
  pointwise [val_main_v23, val_main_v20_0]
  rw [rgate]

theorem rvar (r : Fin 4096) (h : Fin 4) : val_main_v9 (F := Ideal) x0 x1 (ix3 r h 0) = var len eps (rrow x0 x1 h r) := by
  pointwise [val_main_v9, val_main_v8, val_main_v7, val_main_v6, val_main_v5, val_main_v4, val_main_v3, val_main_cst,
    val_main_cst_0, val_main_cst_1]
  simp only [ro]
  rfl

theorem rinv (r : Fin 4096) (h : Fin 4) : val_main_v10 (F := Ideal) x0 x1 (ix3 r h 0) = inv len eps (rrow x0 x1 h r) := by
  pointwise [val_main_v10]
  rw [rvar]
  rfl

theorem rxh (r : Fin 4096) (h : Fin 4) (k : Fin 128) :
    val_main_v15 (F := Ideal) x0 x1 (ix3 r h k) = rrow x0 x1 h r k * inv len eps (rrow x0 x1 h r) := by
  pointwise [val_main_v15, val_main_v14]
  rw [rinv, ro]

/-- The host's sum along the two leading axes. -/
theorem sum_rows {n0 n1 n2 : ℕ} (h : (⟨3, ![n0, n1, n2]⟩ : Shape).ReducesTo [0, 1] ⟨1, ![n2]⟩)
    (v : (⟨3, ![n0, n1, n2]⟩ : Shape).Idx → EReal) (e : EReal) (l : Fin n2) :
    Ideal.hostReduceAdd h v e (ix1 l) = e + ∑ r : Fin n0, ∑ k : Fin n1, v (ix3 r k l) := by
  unfold Ideal.hostReduceAdd
  rw [Finset.sum_filter_eq_sum_of_fiber (fun i => h.drop i = ix1 l) (fun q : Fin n0 × Fin n1 => ix3 q.1 q.2 l)
    (fun p q hpq => Prod.ext (congrFun hpq 0) (congrFun hpq 1)) (fun i => ?_) v, Fintype.sum_prod_type]
  refine ⟨fun he => ⟨(i 0, i 1), funext fun x => ?_⟩, ?_⟩
  · fin_cases x
    · rfl
    · rfl
    · exact Fin.ext (congrArg Fin.val (congrFun he 0)).symm
  · rintro ⟨q, rfl⟩
    funext x
    obtain rfl : x = 0 := Subsingleton.elim _ _
    rfl

theorem rG (j : S1x128.Idx) : val_main_v47 (F := Ideal) x0 x1 x2 x4 j
      = ∑ r : Fin 4096, ∑ h : Fin 4, rrow x0 x1 h r (j 1) * inv len eps (rrow x0 x1 h r) * rdh x2 x4 h r (j 1) := by
  idx_vars j
  obtain rfl : j0 = 0 := Subsingleton.elim _ _
  pointwise [val_main_v47, val_main_v31, val_main_v28, val_main_v27, val_main_v26, val_main_cst_3, val_main_cst_4]
  simp only [sum_rows, zero_add]
  pointwise
  simp only [sum_rows, zero_add, Fin.sum_univ_one]
  pointwise
  simp only [rxh, rd]

theorem rback (r : Fin 4096) (h : Fin 4) (k : Fin 128) : val_main_v41 (F := Ideal) x0 x1 x2 x3 x4 (ix3 r h k)
      = back len eps nhalf (rrow x0 x1 h r) (fun k => x3 (ix1 k)) (rdh x2 x4 h r) := by
  pointwise [val_main_v41, val_main_v40, val_main_v39, val_main_v38, val_main_v37, val_main_v34, val_main_v33, val_main_v32,
    val_main_v30, val_main_v29, val_main_v16, val_main_v13, val_main_v12, val_main_v11, val_main_cst_2, val_main_cst_5,
    val_main_cst_6, val_main_cst_7]
  simp only [Fin.sum_univ_one, rinv, rvar, ro, rd]
  rfl

theorem rO (r : Fin 4096) (h : Fin 4) (k : Fin 128) : val_main_v46 (F := Ideal) x0 x1 x2 x3 x4 (ix2 r (col h k))
      = rdh x2 x4 h r k * x3 (ix1 k) * inv len eps (rrow x0 x1 h r)
        + rrow x0 x1 h r k * back len eps nhalf (rrow x0 x1 h r) (fun k => x3 (ix1 k)) (rdh x2 x4 h r)
        + back len eps nhalf (rrow x0 x1 h r) (fun k => x3 (ix1 k)) (rdh x2 x4 h r) * rrow x0 x1 h r k := by
  have e : val_main_v46 (F := Ideal) x0 x1 x2 x3 x4 (ix2 r (col h k)) = val_main_v45 (F := Ideal) x0 x1 x2 x3 x4 (ix3 r h k) := by
    unfold col
    pointwise [val_main_v46]
  rw [e]
  pointwise [val_main_v45, val_main_v44, val_main_v43, val_main_v42, val_main_v36, val_main_v35, val_main_v30,
    val_main_v29, val_main_v16]
  rw [rback, rinv, ro, rd]

theorem rZ (r : Fin 4096) (h : Fin 4) (k : Fin 128) : val_main_v24 (F := Ideal) x0 x1 x2 x3 x4 (ix2 r (col h k))
      = rrow x0 x1 h r k * inv len eps (rrow x0 x1 h r) * x3 (ix1 k) * x4 (ix2 r (col h k)) * Sigmoid.gate (x2 (ix2 r (col h k)))
        + x2 (ix2 r (col h k)) * (rrow x0 x1 h r k * inv len eps (rrow x0 x1 h r) * x3 (ix1 k) * x4 (ix2 r (col h k)))
          * (Sigmoid.gate (x2 (ix2 r (col h k))) * (1 - Sigmoid.gate (x2 (ix2 r (col h k))))) := by
  have e : val_main_v19 (F := Ideal) x0 x1 x3 (ix2 r (col h k)) = val_main_v18 (F := Ideal) x0 x1 x3 (ix3 r h k) := by
    unfold col
    pointwise [val_main_v19]
  pointwise [val_main_v24, val_main_call1_v2, val_main_call1_v1, val_main_call1_v0, val_main_v22, val_main_v20_1,
    val_main_call0_v7, val_main_call0_v6, val_main_call0_cst_1]
  rw [rgate, e]
  pointwise [val_main_v18, val_main_v17, val_main_v16]
  rw [rxh]

end

end Cert.GlaPost

end
-- ==== Proof.FfnActFinal.lean ====
/- The gradient of a feed-forward block's gate: the arrays after the run are the reference's. -/
module

public import proofs.«01_k».proof.Proof.FfnAct
public import proofs.«01_k».proof.Proof.RmsNorm
public import Idealize.ShloMosaic.Lib.Claim

@[expose] public section

set_option maxRecDepth 16384

noncomputable section

namespace Cert.FfnAct

open Cert.FfnActIdeal Cert.FfnActIdeal.Gen
open Idealize.ShloMosaic Idealize.ShloMosaic.TcCoe Idealize.SL.Sem
open Cert.FfnActRefIdeal.Read

/-! ### The two forms of each gradient, on reals -/

theorem gate_coe (a : ℝ) : Sigmoid.gate (a : EReal) = ((1 / (1 + Real.exp (-a)) : ℝ) : EReal) := by
  have hp : (1 : ℝ) + Real.exp (-a) ≠ 0 := by positivity
  rw [Sigmoid.gate, ← EReal.coe_neg, Ideal.exp_coe, show (1 : EReal) = ((1 : ℝ) : EReal) from rfl, ← EReal.coe_add,
    Softmax.div_coe hp]

/-- The factor one half outside the sum of products, or inside it. -/
theorem half_sum {n : ℕ} (v w : Fin n → ℝ) :
    (half * ∑ l, (v l : EReal) * (w l : EReal) = ((1 / 2 * ∑ l, v l * w l : ℝ) : EReal))
    ∧ ∑ l, half * (v l : EReal) * (w l : EReal) = ((1 / 2 * ∑ l, v l * w l : ℝ) : EReal) := by
  constructor
  · rw [show half = _ from Sigmoid.half, EReal.coe_mul, ← Softmax.coe_sum]
    simp only [EReal.coe_mul]
  · rw [show half = _ from Sigmoid.half, Finset.mul_sum, ← Softmax.coe_sum]
    exact Finset.sum_congr rfl fun l _ => by rw [← EReal.coe_mul, ← EReal.coe_mul, mul_assoc]

theorem grad_a {n : ℕ} (v w : Fin n → ℝ) (a b : ℝ) :
    kA (∑ l, (v l : EReal) * (w l : EReal)) a b = rA (∑ l, half * (v l : EReal) * (w l : EReal)) a b := by
  unfold kA rA tgate
  rw [(half_sum v w).1, (half_sum v w).2, Sigmoid.tanh_gate, gate_coe]
  generalize (1 / 2 * ∑ l, v l * w l : ℝ) = p
  generalize (1 / (1 + Real.exp (-a)) : ℝ) = g
  rw [show (1 : EReal) = ((1 : ℝ) : EReal) from rfl]
  simp only [← EReal.coe_mul, ← EReal.coe_sub, ← EReal.coe_add]
  congr 1
  ring

theorem grad_b {n : ℕ} (v w : Fin n → ℝ) (a : ℝ) :
    kB (∑ l, (v l : EReal) * (w l : EReal)) a = rB (∑ l, half * (v l : EReal) * (w l : EReal)) a := by
  unfold kB rB tgate
  rw [(half_sum v w).1, (half_sum v w).2, Sigmoid.tanh_gate]
  rw [mul_assoc, mul_comm]

variable (m : (ℓ : Loc nD τ sig) → Buf (Elt Ideal) ℓ)

section
variable (c : Dev nD)

/-- The arguments. -/
abbrev aA : FVec Ideal S4096x2816 .f32 := m ((c : Thread nD τ).loc main_arg0)
abbrev aB : FVec Ideal S4096x2816 .f32 := m ((c : Thread nD τ).loc main_arg1)
abbrev aW : FVec Ideal S2x2816x1024 .f32 := m ((c : Thread nD τ).loc main_arg2)
abbrev aY : FVec Ideal S4096x1024 .f32 := m ((c : Thread nD τ).loc main_arg3)

end

theorem idx : ∀ t : Fin cfg0.N, win0_0.index t = ![t.val, 0] ∧ win0_1.index t = ![0, 0, 0, 0] ∧ win0_2.index t = ![0, t.val, 0]
    ∧ win0_3.index t = ![0, t.val, 0] ∧ win0_4.index t = ![0, t.val, 0] ∧ win0_5.index t = ![0, t.val, 0] :=
  (by decide +kernel : ∀ t : Fin grid0.N, _)

/-- The row of the whole array that row `r` of block `t` is. -/
def row (t : Fin cfg0.N) (r : Fin 512) : Fin 4096 :=
  ⟨t.val * 512 + r.val, by have h : t.val < 8 := lt_of_lt_of_eq t.isLt (by decide); omega⟩

section
variable (c : Dev nD) (t : Fin cfg0.N)

theorem read_0 (r : Fin 512) (l : Fin 1024) :
    (show Vec Ideal S512x1024 .bf16 from iblk m c 0 t) (ix2 r l) = aY m c (ix2 (row t r) l) := by
  unfold row
  blk_point [iblk, V, idx t]

theorem read_1 (j : Fin 4) (k : Fin 704) (l : Fin 1024) :
    (show Vec Ideal S4x1x704x1024 .bf16 from iblk m c 1 t) (ix4 j 0 k l) = aW m c (ix3 0 (col j k) l) := by
  unfold col
  blk_point [iblk, V, idx t]

theorem read_2 (j : Fin 4) (r : Fin 512) (k : Fin 704) :
    (show Vec Ideal S4x512x704 .bf16 from iblk m c 2 t) (ix3 j r k) = aA m c (ix2 (row t r) (col j k)) := by
  unfold row col
  blk_point [iblk, V, idx t]

theorem read_3 (j : Fin 4) (r : Fin 512) (k : Fin 704) :
    (show Vec Ideal S4x512x704 .bf16 from iblk m c 3 t) (ix3 j r k) = aB m c (ix2 (row t r) (col j k)) := by
  unfold row col
  blk_point [iblk, V, idx t]

/-- The arguments are reals. -/
def Real (c : Dev nD) : Prop :=
  (∀ i, aA m c i = (((aA m c i : EReal).toReal : ℝ) : EReal)) ∧ (∀ i, aB m c i = (((aB m c i : EReal).toReal : ℝ) : EReal))
  ∧ (∀ i, aW m c i = (((aW m c i : EReal).toReal : ℝ) : EReal)) ∧ (∀ i, aY m c i = (((aY m c i : EReal).toReal : ℝ) : EReal))

variable {m c}

/-- The products with the down weight, over reals. -/
theorem sums (h : Real m c) (r : Fin 512) (j : Fin 4) (k : Fin 704) : ∃ v w : Fin 1024 → ℝ,
    (∑ l : Fin 1024, (show Vec Ideal S512x1024 .bf16 from iblk m c 0 t) (ix2 r l)
        * (show Vec Ideal S4x1x704x1024 .bf16 from iblk m c 1 t) (ix4 j 0 k l)) = (∑ l, ((v l : ℝ) : EReal) * ((w l : ℝ) : EReal))
    ∧ (∑ l : Fin 1024, half * aY m c (ix2 (row t r) l) * aW m c (ix3 0 (col j k) l))
        = ∑ l, half * ((v l : ℝ) : EReal) * ((w l : ℝ) : EReal) := by
  obtain ⟨-, -, hW, hY⟩ := h
  refine ⟨fun l => (aY m c (ix2 (row t r) l) : EReal).toReal, fun l => (aW m c (ix3 0 (col j k) l) : EReal).toReal, ?_, ?_⟩
  · exact Finset.sum_congr rfl fun l _ => congrArg₂ (· * ·) ((read_0 m c t r l).trans (hY _)) ((read_1 m c t j k l).trans (hW _))
  · exact Finset.sum_congr rfl fun l _ => congrArg₂ (· * ·) (congrArg (half * ·) (hY _)) (hW _)

variable (m c)

theorem point_4 (h : Real m c) (y : S4x512x704.Idx) : out0_4 (iblk m c 0 t) (iblk m c 1 t) (iblk m c 2 t) (iblk m c 3 t) y
    = val_main_v15 (F := Ideal) (aA m c) (aB m c) (aW m c) (aY m c) (ix3 (y 0) (row t (y 1)) (y 2)) := by
  idx_vars y
  refine (out_4 _ _ _ _ _).trans (Eq.trans ?_ (ref_a _ _ _ _ y0 (row t y1) y2).symm)
  obtain ⟨v, w, hs, hp⟩ := sums t h y1 y0 y2
  refine (congr (congr (congrArg kA hs) (read_2 m c t y0 y1 y2)) (read_3 m c t y0 y1 y2)).trans ?_
  rw [hp, h.1, h.2.1]
  exact grad_a v w _ _

theorem point_5 (h : Real m c) (y : S4x512x704.Idx) : out0_5 (iblk m c 0 t) (iblk m c 1 t) (iblk m c 2 t) (iblk m c 3 t) y
    = val_main_v18 (F := Ideal) (aA m c) (aW m c) (aY m c) (ix3 (y 0) (row t (y 1)) (y 2)) := by
  idx_vars y
  refine (out_5 _ _ _ _ _).trans (Eq.trans ?_ (ref_b _ _ _ y0 (row t y1) y2).symm)
  obtain ⟨v, w, hs, hp⟩ := sums t h y1 y0 y2
  refine (congr (congrArg kB hs) (read_2 m c t y0 y1 y2)).trans ?_
  rw [hp, h.1]
  exact grad_b v w _

theorem final_4 (h : Real m c) : (dats m 0 c).arrAt 4 cfg0.N
    = val_main_v15 (F := Ideal) (aA m c) (aB m c) (aW m c) (aY m c) := by
  refine (dats m 0 c).arrAt_eq_of_covers 4 _ (by decide +kernel) fun t hf y => ?_
  blk_simp
  rw [after0_4]
  refine (point_4 m c t h y).trans ?_
  unfold row
  blk_ext [idx t]

theorem final_5 (h : Real m c) : (dats m 0 c).arrAt 5 cfg0.N
    = val_main_v18 (F := Ideal) (aA m c) (aW m c) (aY m c) := by
  refine (dats m 0 c).arrAt_eq_of_covers 5 _ (by decide +kernel) fun t hf y => ?_
  blk_simp
  rw [after0_5]
  refine (point_5 m c t h y).trans ?_
  unfold row
  blk_ext [idx t]

end

end Cert.FfnAct

end
-- ==== Proof.GlaPostFinal.lean ====
/- The gradient of the gated linear attention's output norm and gate: the arrays after the run are the reference's. -/
module

public import proofs.«01_k».proof.Proof.GlaPost
public import proofs.«01_k».proof.Proof.FfnActFinal
public import Idealize.ShloMosaic.Lib.Claim

@[expose] public section

set_option maxRecDepth 16384

noncomputable section

namespace Cert.GlaPost

open Cert.GlaPostIdeal Cert.GlaPostIdeal.Gen Cert.RmsNorm
open Idealize.ShloMosaic Idealize.ShloMosaic.TcCoe Idealize.SL.Sem
open Cert.GlaPostRefIdeal.Read
open Cert.FfnAct (half tgate)

variable (m : (ℓ : Loc nD τ sig) → Buf (Elt Ideal) ℓ)

section
variable (c : Dev nD)

/-- The arguments. -/
abbrev aA : FVec Ideal S4096x512 .f32 := m ((c : Thread nD τ).loc main_arg0)
abbrev aB : FVec Ideal S4096x512 .f32 := m ((c : Thread nD τ).loc main_arg1)
abbrev aZ : FVec Ideal S4096x512 .f32 := m ((c : Thread nD τ).loc main_arg2)
abbrev aG : FVec Ideal S128 .f32 := m ((c : Thread nD τ).loc main_arg3)
abbrev aY : FVec Ideal S4096x512 .f32 := m ((c : Thread nD τ).loc main_arg4)

theorem host_z' : (show FVec Ideal S4096x3456 .bf16 from V m c main_v3)
    = truncf .bf16 (concatenate S4096x3456 1
        [⟨S4096x2048, broadcastInDim S4096x2048 ![] bcast_S_S4096x2048 (constant S_ FTy.f32 0#32)⟩,
         ⟨S4096x512, aZ m c⟩,
         ⟨S4096x896, broadcastInDim S4096x896 ![] bcast_S_S4096x896 (constant S_ FTy.f32 0#32)⟩]
        concatenates_S4096x2048_S4096x512_S4096x896_S4096x3456_d1) bitsLt_bf16_f32 := by
  unfold V hostOps0
  simp only [StableHlo.after_cons, StableHlo.after_nil]
  after_results_steps
  rfl

/-- The gate's columns of the projections. -/
theorem host_z (r : Fin 4096) (k : Fin 512) :
    (show FVec Ideal S4096x3456 .bf16 from V m c main_v3) (ix2 r ⟨2048 + k.val, by omega⟩) = aZ m c (ix2 r k) := by
  rw [host_z']
  generalize aZ m c = z
  pointwise

end

theorem idx : ∀ t : Fin cfg0.N, win0_0.index t = ![t.val, 0] ∧ win0_1.index t = ![t.val, 0] ∧ win0_2.index t = ![t.val, 0]
    ∧ win0_3.index t = ![t.val, 4] ∧ win0_4.index t = ![0, 0] ∧ win0_5.index t = ![t.val, 0] ∧ win0_6.index t = ![t.val, 0]
    ∧ win0_7.index t = ![0, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt N_0; omega⟩

section
variable (c : Dev nD) (t : Fin cfg0.N)

theorem read_0 (r : Fin 256) (l : Fin 512) : (show Vec Ideal S256x512 .f32 from iblk m c 0 t) (ix2 r l) = aY m c (ix2 (row t r) l) := by
  unfold row
  blk_point [iblk, V, idx t]

theorem read_1 (r : Fin 256) (l : Fin 512) : (show Vec Ideal S256x512 .f32 from iblk m c 1 t) (ix2 r l) = aA m c (ix2 (row t r) l) := by
  unfold row
  blk_point [iblk, V, idx t]

theorem read_2 (r : Fin 256) (l : Fin 512) : (show Vec Ideal S256x512 .f32 from iblk m c 2 t) (ix2 r l) = aB m c (ix2 (row t r) l) := by
  unfold row
  blk_point [iblk, V, idx t]

theorem read_3 (r : Fin 256) (l : Fin 512) : (show Vec Ideal S256x512 .bf16 from X0_3 m c t) (ix2 r l) = aZ m c (ix2 (row t r) l) := by
  refine Eq.trans ?_ (host_z m c (row t r) l)
  unfold row X0_3 Pipeline.Window.fill
  refine (dif_pos (moved0_3 t _)).trans ?_
  blk_ext [iblk, idx t]

theorem read_4 (l : Fin 128) : (show Vec Ideal S1x128 .f32 from iblk m c 4 t) (ix2 0 l) = aG m c (ix1 l) := by
  blk_point [iblk, V, idx t]

theorem hrow_eq (hd : Fin 4) (r : Fin 256) :
    hrow (iblk m c 1 t) (iblk m c 2 t) hd r = rrow (aA m c) (aB m c) hd (row t r) :=
  funext fun k => congrArg₂ (· + ·) (read_1 m c t r (col hd k)) (read_2 m c t r (col hd k))

theorem kdh_eq (hd : Fin 4) (r : Fin 256) (k : Fin 128) :
    kdh ((show Vec Ideal S256x512 .f32 from iblk m c 0 t) (ix2 r (col hd k))) ((show Vec Ideal S256x512 .bf16 from X0_3 m c t) (ix2 r (col hd k)))
      = rdh (aZ m c) (aY m c) hd (row t r) k := by
  rw [kdh, tgate, Sigmoid.tanh_gate, mul_assoc]
  exact congrArg₂ (fun y z => y * (z * Sigmoid.gate z)) (read_0 m c t r (col hd k)) (read_3 m c t r (col hd k))

/-- The arguments are reals. -/
def Real (c : Dev nD) : Prop :=
  (∀ i, aA m c i = (((aA m c i : EReal).toReal : ℝ) : EReal)) ∧ (∀ i, aB m c i = (((aB m c i : EReal).toReal : ℝ) : EReal))
  ∧ (∀ i, aZ m c i = (((aZ m c i : EReal).toReal : ℝ) : EReal)) ∧ (∀ i, aG m c i = (((aG m c i : EReal).toReal : ℝ) : EReal))
  ∧ (∀ i, aY m c i = (((aY m c i : EReal).toReal : ℝ) : EReal))

/-! ### A block against the reference -/

theorem gate_eq (y n z : ℝ) : kgate y n z
    = (n : EReal) * y * Sigmoid.gate z + z * (n * y) * (Sigmoid.gate z * (1 - Sigmoid.gate z)) := by
  rw [kgate, tgate, Sigmoid.tanh_gate, FfnAct.gate_coe]
  generalize (1 / (1 + Real.exp (-z)) : ℝ) = s
  rw [show (1 : EReal) = ((1 : ℝ) : EReal) from rfl]
  simp only [← EReal.coe_mul, ← EReal.coe_sub, ← EReal.coe_add]
  congr 1
  ring

variable {m c}

theorem row_real (h : Real m c) (hd : Fin 4) (r : Fin 4096) :
    rrow (aA m c) (aB m c) hd r
      = fun k => (((aA m c (ix2 r (col hd k))).toReal + (aB m c (ix2 r (col hd k))).toReal : ℝ) : EReal) :=
  funext fun k => by rw [rrow, h.1, h.2.1, EReal.coe_add]; rfl

theorem rdh_real (h : Real m c) (hd : Fin 4) (r : Fin 4096) (k : Fin 128) : ∃ d : ℝ,
    rdh (aZ m c) (aY m c) hd r k = (d : EReal) := by
  rw [rdh, h.2.2.1 (ix2 r (col hd k)), h.2.2.2.2 (ix2 r (col hd k)), FfnAct.gate_coe, ← EReal.coe_mul, ← EReal.coe_mul]
  exact ⟨_, rfl⟩

theorem point_5 (h : Real m c) (i : S256x512.Idx) :
    out5 (iblk m c 0 t) (iblk m c 1 t) (iblk m c 2 t) (X0_3 m c t) (iblk m c 4 t) i
      = val_main_v46 (F := Ideal) (aA m c) (aB m c) (aZ m c) (aG m c) (aY m c) (ix2 (row t (i 0)) (i 1)) := by
  idx_vars i
  obtain ⟨hd, k, rfl⟩ := col_cases i1
  refine (kO _ _ _ _ _ hd i0 k).trans ?_
  refine Eq.trans ?_ (rO _ _ _ _ _ (row t i0) hd k).symm
  have e0 := fun k => kdh_eq m c t hd i0 k
  have hR := hrow_eq m c t hd i0
  have h4 := fun k => read_4 m c t k
  dsimp only at e0 h4
  rw [kx, hR]
  simp only [e0, h4]
  choose d hd' using rdh_real h
  have e := row_real h hd (row t i0)
  have e' : rdh (aZ m c) (aY m c) hd (row t i0) = fun k => ((d hd (row t i0) k : ℝ) : EReal) := funext fun k => hd' hd _ k
  have hG : (fun k => aG m c (ix1 k)) = fun k => (((aG m c (ix1 k)).toReal : ℝ) : EReal) := funext fun k => h.2.2.2.1 _
  rw [e, e', hG, h.2.2.2.1 (ix1 k)]
  simp only [len, eps, nhalf, w_128, w_eps, w_neg_half]
  have f := grad_eq (c := 128) (ε := 8796093 / 2 ^ 43) (by norm_num) (by norm_num)
    (fun k => (aA m c (ix2 (row t i0) (col hd k))).toReal + (aB m c (ix2 (row t i0) (col hd k))).toReal) (fun k => (aG m c (ix1 k)).toReal) (d hd (row t i0)) 0 k
  rw [zero_add, zero_add] at f
  exact f

theorem point_6 (h : Real m c) (i : S256x512.Idx) :
    out6 (iblk m c 0 t) (iblk m c 1 t) (iblk m c 2 t) (X0_3 m c t) (iblk m c 4 t) i
      = val_main_v24 (F := Ideal) (aA m c) (aB m c) (aZ m c) (aG m c) (aY m c) (ix2 (row t (i 0)) (i 1)) := by
  idx_vars i
  obtain ⟨hd, k, rfl⟩ := col_cases i1
  refine (kZ _ _ _ _ _ hd i0 k).trans ?_
  refine Eq.trans ?_ (rZ _ _ _ _ _ (row t i0) hd k).symm
  have h0 := read_0 m c t i0 (col hd k)
  have h3 := read_3 m c t i0 (col hd k)
  have h4 := read_4 m c t k
  have hR := hrow_eq m c t hd i0
  dsimp only at h0 h3 h4
  rw [kn, hR, h0, h3, h4, row_real h hd (row t i0)]
  simp only [len, eps, w_128, w_eps]
  rw [inv_coe (by norm_num) (by norm_num), h.2.2.2.1 (ix1 k), h.2.2.1, h.2.2.2.2, ← EReal.coe_mul, ← EReal.coe_mul]
  exact gate_eq _ _ _

variable (m c)

theorem point_7 (r : Fin 256) (k : Fin 128) :
    (∑ hd : Fin 4, kdh ((show Vec Ideal S256x512 .f32 from iblk m c 0 t) (ix2 r (col hd k))) ((show Vec Ideal S256x512 .bf16 from X0_3 m c t) (ix2 r (col hd k)))
        * (hrow (iblk m c 1 t) (iblk m c 2 t) hd r k * inv len eps (hrow (iblk m c 1 t) (iblk m c 2 t) hd r)))
      = ∑ hd : Fin 4, rrow (aA m c) (aB m c) hd (row t r) k * inv len eps (rrow (aA m c) (aB m c) hd (row t r))
        * rdh (aZ m c) (aY m c) hd (row t r) k := by
  refine Finset.sum_congr rfl fun hd _ => ?_
  rw [kdh_eq, hrow_eq]
  exact mul_comm _ _

/-! ### The arrays after the run -/

theorem final_5 (h : Real m c) : (dats m 0 c).arrAt 5 cfg0.N
    = val_main_v46 (F := Ideal) (aA m c) (aB m c) (aZ m c) (aG m c) (aY m c) := by
  refine (dats m 0 c).arrAt_eq_of_covers 5 _ (by decide +kernel) fun t hf y => ?_
  blk_simp
  rw [after0_5]
  have e := point_5 t h y
  unfold out5 at e
  by_cases ht : t.val % 16 = 0
  · rw [outsAt0_A m c t ht]; frame_out; rw [e]; unfold row; blk_ext [idx t]
  · rw [outsAt0_B m c t ht]; frame_out; rw [e]; unfold row; blk_ext [idx t]

theorem final_6 (h : Real m c) : (dats m 0 c).arrAt 6 cfg0.N
    = val_main_v24 (F := Ideal) (aA m c) (aB m c) (aZ m c) (aG m c) (aY m c) := by
  refine (dats m 0 c).arrAt_eq_of_covers 6 _ (by decide +kernel) fun t hf y => ?_
  blk_simp
  rw [after0_6]
  have e := point_6 t h y
  unfold out6 at e
  by_cases ht : t.val % 16 = 0
  · rw [outsAt0_A m c t ht]; frame_out; rw [e]; unfold row; blk_ext [idx t]
  · rw [outsAt0_B m c t ht]; frame_out; rw [e]; unfold row; blk_ext [idx t]

theorem final_7 : (dats m 0 c).arrAt 7 cfg0.N
    = val_main_v47 (F := Ideal) (aA m c) (aB m c) (aZ m c) (aY m c) := by
  refine (dats m 0 c).arrAt_eq_of_after_last 7 t0_15 (by decide +kernel) _ fun j => ?_
  blk_simp
  have hk := kG
  unfold out7 at hk
  rw [after0_7, Pipeline.eq_sum_fin_of_reset_step_apply_last (fun n h => (outsAt0 m c n h).2.2) 16 (fun _ => 0) _
    (fun t h j => by rw [outsAt0_A m c t h]; frame_out; rw [hk, kzero])
    (fun t h j => by rw [outsAt0_B m c t h]; frame_out; rw [hk])
    (le_of_eq N_0) t0_15 rfl j, zero_add, rG]
  refine Fin.sum_mul_add_congr fun t r hl => ?_
  exact point_7 m c t r _

end

end Cert.GlaPost

end
-- ==== Proof.GlaPostClaim.lean ====
/- The claims about the gradient of the gated linear attention's output norm and gate. -/
module

public import proofs.«01_k».proof.Defs
public import proofs.«01_k».proof.Proof.Gen.GlaPost
public import proofs.«01_k».proof.Proof.Gen.GlaPost.Frame
public import proofs.«01_k».proof.Proof.Gen.GlaPostIdeal
public import proofs.«01_k».proof.Proof.Gen.GlaPostIdeal.Frame
public import proofs.«01_k».proof.Proof.Gen.GlaPostIdeal.Value
public import proofs.«01_k».proof.Proof.Gen.GlaPostRefIdeal
public import proofs.«01_k».proof.Proof.Gen.GlaPostRefIdeal.Run
public import proofs.«01_k».proof.Proof.Gen.GlaPostRefIdeal.Read
public import proofs.«01_k».proof.Proof.Gen.Pre_glapost_finite
public import proofs.«01_k».proof.Proof.GlaPostFinal
public import proofs.«01_k».proof.Proof.Finite
public import Idealize.ShloMosaic.Lib.Claim

@[expose] public section

set_option maxRecDepth 16384

noncomputable section

namespace Cert.GlaPost

open Idealize.ShloMosaic Idealize.ShloMosaic.TcCoe Idealize.SL.Sem

theorem frame_reference : Cert.quiescent_GlaPostRefIdeal := by
  intro m g _
  refine θ_run_mono (Cert.GlaPostRefIdeal.Value.run m g) fun r h => ⟨?_, sem_eq_zero_of_no_sems (by decide) r.2⟩
  intro c
  exact (h c).2.2.2

open Cert.GlaPostIdeal in
theorem reals {m : (ℓ : Loc nD τ sig) → Buf (Elt Ideal) ℓ} {c : Dev nD}
    (h : Cert.Pre_glapost_finite.fn (F := Ideal) (aA m c) (aB m c) (aZ m c) (aG m c) (aY m c) ix0 = 1#1) :
    Real m c := by
  dsimp only [Cert.Pre_glapost_finite.fn, Cert.Pre_glapost_finite.fn_part1] at h
  have hi : ∀ (p q : BitVec 1), IntOp.andi p q = 1#1 → p = 1#1 ∧ q = 1#1 := by decide
  obtain ⟨h, h4⟩ := hi _ _ h
  obtain ⟨h, h3⟩ := hi _ _ h
  obtain ⟨h, h2⟩ := hi _ _ h
  obtain ⟨h0, h1⟩ := hi _ _ h
  exact ⟨Finite.entry _ _ (fun _ => Finite.ofBits_inf) _ _ _ _ h0, Finite.entry _ _ (fun _ => Finite.ofBits_inf) _ _ _ _ h1,
    Finite.entry _ _ (fun _ => Finite.ofBits_inf) _ _ _ _ h2, Finite.entry _ _ (fun _ => Finite.ofBits_inf) _ _ _ _ h3,
    Finite.entry _ _ (fun _ => Finite.ofBits_inf) _ _ _ _ h4⟩

/-- The call's three results are the reference's. -/
theorem algebraic : Cert.algebraic_GlaPostIdeal_GlaPostRefIdeal_pre_glapost_finite := by
  intro m g m' g' hpre hagree
  have hf := fun c => reals (congrFun (hpre c) ix0)
  refine ⟨fun c => _, fun c => _, fun c => _, Cert.GlaPostIdeal.Value.run_blocks m g, ?_⟩
  refine θ_run_mono (Cert.GlaPostRefIdeal.Value.run m' g') fun r h c => ?_
  obtain ⟨h0, h1, h2, h3⟩ := h c
  obtain ⟨a0, a1, a2, a3, a4⟩ := hagree c
  refine ⟨h0.trans ?_, h1.trans ?_, h2.trans ?_, h3⟩
  · rw [Cert.GlaPostRefIdeal.Read.val_main_v46_eq, a0, a1, a2, a3, a4]
    exact (final_5 m c (hf c)).symm
  · rw [Cert.GlaPostRefIdeal.Read.val_main_v24_eq, a0, a1, a2, a3, a4]
    exact (final_6 m c (hf c)).symm
  · rw [Cert.GlaPostRefIdeal.Read.val_main_v47_eq, a0, a1, a2, a4]
    exact (final_7 m c).symm

end Cert.GlaPost

end
-- ==== Proof.FfnActClaim.lean ====
/- The claims about the gradient of the gate of a feed-forward block. -/
module

public import proofs.«01_k».proof.Defs
public import proofs.«01_k».proof.Proof.Gen.FfnAct
public import proofs.«01_k».proof.Proof.Gen.FfnAct.Frame
public import proofs.«01_k».proof.Proof.Gen.FfnActIdeal
public import proofs.«01_k».proof.Proof.Gen.FfnActIdeal.Frame
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActRefIdeal.Read
public import proofs.«01_k».proof.Proof.Gen.Pre_ffnact_finite
public import proofs.«01_k».proof.Proof.FfnActFinal
public import proofs.«01_k».proof.Proof.Finite
public import Idealize.ShloMosaic.Lib.Claim

@[expose] public section

set_option maxRecDepth 16384

noncomputable section

namespace Cert.FfnAct

open Idealize.ShloMosaic Idealize.ShloMosaic.TcCoe Idealize.SL.Sem

theorem frame_reference : Cert.quiescent_FfnActRefIdeal := by
  intro m g _
  refine θ_run_mono (Cert.FfnActRefIdeal.Value.run m g) fun r h => ⟨?_, sem_eq_zero_of_no_sems (by decide) r.2⟩
  intro c
  exact (h c).2.2

open Cert.FfnActIdeal in
theorem reals {m : (ℓ : Loc nD τ sig) → Buf (Elt Ideal) ℓ} {c : Dev nD}
    (h : Cert.Pre_ffnact_finite.fn (F := Ideal) (aA m c) (aB m c) (aW m c) (aY m c) ix0 = 1#1) :
    Real m c := by
  dsimp only [Cert.Pre_ffnact_finite.fn, Cert.Pre_ffnact_finite.fn_part1] at h
  have hi : ∀ (p q : BitVec 1), IntOp.andi p q = 1#1 → p = 1#1 ∧ q = 1#1 := by decide
  obtain ⟨h, h3⟩ := hi _ _ h
  obtain ⟨h, h2⟩ := hi _ _ h
  obtain ⟨h0, h1⟩ := hi _ _ h
  exact ⟨Finite.entry _ _ (fun _ => Finite.ofBits_inf) _ _ _ _ h0, Finite.entry _ _ (fun _ => Finite.ofBits_inf) _ _ _ _ h1,
    Finite.entry _ _ (fun _ => Finite.ofBits_inf) _ _ _ _ h2, Finite.entry _ _ (fun _ => Finite.ofBits_inf) _ _ _ _ h3⟩

/-- The call's two results are the reference's. -/
theorem algebraic : Cert.algebraic_FfnActIdeal_FfnActRefIdeal_pre_ffnact_finite := by
  intro m g m' g' hpre hagree
  have hf := fun c => reals (congrFun (hpre c) ix0)
  refine ⟨fun c => _, fun c => _, Cert.FfnActIdeal.Value.run_blocks m g, ?_⟩
  refine θ_run_mono (Cert.FfnActRefIdeal.Value.run m' g') fun r h c => ?_
  obtain ⟨h0, h1, h2⟩ := h c
  obtain ⟨a0, a1, a2, a3⟩ := hagree c
  refine ⟨h0.trans ?_, h1.trans ?_, h2⟩
  · rw [Cert.FfnActRefIdeal.Read.val_main_v15_eq, a0, a1, a2, a3]
    exact (final_4 m c (hf c)).symm
  · rw [Cert.FfnActRefIdeal.Read.val_main_v18_eq, a0, a2, a3]
    exact (final_5 m c (hf c)).symm

end Cert.FfnAct

end
-- ==== Proof.FfnNorm.lean ====
/- The gradient of a feed-forward block's norm: a block of the kernel, and the reference's arrays, entry by entry. -/
module

public import proofs.«01_k».proof.Proof.Gen.FfnNormIdeal.Value
public import proofs.«01_k».proof.Proof.Gen.FfnNormRefIdeal.Read
public import proofs.«01_k».proof.Proof.RmsNorm
public import Idealize.ShloMosaic.Lib.Pipeline.ValueKit
public import Idealize.ShloMosaic.Lib.Pointwise

@[expose] public section

set_option maxRecDepth 16384

noncomputable section

namespace Cert.FfnNorm

open Cert.FfnNormIdeal Cert.FfnNormIdeal.Gen Cert.RmsNorm
open Idealize.ShloMosaic Idealize.ShloMosaic.TcCoe Idealize.SL.Sem
open Cert.FfnNormRefIdeal.Read

/-- The length of a row, as the programs' float word. -/
abbrev len : EReal := Ideal.ofBits FTy.f32 0x44800000#32
abbrev eps : EReal := Ideal.ofBits FTy.f32 0x358637BD#32
abbrev nhalf : EReal := Ideal.ofBits FTy.f32 0xBF000000#32

/-! ### The kernel's block -/

/-- The product of a row of one quarter of the columns with that quarter of a weight. -/
abbrev quarter (a : Vec Ideal S1x256x704 .bf16) (w : Vec Ideal S1x1x704x1024 .bf16) (r : Fin 256) (l : Fin 1024) : EReal :=
  ∑ k : Fin 704, a (ix3 0 r k) * w (ix4 0 0 k l)

theorem kdh0 (a0 b0 a1 b1 : Vec Ideal S1x256x704 .bf16) (w0 u0 w1 u1 : Vec Ideal S1x1x704x1024 .bf16) (r : Fin 256) (l : Fin 1024) :
    k0_pay2 a0 w0 b0 u0 a1 w1 b1 u1 (ix2 r l)
      = quarter a0 w0 r l + quarter b0 u0 r l + quarter a1 w1 r l + quarter b1 u1 r l := by
  pointwise [k0_pay2]

theorem kdh1 (d : FVec Ideal S256x1024 .f32) (a2 b2 a3 b3 : Vec Ideal S1x256x704 .bf16) (w2 u2 w3 u3 : Vec Ideal S1x1x704x1024 .bf16)
    (r : Fin 256) (l : Fin 1024) : k0_pay3 d a2 w2 b2 u2 a3 w3 b3 u3 (ix2 r l)
      = d (ix2 r l) + quarter a2 w2 r l + quarter b2 u2 r l + quarter a3 w3 r l + quarter b3 u3 r l := by
  pointwise [k0_pay3]

theorem kinv (x : Vec Ideal S256x1024 .f32) (r : Fin 256) :
    k0_pay6 (k0_pay5 x) (ix2 r 0) = inv len eps (fun k => x (ix2 r k)) := by
  pointwise [k0_pay6, k0_pay5]
  rfl

theorem kxh (x : Vec Ideal S256x1024 .f32) (r : Fin 256) (l : Fin 1024) :
    k0_pay7 x (k0_pay5 x) (ix2 r l) = x (ix2 r l) * inv len eps (fun k => x (ix2 r k)) := by
  pointwise [k0_pay7]
  rw [kinv]

theorem kdx (d : FVec Ideal S256x1024 .f32) (x y : Vec Ideal S256x1024 .f32) (g : Vec Ideal S1x1024 .f32)
    (r : Fin 256) (l : Fin 1024) : k0_pay8 d x (k0_pay4 g) (k0_pay5 x) y (ix2 r l)
      = y (ix2 r l) + kgrad len eps (fun k => x (ix2 r k)) (fun k => g (ix2 0 k)) (fun k => d (ix2 r k)) l := by
  pointwise [k0_pay8, k0_pay4]
  simp only [kinv, kxh]
  rfl

theorem kdx9 (d : FVec Ideal S256x1024 .f32) (x y : Vec Ideal S256x1024 .f32) (g : Vec Ideal S1x1024 .f32)
    (i : S256x1024.Idx) : k0_pay9 d x (k0_pay4 g) (k0_pay5 x) y i = k0_pay8 d x (k0_pay4 g) (k0_pay5 x) y i := by
  pointwise [k0_pay9]

theorem kdx10 (d : FVec Ideal S256x1024 .f32) (x y : Vec Ideal S256x1024 .f32) (g : Vec Ideal S1x1024 .f32)
    (i : S256x1024.Idx) : k0_pay10 d x (k0_pay4 g) (k0_pay5 x) y i = k0_pay8 d x (k0_pay4 g) (k0_pay5 x) y i := by
  pointwise [k0_pay10]

/-- One block's term of the gain's gradient. -/
theorem kdg (d : FVec Ideal S256x1024 .f32) (x : Vec Ideal S256x1024 .f32) (acc : Vec Ideal S1x1024 .f32) (j : S1x1024.Idx) :
    k0_pay1 (k0_pay12 d x (k0_pay5 x) acc) j
      = acc j + ∑ r : Fin 256, d (ix2 r (j 1)) * (x (ix2 r (j 1)) * inv len eps (fun k => x (ix2 r k))) := by
  idx_vars j
  obtain rfl : j0 = 0 := Subsingleton.elim _ _
  pointwise [k0_pay1, k0_pay12]
  simp only [kxh]

theorem kzero (j : S1x1024.Idx) : k0_pay11 (F := Ideal) j = 0 := by
  pointwise! [k0_pay11]

/-! ### The reference's arrays -/

section
variable (x0 x4 : FVec Ideal S4096x1024 .f32) (x1 : FVec Ideal S1024 .f32) (x2 x3 : FVec Ideal S2x1024x2816 .f32)
    (x5 x6 : FVec Ideal S4096x2816 .f32)

theorem rdh (r : Fin 4096) (l : Fin 1024) : val_main_v24 (F := Ideal) x2 x3 x5 x6 (ix2 r l)
      = (∑ k : Fin 2816, x6 (ix2 r k) * x3 (ix3 0 l k)) + ∑ k : Fin 2816, x5 (ix2 r k) * x2 (ix3 0 l k) := by
  pointwise [val_main_v24, val_main_v23, val_main_v22, val_main_v20, val_main_v19, val_main_v17, val_main_v16]

theorem rvar (r : Fin 4096) : val_main_v6 (F := Ideal) x0 (ix2 r 0) = var len eps (fun k => x0 (ix2 r k)) := by
  pointwise [val_main_v6, val_main_v5, val_main_v4, val_main_v3, val_main_v2, val_main_v1, val_main_v0, val_main_cst,
    val_main_cst_0, val_main_cst_1]
  rfl

theorem rinv (r : Fin 4096) : val_main_v7 (F := Ideal) x0 (ix2 r 0) = inv len eps (fun k => x0 (ix2 r k)) := by
  pointwise [val_main_v7]
  rw [rvar]
  rfl

theorem rxh (r : Fin 4096) (l : Fin 1024) :
    val_main_v12 (F := Ideal) x0 (ix2 r l) = x0 (ix2 r l) * inv len eps (fun k => x0 (ix2 r k)) := by
  pointwise [val_main_v12, val_main_v11]
  rw [rinv]

theorem rdg (j : S1x1024.Idx) : val_main_v47 (F := Ideal) x0 x2 x3 x5 x6 j
      = ∑ r : Fin 4096, val_main_v25 (F := Ideal) x0 x2 x3 x5 x6 (ix2 r (j 1)) := by
  pointwise [val_main_v47, val_main_v30, val_main_v27, val_main_v26, val_main_cst_3, val_main_cst_4]
  simp only [Fin.sum_univ_one]

theorem rback (r : Fin 4096) (l : Fin 1024) : val_main_v41 (F := Ideal) x0 x1 x2 x3 x5 x6 (ix2 r l)
      = back len eps nhalf (fun k => x0 (ix2 r k)) (fun k => x1 (ix1 k))
          (fun k => val_main_v24 (F := Ideal) x2 x3 x5 x6 (ix2 r k)) := by
  pointwise [val_main_v41, val_main_v40, val_main_v39, val_main_v38, val_main_v37, val_main_v33, val_main_v32, val_main_v31,
    val_main_v29, val_main_v28, val_main_v13, val_main_v10, val_main_v9, val_main_v8, val_main_cst_2, val_main_cst_5,
    val_main_cst_6, val_main_cst_7]
  simp only [Fin.sum_univ_one, rinv, rvar]
  rfl

theorem rdx (r : Fin 4096) (l : Fin 1024) : val_main_v45 (F := Ideal) x0 x1 x2 x3 x4 x5 x6 (ix2 r l)
      = x4 (ix2 r l) + val_main_v24 (F := Ideal) x2 x3 x5 x6 (ix2 r l) * x1 (ix1 l) * inv len eps (fun k => x0 (ix2 r k))
        + x0 (ix2 r l) * back len eps nhalf (fun k => x0 (ix2 r k)) (fun k => x1 (ix1 k))
            (fun k => val_main_v24 (F := Ideal) x2 x3 x5 x6 (ix2 r k))
        + back len eps nhalf (fun k => x0 (ix2 r k)) (fun k => x1 (ix1 k))
            (fun k => val_main_v24 (F := Ideal) x2 x3 x5 x6 (ix2 r k)) * x0 (ix2 r l) := by
  pointwise [val_main_v45, val_main_v44, val_main_v43, val_main_v42, val_main_v36, val_main_v35, val_main_v34, val_main_v29,
    val_main_v28, val_main_v13]
  rw [rback, rinv]

end

end Cert.FfnNorm

end
-- ==== Proof.FfnNormFinal.lean ====
/- The gradient of a feed-forward block's norm: the arrays after the run are the reference's. -/
module

public import proofs.«01_k».proof.Proof.FfnNorm
public import Idealize.ShloMosaic.Lib.Claim

@[expose] public section

set_option maxRecDepth 16384

noncomputable section

namespace Cert.FfnNorm

open Cert.FfnNormIdeal Cert.FfnNormIdeal.Gen Cert.RmsNorm
open Idealize.ShloMosaic Idealize.ShloMosaic.TcCoe Idealize.SL.Sem
open Cert.FfnNormRefIdeal.Read

variable (m : (ℓ : Loc nD τ sig) → Buf (Elt Ideal) ℓ)

section
variable (c : Dev nD)

/-- The arguments. -/
abbrev aX : FVec Ideal S4096x1024 .f32 := m ((c : Thread nD τ).loc main_arg0)
abbrev aG : FVec Ideal S1024 .f32 := m ((c : Thread nD τ).loc main_arg1)
abbrev aW : FVec Ideal S2x1024x2816 .f32 := m ((c : Thread nD τ).loc main_arg2)
abbrev aU : FVec Ideal S2x1024x2816 .f32 := m ((c : Thread nD τ).loc main_arg3)
abbrev aY : FVec Ideal S4096x1024 .f32 := m ((c : Thread nD τ).loc main_arg4)
abbrev aA : FVec Ideal S4096x2816 .f32 := m ((c : Thread nD τ).loc main_arg5)
abbrev aB : FVec Ideal S4096x2816 .f32 := m ((c : Thread nD τ).loc main_arg6)

end

theorem idx : ∀ t : Fin cfg0.N, win0_0.index t = ![0, t.val, 0] ∧ win0_1.index t = ![0, t.val, 0] ∧ win0_2.index t = ![0, 0, 0, 0]
    ∧ win0_3.index t = ![0, 0, 0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt N_0; omega⟩

/-- The column of the whole array that column `k` of quarter `j` is. -/
def col (j : Fin 4) (k : Fin 704) : Fin 2816 := ⟨j.val * 704 + k.val, by omega⟩

section
variable (c : Dev nD) (t : Fin cfg0.N)

theorem read_0 (j : Fin 4) (r : Fin 256) (k : Fin 704) :
    (show Vec Ideal S4x256x704 .bf16 from iblk m c 0 t) (ix3 j r k) = aA m c (ix2 (row t r) (col j k)) := by
  unfold row col
  blk_point [iblk, V, idx t]

theorem read_1 (j : Fin 4) (r : Fin 256) (k : Fin 704) :
    (show Vec Ideal S4x256x704 .bf16 from iblk m c 1 t) (ix3 j r k) = aB m c (ix2 (row t r) (col j k)) := by
  unfold row col
  blk_point [iblk, V, idx t]

theorem read_2 (j : Fin 4) (k : Fin 704) (l : Fin 1024) :
    (show Vec Ideal S4x1x704x1024 .bf16 from iblk m c 2 t) (ix4 j 0 k l) = aW m c (ix3 0 l (col j k)) := by
  unfold col
  blk_point [iblk, V, idx t]

theorem read_3 (j : Fin 4) (k : Fin 704) (l : Fin 1024) :
    (show Vec Ideal S4x1x704x1024 .bf16 from iblk m c 3 t) (ix4 j 0 k l) = aU m c (ix3 0 l (col j k)) := by
  unfold col
  blk_point [iblk, V, idx t]

theorem read_4 (r : Fin 256) (l : Fin 1024) : (show Vec Ideal S256x1024 .f32 from iblk m c 4 t) (ix2 r l) = aY m c (ix2 (row t r) l) := by
  unfold row
  blk_point [iblk, V, idx t]

theorem read_5 (r : Fin 256) (l : Fin 1024) : (show Vec Ideal S256x1024 .f32 from iblk m c 5 t) (ix2 r l) = aX m c (ix2 (row t r) l) := by
  unfold row
  blk_point [iblk, V, idx t]

theorem read_6 (l : Fin 1024) : (show Vec Ideal S1x1024 .f32 from iblk m c 6 t) (ix2 0 l) = aG m c (ix1 l) := by
  blk_point [iblk, V, idx t]

end

/-! ### The cotangent of the norm's output -/

/-- What a block sums over the four quarters of the columns. -/
def acc (a b : Vec Ideal S4x256x704 .bf16) (w u : Vec Ideal S4x1x704x1024 .bf16) : FVec Ideal S256x1024 .f32 :=
  k0_pay3
    (k0_pay2 (View.ld a (Rect.unit ![0, 0, 0] ![1, 256, 704] inb_S4x256x704_S1x256x704_0_0_0))
      (View.ld w (Rect.unit ![0, 0, 0, 0] ![1, 1, 704, 1024] inb_S4x1x704x1024_S1x1x704x1024_0_0_0_0))
      (View.ld b (Rect.unit ![0, 0, 0] ![1, 256, 704] inb_S4x256x704_S1x256x704_0_0_0))
      (View.ld u (Rect.unit ![0, 0, 0, 0] ![1, 1, 704, 1024] inb_S4x1x704x1024_S1x1x704x1024_0_0_0_0))
      (View.ld a (Rect.unit ![1, 0, 0] ![1, 256, 704] inb_S4x256x704_S1x256x704_1_0_0))
      (View.ld w (Rect.unit ![1, 0, 0, 0] ![1, 1, 704, 1024] inb_S4x1x704x1024_S1x1x704x1024_1_0_0_0))
      (View.ld b (Rect.unit ![1, 0, 0] ![1, 256, 704] inb_S4x256x704_S1x256x704_1_0_0))
      (View.ld u (Rect.unit ![1, 0, 0, 0] ![1, 1, 704, 1024] inb_S4x1x704x1024_S1x1x704x1024_1_0_0_0)))
    (View.ld a (Rect.unit ![2, 0, 0] ![1, 256, 704] inb_S4x256x704_S1x256x704_2_0_0))
    (View.ld w (Rect.unit ![2, 0, 0, 0] ![1, 1, 704, 1024] inb_S4x1x704x1024_S1x1x704x1024_2_0_0_0))
    (View.ld b (Rect.unit ![2, 0, 0] ![1, 256, 704] inb_S4x256x704_S1x256x704_2_0_0))
    (View.ld u (Rect.unit ![2, 0, 0, 0] ![1, 1, 704, 1024] inb_S4x1x704x1024_S1x1x704x1024_2_0_0_0))
    (View.ld a (Rect.unit ![3, 0, 0] ![1, 256, 704] inb_S4x256x704_S1x256x704_3_0_0))
    (View.ld w (Rect.unit ![3, 0, 0, 0] ![1, 1, 704, 1024] inb_S4x1x704x1024_S1x1x704x1024_3_0_0_0))
    (View.ld b (Rect.unit ![3, 0, 0] ![1, 256, 704] inb_S4x256x704_S1x256x704_3_0_0))
    (View.ld u (Rect.unit ![3, 0, 0, 0] ![1, 1, 704, 1024] inb_S4x1x704x1024_S1x1x704x1024_3_0_0_0))

theorem quarter_ld (a : Vec Ideal S4x256x704 .bf16) (w : Vec Ideal S4x1x704x1024 .bf16) (n : ℕ) (hn : n < 4)
    (ha : ∀ i : Fin 3, ![n, 0, 0] i + ![1, 256, 704] i ≤ S4x256x704.size i)
    (hw : ∀ i : Fin 4, ![n, 0, 0, 0] i + ![1, 1, 704, 1024] i ≤ S4x1x704x1024.size i) (r : Fin 256) (l : Fin 1024) :
    quarter (View.ld a (Rect.unit ![n, 0, 0] ![1, 256, 704] ha)) (View.ld w (Rect.unit ![n, 0, 0, 0] ![1, 1, 704, 1024] hw)) r l
      = ∑ k : Fin 704, a (ix3 ⟨n, hn⟩ r k) * w (ix4 ⟨n, hn⟩ 0 k l) := by
  unfold quarter
  pointwise

theorem acc_apply (a b : Vec Ideal S4x256x704 .bf16) (w u : Vec Ideal S4x1x704x1024 .bf16) (r : Fin 256) (l : Fin 1024) :
    acc a b w u (ix2 r l) = (∑ j : Fin 4, ∑ k : Fin 704, b (ix3 j r k) * u (ix4 j 0 k l))
      + ∑ j : Fin 4, ∑ k : Fin 704, a (ix3 j r k) * w (ix4 j 0 k l) := by
  unfold acc
  rw [kdh1, kdh0, quarter_ld a w 0 (by omega), quarter_ld a w 1 (by omega), quarter_ld a w 2 (by omega),
    quarter_ld a w 3 (by omega), quarter_ld b u 0 (by omega), quarter_ld b u 1 (by omega), quarter_ld b u 2 (by omega),
    quarter_ld b u 3 (by omega), Fin.sum_univ_four, Fin.sum_univ_four]
  simp only [Fin.zero_eta, Fin.mk_one, Fin.reduceFinMk]
  abel

section
variable (c : Dev nD) (t : Fin cfg0.N)

/-- A block's sum over the quarters is the reference's sum over the columns. -/
theorem dh (r : Fin 256) (l : Fin 1024) :
    acc (iblk m c 0 t) (iblk m c 1 t) (iblk m c 2 t) (iblk m c 3 t) (ix2 r l)
      = val_main_v24 (F := Ideal) (aW m c) (aU m c) (aA m c) (aB m c) (ix2 (row t r) l) := by
  rw [acc_apply, rdh]
  have h0 := fun j k => read_0 m c t j r k
  have h1 := fun j k => read_1 m c t j r k
  have h2 := fun j k => read_2 m c t j k l
  have h3 := fun j k => read_3 m c t j k l
  dsimp only at h0 h1 h2 h3
  simp only [h0, h1, h2, h3]
  exact congrArg₂ (· + ·) (Fin.sum_mul_add_congr fun j k hl => rfl) (Fin.sum_mul_add_congr fun j k hl => rfl)

/-- The arguments but the cotangent that reaches the row past the norm are reals. -/
def Real (c : Dev nD) : Prop :=
  (∀ i, aX m c i = (((aX m c i : EReal).toReal : ℝ) : EReal)) ∧ (∀ i, aG m c i = (((aG m c i : EReal).toReal : ℝ) : EReal))
  ∧ (∀ i, aW m c i = (((aW m c i : EReal).toReal : ℝ) : EReal)) ∧ (∀ i, aU m c i = (((aU m c i : EReal).toReal : ℝ) : EReal))
  ∧ (∀ i, aA m c i = (((aA m c i : EReal).toReal : ℝ) : EReal)) ∧ (∀ i, aB m c i = (((aB m c i : EReal).toReal : ℝ) : EReal))

variable {m c}

theorem dh_real (h : Real m c) (r : Fin 4096) (l : Fin 1024) : ∃ d : ℝ,
    val_main_v24 (F := Ideal) (aW m c) (aU m c) (aA m c) (aB m c) (ix2 r l) = (d : EReal) := by
  obtain ⟨-, -, hW, hU, hA, hB⟩ := h
  obtain ⟨d, hd⟩ := dot_real (fun k => hB (ix2 r k)) (fun k => hU (ix3 0 l k))
  obtain ⟨d', hd'⟩ := dot_real (fun k => hA (ix2 r k)) (fun k => hW (ix3 0 l k))
  exact ⟨d + d', by rw [rdh, hd, hd', EReal.coe_add]⟩

theorem dx (h : Real m c) (i : S256x1024.Idx) :
    k0_pay8 (acc (iblk m c 0 t) (iblk m c 1 t) (iblk m c 2 t) (iblk m c 3 t)) (iblk m c 5 t) (k0_pay4 (iblk m c 6 t))
        (k0_pay5 (iblk m c 5 t)) (iblk m c 4 t) i
      = val_main_v45 (F := Ideal) (aX m c) (aG m c) (aW m c) (aU m c) (aY m c) (aA m c) (aB m c) (ix2 (row t (i 0)) (i 1)) := by
  idx_vars i
  refine (kdx _ _ _ _ i0 i1).trans ?_
  refine Eq.trans ?_ (rdx _ _ _ _ _ _ _ (row t i0) i1).symm
  have h4 := read_4 m c t i0 i1
  have h5 := fun k => read_5 m c t i0 k
  have h6 := fun k => read_6 m c t k
  dsimp only at h4 h5 h6
  simp only [dh, h4, h5, h6]
  choose d hd using dh_real h
  simp only [hd, len, eps, nhalf, w_1024, w_eps, w_neg_half]
  have hX : (fun k => aX m c (ix2 (row t i0) k)) = fun k => (((aX m c (ix2 (row t i0) k)).toReal : ℝ) : EReal) :=
    funext fun k => h.1 _
  have hG : (fun k => aG m c (ix1 k)) = fun k => (((aG m c (ix1 k)).toReal : ℝ) : EReal) := funext fun k => h.2.1 _
  rw [hX, hG, h.1 (ix2 (row t i0) i1), h.2.1 (ix1 i1)]
  exact grad_eq (by norm_num) (by norm_num) _ _ _ _ i1

variable (m c)

theorem dg (r : Fin 256) (l : Fin 1024) :
    acc (iblk m c 0 t) (iblk m c 1 t) (iblk m c 2 t) (iblk m c 3 t) (ix2 r l)
        * ((show Vec Ideal S256x1024 .f32 from iblk m c 5 t) (ix2 r l)
            * inv len eps (fun k => (show Vec Ideal S256x1024 .f32 from iblk m c 5 t) (ix2 r k)))
      = val_main_v25 (F := Ideal) (aX m c) (aW m c) (aU m c) (aA m c) (aB m c) (ix2 (row t r) l) := by
  rw [dh]
  pointwise [val_main_v25]
  rw [rxh]
  have h5 := fun k => read_5 m c t r k
  dsimp only at h5
  simp only [h5]
  exact mul_comm _ _

/-! ### The arrays after the run -/

theorem final_7 (h : Real m c) : (dats m 0 c).arrAt 7 cfg0.N
    = val_main_v45 (F := Ideal) (aX m c) (aG m c) (aW m c) (aU m c) (aY m c) (aA m c) (aB m c) := by
  refine (dats m 0 c).arrAt_eq_of_covers 7 _ (by decide +kernel) fun t hf y => ?_
  blk_simp
  rw [after0_7]
  have e := (kdx9 _ _ _ _ y).trans (dx t h y)
  unfold acc at e
  by_cases ht : t.val % 16 = 0
  · rw [outsAt0_A m c t ht]; frame_out; rw [e]; unfold row; blk_ext [idx t]
  · rw [outsAt0_B m c t ht]; frame_out; rw [e]; unfold row; blk_ext [idx t]

theorem final_8 (h : Real m c) : (dats m 0 c).arrAt 8 cfg0.N
    = val_main_v46 (F := Ideal) (aX m c) (aG m c) (aW m c) (aU m c) (aY m c) (aA m c) (aB m c) := by
  refine (dats m 0 c).arrAt_eq_of_covers 8 _ (by decide +kernel) fun t hf y => ?_
  blk_simp
  rw [after0_8]
  have e := (kdx10 _ _ _ _ y).trans (dx t h y)
  unfold acc at e
  by_cases ht : t.val % 16 = 0
  · rw [outsAt0_A m c t ht]; frame_out; rw [e]; unfold row; blk_ext [idx t]
  · rw [outsAt0_B m c t ht]; frame_out; rw [e]; unfold row; blk_ext [idx t]

theorem final_9 : (dats m 0 c).arrAt 9 cfg0.N
    = val_main_v47 (F := Ideal) (aX m c) (aW m c) (aU m c) (aA m c) (aB m c) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => by rw [outsAt0_A m c t h]; frame_out; rw [kdg, kzero])
    (fun t h j => by rw [outsAt0_B m c t h]; frame_out; rw [kdg])
    (le_of_eq N_0) t0_15 rfl j, zero_add, rdg]
  refine Fin.sum_mul_add_congr fun t r hl => ?_
  exact dg m c t r _

end

end Cert.FfnNorm

end
-- ==== Proof.FfnNormClaim.lean ====
/- The claims about the gradient of the norm of a feed-forward block. -/
module

public import proofs.«01_k».proof.Defs
public import proofs.«01_k».proof.Proof.Gen.FfnNorm
public import proofs.«01_k».proof.Proof.Gen.FfnNorm.Frame
public import proofs.«01_k».proof.Proof.Gen.FfnNormIdeal
public import proofs.«01_k».proof.Proof.Gen.FfnNormIdeal.Frame
public import proofs.«01_k».proof.Proof.Gen.FfnNormIdeal.Value
public import proofs.«01_k».proof.Proof.Gen.FfnNormRefIdeal
public import proofs.«01_k».proof.Proof.Gen.FfnNormRefIdeal.Run
public import proofs.«01_k».proof.Proof.Gen.FfnNormRefIdeal.Read
public import proofs.«01_k».proof.Proof.Gen.Pre_ffnnorm_finite
public import proofs.«01_k».proof.Proof.FfnNormFinal
public import proofs.«01_k».proof.Proof.Finite
public import Idealize.ShloMosaic.Lib.Claim

@[expose] public section

set_option maxRecDepth 16384

noncomputable section

namespace Cert.FfnNorm

open Idealize.ShloMosaic Idealize.ShloMosaic.TcCoe Idealize.SL.Sem

theorem frame_reference : Cert.quiescent_FfnNormRefIdeal := by
  intro m g _
  refine θ_run_mono (Cert.FfnNormRefIdeal.Value.run m g) fun r h => ⟨?_, sem_eq_zero_of_no_sems (by decide) r.2⟩
  intro c
  exact (h c).2.2.2

open Cert.FfnNormIdeal in
theorem reals {m : (ℓ : Loc nD τ sig) → Buf (Elt Ideal) ℓ} {c : Dev nD}
    (h : Cert.Pre_ffnnorm_finite.fn (F := Ideal) (aX m c) (aG m c) (aW m c) (aU m c) (aY m c) (aA m c) (aB m c) ix0 = 1#1) :
    Real m c := by
  dsimp only [Cert.Pre_ffnnorm_finite.fn, Cert.Pre_ffnnorm_finite.fn_part1] at h
  have hi : ∀ (p q : BitVec 1), IntOp.andi p q = 1#1 → p = 1#1 ∧ q = 1#1 := by decide
  obtain ⟨h, h5⟩ := hi _ _ h
  obtain ⟨h, h4⟩ := hi _ _ h
  obtain ⟨h, h3⟩ := hi _ _ h
  obtain ⟨h, h2⟩ := hi _ _ h
  obtain ⟨h0, h1⟩ := hi _ _ h
  exact ⟨Finite.entry _ _ (fun _ => Finite.ofBits_inf) _ _ _ _ h0, Finite.entry _ _ (fun _ => Finite.ofBits_inf) _ _ _ _ h1,
    Finite.entry _ _ (fun _ => Finite.ofBits_inf) _ _ _ _ h2, Finite.entry _ _ (fun _ => Finite.ofBits_inf) _ _ _ _ h3,
    Finite.entry _ _ (fun _ => Finite.ofBits_inf) _ _ _ _ h4, Finite.entry _ _ (fun _ => Finite.ofBits_inf) _ _ _ _ h5⟩

/-- The call's three results are the reference's. -/
theorem algebraic : Cert.algebraic_FfnNormIdeal_FfnNormRefIdeal_pre_ffnnorm_finite := by
  intro m g m' g' hpre hagree
  have hf := fun c => reals (congrFun (hpre c) ix0)
  refine ⟨fun c => _, fun c => _, fun c => _, Cert.FfnNormIdeal.Value.run_blocks m g, ?_⟩
  refine θ_run_mono (Cert.FfnNormRefIdeal.Value.run m' g') fun r h c => ?_
  obtain ⟨h0, h1, h2, h3⟩ := h c
  obtain ⟨a0, a1, a2, a3, a4, a5, a6⟩ := hagree c
  refine ⟨h0.trans ?_, h1.trans ?_, h2.trans ?_, h3⟩
  · rw [Cert.FfnNormRefIdeal.Read.val_main_v45_eq, a0, a1, a2, a3, a4, a5, a6]
    exact (final_7 m c (hf c)).symm
  · rw [Cert.FfnNormRefIdeal.Read.val_main_v46_eq, a0, a1, a2, a3, a4, a5, a6]
    exact (final_8 m c (hf c)).symm
  · rw [Cert.FfnNormRefIdeal.Read.val_main_v47_eq, a0, a2, a3, a5, a6]
    exact (final_9 m c).symm

end Cert.FfnNorm

end
-- ==== Proof.LossHead.lean ====
/- The loss and the gradient of the last norm: a block of the kernel, and the reference's arrays, entry by entry. -/
module

public import proofs.«01_k».proof.Proof.Gen.LossHeadIdeal.Value
public import proofs.«01_k».proof.Proof.Gen.LossHeadRefIdeal.Read
public import proofs.«01_k».proof.Proof.RmsNorm
public import Idealize.ShloMosaic.Lib.Pipeline.ValueKit
public import Idealize.ShloMosaic.Lib.Pointwise

@[expose] public section

set_option maxRecDepth 16384

noncomputable section

namespace Cert.LossHead

open Cert.LossHeadIdeal Cert.LossHeadIdeal.Gen Cert.RmsNorm
open Idealize.ShloMosaic Idealize.ShloMosaic.TcCoe Idealize.SL.Sem
open Cert.LossHeadRefIdeal.Read

/-- The length of a row, as the programs' float word. -/
abbrev len : EReal := Ideal.ofBits FTy.f32 0x44800000#32
abbrev eps : EReal := Ideal.ofBits FTy.f32 0x358637BD#32
abbrev nhalf : EReal := Ideal.ofBits FTy.f32 0xBF000000#32
/-- What the kernel multiplies the error by. -/
abbrev unit : EReal := Ideal.ofBits FTy.f32 0x3A800000#32
abbrev half : EReal := Ideal.ofBits FTy.f32 0x3F000000#32
abbrev two : EReal := Ideal.ofBits FTy.f32 0x40000000#32

theorem w_unit : unit = ((1 / 1024 : ℝ) : EReal) := by
  simp [Ideal.ofBits, Ideal.ieee, -EReal.coe_mul]; norm_num

theorem w_half : half = ((1 / 2 : ℝ) : EReal) := by
  simp [Ideal.ofBits, Ideal.ieee, -EReal.coe_mul]; norm_num

theorem w_two : two = ((2 : ℝ) : EReal) := by
  simp [Ideal.ofBits, Ideal.ieee, -EReal.coe_mul]; norm_num

/-- The error of an entry: the norm less the target. -/
def err (x g t : Fin 1024 → EReal) (l : Fin 1024) : EReal := x l * inv len eps x * g l - t l

/-- The cotangent of the norm's output, as the derivative of the loss gives it. -/
def cot (x g t : Fin 1024 → EReal) (l : Fin 1024) : EReal := Ideal.div half len * (two * err x g t l)

theorem err_real (x g t : Fin 1024 → ℝ) (l : Fin 1024) : ∃ e : ℝ,
    err (fun k => ((x k : ℝ) : EReal)) (fun k => ((g k : ℝ) : EReal)) (fun k => ((t k : ℝ) : EReal)) l = (e : EReal) := by
  unfold err
  rw [len, eps, w_1024, w_eps, inv_coe (by norm_num) (by norm_num), ← EReal.coe_mul, ← EReal.coe_mul, ← EReal.coe_sub]
  exact ⟨_, rfl⟩

/-- The two scalings of a real error are one. -/
theorem scale (e : ℝ) : (e : EReal) * unit = Ideal.div half len * (two * (e : EReal)) := by
  rw [w_unit, w_half, w_two, len, w_1024]
  simp only [← EReal.coe_mul, Softmax.div_coe (show (1024 : ℝ) ≠ 0 by norm_num)]
  congr 1
  ring

/-! ### The kernel's block -/

section
variable (v0 v1 : Vec Ideal S256x1024 .f32) (v2 : Vec Ideal S1x1024 .f32)

theorem kinv (r : Fin 256) : k0_pay11 v0 (ix2 r 0) = inv len eps (fun k => v0 (ix2 r k)) := by
  pointwise [k0_pay11]
  rfl

theorem kxh (r : Fin 256) (l : Fin 1024) :
    k0_pay12 v0 (ix2 r l) = v0 (ix2 r l) * inv len eps (fun k => v0 (ix2 r k)) := by
  pointwise [k0_pay12]
  rw [kinv]

theorem kerr (r : Fin 256) (l : Fin 1024) : k0_pay9 v0 v1 v2 (ix2 r l)
      = err (fun k => v0 (ix2 r k)) (fun k => v2 (ix2 0 k)) (fun k => v1 (ix2 r k)) l := by
  pointwise [k0_pay9, k0_pay8]
  rfl

theorem kd (r : Fin 256) (l : Fin 1024) : k0_pay10 v0 v1 v2 (ix2 r l) = k0_pay9 v0 v1 v2 (ix2 r l) * unit := by
  pointwise [k0_pay10]

theorem kdg (acc : Vec Ideal S1x1024 .f32) (j : S1x1024.Idx) : k0_pay6 (k0_pay13 v0 v1 v2) acc j
      = acc j + ∑ r : Fin 256, k0_pay10 v0 v1 v2 (ix2 r (j 1)) * k0_pay12 v0 (ix2 r (j 1)) := by
  idx_vars j
  obtain rfl : j0 = 0 := Subsingleton.elim _ _
  pointwise [k0_pay6, k0_pay13]

theorem kpart (acc : Vec Ideal S1x1024 .f32) (j : S1x1024.Idx) : k0_pay7 (k0_pay9 v0 v1 v2) acc j
      = acc j + ∑ r : Fin 256, k0_pay9 v0 v1 v2 (ix2 r (j 1)) * k0_pay9 v0 v1 v2 (ix2 r (j 1)) := by
  idx_vars j
  obtain rfl : j0 = 0 := Subsingleton.elim _ _
  pointwise [k0_pay7]

theorem kdx (r : Fin 256) (l : Fin 1024) : k0_pay1 (k0_pay14 v0 v1 v2) (k0_pay15 v0) (ix2 r l)
      = kgrad len eps (fun k => v0 (ix2 r k)) (fun k => v2 (ix2 0 k)) (fun k => k0_pay10 v0 v1 v2 (ix2 r k)) l := by
  pointwise [k0_pay1, k0_pay14, k0_pay15, k0_pay8]
  simp only [kinv, kxh]
  rfl

end

theorem kzero_5 (j : S1x1024.Idx) : k0_pay4 (F := Ideal) j = 0 := by
  pointwise! [k0_pay4]

theorem kzero_6 (j : S1x1024.Idx) : k0_pay5 (F := Ideal) j = 0 := by
  pointwise! [k0_pay5]

/-! ### The reference's arrays -/

section
variable (x0 x2 : FVec Ideal S4096x1024 .f32) (x1 : FVec Ideal S1024 .f32)

theorem rvar (r : Fin 4096) : val_main_v6 (F := Ideal) x0 (ix2 r 0) = var len eps (fun k => x0 (ix2 r k)) := by
  pointwise [val_main_v6, val_main_v5, val_main_v4, val_main_v3, val_main_v2, val_main_v1, val_main_v0, val_main_cst,
    val_main_cst_0, val_main_cst_1]
  rfl

theorem rinv (r : Fin 4096) : val_main_v7 (F := Ideal) x0 (ix2 r 0) = inv len eps (fun k => x0 (ix2 r k)) := by
  pointwise [val_main_v7]
  rw [rvar]
  rfl

theorem rxh (r : Fin 4096) (l : Fin 1024) :
    val_main_v12 (F := Ideal) x0 (ix2 r l) = x0 (ix2 r l) * inv len eps (fun k => x0 (ix2 r k)) := by
  pointwise [val_main_v12, val_main_v11]
  rw [rinv]

theorem rerr (r : Fin 4096) (l : Fin 1024) : val_main_v16 (F := Ideal) x0 x1 x2 (ix2 r l)
      = err (fun k => x0 (ix2 r k)) (fun k => x1 (ix1 k)) (fun k => x2 (ix2 r k)) l := by
  pointwise [val_main_v16, val_main_v15, val_main_v14, val_main_v13]
  rw [rxh]
  rfl

theorem rcot (r : Fin 4096) (l : Fin 1024) : val_main_v30 (F := Ideal) x0 x1 x2 (ix2 r l)
      = cot (fun k => x0 (ix2 r k)) (fun k => x1 (ix1 k)) (fun k => x2 (ix2 r k)) l := by
  pointwise [val_main_v30, val_main_v29, val_main_v28, val_main_v27, val_main_v26, val_main_v25, val_main_v19, val_main_v18,
    val_main_cst_3, val_main_cst_8, val_main_cst_9, val_main_cst_10]
  rw [rerr]
  rfl

theorem rdg (j : S1x1024.Idx) : val_main_v52 (F := Ideal) x0 x1 x2 j
      = ∑ r : Fin 4096, val_main_v31 (F := Ideal) x0 x1 x2 (ix2 r (j 1)) := by
  pointwise [val_main_v52, val_main_v36, val_main_v33, val_main_v32, val_main_cst_11, val_main_cst_12]
  simp only [Fin.sum_univ_one]

theorem rpart (j : S1x1024.Idx) : val_main_v54 (F := Ideal) x0 x1 x2 j
      = ∑ r : Fin 4096, val_main_v16 (F := Ideal) x0 x1 x2 (ix2 r (j 1)) * val_main_v16 (F := Ideal) x0 x1 x2 (ix2 r (j 1)) := by
  pointwise [val_main_v54, val_main_v53, val_main_v17, val_main_cst_16]

theorem rback (r : Fin 4096) (l : Fin 1024) : val_main_v46 (F := Ideal) x0 x1 x2 (ix2 r l)
      = back len eps nhalf (fun k => x0 (ix2 r k)) (fun k => x1 (ix1 k))
          (fun k => val_main_v30 (F := Ideal) x0 x1 x2 (ix2 r k)) := by
  pointwise [val_main_v46, val_main_v45, val_main_v44, val_main_v43, val_main_v42, val_main_v39, val_main_v38, val_main_v37,
    val_main_v35, val_main_v34, val_main_v13, val_main_v10, val_main_v9, val_main_v8, val_main_cst_2, val_main_cst_13,
    val_main_cst_14, val_main_cst_15]
  simp only [Fin.sum_univ_one, rinv, rvar]
  rfl

theorem rdx (r : Fin 4096) (l : Fin 1024) : val_main_v50 (F := Ideal) x0 x1 x2 (ix2 r l)
      = val_main_v30 (F := Ideal) x0 x1 x2 (ix2 r l) * x1 (ix1 l) * inv len eps (fun k => x0 (ix2 r k))
        + x0 (ix2 r l) * back len eps nhalf (fun k => x0 (ix2 r k)) (fun k => x1 (ix1 k))
            (fun k => val_main_v30 (F := Ideal) x0 x1 x2 (ix2 r k))
        + back len eps nhalf (fun k => x0 (ix2 r k)) (fun k => x1 (ix1 k))
            (fun k => val_main_v30 (F := Ideal) x0 x1 x2 (ix2 r k)) * x0 (ix2 r l) := by
  pointwise [val_main_v50, val_main_v49, val_main_v48, val_main_v47, val_main_v41, val_main_v40, val_main_v35, val_main_v34,
    val_main_v13]
  rw [rback, rinv]

end

end Cert.LossHead

end
-- ==== Proof.LossHeadFinal.lean ====
/- The loss and the gradient of the last norm: the arrays after the run are the reference's. -/
module

public import proofs.«01_k».proof.Proof.LossHead
public import Idealize.ShloMosaic.Lib.Claim

@[expose] public section

set_option maxRecDepth 16384

noncomputable section

namespace Cert.LossHead

open Cert.LossHeadIdeal Cert.LossHeadIdeal.Gen Cert.RmsNorm
open Idealize.ShloMosaic Idealize.ShloMosaic.TcCoe Idealize.SL.Sem
open Cert.LossHeadRefIdeal.Read

variable (m : (ℓ : Loc nD τ sig) → Buf (Elt Ideal) ℓ) (c : Dev nD)

/-- The arguments. -/
abbrev aX : FVec Ideal S4096x1024 .f32 := m ((c : Thread nD τ).loc main_arg0)
abbrev aG : FVec Ideal S1024 .f32 := m ((c : Thread nD τ).loc main_arg1)
abbrev aT : FVec Ideal S4096x1024 .f32 := m ((c : Thread nD τ).loc main_arg2)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt N_0; omega⟩

variable (t : Fin cfg0.N)

theorem read_0 (r : Fin 256) (l : Fin 1024) : (show Vec Ideal S256x1024 .f32 from iblk m c 0 t) (ix2 r l) = aX m c (ix2 (row t r) l) := by
  unfold row
  blk_point [iblk, V, idx t]

theorem read_1 (r : Fin 256) (l : Fin 1024) : (show Vec Ideal S256x1024 .f32 from iblk m c 1 t) (ix2 r l) = aT m c (ix2 (row t r) l) := by
  unfold row
  blk_point [iblk, V, idx t]

theorem read_2 (l : Fin 1024) : (show Vec Ideal S1x1024 .f32 from iblk m c 2 t) (ix2 0 l) = aG m c (ix1 l) := by
  blk_point [iblk, V, idx t]

/-! ### A block against the reference -/

theorem er (r : Fin 256) (l : Fin 1024) : k0_pay9 (iblk m c 0 t) (iblk m c 1 t) (iblk m c 2 t) (ix2 r l)
    = val_main_v16 (F := Ideal) (aX m c) (aG m c) (aT m c) (ix2 (row t r) l) := by
  rw [kerr, rerr]
  have h0 := fun k => read_0 m c t r k
  have h1 := fun k => read_1 m c t r k
  have h2 := fun k => read_2 m c t k
  dsimp only at h0 h1 h2
  simp only [h0, h1, h2]

/-- The arguments are reals. -/
def Real (c : Dev nD) : Prop :=
  (∀ i, aX m c i = (((aX m c i : EReal).toReal : ℝ) : EReal)) ∧ (∀ i, aG m c i = (((aG m c i : EReal).toReal : ℝ) : EReal))
  ∧ (∀ i, aT m c i = (((aT m c i : EReal).toReal : ℝ) : EReal))

variable {m c}

theorem er_real (h : Real m c) (r : Fin 4096) (l : Fin 1024) : ∃ e : ℝ,
    val_main_v16 (F := Ideal) (aX m c) (aG m c) (aT m c) (ix2 r l) = (e : EReal) := by
  obtain ⟨hX, hG, hT⟩ := h
  rw [rerr, show (fun k => aX m c (ix2 r k)) = _ from funext fun k => hX (ix2 r k),
    show (fun k => aG m c (ix1 k)) = _ from funext fun k => hG (ix1 k),
    show (fun k => aT m c (ix2 r k)) = _ from funext fun k => hT (ix2 r k)]
  exact err_real _ _ _ l

theorem cot_eq (h : Real m c) (r : Fin 256) (l : Fin 1024) :
    k0_pay10 (iblk m c 0 t) (iblk m c 1 t) (iblk m c 2 t) (ix2 r l)
      = val_main_v30 (F := Ideal) (aX m c) (aG m c) (aT m c) (ix2 (row t r) l) := by
  obtain ⟨e, he⟩ := er_real h (row t r) l
  rw [kd, er, he, scale, rcot, cot, ← rerr, he]

theorem cot_real (h : Real m c) (r : Fin 4096) (l : Fin 1024) : ∃ d : ℝ,
    val_main_v30 (F := Ideal) (aX m c) (aG m c) (aT m c) (ix2 r l) = (d : EReal) := by
  obtain ⟨e, he⟩ := er_real h r l
  rw [rcot, cot, ← rerr, he, ← scale, w_unit, ← EReal.coe_mul]
  exact ⟨_, rfl⟩

theorem dg (h : Real m c) (r : Fin 256) (l : Fin 1024) :
    k0_pay10 (iblk m c 0 t) (iblk m c 1 t) (iblk m c 2 t) (ix2 r l) * k0_pay12 (iblk m c 0 t) (ix2 r l)
      = val_main_v31 (F := Ideal) (aX m c) (aG m c) (aT m c) (ix2 (row t r) l) := by
  rw [cot_eq t h, kxh]
  pointwise [val_main_v31]
  rw [rxh]
  have h0 := fun k => read_0 m c t r k
  dsimp only at h0
  simp only [h0]
  exact mul_comm _ _

theorem dx (h : Real m c) (r : Fin 256) (l : Fin 1024) :
    k0_pay1 (k0_pay14 (iblk m c 0 t) (iblk m c 1 t) (iblk m c 2 t)) (k0_pay15 (iblk m c 0 t)) (ix2 r l)
      = val_main_v50 (F := Ideal) (aX m c) (aG m c) (aT m c) (ix2 (row t r) l) := by
  rw [kdx, rdx]
  have h0 := fun k => read_0 m c t r k
  have h2 := fun k => read_2 m c t k
  dsimp only at h0 h2
  simp only [cot_eq t h, h0, h2]
  choose d hd using cot_real h
  simp only [hd, len, eps, nhalf, w_1024, w_eps, w_neg_half]
  rw [show (fun k => aX m c (ix2 (row t r) k)) = _ from funext fun k => h.1 _,
    show (fun k => aG m c (ix1 k)) = _ from funext fun k => h.2.1 _, h.1 (ix2 (row t r) l), h.2.1 (ix1 l)]
  have e := grad_eq (c := 1024) (ε := 8796093 / 2 ^ 43) (by norm_num) (by norm_num)
    (fun k => (aX m c (ix2 (row t r) k)).toReal) (fun k => (aG m c (ix1 k)).toReal) (fun k => d (row t r) k) 0 l
  simpa only [zero_add] using e

variable (m c)

theorem point_3 (h : Real m c) (i : S256x1024.Idx) :
    k0_pay2 (k0_pay14 (iblk m c 0 t) (iblk m c 1 t) (iblk m c 2 t)) (k0_pay15 (iblk m c 0 t)) i
      = val_main_v50 (F := Ideal) (aX m c) (aG m c) (aT m c) (ix2 (row t (i 0)) (i 1)) := by
  idx_vars i
  pointwise [k0_pay2]
  exact dx t h i0 i1

theorem point_4 (h : Real m c) (i : S256x1024.Idx) :
    k0_pay3 (k0_pay14 (iblk m c 0 t) (iblk m c 1 t) (iblk m c 2 t)) (k0_pay15 (iblk m c 0 t)) i
      = val_main_v51 (F := Ideal) (aX m c) (aG m c) (aT m c) (ix2 (row t (i 0)) (i 1)) := by
  idx_vars i
  pointwise [k0_pay3, val_main_v51]
  exact dx t h i0 i1

/-! ### The arrays after the run -/

theorem final_3 (h : Real m c) : (dats m 0 c).arrAt 3 cfg0.N = val_main_v50 (F := Ideal) (aX m c) (aG m c) (aT m c) := by
  refine (dats m 0 c).arrAt_eq_of_covers 3 _ (by decide +kernel) fun t hf y => ?_
  blk_simp
  rw [after0_3]
  by_cases ht : t.val % 16 = 0
  · rw [outsAt0_A m c t ht]; frame_out; rw [point_3 m c t h]; unfold row; blk_ext [idx t]
  · rw [outsAt0_B m c t ht]; frame_out; rw [point_3 m c t h]; unfold row; blk_ext [idx t]

theorem final_4 (h : Real m c) : (dats m 0 c).arrAt 4 cfg0.N = val_main_v51 (F := Ideal) (aX m c) (aG m c) (aT m c) := by
  refine (dats m 0 c).arrAt_eq_of_covers 4 _ (by decide +kernel) fun t hf y => ?_
  blk_simp
  rw [after0_4]
  by_cases ht : t.val % 16 = 0
  · rw [outsAt0_A m c t ht]; frame_out; rw [point_4 m c t h]; unfold row; blk_ext [idx t]
  · rw [outsAt0_B m c t ht]; frame_out; rw [point_4 m c t h]; unfold row; blk_ext [idx t]

theorem final_5 (h : Real m c) : (dats m 0 c).arrAt 5 cfg0.N = val_main_v52 (F := Ideal) (aX m c) (aG m c) (aT m c) := by
  refine (dats m 0 c).arrAt_eq_of_after_last 5 t0_15 (by decide +kernel) _ fun j => ?_
  blk_simp
  rw [after0_5, Pipeline.eq_sum_fin_of_reset_step_apply_last (fun n h => (outsAt0 m c n h).2.2.1) 16 (fun _ => 0) _
    (fun t h j => by rw [outsAt0_A m c t h]; frame_out; rw [kdg, kzero_5])
    (fun t h j => by rw [outsAt0_B m c t h]; frame_out; rw [kdg])
    (le_of_eq N_0) t0_15 rfl j, zero_add, rdg]
  refine Fin.sum_mul_add_congr fun t r hl => ?_
  exact dg t h r _

theorem final_6 : (dats m 0 c).arrAt 6 cfg0.N = val_main_v54 (F := Ideal) (aX m c) (aG m c) (aT m c) := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0) _
    (fun t h j => by rw [outsAt0_A m c t h]; frame_out; rw [kpart, kzero_6])
    (fun t h j => by rw [outsAt0_B m c t h]; frame_out; rw [kpart])
    (le_of_eq N_0) t0_15 rfl j, zero_add, rpart]
  refine Fin.sum_mul_add_congr fun t r hl => ?_
  exact congrArg₂ _ (er m c t r _) (er m c t r _)

end Cert.LossHead

end
-- ==== Proof.LossHeadClaim.lean ====
/- The claims about the loss and the gradient of the last norm. -/
module

public import proofs.«01_k».proof.Defs
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Pre_losshead_finite
public import proofs.«01_k».proof.Proof.LossHeadFinal
public import proofs.«01_k».proof.Proof.Finite
public import Idealize.ShloMosaic.Lib.Claim

@[expose] public section

set_option maxRecDepth 16384

noncomputable section

namespace Cert.LossHead

open Idealize.ShloMosaic Idealize.ShloMosaic.TcCoe Idealize.SL.Sem

theorem frame_reference : Cert.quiescent_LossHeadRefIdeal := by
  intro m g _
  refine θ_run_mono (Cert.LossHeadRefIdeal.Value.run m g) fun r h => ⟨?_, sem_eq_zero_of_no_sems (by decide) r.2⟩
  intro c
  exact (h c).2.2.2.2

open Cert.LossHeadIdeal in
theorem reals {m : (ℓ : Loc nD τ sig) → Buf (Elt Ideal) ℓ} {c : Dev nD}
    (h : Cert.Pre_losshead_finite.fn (F := Ideal) (aX m c) (aG m c) (aT m c) ix0 = 1#1) : Real m c := by
  dsimp only [Cert.Pre_losshead_finite.fn] at h
  have hi : ∀ (p q : BitVec 1), IntOp.andi p q = 1#1 → p = 1#1 ∧ q = 1#1 := by decide
  obtain ⟨h, h2⟩ := hi _ _ h
  obtain ⟨h0, h1⟩ := hi _ _ h
  exact ⟨Finite.entry _ _ (fun _ => Finite.ofBits_inf) _ _ _ _ h0, Finite.entry _ _ (fun _ => Finite.ofBits_inf) _ _ _ _ h1,
    Finite.entry _ _ (fun _ => Finite.ofBits_inf) _ _ _ _ h2⟩

/-- The call's four results are the reference's. -/
theorem algebraic : Cert.algebraic_LossHeadIdeal_LossHeadRefIdeal_pre_losshead_finite := by
  intro m g m' g' hpre hagree
  have hf := fun c => reals (congrFun (hpre c) ix0)
  refine ⟨fun c => _, fun c => _, fun c => _, fun c => _, Cert.LossHeadIdeal.Value.run_blocks m g, ?_⟩
  refine θ_run_mono (Cert.LossHeadRefIdeal.Value.run m' g') fun r h c => ?_
  obtain ⟨h0, h1, h2, h3, h4⟩ := h c
  obtain ⟨a0, a1, a2⟩ := hagree c
  refine ⟨h0.trans ?_, h1.trans ?_, h2.trans ?_, h3.trans ?_, h4⟩
  · rw [Cert.LossHeadRefIdeal.Read.val_main_v50_eq, a0, a1, a2]
    exact (final_3 m c (hf c)).symm
  · rw [Cert.LossHeadRefIdeal.Read.val_main_v51_eq, a0, a1, a2]
    exact (final_4 m c (hf c)).symm
  · rw [Cert.LossHeadRefIdeal.Read.val_main_v52_eq, a0, a1, a2]
    exact (final_5 m c (hf c)).symm
  · rw [Cert.LossHeadRefIdeal.Read.val_main_v54_eq, a0, a1, a2]
    exact (final_6 m c).symm

end Cert.LossHead

end
-- ==== Proof.LogSigmoid.lean ====
/- The derivative of the logarithm of the logistic function, as a library writes it, against a form with `tanh`. -/
module

public import proofs.«01_k».proof.Proof.Sigmoid
public import proofs.«01_k».proof.Proof.Finite
public import Idealize.ShloMosaic.Lib.Pointwise

@[expose] public section

noncomputable section

namespace Cert.LogSigmoid

open Idealize.ShloMosaic

abbrev inf : EReal := Ideal.ofBits FTy.f32 0x7F800000#32

/-- The logarithm of `1 + exp y`, written so that nothing overflows; an entry that is not itself is passed on. -/
abbrev softplus (y : EReal) : EReal := if y ≠ y then y else max y 0 + Ideal.log1p (Ideal.exp (-FloatOps.absf (F := Ideal) (φ := FTy.f32) y))

/-- The derivative of `softplus`. -/
abbrev slope (y : EReal) : EReal := Ideal.exp ((if y = inf then 0 else y) - if softplus y = inf then 0 else softplus y)

theorem log1p_coe (x : ℝ) (h : 0 < x) : Ideal.log1p (x : EReal) = ((Real.log (1 + x) : ℝ) : EReal) := by
  show Ideal.log (1 + (x : EReal)) = _
  rw [show (1 : EReal) = ((1 : ℝ) : EReal) from rfl, ← EReal.coe_add]
  exact if_neg (by linarith)

theorem softplus_coe (y : ℝ) : softplus (y : EReal) = ((Real.log (1 + Real.exp y) : ℝ) : EReal) := by
  have ha : FloatOps.absf (F := Ideal) (φ := FTy.f32) (y : EReal) = ((|y| : ℝ) : EReal) := by
    show max (y : EReal) (-(y : EReal)) = _
    rw [← EReal.coe_neg, ← EReal.coe_strictMono.monotone.map_max]; rfl
  unfold softplus
  rw [if_neg (by simp), ha, ← EReal.coe_neg, Ideal.exp_coe, log1p_coe _ (Real.exp_pos _), ← EReal.coe_zero,
    ← EReal.coe_strictMono.monotone.map_max, ← EReal.coe_add]
  congr 1
  rcases le_total 0 y with h | h
  · rw [max_eq_left h, abs_of_nonneg h]
    have e : 1 + Real.exp y = Real.exp y * (1 + Real.exp (-y)) := by
      rw [mul_add, mul_one, ← Real.exp_add, add_neg_cancel, Real.exp_zero, add_comm]
    rw [e, Real.log_mul (Real.exp_pos _).ne' (by positivity), Real.log_exp]
  · rw [max_eq_right h, abs_of_nonpos h, neg_neg, zero_add]

theorem slope_coe (y : ℝ) : slope (y : EReal) = Sigmoid.gate (y : EReal) := by
  unfold slope
  rw [softplus_coe, show inf = ⊤ from Finite.ofBits_inf, if_neg (EReal.coe_ne_top _), if_neg (EReal.coe_ne_top _), ← EReal.coe_sub]
  unfold Sigmoid.gate
  have hp : (1 : ℝ) + Real.exp (-y) ≠ 0 := by positivity
  rw [← EReal.coe_neg, Ideal.exp_coe, Ideal.exp_coe, show (1 : EReal) = ((1 : ℝ) : EReal) from rfl, ← EReal.coe_add,
    Ideal.div_coe hp, ← EReal.coe_mul]
  congr 1
  rw [Real.exp_sub, Real.exp_log (by positivity), Real.exp_neg]
  field_simp
  ring

/-- The derivative is the logistic function, at the infinities too. -/
theorem slope_eq (y : EReal) : slope y = Sigmoid.gate y := by
  induction y using EReal.rec with
  | coe r => exact slope_coe r
  | top =>
    have e : softplus ⊤ = ⊤ := by
      unfold softplus
      rw [if_neg (by simp), max_eq_left le_top]
      have ha : FloatOps.absf (F := Ideal) (φ := FTy.f32) (⊤ : EReal) = ⊤ := max_eq_left le_top
      rw [ha, EReal.neg_top, Ideal.exp_bot, show (0 : EReal) = ((0 : ℝ) : EReal) from rfl]
      show ⊤ + Ideal.log (1 + ((0 : ℝ) : EReal)) = ⊤
      rw [show (1 : EReal) = ((1 : ℝ) : EReal) from rfl, ← EReal.coe_add]
      exact (congrArg (⊤ + ·) (if_neg (by norm_num) : Ideal.log (((1 + 0 : ℝ)) : EReal) = ((Real.log (1 + 0) : ℝ) : EReal))).trans (EReal.top_add_coe _)
    unfold slope Sigmoid.gate
    rw [e, show inf = ⊤ from Finite.ofBits_inf, if_pos rfl, sub_zero, EReal.neg_top, Ideal.exp_bot, add_zero,
      show (1 : EReal) = ((1 : ℝ) : EReal) from rfl, Ideal.div_coe one_ne_zero, ← EReal.coe_mul, ← EReal.coe_zero, Ideal.exp_coe]
    norm_num
  | bot =>
    have e : softplus ⊥ = 0 := by
      unfold softplus
      rw [if_neg (by simp), max_eq_right bot_le]
      have ha : FloatOps.absf (F := Ideal) (φ := FTy.f32) (⊥ : EReal) = ⊤ := max_eq_right bot_le
      rw [ha, EReal.neg_top, Ideal.exp_bot, show (0 : EReal) = ((0 : ℝ) : EReal) from rfl]
      show ((0 : ℝ) : EReal) + Ideal.log (1 + ((0 : ℝ) : EReal)) = ((0 : ℝ) : EReal)
      rw [show (1 : EReal) = ((1 : ℝ) : EReal) from rfl, ← EReal.coe_add]
      refine (congrArg (((0 : ℝ) : EReal) + ·) (if_neg (by norm_num) : Ideal.log (((1 + 0 : ℝ)) : EReal) = ((Real.log (1 + 0) : ℝ) : EReal))).trans ?_
      rw [add_zero, Real.log_one]
      exact add_zero _
    unfold slope Sigmoid.gate
    rw [e, show inf = ⊤ from Finite.ofBits_inf, if_neg (by decide), if_neg (by decide), sub_zero, Ideal.exp_bot, EReal.neg_bot,
      Ideal.exp_top, EReal.add_top_of_ne_bot (by decide), Ideal.div, if_neg (by decide), EReal.inv_top, mul_zero]

end Cert.LogSigmoid

end
-- ==== Proof.GlaPrep.lean ====
/- The gradient of the gated linear attention's decay: a block of the kernel, and the reference's arrays, entry by entry. -/
module

public import proofs.«01_k».proof.Proof.Gen.GlaPrepIdeal.Value
public import proofs.«01_k».proof.Proof.Gen.GlaPrepRefIdeal.Read
public import proofs.«01_k».proof.Proof.LogSigmoid
public import Idealize.ShloMosaic.Lib.Pipeline.ValueKit
public import Idealize.ShloMosaic.Lib.Pointwise

@[expose] public section

set_option maxRecDepth 16384

noncomputable section

namespace Cert.GlaPrep

open Cert.GlaPrepIdeal Cert.GlaPrepIdeal.Gen
open Idealize.ShloMosaic Idealize.ShloMosaic.TcCoe Idealize.SL.Sem
open Cert.GlaPrepRefIdeal.Read

/-- The words of one half and of the decay's divisor. -/
abbrev half : EReal := Ideal.ofBits FTy.f32 0x3F000000#32
abbrev tau : EReal := Ideal.ofBits FTy.f32 0x41800000#32

theorem w_tau : tau = ((16 : ℝ) : EReal) := by
  simp [Ideal.ofBits, Ideal.ieee, -EReal.coe_mul]; norm_num

/-- The gradient of a logit `x` as the kernel computes it from the cotangent `c` of the decay. -/
abbrev decay (c x : EReal) : EReal := c * Ideal.div (half * Ideal.tanh (half * (0 - x)) + half) tau

/-- The library's derivative of the logarithm of the logistic function is the kernel's. -/
theorem decay_eq (c x : EReal) : -(-Ideal.div c tau * LogSigmoid.slope (-x)) = decay c x := by
  unfold decay half
  rw [LogSigmoid.slope_eq, Sigmoid.tanh_gate, zero_sub, w_tau, Ideal.div_coe (by norm_num), Ideal.div_coe (by norm_num),
    EReal.neg_mul, neg_neg, mul_assoc, mul_comm (Sigmoid.gate (-x))]

/-! ### A row laid out in 128 columns: 16 of one array, 16 of another, zeros -/

def pieces (a b : Fin 16 → EReal) (k : Fin 128) : EReal :=
  if h : k.val < 16 then a ⟨k.val, h⟩ else if h1 : k.val - 16 < 16 then b ⟨k.val - 16, h1⟩ else 0

theorem pieces_mul (a b c d : Fin 16 → EReal) (k : Fin 128) :
    pieces a b k * pieces c d k = pieces (fun i => a i * c i) (fun i => b i * d i) k := by
  unfold pieces
  split_ifs <;> simp

theorem sum_pieces (a b : Fin 16 → EReal) : ∑ k, pieces a b k = ∑ k, a k + ∑ k, b k := by
  refine (Fin.sum_univ_add (M := EReal) (a := 16) (b := 112) (pieces a b)).trans ?_
  refine congrArg₂ (· + ·) ?_ ?_
  · refine Finset.sum_congr rfl fun k _ => ?_
    unfold pieces
    exact dif_pos k.isLt
  · refine (Fin.sum_univ_add (M := EReal) (a := 16) (b := 96) fun k => pieces a b (Fin.natAdd 16 k)).trans ?_
    have h0 : ∀ k : Fin 96, pieces a b (Fin.natAdd 16 (Fin.natAdd 16 k)) = 0 := fun k => by
      unfold pieces
      rw [dif_neg (by simp), dif_neg (by simp)]
    rw [Finset.sum_eq_zero fun k _ => h0 k, add_zero]
    refine Finset.sum_congr rfl fun k _ => ?_
    unfold pieces
    rw [dif_neg (by simp)]
    refine (dif_pos (by simp)).trans ?_
    congr 1
    exact Fin.ext (by simp)

/-! ### The kernel's block -/

section
variable (c0 c1 : Vec Ideal S256x512 .f32) (z : Vec Ideal S256x128 .bf16) (wf wb : Vec Ideal S128x512 .f32) (bf bb : Vec Ideal S1x512 .f32)

/-- A logit. -/
abbrev kx (w : Vec Ideal S128x512 .f32) (b : Vec Ideal S1x512 .f32) (r : Fin 256) (l : Fin 512) : EReal :=
  ∑ k : Fin 128, z (ix2 r k) * w (ix2 k l) + b (ix2 0 l)

theorem kdf (r : Fin 256) (l : Fin 512) : k0_pay5 c0 z wf bf (ix2 r l) = decay (c0 (ix2 r l)) (kx z wf bf r l) := by
  pointwise [k0_pay5, k0_pay2, k0_pay3]

theorem kdb (r : Fin 256) (l : Fin 512) : k0_pay7 c1 (k0_pay6 z wb bb) (ix2 r l) = decay (c1 (ix2 r l)) (kx z wb bb r l) := by
  pointwise [k0_pay7, k0_pay6, k0_pay2, k0_pay4]

theorem kdz (p q : FVec Ideal S256x512 .f32) (r : Fin 256) (k : Fin 128) : k0_pay11 c1 (k0_pay3 wf) (k0_pay4 wb) p q (ix2 r k)
    = ∑ l : Fin 512, p (ix2 r l) * wf (ix2 k l) + ∑ l : Fin 512, k0_pay7 c1 q (ix2 r l) * wb (ix2 k l) := by
  pointwise [k0_pay11, k0_pay3, k0_pay4]

theorem kbf (p : FVec Ideal S256x512 .f32) (acc : Vec Ideal S1x512 .f32) (j : S1x512.Idx) :
    k0_pay14 p acc j = acc j + ∑ r : Fin 256, p (ix2 r (j 1)) := by
  idx_vars j
  obtain rfl : j0 = 0 := Subsingleton.elim _ _
  pointwise [k0_pay14]

theorem kbb (q : FVec Ideal S256x512 .f32) (acc : Vec Ideal S1x512 .f32) (j : S1x512.Idx) :
    k0_pay1 (k0_pay8 c1 q) acc j = acc j + ∑ r : Fin 256, k0_pay7 c1 q (ix2 r (j 1)) := by
  idx_vars j
  obtain rfl : j0 = 0 := Subsingleton.elim _ _
  pointwise [k0_pay1, k0_pay8]

theorem kzero_10 (j : S1x512.Idx) : k0_pay12 (F := Ideal) j = 0 := by
  idx_vars j
  pointwise [k0_pay12]

theorem kzero_11 (j : S1x512.Idx) : k0_pay13 (F := Ideal) j = 0 := by
  idx_vars j
  pointwise [k0_pay13]

end

/-! ### The reference -/

section
variable (x0 x1 : FVec Ideal S4096x16 .f32) (x2 : FVec Ideal S2x16x512 .f32) (x3 : FVec Ideal S2x512 .f32) (x4 x5 : FVec Ideal S4096x512 .f32)

theorem rx_f (r : Fin 4096) (l : Fin 512) : val_main_v7 (F := Ideal) x0 x2 x3 (ix2 r l)
    = ∑ k : Fin 16, x0 (ix2 r k) * x2 (ix3 0 k l) + x3 (ix2 0 l) := by
  pointwise [val_main_v7, val_main_v6, val_main_v5, val_main_v4, val_main_v3, val_main_v2, val_main_v1, val_main_v0]

theorem rx_b (r : Fin 4096) (l : Fin 512) : val_main_v15 (F := Ideal) x1 x2 x3 (ix2 r l)
    = ∑ k : Fin 16, x1 (ix2 r k) * x2 (ix3 1 k l) + x3 (ix2 1 l) := by
  pointwise [val_main_v15, val_main_v14, val_main_v13, val_main_v12, val_main_v11, val_main_v10, val_main_v9, val_main_v8]

theorem rdf (r : Fin 4096) (l : Fin 512) : val_main_v21 (F := Ideal) x0 x2 x3 x4 (ix2 r l)
    = decay (x4 (ix2 r l)) (val_main_v7 (F := Ideal) x0 x2 x3 (ix2 r l)) := by
  rw [← decay_eq]
  pointwise [val_main_v21, val_main_call1_v1, val_main_call1_v0, val_main_v20, val_main_v19, val_main_cst_0, val_main_v16_1, val_main_call0_call0_v21, val_main_call0_call0_v20, val_main_call0_call0_v16, val_main_call0_call0_v19, val_main_call0_call0_v18, val_main_call0_call0_v17, val_main_call0_call0_v15, val_main_call0_call0_v14, val_main_call0_call0_v13, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_call0_cst_0, val_main_call0_call0_cst_1, val_main_call0_call0_cst_2, val_main_call0_call0_cst_3, val_main_call0_v0, val_main_call0_v1_0]

theorem rdb (r : Fin 4096) (l : Fin 512) : val_main_v27 (F := Ideal) x1 x2 x3 x5 (ix2 r l)
    = decay (x5 (ix2 r l)) (val_main_v15 (F := Ideal) x1 x2 x3 (ix2 r l)) := by
  rw [← decay_eq]
  pointwise [val_main_v27, val_main_call3_v1, val_main_call3_v0, val_main_v26, val_main_v25, val_main_cst_2, val_main_v22_1, val_main_call2_call0_v21, val_main_call2_call0_v20, val_main_call2_call0_v16, val_main_call2_call0_v19, val_main_call2_call0_v18, val_main_call2_call0_v17, val_main_call2_call0_v15, val_main_call2_call0_v14, val_main_call2_call0_v13, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_call0_cst, val_main_call2_call0_cst_0, val_main_call2_call0_cst_1, val_main_call2_call0_cst_2, val_main_call2_call0_cst_3, val_main_call2_v0, val_main_call2_v1_0]

theorem rdz (r : Fin 4096) (k : Fin 128) : val_main_v42 (F := Ideal) x0 x1 x2 x3 x4 x5 (ix2 r k)
    = pieces (fun i => ∑ l : Fin 512, val_main_v21 (F := Ideal) x0 x2 x3 x4 (ix2 r l) * x2 (ix3 0 i l))
        (fun i => ∑ l : Fin 512, val_main_v27 (F := Ideal) x1 x2 x3 x5 (ix2 r l) * x2 (ix3 1 i l)) k := by
  unfold pieces
  pointwise [val_main_v42, val_main_v40, val_main_v33, val_main_v41, val_main_cst_9, val_main_v1, val_main_v0, val_main_v9, val_main_v8]

theorem rbf (j : S1x512.Idx) : val_main_v45 (F := Ideal) x0 x1 x2 x3 x4 x5 j
    = ∑ r : Fin 4096, val_main_v21 (F := Ideal) x0 x2 x3 x4 (ix2 r (j 1)) := by
  idx_vars j
  obtain rfl : j0 = 0 := Subsingleton.elim _ _
  pointwise [val_main_v45, val_main_v39, val_main_v38, val_main_v37, val_main_v36, val_main_v35, val_main_v34, val_main_v32, val_main_v31, val_main_v30, val_main_v29, val_main_v28, val_main_cst_3, val_main_cst_4, val_main_cst_5, val_main_cst_6, val_main_cst_7, val_main_cst_8]
  simp only [Finset.univ_unique, Finset.sum_singleton]

theorem rbb (j : S1x512.Idx) : val_main_v46 (F := Ideal) x0 x1 x2 x3 x4 x5 j
    = ∑ r : Fin 4096, val_main_v27 (F := Ideal) x1 x2 x3 x5 (ix2 r (j 1)) := by
  idx_vars j
  obtain rfl : j0 = 0 := Subsingleton.elim _ _
  pointwise [val_main_v46, val_main_v39, val_main_v38, val_main_v37, val_main_v36, val_main_v35, val_main_v34, val_main_v32, val_main_v31, val_main_v30, val_main_v29, val_main_v28, val_main_cst_3, val_main_cst_4, val_main_cst_5, val_main_cst_6, val_main_cst_7, val_main_cst_8]
  simp only [Finset.univ_unique, Finset.sum_singleton]

end

end Cert.GlaPrep

end
-- ==== Proof.GlaPrepFinal.lean ====
/- The gradient of the gated linear attention's decay: the arrays after the run are the reference's. -/
module

public import proofs.«01_k».proof.Proof.GlaPrep
public import Idealize.ShloMosaic.Lib.Claim

@[expose] public section

set_option maxRecDepth 16384

noncomputable section

namespace Cert.GlaPrep

open Cert.GlaPrepIdeal Cert.GlaPrepIdeal.Gen
open Idealize.ShloMosaic Idealize.ShloMosaic.TcCoe Idealize.SL.Sem
open Cert.GlaPrepRefIdeal.Read

variable (m : (ℓ : Loc nD τ sig) → Buf (Elt Ideal) ℓ)

section
variable (c : Dev nD)

/-- The arguments. -/
abbrev aF : FVec Ideal S4096x16 .f32 := m ((c : Thread nD τ).loc main_arg0)
abbrev aB : FVec Ideal S4096x16 .f32 := m ((c : Thread nD τ).loc main_arg1)
abbrev aW : FVec Ideal S2x16x512 .f32 := m ((c : Thread nD τ).loc main_arg2)
abbrev aH : FVec Ideal S2x512 .f32 := m ((c : Thread nD τ).loc main_arg3)
abbrev aC : FVec Ideal S4096x512 .f32 := m ((c : Thread nD τ).loc main_arg4)
abbrev aD : FVec Ideal S4096x512 .f32 := m ((c : Thread nD τ).loc main_arg5)

theorem host_z' : (show FVec Ideal S4096x3456 .bf16 from V m c main_v14)
    = truncf .bf16 (concatenate S4096x3456 1
        [⟨S4096x3328, broadcastInDim S4096x3328 ![] bcast_S_S4096x3328 (constant S_ FTy.f32 0#32)⟩,
         ⟨S4096x16, aF m c⟩, ⟨S4096x16, aB m c⟩,
         ⟨S4096x96, broadcastInDim S4096x96 ![] bcast_S_S4096x96 (constant S_ FTy.f32 0#32)⟩]
        concatenates_S4096x3328_S4096x16_S4096x16_S4096x96_S4096x3456_d1) bitsLt_bf16_f32 := by
  unfold V hostOps0
  simp only [StableHlo.after_cons, StableHlo.after_nil]
  after_results_steps
  rfl

/-- The row of `z`'s array, of which the kernel reads the last 128 columns. -/
def wide (a b : Fin 16 → EReal) (k : Fin 3456) : EReal :=
  if h : k.val < 3328 then 0 else if h1 : k.val - 3328 < 16 then a ⟨k.val - 3328, h1⟩
  else if h2 : k.val - 3328 - 16 < 16 then b ⟨k.val - 3328 - 16, h2⟩ else 0

theorem wide_last (a b : Fin 16 → EReal) (k : Fin 128) (h : 3328 + k.val < 3456) : wide a b ⟨3328 + k.val, h⟩ = pieces a b k := by
  have e : 3328 + k.val - 3328 = k.val := by omega
  unfold wide pieces
  simp only [e]
  exact dif_neg (by omega)

theorem host_z (r : Fin 4096) (k : Fin 3456) : (show FVec Ideal S4096x3456 .bf16 from V m c main_v14) (ix2 r k)
    = wide (fun i => aF m c (ix2 r i)) (fun i => aB m c (ix2 r i)) k := by
  rw [host_z']
  generalize aF m c = p
  generalize aB m c = q
  pointwise
  rfl

theorem host_wf' : (show FVec Ideal S128x512 .f32 from V m c main_v7)
    = concatenate S128x512 0
        [⟨S16x512, shapeCast S16x512 (extractStridedSlice S1x16x512 ![0, 0, 0] (aW m c) slices_S2x16x512_S1x16x512_0_0_0) shapeCasts_S1x16x512_S16x512⟩,
         ⟨S16x512, broadcastInDim S16x512 ![] bcast_S_S16x512 (constant S_ FTy.f32 0#32)⟩,
         ⟨S96x512, broadcastInDim S96x512 ![] bcast_S_S96x512 (constant S_ FTy.f32 0#32)⟩]
        concatenates_S16x512_S16x512_S96x512_S128x512_d0 := by
  unfold V hostOps0
  simp only [StableHlo.after_cons, StableHlo.after_nil]
  after_results_steps
  rfl

theorem host_wf (k : Fin 128) (l : Fin 512) : (show FVec Ideal S128x512 .f32 from V m c main_v7) (ix2 k l)
    = pieces (fun i => aW m c (ix3 0 i l)) (fun _ => 0) k := by
  rw [host_wf']
  generalize aW m c = p
  pointwise
  rfl

theorem host_wb' : (show FVec Ideal S128x512 .f32 from V m c main_v11)
    = concatenate S128x512 0
        [⟨S16x512, broadcastInDim S16x512 ![] bcast_S_S16x512 (constant S_ FTy.f32 0#32)⟩,
         ⟨S16x512, shapeCast S16x512 (extractStridedSlice S1x16x512 ![1, 0, 0] (aW m c) slices_S2x16x512_S1x16x512_1_0_0) shapeCasts_S1x16x512_S16x512⟩,
         ⟨S96x512, broadcastInDim S96x512 ![] bcast_S_S96x512 (constant S_ FTy.f32 0#32)⟩]
        concatenates_S16x512_S16x512_S96x512_S128x512_d0 := by
  unfold V hostOps0
  simp only [StableHlo.after_cons, StableHlo.after_nil]
  after_results_steps
  rfl

theorem host_wb (k : Fin 128) (l : Fin 512) : (show FVec Ideal S128x512 .f32 from V m c main_v11) (ix2 k l)
    = pieces (fun _ => 0) (fun i => aW m c (ix3 1 i l)) k := by
  rw [host_wb']
  generalize aW m c = p
  pointwise
  rfl

end

theorem idx : ∀ t : Fin cfg0.N, win0_0.index t = ![t.val, 0] ∧ win0_1.index t = ![t.val, 0] ∧ win0_2.index t = ![t.val, 26]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![0, 0] ∧ win0_11.index t = ![0, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt N_0; omega⟩

section
variable (c : Dev nD) (t : Fin cfg0.N)

theorem read_0 (r : Fin 256) (l : Fin 512) : (show Vec Ideal S256x512 .f32 from iblk m c 0 t) (ix2 r l) = aC m c (ix2 (row t r) l) := by
  unfold row
  blk_point [iblk, V, idx t]

theorem read_1 (r : Fin 256) (l : Fin 512) : (show Vec Ideal S256x512 .f32 from iblk m c 1 t) (ix2 r l) = aD m c (ix2 (row t r) l) := by
  unfold row
  blk_point [iblk, V, idx t]

theorem read_2 (r : Fin 256) (k : Fin 128) : (show Vec Ideal S256x128 .bf16 from iblk m c 2 t) (ix2 r k)
    = pieces (fun i => aF m c (ix2 (row t r) i)) (fun i => aB m c (ix2 (row t r) i)) k := by
  rw [← wide_last _ _ k (by omega), ← host_z]
  unfold row
  blk_ext [iblk, idx t]

theorem read_3 (k : Fin 128) (l : Fin 512) : (show Vec Ideal S128x512 .f32 from iblk m c 3 t) (ix2 k l)
    = pieces (fun i => aW m c (ix3 0 i l)) (fun _ => 0) k := by
  rw [← host_wf]
  blk_ext [iblk, idx t]

theorem read_4 (k : Fin 128) (l : Fin 512) : (show Vec Ideal S128x512 .f32 from iblk m c 4 t) (ix2 k l)
    = pieces (fun _ => 0) (fun i => aW m c (ix3 1 i l)) k := by
  rw [← host_wb]
  blk_ext [iblk, idx t]

theorem read_5 (l : Fin 512) : (show Vec Ideal S1x512 .f32 from iblk m c 5 t) (ix2 0 l) = aH m c (ix2 0 l) := by
  blk_point [iblk, V, idx t]

theorem read_6 (l : Fin 512) : (show Vec Ideal S1x512 .f32 from iblk m c 6 t) (ix2 0 l) = aH m c (ix2 1 l) := by
  blk_point [iblk, V, idx t]

/-! ### A block against the reference -/

theorem logit_f (r : Fin 256) (l : Fin 512) : kx (iblk m c 2 t) (iblk m c 3 t) (iblk m c 5 t) r l
    = val_main_v7 (F := Ideal) (aF m c) (aW m c) (aH m c) (ix2 (row t r) l) := by
  rw [rx_f]
  unfold kx
  have h2 := fun k => read_2 m c t r k
  have h3 := fun k => read_3 m c t k l
  have h5 := read_5 m c t l
  dsimp only at h2 h3 h5
  simp only [h2, h3, h5, pieces_mul, mul_zero, sum_pieces, Finset.sum_const_zero, add_zero]

theorem logit_b (r : Fin 256) (l : Fin 512) : kx (iblk m c 2 t) (iblk m c 4 t) (iblk m c 6 t) r l
    = val_main_v15 (F := Ideal) (aB m c) (aW m c) (aH m c) (ix2 (row t r) l) := by
  rw [rx_b]
  unfold kx
  have h2 := fun k => read_2 m c t r k
  have h4 := fun k => read_4 m c t k l
  have h6 := read_6 m c t l
  dsimp only at h2 h4 h6
  simp only [h2, h4, h6, pieces_mul, mul_zero, sum_pieces, Finset.sum_const_zero, zero_add]

theorem df (r : Fin 256) (l : Fin 512) : k0_pay5 (iblk m c 0 t) (iblk m c 2 t) (iblk m c 3 t) (iblk m c 5 t) (ix2 r l)
    = val_main_v21 (F := Ideal) (aF m c) (aW m c) (aH m c) (aC m c) (ix2 (row t r) l) := by
  rw [kdf, logit_f, rdf]
  exact congrArg (decay · _) (read_0 m c t r l)

theorem db (r : Fin 256) (l : Fin 512) : k0_pay7 (iblk m c 1 t) (k0_pay6 (iblk m c 2 t) (iblk m c 4 t) (iblk m c 6 t)) (ix2 r l)
    = val_main_v27 (F := Ideal) (aB m c) (aW m c) (aH m c) (aD m c) (ix2 (row t r) l) := by
  rw [kdb, logit_b, rdb]
  exact congrArg (decay · _) (read_1 m c t r l)

theorem point_7 : k0_pay9 (k0_pay5 (iblk m c 0 t) (iblk m c 2 t) (iblk m c 3 t) (iblk m c 5 t))
    = fun j => val_main_v43 (F := Ideal) (aF m c) (aW m c) (aH m c) (aC m c) (ix2 (row t (j 0)) (j 1)) := by
  funext j
  idx_vars j
  pointwise [k0_pay9, val_main_v43]
  exact df m c t j0 j1

theorem point_8 : k0_pay10 (iblk m c 1 t) (k0_pay6 (iblk m c 2 t) (iblk m c 4 t) (iblk m c 6 t))
    = fun j => val_main_v44 (F := Ideal) (aB m c) (aW m c) (aH m c) (aD m c) (ix2 (row t (j 0)) (j 1)) := by
  funext j
  idx_vars j
  pointwise [k0_pay10, val_main_v44]
  exact db m c t j0 j1

theorem point_9 : k0_pay11 (iblk m c 1 t) (k0_pay3 (iblk m c 3 t)) (k0_pay4 (iblk m c 4 t))
      (k0_pay5 (iblk m c 0 t) (iblk m c 2 t) (iblk m c 3 t) (iblk m c 5 t)) (k0_pay6 (iblk m c 2 t) (iblk m c 4 t) (iblk m c 6 t))
    = fun j => val_main_v42 (F := Ideal) (aF m c) (aB m c) (aW m c) (aH m c) (aC m c) (aD m c) (ix2 (row t (j 0)) (j 1)) := by
  funext j
  idx_vars j
  refine (kdz _ _ _ _ _ j0 j1).trans ?_
  refine Eq.trans ?_ (rdz _ _ _ _ _ _ (row t j0) j1).symm
  have h3 := fun l => read_3 m c t j1 l
  have h4 := fun l => read_4 m c t j1 l
  have hf := fun l => df m c t j0 l
  have hb := fun l => db m c t j0 l
  dsimp only at h3 h4
  simp only [h3, h4, hf, hb]
  unfold pieces
  split_ifs <;> simp

end

section
variable (c : Dev nD)

theorem final_7 : (dats m 0 c).arrAt 7 cfg0.N = val_main_v43 (F := Ideal) (aF m c) (aW m c) (aH m c) (aC m c) := by
  refine (dats m 0 c).arrAt_eq_of_covers 7 _ (by decide +kernel) fun t hf y => ?_
  blk_simp
  rw [after0_7]
  by_cases ht : t.val % 16 = 0
  · rw [outsAt0_A m c t ht]; frame_out; rw [point_7 m c t]; unfold row; blk_ext [idx t]
  · rw [outsAt0_B m c t ht]; frame_out; rw [point_7 m c t]; unfold row; blk_ext [idx t]

theorem final_8 : (dats m 0 c).arrAt 8 cfg0.N = val_main_v44 (F := Ideal) (aB m c) (aW m c) (aH m c) (aD m c) := by
  refine (dats m 0 c).arrAt_eq_of_covers 8 _ (by decide +kernel) fun t hf y => ?_
  blk_simp
  rw [after0_8]
  by_cases ht : t.val % 16 = 0
  · rw [outsAt0_A m c t ht]; frame_out; rw [point_8 m c t]; unfold row; blk_ext [idx t]
  · rw [outsAt0_B m c t ht]; frame_out; rw [point_8 m c t]; unfold row; blk_ext [idx t]

theorem final_9 : (dats m 0 c).arrAt 9 cfg0.N
    = val_main_v42 (F := Ideal) (aF m c) (aB m c) (aW m c) (aH m c) (aC m c) (aD m c) := by
  refine (dats m 0 c).arrAt_eq_of_covers 9 _ (by decide +kernel) fun t hf y => ?_
  blk_simp
  rw [after0_9]
  by_cases ht : t.val % 16 = 0
  · rw [outsAt0_A m c t ht]; frame_out; rw [point_9 m c t]; unfold row; blk_ext [idx t]
  · rw [outsAt0_B m c t ht]; frame_out; rw [point_9 m c t]; unfold row; blk_ext [idx t]

theorem final_10 : (dats m 0 c).arrAt 10 cfg0.N
    = val_main_v45 (F := Ideal) (aF m c) (aB m c) (aW m c) (aH m c) (aC m c) (aD m c) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0) _
    (fun t h j => by rw [outsAt0_A m c t h]; frame_out; rw [kbf, kzero_10])
    (fun t h j => by rw [outsAt0_B m c t h]; frame_out; rw [kbf])
    (le_of_eq N_0) t0_15 rfl j, zero_add, rbf]
  refine Fin.sum_mul_add_congr fun t r hl => ?_
  exact df m c ⟨t.val, lt_of_lt_of_eq t.isLt N_0.symm⟩ r (j 1)

theorem final_11 : (dats m 0 c).arrAt 11 cfg0.N
    = val_main_v46 (F := Ideal) (aF m c) (aB m c) (aW m c) (aH m c) (aC m c) (aD m c) := by
  refine (dats m 0 c).arrAt_eq_of_after_last 11 t0_15 (by decide +kernel) _ fun j => ?_
  blk_simp
  rw [after0_11, Pipeline.eq_sum_fin_of_reset_step_apply_last (fun n h => (outsAt0 m c n h).2.2.2.2) 16 (fun _ => 0) _
    (fun t h j => by rw [outsAt0_A m c t h]; frame_out; rw [kbb, kzero_11])
    (fun t h j => by rw [outsAt0_B m c t h]; frame_out; rw [kbb])
    (le_of_eq N_0) t0_15 rfl j, zero_add, rbb]
  refine Fin.sum_mul_add_congr fun t r hl => ?_
  exact db m c ⟨t.val, lt_of_lt_of_eq t.isLt N_0.symm⟩ r (j 1)

end

end Cert.GlaPrep

end
-- ==== Proof.GlaPrepClaim.lean ====
/- The claims about the gradient of the gated linear attention's decay. -/
module

public import proofs.«01_k».proof.Defs
public import proofs.«01_k».proof.Proof.Gen.GlaPrep
public import proofs.«01_k».proof.Proof.Gen.GlaPrep.Frame
public import proofs.«01_k».proof.Proof.Gen.GlaPrepIdeal
public import proofs.«01_k».proof.Proof.Gen.GlaPrepIdeal.Frame
public import proofs.«01_k».proof.Proof.Gen.GlaPrepIdeal.Value
public import proofs.«01_k».proof.Proof.Gen.GlaPrepRefIdeal
public import proofs.«01_k».proof.Proof.Gen.GlaPrepRefIdeal.Run
public import proofs.«01_k».proof.Proof.Gen.GlaPrepRefIdeal.Read
public import proofs.«01_k».proof.Proof.GlaPrepFinal
public import Idealize.ShloMosaic.Lib.Claim

@[expose] public section

set_option maxRecDepth 16384

noncomputable section

namespace Cert.GlaPrep

open Idealize.ShloMosaic Idealize.ShloMosaic.TcCoe Idealize.SL.Sem

theorem frame_reference : Cert.quiescent_GlaPrepRefIdeal := by
  intro m g _
  refine θ_run_mono (Cert.GlaPrepRefIdeal.Value.run m g) fun r h => ⟨?_, sem_eq_zero_of_no_sems (by decide) r.2⟩
  intro c
  exact (h c).2.2.2.2.2

/-- The call's five results are the reference's. -/
theorem algebraic : Cert.algebraic_GlaPrepIdeal_GlaPrepRefIdeal := by
  intro m g m' g' _ hagree
  refine ⟨fun c => _, fun c => _, fun c => _, fun c => _, fun c => _, Cert.GlaPrepIdeal.Value.run_blocks m g, ?_⟩
  refine θ_run_mono (Cert.GlaPrepRefIdeal.Value.run m' g') fun r h c => ?_
  obtain ⟨h0, h1, h2, h3, h4, h5⟩ := h c
  obtain ⟨a0, a1, a2, a3, a4, a5⟩ := hagree c
  refine ⟨h0.trans ?_, h1.trans ?_, h2.trans ?_, h3.trans ?_, h4.trans ?_, h5⟩
  · rw [Cert.GlaPrepRefIdeal.Read.val_main_v43_eq, a0, a2, a3, a4]
    exact (final_7 m c).symm
  · rw [Cert.GlaPrepRefIdeal.Read.val_main_v44_eq, a1, a2, a3, a5]
    exact (final_8 m c).symm
  · rw [Cert.GlaPrepRefIdeal.Read.val_main_v42_eq, a0, a1, a2, a3, a4, a5]
    exact (final_9 m c).symm
  · rw [Cert.GlaPrepRefIdeal.Read.val_main_v45_eq, a0, a1, a2, a3, a4, a5]
    exact (final_10 m c).symm
  · rw [Cert.GlaPrepRefIdeal.Read.val_main_v46_eq, a0, a1, a2, a3, a4, a5]
    exact (final_11 m c).symm

end Cert.GlaPrep

end
-- ==== Proof.GeluGrad.lean ====
/- The derivative of the tanh form of gelu: as the kernel writes it and as the reference's differentiation gives it. -/
module

public import proofs.«01_k».proof.Proof.Softmax
public import proofs.«01_k».proof.Proof.Sigmoid

@[expose] public section

noncomputable section

namespace Cert.Gelu

open Idealize.ShloMosaic

/-- The words of 1/2, sqrt(2/pi), 0.044715 and 3. -/
abbrev half : EReal := Ideal.ofBits FTy.f32 0x3F000000#32
abbrev scale : EReal := Ideal.ofBits FTy.f32 0x3F4C422A#32
abbrev cubic : EReal := Ideal.ofBits FTy.f32 0x3D372713#32
abbrev three : EReal := Ideal.ofBits FTy.f32 0x40400000#32

/-- An extended real that is a real number. -/
def IsReal (x : EReal) : Prop := ∃ r : ℝ, x = (r : EReal)

theorem IsReal.coe (r : ℝ) : IsReal (r : EReal) := ⟨r, rfl⟩

theorem IsReal.of_eq {x : EReal} (h : x = ((x.toReal : ℝ) : EReal)) : IsReal x := ⟨_, h⟩

theorem IsReal.one : IsReal 1 := ⟨1, EReal.coe_one.symm⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.tanh {x : EReal} : IsReal x → IsReal (Ideal.tanh x) := by
  rintro ⟨a, rfl⟩
  exact ⟨_, Ideal.tanh_coe a⟩

theorem IsReal.sum {ι : Type*} {s : Finset ι} {f : ι → EReal} (h : ∀ i, IsReal (f i)) : IsReal (∑ i ∈ s, f i) := by
  choose g hg using h
  exact ⟨∑ i ∈ s, g i, by rw [← Softmax.coe_sum]; exact Finset.sum_congr rfl fun i _ => hg i⟩

theorem half_real : IsReal half := ⟨_, Sigmoid.half⟩

theorem scale_real : IsReal scale := ⟨_, by
  simp only [Ideal.ofBits, Ideal.ieee]
  simp [-EReal.coe_mul]
  rfl⟩

theorem cubic_real : IsReal cubic := ⟨_, by
  simp only [Ideal.ofBits, Ideal.ieee]
  simp [-EReal.coe_mul]
  rfl⟩

theorem three_real : IsReal three := ⟨_, by
  simp only [Ideal.ofBits, Ideal.ieee]
  simp [-EReal.coe_mul]
  rfl⟩

theorem gate_real {x : EReal} (h : IsReal x) : IsReal (Sigmoid.gate x) := by
  rw [← Sigmoid.tanh_gate]
  exact (half_real.mul (half_real.mul h).tanh).add half_real

/-- The inner hyperbolic tangent. -/
def inner (x : EReal) : EReal := Ideal.tanh (scale * (x + cubic * (x * x * x)))

theorem inner_real {x : EReal} (h : IsReal x) : IsReal (inner x) :=
  (scale_real.mul (h.add (cubic_real.mul ((h.mul h).mul h)))).tanh

/-- The kernel's cube, from the left. -/
theorem inner_left (x : EReal) : Ideal.tanh (scale * (x + cubic * x * x * x)) = inner x := by
  unfold inner
  simp only [mul_assoc]

/-- The function. -/
def gelu (x : EReal) : EReal := x * (half * (1 + inner x))

theorem gelu_left (x : EReal) : half * x * (1 + inner x) = gelu x := by
  unfold gelu
  rw [mul_comm half x, mul_assoc]

theorem gelu_real {x : EReal} (h : IsReal x) : IsReal (gelu x) := h.mul (half_real.mul (IsReal.one.add (inner_real h)))

/-- The cotangent of the argument from the cotangent `d` of the value, as the kernel writes it. -/
def pull (d x : EReal) : EReal :=
  d * (half * (1 + inner x) + half * x * (1 - inner x * inner x) * scale * (1 + three * (cubic * x * x)))

/-- It as differentiation gives it. -/
theorem pull_eq {d x : EReal} (hd : IsReal d) (hx : IsReal x) :
    d * (half * (1 + inner x)) + scale * (half * (x * d) * ((1 + inner x) * (1 - inner x)))
      + cubic * (scale * (half * (x * d) * ((1 + inner x) * (1 - inner x)))) * (three * (x * x)) = pull d x := by
  unfold pull
  obtain ⟨t, ht⟩ := inner_real hx
  obtain ⟨d, rfl⟩ := hd
  obtain ⟨x, rfl⟩ := hx
  obtain ⟨a, ha⟩ := half_real
  obtain ⟨s, hs⟩ := scale_real
  obtain ⟨c, hc⟩ := cubic_real
  obtain ⟨k, hk⟩ := three_real
  rw [ht, ha, hs, hc, hk, ← EReal.coe_one]
  simp only [← EReal.coe_mul, ← EReal.coe_add, ← EReal.coe_sub]
  exact congrArg _ (by ring)

end Cert.Gelu

end
-- ==== Proof.S5Gate.lean ====
/- The gradient of the S5 branch's output gate: a block of the kernel, and the reference's arrays, entry by entry. -/
module

public import proofs.«01_k».proof.Proof.Gen.S5GateIdeal.Value
public import proofs.«01_k».proof.Proof.Gen.S5GateRefIdeal.Read
public import proofs.«01_k».proof.Proof.GeluGrad
public import Idealize.ShloMosaic.Lib.Pipeline.ValueKit
public import Idealize.ShloMosaic.Lib.Pointwise

@[expose] public section

set_option maxRecDepth 16384

noncomputable section

namespace Cert.S5Gate

open Cert.S5GateIdeal Cert.S5GateIdeal.Gen
open Idealize.ShloMosaic Idealize.ShloMosaic.TcCoe Idealize.SL.Sem
open Cert.S5GateRefIdeal.Read

/-! ### The kernel's block -/

section
variable (d y t : Vec Ideal S256x512 .f32) (u : Vec Ideal S256x512 .bf16) (s : Vec Ideal S1x512 .f32) (w : Vec Ideal S512x512 .bf16)

theorem kgate (r : Fin 256) (l : Fin 512) : k0_pay10 t (ix2 r l) = Sigmoid.gate (t (ix2 r l)) := by
  rw [← Sigmoid.tanh_gate]
  pointwise [k0_pay10]

theorem kgelu (r : Fin 256) (l : Fin 512) : k0_pay11 y (ix2 r l) = Gelu.gelu (y (ix2 r l)) := by
  rw [← Gelu.gelu_left, ← Gelu.inner_left]
  pointwise [k0_pay11, k0_pay6]

theorem kdt (r : Fin 256) (l : Fin 512) : k0_pay12 d y t (ix2 r l)
    = d (ix2 r l) * Gelu.gelu (y (ix2 r l)) * Sigmoid.gate (t (ix2 r l)) * (1 - Sigmoid.gate (t (ix2 r l))) := by
  rw [← kgelu, ← kgate]
  pointwise [k0_pay12]

theorem kds (r : Fin 256) (l : Fin 512) : k0_pay13 d t (ix2 r l) = d (ix2 r l) * Sigmoid.gate (t (ix2 r l)) := by
  rw [← kgate]
  pointwise [k0_pay13]

/-- The cotangent of the sum `y0`. -/
abbrev kz : FVec Ideal S256x512 .f32 :=
  k0_pay15 (k0_pay6 y) (k0_pay9 w) (k0_pay13 d t) (k0_pay14 d y t) (constant S256x512 .f32 0x00000000#32)

theorem kdz (r : Fin 256) (l : Fin 512) : kz d y t w (ix2 r l)
    = Gelu.pull (k0_pay13 d t (ix2 r l) + ∑ k : Fin 512, k0_pay12 d y t (ix2 r k) * w (ix2 l k)) (y (ix2 r l)) := by
  unfold Gelu.pull
  rw [← Gelu.inner_left]
  pointwise [k0_pay15, k0_pay14, k0_pay9, k0_pay6]

theorem kdu (p : FVec Ideal S256x512 .f32) (v : FVec Ideal S512x512 .bf16) (a : FVec Ideal S256x512 .f32) (b : FVec Ideal S256x512 .bf16)
    (e : FVec Ideal S256x512 .f32) (r : Fin 256) (l : Fin 512) :
    k0_pay3 (k0_pay16 p (k0_pay8 s) v a b e) (ix2 r l) = k0_pay15 p v a b e (ix2 r l) * s (ix2 0 l) := by
  pointwise [k0_pay3, k0_pay16, k0_pay8]

theorem kdd (p : FVec Ideal S256x512 .f32) (v : FVec Ideal S512x512 .bf16) (a : FVec Ideal S256x512 .f32) (b : FVec Ideal S256x512 .bf16)
    (e : FVec Ideal S256x512 .f32) (acc : Vec Ideal S1x512 .f32) (j : S1x512.Idx) :
    k0_pay5 (k0_pay17 p (k0_pay7 u) v a b e) acc j = acc j + ∑ r : Fin 256, k0_pay15 p v a b e (ix2 r (j 1)) * u (ix2 r (j 1)) := by
  idx_vars j
  obtain rfl : j0 = 0 := Subsingleton.elim _ _
  pointwise [k0_pay5, k0_pay17, k0_pay7]

theorem kzero (j : S1x512.Idx) : k0_pay4 (F := Ideal) j = 0 := by
  idx_vars j
  pointwise [k0_pay4]

end

/-! ### The reference -/

section
variable (x0 x1 : FVec Ideal S4096x512 .f32) (x2 : FVec Ideal S512 .f32) (x3 : FVec Ideal S512x512 .f32) (x4 : FVec Ideal S4096x512 .f32)

theorem ry (r : Fin 4096) (l : Fin 512) : val_main_v4 (F := Ideal) x0 x1 x2 (ix2 r l)
    = x0 (ix2 r l) + x2 (ix1 l) * x1 (ix2 r l) := by
  pointwise [val_main_v4, val_main_v3, val_main_v2, val_main_v1]

theorem rgelu (r : Fin 4096) (l : Fin 512) : val_main_v25 (F := Ideal) x0 x1 x2 (ix2 r l)
    = Gelu.gelu (val_main_v4 (F := Ideal) x0 x1 x2 (ix2 r l)) := by
  unfold Gelu.gelu Gelu.inner
  pointwise [val_main_v25, val_main_v24, val_main_v23, val_main_v22, val_main_v21, val_main_v15, val_main_v14, val_main_v13, val_main_v12, val_main_v11, val_main_v10, val_main_v6, val_main_v5, val_main_cst_1, val_main_cst_2, val_main_cst_5, val_main_cst_6]

theorem rt (r : Fin 4096) (l : Fin 512) : val_main_v26 (F := Ideal) x0 x1 x2 x3 (ix2 r l)
    = ∑ k : Fin 512, val_main_v25 (F := Ideal) x0 x1 x2 (ix2 r k) * x3 (ix2 k l) := by
  pointwise [val_main_v26]

theorem rgate (r : Fin 4096) (l : Fin 512) : val_main_v33 (F := Ideal) x0 x1 x2 x3 (ix2 r l)
    = Sigmoid.gate (val_main_v26 (F := Ideal) x0 x1 x2 x3 (ix2 r l)) := by
  unfold Sigmoid.gate
  pointwise [val_main_v33, val_main_v32, val_main_v31, val_main_v30, val_main_v29, val_main_v28, val_main_v27, val_main_v0, val_main_cst, val_main_cst_7, val_main_cst_8]

theorem rdt (r : Fin 4096) (l : Fin 512) : val_main_v40 (F := Ideal) x0 x1 x2 x3 x4 (ix2 r l)
    = val_main_v25 (F := Ideal) x0 x1 x2 (ix2 r l) * x4 (ix2 r l) * (val_main_v33 (F := Ideal) x0 x1 x2 x3 (ix2 r l)
      * (1 - val_main_v33 (F := Ideal) x0 x1 x2 x3 (ix2 r l))) := by
  pointwise [val_main_v40, val_main_v38, val_main_v36, val_main_v35, val_main_v34, val_main_cst_9]

theorem rdg (r : Fin 4096) (l : Fin 512) : val_main_v42 (F := Ideal) x0 x1 x2 x3 x4 (ix2 r l)
    = x4 (ix2 r l) * val_main_v33 (F := Ideal) x0 x1 x2 x3 (ix2 r l)
      + ∑ k : Fin 512, val_main_v40 (F := Ideal) x0 x1 x2 x3 x4 (ix2 r k) * x3 (ix2 l k) := by
  pointwise [val_main_v42, val_main_v41, val_main_v39]

/-- The derivative of the tanh form, from the cotangent of its value. -/
theorem rdz (r : Fin 4096) (l : Fin 512) (hd : Gelu.IsReal (val_main_v42 (F := Ideal) x0 x1 x2 x3 x4 (ix2 r l)))
    (hy : Gelu.IsReal (val_main_v4 (F := Ideal) x0 x1 x2 (ix2 r l))) : val_main_v54 (F := Ideal) x0 x1 x2 x3 x4 (ix2 r l)
    = Gelu.pull (val_main_v42 (F := Ideal) x0 x1 x2 x3 x4 (ix2 r l)) (val_main_v4 (F := Ideal) x0 x1 x2 (ix2 r l)) := by
  rw [← Gelu.pull_eq hd hy]
  unfold Gelu.inner
  pointwise [val_main_v54, val_main_v53, val_main_v52, val_main_v51, val_main_v50, val_main_v49, val_main_v48, val_main_v47, val_main_v46, val_main_v45, val_main_v44, val_main_v43, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2, val_main_cst_3, val_main_cst_4, val_main_cst_5, val_main_cst_6, val_main_cst_10, val_main_cst_11, val_main_cst_12]

theorem rdu (r : Fin 4096) (l : Fin 512) : val_main_v56 (F := Ideal) x0 x1 x2 x3 x4 (ix2 r l)
    = x2 (ix1 l) * val_main_v54 (F := Ideal) x0 x1 x2 x3 x4 (ix2 r l) := by
  pointwise [val_main_v56, val_main_v55, val_main_v1]

theorem rdd (j : S1x512.Idx) : val_main_v64 (F := Ideal) x0 x1 x2 x3 x4 j
    = ∑ r : Fin 4096, val_main_v54 (F := Ideal) x0 x1 x2 x3 x4 (ix2 r (j 1)) * x1 (ix2 r (j 1)) := by
  idx_vars j
  obtain rfl : j0 = 0 := Subsingleton.elim _ _
  pointwise [val_main_v64, val_main_v60, val_main_v59, val_main_v58, val_main_v57, val_main_cst_13, val_main_cst_14]
  simp only [Finset.univ_unique, Finset.sum_singleton]

end

end Cert.S5Gate

end
-- ==== Proof.S5GateFinal.lean ====
/- The gradient of the S5 branch's output gate: the arrays after the run are the reference's. -/
module

public import proofs.«01_k».proof.Proof.S5Gate
public import Idealize.ShloMosaic.Lib.Claim

@[expose] public section

set_option maxRecDepth 16384

noncomputable section

namespace Cert.S5Gate

open Cert.S5GateIdeal Cert.S5GateIdeal.Gen
open Idealize.ShloMosaic Idealize.ShloMosaic.TcCoe Idealize.SL.Sem
open Cert.S5GateRefIdeal.Read

variable (m : (ℓ : Loc nD τ sig) → Buf (Elt Ideal) ℓ)

section
variable (c : Dev nD)

/-- The arguments: the scan's output, the branch's input, the skip, the gate's weights, the cotangent. -/
abbrev aY : FVec Ideal S4096x512 .f32 := m ((c : Thread nD τ).loc main_arg0)
abbrev aU : FVec Ideal S4096x512 .f32 := m ((c : Thread nD τ).loc main_arg1)
abbrev aS : FVec Ideal S512 .f32 := m ((c : Thread nD τ).loc main_arg2)
abbrev aW : FVec Ideal S512x512 .f32 := m ((c : Thread nD τ).loc main_arg3)
abbrev aC : FVec Ideal S4096x512 .f32 := m ((c : Thread nD τ).loc main_arg4)

/-- The values that the forward call saves are the reference's. -/
theorem host_y : (show FVec Ideal S4096x512 .f32 from V m c main_v3) = val_main_v4 (F := Ideal) (aY m c) (aU m c) (aS m c) := by
  unfold V hostOps0
  simp only [StableHlo.after_cons, StableHlo.after_nil]
  after_results_steps
  rfl

set_option maxHeartbeats 2000000 in
theorem host_t : (show FVec Ideal S4096x512 .f32 from V m c main_v17)
    = val_main_v26 (F := Ideal) (aY m c) (aU m c) (aS m c) (aW m c) := by
  unfold V hostOps0
  simp only [StableHlo.after_cons, StableHlo.after_nil]
  after_results_steps
  rfl

theorem host_z' : (show FVec Ideal S4096x3456 .bf16 from V m c main_v20)
    = truncf .bf16 (concatenate S4096x3456 1
        [⟨S4096x512, aU m c⟩, ⟨S4096x2944, broadcastInDim S4096x2944 ![] bcast_S_S4096x2944 (constant S_ FTy.f32 0#32)⟩]
        concatenates_S4096x512_S4096x2944_S4096x3456_d1) bitsLt_bf16_f32 := by
  unfold V hostOps0
  simp only [StableHlo.after_cons, StableHlo.after_nil]
  after_results_steps

/-- The row of `z`'s array, of which the kernel reads the first 512 columns. -/
def wide (a : Fin 512 → EReal) (k : Fin 3456) : EReal := if h : k.val < 512 then a ⟨k.val, h⟩ else 0

theorem host_z (r : Fin 4096) (k : Fin 3456) : (show FVec Ideal S4096x3456 .bf16 from V m c main_v20) (ix2 r k)
    = wide (fun i => aU m c (ix2 r i)) k := by
  rw [host_z']
  generalize aU m c = p
  unfold wide
  pointwise

theorem host_w : (show FVec Ideal S512x512 .bf16 from V m c main_v22) = truncf .bf16 (aW m c) bitsLt_bf16_f32 := by
  unfold V hostOps0
  simp only [StableHlo.after_cons, StableHlo.after_nil]
  after_results_steps

theorem host_s : (show FVec Ideal S1x512 .f32 from V m c main_v21) = shapeCast S1x512 (aS m c) shapeCasts_S512_S1x512 := by
  unfold V hostOps0
  simp only [StableHlo.after_cons, StableHlo.after_nil]
  after_results_steps
  rfl

end

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![0, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt N_0; omega⟩

section
variable (c : Dev nD) (t : Fin cfg0.N)

theorem read_0 (r : Fin 256) (l : Fin 512) : (show Vec Ideal S256x512 .f32 from iblk m c 0 t) (ix2 r l) = aC m c (ix2 (row t r) l) := by
  unfold row
  blk_point [iblk, V, idx t]

theorem read_1 (r : Fin 256) (l : Fin 512) : (show Vec Ideal S256x512 .f32 from iblk m c 1 t) (ix2 r l)
    = val_main_v4 (F := Ideal) (aY m c) (aU m c) (aS m c) (ix2 (row t r) l) := by
  rw [← host_y]
  unfold row
  blk_ext [iblk, idx t]

theorem read_2 (r : Fin 256) (l : Fin 512) : (show Vec Ideal S256x512 .f32 from iblk m c 2 t) (ix2 r l)
    = val_main_v26 (F := Ideal) (aY m c) (aU m c) (aS m c) (aW m c) (ix2 (row t r) l) := by
  rw [← host_t]
  unfold row
  blk_ext [iblk, idx t]

theorem read_3 (r : Fin 256) (l : Fin 512) : (show Vec Ideal S256x512 .bf16 from X0_3 m c t) (ix2 r l) = aU m c (ix2 (row t r) l) := by
  have e : wide (fun i => aU m c (ix2 (row t r) i)) ⟨l.val, by omega⟩ = aU m c (ix2 (row t r) l) := by
    unfold wide
    exact dif_pos l.isLt
  rw [← e, ← host_z]
  refine (dif_pos (moved0_3 t (ix2 r l))).trans ?_
  unfold row
  blk_ext [iblk, idx t]

theorem read_4 (l : Fin 512) : (show Vec Ideal S1x512 .f32 from iblk m c 4 t) (ix2 0 l) = aS m c (ix1 l) := by
  have e : (show FVec Ideal S1x512 .f32 from V m c main_v21) (ix2 0 l) = aS m c (ix1 l) := by
    rw [host_s]
    generalize aS m c = p
    pointwise
  rw [← e]
  blk_ext [iblk, idx t]

theorem read_5 (k l : Fin 512) : (show Vec Ideal S512x512 .bf16 from iblk m c 5 t) (ix2 k l) = aW m c (ix2 k l) := by
  have e : (show FVec Ideal S512x512 .bf16 from V m c main_v22) (ix2 k l) = aW m c (ix2 k l) := by
    rw [host_w]
    rfl
  rw [← e]
  blk_ext [iblk, idx t]

end

/-- The arguments are real numbers. -/
structure Real (c : Dev nD) : Prop where
  y : ∀ i, Gelu.IsReal (aY m c i)
  u : ∀ i, Gelu.IsReal (aU m c i)
  s : ∀ i, Gelu.IsReal (aS m c i)
  w : ∀ i, Gelu.IsReal (aW m c i)
  c : ∀ i, Gelu.IsReal (aC m c i)

/-! ### The reference's values on real arguments -/

section
variable (c : Dev nD)

abbrev y0 := val_main_v4 (F := Ideal) (aY m c) (aU m c) (aS m c)
abbrev y1 := val_main_v25 (F := Ideal) (aY m c) (aU m c) (aS m c)
abbrev gt := val_main_v33 (F := Ideal) (aY m c) (aU m c) (aS m c) (aW m c)
abbrev dt := val_main_v40 (F := Ideal) (aY m c) (aU m c) (aS m c) (aW m c) (aC m c)
abbrev dg := val_main_v42 (F := Ideal) (aY m c) (aU m c) (aS m c) (aW m c) (aC m c)
abbrev dz := val_main_v54 (F := Ideal) (aY m c) (aU m c) (aS m c) (aW m c) (aC m c)

variable {m c} (h : Real m c)
include h

theorem y0_real (r : Fin 4096) (l : Fin 512) : Gelu.IsReal (y0 m c (ix2 r l)) := by
  unfold y0
  rw [ry]
  exact (h.y _).add ((h.s _).mul (h.u _))

theorem y1_real (r : Fin 4096) (l : Fin 512) : Gelu.IsReal (y1 m c (ix2 r l)) := by
  unfold y1
  rw [rgelu]
  exact Gelu.gelu_real (y0_real h r l)

theorem gt_real (r : Fin 4096) (l : Fin 512) : Gelu.IsReal (gt m c (ix2 r l)) := by
  unfold gt
  rw [rgate, rt]
  exact Gelu.gate_real (Gelu.IsReal.sum fun k => (y1_real h r k).mul (h.w _))

theorem dt_real (r : Fin 4096) (l : Fin 512) : Gelu.IsReal (dt m c (ix2 r l)) := by
  unfold dt
  rw [rdt]
  exact ((y1_real h r l).mul (h.c _)).mul ((gt_real h r l).mul (Gelu.IsReal.one.sub (gt_real h r l)))

theorem dg_real (r : Fin 4096) (l : Fin 512) : Gelu.IsReal (dg m c (ix2 r l)) := by
  unfold dg
  rw [rdg]
  exact ((h.c _).mul (gt_real h r l)).add (Gelu.IsReal.sum fun k => (dt_real h r k).mul (h.w _))

end

/-! ### A block against the reference -/

section
variable (c : Dev nD) (t : Fin cfg0.N)

theorem y1_eq (r : Fin 256) (l : Fin 512) : k0_pay11 (iblk m c 1 t) (ix2 r l) = y1 m c (ix2 (row t r) l) := by
  unfold y1
  rw [kgelu, rgelu]
  exact congrArg Gelu.gelu (read_1 m c t r l)

theorem dt_eq (r : Fin 256) (l : Fin 512) : k0_pay12 (iblk m c 0 t) (iblk m c 1 t) (iblk m c 2 t) (ix2 r l) = dt m c (ix2 (row t r) l) := by
  unfold dt
  rw [kdt, rdt, rgelu, rgate]
  have h0 := read_0 m c t r l
  have h1 := read_1 m c t r l
  have h2 := read_2 m c t r l
  dsimp only at h0 h1 h2
  rw [h0, h1, h2, mul_comm (aC m c _), mul_assoc (_ * _)]

theorem dg_eq (r : Fin 256) (l : Fin 512) : k0_pay13 (iblk m c 0 t) (iblk m c 2 t) (ix2 r l)
      + ∑ k : Fin 512, k0_pay12 (iblk m c 0 t) (iblk m c 1 t) (iblk m c 2 t) (ix2 r k) * (show Vec Ideal S512x512 .bf16 from iblk m c 5 t) (ix2 l k)
    = dg m c (ix2 (row t r) l) := by
  unfold dg
  rw [kds, rdg, rgate]
  have h0 := read_0 m c t r l
  have h2 := read_2 m c t r l
  have h5 := fun k => read_5 m c t l k
  have hd := fun k => dt_eq m c t r k
  dsimp only at h0 h2 h5
  simp only [h0, h2, h5, hd]

theorem dz_eq (h : Real m c) (r : Fin 256) (l : Fin 512) :
    kz (iblk m c 0 t) (iblk m c 1 t) (iblk m c 2 t) (iblk m c 5 t) (ix2 r l) = dz m c (ix2 (row t r) l) := by
  unfold dz
  rw [rdz _ _ _ _ _ _ _ (dg_real h _ _) (y0_real h _ _)]
  refine (kdz _ _ _ _ r l).trans ?_
  exact congrArg₂ Gelu.pull (dg_eq m c t r l) (read_1 m c t r l)

/-- The payload that each output takes. -/
theorem point_6 (h : Real m c) : k0_pay18 (k0_pay6 (iblk m c 1 t)) (k0_pay9 (iblk m c 5 t)) (k0_pay13 (iblk m c 0 t) (iblk m c 2 t))
      (k0_pay14 (iblk m c 0 t) (iblk m c 1 t) (iblk m c 2 t)) (constant S256x512 .f32 0x00000000#32)
    = fun j => val_main_v61 (F := Ideal) (aY m c) (aU m c) (aS m c) (aW m c) (aC m c) (ix2 (row t (j 0)) (j 1)) := by
  funext j
  idx_vars j
  pointwise [k0_pay18, val_main_v61]
  exact dz_eq m c t h j0 j1

theorem point_7 : k0_pay1 (k0_pay19 (k0_pay12 (iblk m c 0 t) (iblk m c 1 t) (iblk m c 2 t)))
    = fun j => val_main_v62 (F := Ideal) (aY m c) (aU m c) (aS m c) (aW m c) (aC m c) (ix2 (row t (j 0)) (j 1)) := by
  funext j
  idx_vars j
  pointwise [k0_pay1, k0_pay19, val_main_v62]
  exact dt_eq m c t j0 j1

theorem point_8 : k0_pay2 (k0_pay11 (iblk m c 1 t))
    = fun j => val_main_v63 (F := Ideal) (aY m c) (aU m c) (aS m c) (ix2 (row t (j 0)) (j 1)) := by
  funext j
  idx_vars j
  pointwise [k0_pay2, val_main_v63]
  exact y1_eq m c t j0 j1

theorem point_9 (h : Real m c) : k0_pay3 (k0_pay16 (k0_pay6 (iblk m c 1 t)) (k0_pay8 (iblk m c 4 t)) (k0_pay9 (iblk m c 5 t))
      (k0_pay13 (iblk m c 0 t) (iblk m c 2 t)) (k0_pay14 (iblk m c 0 t) (iblk m c 1 t) (iblk m c 2 t)) (constant S256x512 .f32 0x00000000#32))
    = fun j => val_main_v56 (F := Ideal) (aY m c) (aU m c) (aS m c) (aW m c) (aC m c) (ix2 (row t (j 0)) (j 1)) := by
  funext j
  idx_vars j
  refine (kdu _ _ _ _ _ _ j0 j1).trans ?_
  refine Eq.trans ?_ (rdu _ _ _ _ _ (row t j0) j1).symm
  rw [mul_comm]
  exact congrArg₂ (· * ·) (read_4 m c t j1) (dz_eq m c t h j0 j1)

end

section
variable (c : Dev nD)

theorem final_6 (h : Real m c) : (dats m 0 c).arrAt 6 cfg0.N = val_main_v61 (F := Ideal) (aY m c) (aU m c) (aS m c) (aW m c) (aC m c) := by
  refine (dats m 0 c).arrAt_eq_of_covers 6 _ (by decide +kernel) fun t hf y => ?_
  blk_simp
  rw [after0_6]
  by_cases ht : t.val % 16 = 0
  · rw [outsAt0_A m c t ht]; frame_out; rw [point_6 m c t h]; unfold row; blk_ext [idx t]
  · rw [outsAt0_B m c t ht]; frame_out; rw [point_6 m c t h]; unfold row; blk_ext [idx t]

theorem final_7 : (dats m 0 c).arrAt 7 cfg0.N = val_main_v62 (F := Ideal) (aY m c) (aU m c) (aS m c) (aW m c) (aC m c) := by
  refine (dats m 0 c).arrAt_eq_of_covers 7 _ (by decide +kernel) fun t hf y => ?_
  blk_simp
  rw [after0_7]
  by_cases ht : t.val % 16 = 0
  · rw [outsAt0_A m c t ht]; frame_out; rw [point_7 m c t]; unfold row; blk_ext [idx t]
  · rw [outsAt0_B m c t ht]; frame_out; rw [point_7 m c t]; unfold row; blk_ext [idx t]

theorem final_8 : (dats m 0 c).arrAt 8 cfg0.N = val_main_v63 (F := Ideal) (aY m c) (aU m c) (aS m c) := by
  refine (dats m 0 c).arrAt_eq_of_covers 8 _ (by decide +kernel) fun t hf y => ?_
  blk_simp
  rw [after0_8]
  by_cases ht : t.val % 16 = 0
  · rw [outsAt0_A m c t ht]; frame_out; rw [point_8 m c t]; unfold row; blk_ext [idx t]
  · rw [outsAt0_B m c t ht]; frame_out; rw [point_8 m c t]; unfold row; blk_ext [idx t]

theorem final_9 (h : Real m c) : (dats m 0 c).arrAt 9 cfg0.N = val_main_v56 (F := Ideal) (aY m c) (aU m c) (aS m c) (aW m c) (aC m c) := by
  refine (dats m 0 c).arrAt_eq_of_covers 9 _ (by decide +kernel) fun t hf y => ?_
  blk_simp
  rw [after0_9]
  by_cases ht : t.val % 16 = 0
  · rw [outsAt0_A m c t ht]; frame_out; rw [point_9 m c t h]; unfold row; blk_ext [idx t]
  · rw [outsAt0_B m c t ht]; frame_out; rw [point_9 m c t h]; unfold row; blk_ext [idx t]

theorem final_10 (h : Real m c) : (dats m 0 c).arrAt 10 cfg0.N
    = val_main_v64 (F := Ideal) (aY m c) (aU m c) (aS m c) (aW m c) (aC m c) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) _
    (fun t h j => by rw [outsAt0_A m c t h]; frame_out; rw [kdd, kzero])
    (fun t h j => by rw [outsAt0_B m c t h]; frame_out; rw [kdd])
    (le_of_eq N_0) t0_15 rfl j, zero_add, rdd]
  refine Fin.sum_mul_add_congr fun t r hl => ?_
  exact congrArg₂ (· * ·) (dz_eq m c ⟨t.val, lt_of_lt_of_eq t.isLt N_0.symm⟩ h r (j 1))
    (read_3 m c ⟨t.val, lt_of_lt_of_eq t.isLt N_0.symm⟩ r (j 1))

end

end Cert.S5Gate

end
-- ==== Proof.S5GateClaim.lean ====
/- The claims about the gradient of the S5 branch's output gate. -/
module

public import proofs.«01_k».proof.Defs
public import proofs.«01_k».proof.Proof.Gen.S5Gate
public import proofs.«01_k».proof.Proof.Gen.S5Gate.Frame
public import proofs.«01_k».proof.Proof.Gen.S5GateIdeal
public import proofs.«01_k».proof.Proof.Gen.S5GateIdeal.Frame
public import proofs.«01_k».proof.Proof.Gen.S5GateIdeal.Value
public import proofs.«01_k».proof.Proof.Gen.S5GateRefIdeal
public import proofs.«01_k».proof.Proof.Gen.S5GateRefIdeal.Run
public import proofs.«01_k».proof.Proof.Gen.S5GateRefIdeal.Read
public import proofs.«01_k».proof.Proof.Gen.Pre_s5gate_finite
public import proofs.«01_k».proof.Proof.S5GateFinal
public import proofs.«01_k».proof.Proof.Finite
public import Idealize.ShloMosaic.Lib.Claim

@[expose] public section

set_option maxRecDepth 16384

noncomputable section

namespace Cert.S5Gate

open Idealize.ShloMosaic Idealize.ShloMosaic.TcCoe Idealize.SL.Sem

theorem frame_reference : Cert.quiescent_S5GateRefIdeal := by
  intro m g _
  refine θ_run_mono (Cert.S5GateRefIdeal.Value.run m g) fun r h => ⟨?_, sem_eq_zero_of_no_sems (by decide) r.2⟩
  intro c
  exact (h c).2.2.2.2.2

open Cert.S5GateIdeal in
theorem reals {m : (ℓ : Loc nD τ sig) → Buf (Elt Ideal) ℓ} {c : Dev nD}
    (h : Cert.Pre_s5gate_finite.fn (F := Ideal) (aY m c) (aU m c) (aS m c) (aW m c) (aC m c) ix0 = 1#1) : Real m c := by
  dsimp only [Cert.Pre_s5gate_finite.fn, Cert.Pre_s5gate_finite.fn_part1] at h
  have hi : ∀ (p q : BitVec 1), IntOp.andi p q = 1#1 → p = 1#1 ∧ q = 1#1 := by decide
  obtain ⟨h, hc⟩ := hi _ _ h
  obtain ⟨h, hw⟩ := hi _ _ h
  obtain ⟨h, hs⟩ := hi _ _ h
  obtain ⟨hy, hu⟩ := hi _ _ h
  exact ⟨fun i => .of_eq (Finite.entry _ _ (fun _ => Finite.ofBits_inf) _ _ _ _ hy i), fun i => .of_eq (Finite.entry _ _ (fun _ => Finite.ofBits_inf) _ _ _ _ hu i),
    fun i => .of_eq (Finite.entry _ _ (fun _ => Finite.ofBits_inf) _ _ _ _ hs i), fun i => .of_eq (Finite.entry _ _ (fun _ => Finite.ofBits_inf) _ _ _ _ hw i),
    fun i => .of_eq (Finite.entry _ _ (fun _ => Finite.ofBits_inf) _ _ _ _ hc i)⟩

/-- The call's five results are the reference's. -/
theorem algebraic : Cert.algebraic_S5GateIdeal_S5GateRefIdeal_pre_s5gate_finite := by
  intro m g m' g' hpre hagree
  have hf := fun c => reals (congrFun (hpre c) ix0)
  refine ⟨fun c => _, fun c => _, fun c => _, fun c => _, fun c => _, Cert.S5GateIdeal.Value.run_blocks m g, ?_⟩
  refine θ_run_mono (Cert.S5GateRefIdeal.Value.run m' g') fun r h c => ?_
  obtain ⟨h0, h1, h2, h3, h4, h5⟩ := h c
  obtain ⟨a0, a1, a2, a3, a4⟩ := hagree c
  refine ⟨h0.trans ?_, h1.trans ?_, h2.trans ?_, h3.trans ?_, h4.trans ?_, h5⟩
  · rw [Cert.S5GateRefIdeal.Read.val_main_v61_eq, a0, a1, a2, a3, a4]
    exact (final_6 m c (hf c)).symm
  · rw [Cert.S5GateRefIdeal.Read.val_main_v62_eq, a0, a1, a2, a3, a4]
    exact (final_7 m c).symm
  · rw [Cert.S5GateRefIdeal.Read.val_main_v63_eq, a0, a1, a2]
    exact (final_8 m c).symm
  · rw [Cert.S5GateRefIdeal.Read.val_main_v56_eq, a0, a1, a2, a3, a4]
    exact (final_9 m c (hf c)).symm
  · rw [Cert.S5GateRefIdeal.Read.val_main_v64_eq, a0, a1, a2, a3, a4]
    exact (final_10 m c (hf c)).symm

end Cert.S5Gate

end
-- ==== Proof.MixNorm.lean ====
/- The gradient of the norm before the three branches: a block of the kernel, and the reference's arrays, entry by entry. -/
module

public import proofs.«01_k».proof.Proof.Gen.MixNormIdeal.Value
public import proofs.«01_k».proof.Proof.Gen.MixNormRefIdeal.Read
public import proofs.«01_k».proof.Proof.RmsNorm
public import Idealize.ShloMosaic.Lib.Pipeline.ValueKit
public import Idealize.ShloMosaic.Lib.Pointwise

@[expose] public section

set_option maxRecDepth 16384

noncomputable section

namespace Cert.MixNorm

open Cert.MixNormIdeal Cert.MixNormIdeal.Gen Cert.RmsNorm
open Idealize.ShloMosaic Idealize.ShloMosaic.TcCoe Idealize.SL.Sem
open Cert.MixNormRefIdeal.Read

/-- The length of a row, as the programs' float word. -/
abbrev len : EReal := Ideal.ofBits FTy.f32 0x44800000#32
abbrev eps : EReal := Ideal.ofBits FTy.f32 0x358637BD#32
abbrev nhalf : EReal := Ideal.ofBits FTy.f32 0xBF000000#32

/-! ### The kernel's block -/

theorem kdh (v0 : Vec Ideal S256x3072 .bf16) (v2 : Vec Ideal S1024x3072 .bf16) (v5 : Vec Ideal S256x3456 .bf16)
    (v7 : Vec Ideal S3456x1024 .bf16) (r : Fin 256) (l : Fin 1024) : k0_pay6 v0 v2 v5 v7 (ix2 r l)
      = (∑ k : Fin 3072, v0 (ix2 r k) * v2 (ix2 l k)) + ∑ k : Fin 3456, v5 (ix2 r k) * v7 (ix2 k l) := by
  pointwise [k0_pay6]

theorem kinv (v11 : Vec Ideal S256x1024 .f32) (r : Fin 256) :
    k0_pay7 v11 (ix2 r 0) = inv len eps (fun k => v11 (ix2 r k)) := by
  pointwise [k0_pay7]
  rfl

theorem kxh (v11 : Vec Ideal S256x1024 .f32) (r : Fin 256) (l : Fin 1024) :
    k0_pay8 v11 (ix2 r l) = v11 (ix2 r l) * inv len eps (fun k => v11 (ix2 r k)) := by
  pointwise [k0_pay8]
  rw [kinv]

theorem kdg (v0 : Vec Ideal S256x3072 .bf16) (v2 : Vec Ideal S1024x3072 .bf16) (v5 : Vec Ideal S256x3456 .bf16)
    (v7 : Vec Ideal S3456x1024 .bf16) (v11 : Vec Ideal S256x1024 .f32) (l : Fin 1024) : k0_pay9 v0 v2 v5 v7 v11 (ix2 0 l)
      = ∑ r : Fin 256, k0_pay6 v0 v2 v5 v7 (ix2 r l) * k0_pay8 v11 (ix2 r l) := by
  pointwise [k0_pay9]

theorem kdx (v0 : Vec Ideal S256x3072 .bf16) (v2 : Vec Ideal S1024x3072 .bf16) (v5 : Vec Ideal S256x3456 .bf16)
    (v7 : Vec Ideal S3456x1024 .bf16) (v11 : Vec Ideal S256x1024 .f32) (v12 : Vec Ideal S1x1024 .f32)
    (r : Fin 256) (l : Fin 1024) : k0_pay10 v0 v2 v5 v7 v11 v12 (ix2 r l)
      = kgrad len eps (fun k => v11 (ix2 r k)) (fun k => v12 (ix2 0 k)) (fun k => k0_pay6 v0 v2 v5 v7 (ix2 r k)) l := by
  pointwise [k0_pay10]
  simp only [kinv, kxh]
  rfl

/-! ### The reference's arrays -/

section
variable (x0 x4 : FVec Ideal S4096x1024 .f32) (x1 : FVec Ideal S1024 .f32) (x2 : FVec Ideal S1024x3072 .f32)
    (x3 : FVec Ideal S1024x3360 .f32) (x5 : FVec Ideal S4096x3072 .f32) (x6 : FVec Ideal S4096x3360 .f32)

theorem rdh (r : Fin 4096) (l : Fin 1024) : val_main_v20 (F := Ideal) x2 x3 x5 x6 (ix2 r l)
      = (∑ k : Fin 3360, x6 (ix2 r k) * x3 (ix2 l k)) + ∑ k : Fin 3072, x5 (ix2 r k) * x2 (ix2 l k) := by
  pointwise [val_main_v20, val_main_v19, val_main_v18]

theorem rvar (r : Fin 4096) : val_main_v6 (F := Ideal) x0 (ix2 r 0) = var len eps (fun k => x0 (ix2 r k)) := by
  pointwise [val_main_v6, val_main_v5, val_main_v4, val_main_v3, val_main_v2, val_main_v1, val_main_v0, val_main_cst,
    val_main_cst_0, val_main_cst_1]
  rfl

theorem rinv (r : Fin 4096) : val_main_v7 (F := Ideal) x0 (ix2 r 0) = inv len eps (fun k => x0 (ix2 r k)) := by
  pointwise [val_main_v7]
  rw [rvar]
  rfl

theorem rxh (r : Fin 4096) (l : Fin 1024) :
    val_main_v12 (F := Ideal) x0 (ix2 r l) = x0 (ix2 r l) * inv len eps (fun k => x0 (ix2 r k)) := by
  pointwise [val_main_v12, val_main_v11]
  rw [rinv]

theorem rdg (j : S1x1024.Idx) : val_main_v43 (F := Ideal) x0 x2 x3 x5 x6 j
      = ∑ r : Fin 4096, val_main_v21 (F := Ideal) x0 x2 x3 x5 x6 (ix2 r (j 1)) := by
  pointwise [val_main_v43, val_main_v26, val_main_v23, val_main_v22, val_main_cst_3, val_main_cst_4]
  simp only [Fin.sum_univ_one]

theorem rback (r : Fin 4096) (l : Fin 1024) : val_main_v37 (F := Ideal) x0 x1 x2 x3 x5 x6 (ix2 r l)
      = back len eps nhalf (fun k => x0 (ix2 r k)) (fun k => x1 (ix1 k))
          (fun k => val_main_v20 (F := Ideal) x2 x3 x5 x6 (ix2 r k)) := by
  pointwise [val_main_v37, val_main_v36, val_main_v35, val_main_v34, val_main_v33, val_main_v29, val_main_v28, val_main_v27,
    val_main_v25, val_main_v24, val_main_v13, val_main_v10, val_main_v9, val_main_v8, val_main_cst_2, val_main_cst_5,
    val_main_cst_6, val_main_cst_7]
  simp only [Fin.sum_univ_one, rinv, rvar]
  rfl

theorem rdx (r : Fin 4096) (l : Fin 1024) : val_main_v41 (F := Ideal) x0 x1 x2 x3 x4 x5 x6 (ix2 r l)
      = x4 (ix2 r l) + val_main_v20 (F := Ideal) x2 x3 x5 x6 (ix2 r l) * x1 (ix1 l) * inv len eps (fun k => x0 (ix2 r k))
        + x0 (ix2 r l) * back len eps nhalf (fun k => x0 (ix2 r k)) (fun k => x1 (ix1 k))
            (fun k => val_main_v20 (F := Ideal) x2 x3 x5 x6 (ix2 r k))
        + back len eps nhalf (fun k => x0 (ix2 r k)) (fun k => x1 (ix1 k))
            (fun k => val_main_v20 (F := Ideal) x2 x3 x5 x6 (ix2 r k)) * x0 (ix2 r l) := by
  pointwise [val_main_v41, val_main_v40, val_main_v39, val_main_v38, val_main_v32, val_main_v31, val_main_v30, val_main_v25,
    val_main_v24, val_main_v13]
  rw [rback, rinv]

end

end Cert.MixNorm

end
-- ==== Proof.PadSum.lean ====
/- A sum over the padded columns of `w_in`'s product, in the kernel's order of columns, is the sum over its own columns. -/
module

public import Mathlib.Data.EReal.Operations
public import Mathlib.Algebra.BigOperators.Fin

@[expose] public section

noncomputable section

namespace Cert.PadSum

/-- A row of 3360 entries in the kernel's order: the last 768 before the 32 of the decays, then zeros up to 3456. -/
def padded (z : Fin 3360 → EReal) (k : Fin 3456) : EReal :=
  if h : k.val < 2560 then z ⟨k.val, by omega⟩
  else if h1 : k.val - 2560 < 768 then z ⟨2592 + (k.val - 2560), by omega⟩
  else if h2 : k.val - 2560 - 768 < 32 then z ⟨2560 + (k.val - 2560 - 768), by omega⟩
  else 0

theorem padded_mul (z w : Fin 3360 → EReal) (k : Fin 3456) : padded z k * padded w k = padded (fun i => z i * w i) k := by
  unfold padded
  split_ifs <;> simp

theorem sum_padded (f : Fin 3360 → EReal) : ∑ k, padded f k = ∑ k, f k := by
  let g : ℕ → EReal := fun n => if h : n < 3360 then f ⟨n, h⟩ else 0
  have e1 : ∑ k, f k = ∑ n ∈ Finset.range 3360, g n := by
    rw [← Fin.sum_univ_eq_sum_range]
    exact Finset.sum_congr rfl fun k _ => by simp [g]
  let p : ℕ → EReal := fun n => if n < 2560 then g n else if n - 2560 < 768 then g (2592 + (n - 2560)) else if n - 2560 - 768 < 32 then g (2560 + (n - 2560 - 768)) else 0
  have e2 : ∑ k, padded f k = ∑ n ∈ Finset.range 3456, p n := by
    rw [← Fin.sum_univ_eq_sum_range]
    refine Finset.sum_congr rfl fun k _ => ?_
    unfold padded
    dsimp only [p, g]
    split_ifs <;> first | rfl | omega
  rw [e1, e2, show 3456 = 2560 + (768 + (32 + 96)) from rfl, show 3360 = 2560 + (32 + 768) from rfl]
  simp only [Finset.sum_range_add]
  have h0 : ∑ i ∈ Finset.range 2560, p i = ∑ i ∈ Finset.range 2560, g i :=
    Finset.sum_congr rfl fun i hi => if_pos (Finset.mem_range.mp hi)
  have h1 : ∑ i ∈ Finset.range 768, p (2560 + i) = ∑ i ∈ Finset.range 768, g (2560 + (32 + i)) :=
    Finset.sum_congr rfl fun i hi => by
      have := Finset.mem_range.mp hi
      dsimp only [p]
      rw [if_neg (by omega), if_pos (by omega)]
      exact congrArg g (by omega)
  have h2 : ∑ i ∈ Finset.range 32, p (2560 + (768 + i)) = ∑ i ∈ Finset.range 32, g (2560 + i) :=
    Finset.sum_congr rfl fun i hi => by
      have := Finset.mem_range.mp hi
      dsimp only [p]
      rw [if_neg (by omega), if_neg (by omega), if_pos (by omega)]
      exact congrArg g (by omega)
  have h3 : ∑ i ∈ Finset.range 96, p (2560 + (768 + (32 + i))) = 0 :=
    Finset.sum_eq_zero fun i hi => by
      dsimp only [p]
      rw [if_neg (by omega), if_neg (by omega), if_neg (by omega)]
  rw [h0, h1, h2, h3, add_zero, add_comm (∑ i ∈ Finset.range 768, _)]

end Cert.PadSum

end
-- ==== Proof.MixNormFinal.lean ====
/- The gradient of the norm before the three branches: the arrays after the run are the reference's. -/
module

public import proofs.«01_k».proof.Proof.MixNorm
public import proofs.«01_k».proof.Proof.PadSum
public import Idealize.ShloMosaic.Lib.Claim

@[expose] public section

set_option maxRecDepth 16384

noncomputable section

namespace Cert.MixNorm

open Cert.MixNormIdeal Cert.MixNormIdeal.Gen Cert.RmsNorm Cert.PadSum
open Idealize.ShloMosaic Idealize.ShloMosaic.TcCoe Idealize.SL.Sem
open Cert.MixNormRefIdeal.Read

variable (m : (ℓ : Loc nD τ sig) → Buf (Elt Ideal) ℓ)

section
variable (c : Dev nD)

/-- The arguments. -/
abbrev aX : FVec Ideal S4096x1024 .f32 := m ((c : Thread nD τ).loc main_arg0)
abbrev aG : FVec Ideal S1024 .f32 := m ((c : Thread nD τ).loc main_arg1)
abbrev aM : FVec Ideal S1024x3072 .f32 := m ((c : Thread nD τ).loc main_arg2)
abbrev aW : FVec Ideal S1024x3360 .f32 := m ((c : Thread nD τ).loc main_arg3)
abbrev aY : FVec Ideal S4096x1024 .f32 := m ((c : Thread nD τ).loc main_arg4)
abbrev aP : FVec Ideal S4096x3072 .f32 := m ((c : Thread nD τ).loc main_arg5)
abbrev aZ : FVec Ideal S4096x3360 .f32 := m ((c : Thread nD τ).loc main_arg6)

theorem host_z' : (show FVec Ideal S4096x3456 .bf16 from V m c main_v6)
    = truncf .bf16 (concatenate S4096x3456 1
        [⟨S4096x2560, extractStridedSlice S4096x2560 ![0, 0] (aZ m c) slices_S4096x3360_S4096x2560_0_0⟩,
         ⟨S4096x768, extractStridedSlice S4096x768 ![0, 2592] (aZ m c) slices_S4096x3360_S4096x768_0_2592⟩,
         ⟨S4096x32, extractStridedSlice S4096x32 ![0, 2560] (aZ m c) slices_S4096x3360_S4096x32_0_2560⟩,
         ⟨S4096x96, broadcastInDim S4096x96 ![] bcast_S_S4096x96 (constant S_ FTy.f32 0#32)⟩]
        concatenates_S4096x2560_S4096x768_S4096x32_S4096x96_S4096x3456_d1) bitsLt_bf16_f32 := by
  unfold V hostOps0
  simp only [StableHlo.after_cons, StableHlo.after_nil]
  after_results_steps
  rfl

theorem host_z (r : Fin 4096) (k : Fin 3456) :
    (show FVec Ideal S4096x3456 .bf16 from V m c main_v6) (ix2 r k) = padded (fun i => aZ m c (ix2 r i)) k := by
  rw [host_z']
  generalize aZ m c = z
  pointwise
  rfl

theorem host_w' : (show FVec Ideal S3456x1024 .bf16 from V m c main_v14)
    = truncf .bf16 (concatenate S3456x1024 0
        [⟨S2560x1024, extractStridedSlice S2560x1024 ![0, 0] (transpose S3360x1024 [1, 0] (aW m c) transposes_S1024x3360_S3360x1024_1_0) slices_S3360x1024_S2560x1024_0_0⟩,
         ⟨S768x1024, extractStridedSlice S768x1024 ![2592, 0] (transpose S3360x1024 [1, 0] (aW m c) transposes_S1024x3360_S3360x1024_1_0) slices_S3360x1024_S768x1024_2592_0⟩,
         ⟨S32x1024, extractStridedSlice S32x1024 ![2560, 0] (transpose S3360x1024 [1, 0] (aW m c) transposes_S1024x3360_S3360x1024_1_0) slices_S3360x1024_S32x1024_2560_0⟩,
         ⟨S96x1024, broadcastInDim S96x1024 ![] bcast_S_S96x1024 (constant S_ FTy.f32 0#32)⟩]
        concatenates_S2560x1024_S768x1024_S32x1024_S96x1024_S3456x1024_d0) bitsLt_bf16_f32 := by
  unfold V hostOps0
  simp only [StableHlo.after_cons, StableHlo.after_nil]
  after_results_steps
  rfl

theorem host_w (k : Fin 3456) (l : Fin 1024) :
    (show FVec Ideal S3456x1024 .bf16 from V m c main_v14) (ix2 k l) = padded (fun i => aW m c (ix2 l i)) k := by
  rw [host_w']
  generalize aW m c = w
  pointwise
  rfl

end

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt N_0; omega⟩

section
variable (c : Dev nD) (t : Fin cfg0.N)

theorem read_0 (r : Fin 256) (l : Fin 3072) : (show Vec Ideal S256x3072 .bf16 from iblk m c 0 t) (ix2 r l) = aP m c (ix2 (row t r) l) := by
  unfold row
  blk_point [iblk, V, idx t]

theorem read_1 (r : Fin 256) (l : Fin 3456) : (show Vec Ideal S256x3456 .bf16 from iblk m c 1 t) (ix2 r l)
    = (show FVec Ideal S4096x3456 .bf16 from V m c main_v6) (ix2 (row t r) l) := by
  unfold row
  blk_ext [iblk, idx t]

theorem read_2 (r : Fin 1024) (l : Fin 3072) : (show Vec Ideal S1024x3072 .bf16 from iblk m c 2 t) (ix2 r l) = aM m c (ix2 r l) := by
  blk_point [iblk, V, idx t]

theorem read_3 (r : Fin 3456) (l : Fin 1024) : (show Vec Ideal S3456x1024 .bf16 from iblk m c 3 t) (ix2 r l)
    = (show FVec Ideal S3456x1024 .bf16 from V m c main_v14) (ix2 r l) := by
  blk_ext [iblk, idx t]

theorem read_4 (r : Fin 256) (l : Fin 1024) : (show Vec Ideal S256x1024 .f32 from iblk m c 4 t) (ix2 r l) = aY m c (ix2 (row t r) l) := by
  unfold row
  blk_point [iblk, V, idx t]

theorem read_5 (r : Fin 256) (l : Fin 1024) : (show Vec Ideal S256x1024 .f32 from iblk m c 5 t) (ix2 r l) = aX m c (ix2 (row t r) l) := by
  unfold row
  blk_point [iblk, V, idx t]

theorem read_6 (l : Fin 1024) : (show Vec Ideal S1x1024 .f32 from iblk m c 6 t) (ix2 0 l) = aG m c (ix1 l) := by
  blk_point [iblk, V, idx t]

/-! ### A block against the reference -/

/-- The cotangent of the norm's output: the kernel's sum over the padded columns is the reference's. -/
theorem dh (r : Fin 256) (l : Fin 1024) :
    k0_pay6 (iblk m c 0 t) (iblk m c 2 t) (iblk m c 1 t) (iblk m c 3 t) (ix2 r l)
      = val_main_v20 (F := Ideal) (aM m c) (aW m c) (aP m c) (aZ m c) (ix2 (row t r) l) := by
  rw [kdh, rdh, add_comm]
  have h0 := fun k => read_0 m c t r k
  have h1 := fun k => (read_1 m c t r k).trans (host_z m c (row t r) k)
  have h2 := fun k => read_2 m c t l k
  have h3 := fun k => (read_3 m c t k l).trans (host_w m c k l)
  dsimp only at h0 h1 h2 h3
  simp only [h0, h1, h2, h3, padded_mul, sum_padded]

theorem dg (r : Fin 256) (l : Fin 1024) :
    k0_pay6 (iblk m c 0 t) (iblk m c 2 t) (iblk m c 1 t) (iblk m c 3 t) (ix2 r l) * k0_pay8 (iblk m c 5 t) (ix2 r l)
      = val_main_v21 (F := Ideal) (aX m c) (aM m c) (aW m c) (aP m c) (aZ m c) (ix2 (row t r) l) := by
  rw [dh, kxh]
  pointwise [val_main_v21]
  rw [rxh]
  have h5 := fun k => read_5 m c t r k
  dsimp only at h5
  simp only [h5]
  exact mul_comm _ _

/-- The arguments but the cotangent that reaches the row past the norm are reals. -/
def Real (c : Dev nD) : Prop :=
  (∀ i, aX m c i = (((aX m c i : EReal).toReal : ℝ) : EReal)) ∧ (∀ i, aG m c i = (((aG m c i : EReal).toReal : ℝ) : EReal))
  ∧ (∀ i, aM m c i = (((aM m c i : EReal).toReal : ℝ) : EReal)) ∧ (∀ i, aW m c i = (((aW m c i : EReal).toReal : ℝ) : EReal))
  ∧ (∀ i, aP m c i = (((aP m c i : EReal).toReal : ℝ) : EReal)) ∧ (∀ i, aZ m c i = (((aZ m c i : EReal).toReal : ℝ) : EReal))

variable {m c}

theorem dh_real (h : Real m c) (r : Fin 4096) (l : Fin 1024) : ∃ d : ℝ,
    val_main_v20 (F := Ideal) (aM m c) (aW m c) (aP m c) (aZ m c) (ix2 r l) = (d : EReal) := by
  obtain ⟨-, -, hM, hW, hP, hZ⟩ := h
  obtain ⟨d, hd⟩ := dot_real (fun k => hZ (ix2 r k)) (fun k => hW (ix2 l k))
  obtain ⟨d', hd'⟩ := dot_real (fun k => hP (ix2 r k)) (fun k => hM (ix2 l k))
  exact ⟨d + d', by rw [rdh, hd, hd', EReal.coe_add]⟩

theorem dx (h : Real m c) (r : Fin 256) (l : Fin 1024) :
    aY m c (ix2 (row t r) l)
      + k0_pay10 (iblk m c 0 t) (iblk m c 2 t) (iblk m c 1 t) (iblk m c 3 t) (iblk m c 5 t) (iblk m c 6 t) (ix2 r l)
      = val_main_v41 (F := Ideal) (aX m c) (aG m c) (aM m c) (aW m c) (aY m c) (aP m c) (aZ m c) (ix2 (row t r) l) := by
  rw [kdx, rdx]
  have h5 := fun k => read_5 m c t r k
  have h6 := fun k => read_6 m c t k
  dsimp only at h5 h6
  simp only [dh, h5, h6]
  choose d hd using dh_real h
  simp only [hd, len, eps, nhalf, w_1024, w_eps, w_neg_half]
  have hX : (fun k => aX m c (ix2 (row t r) k)) = fun k => (((aX m c (ix2 (row t r) k)).toReal : ℝ) : EReal) :=
    funext fun k => h.1 _
  have hG : (fun k => aG m c (ix1 k)) = fun k => (((aG m c (ix1 k)).toReal : ℝ) : EReal) := funext fun k => h.2.1 _
  rw [hX, hG, h.1 (ix2 (row t r) l), h.2.1 (ix1 l)]
  exact grad_eq (by norm_num) (by norm_num) _ _ _ _ l

variable (m c)

theorem point_7 (h : Real m c) (i : S256x1024.Idx) :
    k0_pay2 (k0_pay10 (iblk m c 0 t) (iblk m c 2 t) (iblk m c 1 t) (iblk m c 3 t) (iblk m c 5 t) (iblk m c 6 t)) (iblk m c 4 t) i
      = val_main_v41 (F := Ideal) (aX m c) (aG m c) (aM m c) (aW m c) (aY m c) (aP m c) (aZ m c) (ix2 (row t (i 0)) (i 1)) := by
  idx_vars i
  pointwise [k0_pay2, k0_pay1]
  refine Eq.trans ?_ (dx t h i0 i1)
  have h4 := read_4 m c t i0 i1
  dsimp only at h4
  rw [h4]

theorem point_8 (h : Real m c) (i : S256x1024.Idx) :
    k0_pay3 (k0_pay10 (iblk m c 0 t) (iblk m c 2 t) (iblk m c 1 t) (iblk m c 3 t) (iblk m c 5 t) (iblk m c 6 t)) (iblk m c 4 t) i
      = val_main_v42 (F := Ideal) (aX m c) (aG m c) (aM m c) (aW m c) (aY m c) (aP m c) (aZ m c) (ix2 (row t (i 0)) (i 1)) := by
  idx_vars i
  pointwise [k0_pay3, k0_pay1, val_main_v42]
  refine Eq.trans ?_ (dx t h i0 i1)
  have h4 := read_4 m c t i0 i1
  dsimp only at h4
  rw [h4]

theorem kdb (v0 : Vec Ideal S256x3072 .bf16) (v2 : Vec Ideal S1024x3072 .bf16) (v5 : Vec Ideal S256x3456 .bf16)
    (v7 : Vec Ideal S3456x1024 .bf16) (v11 : Vec Ideal S256x1024 .f32) (acc : Vec Ideal S1x1024 .f32) (j : S1x1024.Idx) :
    k0_pay5 (k0_pay9 v0 v2 v5 v7 v11) acc j
      = acc j + ∑ r : Fin 256, k0_pay6 v0 v2 v5 v7 (ix2 r (j 1)) * k0_pay8 v11 (ix2 r (j 1)) := by
  idx_vars j
  obtain rfl : j0 = 0 := Subsingleton.elim _ _
  pointwise [k0_pay5]
  rw [kdg]

theorem kzero (j : S1x1024.Idx) : k0_pay4 (F := Ideal) j = 0 := by
  pointwise! [k0_pay4]

/-! ### The arrays after the run -/

theorem final_7 (h : Real m c) : (dats m 0 c).arrAt 7 cfg0.N
    = val_main_v41 (F := Ideal) (aX m c) (aG m c) (aM m c) (aW m c) (aY m c) (aP m c) (aZ m c) := by
  refine (dats m 0 c).arrAt_eq_of_covers 7 _ (by decide +kernel) fun t hf y => ?_
  blk_simp
  rw [after0_7]
  by_cases ht : t.val % 16 = 0
  · rw [outsAt0_A m c t ht]; frame_out; rw [point_7 m c t h]; unfold row; blk_ext [idx t]
  · rw [outsAt0_B m c t ht]; frame_out; rw [point_7 m c t h]; unfold row; blk_ext [idx t]

theorem final_8 (h : Real m c) : (dats m 0 c).arrAt 8 cfg0.N
    = val_main_v42 (F := Ideal) (aX m c) (aG m c) (aM m c) (aW m c) (aY m c) (aP m c) (aZ m c) := by
  refine (dats m 0 c).arrAt_eq_of_covers 8 _ (by decide +kernel) fun t hf y => ?_
  blk_simp
  rw [after0_8]
  by_cases ht : t.val % 16 = 0
  · rw [outsAt0_A m c t ht]; frame_out; rw [point_8 m c t h]; unfold row; blk_ext [idx t]
  · rw [outsAt0_B m c t ht]; frame_out; rw [point_8 m c t h]; unfold row; blk_ext [idx t]

theorem final_9 : (dats m 0 c).arrAt 9 cfg0.N
    = val_main_v43 (F := Ideal) (aX m c) (aM m c) (aW m c) (aP m c) (aZ m c) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => by rw [outsAt0_A m c t h]; frame_out; rw [kdb, kzero])
    (fun t h j => by rw [outsAt0_B m c t h]; frame_out; rw [kdb])
    (le_of_eq N_0) t0_15 rfl j, zero_add, rdg]
  refine Fin.sum_mul_add_congr fun t r hl => ?_
  exact dg m c t r _

end

end Cert.MixNorm

end
-- ==== Proof.MixNormClaim.lean ====
/- The claims about the gradient of the norm before the three branches. -/
module

public import proofs.«01_k».proof.Defs
public import proofs.«01_k».proof.Proof.Gen.MixNorm
public import proofs.«01_k».proof.Proof.Gen.MixNorm.Frame
public import proofs.«01_k».proof.Proof.Gen.MixNormIdeal
public import proofs.«01_k».proof.Proof.Gen.MixNormIdeal.Frame
public import proofs.«01_k».proof.Proof.Gen.MixNormIdeal.Value
public import proofs.«01_k».proof.Proof.Gen.MixNormRefIdeal
public import proofs.«01_k».proof.Proof.Gen.MixNormRefIdeal.Run
public import proofs.«01_k».proof.Proof.Gen.MixNormRefIdeal.Read
public import proofs.«01_k».proof.Proof.Gen.Pre_mixnorm_finite
public import proofs.«01_k».proof.Proof.MixNormFinal
public import proofs.«01_k».proof.Proof.Finite
public import Idealize.ShloMosaic.Lib.Claim

@[expose] public section

set_option maxRecDepth 16384

noncomputable section

namespace Cert.MixNorm

open Idealize.ShloMosaic Idealize.ShloMosaic.TcCoe Idealize.SL.Sem

theorem frame_reference : Cert.quiescent_MixNormRefIdeal := by
  intro m g _
  refine θ_run_mono (Cert.MixNormRefIdeal.Value.run m g) fun r h => ⟨?_, sem_eq_zero_of_no_sems (by decide) r.2⟩
  intro c
  exact (h c).2.2.2

open Cert.MixNormIdeal in
theorem reals {m : (ℓ : Loc nD τ sig) → Buf (Elt Ideal) ℓ} {c : Dev nD}
    (h : Cert.Pre_mixnorm_finite.fn (F := Ideal) (aX m c) (aG m c) (aM m c) (aW m c) (aY m c) (aP m c) (aZ m c) ix0 = 1#1) :
    Real m c := by
  dsimp only [Cert.Pre_mixnorm_finite.fn, Cert.Pre_mixnorm_finite.fn_part1] at h
  have hi : ∀ (p q : BitVec 1), IntOp.andi p q = 1#1 → p = 1#1 ∧ q = 1#1 := by decide
  obtain ⟨h, h5⟩ := hi _ _ h
  obtain ⟨h, h4⟩ := hi _ _ h
  obtain ⟨h, h3⟩ := hi _ _ h
  obtain ⟨h, h2⟩ := hi _ _ h
  obtain ⟨h0, h1⟩ := hi _ _ h
  exact ⟨Finite.entry _ _ (fun _ => Finite.ofBits_inf) _ _ _ _ h0, Finite.entry _ _ (fun _ => Finite.ofBits_inf) _ _ _ _ h1,
    Finite.entry _ _ (fun _ => Finite.ofBits_inf) _ _ _ _ h2, Finite.entry _ _ (fun _ => Finite.ofBits_inf) _ _ _ _ h3,
    Finite.entry _ _ (fun _ => Finite.ofBits_inf) _ _ _ _ h4, Finite.entry _ _ (fun _ => Finite.ofBits_inf) _ _ _ _ h5⟩

/-- The call's three results are the reference's. -/
theorem algebraic : Cert.algebraic_MixNormIdeal_MixNormRefIdeal_pre_mixnorm_finite := by
  intro m g m' g' hpre hagree
  have hf := fun c => reals (congrFun (hpre c) ix0)
  refine ⟨fun c => _, fun c => _, fun c => _, Cert.MixNormIdeal.Value.run_blocks m g, ?_⟩
  refine θ_run_mono (Cert.MixNormRefIdeal.Value.run m' g') fun r h c => ?_
  obtain ⟨h0, h1, h2, h3⟩ := h c
  obtain ⟨a0, a1, a2, a3, a4, a5, a6⟩ := hagree c
  refine ⟨h0.trans ?_, h1.trans ?_, h2.trans ?_, h3⟩
  · rw [Cert.MixNormRefIdeal.Read.val_main_v41_eq, a0, a1, a2, a3, a4, a5, a6]
    exact (final_7 m c (hf c)).symm
  · rw [Cert.MixNormRefIdeal.Read.val_main_v42_eq, a0, a1, a2, a3, a4, a5, a6]
    exact (final_8 m c (hf c)).symm
  · rw [Cert.MixNormRefIdeal.Read.val_main_v43_eq, a0, a2, a3, a5, a6]
    exact (final_9 m c).symm

end Cert.MixNorm

end
-- ==== Proof.S5Out.lean ====
/- The output gate of the S5 branch: a block of the kernel against the reference, entry by entry. -/
module

public import proofs.«01_k».proof.Proof.Gen.S5OutIdeal.Value
public import proofs.«01_k».proof.Proof.Gen.S5OutRefIdeal.Read
public import proofs.«01_k».proof.Proof.GeluGrad
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.S5Out

open Cert.S5OutIdeal Cert.S5OutIdeal.Gen
open Idealize.ShloMosaic Idealize.ShloMosaic.TcCoe Idealize.SL.Sem
open Cert.S5OutRefIdeal.Read

/-! ### The kernel's block -/

section
variable (y : Vec Ideal S256x512 .f32) (u : Vec Ideal S256x512 .bf16) (d : Vec Ideal S1x512 .f32) (w : Vec Ideal S512x512 .bf16)

theorem ky (r : Fin 256) (l : Fin 512) : k0_pay3 y u d (ix2 r l) = y (ix2 r l) + d (ix2 0 l) * u (ix2 r l) := by
  pointwise [k0_pay3]

theorem kgelu (r : Fin 256) (l : Fin 512) : k0_pay4 y u d (ix2 r l) = Gelu.gelu (k0_pay3 y u d (ix2 r l)) := by
  rw [← Gelu.gelu_left, ← Gelu.inner_left]
  pointwise [k0_pay4]

theorem kt (r : Fin 256) (l : Fin 512) : k0_pay5 y u d w (ix2 r l) = ∑ k : Fin 512, k0_pay4 y u d (ix2 r k) * w (ix2 k l) := by
  pointwise [k0_pay5]

theorem kout (r : Fin 256) (l : Fin 512) : k0_pay6 y u d w (ix2 r l)
    = k0_pay4 y u d (ix2 r l) * Sigmoid.gate (k0_pay5 y u d w (ix2 r l)) := by
  rw [← Sigmoid.tanh_gate]
  pointwise [k0_pay6]

end

/-! ### The reference -/

section
variable (x0 x1 : FVec Ideal S4096x512 .f32) (x2 : FVec Ideal S512 .f32) (x3 : FVec Ideal S512x512 .f32)

theorem ry (r : Fin 4096) (l : Fin 512) : val_main_v3 (F := Ideal) x0 x1 x2 (ix2 r l) = x0 (ix2 r l) + x2 (ix1 l) * x1 (ix2 r l) := by
  pointwise [val_main_v3, val_main_v2, val_main_v1, val_main_v0]

theorem rgelu (r : Fin 4096) (l : Fin 512) : val_main_v16 (F := Ideal) x0 x1 x2 (ix2 r l)
    = Gelu.gelu (val_main_v3 (F := Ideal) x0 x1 x2 (ix2 r l)) := by
  unfold Gelu.gelu Gelu.inner
  pointwise [val_main_v16, val_main_v15, val_main_v14, val_main_v13, val_main_v12, val_main_v11, val_main_v10, val_main_v9, val_main_v8, val_main_v7, val_main_v6, val_main_v5, val_main_v4, val_main_cst, val_main_cst_0, val_main_cst_1, val_main_cst_2]

theorem rt (r : Fin 4096) (l : Fin 512) : val_main_v17 (F := Ideal) x0 x1 x2 x3 (ix2 r l)
    = ∑ k : Fin 512, val_main_v16 (F := Ideal) x0 x1 x2 (ix2 r k) * x3 (ix2 k l) := by
  pointwise [val_main_v17]

theorem rout (r : Fin 4096) (l : Fin 512) : val_main_v25 (F := Ideal) x0 x1 x2 x3 (ix2 r l)
    = val_main_v16 (F := Ideal) x0 x1 x2 (ix2 r l) * Sigmoid.gate (val_main_v17 (F := Ideal) x0 x1 x2 x3 (ix2 r l)) := by
  unfold Sigmoid.gate
  pointwise [val_main_v25, val_main_v24, val_main_v23, val_main_v22, val_main_v21, val_main_v20, val_main_v19, val_main_v18, val_main_cst_3, val_main_cst_4]

end

/-! ### The arrays after the run -/

variable (m : (ℓ : Loc nD τ sig) → Buf (Elt Ideal) ℓ)

section
variable (c : Dev nD)

/-- The arguments: the scan's output, the branch's input, the skip, the gate's weights. -/
abbrev aY : FVec Ideal S4096x512 .f32 := m ((c : Thread nD τ).loc main_arg0)
abbrev aU : FVec Ideal S4096x512 .f32 := m ((c : Thread nD τ).loc main_arg1)
abbrev aS : FVec Ideal S512 .f32 := m ((c : Thread nD τ).loc main_arg2)
abbrev aW : FVec Ideal S512x512 .f32 := m ((c : Thread nD τ).loc main_arg3)

theorem host_z' : (show FVec Ideal S4096x3456 .bf16 from V m c main_v2)
    = truncf .bf16 (concatenate S4096x3456 1
        [⟨S4096x512, aU m c⟩, ⟨S4096x2944, broadcastInDim S4096x2944 ![] bcast_S_S4096x2944 (constant S_ FTy.f32 0#32)⟩]
        concatenates_S4096x512_S4096x2944_S4096x3456_d1) bitsLt_bf16_f32 := by
  unfold V hostOps0
  simp only [StableHlo.after_cons, StableHlo.after_nil]
  after_results_steps

/-- The row of `z`'s array, of which the kernel reads the first 512 columns. -/
def wide (a : Fin 512 → EReal) (k : Fin 3456) : EReal := if h : k.val < 512 then a ⟨k.val, h⟩ else 0

theorem host_z (r : Fin 4096) (k : Fin 3456) : (show FVec Ideal S4096x3456 .bf16 from V m c main_v2) (ix2 r k)
    = wide (fun i => aU m c (ix2 r i)) k := by
  rw [host_z']
  generalize aU m c = p
  unfold wide
  pointwise

end

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt (by decide); omega⟩

section
variable (c : Dev nD) (t : Fin cfg0.N)

theorem read_0 (r : Fin 256) (l : Fin 512) : (show Vec Ideal S256x512 .f32 from iblk m c 0 t) (ix2 r l) = aY m c (ix2 (row t r) l) := by
  unfold row
  blk_point [iblk, V, idx t]

theorem read_1 (r : Fin 256) (l : Fin 512) : (show Vec Ideal S256x512 .bf16 from X0_1 m c t) (ix2 r l) = aU m c (ix2 (row t r) l) := by
  have e : wide (fun i => aU m c (ix2 (row t r) i)) ⟨l.val, by omega⟩ = aU m c (ix2 (row t r) l) := by
    unfold wide
    exact dif_pos l.isLt
  rw [← e, ← host_z]
  refine (dif_pos (moved0_1 t (ix2 r l))).trans ?_
  unfold row
  blk_ext [iblk, idx t]

theorem read_2 (l : Fin 512) : (show Vec Ideal S1x512 .f32 from iblk m c 2 t) (ix2 0 l) = aS m c (ix1 l) := by
  blk_point [iblk, V, idx t]

theorem read_3 (k l : Fin 512) : (show Vec Ideal S512x512 .bf16 from iblk m c 3 t) (ix2 k l) = aW m c (ix2 k l) := by
  blk_point [iblk, V, idx t]

theorem y_eq (r : Fin 256) (l : Fin 512) : k0_pay3 (iblk m c 0 t) (X0_1 m c t) (iblk m c 2 t) (ix2 r l)
    = val_main_v3 (F := Ideal) (aY m c) (aU m c) (aS m c) (ix2 (row t r) l) := by
  rw [ky, ry]
  exact congrArg₂ (· + ·) (read_0 m c t r l) (congrArg₂ (· * ·) (read_2 m c t l) (read_1 m c t r l))

theorem gelu_eq (r : Fin 256) (l : Fin 512) : k0_pay4 (iblk m c 0 t) (X0_1 m c t) (iblk m c 2 t) (ix2 r l)
    = val_main_v16 (F := Ideal) (aY m c) (aU m c) (aS m c) (ix2 (row t r) l) := by
  rw [kgelu, rgelu, y_eq]

theorem t_eq (r : Fin 256) (l : Fin 512) : k0_pay5 (iblk m c 0 t) (X0_1 m c t) (iblk m c 2 t) (iblk m c 3 t) (ix2 r l)
    = val_main_v17 (F := Ideal) (aY m c) (aU m c) (aS m c) (aW m c) (ix2 (row t r) l) := by
  rw [kt, rt]
  exact Finset.sum_congr rfl fun k _ => congrArg₂ (· * ·) (gelu_eq m c t r k) (read_3 m c t k l)

theorem point_4 : k0_pay7 (iblk m c 0 t) (X0_1 m c t) (iblk m c 2 t)
    = fun j => val_main_v3 (F := Ideal) (aY m c) (aU m c) (aS m c) (ix2 (row t (j 0)) (j 1)) := by
  funext j
  idx_vars j
  pointwise [k0_pay7]
  exact y_eq m c t j0 j1

theorem point_5 : k0_pay1 (k0_pay5 (iblk m c 0 t) (X0_1 m c t) (iblk m c 2 t) (iblk m c 3 t))
    = fun j => val_main_v17 (F := Ideal) (aY m c) (aU m c) (aS m c) (aW m c) (ix2 (row t (j 0)) (j 1)) := by
  funext j
  idx_vars j
  pointwise [k0_pay1]
  exact t_eq m c t j0 j1

theorem point_6 : k0_pay2 (k0_pay6 (iblk m c 0 t) (X0_1 m c t) (iblk m c 2 t) (iblk m c 3 t))
    = fun j => val_main_v25 (F := Ideal) (aY m c) (aU m c) (aS m c) (aW m c) (ix2 (row t (j 0)) (j 1)) := by
  funext j
  idx_vars j
  pointwise [k0_pay2]
  refine (kout _ _ _ _ j0 j1).trans (Eq.trans ?_ (rout _ _ _ _ (row t j0) j1).symm)
  rw [gelu_eq, t_eq]

end

section
variable (c : Dev nD)

theorem final_4 : (dats m 0 c).arrAt 4 cfg0.N = val_main_v3 (F := Ideal) (aY m c) (aU m c) (aS m c) := by
  refine (dats m 0 c).arrAt_eq_of_covers 4 _ (by decide +kernel) fun t hf y => ?_
  blk_simp
  rw [after0_4]
  unfold outsAt0
  frame_out
  rw [point_4 m c t]
  unfold row
  blk_ext [idx t]

theorem final_5 : (dats m 0 c).arrAt 5 cfg0.N = val_main_v17 (F := Ideal) (aY m c) (aU m c) (aS m c) (aW m c) := by
  refine (dats m 0 c).arrAt_eq_of_covers 5 _ (by decide +kernel) fun t hf y => ?_
  blk_simp
  rw [after0_5]
  unfold outsAt0
  frame_out
  rw [point_5 m c t]
  unfold row
  blk_ext [idx t]

theorem final_6 : (dats m 0 c).arrAt 6 cfg0.N = val_main_v25 (F := Ideal) (aY m c) (aU m c) (aS m c) (aW m c) := by
  refine (dats m 0 c).arrAt_eq_of_covers 6 _ (by decide +kernel) fun t hf y => ?_
  blk_simp
  rw [after0_6]
  unfold outsAt0
  frame_out
  rw [point_6 m c t]
  unfold row
  blk_ext [idx t]

end

end Cert.S5Out

end
-- ==== Proof.S5OutClaim.lean ====
/- The claims about the output gate of the S5 branch. -/
module

public import proofs.«01_k».proof.Defs
public import proofs.«01_k».proof.Proof.Gen.S5Out
public import proofs.«01_k».proof.Proof.Gen.S5Out.Frame
public import proofs.«01_k».proof.Proof.Gen.S5OutIdeal
public import proofs.«01_k».proof.Proof.Gen.S5OutIdeal.Frame
public import proofs.«01_k».proof.Proof.Gen.S5OutIdeal.Value
public import proofs.«01_k».proof.Proof.Gen.S5OutRefIdeal
public import proofs.«01_k».proof.Proof.Gen.S5OutRefIdeal.Run
public import proofs.«01_k».proof.Proof.Gen.S5OutRefIdeal.Read
public import proofs.«01_k».proof.Proof.S5Out
public import Idealize.ShloMosaic.Lib.Claim

@[expose] public section

set_option maxRecDepth 16384

noncomputable section

namespace Cert.S5Out

open Idealize.ShloMosaic Idealize.ShloMosaic.TcCoe Idealize.SL.Sem

theorem frame_reference : Cert.quiescent_S5OutRefIdeal := by
  intro m g _
  refine θ_run_mono (Cert.S5OutRefIdeal.Value.run m g) fun r h => ⟨?_, sem_eq_zero_of_no_sems (by decide) r.2⟩
  intro c
  exact (h c).2.2.2

/-- The call's three results are the reference's. -/
theorem algebraic : Cert.algebraic_S5OutIdeal_S5OutRefIdeal := by
  pair_intro
  · run_from Cert.S5OutIdeal.Value.run_blocks m g
  · run_from Cert.S5OutRefIdeal.Value.run m' g'
    · exact (final_4 m c).symm
    · exact (final_5 m c).symm
    · exact (final_6 m c).symm

end Cert.S5Out

end
-- ==== Proof.GlaOut.lean ====
/- The output norm and gate of the gated linear attention: a block of the kernel against the reference, entry by entry. -/
module

public import proofs.«01_k».proof.Proof.Gen.GlaOutIdeal.Value
public import proofs.«01_k».proof.Proof.Gen.GlaOutRefIdeal.Read
public import proofs.«01_k».proof.Proof.RmsNorm
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.GlaOut

open Cert.GlaOutIdeal Cert.GlaOutIdeal.Gen
open Idealize.ShloMosaic Idealize.ShloMosaic.TcCoe Idealize.SL.Sem
open Cert.GlaOutRefIdeal.Read

open Cert.RmsNorm (inv var)

/-- The length of a head's row and the small number, as the programs' float words. -/
abbrev len : EReal := Ideal.ofBits FTy.f32 0x43000000#32
abbrev eps : EReal := Ideal.ofBits FTy.f32 0x358637BD#32

/-- The column of the whole row that column `k` of head `h` is. -/
def col (h : Fin 4) (k : Fin 128) : Fin 512 := ⟨h.val * 128 + k.val, by omega⟩

theorem col_cases (l : Fin 512) : ∃ h k, l = col h k :=
  ⟨⟨l.val / 128, by omega⟩, ⟨l.val % 128, by omega⟩, Fin.ext (by unfold col; dsimp only; omega)⟩

/-- The columns of each head as the slices name them. -/
theorem c_0 (k : Fin 128) (h : k.val < 512) : (⟨k.val, h⟩ : Fin 512) = col 0 k := Fin.ext (Nat.zero_add _).symm
theorem c_1 (k : Fin 128) (h : 128 + k.val < 512) : (⟨128 + k.val, h⟩ : Fin 512) = col 1 k := rfl
theorem c_2 (k : Fin 128) (h : 256 + k.val < 512) : (⟨256 + k.val, h⟩ : Fin 512) = col 2 k := rfl
theorem c_3 (k : Fin 128) (h : 384 + k.val < 512) : (⟨384 + k.val, h⟩ : Fin 512) = col 3 k := rfl

/-- An entry of a head's row `x`, normed, times the gain `g`, times the gate's preactivation `z` and its logistic function. -/
def entry (x : Fin 128 → EReal) (g z : EReal) (k : Fin 128) : EReal := x k * inv len eps x * g * (z * Sigmoid.gate z)

/-! ### The kernel's block -/

section
variable (a b : Vec Ideal S256x512 .f32) (z : Vec Ideal S256x512 .bf16) (g : Vec Ideal S1x128 .f32)

/-- What the kernel stores. -/
def out4 : FVec Ideal S256x512 .bf16 :=
  k0_pay1 (k0_pay5 a b z g) (k0_pay9 (k0_pay2 g) (k0_pay6 z) (k0_pay7 a b) (k0_pay8 a b)) (k0_pay10 (k0_pay2 g) (k0_pay3 a b) (k0_pay4 z))
    (k0_pay11 (k0_pay4 z)) (k0_pay12 (k0_pay3 a b)) (k0_pay13 (k0_pay2 g))

/-- The row of head `h`. -/
abbrev hrow (h : Fin 4) (r : Fin 256) : Fin 128 → EReal := fun k => a (ix2 r (col h k)) + b (ix2 r (col h k))

abbrev kentry (h : Fin 4) (r : Fin 256) (k : Fin 128) : EReal := entry (hrow a b h r) (g (ix2 0 k)) (z (ix2 r (col h k))) k

theorem ke_0 (r : Fin 256) (k : Fin 128) : k0_pay5 a b z g (ix2 r k) = kentry a b z g 0 r k := by
  unfold kentry entry
  rw [← Sigmoid.tanh_gate]
  pointwise [k0_pay5, k0_pay4, k0_pay3, k0_pay2]
  simp only [c_0]
  rfl

theorem ke_1 (r : Fin 256) (k : Fin 128) : k0_pay9 (k0_pay2 g) (k0_pay6 z) (k0_pay7 a b) (k0_pay8 a b) (ix2 r k) = kentry a b z g 1 r k := by
  unfold kentry entry
  rw [← Sigmoid.tanh_gate]
  pointwise [k0_pay9, k0_pay8, k0_pay7, k0_pay6, k0_pay4, k0_pay3, k0_pay2]
  simp only [c_1]
  rfl

theorem ke_2 (r : Fin 256) (k : Fin 128) : k0_pay10 (k0_pay2 g) (k0_pay3 a b) (k0_pay4 z) (ix2 r k) = kentry a b z g 2 r k := by
  unfold kentry entry
  rw [← Sigmoid.tanh_gate]
  pointwise [k0_pay10, k0_pay4, k0_pay3, k0_pay2]
  simp only [c_2]
  rfl

theorem kout (h : Fin 4) (r : Fin 256) (k : Fin 128) : out4 a b z g (ix2 r (col h k)) = kentry a b z g h r k := by
  unfold col out4
  fin_cases h
  · pointwise [k0_pay1]
    exact ke_0 a b z g r k
  · pointwise [k0_pay1]
    exact ke_1 a b z g r k
  · pointwise [k0_pay1]
    have e : 256 + k.val - 128 - 128 = k.val := by omega
    rw [dif_neg (by omega), dif_neg (by omega), dif_pos (by omega)]
    simp only [e]
    exact ke_2 a b z g r k
  · unfold kentry entry
    rw [← Sigmoid.tanh_gate]
    pointwise [k0_pay1, k0_pay13, k0_pay12, k0_pay11, k0_pay4, k0_pay3, k0_pay2]
    have e : 384 + k.val - 128 - 128 - 128 = k.val := by omega
    rw [dif_neg (by omega), dif_neg (by omega), dif_neg (by omega)]
    simp only [e, c_3]
    rfl

end

/-! ### The reference -/

section
variable (x0 x1 x2 : FVec Ideal S4096x512 .f32) (x3 : FVec Ideal S128 .f32)

/-- The row of head `h`. -/
abbrev rrow (h : Fin 4) (r : Fin 4096) : Fin 128 → EReal := fun k => x0 (ix2 r (col h k)) + x1 (ix2 r (col h k))

theorem ro (r : Fin 4096) (h : Fin 4) (k : Fin 128) : val_main_v1 (F := Ideal) x0 x1 (ix3 r h k) = rrow x0 x1 h r k := by
  unfold rrow col
  pointwise [val_main_v1, val_main_v0]

theorem rvar (r : Fin 4096) (h : Fin 4) : val_main_v8 (F := Ideal) x0 x1 (ix3 r h 0) = var len eps (rrow x0 x1 h r) := by
  pointwise [val_main_v8, val_main_v7, val_main_v6, val_main_v5, val_main_v4, val_main_v3, val_main_v2, val_main_cst,
    val_main_cst_0, val_main_cst_1]
  simp only [ro]
  rfl

theorem rinv (r : Fin 4096) (h : Fin 4) : val_main_v9 (F := Ideal) x0 x1 (ix3 r h 0) = inv len eps (rrow x0 x1 h r) := by
  pointwise [val_main_v9]
  rw [rvar]
  rfl

theorem rout (h : Fin 4) (r : Fin 4096) (k : Fin 128) : val_main_v18 (F := Ideal) x0 x1 x2 x3 (ix2 r (col h k))
    = entry (rrow x0 x1 h r) (x3 (ix1 k)) (x2 (ix2 r (col h k))) k := by
  have e : val_main_v15 (F := Ideal) x0 x1 x3 (ix2 r (col h k)) = val_main_v14 (F := Ideal) x0 x1 x3 (ix3 r h k) := by
    unfold col
    pointwise [val_main_v15]
  have s : val_main_v16 (F := Ideal) x2 (ix2 r (col h k)) = x2 (ix2 r (col h k)) * Sigmoid.gate (x2 (ix2 r (col h k))) := by
    unfold Sigmoid.gate
    pointwise [val_main_v16, val_main_call0_v5, val_main_call0_v4, val_main_call0_v3, val_main_call0_v2, val_main_call0_v1, val_main_call0_v0, val_main_call0_cst, val_main_call0_cst_0]
  pointwise [val_main_v18, val_main_v17]
  rw [e, s]
  pointwise [val_main_v14, val_main_v13, val_main_v12, val_main_v11, val_main_v10]
  rw [rinv, ro]
  rfl

end

/-! ### The array after the run -/

variable (m : (ℓ : Loc nD τ sig) → Buf (Elt Ideal) ℓ)

section
variable (c : Dev nD)

/-- The arguments: the two directions' outputs, the gate's preactivation, the norm's gain. -/
abbrev aF : FVec Ideal S4096x512 .f32 := m ((c : Thread nD τ).loc main_arg0)
abbrev aB : FVec Ideal S4096x512 .f32 := m ((c : Thread nD τ).loc main_arg1)
abbrev aZ : FVec Ideal S4096x512 .f32 := m ((c : Thread nD τ).loc main_arg2)
abbrev aG : FVec Ideal S128 .f32 := m ((c : Thread nD τ).loc main_arg3)

theorem host_z' : (show FVec Ideal S4096x3456 .bf16 from V m c main_v3)
    = truncf .bf16 (concatenate S4096x3456 1
        [⟨S4096x2048, broadcastInDim S4096x2048 ![] bcast_S_S4096x2048 (constant S_ FTy.f32 0#32)⟩, ⟨S4096x512, aZ m c⟩,
         ⟨S4096x896, broadcastInDim S4096x896 ![] bcast_S_S4096x896 (constant S_ FTy.f32 0#32)⟩]
        concatenates_S4096x2048_S4096x512_S4096x896_S4096x3456_d1) bitsLt_bf16_f32 := by
  unfold V hostOps0
  simp only [StableHlo.after_cons, StableHlo.after_nil]
  after_results_steps
  rfl

/-- The row of `z`'s array, of which the kernel reads 512 columns from 2048 on. -/
def wide (a : Fin 512 → EReal) (k : Fin 3456) : EReal :=
  if h : k.val < 2048 then 0 else if h1 : k.val - 2048 < 512 then a ⟨k.val - 2048, h1⟩ else 0

theorem host_z (r : Fin 4096) (k : Fin 3456) : (show FVec Ideal S4096x3456 .bf16 from V m c main_v3) (ix2 r k)
    = wide (fun i => aZ m c (ix2 r i)) k := by
  rw [host_z']
  generalize aZ m c = p
  unfold wide
  pointwise

end

theorem idx : ∀ t : Fin cfg0.N, win0_0.index t = ![t.val, 0] ∧ win0_1.index t = ![t.val, 0] ∧ win0_2.index t = ![t.val, 4]
    ∧ win0_3.index t = ![0, 0] ∧ win0_4.index t = ![t.val, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt (by decide); omega⟩

section
variable (c : Dev nD) (t : Fin cfg0.N)

theorem read_0 (r : Fin 256) (l : Fin 512) : (show Vec Ideal S256x512 .f32 from iblk m c 0 t) (ix2 r l) = aF m c (ix2 (row t r) l) := by
  unfold row
  blk_point [iblk, V, idx t]

theorem read_1 (r : Fin 256) (l : Fin 512) : (show Vec Ideal S256x512 .f32 from iblk m c 1 t) (ix2 r l) = aB m c (ix2 (row t r) l) := by
  unfold row
  blk_point [iblk, V, idx t]

theorem read_2 (r : Fin 256) (l : Fin 512) : (show Vec Ideal S256x512 .bf16 from X0_2 m c t) (ix2 r l) = aZ m c (ix2 (row t r) l) := by
  have e : wide (fun i => aZ m c (ix2 (row t r) i)) ⟨2048 + l.val, by omega⟩ = aZ m c (ix2 (row t r) l) := by
    have s : 2048 + l.val - 2048 = l.val := by omega
    unfold wide
    simp only [s]
    exact (dif_neg (by omega)).trans (dif_pos l.isLt)
  rw [← e, ← host_z]
  refine (dif_pos (moved0_2 t (ix2 r l))).trans ?_
  unfold row
  blk_ext [iblk, idx t]

theorem read_3 (l : Fin 128) : (show Vec Ideal S1x128 .f32 from iblk m c 3 t) (ix2 0 l) = aG m c (ix1 l) := by
  blk_point [iblk, V, idx t]

theorem entry_congr {x x' : Fin 128 → EReal} {g g' z z' : EReal} (hx : x = x') (hg : g = g') (hz : z = z') (k : Fin 128) :
    entry x g z k = entry x' g' z' k := by
  rw [hx, hg, hz]

theorem point_4 : out4 (iblk m c 0 t) (iblk m c 1 t) (X0_2 m c t) (iblk m c 3 t)
    = fun j => val_main_v18 (F := Ideal) (aF m c) (aB m c) (aZ m c) (aG m c) (ix2 (row t (j 0)) (j 1)) := by
  funext j
  idx_vars j
  obtain ⟨h, k, rfl⟩ := col_cases j1
  refine (kout _ _ _ _ h j0 k).trans (Eq.trans ?_ (rout _ _ _ _ h (row t j0) k).symm)
  exact entry_congr (funext fun i => congrArg₂ (· + ·) (read_0 m c t j0 _) (read_1 m c t j0 _)) (read_3 m c t k) (read_2 m c t j0 _) k

end

section
variable (c : Dev nD)

theorem final_4 : (dats m 0 c).arrAt 4 cfg0.N = val_main_v18 (F := Ideal) (aF m c) (aB m c) (aZ m c) (aG m c) := by
  refine (dats m 0 c).arrAt_eq_of_covers 4 _ (by decide +kernel) fun t hf y => ?_
  blk_simp
  rw [after0_4]
  unfold outsAt0
  frame_out
  have e := point_4 m c t
  unfold out4 at e
  rw [e]
  unfold row
  blk_ext [idx t]

end

end Cert.GlaOut

end
-- ==== Proof.GlaOutClaim.lean ====
/- The claims about the output norm and gate of the gated linear attention. -/
module

public import proofs.«01_k».proof.Defs
public import proofs.«01_k».proof.Proof.Gen.GlaOut
public import proofs.«01_k».proof.Proof.Gen.GlaOut.Frame
public import proofs.«01_k».proof.Proof.Gen.GlaOutIdeal
public import proofs.«01_k».proof.Proof.Gen.GlaOutIdeal.Frame
public import proofs.«01_k».proof.Proof.Gen.GlaOutIdeal.Value
public import proofs.«01_k».proof.Proof.Gen.GlaOutRefIdeal
public import proofs.«01_k».proof.Proof.Gen.GlaOutRefIdeal.Run
public import proofs.«01_k».proof.Proof.Gen.GlaOutRefIdeal.Read
public import proofs.«01_k».proof.Proof.GlaOut
public import Idealize.ShloMosaic.Lib.Claim

@[expose] public section

set_option maxRecDepth 16384

noncomputable section

namespace Cert.GlaOut

open Idealize.ShloMosaic Idealize.ShloMosaic.TcCoe Idealize.SL.Sem

theorem frame_reference : Cert.quiescent_GlaOutRefIdeal := by
  intro m g _
  refine θ_run_mono (Cert.GlaOutRefIdeal.Value.run m g) fun r h => ⟨?_, sem_eq_zero_of_no_sems (by decide) r.2⟩
  intro c
  exact (h c).2

/-- The call's result is the reference's. -/
theorem algebraic : Cert.algebraic_GlaOutIdeal_GlaOutRefIdeal := by
  pair_intro
  · run_from Cert.GlaOutIdeal.Value.run_blocks m g
  · run_from Cert.GlaOutRefIdeal.Value.run m' g'
    · exact (final_4 m c).symm

end Cert.GlaOut

end
-- ==== Proof.GlaGate.lean ====
/- The decays of the gated linear attention: a block of the kernel against the reference, entry by entry. -/
module

public import proofs.«01_k».proof.Proof.Gen.GlaGateIdeal.Value
public import proofs.«01_k».proof.Proof.Gen.GlaGateRefIdeal.Read
public import proofs.«01_k».proof.Proof.LogSigmoid
public import proofs.«01_k».proof.Proof.GlaPrepFinal
public import Idealize.ShloMosaic.Lib.Pipeline.ValueKit
public import Idealize.ShloMosaic.Lib.Pointwise
public import Idealize.ShloMosaic.Lib.Claim

@[expose] public section

set_option maxRecDepth 16384

noncomputable section

namespace Cert.GlaGate

open Cert.GlaGateIdeal Cert.GlaGateIdeal.Gen
open Idealize.ShloMosaic Idealize.ShloMosaic.TcCoe Idealize.SL.Sem
open Cert.GlaGateRefIdeal.Read

open Cert.GlaPrep (pieces pieces_mul sum_pieces wide wide_last tau)
open Cert.LogSigmoid (softplus)

/-! ### The logarithm of the logistic function -/

/-- As the kernel computes it. -/
abbrev klog (x : EReal) : EReal := min x 0 - Ideal.log (1 + Ideal.exp (0 - FloatOps.absf (F := Ideal) (φ := FTy.f32) x))

theorem log_one : Ideal.log (1 + ((0 : ℝ) : EReal)) = 0 := by
  rw [show (1 : EReal) = ((1 : ℝ) : EReal) from rfl, ← EReal.coe_add]
  refine (if_neg (by norm_num) : Ideal.log (((1 + 0 : ℝ)) : EReal) = ((Real.log (1 + 0) : ℝ) : EReal)).trans ?_
  rw [add_zero, Real.log_one]
  rfl

theorem klog_coe (y : ℝ) : klog (y : EReal) = -softplus (-(y : EReal)) := by
  have ha : FloatOps.absf (F := Ideal) (φ := FTy.f32) (y : EReal) = ((|y| : ℝ) : EReal) := by
    show max (y : EReal) (-(y : EReal)) = _
    rw [← EReal.coe_neg, ← EReal.coe_strictMono.monotone.map_max]; rfl
  have hp : (0 : ℝ) < Real.exp (-|y|) := Real.exp_pos _
  have hl : Ideal.log (1 + ((Real.exp (-|y|) : ℝ) : EReal)) = ((Real.log (1 + Real.exp (-|y|)) : ℝ) : EReal) :=
    LogSigmoid.log1p_coe _ hp
  unfold klog
  rw [ha, zero_sub, ← EReal.coe_neg, Ideal.exp_coe, hl, ← EReal.coe_neg, LogSigmoid.softplus_coe, ← EReal.coe_zero,
    ← EReal.coe_strictMono.monotone.map_min, ← EReal.coe_sub, ← EReal.coe_neg]
  congr 1
  rcases le_total 0 y with h | h
  · rw [min_eq_right h, abs_of_nonneg h, zero_sub]
  · rw [min_eq_left h, abs_of_nonpos h, neg_neg]
    have e : 1 + Real.exp (-y) = Real.exp (-y) * (1 + Real.exp y) := by
      rw [mul_add, mul_one, ← Real.exp_add, neg_add_cancel, Real.exp_zero, add_comm]
    rw [e, Real.log_mul (Real.exp_pos _).ne' (by positivity), Real.log_exp]
    ring

/-- The kernel's form is the library's, at the infinities too. -/
theorem klog_eq (x : EReal) : klog x = -softplus (-x) := by
  have h0 : Ideal.exp (⊥ : EReal) = ((0 : ℝ) : EReal) := Ideal.exp_bot
  induction x using EReal.rec with
  | coe r => exact klog_coe r
  | top =>
    have ha : FloatOps.absf (F := Ideal) (φ := FTy.f32) (⊤ : EReal) = ⊤ := max_eq_left le_top
    have hb : FloatOps.absf (F := Ideal) (φ := FTy.f32) (⊥ : EReal) = ⊤ := max_eq_right bot_le
    have e : softplus ⊥ = 0 := by
      unfold softplus
      rw [if_neg (by simp), max_eq_right bot_le, hb, EReal.neg_top, h0]
      show (0 : EReal) + Ideal.log (1 + ((0 : ℝ) : EReal)) = 0
      rw [log_one, add_zero]
    unfold klog
    rw [EReal.neg_top, e, ha, zero_sub, EReal.neg_top, h0, log_one, min_eq_right le_top, neg_zero, sub_zero]
  | bot =>
    have ha : FloatOps.absf (F := Ideal) (φ := FTy.f32) (⊤ : EReal) = ⊤ := max_eq_left le_top
    have hb : FloatOps.absf (F := Ideal) (φ := FTy.f32) (⊥ : EReal) = ⊤ := max_eq_right bot_le
    have e : softplus ⊤ = ⊤ := by
      unfold softplus
      rw [if_neg (by simp), max_eq_left le_top, ha, EReal.neg_top, h0]
      show (⊤ : EReal) + Ideal.log (1 + ((0 : ℝ) : EReal)) = ⊤
      rw [log_one, add_zero]
    unfold klog
    rw [EReal.neg_bot, e, hb, zero_sub, EReal.neg_top, h0, log_one, min_eq_left bot_le, sub_zero]

/-! ### The kernel's block -/

section
variable (z : Vec Ideal S256x128 .bf16) (w : Vec Ideal S128x512 .f32) (b : Vec Ideal S1x512 .f32)

/-- A logit. -/
abbrev kx (r : Fin 256) (l : Fin 512) : EReal := ∑ k : Fin 128, z (ix2 r k) * w (ix2 k l) + b (ix2 0 l)

theorem kout (r : Fin 256) (l : Fin 512) : k0_pay1 (k0_pay4 z w b) (ix2 r l) = Ideal.div (klog (kx z w b r l)) tau := by
  pointwise [k0_pay1, k0_pay4, k0_pay3]

theorem kout' (r : Fin 256) (l : Fin 512) : k0_pay2 (k0_pay5 z w b) (ix2 r l) = Ideal.div (klog (kx z w b r l)) tau := by
  pointwise [k0_pay2, k0_pay5, k0_pay3]

end

theorem out_5 (x0 : Vec Ideal S256x128 .bf16) (x1 x2 : Vec Ideal S128x512 .f32) (x3 x4 : Vec Ideal S1x512 .f32) :
    out0_5 x0 x1 x2 x3 x4 = k0_pay1 (k0_pay4 x0 x1 x3) := by
  frame_out

theorem out_6 (x0 : Vec Ideal S256x128 .bf16) (x1 x2 : Vec Ideal S128x512 .f32) (x3 x4 : Vec Ideal S1x512 .f32) :
    out0_6 x0 x1 x2 x3 x4 = k0_pay2 (k0_pay5 x0 x2 x4) := by
  frame_out

/-! ### The reference -/

section
variable (x0 x1 : FVec Ideal S4096x16 .f32) (x2 : FVec Ideal S2x16x512 .f32) (x3 : FVec Ideal S2x512 .f32)

theorem rx_f (r : Fin 4096) (l : Fin 512) : val_main_v7 (F := Ideal) x0 x2 x3 (ix2 r l)
    = ∑ k : Fin 16, x0 (ix2 r k) * x2 (ix3 0 k l) + x3 (ix2 0 l) := by
  pointwise [val_main_v7, val_main_v6, val_main_v5, val_main_v4, val_main_v3, val_main_v2, val_main_v1, val_main_v0]

theorem rx_b (r : Fin 4096) (l : Fin 512) : val_main_v18 (F := Ideal) x1 x2 x3 (ix2 r l)
    = ∑ k : Fin 16, x1 (ix2 r k) * x2 (ix3 1 k l) + x3 (ix2 1 l) := by
  pointwise [val_main_v18, val_main_v17, val_main_v16, val_main_v15, val_main_v14, val_main_v13, val_main_v12, val_main_v11]

theorem rout_f (r : Fin 4096) (l : Fin 512) : val_main_v10 (F := Ideal) x0 x2 x3 (ix2 r l)
    = Ideal.div (-softplus (-val_main_v7 (F := Ideal) x0 x2 x3 (ix2 r l))) tau := by
  pointwise [val_main_v10, val_main_v9, val_main_cst, val_main_v8, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]

theorem rout_b (r : Fin 4096) (l : Fin 512) : val_main_v21 (F := Ideal) x1 x2 x3 (ix2 r l)
    = Ideal.div (-softplus (-val_main_v18 (F := Ideal) x1 x2 x3 (ix2 r l))) tau := by
  pointwise [val_main_v21, val_main_v20, val_main_cst_0, val_main_v19, val_main_call1_v1, val_main_call1_v0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst]

end

/-! ### The arrays after the run -/

variable (m : (ℓ : Loc nD τ sig) → Buf (Elt Ideal) ℓ)

section
variable (c : Dev nD)

/-- The arguments. -/
abbrev aF : FVec Ideal S4096x16 .f32 := m ((c : Thread nD τ).loc main_arg0)
abbrev aB : FVec Ideal S4096x16 .f32 := m ((c : Thread nD τ).loc main_arg1)
abbrev aW : FVec Ideal S2x16x512 .f32 := m ((c : Thread nD τ).loc main_arg2)
abbrev aH : FVec Ideal S2x512 .f32 := m ((c : Thread nD τ).loc main_arg3)

theorem host_z' : (show FVec Ideal S4096x3456 .bf16 from V m c main_v14)
    = truncf .bf16 (concatenate S4096x3456 1
        [⟨S4096x3328, broadcastInDim S4096x3328 ![] bcast_S_S4096x3328 (constant S_ FTy.f32 0#32)⟩,
         ⟨S4096x16, aF m c⟩, ⟨S4096x16, aB m c⟩,
         ⟨S4096x96, broadcastInDim S4096x96 ![] bcast_S_S4096x96 (constant S_ FTy.f32 0#32)⟩]
        concatenates_S4096x3328_S4096x16_S4096x16_S4096x96_S4096x3456_d1) bitsLt_bf16_f32 := by
  unfold V hostOps0
  simp only [StableHlo.after_cons, StableHlo.after_nil]
  after_results_steps
  rfl

theorem host_z (r : Fin 4096) (k : Fin 3456) : (show FVec Ideal S4096x3456 .bf16 from V m c main_v14) (ix2 r k)
    = wide (fun i => aF m c (ix2 r i)) (fun i => aB m c (ix2 r i)) k := by
  rw [host_z']
  generalize aF m c = p
  generalize aB m c = q
  pointwise
  rfl

theorem host_wf' : (show FVec Ideal S128x512 .f32 from V m c main_v7)
    = concatenate S128x512 0
        [⟨S16x512, shapeCast S16x512 (extractStridedSlice S1x16x512 ![0, 0, 0] (aW m c) slices_S2x16x512_S1x16x512_0_0_0) shapeCasts_S1x16x512_S16x512⟩,
         ⟨S16x512, broadcastInDim S16x512 ![] bcast_S_S16x512 (constant S_ FTy.f32 0#32)⟩,
         ⟨S96x512, broadcastInDim S96x512 ![] bcast_S_S96x512 (constant S_ FTy.f32 0#32)⟩]
        concatenates_S16x512_S16x512_S96x512_S128x512_d0 := by
  unfold V hostOps0
  simp only [StableHlo.after_cons, StableHlo.after_nil]
  after_results_steps
  rfl

theorem host_wf (k : Fin 128) (l : Fin 512) : (show FVec Ideal S128x512 .f32 from V m c main_v7) (ix2 k l)
    = pieces (fun i => aW m c (ix3 0 i l)) (fun _ => 0) k := by
  rw [host_wf']
  generalize aW m c = p
  pointwise
  rfl

theorem host_wb' : (show FVec Ideal S128x512 .f32 from V m c main_v11)
    = concatenate S128x512 0
        [⟨S16x512, broadcastInDim S16x512 ![] bcast_S_S16x512 (constant S_ FTy.f32 0#32)⟩,
         ⟨S16x512, shapeCast S16x512 (extractStridedSlice S1x16x512 ![1, 0, 0] (aW m c) slices_S2x16x512_S1x16x512_1_0_0) shapeCasts_S1x16x512_S16x512⟩,
         ⟨S96x512, broadcastInDim S96x512 ![] bcast_S_S96x512 (constant S_ FTy.f32 0#32)⟩]
        concatenates_S16x512_S16x512_S96x512_S128x512_d0 := by
  unfold V hostOps0
  simp only [StableHlo.after_cons, StableHlo.after_nil]
  after_results_steps
  rfl

theorem host_wb (k : Fin 128) (l : Fin 512) : (show FVec Ideal S128x512 .f32 from V m c main_v11) (ix2 k l)
    = pieces (fun _ => 0) (fun i => aW m c (ix3 1 i l)) k := by
  rw [host_wb']
  generalize aW m c = p
  pointwise
  rfl

end

theorem idx : ∀ t : Fin cfg0.N, win0_0.index t = ![t.val, 26] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt (by decide); omega⟩

section
variable (c : Dev nD) (t : Fin cfg0.N)

theorem read_0 (r : Fin 256) (k : Fin 128) : (show Vec Ideal S256x128 .bf16 from iblk m c 0 t) (ix2 r k)
    = pieces (fun i => aF m c (ix2 (row t r) i)) (fun i => aB m c (ix2 (row t r) i)) k := by
  rw [← wide_last _ _ k (by omega), ← host_z]
  unfold row
  blk_ext [iblk, idx t]

theorem read_1 (k : Fin 128) (l : Fin 512) : (show Vec Ideal S128x512 .f32 from iblk m c 1 t) (ix2 k l)
    = pieces (fun i => aW m c (ix3 0 i l)) (fun _ => 0) k := by
  rw [← host_wf]
  blk_ext [iblk, idx t]

theorem read_2 (k : Fin 128) (l : Fin 512) : (show Vec Ideal S128x512 .f32 from iblk m c 2 t) (ix2 k l)
    = pieces (fun _ => 0) (fun i => aW m c (ix3 1 i l)) k := by
  rw [← host_wb]
  blk_ext [iblk, idx t]

theorem read_3 (l : Fin 512) : (show Vec Ideal S1x512 .f32 from iblk m c 3 t) (ix2 0 l) = aH m c (ix2 0 l) := by
  blk_point [iblk, V, idx t]

theorem read_4 (l : Fin 512) : (show Vec Ideal S1x512 .f32 from iblk m c 4 t) (ix2 0 l) = aH m c (ix2 1 l) := by
  blk_point [iblk, V, idx t]

/-! ### A block against the reference -/

theorem logit_f (r : Fin 256) (l : Fin 512) : kx (iblk m c 0 t) (iblk m c 1 t) (iblk m c 3 t) r l
    = val_main_v7 (F := Ideal) (aF m c) (aW m c) (aH m c) (ix2 (row t r) l) := by
  rw [rx_f]
  unfold kx
  have h0 := fun k => read_0 m c t r k
  have h1 := fun k => read_1 m c t k l
  have h3 := read_3 m c t l
  dsimp only at h0 h1 h3
  simp only [h0, h1, h3, pieces_mul, mul_zero, sum_pieces, Finset.sum_const_zero, add_zero]

theorem logit_b (r : Fin 256) (l : Fin 512) : kx (iblk m c 0 t) (iblk m c 2 t) (iblk m c 4 t) r l
    = val_main_v18 (F := Ideal) (aB m c) (aW m c) (aH m c) (ix2 (row t r) l) := by
  rw [rx_b]
  unfold kx
  have h0 := fun k => read_0 m c t r k
  have h2 := fun k => read_2 m c t k l
  have h4 := read_4 m c t l
  dsimp only at h0 h2 h4
  simp only [h0, h2, h4, pieces_mul, mul_zero, sum_pieces, Finset.sum_const_zero, zero_add]

theorem point_5 : k0_pay1 (k0_pay4 (iblk m c 0 t) (iblk m c 1 t) (iblk m c 3 t))
    = fun j => val_main_v10 (F := Ideal) (aF m c) (aW m c) (aH m c) (ix2 (row t (j 0)) (j 1)) := by
  funext j
  idx_vars j
  refine (kout _ _ _ j0 j1).trans (Eq.trans ?_ (rout_f _ _ _ (row t j0) j1).symm)
  rw [logit_f, klog_eq]

theorem point_6 : k0_pay2 (k0_pay5 (iblk m c 0 t) (iblk m c 2 t) (iblk m c 4 t))
    = fun j => val_main_v21 (F := Ideal) (aB m c) (aW m c) (aH m c) (ix2 (row t (j 0)) (j 1)) := by
  funext j
  idx_vars j
  refine (kout' _ _ _ j0 j1).trans (Eq.trans ?_ (rout_b _ _ _ (row t j0) j1).symm)
  rw [logit_b, klog_eq]

end

section
variable (c : Dev nD)

theorem final_5 : (dats m 0 c).arrAt 5 cfg0.N = val_main_v10 (F := Ideal) (aF m c) (aW m c) (aH m c) := by
  refine (dats m 0 c).arrAt_eq_of_covers 5 _ (by decide +kernel) fun t hf y => ?_
  blk_simp
  rw [after0_5, out_5, point_5 m c t]
  unfold row
  blk_ext [idx t]

theorem final_6 : (dats m 0 c).arrAt 6 cfg0.N = val_main_v21 (F := Ideal) (aB m c) (aW m c) (aH m c) := by
  refine (dats m 0 c).arrAt_eq_of_covers 6 _ (by decide +kernel) fun t hf y => ?_
  blk_simp
  rw [after0_6, out_6, point_6 m c t]
  unfold row
  blk_ext [idx t]

end

end Cert.GlaGate

end
-- ==== Proof.GlaGateClaim.lean ====
/- The claims about the decays of the gated linear attention. -/
module

public import proofs.«01_k».proof.Defs
public import proofs.«01_k».proof.Proof.Gen.GlaGate
public import proofs.«01_k».proof.Proof.Gen.GlaGate.Frame
public import proofs.«01_k».proof.Proof.Gen.GlaGateIdeal
public import proofs.«01_k».proof.Proof.Gen.GlaGateIdeal.Frame
public import proofs.«01_k».proof.Proof.Gen.GlaGateIdeal.Value
public import proofs.«01_k».proof.Proof.Gen.GlaGateRefIdeal
public import proofs.«01_k».proof.Proof.Gen.GlaGateRefIdeal.Run
public import proofs.«01_k».proof.Proof.Gen.GlaGateRefIdeal.Read
public import proofs.«01_k».proof.Proof.GlaGate
public import Idealize.ShloMosaic.Lib.Claim

@[expose] public section

set_option maxRecDepth 16384

noncomputable section

namespace Cert.GlaGate

open Idealize.ShloMosaic Idealize.ShloMosaic.TcCoe Idealize.SL.Sem

theorem frame_reference : Cert.quiescent_GlaGateRefIdeal := by
  intro m g _
  refine θ_run_mono (Cert.GlaGateRefIdeal.Value.run m g) fun r h => ⟨?_, sem_eq_zero_of_no_sems (by decide) r.2⟩
  intro c
  exact (h c).2.2

/-- The call's two results are the reference's. -/
theorem algebraic : Cert.algebraic_GlaGateIdeal_GlaGateRefIdeal := by
  pair_intro
  · run_from Cert.GlaGateIdeal.Value.run_blocks m g
  · run_from Cert.GlaGateRefIdeal.Value.run m' g'
    · exact (final_5 m c).symm
    · exact (final_6 m c).symm

end Cert.GlaGate

end
-- ==== Proof.MergeOut.lean ====
/- The merge of the three branches: a block of the kernel against the reference, entry by entry. -/
module

public import proofs.«01_k».proof.Proof.Gen.MergeOutIdeal.Frame
public import proofs.«01_k».proof.Proof.Gen.MergeOutRefIdeal.Read
public import proofs.«01_k».proof.Proof.Sigmoid
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.MergeOut

open Cert.MergeOutIdeal Cert.MergeOutIdeal.Gen
open Idealize.ShloMosaic Idealize.ShloMosaic.TcCoe Idealize.SL.Sem
open Cert.MergeOutRefIdeal.Read

/-- One entry of the sum of the branches: each gated by the logistic function of its preactivation. -/
abbrev mix (p q s a b d : EReal) : EReal := Sigmoid.gate p * a + Sigmoid.gate q * b + Sigmoid.gate s * d

theorem mix_congr {p q s a b d p' q' s' a' b' d' : EReal} (hp : p = p') (hq : q = q') (hs : s = s') (ha : a = a') (hb : b = b')
    (hd : d = d') : mix p q s a b d = mix p' q' s' a' b' d' := by
  rw [hp, hq, hs, ha, hb, hd]

/-- The column of the preactivations that the column `l` of a branch reads. -/
abbrev col0 (l : Fin 1024) : Fin 3072 := ⟨l.val, by omega⟩
abbrev col1 (l : Fin 1024) : Fin 3072 := ⟨1024 + l.val, by omega⟩
abbrev col2 (l : Fin 1024) : Fin 3072 := ⟨2048 + l.val, by omega⟩

/-! ### The kernel's block -/

theorem out_5 (x0 : Vec Ideal S256x3072 .bf16) (x1 x2 x3 : Vec Ideal S256x1024 .bf16) (x4 : Vec Ideal S1x3072 .f32) :
    out0_5 x0 x1 x2 x3 x4 = k0_pay1 x0 x1 x2 x3 x4 := by
  frame_out

theorem kout (x0 : Vec Ideal S256x3072 .bf16) (x1 x2 x3 : Vec Ideal S256x1024 .bf16) (x4 : Vec Ideal S1x3072 .f32) (r : Fin 256) (l : Fin 1024) :
    k0_pay1 x0 x1 x2 x3 x4 (ix2 r l) = mix (x0 (ix2 r (col0 l)) + x4 (ix2 0 (col0 l))) (x0 (ix2 r (col1 l)) + x4 (ix2 0 (col1 l)))
      (x0 (ix2 r (col2 l)) + x4 (ix2 0 (col2 l))) (x1 (ix2 r l)) (x2 (ix2 r l)) (x3 (ix2 r l)) := by
  unfold mix
  rw [← Sigmoid.tanh_gate, ← Sigmoid.tanh_gate, ← Sigmoid.tanh_gate]
  pointwise [k0_pay1]

/-! ### The reference -/

section
variable (x0 : FVec Ideal S4096x3072 .bf16) (x1 x2 x3 : FVec Ideal S4096x1024 .bf16) (x4 : FVec Ideal S3072 .f32)

theorem rgate (r : Fin 4096) (l : Fin 3072) : val_main_v9 (F := Ideal) x0 x4 (ix2 r l) = Sigmoid.gate (x0 (ix2 r l) + x4 (ix1 l)) := by
  unfold Sigmoid.gate
  pointwise [val_main_v9, val_main_v8, val_main_v7, val_main_v6, val_main_v5, val_main_v4, val_main_v3, val_main_v2, val_main_v1, val_main_v0, val_main_cst, val_main_cst_0]

theorem rout (r : Fin 4096) (l : Fin 1024) : val_main_v25 (F := Ideal) x0 x1 x2 x3 x4 (ix2 r l)
    = mix (x0 (ix2 r (col0 l)) + x4 (ix1 (col0 l))) (x0 (ix2 r (col1 l)) + x4 (ix1 (col1 l))) (x0 (ix2 r (col2 l)) + x4 (ix1 (col2 l)))
        (x1 (ix2 r l)) (x2 (ix2 r l)) (x3 (ix2 r l)) := by
  unfold mix
  rw [← rgate, ← rgate, ← rgate]
  pointwise [val_main_v25, val_main_v24, val_main_v23, val_main_v22, val_main_v21, val_main_v20, val_main_v19, val_main_v18, val_main_v17, val_main_v16, val_main_v15, val_main_v14, val_main_v13, val_main_v12, val_main_v11, val_main_v10]

end

/-! ### The array after the run -/

variable (m : (ℓ : Loc nD τ sig) → Buf (Elt Ideal) ℓ)

section
variable (c : Dev nD)

/-- The arguments: the preactivations, the three branches, the bias. -/
abbrev aG : FVec Ideal S4096x3072 .bf16 := m ((c : Thread nD τ).loc main_arg0)
abbrev aP : FVec Ideal S4096x1024 .bf16 := m ((c : Thread nD τ).loc main_arg1)
abbrev aQ : FVec Ideal S4096x1024 .bf16 := m ((c : Thread nD τ).loc main_arg2)
abbrev aS : FVec Ideal S4096x1024 .bf16 := m ((c : Thread nD τ).loc main_arg3)
abbrev aB : FVec Ideal S3072 .f32 := m ((c : Thread nD τ).loc main_arg4)

end

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt (by decide); omega⟩

section
variable (c : Dev nD) (t : Fin cfg0.N)

theorem read_0 (r : Fin 256) (l : Fin 3072) : (show Vec Ideal S256x3072 .bf16 from iblk m c 0 t) (ix2 r l) = aG m c (ix2 (row t r) l) := by
  unfold row
  blk_point [iblk, V, idx t]

theorem read_1 (r : Fin 256) (l : Fin 1024) : (show Vec Ideal S256x1024 .bf16 from iblk m c 1 t) (ix2 r l) = aP m c (ix2 (row t r) l) := by
  unfold row
  blk_point [iblk, V, idx t]

theorem read_2 (r : Fin 256) (l : Fin 1024) : (show Vec Ideal S256x1024 .bf16 from iblk m c 2 t) (ix2 r l) = aQ m c (ix2 (row t r) l) := by
  unfold row
  blk_point [iblk, V, idx t]

theorem read_3 (r : Fin 256) (l : Fin 1024) : (show Vec Ideal S256x1024 .bf16 from iblk m c 3 t) (ix2 r l) = aS m c (ix2 (row t r) l) := by
  unfold row
  blk_point [iblk, V, idx t]

theorem read_4 (l : Fin 3072) : (show Vec Ideal S1x3072 .f32 from iblk m c 4 t) (ix2 0 l) = aB m c (ix1 l) := by
  blk_point [iblk, V, idx t]

theorem point_5 : k0_pay1 (iblk m c 0 t) (iblk m c 1 t) (iblk m c 2 t) (iblk m c 3 t) (iblk m c 4 t)
    = fun j => val_main_v25 (F := Ideal) (aG m c) (aP m c) (aQ m c) (aS m c) (aB m c) (ix2 (row t (j 0)) (j 1)) := by
  funext y
  idx_vars y
  refine (kout _ _ _ _ _ y0 y1).trans (Eq.trans ?_ (rout _ _ _ _ _ (row t y0) y1).symm)
  exact mix_congr (congrArg₂ (· + ·) (read_0 m c t y0 _) (read_4 m c t _)) (congrArg₂ (· + ·) (read_0 m c t y0 _) (read_4 m c t _))
    (congrArg₂ (· + ·) (read_0 m c t y0 _) (read_4 m c t _)) (read_1 m c t y0 y1) (read_2 m c t y0 y1) (read_3 m c t y0 y1)

theorem final_5 : (dats m 0 c).arrAt 5 cfg0.N = val_main_v25 (F := Ideal) (aG m c) (aP m c) (aQ m c) (aS m c) (aB m c) := by
  refine (dats m 0 c).arrAt_eq_of_covers 5 _ (by decide +kernel) fun t hf y => ?_
  blk_simp
  rw [after0_5, out_5, point_5 m c t]
  unfold row
  blk_ext [idx t]

end

/-- The run, with the result's array named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  θ_run_mono (run_main m ρ) fun r h c => ⟨(h c).1 5,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c)⟩

end Cert.MergeOut

end
-- ==== Proof.MergeOutClaim.lean ====
/- The claims about the merge of the three branches. -/
module

public import proofs.«01_k».proof.Defs
public import proofs.«01_k».proof.Proof.Gen.MergeOut
public import proofs.«01_k».proof.Proof.Gen.MergeOut.Frame
public import proofs.«01_k».proof.Proof.Gen.MergeOutIdeal
public import proofs.«01_k».proof.Proof.Gen.MergeOutIdeal.Frame
public import proofs.«01_k».proof.Proof.Gen.MergeOutRefIdeal
public import proofs.«01_k».proof.Proof.Gen.MergeOutRefIdeal.Run
public import proofs.«01_k».proof.Proof.Gen.MergeOutRefIdeal.Read
public import proofs.«01_k».proof.Proof.MergeOut
public import Idealize.ShloMosaic.Lib.Claim

@[expose] public section

set_option maxRecDepth 16384

noncomputable section

namespace Cert.MergeOut

open Idealize.ShloMosaic Idealize.ShloMosaic.TcCoe Idealize.SL.Sem

theorem frame_reference : Cert.quiescent_MergeOutRefIdeal := by
  intro m g _
  refine θ_run_mono (Cert.MergeOutRefIdeal.Value.run m g) fun r h => ⟨?_, sem_eq_zero_of_no_sems (by decide) r.2⟩
  intro c
  exact (h c).2

/-- The call's result is the reference's. -/
theorem algebraic : Cert.algebraic_MergeOutIdeal_MergeOutRefIdeal := by
  pair_intro
  · run_from run m g
  · run_from Cert.MergeOutRefIdeal.Value.run m' g'
    · exact (final_5 m c).symm

end Cert.MergeOut

end
-- ==== Proof.FfnUp.lean ====
/- A feed-forward block's norm, its two products and its gate: a block of the kernel against the reference, entry by entry. -/
module

public import proofs.«01_k».proof.Proof.Gen.FfnUpIdeal.Value
public import proofs.«01_k».proof.Proof.Gen.FfnUpRefIdeal.Read
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.FfnUp

open Cert.FfnUpIdeal Cert.FfnUpIdeal.Gen
open Idealize.ShloMosaic Idealize.ShloMosaic.TcCoe Idealize.SL.Sem
open Cert.FfnUpRefIdeal.Read

/-- The length of a row, the small number and one half, as the programs' float words. -/
abbrev len : EReal := Ideal.ofBits FTy.f32 0x44800000#32
abbrev eps : EReal := Ideal.ofBits FTy.f32 0x358637BD#32
abbrev half : EReal := Ideal.ofBits FTy.f32 0x3F000000#32

/-- The norm of a row `x` with the gain `g`. -/
abbrev norm (x g : Fin 1024 → EReal) (l : Fin 1024) : EReal := x l * Ideal.rsqrt (Ideal.div (∑ k, x k * x k) len + eps) * g l

/-- The product of a normed row with a row of weights. -/
abbrev dot (x g w : Fin 1024 → EReal) : EReal := ∑ l, norm x g l * w l

/-- The gated product, with the logistic function as the kernel computes it. -/
abbrev act (a b : EReal) : EReal := a * (half * Ideal.tanh (half * a) + half) * b

theorem dot_congr {x g w x' g' w' : Fin 1024 → EReal} (hx : x = x') (hg : g = g') (hw : w = w') : dot x g w = dot x' g' w' := by
  rw [hx, hg, hw]

/-! ### The kernel's block -/

section
variable (x0 : Vec Ideal S512x1024 .f32) (x1 : Vec Ideal S1x1024 .f32) (x2 x3 : Vec Ideal S4x1x704x1024 .bf16)

theorem kh (r : Fin 512) (l : Fin 1024) : k0_pay2 x0 x1 (ix2 r l) = norm (fun k => x0 (ix2 r k)) (fun k => x1 (ix2 0 k)) l := by
  pointwise [k0_pay2, k0_pay1]

theorem out_4 : out0_4 x0 x1 x2 x3 = k0_pay2 x0 x1 := by
  frame_out

theorem out_5 (y : S4x512x704.Idx) : out0_5 x0 x1 x2 x3 y
    = dot (fun k => x0 (ix2 (y 1) k)) (fun k => x1 (ix2 0 k)) (fun l => x2 (ix4 (y 0) 0 (y 2) l)) := by
  unfold_out out0_5
  canon_tiles x h
  all_goals (open_payloads; pointwise [h0, h1, h2, dot, norm]; blk_point [h0, h1, h2])

theorem out_6 (y : S4x512x704.Idx) : out0_6 x0 x1 x2 x3 y
    = dot (fun k => x0 (ix2 (y 1) k)) (fun k => x1 (ix2 0 k)) (fun l => x3 (ix4 (y 0) 0 (y 2) l)) := by
  unfold_out out0_6
  canon_tiles x h
  all_goals (open_payloads; pointwise [h0, h1, h2, dot, norm]; blk_point [h0, h1, h2])

theorem out_7 (y : S4x512x704.Idx) : out0_7 x0 x1 x2 x3 y
    = act (dot (fun k => x0 (ix2 (y 1) k)) (fun k => x1 (ix2 0 k)) (fun l => x2 (ix4 (y 0) 0 (y 2) l)))
        (dot (fun k => x0 (ix2 (y 1) k)) (fun k => x1 (ix2 0 k)) (fun l => x3 (ix4 (y 0) 0 (y 2) l))) := by
  unfold_out out0_7
  canon_tiles x h
  all_goals (open_payloads; pointwise [h0, h1, h2, act, dot, norm]; blk_point [h0, h1, h2])

end

/-- The column of the whole array that column `k` of quarter `j` is. -/
def col (j : Fin 4) (k : Fin 704) : Fin 2816 := ⟨j.val * 704 + k.val, by omega⟩

/-! ### The reference -/

section
variable (x0 : FVec Ideal S4096x1024 .f32) (x1 : FVec Ideal S1024 .f32) (x2 x3 : FVec Ideal S2x1024x2816 .f32)

theorem rh (r : Fin 4096) (l : Fin 1024) : val_main_v12 (F := Ideal) x0 x1 (ix2 r l) = norm (fun k => x0 (ix2 r k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ra (r : Fin 4096) (k : Fin 2816) : val_main_v15 (F := Ideal) x0 x1 x2 (ix2 r k)
    = dot (fun k => x0 (ix2 r k)) (fun k => x1 (ix1 k)) (fun l => x2 (ix3 0 l k)) := by
  pointwise [val_main_v15, val_main_v14, val_main_v13]
  simp only [rh]

theorem rb (r : Fin 4096) (k : Fin 2816) : val_main_v18 (F := Ideal) x0 x1 x3 (ix2 r k)
    = dot (fun k => x0 (ix2 r k)) (fun k => x1 (ix1 k)) (fun l => x3 (ix3 0 l k)) := by
  pointwise [val_main_v18, val_main_v17, val_main_v16]
  simp only [rh]

theorem out_a (j : Fin 4) (r : Fin 4096) (k : Fin 704) : val_main_v22 (F := Ideal) x0 x1 x2 (ix3 j r k)
    = val_main_v15 (F := Ideal) x0 x1 x2 (ix2 r (col j k)) := by
  unfold col
  pointwise [val_main_v22, val_main_v21, val_main_v20]

theorem out_b (j : Fin 4) (r : Fin 4096) (k : Fin 704) : val_main_v25 (F := Ideal) x0 x1 x3 (ix3 j r k)
    = val_main_v18 (F := Ideal) x0 x1 x3 (ix2 r (col j k)) := by
  unfold col
  pointwise [val_main_v25, val_main_v24, val_main_v23]

theorem out_s (j : Fin 4) (r : Fin 4096) (k : Fin 704) : val_main_v30 (F := Ideal) x0 x1 x2 x3 (ix3 j r k)
    = act (val_main_v15 (F := Ideal) x0 x1 x2 (ix2 r (col j k))) (val_main_v18 (F := Ideal) x0 x1 x3 (ix2 r (col j k))) := by
  unfold act half
  rw [Sigmoid.tanh_gate]
  unfold col Sigmoid.gate
  pointwise [val_main_v30, val_main_v29, val_main_v28, val_main_v27, val_main_v26, val_main_call0_v5, val_main_call0_v4, val_main_call0_v3, val_main_call0_v2, val_main_call0_v1, val_main_call0_v0, val_main_call0_cst, val_main_call0_cst_0]

end

/-! ### The arrays after the run -/

variable (m : (ℓ : Loc nD τ sig) → Buf (Elt Ideal) ℓ)

section
variable (c : Dev nD)

/-- The arguments. -/
abbrev aX : FVec Ideal S4096x1024 .f32 := m ((c : Thread nD τ).loc main_arg0)
abbrev aG : FVec Ideal S1024 .f32 := m ((c : Thread nD τ).loc main_arg1)
abbrev aW : FVec Ideal S2x1024x2816 .f32 := m ((c : Thread nD τ).loc main_arg2)
abbrev aU : FVec Ideal S2x1024x2816 .f32 := m ((c : Thread nD τ).loc main_arg3)

end

theorem idx : ∀ t : Fin cfg0.N, win0_0.index t = ![t.val, 0] ∧ win0_1.index t = ![0, 0] ∧ win0_2.index t = ![0, 0, 0, 0]
    ∧ win0_3.index t = ![0, 0, 0, 0] ∧ win0_4.index t = ![t.val, 0] ∧ win0_5.index t = ![0, t.val, 0] ∧ win0_6.index t = ![0, t.val, 0]
    ∧ win0_7.index t = ![0, t.val, 0] :=
  (by decide +kernel : ∀ t : Fin grid0.N, _)

/-- The row of the whole array that row `r` of block `t` is. -/
def row (t : Fin cfg0.N) (r : Fin 512) : Fin 4096 :=
  ⟨t.val * 512 + r.val, by have h : t.val < 8 := lt_of_lt_of_eq t.isLt (by decide); omega⟩

section
variable (c : Dev nD) (t : Fin cfg0.N)

theorem read_0 (r : Fin 512) (l : Fin 1024) : (show Vec Ideal S512x1024 .f32 from iblk m c 0 t) (ix2 r l) = aX m c (ix2 (row t r) l) := by
  unfold row
  blk_point [iblk, V, idx t]

theorem read_1 (l : Fin 1024) : (show Vec Ideal S1x1024 .f32 from iblk m c 1 t) (ix2 0 l) = aG m c (ix1 l) := by
  blk_point [iblk, V, idx t]

theorem read_2 (j : Fin 4) (k : Fin 704) (l : Fin 1024) :
    (show Vec Ideal S4x1x704x1024 .bf16 from iblk m c 2 t) (ix4 j 0 k l) = aW m c (ix3 0 l (col j k)) := by
  unfold col
  blk_point [iblk, V, idx t]

theorem read_3 (j : Fin 4) (k : Fin 704) (l : Fin 1024) :
    (show Vec Ideal S4x1x704x1024 .bf16 from iblk m c 3 t) (ix4 j 0 k l) = aU m c (ix3 0 l (col j k)) := by
  unfold col
  blk_point [iblk, V, idx t]

theorem dot_a (j : Fin 4) (r : Fin 512) (k : Fin 704) :
    dot (fun l => (show Vec Ideal S512x1024 .f32 from iblk m c 0 t) (ix2 r l)) (fun l => (show Vec Ideal S1x1024 .f32 from iblk m c 1 t) (ix2 0 l))
      (fun l => (show Vec Ideal S4x1x704x1024 .bf16 from iblk m c 2 t) (ix4 j 0 k l))
    = val_main_v15 (F := Ideal) (aX m c) (aG m c) (aW m c) (ix2 (row t r) (col j k)) :=
  (dot_congr (funext fun l => read_0 m c t r l) (funext fun l => read_1 m c t l) (funext fun l => read_2 m c t j k l)).trans
    (ra (aX m c) (aG m c) (aW m c) (row t r) (col j k)).symm

theorem dot_b (j : Fin 4) (r : Fin 512) (k : Fin 704) :
    dot (fun l => (show Vec Ideal S512x1024 .f32 from iblk m c 0 t) (ix2 r l)) (fun l => (show Vec Ideal S1x1024 .f32 from iblk m c 1 t) (ix2 0 l))
      (fun l => (show Vec Ideal S4x1x704x1024 .bf16 from iblk m c 3 t) (ix4 j 0 k l))
    = val_main_v18 (F := Ideal) (aX m c) (aG m c) (aU m c) (ix2 (row t r) (col j k)) :=
  (dot_congr (funext fun l => read_0 m c t r l) (funext fun l => read_1 m c t l) (funext fun l => read_3 m c t j k l)).trans
    (rb (aX m c) (aG m c) (aU m c) (row t r) (col j k)).symm

theorem point_4 : k0_pay2 (iblk m c 0 t) (iblk m c 1 t)
    = fun j => val_main_v19 (F := Ideal) (aX m c) (aG m c) (ix2 (row t (j 0)) (j 1)) := by
  funext j
  idx_vars j
  refine (kh _ _ j0 j1).trans ?_
  pointwise [val_main_v19]
  refine Eq.trans ?_ (rh _ _ (row t j0) j1).symm
  exact congrArg₂ (norm · · j1) (funext fun k => read_0 m c t j0 k) (funext fun k => read_1 m c t k)

theorem point_5 (y : S4x512x704.Idx) : out0_5 (iblk m c 0 t) (iblk m c 1 t) (iblk m c 2 t) (iblk m c 3 t) y
    = val_main_v22 (F := Ideal) (aX m c) (aG m c) (aW m c) (ix3 (y 0) (row t (y 1)) (y 2)) := by
  refine (out_5 _ _ _ _ _).trans (Eq.trans ?_ (out_a _ _ _ (y 0) (row t (y 1)) (y 2)).symm)
  exact dot_a m c t (y 0) (y 1) (y 2)

theorem point_6 (y : S4x512x704.Idx) : out0_6 (iblk m c 0 t) (iblk m c 1 t) (iblk m c 2 t) (iblk m c 3 t) y
    = val_main_v25 (F := Ideal) (aX m c) (aG m c) (aU m c) (ix3 (y 0) (row t (y 1)) (y 2)) := by
  refine (out_6 _ _ _ _ _).trans (Eq.trans ?_ (out_b _ _ _ (y 0) (row t (y 1)) (y 2)).symm)
  exact dot_b m c t (y 0) (y 1) (y 2)

theorem point_7 (y : S4x512x704.Idx) : out0_7 (iblk m c 0 t) (iblk m c 1 t) (iblk m c 2 t) (iblk m c 3 t) y
    = val_main_v30 (F := Ideal) (aX m c) (aG m c) (aW m c) (aU m c) (ix3 (y 0) (row t (y 1)) (y 2)) := by
  refine (out_7 _ _ _ _ _).trans (Eq.trans ?_ (out_s _ _ _ _ (y 0) (row t (y 1)) (y 2)).symm)
  exact congrArg₂ act (dot_a m c t (y 0) (y 1) (y 2)) (dot_b m c t (y 0) (y 1) (y 2))

end

section
variable (c : Dev nD)

theorem final_4 : (dats m 0 c).arrAt 4 cfg0.N = val_main_v19 (F := Ideal) (aX m c) (aG m c) := by
  refine (dats m 0 c).arrAt_eq_of_covers 4 _ (by decide +kernel) fun t hf y => ?_
  blk_simp
  rw [after0_4, out_4, point_4 m c t]
  unfold row
  blk_ext [idx t]

theorem final_5 : (dats m 0 c).arrAt 5 cfg0.N = val_main_v22 (F := Ideal) (aX m c) (aG m c) (aW m c) := by
  refine (dats m 0 c).arrAt_eq_of_covers 5 _ (by decide +kernel) fun t hf y => ?_
  blk_simp
  rw [after0_5]
  refine (point_5 m c t y).trans ?_
  unfold row
  blk_ext [idx t]

theorem final_6 : (dats m 0 c).arrAt 6 cfg0.N = val_main_v25 (F := Ideal) (aX m c) (aG m c) (aU m c) := by
  refine (dats m 0 c).arrAt_eq_of_covers 6 _ (by decide +kernel) fun t hf y => ?_
  blk_simp
  rw [after0_6]
  refine (point_6 m c t y).trans ?_
  unfold row
  blk_ext [idx t]

theorem final_7 : (dats m 0 c).arrAt 7 cfg0.N = val_main_v30 (F := Ideal) (aX m c) (aG m c) (aW m c) (aU m c) := by
  refine (dats m 0 c).arrAt_eq_of_covers 7 _ (by decide +kernel) fun t hf y => ?_
  blk_simp
  rw [after0_7]
  refine (point_7 m c t y).trans ?_
  unfold row
  blk_ext [idx t]

end

end Cert.FfnUp

end
-- ==== Proof.FfnUpClaim.lean ====
/- The claims about a feed-forward block's norm, products and gate. -/
module

public import proofs.«01_k».proof.Defs
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.FfnUp
public import Idealize.ShloMosaic.Lib.Claim

@[expose] public section

set_option maxRecDepth 16384

noncomputable section

namespace Cert.FfnUp

open Idealize.ShloMosaic Idealize.ShloMosaic.TcCoe Idealize.SL.Sem

theorem frame_reference : Cert.quiescent_FfnUpRefIdeal := by
  intro m g _
  refine θ_run_mono (Cert.FfnUpRefIdeal.Value.run m g) fun r h => ⟨?_, sem_eq_zero_of_no_sems (by decide) r.2⟩
  intro c
  exact (h c).2.2.2.2

/-- The call's four results are the reference's. -/
theorem algebraic : Cert.algebraic_FfnUpIdeal_FfnUpRefIdeal := by
  pair_intro
  · run_from Cert.FfnUpIdeal.Value.run_blocks m g
  · run_from Cert.FfnUpRefIdeal.Value.run m' g'
    · exact (final_4 m c).symm
    · exact (final_5 m c).symm
    · exact (final_6 m c).symm
    · exact (final_7 m c).symm

end Cert.FfnUp

end
-- ==== Proof.MixIn.lean ====
/- The mixer's norm and its two input products: a block of the kernel against the reference, entry by entry. -/
module

public import proofs.«01_k».proof.Proof.Gen.MixInIdeal.Value
public import proofs.«01_k».proof.Proof.Gen.MixInRefIdeal.Read
public import proofs.«01_k».proof.Proof.RmsNorm
public import proofs.«01_k».proof.Proof.PadSum
public import Idealize.ShloMosaic.Lib.Pipeline.ValueKit
public import Idealize.ShloMosaic.Lib.Pointwise
public import Idealize.ShloMosaic.Lib.Claim

@[expose] public section

set_option maxRecDepth 16384

noncomputable section

namespace Cert.MixIn

open Cert.MixInIdeal Cert.MixInIdeal.Gen
open Idealize.ShloMosaic Idealize.ShloMosaic.TcCoe Idealize.SL.Sem
open Cert.MixInRefIdeal.Read

open Cert.RmsNorm (inv)
open Cert.PadSum (padded)

/-- The length of a row and the small number, as the programs' float words. -/
abbrev len : EReal := Ideal.ofBits FTy.f32 0x44800000#32
abbrev eps : EReal := Ideal.ofBits FTy.f32 0x358637BD#32

/-- The norm of a row `x` with the gain `g`. -/
def norm (x g : Fin 1024 → EReal) (l : Fin 1024) : EReal := x l * inv len eps x * g l

/-- A product with a padded row is the padded product. -/
theorem sum_padded_mul (h : Fin 1024 → EReal) (w : Fin 1024 → Fin 3360 → EReal) (k : Fin 3456) :
    ∑ l, h l * padded (w l) k = padded (fun i => ∑ l, h l * w l i) k := by
  unfold padded
  split_ifs <;> simp

/-! ### The kernel's block -/

section
variable (x : Vec Ideal S256x1024 .f32) (g : Vec Ideal S1x1024 .f32) (w : Vec Ideal S3456x1024 .bf16) (u : Vec Ideal S1024x3072 .bf16)

theorem kh (r : Fin 256) (l : Fin 1024) : k0_pay1 x g (ix2 r l) = norm (fun k => x (ix2 r k)) (fun k => g (ix2 0 k)) l := by
  pointwise [k0_pay1]
  rfl

theorem kz (r : Fin 256) (k : Fin 3456) : k0_pay3 x g w (ix2 r k) = ∑ l : Fin 1024, k0_pay1 x g (ix2 r l) * w (ix2 k l) := by
  pointwise [k0_pay3]

theorem kp (r : Fin 256) (k : Fin 3072) : k0_pay4 x g u (ix2 r k) = ∑ l : Fin 1024, k0_pay1 x g (ix2 r l) * u (ix2 l k) := by
  pointwise [k0_pay4]

end

section
variable (x0 : Vec Ideal S256x1024 .f32) (x1 : Vec Ideal S1x1024 .f32) (x2 : Vec Ideal S3456x1024 .bf16) (x3 : Vec Ideal S1024x3072 .bf16)

theorem out_4 : out0_4 x0 x1 x2 x3 = k0_pay2 x0 x1 := by
  frame_out

theorem out_5 : out0_5 x0 x1 x2 x3 = k0_pay3 x0 x1 x2 := by
  frame_out

theorem out_6 : out0_6 x0 x1 x2 x3 = k0_pay4 x0 x1 x3 := by
  frame_out

end

/-! ### The reference -/

section
variable (x0 : FVec Ideal S4096x1024 .f32) (x1 : FVec Ideal S1024 .f32) (x2 : FVec Ideal S1024x3072 .f32) (x3 : FVec Ideal S1024x3360 .f32)

theorem rh (r : Fin 4096) (l : Fin 1024) : val_main_v12 (F := Ideal) x0 x1 (ix2 r l) = norm (fun k => x0 (ix2 r k)) (fun k => x1 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem rz (r : Fin 4096) (i : Fin 3360) : val_main_v13 (F := Ideal) x0 x1 x3 (ix2 r i)
    = ∑ l : Fin 1024, val_main_v12 (F := Ideal) x0 x1 (ix2 r l) * x3 (ix2 l i) := by
  pointwise [val_main_v13]

theorem rpad (r : Fin 4096) (k : Fin 3456) : val_main_v20 (F := Ideal) x0 x1 x3 (ix2 r k)
    = padded (fun i => val_main_v13 (F := Ideal) x0 x1 x3 (ix2 r i)) k := by
  unfold padded
  pointwise [val_main_v20, val_main_v18, val_main_v17, val_main_v16, val_main_v15, val_main_v14, val_main_cst_2]

theorem rp (r : Fin 4096) (k : Fin 3072) : val_main_v22 (F := Ideal) x0 x1 x2 (ix2 r k)
    = ∑ l : Fin 1024, val_main_v12 (F := Ideal) x0 x1 (ix2 r l) * x2 (ix2 l k) := by
  pointwise [val_main_v22, val_main_v21]

end

/-! ### The arrays after the run -/

variable (m : (ℓ : Loc nD τ sig) → Buf (Elt Ideal) ℓ)

section
variable (c : Dev nD)

/-- The arguments. -/
abbrev aX : FVec Ideal S4096x1024 .f32 := m ((c : Thread nD τ).loc main_arg0)
abbrev aG : FVec Ideal S1024 .f32 := m ((c : Thread nD τ).loc main_arg1)
abbrev aM : FVec Ideal S1024x3072 .f32 := m ((c : Thread nD τ).loc main_arg2)
abbrev aW : FVec Ideal S1024x3360 .f32 := m ((c : Thread nD τ).loc main_arg3)

theorem host_w' : (show FVec Ideal S3456x1024 .bf16 from V m c main_v6)
    = truncf .bf16 (concatenate S3456x1024 0
        [⟨S2560x1024, extractStridedSlice S2560x1024 ![0, 0] (transpose S3360x1024 [1, 0] (aW m c) transposes_S1024x3360_S3360x1024_1_0) slices_S3360x1024_S2560x1024_0_0⟩,
         ⟨S768x1024, extractStridedSlice S768x1024 ![2592, 0] (transpose S3360x1024 [1, 0] (aW m c) transposes_S1024x3360_S3360x1024_1_0) slices_S3360x1024_S768x1024_2592_0⟩,
         ⟨S32x1024, extractStridedSlice S32x1024 ![2560, 0] (transpose S3360x1024 [1, 0] (aW m c) transposes_S1024x3360_S3360x1024_1_0) slices_S3360x1024_S32x1024_2560_0⟩,
         ⟨S96x1024, broadcastInDim S96x1024 ![] bcast_S_S96x1024 (constant S_ FTy.f32 0#32)⟩]
        concatenates_S2560x1024_S768x1024_S32x1024_S96x1024_S3456x1024_d0) bitsLt_bf16_f32 := by
  unfold V hostOps0
  simp only [StableHlo.after_cons, StableHlo.after_nil]
  after_results_steps
  rfl

theorem host_w (k : Fin 3456) (l : Fin 1024) :
    (show FVec Ideal S3456x1024 .bf16 from V m c main_v6) (ix2 k l) = padded (fun i => aW m c (ix2 l i)) k := by
  rw [host_w']
  generalize aW m c = w
  pointwise
  rfl

end

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt (by decide); omega⟩

section
variable (c : Dev nD) (t : Fin cfg0.N)

theorem read_0 (r : Fin 256) (l : Fin 1024) : (show Vec Ideal S256x1024 .f32 from iblk m c 0 t) (ix2 r l) = aX m c (ix2 (row t r) l) := by
  unfold row
  blk_point [iblk, V, idx t]

theorem read_1 (l : Fin 1024) : (show Vec Ideal S1x1024 .f32 from iblk m c 1 t) (ix2 0 l) = aG m c (ix1 l) := by
  blk_point [iblk, V, idx t]

theorem read_2 (k : Fin 3456) (l : Fin 1024) : (show Vec Ideal S3456x1024 .bf16 from iblk m c 2 t) (ix2 k l)
    = padded (fun i => aW m c (ix2 l i)) k := by
  rw [← host_w]
  blk_ext [iblk, idx t]

theorem read_3 (l : Fin 1024) (k : Fin 3072) : (show Vec Ideal S1024x3072 .bf16 from iblk m c 3 t) (ix2 l k) = aM m c (ix2 l k) := by
  blk_point [iblk, V, idx t]

theorem h_eq (r : Fin 256) (l : Fin 1024) : k0_pay1 (iblk m c 0 t) (iblk m c 1 t) (ix2 r l)
    = val_main_v12 (F := Ideal) (aX m c) (aG m c) (ix2 (row t r) l) := by
  rw [kh, rh]
  exact congrArg₂ (norm · · l) (funext fun k => read_0 m c t r k) (funext fun k => read_1 m c t k)

theorem point_4 : k0_pay2 (iblk m c 0 t) (iblk m c 1 t)
    = fun j => val_main_v19 (F := Ideal) (aX m c) (aG m c) (ix2 (row t (j 0)) (j 1)) := by
  funext j
  idx_vars j
  pointwise [k0_pay2, val_main_v19]
  exact h_eq m c t j0 j1

theorem point_5 : k0_pay3 (iblk m c 0 t) (iblk m c 1 t) (iblk m c 2 t)
    = fun j => val_main_v20 (F := Ideal) (aX m c) (aG m c) (aW m c) (ix2 (row t (j 0)) (j 1)) := by
  funext j
  idx_vars j
  refine (kz _ _ _ j0 j1).trans (Eq.trans ?_ (rpad _ _ _ (row t j0) j1).symm)
  simp only [rz]
  rw [← sum_padded_mul _ fun l i => aW m c (ix2 l i)]
  exact Finset.sum_congr rfl fun l _ => congrArg₂ (· * ·) (h_eq m c t j0 l) (read_2 m c t j1 l)

theorem point_6 : k0_pay4 (iblk m c 0 t) (iblk m c 1 t) (iblk m c 3 t)
    = fun j => val_main_v22 (F := Ideal) (aX m c) (aG m c) (aM m c) (ix2 (row t (j 0)) (j 1)) := by
  funext j
  idx_vars j
  refine (kp _ _ _ j0 j1).trans (Eq.trans ?_ (rp _ _ _ (row t j0) j1).symm)
  exact Finset.sum_congr rfl fun l _ => congrArg₂ (· * ·) (h_eq m c t j0 l) (read_3 m c t l j1)

end

section
variable (c : Dev nD)

theorem final_4 : (dats m 0 c).arrAt 4 cfg0.N = val_main_v19 (F := Ideal) (aX m c) (aG m c) := by
  refine (dats m 0 c).arrAt_eq_of_covers 4 _ (by decide +kernel) fun t hf y => ?_
  blk_simp
  rw [after0_4, out_4, point_4 m c t]
  unfold row
  blk_ext [idx t]

theorem final_5 : (dats m 0 c).arrAt 5 cfg0.N = val_main_v20 (F := Ideal) (aX m c) (aG m c) (aW m c) := by
  refine (dats m 0 c).arrAt_eq_of_covers 5 _ (by decide +kernel) fun t hf y => ?_
  blk_simp
  rw [after0_5, out_5, point_5 m c t]
  unfold row
  blk_ext [idx t]

theorem final_6 : (dats m 0 c).arrAt 6 cfg0.N = val_main_v22 (F := Ideal) (aX m c) (aG m c) (aM m c) := by
  refine (dats m 0 c).arrAt_eq_of_covers 6 _ (by decide +kernel) fun t hf y => ?_
  blk_simp
  rw [after0_6, out_6, point_6 m c t]
  unfold row
  blk_ext [idx t]

end

end Cert.MixIn

end
-- ==== Proof.MixInClaim.lean ====
/- The claims about the mixer's norm and input products. -/
module

public import proofs.«01_k».proof.Defs
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.MixIn
public import Idealize.ShloMosaic.Lib.Claim

@[expose] public section

set_option maxRecDepth 16384

noncomputable section

namespace Cert.MixIn

open Idealize.ShloMosaic Idealize.ShloMosaic.TcCoe Idealize.SL.Sem

theorem frame_reference : Cert.quiescent_MixInRefIdeal := by
  intro m g _
  refine θ_run_mono (Cert.MixInRefIdeal.Value.run m g) fun r h => ⟨?_, sem_eq_zero_of_no_sems (by decide) r.2⟩
  intro c
  exact (h c).2.2.2

/-- The call's three results are the reference's. -/
theorem algebraic : Cert.algebraic_MixInIdeal_MixInRefIdeal := by
  pair_intro
  · run_from Cert.MixInIdeal.Value.run_blocks m g
  · run_from Cert.MixInRefIdeal.Value.run m' g'
    · exact (final_4 m c).symm
    · rw [(hagree c).2.2.2]
      exact (final_5 m c).symm
    · exact (final_6 m c).symm

end Cert.MixIn

end
-- ==== Proof.Dwin.lean ====
/- The gradient of a weight as a product: a block of the kernel against the reference, entry by entry. -/
module

public import proofs.«01_k».proof.Proof.Gen.DwinIdeal.Value
public import proofs.«01_k».proof.Proof.Gen.DwinRefIdeal.Read
public import proofs.«01_k».proof.Proof.PadSum
public import Idealize.ShloMosaic.Lib.Pipeline.ValueKit
public import Idealize.ShloMosaic.Lib.Pointwise
public import Idealize.ShloMosaic.Lib.Claim

@[expose] public section

set_option maxRecDepth 16384

noncomputable section

namespace Cert.Dwin

open Cert.DwinIdeal Cert.DwinIdeal.Gen
open Idealize.ShloMosaic Idealize.ShloMosaic.TcCoe Idealize.SL.Sem
open Cert.DwinRefIdeal.Read

open Cert.PadSum (padded)

/-- A product of padded rows with a column is the padded product. -/
theorem padded_sum_mul (d : Fin 4096 → Fin 3360 → EReal) (h : Fin 4096 → EReal) (k : Fin 3456) :
    ∑ r, padded (d r) k * h r = padded (fun i => ∑ r, d r i * h r) k := by
  unfold padded
  split_ifs <;> simp

/-! ### The kernel's block -/

theorem kout (x0 : Vec Ideal S4096x384 .bf16) (x1 : Vec Ideal S4096x512 .bf16) (k : Fin 384) (l : Fin 512) :
    k0_pay1 x0 x1 (ix2 k l) = ∑ r : Fin 4096, x0 (ix2 r k) * x1 (ix2 r l) := by
  pointwise [k0_pay1]

theorem out_2 (x0 : Vec Ideal S4096x384 .bf16) (x1 : Vec Ideal S4096x512 .bf16) : out0_2 x0 x1 = k0_pay1 x0 x1 := by
  frame_out

/-! ### The reference -/

section
variable (x0 : FVec Ideal S4096x1024 .f32) (x1 : FVec Ideal S4096x3360 .f32)

theorem rsum (k : Fin 3360) (l : Fin 1024) : val_main_v4 (F := Ideal) x0 x1 (ix2 k l) = ∑ r : Fin 4096, x1 (ix2 r k) * x0 (ix2 r l) := by
  pointwise [val_main_v4, val_main_v3, val_main_v2]

theorem rout (k : Fin 3456) (l : Fin 1024) : val_main_v10 (F := Ideal) x0 x1 (ix2 k l)
    = padded (fun i => val_main_v4 (F := Ideal) x0 x1 (ix2 i l)) k := by
  unfold padded
  pointwise [val_main_v10, val_main_v9, val_main_v8, val_main_v7, val_main_v6, val_main_v5, val_main_cst_0]

end

/-! ### The array after the run -/

variable (m : (ℓ : Loc nD τ sig) → Buf (Elt Ideal) ℓ)

section
variable (c : Dev nD)

/-- The arguments: the input of the product and the cotangent of its output. -/
abbrev aH : FVec Ideal S4096x1024 .f32 := m ((c : Thread nD τ).loc main_arg0)
abbrev aD : FVec Ideal S4096x3360 .f32 := m ((c : Thread nD τ).loc main_arg1)

theorem host_d' : (show FVec Ideal S4096x3456 .bf16 from V m c main_v5)
    = truncf .bf16 (concatenate S4096x3456 1
        [⟨S4096x2560, extractStridedSlice S4096x2560 ![0, 0] (aD m c) slices_S4096x3360_S4096x2560_0_0⟩,
         ⟨S4096x768, extractStridedSlice S4096x768 ![0, 2592] (aD m c) slices_S4096x3360_S4096x768_0_2592⟩,
         ⟨S4096x32, extractStridedSlice S4096x32 ![0, 2560] (aD m c) slices_S4096x3360_S4096x32_0_2560⟩,
         ⟨S4096x96, broadcastInDim S4096x96 ![] bcast_S_S4096x96 (constant S_ FTy.f32 0#32)⟩]
        concatenates_S4096x2560_S4096x768_S4096x32_S4096x96_S4096x3456_d1) bitsLt_bf16_f32 := by
  unfold V hostOps0
  simp only [StableHlo.after_cons, StableHlo.after_nil]
  after_results_steps
  rfl

theorem host_d (r : Fin 4096) (k : Fin 3456) :
    (show FVec Ideal S4096x3456 .bf16 from V m c main_v5) (ix2 r k) = padded (fun i => aD m c (ix2 r i)) k := by
  rw [host_d']
  generalize aD m c = d
  pointwise
  rfl

end

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The row and the column of the whole array that row `k` and column `l` of block `t` are. -/
def row (t : Fin cfg0.N) (k : Fin 384) : Fin 3456 :=
  ⟨t.val / 2 * 384 + k.val, by have h : t.val < 18 := lt_of_lt_of_eq t.isLt (by decide); omega⟩
def col (t : Fin cfg0.N) (l : Fin 512) : Fin 1024 := ⟨t.val % 2 * 512 + l.val, by omega⟩

section
variable (c : Dev nD) (t : Fin cfg0.N)

theorem read_0 (r : Fin 4096) (k : Fin 384) : (show Vec Ideal S4096x384 .bf16 from iblk m c 0 t) (ix2 r k)
    = padded (fun i => aD m c (ix2 r i)) (row t k) := by
  rw [← host_d]
  unfold row
  blk_ext [iblk, idx t]

theorem read_1 (r : Fin 4096) (l : Fin 512) : (show Vec Ideal S4096x512 .bf16 from iblk m c 1 t) (ix2 r l) = aH m c (ix2 r (col t l)) := by
  unfold col
  blk_point [iblk, V, idx t]

theorem point_2 : k0_pay1 (iblk m c 0 t) (iblk m c 1 t)
    = fun j => val_main_v10 (F := Ideal) (aH m c) (aD m c) (ix2 (row t (j 0)) (col t (j 1))) := by
  funext j
  idx_vars j
  refine (kout _ _ j0 j1).trans (Eq.trans ?_ (rout _ _ (row t j0) (col t j1)).symm)
  simp only [rsum]
  rw [← padded_sum_mul fun r i => aD m c (ix2 r i)]
  exact Finset.sum_congr rfl fun r _ => congrArg₂ (· * ·) (read_0 m c t r j0) (read_1 m c t r j1)

end

theorem final_2 (c : Dev nD) : (dats m 0 c).arrAt 2 cfg0.N = val_main_v10 (F := Ideal) (aH m c) (aD m c) := by
  refine (dats m 0 c).arrAt_eq_of_covers 2 _ (by decide +kernel) fun t hf y => ?_
  blk_simp
  rw [after0_2, out_2, point_2 m c t]
  unfold row col
  blk_ext [idx t]

end Cert.Dwin

end
-- ==== Proof.DwinClaim.lean ====
/- The claims about the gradient of a weight as a product. -/
module

public import proofs.«01_k».proof.Defs
public import proofs.«01_k».proof.Proof.Gen.Dwin
public import proofs.«01_k».proof.Proof.Gen.Dwin.Frame
public import proofs.«01_k».proof.Proof.Gen.DwinIdeal
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Dwin
public import Idealize.ShloMosaic.Lib.Claim

@[expose] public section

set_option maxRecDepth 16384

noncomputable section

namespace Cert.Dwin

open Idealize.ShloMosaic Idealize.ShloMosaic.TcCoe Idealize.SL.Sem

theorem frame_reference : Cert.quiescent_DwinRefIdeal := by
  intro m g _
  refine θ_run_mono (Cert.DwinRefIdeal.Value.run m g) fun r h => ⟨?_, sem_eq_zero_of_no_sems (by decide) r.2⟩
  intro c
  exact (h c).2

/-- The call's result is the reference's. -/
theorem algebraic : Cert.algebraic_DwinIdeal_DwinRefIdeal := by
  pair_intro
  · run_from Cert.DwinIdeal.Value.run_blocks m g
  · run_from Cert.DwinRefIdeal.Value.run m' g'
    exact (final_2 m c).symm

end Cert.Dwin

end
-- ==== Proof.FfnDown.lean ====
/- The last product of a feed-forward block: a block of the kernel against the reference, entry by entry. -/
module

public import proofs.«01_k».proof.Proof.Gen.FfnDownIdeal.Value
public import proofs.«01_k».proof.Proof.Gen.FfnDownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnDown

open Cert.FfnDownIdeal Cert.FfnDownIdeal.Gen
open Idealize.ShloMosaic Idealize.ShloMosaic.TcCoe Idealize.SL.Sem
open Cert.FfnDownRefIdeal.Read

/-- One half, as the programs' float word. -/
abbrev half : EReal := Ideal.ofBits FTy.f32 0x3F000000#32

/-! ### The kernel's block -/

/-- The product of a row of one quarter of the columns with that quarter of the weight. -/
abbrev part (a : Vec Ideal S1x512x704 .bf16) (w : Vec Ideal S1x1x704x1024 .bf16) (r : Fin 512) (l : Fin 1024) : EReal :=
  ∑ k : Fin 704, a (ix3 0 r k) * w (ix4 0 0 k l)

theorem ksum (a b d e : Vec Ideal S1x512x704 .bf16) (u v w z : Vec Ideal S1x1x704x1024 .bf16) (r : Fin 512) (l : Fin 1024) :
    k0_pay2 a u b v d w e z (ix2 r l) = part a u r l + part b v r l + part d w r l + part e z r l := by
  pointwise [k0_pay2]

section
variable (x0 : Vec Ideal S4x512x704 .bf16) (x1 : Vec Ideal S4x1x704x1024 .bf16) (x2 : Vec Ideal S512x1024 .f32)

/-- The sum over the four quarters. -/
def acc : FVec Ideal S512x1024 .f32 :=
  k0_pay2 (View.ld x0 r0_0) (View.ld x1 r0_1) (View.ld x0 r0_2) (View.ld x1 r0_3) (View.ld x0 r0_4) (View.ld x1 r0_5) (View.ld x0 r0_6) (View.ld x1 r0_7)

theorem acc_apply (r : Fin 512) (l : Fin 1024) : acc x0 x1 (ix2 r l) = ∑ j : Fin 4, ∑ k : Fin 704, x0 (ix3 j r k) * x1 (ix4 j 0 k l) := by
  unfold acc
  rw [ksum, Fin.sum_univ_four]
  unfold part
  pointwise

theorem out_3 : out0_3 x0 x1 x2 = k0_pay1 (acc x0 x1) x2 half := by
  unfold acc
  frame_out
  rfl

theorem kout (r : Fin 512) (l : Fin 1024) : k0_pay1 (acc x0 x1) x2 half (ix2 r l) = x2 (ix2 r l) + half * acc x0 x1 (ix2 r l) := by
  generalize acc x0 x1 = a
  pointwise [k0_pay1]

end

/-! ### The reference -/

theorem rout (x0 : FVec Ideal S4096x1024 .f32) (x1 : FVec Ideal S4096x2816 .f32) (x2 : FVec Ideal S2x2816x1024 .f32) (r : Fin 4096) (l : Fin 1024) :
    val_main_v5 (F := Ideal) x0 x1 x2 (ix2 r l) = x0 (ix2 r l) + half * ∑ k : Fin 2816, x1 (ix2 r k) * x2 (ix3 0 k l) := by
  pointwise [val_main_v5, val_main_v4, val_main_v3, val_main_v2, val_main_v1, val_main_v0, val_main_cst]

/-! ### The array after the run -/

variable (m : (ℓ : Loc nD τ sig) → Buf (Elt Ideal) ℓ)

section
variable (c : Dev nD)

/-- The arguments. -/
abbrev aX : FVec Ideal S4096x1024 .f32 := m ((c : Thread nD τ).loc main_arg0)
abbrev aS : FVec Ideal S4096x2816 .f32 := m ((c : Thread nD τ).loc main_arg1)
abbrev aW : FVec Ideal S2x2816x1024 .f32 := m ((c : Thread nD τ).loc main_arg2)

end

theorem idx : ∀ t : Fin cfg0.N, win0_0.index t = ![0, t.val, 0] ∧ win0_1.index t = ![0, 0, 0, 0] ∧ win0_2.index t = ![t.val, 0]
    ∧ win0_3.index t = ![t.val, 0] :=
  (by decide +kernel : ∀ t : Fin grid0.N, _)

/-- The row of the whole array that row `r` of block `t` is, and the column that column `k` of quarter `j` is. -/
def row (t : Fin cfg0.N) (r : Fin 512) : Fin 4096 :=
  ⟨t.val * 512 + r.val, by have h : t.val < 8 := lt_of_lt_of_eq t.isLt (by decide); omega⟩
def col (j : Fin 4) (k : Fin 704) : Fin 2816 := ⟨j.val * 704 + k.val, by omega⟩

section
variable (c : Dev nD) (t : Fin cfg0.N)

theorem read_0 (j : Fin 4) (r : Fin 512) (k : Fin 704) :
    (show Vec Ideal S4x512x704 .bf16 from iblk m c 0 t) (ix3 j r k) = aS m c (ix2 (row t r) (col j k)) := by
  unfold row col
  blk_point [iblk, V, idx t]

theorem read_1 (j : Fin 4) (k : Fin 704) (l : Fin 1024) :
    (show Vec Ideal S4x1x704x1024 .bf16 from iblk m c 1 t) (ix4 j 0 k l) = aW m c (ix3 0 (col j k) l) := by
  unfold col
  blk_point [iblk, V, idx t]

theorem read_2 (r : Fin 512) (l : Fin 1024) : (show Vec Ideal S512x1024 .f32 from iblk m c 2 t) (ix2 r l) = aX m c (ix2 (row t r) l) := by
  unfold row
  blk_point [iblk, V, idx t]

theorem sum_eq (r : Fin 512) (l : Fin 1024) : acc (iblk m c 0 t) (iblk m c 1 t) (ix2 r l)
    = ∑ k : Fin 2816, aS m c (ix2 (row t r) k) * aW m c (ix3 0 k l) := by
  rw [acc_apply]
  have h0 := fun j k => read_0 m c t j r k
  have h1 := fun j k => read_1 m c t j k l
  dsimp only at h0 h1
  simp only [h0, h1]
  exact Fin.sum_mul_add_congr fun j k hl => rfl

theorem point_3 : k0_pay1 (acc (iblk m c 0 t) (iblk m c 1 t)) (iblk m c 2 t) half
    = fun j => val_main_v5 (F := Ideal) (aX m c) (aS m c) (aW m c) (ix2 (row t (j 0)) (j 1)) := by
  funext j
  idx_vars j
  refine (kout _ _ _ j0 j1).trans (Eq.trans ?_ (rout _ _ _ (row t j0) j1).symm)
  exact congrArg₂ (· + ·) (read_2 m c t j0 j1) (congrArg (half * ·) (sum_eq m c t j0 j1))

end

theorem final_3 (c : Dev nD) : (dats m 0 c).arrAt 3 cfg0.N = val_main_v5 (F := Ideal) (aX m c) (aS m c) (aW m c) := by
  refine (dats m 0 c).arrAt_eq_of_covers 3 _ (by decide +kernel) fun t hf y => ?_
  blk_simp
  rw [after0_3, out_3, point_3 m c t]
  unfold row
  blk_ext [idx t]

end Cert.FfnDown

end
-- ==== Proof.FfnDownClaim.lean ====
/- The claims about the last product of a feed-forward block. -/
module

public import proofs.«01_k».proof.Defs
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.FfnDown
public import Idealize.ShloMosaic.Lib.Claim

@[expose] public section

set_option maxRecDepth 16384

noncomputable section

namespace Cert.FfnDown

open Idealize.ShloMosaic Idealize.ShloMosaic.TcCoe Idealize.SL.Sem

theorem frame_reference : Cert.quiescent_FfnDownRefIdeal := by
  intro m g _
  refine θ_run_mono (Cert.FfnDownRefIdeal.Value.run m g) fun r h => ⟨?_, sem_eq_zero_of_no_sems (by decide) r.2⟩
  intro c
  exact (h c).2

/-- The call's result is the reference's. -/
theorem algebraic : Cert.algebraic_FfnDownIdeal_FfnDownRefIdeal := by
  pair_intro
  · run_from Cert.FfnDownIdeal.Value.run_blocks m g
  · run_from Cert.FfnDownRefIdeal.Value.run m' g'
    exact (final_3 m c).symm

end Cert.FfnDown

end
-- ==== Proof.MixDz.lean ====
/- The assembling of the gradient of z: a block of the kernel against the reference, entry by entry. -/
module

public import proofs.«01_k».proof.Proof.Gen.MixDzIdeal.Value
public import proofs.«01_k».proof.Proof.Gen.MixDzRefIdeal.Read
public import proofs.«01_k».proof.Proof.PadSum
public import Idealize.ShloMosaic.Lib.Pipeline.ValueKit
public import Idealize.ShloMosaic.Lib.Pointwise
public import Idealize.ShloMosaic.Lib.Claim

@[expose] public section

set_option maxRecDepth 16384

noncomputable section

namespace Cert.MixDz

open Cert.MixDzIdeal Cert.MixDzIdeal.Gen
open Idealize.ShloMosaic Idealize.ShloMosaic.TcCoe Idealize.SL.Sem
open Cert.MixDzRefIdeal.Read

open Cert.PadSum (padded)

/-- A row of z in the kernel's order of columns: five parts of 512 columns, the attention's queries, keys and values, the decays' part. -/
def laid (a b d e f q : Fin 512 → EReal) (p v z : Fin 128 → EReal) (k : Fin 3456) : EReal :=
  if h : k.val < 512 then a ⟨k.val, h⟩
  else if h1 : k.val - 512 < 512 then b ⟨k.val - 512, h1⟩
  else if h2 : k.val - 512 - 512 < 512 then d ⟨k.val - 512 - 512, h2⟩
  else if h3 : k.val - 512 - 512 - 512 < 512 then e ⟨k.val - 512 - 512 - 512, h3⟩
  else if h4 : k.val - 512 - 512 - 512 - 512 < 512 then f ⟨k.val - 512 - 512 - 512 - 512, h4⟩
  else if h5 : k.val - 512 - 512 - 512 - 512 - 512 < 512 then q ⟨k.val - 512 - 512 - 512 - 512 - 512, h5⟩
  else if h6 : k.val - 512 - 512 - 512 - 512 - 512 - 512 < 128 then p ⟨k.val - 512 - 512 - 512 - 512 - 512 - 512, h6⟩
  else if h7 : k.val - 512 - 512 - 512 - 512 - 512 - 512 - 128 < 128 then v ⟨k.val - 512 - 512 - 512 - 512 - 512 - 512 - 128, h7⟩
  else z ⟨k.val - 512 - 512 - 512 - 512 - 512 - 512 - 128 - 128, by omega⟩

/-- A row of z in the order of the weight's own columns. -/
def own (a b d e f q : Fin 512 → EReal) (p v : Fin 128 → EReal) (z : Fin 32 → EReal) (k : Fin 3360) : EReal :=
  if h : k.val < 512 then a ⟨k.val, h⟩
  else if h1 : k.val - 512 < 512 then b ⟨k.val - 512, h1⟩
  else if h2 : k.val - 512 - 512 < 512 then d ⟨k.val - 512 - 512, h2⟩
  else if h3 : k.val - 512 - 512 - 512 < 512 then e ⟨k.val - 512 - 512 - 512, h3⟩
  else if h4 : k.val - 512 - 512 - 512 - 512 < 512 then f ⟨k.val - 512 - 512 - 512 - 512, h4⟩
  else if h5 : k.val - 512 - 512 - 512 - 512 - 512 < 32 then z ⟨k.val - 512 - 512 - 512 - 512 - 512, h5⟩
  else if h6 : k.val - 512 - 512 - 512 - 512 - 512 - 32 < 512 then q ⟨k.val - 512 - 512 - 512 - 512 - 512 - 32, h6⟩
  else if h7 : k.val - 512 - 512 - 512 - 512 - 512 - 32 - 512 < 128 then p ⟨k.val - 512 - 512 - 512 - 512 - 512 - 32 - 512, h7⟩
  else v ⟨k.val - 512 - 512 - 512 - 512 - 512 - 32 - 512 - 128, by omega⟩

/-- The decays' part filled up with zeros. -/
def filled (z : Fin 32 → EReal) (k : Fin 128) : EReal := if h : k.val < 32 then z ⟨k.val, h⟩ else 0

theorem padded_own (a b d e f q : Fin 512 → EReal) (p v : Fin 128 → EReal) (z : Fin 32 → EReal) (k : Fin 3456) :
    padded (own a b d e f q p v z) k = laid a b d e f q p v (filled z) k := by
  unfold padded own laid filled
  dsimp only
  by_cases c0 : k.val < 2560
  · rw [dif_pos c0]
    iterate 5 refine dite_congr rfl (fun _ => rfl) fun _ => ?_
    exfalso
    omega
  rw [dif_neg c0]
  by_cases c1 : k.val - 2560 < 768
  · rw [dif_pos c1]
    iterate 5 refine dite_congr (propext (by omega)) (fun h => by exfalso; omega) fun _ => ?_
    refine (dif_neg (by omega)).trans ?_
    refine dite_congr (propext (by omega)) (fun _ => congrArg q (Fin.ext (by dsimp only; omega))) fun _ => ?_
    refine dite_congr (propext (by omega)) (fun _ => congrArg p (Fin.ext (by dsimp only; omega))) fun _ => ?_
    refine Eq.trans ?_ (dif_pos (by omega)).symm
    exact congrArg v (Fin.ext (by dsimp only; omega))
  rw [dif_neg c1]
  by_cases c2 : k.val - 2560 - 768 < 32
  · rw [dif_pos c2]
    iterate 5 refine dite_congr (propext (by omega)) (fun h => by exfalso; omega) fun _ => ?_
    refine (dif_pos (by omega)).trans ?_
    iterate 3 refine Eq.trans ?_ (dif_neg (by omega)).symm
    refine Eq.trans ?_ (dif_pos (by omega)).symm
    exact congrArg z (Fin.ext (by dsimp only; omega))
  · rw [dif_neg c2]
    refine Eq.symm ?_
    iterate 9 refine (dif_neg (by omega)).trans ?_
    rfl

theorem laid_congr {a b d e f q a' b' d' e' f' q' : Fin 512 → EReal} {p v z p' v' z' : Fin 128 → EReal} (ha : a = a') (hb : b = b') (hd : d = d')
    (he : e = e') (hf : f = f') (hq : q = q') (hp : p = p') (hv : v = v') (hz : z = z') (k : Fin 3456) :
    laid a b d e f q p v z k = laid a' b' d' e' f' q' p' v' z' k := by
  rw [ha, hb, hd, he, hf, hq, hp, hv, hz]

/-! ### The kernel's block -/

section
variable (x0 x1 x2 x3 x4 x5 x6 x7 x8 : Vec Ideal S256x512 .f32) (x9 x10 x11 : Vec Ideal S256x128 .f32)

theorem kout (r : Fin 256) (k : Fin 3456) : k0_pay1 x0 x1 x2 x3 x4 x5 x6 x7 x8 x9 x10 x11 (ix2 r k)
    = laid (fun j => x0 (ix2 r j)) (fun j => x1 (ix2 r j) + x2 (ix2 r j)) (fun j => x3 (ix2 r j) + x4 (ix2 r j))
        (fun j => x5 (ix2 r j) + x6 (ix2 r j)) (fun j => x7 (ix2 r j)) (fun j => x8 (ix2 r j)) (fun j => x9 (ix2 r j))
        (fun j => x10 (ix2 r j)) (fun j => x11 (ix2 r j)) k := by
  unfold laid
  pointwise [k0_pay1]

theorem out_12 : out0_12 x0 x1 x2 x3 x4 x5 x6 x7 x8 x9 x10 x11 = k0_pay1 x0 x1 x2 x3 x4 x5 x6 x7 x8 x9 x10 x11 := by
  frame_out

end

/-! ### The reference -/

section
variable (x0 x1 x2 x3 x4 x5 x6 x7 x8 : FVec Ideal S4096x512 .f32) (x9 x10 : FVec Ideal S4096x128 .f32) (x11 : FVec Ideal S4096x32 .f32)

theorem rown (r : Fin 4096) (k : Fin 3360) : val_main_v3 (F := Ideal) x0 x1 x2 x3 x4 x5 x6 x7 x8 x9 x10 x11 (ix2 r k)
    = own (fun j => x0 (ix2 r j)) (fun j => x1 (ix2 r j) + x2 (ix2 r j)) (fun j => x3 (ix2 r j) + x4 (ix2 r j))
        (fun j => x5 (ix2 r j) + x6 (ix2 r j)) (fun j => x7 (ix2 r j)) (fun j => x8 (ix2 r j)) (fun j => x9 (ix2 r j))
        (fun j => x10 (ix2 r j)) (fun j => x11 (ix2 r j)) k := by
  unfold own
  pointwise [val_main_v3, val_main_v2, val_main_v1, val_main_v0]

theorem rpad (r : Fin 4096) (k : Fin 3456) : val_main_v9 (F := Ideal) x0 x1 x2 x3 x4 x5 x6 x7 x8 x9 x10 x11 (ix2 r k)
    = padded (fun i => val_main_v3 (F := Ideal) x0 x1 x2 x3 x4 x5 x6 x7 x8 x9 x10 x11 (ix2 r i)) k := by
  unfold padded
  pointwise [val_main_v9, val_main_v8, val_main_v7, val_main_v6, val_main_v5, val_main_v4, val_main_cst]

theorem rout (r : Fin 4096) (k : Fin 3456) : val_main_v9 (F := Ideal) x0 x1 x2 x3 x4 x5 x6 x7 x8 x9 x10 x11 (ix2 r k)
    = laid (fun j => x0 (ix2 r j)) (fun j => x1 (ix2 r j) + x2 (ix2 r j)) (fun j => x3 (ix2 r j) + x4 (ix2 r j))
        (fun j => x5 (ix2 r j) + x6 (ix2 r j)) (fun j => x7 (ix2 r j)) (fun j => x8 (ix2 r j)) (fun j => x9 (ix2 r j))
        (fun j => x10 (ix2 r j)) (filled fun j => x11 (ix2 r j)) k := by
  rw [rpad, funext (rown x0 x1 x2 x3 x4 x5 x6 x7 x8 x9 x10 x11 r)]
  exact padded_own _ _ _ _ _ _ _ _ _ k

end

/-! ### The array after the run -/

variable (m : (ℓ : Loc nD τ sig) → Buf (Elt Ideal) ℓ)

section
variable (c : Dev nD)

/-- The arguments. -/
abbrev a0 : FVec Ideal S4096x512 .f32 := m ((c : Thread nD τ).loc main_arg0)
abbrev a1 : FVec Ideal S4096x512 .f32 := m ((c : Thread nD τ).loc main_arg1)
abbrev a2 : FVec Ideal S4096x512 .f32 := m ((c : Thread nD τ).loc main_arg2)
abbrev a3 : FVec Ideal S4096x512 .f32 := m ((c : Thread nD τ).loc main_arg3)
abbrev a4 : FVec Ideal S4096x512 .f32 := m ((c : Thread nD τ).loc main_arg4)
abbrev a5 : FVec Ideal S4096x512 .f32 := m ((c : Thread nD τ).loc main_arg5)
abbrev a6 : FVec Ideal S4096x512 .f32 := m ((c : Thread nD τ).loc main_arg6)
abbrev a7 : FVec Ideal S4096x512 .f32 := m ((c : Thread nD τ).loc main_arg7)
abbrev a8 : FVec Ideal S4096x512 .f32 := m ((c : Thread nD τ).loc main_arg8)
abbrev a9 : FVec Ideal S4096x128 .f32 := m ((c : Thread nD τ).loc main_arg9)
abbrev a10 : FVec Ideal S4096x128 .f32 := m ((c : Thread nD τ).loc main_arg10)
abbrev a11 : FVec Ideal S4096x32 .f32 := m ((c : Thread nD τ).loc main_arg11)

theorem host_z' : (show FVec Ideal S4096x128 .f32 from V m c main_v1)
    = concatenate S4096x128 1 [⟨S4096x32, a11 m c⟩, ⟨S4096x96, broadcastInDim S4096x96 ![] bcast_S_S4096x96 (constant S_ FTy.f32 0#32)⟩]
        concatenates_S4096x32_S4096x96_S4096x128_d1 := by
  unfold V hostOps0
  simp only [StableHlo.after_cons, StableHlo.after_nil]
  after_results_steps

theorem host_z (r : Fin 4096) (k : Fin 128) : (show FVec Ideal S4096x128 .f32 from V m c main_v1) (ix2 r k)
    = filled (fun i => a11 m c (ix2 r i)) k := by
  rw [host_z']
  generalize a11 m c = d
  unfold filled
  pointwise

end

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The row of the whole array that row `r` of block `t` is. -/
def row (t : Fin cfg0.N) (r : Fin 256) : Fin 4096 :=
  ⟨t.val * 256 + r.val, by have h : t.val < 16 := lt_of_lt_of_eq t.isLt (by decide); omega⟩

section
variable (c : Dev nD) (t : Fin cfg0.N) (r : Fin 256)

theorem read_0 (l : Fin 512) : (show Vec Ideal S256x512 .f32 from iblk m c 0 t) (ix2 r l) = a0 m c (ix2 (row t r) l) := by
  unfold row; blk_point [iblk, V, idx t]
theorem read_1 (l : Fin 512) : (show Vec Ideal S256x512 .f32 from iblk m c 1 t) (ix2 r l) = a1 m c (ix2 (row t r) l) := by
  unfold row; blk_point [iblk, V, idx t]
theorem read_2 (l : Fin 512) : (show Vec Ideal S256x512 .f32 from iblk m c 2 t) (ix2 r l) = a2 m c (ix2 (row t r) l) := by
  unfold row; blk_point [iblk, V, idx t]
theorem read_3 (l : Fin 512) : (show Vec Ideal S256x512 .f32 from iblk m c 3 t) (ix2 r l) = a3 m c (ix2 (row t r) l) := by
  unfold row; blk_point [iblk, V, idx t]
theorem read_4 (l : Fin 512) : (show Vec Ideal S256x512 .f32 from iblk m c 4 t) (ix2 r l) = a4 m c (ix2 (row t r) l) := by
  unfold row; blk_point [iblk, V, idx t]
theorem read_5 (l : Fin 512) : (show Vec Ideal S256x512 .f32 from iblk m c 5 t) (ix2 r l) = a5 m c (ix2 (row t r) l) := by
  unfold row; blk_point [iblk, V, idx t]
theorem read_6 (l : Fin 512) : (show Vec Ideal S256x512 .f32 from iblk m c 6 t) (ix2 r l) = a6 m c (ix2 (row t r) l) := by
  unfold row; blk_point [iblk, V, idx t]
theorem read_7 (l : Fin 512) : (show Vec Ideal S256x512 .f32 from iblk m c 7 t) (ix2 r l) = a7 m c (ix2 (row t r) l) := by
  unfold row; blk_point [iblk, V, idx t]
theorem read_8 (l : Fin 512) : (show Vec Ideal S256x512 .f32 from iblk m c 8 t) (ix2 r l) = a8 m c (ix2 (row t r) l) := by
  unfold row; blk_point [iblk, V, idx t]
theorem read_9 (l : Fin 128) : (show Vec Ideal S256x128 .f32 from iblk m c 9 t) (ix2 r l) = a9 m c (ix2 (row t r) l) := by
  unfold row; blk_point [iblk, V, idx t]
theorem read_10 (l : Fin 128) : (show Vec Ideal S256x128 .f32 from iblk m c 10 t) (ix2 r l) = a10 m c (ix2 (row t r) l) := by
  unfold row; blk_point [iblk, V, idx t]
theorem read_11 (l : Fin 128) : (show Vec Ideal S256x128 .f32 from iblk m c 11 t) (ix2 r l) = filled (fun i => a11 m c (ix2 (row t r) i)) l := by
  rw [← host_z]
  unfold row
  blk_ext [iblk, idx t]

/-- The reference's result at the arguments. -/
abbrev res : FVec Ideal S4096x3456 .bf16 := val_main_v9 (F := Ideal) (a0 m c) (a1 m c) (a2 m c) (a3 m c) (a4 m c) (a5 m c) (a6 m c) (a7 m c)
  (a8 m c) (a9 m c) (a10 m c) (a11 m c)

theorem point_12 : k0_pay1 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t)
    = fun j => res m c (ix2 (row t (j 0)) (j 1)) := by
  funext j
  idx_vars j
  refine (kout _ _ _ _ _ _ _ _ _ _ _ _ j0 j1).trans (Eq.trans ?_ (rout _ _ _ _ _ _ _ _ _ _ _ _ (row t j0) j1).symm)
  have sum : ∀ {a b a' b' : Fin 512 → EReal}, (∀ l, a l = a' l) → (∀ l, b l = b' l) → (fun l => a l + b l) = fun l => a' l + b' l :=
    fun h h' => funext fun l => congrArg₂ (· + ·) (h l) (h' l)
  exact laid_congr (funext (read_0 m c t j0)) (sum (read_1 m c t j0) (read_2 m c t j0)) (sum (read_3 m c t j0) (read_4 m c t j0))
    (sum (read_5 m c t j0) (read_6 m c t j0)) (funext (read_7 m c t j0)) (funext (read_8 m c t j0)) (funext (read_9 m c t j0))
    (funext (read_10 m c t j0)) (funext (read_11 m c t j0)) j1

end

theorem final_12 (c : Dev nD) : (dats m 0 c).arrAt 12 cfg0.N = res m c := by
  refine (dats m 0 c).arrAt_eq_of_covers 12 _ (by decide +kernel) fun t hf y => ?_
  blk_simp
  rw [after0_12, out_12, point_12 m c t]
  unfold row
  blk_ext [idx t]

end Cert.MixDz

end
-- ==== Proof.MixDzClaim.lean ====
/- The claims about the assembling of the gradient of z. -/
module

public import proofs.«01_k».proof.Defs
public import proofs.«01_k».proof.Proof.Gen.MixDz
public import proofs.«01_k».proof.Proof.Gen.MixDz.Frame
public import proofs.«01_k».proof.Proof.Gen.MixDzIdeal
public import proofs.«01_k».proof.Proof.Gen.MixDzIdeal.Frame
public import proofs.«01_k».proof.Proof.Gen.MixDzIdeal.Value
public import proofs.«01_k».proof.Proof.Gen.MixDzRefIdeal
public import proofs.«01_k».proof.Proof.Gen.MixDzRefIdeal.Run
public import proofs.«01_k».proof.Proof.Gen.MixDzRefIdeal.Read
public import proofs.«01_k».proof.Proof.MixDz
public import Idealize.ShloMosaic.Lib.Claim

@[expose] public section

set_option maxRecDepth 16384

noncomputable section

namespace Cert.MixDz

open Idealize.ShloMosaic Idealize.ShloMosaic.TcCoe Idealize.SL.Sem

theorem frame_reference : Cert.quiescent_MixDzRefIdeal := by
  intro m g _
  refine θ_run_mono (Cert.MixDzRefIdeal.Value.run m g) fun r h => ⟨?_, sem_eq_zero_of_no_sems (by decide) r.2⟩
  intro c
  exact (h c).2

/-- The call's result is the reference's. -/
theorem algebraic : Cert.algebraic_MixDzIdeal_MixDzRefIdeal := by
  intro m g m' g' _ hagree
  refine ⟨fun c => _, Cert.MixDzIdeal.Value.run_blocks m g, ?_⟩
  refine θ_run_mono (Cert.MixDzRefIdeal.Value.run m' g') fun r h c => ?_
  obtain ⟨h0, h1⟩ := h c
  obtain ⟨a0, a1, a2, a3, a4, a5, a6, a7, a8, a9, a10, a11⟩ := hagree c
  refine ⟨h0.trans ?_, h1⟩
  rw [Cert.MixDzRefIdeal.Read.val_main_v9_eq, a0, a1, a2, a3, a4, a5, a6, a7, a8, a9, a10, a11]
  exact (final_12 m c).symm

end Cert.MixDz

end
-- ==== Proof.Adamw.lean ====
/- The optimiser's update: a block of the kernel against the reference, entry by entry. -/
module

public import proofs.«01_k».proof.Proof.Gen.AdamwIdeal.Value
public import proofs.«01_k».proof.Proof.Gen.AdamwRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Adamw

open Cert.AdamwIdeal Cert.AdamwIdeal.Gen
open Idealize.ShloMosaic Idealize.ShloMosaic.TcCoe Idealize.SL.Sem
open Cert.AdamwRefIdeal.Read

/-- The constants, as the programs' float words: the decays of the two averages and what is left of one, the corrections
    of the two averages, the small number, the weight's decay and the negative step. -/
abbrev b1 : EReal := Ideal.ofBits FTy.f32 0x3F666666#32
abbrev e1 : EReal := Ideal.ofBits FTy.f32 0x3DCCCCCD#32
abbrev b2 : EReal := Ideal.ofBits FTy.f32 0x3F7FBE77#32
abbrev e2 : EReal := Ideal.ofBits FTy.f32 0x3A83126F#32
abbrev c1 : EReal := Ideal.ofBits FTy.f32 0x3F26BD02#32
abbrev c2 : EReal := Ideal.ofBits FTy.f32 0x3C231ACC#32
abbrev eps : EReal := Ideal.ofBits FTy.f32 0x322BCC77#32
abbrev decay : EReal := Ideal.ofBits FTy.f32 0x3C23D70A#32
abbrev step : EReal := Ideal.ofBits FTy.f32 0xBA83126F#32

/-- The new averages of the gradient and of its square, and the update. -/
def first (g p : EReal) : EReal := b1 * p + e1 * g
def second (g q : EReal) : EReal := b2 * q + e2 * (g * g)
def delta (g w p q : EReal) : EReal := step * (Ideal.div (Ideal.div (first g p) c1) (Ideal.sqrt (Ideal.div (second g q) c2) + eps) + decay * w)

/-! ### The kernel's block -/

section
variable (g w p q : Vec Ideal S1x280x1024 .f32) (r : Fin 280) (l : Fin 1024)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x280x1024 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x840x1024 .f32) (b : Fin 2) (r : Fin 840) (l : Fin 1024)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x840x1024 .f32 := m ((c : Thread nD τ).loc main_arg0)
abbrev aW : FVec Ideal S2x840x1024 .f32 := m ((c : Thread nD τ).loc main_arg1)
abbrev aP : FVec Ideal S2x840x1024 .f32 := m ((c : Thread nD τ).loc main_arg2)
abbrev aQ : FVec Ideal S2x840x1024 .f32 := m ((c : Thread nD τ).loc main_arg3)

end

theorem idx : ∀ t : Fin cfg0.N, win0_0.index t = ![t.val / 3, t.val % 3, 0] ∧ win0_1.index t = ![t.val / 3, t.val % 3, 0]
    ∧ win0_2.index t = ![t.val / 3, t.val % 3, 0] ∧ win0_3.index t = ![t.val / 3, t.val % 3, 0] ∧ win0_4.index t = ![t.val / 3, t.val % 3, 0]
    ∧ win0_5.index t = ![t.val / 3, t.val % 3, 0] ∧ win0_6.index t = ![t.val / 3, t.val % 3, 0] :=
  (by decide +kernel : ∀ t : Fin grid0.N, _)

/-- The layer of block `t`, and the row of the whole array that its row `r` is. -/
def layer (t : Fin cfg0.N) : Fin 2 := ⟨t.val / 3, by have h : t.val < 6 := lt_of_lt_of_eq t.isLt (by decide); omega⟩
def row (t : Fin cfg0.N) (r : Fin 280) : Fin 840 := ⟨t.val % 3 * 280 + r.val, by omega⟩

section
variable (c : Dev nD) (t : Fin cfg0.N) (r : Fin 280) (l : Fin 1024)

theorem read_0 : (show Vec Ideal S1x280x1024 .f32 from iblk m c 0 t) (ix3 0 r l) = aG m c (ix3 (layer t) (row t r) l) := by
  unfold layer row
  blk_point [iblk, V, idx t]

theorem read_1 : (show Vec Ideal S1x280x1024 .f32 from iblk m c 1 t) (ix3 0 r l) = aW m c (ix3 (layer t) (row t r) l) := by
  unfold layer row
  blk_point [iblk, V, idx t]

theorem read_2 : (show Vec Ideal S1x280x1024 .f32 from iblk m c 2 t) (ix3 0 r l) = aP m c (ix3 (layer t) (row t r) l) := by
  unfold layer row
  blk_point [iblk, V, idx t]

theorem read_3 : (show Vec Ideal S1x280x1024 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.Adamw

end
-- ==== Proof.AdamwClaim.lean ====
/- The claims about the optimiser's update. -/
module

public import proofs.«01_k».proof.Defs
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Adamw
public import Idealize.ShloMosaic.Lib.Claim

@[expose] public section

set_option maxRecDepth 16384

noncomputable section

namespace Cert.Adamw

open Idealize.ShloMosaic Idealize.ShloMosaic.TcCoe Idealize.SL.Sem

theorem frame_reference : Cert.quiescent_AdamwRefIdeal := by
  intro m g _
  refine θ_run_mono (Cert.AdamwRefIdeal.Value.run m g) fun r h => ⟨?_, sem_eq_zero_of_no_sems (by decide) r.2⟩
  intro c
  exact (h c).2.2.2

/-- The call's three results are the reference's. -/
theorem algebraic : Cert.algebraic_AdamwIdeal_AdamwRefIdeal := by
  pair_intro
  · run_from Cert.AdamwIdeal.Value.run_blocks m g
  · run_from Cert.AdamwRefIdeal.Value.run m' g'
    · exact (final_4 m c).symm
    · exact (final_5 m c).symm
    · exact (final_6 m c).symm

end Cert.Adamw

end
-- ==== Proof.FfnDw.lean ====
/- The gradient of a feed-forward block's last weight: a block of the kernel against the reference, entry by entry. The call
   writes one of the array's two layers and leaves the other as it finds it. -/
module

public import proofs.«01_k».proof.Proof.Gen.FfnDwIdeal.Value
public import proofs.«01_k».proof.Proof.Gen.FfnDwRefIdeal.Read
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.FfnDw

open Cert.FfnDwIdeal Cert.FfnDwIdeal.Gen
open Idealize.ShloMosaic Idealize.ShloMosaic.TcCoe Idealize.SL.Sem
open Cert.FfnDwRefIdeal.Read

/-- One half, as the programs' float word. -/
abbrev half : EReal := Ideal.ofBits FTy.f32 0x3F000000#32

/-- One half of a sum is the sum of the halves, at infinities too. -/
theorem half_mul_sum {n : ℕ} (f : Fin n → EReal) : half * ∑ k, f k = ∑ k, half * f k := by
  rw [show half = _ from Sigmoid.half]
  induction n with
  | zero => simp
  | succ n ih =>
    rw [Fin.sum_univ_castSucc, Fin.sum_univ_castSucc, EReal.left_distrib_of_nonneg_of_ne_top (by positivity) (EReal.coe_ne_top _), ih]

/-! ### The kernel's block -/

theorem kout (x0 : Vec Ideal S1x4096x704 .bf16) (x1 : Vec Ideal S4096x512 .bf16) (k : Fin 704) (l : Fin 512) :
    k0_pay1 x0 x1 (ix4 0 0 k l) = half * ∑ r : Fin 4096, x0 (ix3 0 r k) * x1 (ix2 r l) := by
  pointwise [k0_pay1]

/-! ### The reference -/

/-- The row of the whole weight that row `k` of quarter `j` is. -/
def frow (j : Fin 4) (k : Fin 704) : Fin 2816 := ⟨j.val * 704 + k.val, by omega⟩

section
variable (x0 : FVec Ideal S4096x2816 .f32) (x1 : FVec Ideal S4096x1024 .f32) (x2 : FVec Ideal S4x2x704x1024 .f32)

theorem rsum (k : Fin 2816) (l : Fin 1024) : val_main_v7 (F := Ideal) x0 x1 (ix2 k l)
    = ∑ r : Fin 4096, half * x1 (ix2 r l) * x0 (ix2 r k) := by
  pointwise [val_main_v7, val_main_v6, val_main_v5, val_main_v4, val_main_cst_1]

theorem rpart (j : Fin 4) (k : Fin 704) (l : Fin 1024) : val_main_v8 (F := Ideal) x0 x1 (ix4 j 0 k l)
    = val_main_v7 (F := Ideal) x0 x1 (ix2 (frow j k) l) := by
  unfold frow
  unfold val_main_v8
  generalize val_main_v7 (F := Ideal) x0 x1 = y
  pointwise

theorem rout_0 (j : Fin 4) (k : Fin 704) (l : Fin 1024) : val_main_v11 (F := Ideal) x0 x1 x2 (ix4 j 0 k l)
    = val_main_v7 (F := Ideal) x0 x1 (ix2 (frow j k) l) := by
  rw [← rpart]
  unfold val_main_v11 val_main_v10
  generalize val_main_v8 (F := Ideal) x0 x1 = y
  pointwise [val_main_v9]

theorem rout_1 (j : Fin 4) (k : Fin 704) (l : Fin 1024) : val_main_v11 (F := Ideal) x0 x1 x2 (ix4 j 1 k l) = x2 (ix4 j 1 k l) := by
  unfold val_main_v11 val_main_v10
  generalize val_main_v8 (F := Ideal) x0 x1 = y
  pointwise [val_main_v9]

end

/-! ### The array after the run -/

variable (m : (ℓ : Loc nD τ sig) → Buf (Elt Ideal) ℓ)

section
variable (c : Dev nD)

/-- The arguments: the gated product, the cotangent, and the array that is written in place. -/
abbrev aS : FVec Ideal S4096x2816 .f32 := m ((c : Thread nD τ).loc main_arg0)
abbrev aY : FVec Ideal S4096x1024 .f32 := m ((c : Thread nD τ).loc main_arg1)
abbrev aP : FVec Ideal S4x2x704x1024 .f32 := m ((c : Thread nD τ).loc main_arg2)

/-- The array the call finds where it writes: the argument. -/
theorem host_p : (show FVec Ideal S4x2x704x1024 .bf16 from V m c main_v5) = truncf .bf16 (aP m c) bitsLt_bf16_f32 := by
  unfold V hostOps0
  simp only [StableHlo.after_cons, StableHlo.after_nil]
  after_results_steps
  rfl

end

theorem idx : ∀ t : Fin cfg0.N, win0_0.index t = ![t.val / 2, 0, 0] ∧ win0_1.index t = ![0, t.val % 2]
    ∧ win0_2.index t = ![t.val / 2, 0, 0, t.val % 2] :=
  (by decide +kernel : ∀ t : Fin grid0.N, _)

/-- The quarter and the column of the whole array that block `t` and its column `l` are. -/
def quarter (t : Fin cfg0.N) : Fin 4 := ⟨t.val / 2, by have h : t.val < 8 := lt_of_lt_of_eq t.isLt (by decide); omega⟩
def col (t : Fin cfg0.N) (l : Fin 512) : Fin 1024 := ⟨t.val % 2 * 512 + l.val, by omega⟩

section
variable (c : Dev nD) (t : Fin cfg0.N)

theorem read_0 (r : Fin 4096) (k : Fin 704) : (show Vec Ideal S1x4096x704 .bf16 from iblk m c 0 t) (ix3 0 r k)
    = aS m c (ix2 r (frow (quarter t) k)) := by
  unfold frow quarter
  blk_point [iblk, V, idx t]

theorem read_1 (r : Fin 4096) (l : Fin 512) : (show Vec Ideal S4096x512 .bf16 from iblk m c 1 t) (ix2 r l) = aY m c (ix2 r (col t l)) := by
  unfold col
  blk_point [iblk, V, idx t]

theorem point_2 : k0_pay1 (iblk m c 0 t) (iblk m c 1 t)
    = fun j => val_main_v11 (F := Ideal) (aS m c) (aY m c) (aP m c) (ix4 (quarter t) 0 (j 2) (col t (j 3))) := by
  funext j
  idx_vars j
  obtain rfl : j0 = 0 := Subsingleton.elim _ _
  obtain rfl : j1 = 0 := Subsingleton.elim _ _
  refine (kout _ _ j2 j3).trans (Eq.trans ?_ ((rout_0 _ _ _ (quarter t) j2 (col t j3)).trans (rsum _ _ _ _)).symm)
  rw [half_mul_sum]
  refine Finset.sum_congr rfl fun r _ => ?_
  rw [mul_assoc, mul_comm (aY m c _)]
  exact congrArg (half * ·) (congrArg₂ (· * ·) (read_0 m c t r j2) (read_1 m c t r j3))

end

theorem final_2 (c : Dev nD) : (dats m 0 c).arrAt 2 cfg0.N = val_main_v11 (F := Ideal) (aS m c) (aY m c) (aP m c) := by
  refine (dats m 0 c).arrAt_eq_of_coversWhere_of_agree 2 _ (fun β => β (1 : Fin _) = 0) (by decide +kernel) (fun t hf y => ?_) (fun j hj => ?_)
  · blk_simp
    rw [after0_2]
    unfold outsAt0
    frame_out
    rw [point_2 m c t]
    unfold quarter col
    blk_ext [idx t]
  · blk_simp [Pipeline.Window.cell_apply] at hj
    rw [A_eq]
    refine (congrFun (host_p m c) _).trans ?_
    idx_vars j
    have e : j1 = 1 := by
      have := j1.isLt
      ext
      simp_all
      omega
    subst e
    exact (rout_1 _ _ _ j0 j2 j3).symm

end Cert.FfnDw

end
-- ==== Proof.FfnDwClaim.lean ====
/- The claims about the gradient of a feed-forward block's last weight. -/
module

public import proofs.«01_k».proof.Defs
public import proofs.«01_k».proof.Proof.Gen.FfnDw
public import proofs.«01_k».proof.Proof.Gen.FfnDw.Frame
public import proofs.«01_k».proof.Proof.Gen.FfnDwIdeal
public import proofs.«01_k».proof.Proof.Gen.FfnDwIdeal.Frame
public import proofs.«01_k».proof.Proof.Gen.FfnDwIdeal.Value
public import proofs.«01_k».proof.Proof.Gen.FfnDwRefIdeal
public import proofs.«01_k».proof.Proof.Gen.FfnDwRefIdeal.Run
public import proofs.«01_k».proof.Proof.Gen.FfnDwRefIdeal.Read
public import proofs.«01_k».proof.Proof.FfnDw
public import Idealize.ShloMosaic.Lib.Claim

@[expose] public section

set_option maxRecDepth 16384

noncomputable section

namespace Cert.FfnDw

open Idealize.ShloMosaic Idealize.ShloMosaic.TcCoe Idealize.SL.Sem

theorem frame_reference : Cert.quiescent_FfnDwRefIdeal := by
  intro m g _
  refine θ_run_mono (Cert.FfnDwRefIdeal.Value.run m g) fun r h => ⟨?_, sem_eq_zero_of_no_sems (by decide) r.2⟩
  intro c
  exact (h c).2

/-- The call's result is the reference's. -/
theorem algebraic : Cert.algebraic_FfnDwIdeal_FfnDwRefIdeal := by
  intro m g m' g' _ hagree
  refine ⟨fun c => _, Cert.FfnDwIdeal.Value.run_blocks m g, ?_⟩
  refine θ_run_mono (Cert.FfnDwRefIdeal.Value.run m' g') fun r h c => ?_
  obtain ⟨h0, h1⟩ := h c
  obtain ⟨a0, a1, a2⟩ := hagree c
  refine ⟨h0.trans ?_, h1⟩
  rw [Cert.FfnDwRefIdeal.Read.val_main_v11_eq, a0, a1, a2]
  exact (final_2 m c).symm

end Cert.FfnDw

end
-- ==== Proof.Dwgate.lean ====
/- The gradient of the merge gate's weight as a product: a block of the kernel against the reference, entry by entry. -/
module

public import proofs.«01_k».proof.Proof.Gen.DwgateIdeal.Value
public import proofs.«01_k».proof.Proof.Gen.DwgateRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Dwgate

open Cert.DwgateIdeal Cert.DwgateIdeal.Gen
open Idealize.ShloMosaic Idealize.ShloMosaic.TcCoe Idealize.SL.Sem
open Cert.DwgateRefIdeal.Read

/-! ### The kernel's block -/

section
variable (x0 : Vec Ideal S4096x512 .bf16) (x1 : Vec Ideal S4096x512 .bf16)

theorem kout (k l : Fin 512) : k0_pay1 x0 x1 (ix2 k l) = ∑ r : Fin 4096, x0 (ix2 r k) * x1 (ix2 r l) := by
  pointwise [k0_pay1]

theorem out_2 : out0_2 x0 x1 = k0_pay1 x0 x1 := by
  frame_out

end

/-! ### The reference -/

section
variable (x0 : FVec Ideal S4096x1024 .f32) (x1 : FVec Ideal S4096x3072 .f32)

theorem rout (k : Fin 1024) (l : Fin 3072) : val_main_v4 (F := Ideal) x0 x1 (ix2 k l) = ∑ r : Fin 4096, x1 (ix2 r l) * x0 (ix2 r k) := by
  pointwise [val_main_v4, val_main_v3, val_main_v2]

end

/-! ### The array after the run -/

variable (m : (ℓ : Loc nD τ sig) → Buf (Elt Ideal) ℓ)

section
variable (c : Dev nD)

/-- The arguments: the left factor of the product and the cotangent of its output. -/
abbrev aX : FVec Ideal S4096x1024 .f32 := m ((c : Thread nD τ).loc main_arg0)
abbrev aD : FVec Ideal S4096x3072 .f32 := m ((c : Thread nD τ).loc main_arg1)

end

theorem idx : ∀ t : Fin cfg0.N, win0_0.index t = ![0, t.val / 6] ∧ win0_1.index t = ![0, t.val % 6]
    ∧ win0_2.index t = ![t.val / 6, t.val % 6] :=
  (by decide +kernel : ∀ t : Fin grid0.N, _)

/-- The row and the column of the whole array that row `k` and column `l` of block `t` are. -/
def row (t : Fin cfg0.N) (k : Fin 512) : Fin 1024 :=
  ⟨t.val / 6 * 512 + k.val, by have h : t.val < 12 := lt_of_lt_of_eq t.isLt (by decide); omega⟩
def col (t : Fin cfg0.N) (l : Fin 512) : Fin 3072 := ⟨t.val % 6 * 512 + l.val, by omega⟩

section
variable (c : Dev nD) (t : Fin cfg0.N)

theorem read_0 (r : Fin 4096) (k : Fin 512) : (show Vec Ideal S4096x512 .bf16 from iblk m c 0 t) (ix2 r k) = aX m c (ix2 r (row t k)) := by
  unfold row
  blk_point [iblk, V, idx t]

theorem read_1 (r : Fin 4096) (l : Fin 512) : (show Vec Ideal S4096x512 .bf16 from iblk m c 1 t) (ix2 r l) = aD m c (ix2 r (col t l)) := by
  unfold col
  blk_point [iblk, V, idx t]

theorem point_2 : k0_pay1 (iblk m c 0 t) (iblk m c 1 t)
    = fun j => val_main_v4 (F := Ideal) (aX m c) (aD m c) (ix2 (row t (j 0)) (col t (j 1))) := by
  funext j
  idx_vars j
  refine (kout _ _ j0 j1).trans (Eq.trans ?_ (rout _ _ (row t j0) (col t j1)).symm)
  refine Finset.sum_congr rfl fun r _ => ?_
  rw [mul_comm (aD m c _)]
  exact congrArg₂ (· * ·) (read_0 m c t r j0) (read_1 m c t r j1)

end

theorem final_2 (c : Dev nD) : (dats m 0 c).arrAt 2 cfg0.N = val_main_v4 (F := Ideal) (aX m c) (aD m c) := by
  refine (dats m 0 c).arrAt_eq_of_covers 2 _ (by decide +kernel) fun t hf y => ?_
  blk_simp
  rw [after0_2, out_2, point_2 m c t]
  unfold row col
  blk_ext [idx t]

end Cert.Dwgate

end
-- ==== Proof.DwgateClaim.lean ====
/- The claims about the gradient of the merge gate's weight as a product. -/
module

public import proofs.«01_k».proof.Defs
public import proofs.«01_k».proof.Proof.Gen.Dwgate
public import proofs.«01_k».proof.Proof.Gen.Dwgate.Frame
public import proofs.«01_k».proof.Proof.Gen.DwgateIdeal
public import proofs.«01_k».proof.Proof.Gen.DwgateIdeal.Frame
public import proofs.«01_k».proof.Proof.Gen.DwgateIdeal.Value
public import proofs.«01_k».proof.Proof.Gen.DwgateRefIdeal
public import proofs.«01_k».proof.Proof.Gen.DwgateRefIdeal.Run
public import proofs.«01_k».proof.Proof.Gen.DwgateRefIdeal.Read
public import proofs.«01_k».proof.Proof.Dwgate
public import Idealize.ShloMosaic.Lib.Claim

@[expose] public section

set_option maxRecDepth 16384

noncomputable section

namespace Cert.Dwgate

open Idealize.ShloMosaic Idealize.ShloMosaic.TcCoe Idealize.SL.Sem

theorem frame_reference : Cert.quiescent_DwgateRefIdeal := by
  intro m g _
  refine θ_run_mono (Cert.DwgateRefIdeal.Value.run m g) fun r h => ⟨?_, sem_eq_zero_of_no_sems (by decide) r.2⟩
  intro c
  exact (h c).2

/-- The call's result is the reference's. -/
theorem algebraic : Cert.algebraic_DwgateIdeal_DwgateRefIdeal := by
  pair_intro
  · run_from Cert.DwgateIdeal.Value.run_blocks m g
  · run_from Cert.DwgateRefIdeal.Value.run m' g'
    exact (final_2 m c).symm

end Cert.Dwgate

end
-- ==== Proof.Dwout.lean ====
/- The gradient of the output weight as a product: a block of the kernel against the reference, entry by entry. -/
module

public import proofs.«01_k».proof.Proof.Gen.DwoutIdeal.Value
public import proofs.«01_k».proof.Proof.Gen.DwoutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Dwout

open Cert.DwoutIdeal Cert.DwoutIdeal.Gen
open Idealize.ShloMosaic Idealize.ShloMosaic.TcCoe Idealize.SL.Sem
open Cert.DwoutRefIdeal.Read

/-! ### The kernel's block -/

section
variable (x0 : Vec Ideal S4096x512 .bf16) (x1 : Vec Ideal S4096x512 .bf16)

theorem kout (k l : Fin 512) : k0_pay1 x0 x1 (ix2 k l) = ∑ r : Fin 4096, x0 (ix2 r k) * x1 (ix2 r l) := by
  pointwise [k0_pay1]

theorem out_2 : out0_2 x0 x1 = k0_pay1 x0 x1 := by
  frame_out

end

/-! ### The reference -/

section
variable (x0 : FVec Ideal S4096x1024 .f32) (x1 : FVec Ideal S4096x1024 .f32)

theorem rout (k : Fin 1024) (l : Fin 1024) : val_main_v4 (F := Ideal) x0 x1 (ix2 k l) = ∑ r : Fin 4096, x1 (ix2 r l) * x0 (ix2 r k) := by
  pointwise [val_main_v4, val_main_v3, val_main_v2]

end

/-! ### The array after the run -/

variable (m : (ℓ : Loc nD τ sig) → Buf (Elt Ideal) ℓ)

section
variable (c : Dev nD)

/-- The arguments: the left factor of the product and the cotangent of its output. -/
abbrev aX : FVec Ideal S4096x1024 .f32 := m ((c : Thread nD τ).loc main_arg0)
abbrev aD : FVec Ideal S4096x1024 .f32 := m ((c : Thread nD τ).loc main_arg1)

end

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The row and the column of the whole array that row `k` and column `l` of block `t` are. -/
def row (t : Fin cfg0.N) (k : Fin 512) : Fin 1024 :=
  ⟨t.val / 2 * 512 + k.val, by have h : t.val < 4 := lt_of_lt_of_eq t.isLt (by decide); omega⟩
def col (t : Fin cfg0.N) (l : Fin 512) : Fin 1024 := ⟨t.val % 2 * 512 + l.val, by omega⟩

section
variable (c : Dev nD) (t : Fin cfg0.N)

theorem read_0 (r : Fin 4096) (k : Fin 512) : (show Vec Ideal S4096x512 .bf16 from iblk m c 0 t) (ix2 r k) = aX m c (ix2 r (row t k)) := by
  unfold row
  blk_point [iblk, V, idx t]

theorem read_1 (r : Fin 4096) (l : Fin 512) : (show Vec Ideal S4096x512 .bf16 from iblk m c 1 t) (ix2 r l) = aD m c (ix2 r (col t l)) := by
  unfold col
  blk_point [iblk, V, idx t]

theorem point_2 : k0_pay1 (iblk m c 0 t) (iblk m c 1 t)
    = fun j => val_main_v4 (F := Ideal) (aX m c) (aD m c) (ix2 (row t (j 0)) (col t (j 1))) := by
  funext j
  idx_vars j
  refine (kout _ _ j0 j1).trans (Eq.trans ?_ (rout _ _ (row t j0) (col t j1)).symm)
  refine Finset.sum_congr rfl fun r _ => ?_
  rw [mul_comm (aD m c _)]
  exact congrArg₂ (· * ·) (read_0 m c t r j0) (read_1 m c t r j1)

end

theorem final_2 (c : Dev nD) : (dats m 0 c).arrAt 2 cfg0.N = val_main_v4 (F := Ideal) (aX m c) (aD m c) := by
  refine (dats m 0 c).arrAt_eq_of_covers 2 _ (by decide +kernel) fun t hf y => ?_
  blk_simp
  rw [after0_2, out_2, point_2 m c t]
  unfold row col
  blk_ext [idx t]

end Cert.Dwout

end
-- ==== Proof.DwoutClaim.lean ====
/- The claims about the gradient of the output weight as a product. -/
module

public import proofs.«01_k».proof.Defs
public import proofs.«01_k».proof.Proof.Gen.Dwout
public import proofs.«01_k».proof.Proof.Gen.Dwout.Frame
public import proofs.«01_k».proof.Proof.Gen.DwoutIdeal
public import proofs.«01_k».proof.Proof.Gen.DwoutIdeal.Frame
public import proofs.«01_k».proof.Proof.Gen.DwoutIdeal.Value
public import proofs.«01_k».proof.Proof.Gen.DwoutRefIdeal
public import proofs.«01_k».proof.Proof.Gen.DwoutRefIdeal.Run
public import proofs.«01_k».proof.Proof.Gen.DwoutRefIdeal.Read
public import proofs.«01_k».proof.Proof.Dwout
public import Idealize.ShloMosaic.Lib.Claim

@[expose] public section

set_option maxRecDepth 16384

noncomputable section

namespace Cert.Dwout

open Idealize.ShloMosaic Idealize.ShloMosaic.TcCoe Idealize.SL.Sem

theorem frame_reference : Cert.quiescent_DwoutRefIdeal := by
  intro m g _
  refine θ_run_mono (Cert.DwoutRefIdeal.Value.run m g) fun r h => ⟨?_, sem_eq_zero_of_no_sems (by decide) r.2⟩
  intro c
  exact (h c).2

/-- The call's result is the reference's. -/
theorem algebraic : Cert.algebraic_DwoutIdeal_DwoutRefIdeal := by
  pair_intro
  · run_from Cert.DwoutIdeal.Value.run_blocks m g
  · run_from Cert.DwoutRefIdeal.Value.run m' g'
    exact (final_2 m c).symm

end Cert.Dwout

end
-- ==== Proof.Dbranch.lean ====
/- The gradient of a branch's weight (of the S5 branch and of the gated linear attention) as a product: a block of the kernel against the reference, entry by entry. -/
module

public import proofs.«01_k».proof.Proof.Gen.DbranchIdeal.Value
public import proofs.«01_k».proof.Proof.Gen.DbranchRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Dbranch

open Cert.DbranchIdeal Cert.DbranchIdeal.Gen
open Idealize.ShloMosaic Idealize.ShloMosaic.TcCoe Idealize.SL.Sem
open Cert.DbranchRefIdeal.Read

/-! ### The kernel's block -/

section
variable (x0 : Vec Ideal S4096x512 .bf16) (x1 : Vec Ideal S4096x512 .bf16)

theorem kout (k l : Fin 512) : k0_pay1 x0 x1 (ix2 k l) = ∑ r : Fin 4096, x0 (ix2 r k) * x1 (ix2 r l) := by
  pointwise [k0_pay1]

theorem out_2 : out0_2 x0 x1 = k0_pay1 x0 x1 := by
  frame_out

end

/-! ### The reference -/

section
variable (x0 : FVec Ideal S4096x512 .f32) (x1 : FVec Ideal S4096x1024 .f32)

theorem rout (k : Fin 512) (l : Fin 1024) : val_main_v4 (F := Ideal) x0 x1 (ix2 k l) = ∑ r : Fin 4096, x1 (ix2 r l) * x0 (ix2 r k) := by
  pointwise [val_main_v4, val_main_v3, val_main_v2]

end

/-! ### The array after the run -/

variable (m : (ℓ : Loc nD τ sig) → Buf (Elt Ideal) ℓ)

section
variable (c : Dev nD)

/-- The arguments: the left factor of the product and the cotangent of its output. -/
abbrev aX : FVec Ideal S4096x512 .f32 := m ((c : Thread nD τ).loc main_arg0)
abbrev aD : FVec Ideal S4096x1024 .f32 := m ((c : Thread nD τ).loc main_arg1)

end

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The row and the column of the whole array that row `k` and column `l` of block `t` are. -/
def row (t : Fin cfg0.N) (k : Fin 512) : Fin 512 :=
  ⟨t.val / 2 * 512 + k.val, by have h : t.val < 2 := lt_of_lt_of_eq t.isLt (by decide); omega⟩
def col (t : Fin cfg0.N) (l : Fin 512) : Fin 1024 := ⟨t.val % 2 * 512 + l.val, by omega⟩

section
variable (c : Dev nD) (t : Fin cfg0.N)

theorem read_0 (r : Fin 4096) (k : Fin 512) : (show Vec Ideal S4096x512 .bf16 from iblk m c 0 t) (ix2 r k) = aX m c (ix2 r (row t k)) := by
  unfold row
  blk_point [iblk, V, idx t]

theorem read_1 (r : Fin 4096) (l : Fin 512) : (show Vec Ideal S4096x512 .bf16 from iblk m c 1 t) (ix2 r l) = aD m c (ix2 r (col t l)) := by
  unfold col
  blk_point [iblk, V, idx t]

theorem point_2 : k0_pay1 (iblk m c 0 t) (iblk m c 1 t)
    = fun j => val_main_v4 (F := Ideal) (aX m c) (aD m c) (ix2 (row t (j 0)) (col t (j 1))) := by
  funext j
  idx_vars j
  refine (kout _ _ j0 j1).trans (Eq.trans ?_ (rout _ _ (row t j0) (col t j1)).symm)
  refine Finset.sum_congr rfl fun r _ => ?_
  rw [mul_comm (aD m c _)]
  exact congrArg₂ (· * ·) (read_0 m c t r j0) (read_1 m c t r j1)

end

theorem final_2 (c : Dev nD) : (dats m 0 c).arrAt 2 cfg0.N = val_main_v4 (F := Ideal) (aX m c) (aD m c) := by
  refine (dats m 0 c).arrAt_eq_of_covers 2 _ (by decide +kernel) fun t hf y => ?_
  blk_simp
  rw [after0_2, out_2, point_2 m c t]
  unfold row col
  blk_ext [idx t]

end Cert.Dbranch

end
-- ==== Proof.DbranchClaim.lean ====
/- The claims about the gradient of a branch's weight (of the S5 branch and of the gated linear attention) as a product. -/
module

public import proofs.«01_k».proof.Defs
public import proofs.«01_k».proof.Proof.Gen.Dbranch
public import proofs.«01_k».proof.Proof.Gen.Dbranch.Frame
public import proofs.«01_k».proof.Proof.Gen.DbranchIdeal
public import proofs.«01_k».proof.Proof.Gen.DbranchIdeal.Frame
public import proofs.«01_k».proof.Proof.Gen.DbranchIdeal.Value
public import proofs.«01_k».proof.Proof.Gen.DbranchRefIdeal
public import proofs.«01_k».proof.Proof.Gen.DbranchRefIdeal.Run
public import proofs.«01_k».proof.Proof.Gen.DbranchRefIdeal.Read
public import proofs.«01_k».proof.Proof.Dbranch
public import Idealize.ShloMosaic.Lib.Claim

@[expose] public section

set_option maxRecDepth 16384

noncomputable section

namespace Cert.Dbranch

open Idealize.ShloMosaic Idealize.ShloMosaic.TcCoe Idealize.SL.Sem

theorem frame_reference : Cert.quiescent_DbranchRefIdeal := by
  intro m g _
  refine θ_run_mono (Cert.DbranchRefIdeal.Value.run m g) fun r h => ⟨?_, sem_eq_zero_of_no_sems (by decide) r.2⟩
  intro c
  exact (h c).2

/-- The call's result is the reference's. -/
theorem algebraic : Cert.algebraic_DbranchIdeal_DbranchRefIdeal := by
  pair_intro
  · run_from Cert.DbranchIdeal.Value.run_blocks m g
  · run_from Cert.DbranchRefIdeal.Value.run m' g'
    exact (final_2 m c).symm

end Cert.Dbranch

end
-- ==== Proof.DbranchAt.lean ====
/- The gradient of the attention branch's weight as a product: a block of the kernel against the reference, entry by entry. -/
module

public import proofs.«01_k».proof.Proof.Gen.DbranchAtIdeal.Value
public import proofs.«01_k».proof.Proof.Gen.DbranchAtRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DbranchAt

open Cert.DbranchAtIdeal Cert.DbranchAtIdeal.Gen
open Idealize.ShloMosaic Idealize.ShloMosaic.TcCoe Idealize.SL.Sem
open Cert.DbranchAtRefIdeal.Read

/-! ### The kernel's block -/

section
variable (x0 : Vec Ideal S4096x512 .f32) (x1 : Vec Ideal S4096x512 .bf16)

theorem kout (k l : Fin 512) : k0_pay1 x0 x1 (ix2 k l) = ∑ r : Fin 4096, x0 (ix2 r k) * x1 (ix2 r l) := by
  pointwise [k0_pay1]

theorem out_2 : out0_2 x0 x1 = k0_pay1 x0 x1 := by
  frame_out

end

/-! ### The reference -/

section
variable (x0 : FVec Ideal S4096x512 .f32) (x1 : FVec Ideal S4096x1024 .f32)

theorem rout (k : Fin 512) (l : Fin 1024) : val_main_v4 (F := Ideal) x0 x1 (ix2 k l) = ∑ r : Fin 4096, x1 (ix2 r l) * x0 (ix2 r k) := by
  pointwise [val_main_v4, val_main_v3, val_main_v2]

end

/-! ### The array after the run -/

variable (m : (ℓ : Loc nD τ sig) → Buf (Elt Ideal) ℓ)

section
variable (c : Dev nD)

/-- The arguments: the left factor of the product and the cotangent of its output. -/
abbrev aX : FVec Ideal S4096x512 .f32 := m ((c : Thread nD τ).loc main_arg0)
abbrev aD : FVec Ideal S4096x1024 .f32 := m ((c : Thread nD τ).loc main_arg1)

end

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The row and the column of the whole array that row `k` and column `l` of block `t` are. -/
def row (t : Fin cfg0.N) (k : Fin 512) : Fin 512 :=
  ⟨t.val / 2 * 512 + k.val, by have h : t.val < 2 := lt_of_lt_of_eq t.isLt (by decide); omega⟩
def col (t : Fin cfg0.N) (l : Fin 512) : Fin 1024 := ⟨t.val % 2 * 512 + l.val, by omega⟩

section
variable (c : Dev nD) (t : Fin cfg0.N)

theorem read_0 (r : Fin 4096) (k : Fin 512) : (show Vec Ideal S4096x512 .f32 from iblk m c 0 t) (ix2 r k) = aX m c (ix2 r (row t k)) := by
  unfold row
  blk_point [iblk, V, idx t]

theorem read_1 (r : Fin 4096) (l : Fin 512) : (show Vec Ideal S4096x512 .bf16 from iblk m c 1 t) (ix2 r l) = aD m c (ix2 r (col t l)) := by
  unfold col
  blk_point [iblk, V, idx t]

theorem point_2 : k0_pay1 (iblk m c 0 t) (iblk m c 1 t)
    = fun j => val_main_v4 (F := Ideal) (aX m c) (aD m c) (ix2 (row t (j 0)) (col t (j 1))) := by
  funext j
  idx_vars j
  refine (kout _ _ j0 j1).trans (Eq.trans ?_ (rout _ _ (row t j0) (col t j1)).symm)
  refine Finset.sum_congr rfl fun r _ => ?_
  rw [mul_comm (aD m c _)]
  exact congrArg₂ (· * ·) (read_0 m c t r j0) (read_1 m c t r j1)

end

theorem final_2 (c : Dev nD) : (dats m 0 c).arrAt 2 cfg0.N = val_main_v4 (F := Ideal) (aX m c) (aD m c) := by
  refine (dats m 0 c).arrAt_eq_of_covers 2 _ (by decide +kernel) fun t hf y => ?_
  blk_simp
  rw [after0_2, out_2, point_2 m c t]
  unfold row col
  blk_ext [idx t]

end Cert.DbranchAt

end
-- ==== Proof.DbranchAtClaim.lean ====
/- The claims about the gradient of the attention branch's weight as a product. -/
module

public import proofs.«01_k».proof.Defs
public import proofs.«01_k».proof.Proof.Gen.DbranchAt
public import proofs.«01_k».proof.Proof.Gen.DbranchAt.Frame
public import proofs.«01_k».proof.Proof.Gen.DbranchAtIdeal
public import proofs.«01_k».proof.Proof.Gen.DbranchAtIdeal.Frame
public import proofs.«01_k».proof.Proof.Gen.DbranchAtIdeal.Value
public import proofs.«01_k».proof.Proof.Gen.DbranchAtRefIdeal
public import proofs.«01_k».proof.Proof.Gen.DbranchAtRefIdeal.Run
public import proofs.«01_k».proof.Proof.Gen.DbranchAtRefIdeal.Read
public import proofs.«01_k».proof.Proof.DbranchAt
public import Idealize.ShloMosaic.Lib.Claim

@[expose] public section

set_option maxRecDepth 16384

noncomputable section

namespace Cert.DbranchAt

open Idealize.ShloMosaic Idealize.ShloMosaic.TcCoe Idealize.SL.Sem

theorem frame_reference : Cert.quiescent_DbranchAtRefIdeal := by
  intro m g _
  refine θ_run_mono (Cert.DbranchAtRefIdeal.Value.run m g) fun r h => ⟨?_, sem_eq_zero_of_no_sems (by decide) r.2⟩
  intro c
  exact (h c).2

/-- The call's result is the reference's. -/
theorem algebraic : Cert.algebraic_DbranchAtIdeal_DbranchAtRefIdeal := by
  pair_intro
  · run_from Cert.DbranchAtIdeal.Value.run_blocks m g
  · run_from Cert.DbranchAtRefIdeal.Value.run m' g'
    exact (final_2 m c).symm

end Cert.DbranchAt

end
-- ==== Proof.Dglu.lean ====
/- The gradient of the S5 gate's weight as a product: a block of the kernel against the reference, entry by entry. -/
module

public import proofs.«01_k».proof.Proof.Gen.DgluIdeal.Value
public import proofs.«01_k».proof.Proof.Gen.DgluRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Dglu

open Cert.DgluIdeal Cert.DgluIdeal.Gen
open Idealize.ShloMosaic Idealize.ShloMosaic.TcCoe Idealize.SL.Sem
open Cert.DgluRefIdeal.Read

/-! ### The kernel's block -/

section
variable (x0 : Vec Ideal S4096x512 .bf16) (x1 : Vec Ideal S4096x512 .bf16)

theorem kout (k l : Fin 512) : k0_pay1 x0 x1 (ix2 k l) = ∑ r : Fin 4096, x0 (ix2 r k) * x1 (ix2 r l) := by
  pointwise [k0_pay1]

theorem out_2 : out0_2 x0 x1 = k0_pay1 x0 x1 := by
  frame_out

end

/-! ### The reference -/

section
variable (x0 : FVec Ideal S4096x512 .f32) (x1 : FVec Ideal S4096x512 .f32)

theorem rout (k : Fin 512) (l : Fin 512) : val_main_v4 (F := Ideal) x0 x1 (ix2 k l) = ∑ r : Fin 4096, x1 (ix2 r l) * x0 (ix2 r k) := by
  pointwise [val_main_v4, val_main_v3, val_main_v2]

end

/-! ### The array after the run -/

variable (m : (ℓ : Loc nD τ sig) → Buf (Elt Ideal) ℓ)

section
variable (c : Dev nD)

/-- The arguments: the left factor of the product and the cotangent of its output. -/
abbrev aX : FVec Ideal S4096x512 .f32 := m ((c : Thread nD τ).loc main_arg0)
abbrev aD : FVec Ideal S4096x512 .f32 := m ((c : Thread nD τ).loc main_arg1)

end

theorem idx : ∀ t : Fin cfg0.N, win0_0.index t = ![0, t.val / 1] ∧ win0_1.index t = ![0, t.val % 1]
    ∧ win0_2.index t = ![t.val / 1, t.val % 1] :=
  (by decide +kernel : ∀ t : Fin grid0.N, _)

/-- The row and the column of the whole array that row `k` and column `l` of block `t` are. -/
def row (t : Fin cfg0.N) (k : Fin 512) : Fin 512 :=
  ⟨t.val / 1 * 512 + k.val, by have h : t.val < 1 := lt_of_lt_of_eq t.isLt (by decide); omega⟩
def col (t : Fin cfg0.N) (l : Fin 512) : Fin 512 := ⟨t.val % 1 * 512 + l.val, by omega⟩

section
variable (c : Dev nD) (t : Fin cfg0.N)

theorem read_0 (r : Fin 4096) (k : Fin 512) : (show Vec Ideal S4096x512 .bf16 from iblk m c 0 t) (ix2 r k) = aX m c (ix2 r (row t k)) := by
  unfold row
  blk_point [iblk, V, idx t]

theorem read_1 (r : Fin 4096) (l : Fin 512) : (show Vec Ideal S4096x512 .bf16 from iblk m c 1 t) (ix2 r l) = aD m c (ix2 r (col t l)) := by
  unfold col
  blk_point [iblk, V, idx t]

theorem point_2 : k0_pay1 (iblk m c 0 t) (iblk m c 1 t)
    = fun j => val_main_v4 (F := Ideal) (aX m c) (aD m c) (ix2 (row t (j 0)) (col t (j 1))) := by
  funext j
  idx_vars j
  refine (kout _ _ j0 j1).trans (Eq.trans ?_ (rout _ _ (row t j0) (col t j1)).symm)
  refine Finset.sum_congr rfl fun r _ => ?_
  rw [mul_comm (aD m c _)]
  exact congrArg₂ (· * ·) (read_0 m c t r j0) (read_1 m c t r j1)

end

theorem final_2 (c : Dev nD) : (dats m 0 c).arrAt 2 cfg0.N = val_main_v4 (F := Ideal) (aX m c) (aD m c) := by
  refine (dats m 0 c).arrAt_eq_of_covers 2 _ (by decide +kernel) fun t hf y => ?_
  blk_simp
  rw [after0_2, out_2, point_2 m c t]
  unfold row col
  blk_ext [idx t]

end Cert.Dglu

end
-- ==== Proof.DgluClaim.lean ====
/- The claims about the gradient of the S5 gate's weight as a product. -/
module

public import proofs.«01_k».proof.Defs
public import proofs.«01_k».proof.Proof.Gen.Dglu
public import proofs.«01_k».proof.Proof.Gen.Dglu.Frame
public import proofs.«01_k».proof.Proof.Gen.DgluIdeal
public import proofs.«01_k».proof.Proof.Gen.DgluIdeal.Frame
public import proofs.«01_k».proof.Proof.Gen.DgluIdeal.Value
public import proofs.«01_k».proof.Proof.Gen.DgluRefIdeal
public import proofs.«01_k».proof.Proof.Gen.DgluRefIdeal.Run
public import proofs.«01_k».proof.Proof.Gen.DgluRefIdeal.Read
public import proofs.«01_k».proof.Proof.Dglu
public import Idealize.ShloMosaic.Lib.Claim

@[expose] public section

set_option maxRecDepth 16384

noncomputable section

namespace Cert.Dglu

open Idealize.ShloMosaic Idealize.ShloMosaic.TcCoe Idealize.SL.Sem

theorem frame_reference : Cert.quiescent_DgluRefIdeal := by
  intro m g _
  refine θ_run_mono (Cert.DgluRefIdeal.Value.run m g) fun r h => ⟨?_, sem_eq_zero_of_no_sems (by decide) r.2⟩
  intro c
  exact (h c).2

/-- The call's result is the reference's. -/
theorem algebraic : Cert.algebraic_DgluIdeal_DgluRefIdeal := by
  pair_intro
  · run_from Cert.DgluIdeal.Value.run_blocks m g
  · run_from Cert.DgluRefIdeal.Value.run m' g'
    exact (final_2 m c).symm

end Cert.Dglu

end
-- ==== Proof.FfnDwIn.lean ====
/- The gradient of a feed-forward block's first two weights: a block of the kernel against the reference, entry by entry. The call
   writes one of the array's two layers and leaves the other as it finds it. -/
module

public import proofs.«01_k».proof.Proof.Gen.FfnDwInIdeal.Value
public import proofs.«01_k».proof.Proof.Gen.FfnDwInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnDwIn

open Cert.FfnDwInIdeal Cert.FfnDwInIdeal.Gen
open Idealize.ShloMosaic Idealize.ShloMosaic.TcCoe Idealize.SL.Sem
open Cert.FfnDwInRefIdeal.Read

/-- One, as the programs' float word. -/
theorem one : Ideal.ofBits FTy.f32 0x3F800000#32 = (1 : EReal) := by
  simp [Ideal.ofBits, Ideal.ieee, -EReal.coe_mul]; norm_num

/-! ### The kernel's block -/

theorem kout (x0 : Vec Ideal S1x4096x704 .bf16) (x1 : Vec Ideal S4096x512 .bf16) (k : Fin 704) (l : Fin 512) :
    k0_pay1 x0 x1 (ix4 0 0 k l) = ∑ r : Fin 4096, x0 (ix3 0 r k) * x1 (ix2 r l) := by
  have h : k0_pay1 x0 x1 (ix4 0 0 k l) = Ideal.ofBits FTy.f32 0x3F800000#32 * ∑ r : Fin 4096, x0 (ix3 0 r k) * x1 (ix2 r l) := by
    pointwise [k0_pay1]
  rw [h, one, one_mul]

/-! ### The reference -/

/-- The row of the whole weight that row `k` of quarter `j` is. -/
def frow (j : Fin 4) (k : Fin 704) : Fin 2816 := ⟨j.val * 704 + k.val, by omega⟩

section
variable (x0 : FVec Ideal S4096x1024 .f32) (x1 : FVec Ideal S4096x2816 .f32) (x2 : FVec Ideal S4x2x704x1024 .f32)

theorem rsum (k : Fin 2816) (l : Fin 1024) : val_main_v4 (F := Ideal) x0 x1 (ix2 k l)
    = ∑ r : Fin 4096, x1 (ix2 r k) * x0 (ix2 r l) := by
  pointwise [val_main_v4, val_main_v3, val_main_v2]

theorem rpart (j : Fin 4) (k : Fin 704) (l : Fin 1024) : val_main_v5 (F := Ideal) x0 x1 (ix4 j 0 k l)
    = val_main_v4 (F := Ideal) x0 x1 (ix2 (frow j k) l) := by
  unfold frow
  unfold val_main_v5
  generalize val_main_v4 (F := Ideal) x0 x1 = y
  pointwise

theorem rout_0 (j : Fin 4) (k : Fin 704) (l : Fin 1024) : val_main_v8 (F := Ideal) x0 x1 x2 (ix4 j 0 k l)
    = val_main_v4 (F := Ideal) x0 x1 (ix2 (frow j k) l) := by
  rw [← rpart]
  unfold val_main_v8 val_main_v7
  generalize val_main_v5 (F := Ideal) x0 x1 = y
  pointwise [val_main_v6]

theorem rout_1 (j : Fin 4) (k : Fin 704) (l : Fin 1024) : val_main_v8 (F := Ideal) x0 x1 x2 (ix4 j 1 k l) = x2 (ix4 j 1 k l) := by
  unfold val_main_v8 val_main_v7
  generalize val_main_v5 (F := Ideal) x0 x1 = y
  pointwise [val_main_v6]

end

/-! ### The array after the run -/

variable (m : (ℓ : Loc nD τ sig) → Buf (Elt Ideal) ℓ)

section
variable (c : Dev nD)

/-- The arguments: the normed rows, the cotangent, and the array that is written in place. -/
abbrev aY : FVec Ideal S4096x1024 .f32 := m ((c : Thread nD τ).loc main_arg0)
abbrev aS : FVec Ideal S4096x2816 .f32 := m ((c : Thread nD τ).loc main_arg1)
abbrev aP : FVec Ideal S4x2x704x1024 .f32 := m ((c : Thread nD τ).loc main_arg2)

/-- The array the call finds where it writes: the argument. -/
theorem host_p : (show FVec Ideal S4x2x704x1024 .bf16 from V m c main_v5) = truncf .bf16 (aP m c) bitsLt_bf16_f32 := by
  unfold V hostOps0
  simp only [StableHlo.after_cons, StableHlo.after_nil]
  after_results_steps
  rfl

end

theorem idx : ∀ t : Fin cfg0.N, win0_0.index t = ![t.val / 2, 0, 0] ∧ win0_1.index t = ![0, t.val % 2]
    ∧ win0_2.index t = ![t.val / 2, 0, 0, t.val % 2] :=
  (by decide +kernel : ∀ t : Fin grid0.N, _)

/-- The quarter and the column of the whole array that block `t` and its column `l` are. -/
def quarter (t : Fin cfg0.N) : Fin 4 := ⟨t.val / 2, by have h : t.val < 8 := lt_of_lt_of_eq t.isLt (by decide); omega⟩
def col (t : Fin cfg0.N) (l : Fin 512) : Fin 1024 := ⟨t.val % 2 * 512 + l.val, by omega⟩

section
variable (c : Dev nD) (t : Fin cfg0.N)

theorem read_0 (r : Fin 4096) (k : Fin 704) : (show Vec Ideal S1x4096x704 .bf16 from iblk m c 0 t) (ix3 0 r k)
    = aS m c (ix2 r (frow (quarter t) k)) := by
  unfold frow quarter
  blk_point [iblk, V, idx t]

theorem read_1 (r : Fin 4096) (l : Fin 512) : (show Vec Ideal S4096x512 .bf16 from iblk m c 1 t) (ix2 r l) = aY m c (ix2 r (col t l)) := by
  unfold col
  blk_point [iblk, V, idx t]

theorem point_2 : k0_pay1 (iblk m c 0 t) (iblk m c 1 t)
    = fun j => val_main_v8 (F := Ideal) (aY m c) (aS m c) (aP m c) (ix4 (quarter t) 0 (j 2) (col t (j 3))) := by
  funext j
  idx_vars j
  obtain rfl : j0 = 0 := Subsingleton.elim _ _
  obtain rfl : j1 = 0 := Subsingleton.elim _ _
  refine (kout _ _ j2 j3).trans (Eq.trans ?_ ((rout_0 _ _ _ (quarter t) j2 (col t j3)).trans (rsum _ _ _ _)).symm)
  exact Finset.sum_congr rfl fun r _ => congrArg₂ (· * ·) (read_0 m c t r j2) (read_1 m c t r j3)

end

theorem final_2 (c : Dev nD) : (dats m 0 c).arrAt 2 cfg0.N = val_main_v8 (F := Ideal) (aY m c) (aS m c) (aP m c) := by
  refine (dats m 0 c).arrAt_eq_of_coversWhere_of_agree 2 _ (fun β => β (1 : Fin _) = 0) (by decide +kernel) (fun t hf y => ?_) (fun j hj => ?_)
  · blk_simp
    rw [after0_2]
    unfold outsAt0
    frame_out
    rw [point_2 m c t]
    unfold quarter col
    blk_ext [idx t]
  · blk_simp [Pipeline.Window.cell_apply] at hj
    rw [A_eq]
    refine (congrFun (host_p m c) _).trans ?_
    idx_vars j
    have e : j1 = 1 := by
      have := j1.isLt
      ext
      simp_all
      omega
    subst e
    exact (rout_1 _ _ _ j0 j2 j3).symm

end Cert.FfnDwIn

end
-- ==== Proof.FfnDwInClaim.lean ====
/- The claims about the gradient of a feed-forward block's first two weights. -/
module

public import proofs.«01_k».proof.Defs
public import proofs.«01_k».proof.Proof.Gen.FfnDwIn
public import proofs.«01_k».proof.Proof.Gen.FfnDwIn.Frame
public import proofs.«01_k».proof.Proof.Gen.FfnDwInIdeal
public import proofs.«01_k».proof.Proof.Gen.FfnDwInIdeal.Frame
public import proofs.«01_k».proof.Proof.Gen.FfnDwInIdeal.Value
public import proofs.«01_k».proof.Proof.Gen.FfnDwInRefIdeal
public import proofs.«01_k».proof.Proof.Gen.FfnDwInRefIdeal.Run
public import proofs.«01_k».proof.Proof.Gen.FfnDwInRefIdeal.Read
public import proofs.«01_k».proof.Proof.FfnDwIn
public import Idealize.ShloMosaic.Lib.Claim

@[expose] public section

set_option maxRecDepth 16384

noncomputable section

namespace Cert.FfnDwIn

open Idealize.ShloMosaic Idealize.ShloMosaic.TcCoe Idealize.SL.Sem

theorem frame_reference : Cert.quiescent_FfnDwInRefIdeal := by
  intro m g _
  refine θ_run_mono (Cert.FfnDwInRefIdeal.Value.run m g) fun r h => ⟨?_, sem_eq_zero_of_no_sems (by decide) r.2⟩
  intro c
  exact (h c).2

/-- The call's result is the reference's. -/
theorem algebraic : Cert.algebraic_FfnDwInIdeal_FfnDwInRefIdeal := by
  intro m g m' g' _ hagree
  refine ⟨fun c => _, Cert.FfnDwInIdeal.Value.run_blocks m g, ?_⟩
  refine θ_run_mono (Cert.FfnDwInRefIdeal.Value.run m' g') fun r h c => ?_
  obtain ⟨h0, h1⟩ := h c
  obtain ⟨a0, a1, a2⟩ := hagree c
  refine ⟨h0.trans ?_, h1⟩
  rw [Cert.FfnDwInRefIdeal.Read.val_main_v8_eq, a0, a1, a2]
  exact (final_2 m c).symm

end Cert.FfnDwIn

end
-- ==== Proof.AdamwFfn.lean ====
/- The optimiser's update of the feed-forward weights: a block of the kernel against the reference, entry by entry. -/
module

public import proofs.«01_k».proof.Proof.Gen.AdamwFfnIdeal.Value
public import proofs.«01_k».proof.Proof.Gen.AdamwFfnRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwFfn

open Cert.AdamwFfnIdeal Cert.AdamwFfnIdeal.Gen
open Idealize.ShloMosaic Idealize.ShloMosaic.TcCoe Idealize.SL.Sem
open Cert.AdamwFfnRefIdeal.Read
open Cert.Adamw (first second delta)

/-! ### The kernel's block -/

section
variable (g w p q : Vec Ideal S1x352x1024 .f32) (r : Fin 352) (l : Fin 1024)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x352x1024 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x704x1024 .f32) (b : Fin 2) (r : Fin 704) (l : Fin 1024)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x704x1024 .f32 := m ((c : Thread nD τ).loc main_arg0)
abbrev aW : FVec Ideal S2x704x1024 .f32 := m ((c : Thread nD τ).loc main_arg1)
abbrev aP : FVec Ideal S2x704x1024 .f32 := m ((c : Thread nD τ).loc main_arg2)
abbrev aQ : FVec Ideal S2x704x1024 .f32 := m ((c : Thread nD τ).loc main_arg3)

end

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

/-- The layer of block `t`, and the row of the whole array that its row `r` is. -/
def layer (t : Fin cfg0.N) : Fin 2 := ⟨t.val / 2, by have h : t.val < 4 := lt_of_lt_of_eq t.isLt (by decide); omega⟩
def row (t : Fin cfg0.N) (r : Fin 352) : Fin 704 := ⟨t.val % 2 * 352 + r.val, by omega⟩

section
variable (c : Dev nD) (t : Fin cfg0.N) (r : Fin 352) (l : Fin 1024)

theorem read_0 : (show Vec Ideal S1x352x1024 .f32 from iblk m c 0 t) (ix3 0 r l) = aG m c (ix3 (layer t) (row t r) l) := by
  unfold layer row
  blk_point [iblk, V, idx t]

theorem read_1 : (show Vec Ideal S1x352x1024 .f32 from iblk m c 1 t) (ix3 0 r l) = aW m c (ix3 (layer t) (row t r) l) := by
  unfold layer row
  blk_point [iblk, V, idx t]

theorem read_2 : (show Vec Ideal S1x352x1024 .f32 from iblk m c 2 t) (ix3 0 r l) = aP m c (ix3 (layer t) (row t r) l) := by
  unfold layer row
  blk_point [iblk, V, idx t]

theorem read_3 : (show Vec Ideal S1x352x1024 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwFfn

end
-- ==== Proof.AdamwFfnClaim.lean ====
/- The claims about the optimiser's update of the feed-forward weights. -/
module

public import proofs.«01_k».proof.Defs
public import proofs.«01_k».proof.Proof.Gen.AdamwFfn
public import proofs.«01_k».proof.Proof.Gen.AdamwFfn.Frame
public import proofs.«01_k».proof.Proof.Gen.AdamwFfnIdeal
public import proofs.«01_k».proof.Proof.Gen.AdamwFfnIdeal.Frame
public import proofs.«01_k».proof.Proof.Gen.AdamwFfnIdeal.Value
public import proofs.«01_k».proof.Proof.Gen.AdamwFfnRefIdeal
public import proofs.«01_k».proof.Proof.Gen.AdamwFfnRefIdeal.Run
public import proofs.«01_k».proof.Proof.Gen.AdamwFfnRefIdeal.Read
public import proofs.«01_k».proof.Proof.AdamwFfn
public import Idealize.ShloMosaic.Lib.Claim

@[expose] public section

set_option maxRecDepth 16384

noncomputable section

namespace Cert.AdamwFfn

open Idealize.ShloMosaic Idealize.ShloMosaic.TcCoe Idealize.SL.Sem

theorem frame_reference : Cert.quiescent_AdamwFfnRefIdeal := by
  intro m g _
  refine θ_run_mono (Cert.AdamwFfnRefIdeal.Value.run m g) fun r h => ⟨?_, sem_eq_zero_of_no_sems (by decide) r.2⟩
  intro c
  exact (h c).2.2.2

/-- The call's three results are the reference's. -/
theorem algebraic : Cert.algebraic_AdamwFfnIdeal_AdamwFfnRefIdeal := by
  pair_intro
  · run_from Cert.AdamwFfnIdeal.Value.run_blocks m g
  · run_from Cert.AdamwFfnRefIdeal.Value.run m' g'
    · exact (final_4 m c).symm
    · exact (final_5 m c).symm
    · exact (final_6 m c).symm

end Cert.AdamwFfn

end
-- ==== Proof.AdamwGate.lean ====
/- The optimiser's update of the merge gate's weight: a block of the kernel against the reference, entry by entry. -/
module

public import proofs.«01_k».proof.Proof.Gen.AdamwGateIdeal.Value
public import proofs.«01_k».proof.Proof.Gen.AdamwGateRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwGate

open Cert.AdamwGateIdeal Cert.AdamwGateIdeal.Gen
open Idealize.ShloMosaic Idealize.ShloMosaic.TcCoe Idealize.SL.Sem
open Cert.AdamwGateRefIdeal.Read
open Cert.Adamw (first second delta)

/-! ### The kernel's block -/

section
variable (g w p q : Vec Ideal S1x512x768 .f32) (r : Fin 512) (l : Fin 768)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x512x768 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x1024x768 .f32) (b : Fin 2) (r : Fin 1024) (l : Fin 768)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x1024x768 .f32 := m ((c : Thread nD τ).loc main_arg0)
abbrev aW : FVec Ideal S2x1024x768 .f32 := m ((c : Thread nD τ).loc main_arg1)
abbrev aP : FVec Ideal S2x1024x768 .f32 := m ((c : Thread nD τ).loc main_arg2)
abbrev aQ : FVec Ideal S2x1024x768 .f32 := m ((c : Thread nD τ).loc main_arg3)

end

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

/-- The layer of block `t`, and the row of the whole array that its row `r` is. -/
def layer (t : Fin cfg0.N) : Fin 2 := ⟨t.val / 2, by have h : t.val < 4 := lt_of_lt_of_eq t.isLt (by decide); omega⟩
def row (t : Fin cfg0.N) (r : Fin 512) : Fin 1024 := ⟨t.val % 2 * 512 + r.val, by omega⟩

section
variable (c : Dev nD) (t : Fin cfg0.N) (r : Fin 512) (l : Fin 768)

theorem read_0 : (show Vec Ideal S1x512x768 .f32 from iblk m c 0 t) (ix3 0 r l) = aG m c (ix3 (layer t) (row t r) l) := by
  unfold layer row
  blk_point [iblk, V, idx t]

theorem read_1 : (show Vec Ideal S1x512x768 .f32 from iblk m c 1 t) (ix3 0 r l) = aW m c (ix3 (layer t) (row t r) l) := by
  unfold layer row
  blk_point [iblk, V, idx t]

theorem read_2 : (show Vec Ideal S1x512x768 .f32 from iblk m c 2 t) (ix3 0 r l) = aP m c (ix3 (layer t) (row t r) l) := by
  unfold layer row
  blk_point [iblk, V, idx t]

theorem read_3 : (show Vec Ideal S1x512x768 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwGate

end
-- ==== Proof.AdamwGateClaim.lean ====
/- The claims about the optimiser's update of the merge gate's weight. -/
module

public import proofs.«01_k».proof.Defs
public import proofs.«01_k».proof.Proof.Gen.AdamwGate
public import proofs.«01_k».proof.Proof.Gen.AdamwGate.Frame
public import proofs.«01_k».proof.Proof.Gen.AdamwGateIdeal
public import proofs.«01_k».proof.Proof.Gen.AdamwGateIdeal.Frame
public import proofs.«01_k».proof.Proof.Gen.AdamwGateIdeal.Value
public import proofs.«01_k».proof.Proof.Gen.AdamwGateRefIdeal
public import proofs.«01_k».proof.Proof.Gen.AdamwGateRefIdeal.Run
public import proofs.«01_k».proof.Proof.Gen.AdamwGateRefIdeal.Read
public import proofs.«01_k».proof.Proof.AdamwGate
public import Idealize.ShloMosaic.Lib.Claim

@[expose] public section

set_option maxRecDepth 16384

noncomputable section

namespace Cert.AdamwGate

open Idealize.ShloMosaic Idealize.ShloMosaic.TcCoe Idealize.SL.Sem

theorem frame_reference : Cert.quiescent_AdamwGateRefIdeal := by
  intro m g _
  refine θ_run_mono (Cert.AdamwGateRefIdeal.Value.run m g) fun r h => ⟨?_, sem_eq_zero_of_no_sems (by decide) r.2⟩
  intro c
  exact (h c).2.2.2

/-- The call's three results are the reference's. -/
theorem algebraic : Cert.algebraic_AdamwGateIdeal_AdamwGateRefIdeal := by
  pair_intro
  · run_from Cert.AdamwGateIdeal.Value.run_blocks m g
  · run_from Cert.AdamwGateRefIdeal.Value.run m' g'
    · exact (final_4 m c).symm
    · exact (final_5 m c).symm
    · exact (final_6 m c).symm

end Cert.AdamwGate

end
-- ==== Proof.AdamwOut.lean ====
/- The optimiser's update of the output weight: a block of the kernel against the reference, entry by entry. -/
module

public import proofs.«01_k».proof.Proof.Gen.AdamwOutIdeal.Value
public import proofs.«01_k».proof.Proof.Gen.AdamwOutRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwOut

open Cert.AdamwOutIdeal Cert.AdamwOutIdeal.Gen
open Idealize.ShloMosaic Idealize.ShloMosaic.TcCoe Idealize.SL.Sem
open Cert.AdamwOutRefIdeal.Read
open Cert.Adamw (first second delta)

/-! ### The kernel's block -/

section
variable (g w p q : Vec Ideal S1x256x1024 .f32) (r : Fin 256) (l : Fin 1024)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x256x1024 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x256x1024 .f32) (b : Fin 2) (r : Fin 256) (l : Fin 1024)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x256x1024 .f32 := m ((c : Thread nD τ).loc main_arg0)
abbrev aW : FVec Ideal S2x256x1024 .f32 := m ((c : Thread nD τ).loc main_arg1)
abbrev aP : FVec Ideal S2x256x1024 .f32 := m ((c : Thread nD τ).loc main_arg2)
abbrev aQ : FVec Ideal S2x256x1024 .f32 := m ((c : Thread nD τ).loc main_arg3)

end

theorem idx : ∀ t : Fin cfg0.N, win0_0.index t = ![t.val / 1, t.val % 1, 0] ∧ win0_1.index t = ![t.val / 1, t.val % 1, 0]
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] :=
  (by decide +kernel : ∀ t : Fin grid0.N, _)

/-- The layer of block `t`, and the row of the whole array that its row `r` is. -/
def layer (t : Fin cfg0.N) : Fin 2 := ⟨t.val / 1, by have h : t.val < 2 := lt_of_lt_of_eq t.isLt (by decide); omega⟩
def row (t : Fin cfg0.N) (r : Fin 256) : Fin 256 := ⟨t.val % 1 * 256 + r.val, by omega⟩

section
variable (c : Dev nD) (t : Fin cfg0.N) (r : Fin 256) (l : Fin 1024)

theorem read_0 : (show Vec Ideal S1x256x1024 .f32 from iblk m c 0 t) (ix3 0 r l) = aG m c (ix3 (layer t) (row t r) l) := by
  unfold layer row
  blk_point [iblk, V, idx t]

theorem read_1 : (show Vec Ideal S1x256x1024 .f32 from iblk m c 1 t) (ix3 0 r l) = aW m c (ix3 (layer t) (row t r) l) := by
  unfold layer row
  blk_point [iblk, V, idx t]

theorem read_2 : (show Vec Ideal S1x256x1024 .f32 from iblk m c 2 t) (ix3 0 r l) = aP m c (ix3 (layer t) (row t r) l) := by
  unfold layer row
  blk_point [iblk, V, idx t]

theorem read_3 : (show Vec Ideal S1x256x1024 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwOut

end
-- ==== Proof.AdamwOutClaim.lean ====
/- The claims about the optimiser's update of the output weight. -/
module

public import proofs.«01_k».proof.Defs
public import proofs.«01_k».proof.Proof.Gen.AdamwOut
public import proofs.«01_k».proof.Proof.Gen.AdamwOut.Frame
public import proofs.«01_k».proof.Proof.Gen.AdamwOutIdeal
public import proofs.«01_k».proof.Proof.Gen.AdamwOutIdeal.Frame
public import proofs.«01_k».proof.Proof.Gen.AdamwOutIdeal.Value
public import proofs.«01_k».proof.Proof.Gen.AdamwOutRefIdeal
public import proofs.«01_k».proof.Proof.Gen.AdamwOutRefIdeal.Run
public import proofs.«01_k».proof.Proof.Gen.AdamwOutRefIdeal.Read
public import proofs.«01_k».proof.Proof.AdamwOut
public import Idealize.ShloMosaic.Lib.Claim

@[expose] public section

set_option maxRecDepth 16384

noncomputable section

namespace Cert.AdamwOut

open Idealize.ShloMosaic Idealize.ShloMosaic.TcCoe Idealize.SL.Sem

theorem frame_reference : Cert.quiescent_AdamwOutRefIdeal := by
  intro m g _
  refine θ_run_mono (Cert.AdamwOutRefIdeal.Value.run m g) fun r h => ⟨?_, sem_eq_zero_of_no_sems (by decide) r.2⟩
  intro c
  exact (h c).2.2.2

/-- The call's three results are the reference's. -/
theorem algebraic : Cert.algebraic_AdamwOutIdeal_AdamwOutRefIdeal := by
  pair_intro
  · run_from Cert.AdamwOutIdeal.Value.run_blocks m g
  · run_from Cert.AdamwOutRefIdeal.Value.run m' g'
    · exact (final_4 m c).symm
    · exact (final_5 m c).symm
    · exact (final_6 m c).symm

end Cert.AdamwOut

end
-- ==== Proof.AdamwBranch.lean ====
/- The optimiser's update of the branches' weights: a block of the kernel against the reference, entry by entry. -/
module

public import proofs.«01_k».proof.Proof.Gen.AdamwBranchIdeal.Value
public import proofs.«01_k».proof.Proof.Gen.AdamwBranchRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwBranch

open Cert.AdamwBranchIdeal Cert.AdamwBranchIdeal.Gen
open Idealize.ShloMosaic Idealize.ShloMosaic.TcCoe Idealize.SL.Sem
open Cert.AdamwBranchRefIdeal.Read
open Cert.Adamw (first second delta)

/-! ### The kernel's block -/

section
variable (g w p q : Vec Ideal S1x512x256 .f32) (r : Fin 512) (l : Fin 256)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x512x256 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x512x256 .f32) (b : Fin 2) (r : Fin 512) (l : Fin 256)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x512x256 .f32 := m ((c : Thread nD τ).loc main_arg0)
abbrev aW : FVec Ideal S2x512x256 .f32 := m ((c : Thread nD τ).loc main_arg1)
abbrev aP : FVec Ideal S2x512x256 .f32 := m ((c : Thread nD τ).loc main_arg2)
abbrev aQ : FVec Ideal S2x512x256 .f32 := m ((c : Thread nD τ).loc main_arg3)

end

theorem idx : ∀ t : Fin cfg0.N, win0_0.index t = ![t.val / 1, t.val % 1, 0] ∧ win0_1.index t = ![t.val / 1, t.val % 1, 0]
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] :=
  (by decide +kernel : ∀ t : Fin grid0.N, _)

/-- The layer of block `t`, and the row of the whole array that its row `r` is. -/
def layer (t : Fin cfg0.N) : Fin 2 := ⟨t.val / 1, by have h : t.val < 2 := lt_of_lt_of_eq t.isLt (by decide); omega⟩
def row (t : Fin cfg0.N) (r : Fin 512) : Fin 512 := ⟨t.val % 1 * 512 + r.val, by omega⟩

section
variable (c : Dev nD) (t : Fin cfg0.N) (r : Fin 512) (l : Fin 256)

theorem read_0 : (show Vec Ideal S1x512x256 .f32 from iblk m c 0 t) (ix3 0 r l) = aG m c (ix3 (layer t) (row t r) l) := by
  unfold layer row
  blk_point [iblk, V, idx t]

theorem read_1 : (show Vec Ideal S1x512x256 .f32 from iblk m c 1 t) (ix3 0 r l) = aW m c (ix3 (layer t) (row t r) l) := by
  unfold layer row
  blk_point [iblk, V, idx t]

theorem read_2 : (show Vec Ideal S1x512x256 .f32 from iblk m c 2 t) (ix3 0 r l) = aP m c (ix3 (layer t) (row t r) l) := by
  unfold layer row
  blk_point [iblk, V, idx t]

theorem read_3 : (show Vec Ideal S1x512x256 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwBranch

end
-- ==== Proof.AdamwBranchClaim.lean ====
/- The claims about the optimiser's update of the branches' weights. -/
module

public import proofs.«01_k».proof.Defs
public import proofs.«01_k».proof.Proof.Gen.AdamwBranch
public import proofs.«01_k».proof.Proof.Gen.AdamwBranch.Frame
public import proofs.«01_k».proof.Proof.Gen.AdamwBranchIdeal
public import proofs.«01_k».proof.Proof.Gen.AdamwBranchIdeal.Frame
public import proofs.«01_k».proof.Proof.Gen.AdamwBranchIdeal.Value
public import proofs.«01_k».proof.Proof.Gen.AdamwBranchRefIdeal
public import proofs.«01_k».proof.Proof.Gen.AdamwBranchRefIdeal.Run
public import proofs.«01_k».proof.Proof.Gen.AdamwBranchRefIdeal.Read
public import proofs.«01_k».proof.Proof.AdamwBranch
public import Idealize.ShloMosaic.Lib.Claim

@[expose] public section

set_option maxRecDepth 16384

noncomputable section

namespace Cert.AdamwBranch

open Idealize.ShloMosaic Idealize.ShloMosaic.TcCoe Idealize.SL.Sem

theorem frame_reference : Cert.quiescent_AdamwBranchRefIdeal := by
  intro m g _
  refine θ_run_mono (Cert.AdamwBranchRefIdeal.Value.run m g) fun r h => ⟨?_, sem_eq_zero_of_no_sems (by decide) r.2⟩
  intro c
  exact (h c).2.2.2

/-- The call's three results are the reference's. -/
theorem algebraic : Cert.algebraic_AdamwBranchIdeal_AdamwBranchRefIdeal := by
  pair_intro
  · run_from Cert.AdamwBranchIdeal.Value.run_blocks m g
  · run_from Cert.AdamwBranchRefIdeal.Value.run m' g'
    · exact (final_4 m c).symm
    · exact (final_5 m c).symm
    · exact (final_6 m c).symm

end Cert.AdamwBranch

end
-- ==== Proof.AdamwGlu.lean ====
/- The optimiser's update of the S5 gate's weight: a block of the kernel against the reference, entry by entry. -/
module

public import proofs.«01_k».proof.Proof.Gen.AdamwGluIdeal.Value
public import proofs.«01_k».proof.Proof.Gen.AdamwGluRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwGlu

open Cert.AdamwGluIdeal Cert.AdamwGluIdeal.Gen
open Idealize.ShloMosaic Idealize.ShloMosaic.TcCoe Idealize.SL.Sem
open Cert.AdamwGluRefIdeal.Read
open Cert.Adamw (first second delta)

/-! ### The kernel's block -/

section
variable (g w p q : Vec Ideal S1x128x512 .f32) (r : Fin 128) (l : Fin 512)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x128x512 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x128x512 .f32) (b : Fin 2) (r : Fin 128) (l : Fin 512)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x128x512 .f32 := m ((c : Thread nD τ).loc main_arg0)
abbrev aW : FVec Ideal S2x128x512 .f32 := m ((c : Thread nD τ).loc main_arg1)
abbrev aP : FVec Ideal S2x128x512 .f32 := m ((c : Thread nD τ).loc main_arg2)
abbrev aQ : FVec Ideal S2x128x512 .f32 := m ((c : Thread nD τ).loc main_arg3)

end

theorem idx : ∀ t : Fin cfg0.N, win0_0.index t = ![t.val / 1, t.val % 1, 0] ∧ win0_1.index t = ![t.val / 1, t.val % 1, 0]
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] :=
  (by decide +kernel : ∀ t : Fin grid0.N, _)

/-- The layer of block `t`, and the row of the whole array that its row `r` is. -/
def layer (t : Fin cfg0.N) : Fin 2 := ⟨t.val / 1, by have h : t.val < 2 := lt_of_lt_of_eq t.isLt (by decide); omega⟩
def row (t : Fin cfg0.N) (r : Fin 128) : Fin 128 := ⟨t.val % 1 * 128 + r.val, by omega⟩

section
variable (c : Dev nD) (t : Fin cfg0.N) (r : Fin 128) (l : Fin 512)

theorem read_0 : (show Vec Ideal S1x128x512 .f32 from iblk m c 0 t) (ix3 0 r l) = aG m c (ix3 (layer t) (row t r) l) := by
  unfold layer row
  blk_point [iblk, V, idx t]

theorem read_1 : (show Vec Ideal S1x128x512 .f32 from iblk m c 1 t) (ix3 0 r l) = aW m c (ix3 (layer t) (row t r) l) := by
  unfold layer row
  blk_point [iblk, V, idx t]

theorem read_2 : (show Vec Ideal S1x128x512 .f32 from iblk m c 2 t) (ix3 0 r l) = aP m c (ix3 (layer t) (row t r) l) := by
  unfold layer row
  blk_point [iblk, V, idx t]

theorem read_3 : (show Vec Ideal S1x128x512 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwGlu

end
-- ==== Proof.AdamwGluClaim.lean ====
/- The claims about the optimiser's update of the S5 gate's weight. -/
module

public import proofs.«01_k».proof.Defs
public import proofs.«01_k».proof.Proof.Gen.AdamwGlu
public import proofs.«01_k».proof.Proof.Gen.AdamwGlu.Frame
public import proofs.«01_k».proof.Proof.Gen.AdamwGluIdeal
public import proofs.«01_k».proof.Proof.Gen.AdamwGluIdeal.Frame
public import proofs.«01_k».proof.Proof.Gen.AdamwGluIdeal.Value
public import proofs.«01_k».proof.Proof.Gen.AdamwGluRefIdeal
public import proofs.«01_k».proof.Proof.Gen.AdamwGluRefIdeal.Run
public import proofs.«01_k».proof.Proof.Gen.AdamwGluRefIdeal.Read
public import proofs.«01_k».proof.Proof.AdamwGlu
public import Idealize.ShloMosaic.Lib.Claim

@[expose] public section

set_option maxRecDepth 16384

noncomputable section

namespace Cert.AdamwGlu

open Idealize.ShloMosaic Idealize.ShloMosaic.TcCoe Idealize.SL.Sem

theorem frame_reference : Cert.quiescent_AdamwGluRefIdeal := by
  intro m g _
  refine θ_run_mono (Cert.AdamwGluRefIdeal.Value.run m g) fun r h => ⟨?_, sem_eq_zero_of_no_sems (by decide) r.2⟩
  intro c
  exact (h c).2.2.2

/-- The call's three results are the reference's. -/
theorem algebraic : Cert.algebraic_AdamwGluIdeal_AdamwGluRefIdeal := by
  pair_intro
  · run_from Cert.AdamwGluIdeal.Value.run_blocks m g
  · run_from Cert.AdamwGluRefIdeal.Value.run m' g'
    · exact (final_4 m c).symm
    · exact (final_5 m c).symm
    · exact (final_6 m c).symm

end Cert.AdamwGlu

end
-- ==== Proof.AdamwAlpha.lean ====
/- The optimiser's update of the recurrence's decays' weight: a block of the kernel against the reference, entry by entry. -/
module

public import proofs.«01_k».proof.Proof.Gen.AdamwAlphaIdeal.Value
public import proofs.«01_k».proof.Proof.Gen.AdamwAlphaRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwAlpha

open Cert.AdamwAlphaIdeal Cert.AdamwAlphaIdeal.Gen
open Idealize.ShloMosaic Idealize.ShloMosaic.TcCoe Idealize.SL.Sem
open Cert.AdamwAlphaRefIdeal.Read
open Cert.Adamw (first second delta)

/-! ### The kernel's block -/

section
variable (g w p q : Vec Ideal S1x32x128 .f32) (r : Fin 32) (l : Fin 128)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x32x128 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x32x128 .f32) (b : Fin 2) (r : Fin 32) (l : Fin 128)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x32x128 .f32 := m ((c : Thread nD τ).loc main_arg0)
abbrev aW : FVec Ideal S2x32x128 .f32 := m ((c : Thread nD τ).loc main_arg1)
abbrev aP : FVec Ideal S2x32x128 .f32 := m ((c : Thread nD τ).loc main_arg2)
abbrev aQ : FVec Ideal S2x32x128 .f32 := m ((c : Thread nD τ).loc main_arg3)

end

theorem idx : ∀ t : Fin cfg0.N, win0_0.index t = ![t.val / 1, t.val % 1, 0] ∧ win0_1.index t = ![t.val / 1, t.val % 1, 0]
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] :=
  (by decide +kernel : ∀ t : Fin grid0.N, _)

/-- The layer of block `t`, and the row of the whole array that its row `r` is. -/
def layer (t : Fin cfg0.N) : Fin 2 := ⟨t.val / 1, by have h : t.val < 2 := lt_of_lt_of_eq t.isLt (by decide); omega⟩
def row (t : Fin cfg0.N) (r : Fin 32) : Fin 32 := ⟨t.val % 1 * 32 + r.val, by omega⟩

section
variable (c : Dev nD) (t : Fin cfg0.N) (r : Fin 32) (l : Fin 128)

theorem read_0 : (show Vec Ideal S1x32x128 .f32 from iblk m c 0 t) (ix3 0 r l) = aG m c (ix3 (layer t) (row t r) l) := by
  unfold layer row
  blk_point [iblk, V, idx t]

theorem read_1 : (show Vec Ideal S1x32x128 .f32 from iblk m c 1 t) (ix3 0 r l) = aW m c (ix3 (layer t) (row t r) l) := by
  unfold layer row
  blk_point [iblk, V, idx t]

theorem read_2 : (show Vec Ideal S1x32x128 .f32 from iblk m c 2 t) (ix3 0 r l) = aP m c (ix3 (layer t) (row t r) l) := by
  unfold layer row
  blk_point [iblk, V, idx t]

theorem read_3 : (show Vec Ideal S1x32x128 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwAlpha

end
-- ==== Proof.AdamwAlphaClaim.lean ====
/- The claims about the optimiser's update of the recurrence's decays' weight. -/
module

public import proofs.«01_k».proof.Defs
public import proofs.«01_k».proof.Proof.Gen.AdamwAlpha
public import proofs.«01_k».proof.Proof.Gen.AdamwAlpha.Frame
public import proofs.«01_k».proof.Proof.Gen.AdamwAlphaIdeal
public import proofs.«01_k».proof.Proof.Gen.AdamwAlphaIdeal.Frame
public import proofs.«01_k».proof.Proof.Gen.AdamwAlphaIdeal.Value
public import proofs.«01_k».proof.Proof.Gen.AdamwAlphaRefIdeal
public import proofs.«01_k».proof.Proof.Gen.AdamwAlphaRefIdeal.Run
public import proofs.«01_k».proof.Proof.Gen.AdamwAlphaRefIdeal.Read
public import proofs.«01_k».proof.Proof.AdamwAlpha
public import Idealize.ShloMosaic.Lib.Claim

@[expose] public section

set_option maxRecDepth 16384

noncomputable section

namespace Cert.AdamwAlpha

open Idealize.ShloMosaic Idealize.ShloMosaic.TcCoe Idealize.SL.Sem

theorem frame_reference : Cert.quiescent_AdamwAlphaRefIdeal := by
  intro m g _
  refine θ_run_mono (Cert.AdamwAlphaRefIdeal.Value.run m g) fun r h => ⟨?_, sem_eq_zero_of_no_sems (by decide) r.2⟩
  intro c
  exact (h c).2.2.2

/-- The call's three results are the reference's. -/
theorem algebraic : Cert.algebraic_AdamwAlphaIdeal_AdamwAlphaRefIdeal := by
  pair_intro
  · run_from Cert.AdamwAlphaIdeal.Value.run_blocks m g
  · run_from Cert.AdamwAlphaRefIdeal.Value.run m' g'
    · exact (final_4 m c).symm
    · exact (final_5 m c).symm
    · exact (final_6 m c).symm

end Cert.AdamwAlpha

end
-- ==== Proof.AdamwBias.lean ====
/- The optimiser's update of the recurrence's decays' bias: a block of the kernel against the reference, entry by entry. -/
module

public import proofs.«01_k».proof.Proof.Gen.AdamwBiasIdeal.Value
public import proofs.«01_k».proof.Proof.Gen.AdamwBiasRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwBias

open Cert.AdamwBiasIdeal Cert.AdamwBiasIdeal.Gen
open Idealize.ShloMosaic Idealize.ShloMosaic.TcCoe Idealize.SL.Sem
open Cert.AdamwBiasRefIdeal.Read
open Cert.Adamw (first second delta)

/-! ### The kernel's block -/

section
variable (g w p q : Vec Ideal S1x2x128 .f32) (r : Fin 2) (l : Fin 128)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x2x128 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S2x2x128 .f32) (b : Fin 2) (r : Fin 2) (l : Fin 128)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S2x2x128 .f32 := m ((c : Thread nD τ).loc main_arg0)
abbrev aW : FVec Ideal S2x2x128 .f32 := m ((c : Thread nD τ).loc main_arg1)
abbrev aP : FVec Ideal S2x2x128 .f32 := m ((c : Thread nD τ).loc main_arg2)
abbrev aQ : FVec Ideal S2x2x128 .f32 := m ((c : Thread nD τ).loc main_arg3)

end

theorem idx : ∀ t : Fin cfg0.N, win0_0.index t = ![t.val / 1, t.val % 1, 0] ∧ win0_1.index t = ![t.val / 1, t.val % 1, 0]
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] :=
  (by decide +kernel : ∀ t : Fin grid0.N, _)

/-- The layer of block `t`, and the row of the whole array that its row `r` is. -/
def layer (t : Fin cfg0.N) : Fin 2 := ⟨t.val / 1, by have h : t.val < 2 := lt_of_lt_of_eq t.isLt (by decide); omega⟩
def row (t : Fin cfg0.N) (r : Fin 2) : Fin 2 := ⟨t.val % 1 * 2 + r.val, by omega⟩

section
variable (c : Dev nD) (t : Fin cfg0.N) (r : Fin 2) (l : Fin 128)

theorem read_0 : (show Vec Ideal S1x2x128 .f32 from iblk m c 0 t) (ix3 0 r l) = aG m c (ix3 (layer t) (row t r) l) := by
  unfold layer row
  blk_point [iblk, V, idx t]

theorem read_1 : (show Vec Ideal S1x2x128 .f32 from iblk m c 1 t) (ix3 0 r l) = aW m c (ix3 (layer t) (row t r) l) := by
  unfold layer row
  blk_point [iblk, V, idx t]

theorem read_2 : (show Vec Ideal S1x2x128 .f32 from iblk m c 2 t) (ix3 0 r l) = aP m c (ix3 (layer t) (row t r) l) := by
  unfold layer row
  blk_point [iblk, V, idx t]

theorem read_3 : (show Vec Ideal S1x2x128 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwBias

end
-- ==== Proof.AdamwBiasClaim.lean ====
/- The claims about the optimiser's update of the recurrence's decays' bias. -/
module

public import proofs.«01_k».proof.Defs
public import proofs.«01_k».proof.Proof.Gen.AdamwBias
public import proofs.«01_k».proof.Proof.Gen.AdamwBias.Frame
public import proofs.«01_k».proof.Proof.Gen.AdamwBiasIdeal
public import proofs.«01_k».proof.Proof.Gen.AdamwBiasIdeal.Frame
public import proofs.«01_k».proof.Proof.Gen.AdamwBiasIdeal.Value
public import proofs.«01_k».proof.Proof.Gen.AdamwBiasRefIdeal
public import proofs.«01_k».proof.Proof.Gen.AdamwBiasRefIdeal.Run
public import proofs.«01_k».proof.Proof.Gen.AdamwBiasRefIdeal.Read
public import proofs.«01_k».proof.Proof.AdamwBias
public import Idealize.ShloMosaic.Lib.Claim

@[expose] public section

set_option maxRecDepth 16384

noncomputable section

namespace Cert.AdamwBias

open Idealize.ShloMosaic Idealize.ShloMosaic.TcCoe Idealize.SL.Sem

theorem frame_reference : Cert.quiescent_AdamwBiasRefIdeal := by
  intro m g _
  refine θ_run_mono (Cert.AdamwBiasRefIdeal.Value.run m g) fun r h => ⟨?_, sem_eq_zero_of_no_sems (by decide) r.2⟩
  intro c
  exact (h c).2.2.2

/-- The call's three results are the reference's. -/
theorem algebraic : Cert.algebraic_AdamwBiasIdeal_AdamwBiasRefIdeal := by
  pair_intro
  · run_from Cert.AdamwBiasIdeal.Value.run_blocks m g
  · run_from Cert.AdamwBiasRefIdeal.Value.run m' g'
    · exact (final_4 m c).symm
    · exact (final_5 m c).symm
    · exact (final_6 m c).symm

end Cert.AdamwBias

end
-- ==== Proof.AdamwRep.lean ====
/- The optimiser's update of the packed array of the weights that every device holds whole: a block of the kernel against the reference, entry by entry. -/
module

public import proofs.«01_k».proof.Proof.Gen.AdamwRepIdeal.Value
public import proofs.«01_k».proof.Proof.Gen.AdamwRepRefIdeal.Read
public import proofs.«01_k».proof.Proof.Adamw
public import Idealize.ShloMosaic.Lib.Pipeline.ValueKit
public import Idealize.ShloMosaic.Lib.Pointwise
public import Idealize.ShloMosaic.Lib.Claim

@[expose] public section

set_option maxRecDepth 16384

noncomputable section

namespace Cert.AdamwRep

open Cert.AdamwRepIdeal Cert.AdamwRepIdeal.Gen
open Idealize.ShloMosaic Idealize.ShloMosaic.TcCoe Idealize.SL.Sem
open Cert.AdamwRepRefIdeal.Read
open Cert.Adamw (first second delta)

/-! ### The kernel's block -/

section
variable (g w p q : Vec Ideal S1x288x1024 .f32) (r : Fin 288) (l : Fin 1024)

theorem k_first : k0_pay3 g p (ix3 0 r l) = first (g (ix3 0 r l)) (p (ix3 0 r l)) := by
  unfold first
  pointwise [k0_pay3]

theorem k_second : k0_pay4 g q (ix3 0 r l) = second (g (ix3 0 r l)) (q (ix3 0 r l)) := by
  unfold second
  pointwise [k0_pay4]

theorem k_delta : k0_pay5 g p q w (ix3 0 r l) = delta (g (ix3 0 r l)) (w (ix3 0 r l)) (p (ix3 0 r l)) (q (ix3 0 r l)) := by
  unfold delta
  rw [← k_first, ← k_second]
  pointwise [k0_pay5]

end

section
variable (x0 x1 x2 x3 : Vec Ideal S1x288x1024 .f32)

theorem out_4 : out0_4 x0 x1 x2 x3 = k0_pay5 x0 x2 x3 x1 := by
  frame_out

theorem out_5 : out0_5 x0 x1 x2 x3 = k0_pay1 (k0_pay3 x0 x2) := by
  frame_out

theorem out_6 : out0_6 x0 x1 x2 x3 = k0_pay2 (k0_pay4 x0 x3) := by
  frame_out

end

/-! ### The reference -/

section
variable (g w p q : FVec Ideal S1x576x1024 .f32) (b : Fin 1) (r : Fin 576) (l : Fin 1024)

theorem r_first : val_main_v4 (F := Ideal) g p (ix3 b r l) = first (g (ix3 b r l)) (p (ix3 b r l)) := by
  unfold first
  pointwise [val_main_v4, val_main_v3, val_main_v2, val_main_v1, val_main_v0, val_main_cst, val_main_cst_0]

theorem r_second : val_main_v10 (F := Ideal) g q (ix3 b r l) = second (g (ix3 b r l)) (q (ix3 b r l)) := by
  unfold second
  pointwise [val_main_v10, val_main_v9, val_main_v8, val_main_v7, val_main_v6, val_main_v5, val_main_cst_1, val_main_cst_2]

theorem r_delta : val_main_v23 (F := Ideal) g w p q (ix3 b r l) = delta (g (ix3 b r l)) (w (ix3 b r l)) (p (ix3 b r l)) (q (ix3 b r l)) := by
  unfold delta
  rw [← r_first, ← r_second]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

end

/-! ### The arrays after the run -/

variable (m : (ℓ : Loc nD τ sig) → Buf (Elt Ideal) ℓ)

section
variable (c : Dev nD)

/-- The arguments: the gradient, the weight, the two averages. -/
abbrev aG : FVec Ideal S1x576x1024 .f32 := m ((c : Thread nD τ).loc main_arg0)
abbrev aW : FVec Ideal S1x576x1024 .f32 := m ((c : Thread nD τ).loc main_arg1)
abbrev aP : FVec Ideal S1x576x1024 .f32 := m ((c : Thread nD τ).loc main_arg2)
abbrev aQ : FVec Ideal S1x576x1024 .f32 := m ((c : Thread nD τ).loc main_arg3)

end

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

/-- The layer of block `t`, and the row of the whole array that its row `r` is. -/
def layer (t : Fin cfg0.N) : Fin 1 := ⟨t.val / 2, by have h : t.val < 2 := lt_of_lt_of_eq t.isLt (by decide); omega⟩
def row (t : Fin cfg0.N) (r : Fin 288) : Fin 576 := ⟨t.val % 2 * 288 + r.val, by omega⟩

section
variable (c : Dev nD) (t : Fin cfg0.N) (r : Fin 288) (l : Fin 1024)

theorem read_0 : (show Vec Ideal S1x288x1024 .f32 from iblk m c 0 t) (ix3 0 r l) = aG m c (ix3 (layer t) (row t r) l) := by
  unfold layer row
  blk_point [iblk, V, idx t]

theorem read_1 : (show Vec Ideal S1x288x1024 .f32 from iblk m c 1 t) (ix3 0 r l) = aW m c (ix3 (layer t) (row t r) l) := by
  unfold layer row
  blk_point [iblk, V, idx t]

theorem read_2 : (show Vec Ideal S1x288x1024 .f32 from iblk m c 2 t) (ix3 0 r l) = aP m c (ix3 (layer t) (row t r) l) := by
  unfold layer row
  blk_point [iblk, V, idx t]

theorem read_3 : (show Vec Ideal S1x288x1024 .f32 from iblk m c 3 t) (ix3 0 r l) = aQ m c (ix3 (layer t) (row t r) l) := by
  unfold layer row
  blk_point [iblk, V, idx t]

end

section
variable (c : Dev nD) (t : Fin cfg0.N)

theorem point_4 : k0_pay5 (iblk m c 0 t) (iblk m c 2 t) (iblk m c 3 t) (iblk m c 1 t)
    = fun j => val_main_v23 (F := Ideal) (aG m c) (aW m c) (aP m c) (aQ m c) (ix3 (layer t) (row t (j 1)) (j 2)) := by
  funext j
  idx_vars j
  obtain rfl : j0 = 0 := Subsingleton.elim _ _
  refine (k_delta _ _ _ _ j1 j2).trans (Eq.trans ?_ (r_delta _ _ _ _ (layer t) (row t j1) j2).symm)
  exact congr (congr (congr (congrArg delta (read_0 m c t j1 j2)) (read_1 m c t j1 j2)) (read_2 m c t j1 j2)) (read_3 m c t j1 j2)

theorem point_5 : k0_pay1 (k0_pay3 (iblk m c 0 t) (iblk m c 2 t))
    = fun j => val_main_v4 (F := Ideal) (aG m c) (aP m c) (ix3 (layer t) (row t (j 1)) (j 2)) := by
  funext j
  idx_vars j
  obtain rfl : j0 = 0 := Subsingleton.elim _ _
  pointwise [k0_pay1]
  refine (k_first _ _ j1 j2).trans (Eq.trans ?_ (r_first _ _ (layer t) (row t j1) j2).symm)
  exact congrArg₂ first (read_0 m c t j1 j2) (read_2 m c t j1 j2)

theorem point_6 : k0_pay2 (k0_pay4 (iblk m c 0 t) (iblk m c 3 t))
    = fun j => val_main_v10 (F := Ideal) (aG m c) (aQ m c) (ix3 (layer t) (row t (j 1)) (j 2)) := by
  funext j
  idx_vars j
  obtain rfl : j0 = 0 := Subsingleton.elim _ _
  pointwise [k0_pay2]
  refine (k_second _ _ j1 j2).trans (Eq.trans ?_ (r_second _ _ (layer t) (row t j1) j2).symm)
  exact congrArg₂ second (read_0 m c t j1 j2) (read_3 m c t j1 j2)

end

section
variable (c : Dev nD)

theorem final_4 : (dats m 0 c).arrAt 4 cfg0.N = val_main_v23 (F := Ideal) (aG m c) (aW m c) (aP m c) (aQ m c) := by
  refine (dats m 0 c).arrAt_eq_of_covers 4 _ (by decide +kernel) fun t hf y => ?_
  blk_simp
  rw [after0_4, out_4, point_4 m c t]
  unfold layer row
  blk_ext [idx t]

theorem final_5 : (dats m 0 c).arrAt 5 cfg0.N = val_main_v4 (F := Ideal) (aG m c) (aP m c) := by
  refine (dats m 0 c).arrAt_eq_of_covers 5 _ (by decide +kernel) fun t hf y => ?_
  blk_simp
  rw [after0_5, out_5, point_5 m c t]
  unfold layer row
  blk_ext [idx t]

theorem final_6 : (dats m 0 c).arrAt 6 cfg0.N = val_main_v10 (F := Ideal) (aG m c) (aQ m c) := by
  refine (dats m 0 c).arrAt_eq_of_covers 6 _ (by decide +kernel) fun t hf y => ?_
  blk_simp
  rw [after0_6, out_6, point_6 m c t]
  unfold layer row
  blk_ext [idx t]

end

end Cert.AdamwRep

end
-- ==== Proof.AdamwRepClaim.lean ====
/- The claims about the optimiser's update of the packed array of the weights that every device holds whole. -/
module

public import proofs.«01_k».proof.Defs
public import proofs.«01_k».proof.Proof.Gen.AdamwRep
public import proofs.«01_k».proof.Proof.Gen.AdamwRep.Frame
public import proofs.«01_k».proof.Proof.Gen.AdamwRepIdeal
public import proofs.«01_k».proof.Proof.Gen.AdamwRepIdeal.Frame
public import proofs.«01_k».proof.Proof.Gen.AdamwRepIdeal.Value
public import proofs.«01_k».proof.Proof.Gen.AdamwRepRefIdeal
public import proofs.«01_k».proof.Proof.Gen.AdamwRepRefIdeal.Run
public import proofs.«01_k».proof.Proof.Gen.AdamwRepRefIdeal.Read
public import proofs.«01_k».proof.Proof.AdamwRep
public import Idealize.ShloMosaic.Lib.Claim

@[expose] public section

set_option maxRecDepth 16384

noncomputable section

namespace Cert.AdamwRep

open Idealize.ShloMosaic Idealize.ShloMosaic.TcCoe Idealize.SL.Sem

theorem frame_reference : Cert.quiescent_AdamwRepRefIdeal := by
  intro m g _
  refine θ_run_mono (Cert.AdamwRepRefIdeal.Value.run m g) fun r h => ⟨?_, sem_eq_zero_of_no_sems (by decide) r.2⟩
  intro c
  exact (h c).2.2.2

/-- The call's three results are the reference's. -/
theorem algebraic : Cert.algebraic_AdamwRepIdeal_AdamwRepRefIdeal := by
  pair_intro
  · run_from Cert.AdamwRepIdeal.Value.run_blocks m g
  · run_from Cert.AdamwRepRefIdeal.Value.run m' g'
    · exact (final_4 m c).symm
    · exact (final_5 m c).symm
    · exact (final_6 m c).symm

end Cert.AdamwRep

end
-- ==== Proof.Dalpha.lean ====
/- The gradient of the recurrence's decays' weight as a product: a block of the kernel against the reference, entry by entry. -/
module

public import proofs.«01_k».proof.Proof.Gen.DalphaIdeal.Value
public import proofs.«01_k».proof.Proof.Gen.DalphaRefIdeal.Read
public import proofs.«01_k».proof.Proof.GlaPrepFinal
public import Idealize.ShloMosaic.Lib.Pipeline.ValueKit
public import Idealize.ShloMosaic.Lib.Pointwise
public import Idealize.ShloMosaic.Lib.Claim

@[expose] public section

set_option maxRecDepth 16384

noncomputable section

namespace Cert.Dalpha

open Cert.DalphaIdeal Cert.DalphaIdeal.Gen
open Idealize.ShloMosaic Idealize.ShloMosaic.TcCoe Idealize.SL.Sem
open Cert.DalphaRefIdeal.Read
open Cert.GlaPrep (pieces wide wide_last)

/-- A product of rows laid out in 128 columns with a column is laid out so too. -/
theorem sum_pieces_mul (a b : Fin 4096 → Fin 16 → EReal) (d : Fin 4096 → EReal) (k : Fin 128) :
    ∑ r, pieces (a r) (b r) k * d r = pieces (fun i => ∑ r, d r * a r i) (fun i => ∑ r, d r * b r i) k := by
  unfold pieces
  split_ifs <;> simp [mul_comm]

/-! ### The kernel's block -/

section
variable (x0 : Vec Ideal S4096x128 .bf16) (x1 : Vec Ideal S4096x512 .bf16)

theorem kout (k : Fin 128) (l : Fin 512) : k0_pay1 x0 x1 (ix2 k l) = ∑ r : Fin 4096, x0 (ix2 r k) * x1 (ix2 r l) := by
  pointwise [k0_pay1]

theorem out_2 : out0_2 x0 x1 = k0_pay1 x0 x1 := by
  frame_out

end

/-! ### The reference -/

section
variable (x0 x1 : FVec Ideal S4096x16 .f32) (x2 : FVec Ideal S4096x512 .f32)

theorem rout (k : Fin 128) (l : Fin 512) : val_main_v8 (F := Ideal) x0 x1 x2 (ix2 k l)
    = pieces (fun i => ∑ r : Fin 4096, x2 (ix2 r l) * x0 (ix2 r i)) (fun i => ∑ r : Fin 4096, x2 (ix2 r l) * x1 (ix2 r i)) k := by
  unfold pieces
  pointwise [val_main_v8, val_main_v7, val_main_v6, val_main_v5, val_main_v3, val_main_v2, val_main_cst_0]

end

/-! ### The array after the run -/

variable (m : (ℓ : Loc nD τ sig) → Buf (Elt Ideal) ℓ)

section
variable (c : Dev nD)

/-- The arguments: the two directions' columns of z, and the cotangent of the logits. -/
abbrev aF : FVec Ideal S4096x16 .f32 := m ((c : Thread nD τ).loc main_arg0)
abbrev aB : FVec Ideal S4096x16 .f32 := m ((c : Thread nD τ).loc main_arg1)
abbrev aD : FVec Ideal S4096x512 .f32 := m ((c : Thread nD τ).loc main_arg2)

theorem host_z' : (show FVec Ideal S4096x3456 .bf16 from V m c main_v3)
    = truncf .bf16 (concatenate S4096x3456 1
        [⟨S4096x3328, broadcastInDim S4096x3328 ![] bcast_S_S4096x3328 (constant S_ FTy.f32 0#32)⟩,
         ⟨S4096x16, aF m c⟩, ⟨S4096x16, aB m c⟩,
         ⟨S4096x96, broadcastInDim S4096x96 ![] bcast_S_S4096x96 (constant S_ FTy.f32 0#32)⟩]
        concatenates_S4096x3328_S4096x16_S4096x16_S4096x96_S4096x3456_d1) bitsLt_bf16_f32 := by
  unfold V hostOps0
  simp only [StableHlo.after_cons, StableHlo.after_nil]
  after_results_steps
  rfl

theorem host_z (r : Fin 4096) (k : Fin 3456) : (show FVec Ideal S4096x3456 .bf16 from V m c main_v3) (ix2 r k)
    = wide (fun i => aF m c (ix2 r i)) (fun i => aB m c (ix2 r i)) k := by
  rw [host_z']
  generalize aF m c = p
  generalize aB m c = q
  pointwise
  rfl

end

theorem idx : ∀ t : Fin cfg0.N, win0_0.index t = ![0, 26] ∧ win0_1.index t = ![0, 0] ∧ win0_2.index t = ![0, 0] :=
  (by decide +kernel : ∀ t : Fin grid0.N, _)

section
variable (c : Dev nD) (t : Fin cfg0.N)

theorem read_0 (r : Fin 4096) (k : Fin 128) : (show Vec Ideal S4096x128 .bf16 from iblk m c 0 t) (ix2 r k)
    = pieces (fun i => aF m c (ix2 r i)) (fun i => aB m c (ix2 r i)) k := by
  rw [← wide_last _ _ k (by omega), ← host_z]
  blk_ext [iblk, idx t]

theorem read_1 (r : Fin 4096) (l : Fin 512) : (show Vec Ideal S4096x512 .bf16 from iblk m c 1 t) (ix2 r l) = aD m c (ix2 r l) := by
  blk_point [iblk, V, idx t]

theorem point_2 : k0_pay1 (iblk m c 0 t) (iblk m c 1 t) = fun j => val_main_v8 (F := Ideal) (aF m c) (aB m c) (aD m c) (ix2 (j 0) (j 1)) := by
  funext j
  idx_vars j
  refine (kout _ _ j0 j1).trans (Eq.trans ?_ (rout _ _ _ j0 j1).symm)
  rw [← sum_pieces_mul (fun r i => aF m c (ix2 r i)) (fun r i => aB m c (ix2 r i)) fun r => aD m c (ix2 r j1)]
  exact Finset.sum_congr rfl fun r _ => congrArg₂ (· * ·) (read_0 m c t r j0) (read_1 m c t r j1)

end

theorem final_2 (c : Dev nD) : (dats m 0 c).arrAt 2 cfg0.N = val_main_v8 (F := Ideal) (aF m c) (aB m c) (aD m c) := by
  refine (dats m 0 c).arrAt_eq_of_covers 2 _ (by decide +kernel) fun t hf y => ?_
  blk_simp
  rw [after0_2, out_2, point_2 m c t]
  blk_ext [idx t]

end Cert.Dalpha

end
-- ==== Proof.DalphaClaim.lean ====
/- The claims about the gradient of the recurrence's decays' weight as a product. -/
module

public import proofs.«01_k».proof.Defs
public import proofs.«01_k».proof.Proof.Gen.Dalpha
public import proofs.«01_k».proof.Proof.Gen.Dalpha.Frame
public import proofs.«01_k».proof.Proof.Gen.DalphaIdeal
public import proofs.«01_k».proof.Proof.Gen.DalphaIdeal.Frame
public import proofs.«01_k».proof.Proof.Gen.DalphaIdeal.Value
public import proofs.«01_k».proof.Proof.Gen.DalphaRefIdeal
public import proofs.«01_k».proof.Proof.Gen.DalphaRefIdeal.Run
public import proofs.«01_k».proof.Proof.Gen.DalphaRefIdeal.Read
public import proofs.«01_k».proof.Proof.Dalpha
public import Idealize.ShloMosaic.Lib.Claim

@[expose] public section

set_option maxRecDepth 16384

noncomputable section

namespace Cert.Dalpha

open Idealize.ShloMosaic Idealize.ShloMosaic.TcCoe Idealize.SL.Sem

theorem frame_reference : Cert.quiescent_DalphaRefIdeal := by
  intro m g _
  refine θ_run_mono (Cert.DalphaRefIdeal.Value.run m g) fun r h => ⟨?_, sem_eq_zero_of_no_sems (by decide) r.2⟩
  intro c
  exact (h c).2

/-- The call's result is the reference's. -/
theorem algebraic : Cert.algebraic_DalphaIdeal_DalphaRefIdeal := by
  intro m g m' g' _ hagree
  refine ⟨fun c => _, Cert.DalphaIdeal.Value.run_blocks m g, ?_⟩
  refine θ_run_mono (Cert.DalphaRefIdeal.Value.run m' g') fun r h c => ?_
  obtain ⟨h0, h1⟩ := h c
  obtain ⟨a0, a1, a2⟩ := hagree c
  refine ⟨h0.trans ?_, h1⟩
  rw [Cert.DalphaRefIdeal.Read.val_main_v8_eq, a0, a1, a2]
  exact (final_2 m c).symm

end Cert.Dalpha

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.MergeClaim
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.AttnClaim
public import proofs.«01_k».proof.Proof.GlaPostClaim
public import proofs.«01_k».proof.Proof.FfnActClaim
public import proofs.«01_k».proof.Proof.FfnNormClaim
public import proofs.«01_k».proof.Proof.LossHeadClaim
public import proofs.«01_k».proof.Proof.GlaPrepClaim
public import proofs.«01_k».proof.Proof.S5GateClaim
public import proofs.«01_k».proof.Proof.MixNormClaim
public import proofs.«01_k».proof.Proof.S5OutClaim
public import proofs.«01_k».proof.Proof.GlaOutClaim
public import proofs.«01_k».proof.Proof.GlaGateClaim
public import proofs.«01_k».proof.Proof.MergeOutClaim
public import proofs.«01_k».proof.Proof.FfnUpClaim
public import proofs.«01_k».proof.Proof.MixInClaim
public import proofs.«01_k».proof.Proof.DwinClaim
public import proofs.«01_k».proof.Proof.FfnDownClaim
public import proofs.«01_k».proof.Proof.MixDzClaim
public import proofs.«01_k».proof.Proof.AdamwClaim
public import proofs.«01_k».proof.Proof.FfnDwClaim
public import proofs.«01_k».proof.Proof.DwgateClaim
public import proofs.«01_k».proof.Proof.DwoutClaim
public import proofs.«01_k».proof.Proof.DbranchClaim
public import proofs.«01_k».proof.Proof.DbranchAtClaim
public import proofs.«01_k».proof.Proof.DgluClaim
public import proofs.«01_k».proof.Proof.FfnDwInClaim
public import proofs.«01_k».proof.Proof.AdamwFfnClaim
public import proofs.«01_k».proof.Proof.AdamwGateClaim
public import proofs.«01_k».proof.Proof.AdamwOutClaim
public import proofs.«01_k».proof.Proof.AdamwBranchClaim
public import proofs.«01_k».proof.Proof.AdamwGluClaim
public import proofs.«01_k».proof.Proof.AdamwAlphaClaim
public import proofs.«01_k».proof.Proof.AdamwBiasClaim
public import proofs.«01_k».proof.Proof.AdamwRepClaim
public import proofs.«01_k».proof.Proof.DalphaClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Attn.Gen.facts, Cert.AttnIdeal.Gen.facts, Cert.AttnRefIdeal.Gen.facts,
    Cert.GlaPost.Gen.facts, Cert.GlaPostIdeal.Gen.facts, Cert.GlaPostRefIdeal.Gen.facts,
    Cert.FfnAct.Gen.facts, Cert.FfnActIdeal.Gen.facts, Cert.FfnActRefIdeal.Gen.facts,
    Cert.FfnNorm.Gen.facts, Cert.FfnNormIdeal.Gen.facts, Cert.FfnNormRefIdeal.Gen.facts,
    Cert.MixNorm.Gen.facts, Cert.MixNormIdeal.Gen.facts, Cert.MixNormRefIdeal.Gen.facts,
    Cert.LossHead.Gen.facts, Cert.LossHeadIdeal.Gen.facts, Cert.LossHeadRefIdeal.Gen.facts,
    Cert.GlaPrep.Gen.facts, Cert.GlaPrepIdeal.Gen.facts, Cert.GlaPrepRefIdeal.Gen.facts,
    Cert.S5Gate.Gen.facts, Cert.S5GateIdeal.Gen.facts, Cert.S5GateRefIdeal.Gen.facts,
    Cert.S5Out.Gen.facts, Cert.S5OutIdeal.Gen.facts, Cert.S5OutRefIdeal.Gen.facts,
    Cert.GlaOut.Gen.facts, Cert.GlaOutIdeal.Gen.facts, Cert.GlaOutRefIdeal.Gen.facts,
    Cert.GlaGate.Gen.facts, Cert.GlaGateIdeal.Gen.facts, Cert.GlaGateRefIdeal.Gen.facts,
    Cert.MergeOut.Gen.facts, Cert.MergeOutIdeal.Gen.facts, Cert.MergeOutRefIdeal.Gen.facts,
    Cert.FfnUp.Gen.facts, Cert.FfnUpIdeal.Gen.facts, Cert.FfnUpRefIdeal.Gen.facts,
    Cert.MixIn.Gen.facts, Cert.MixInIdeal.Gen.facts, Cert.MixInRefIdeal.Gen.facts,
    Cert.Dwin.Gen.facts, Cert.DwinIdeal.Gen.facts, Cert.DwinRefIdeal.Gen.facts,
    Cert.FfnDown.Gen.facts, Cert.FfnDownIdeal.Gen.facts, Cert.FfnDownRefIdeal.Gen.facts,
    Cert.MixDz.Gen.facts, Cert.MixDzIdeal.Gen.facts, Cert.MixDzRefIdeal.Gen.facts,
    Cert.Adamw.Gen.facts, Cert.AdamwIdeal.Gen.facts, Cert.AdamwRefIdeal.Gen.facts,
    Cert.FfnDw.Gen.facts, Cert.FfnDwIdeal.Gen.facts, Cert.FfnDwRefIdeal.Gen.facts,
    Cert.Dwgate.Gen.facts, Cert.DwgateIdeal.Gen.facts, Cert.DwgateRefIdeal.Gen.facts,
    Cert.Dwout.Gen.facts, Cert.DwoutIdeal.Gen.facts, Cert.DwoutRefIdeal.Gen.facts,
    Cert.Dbranch.Gen.facts, Cert.DbranchIdeal.Gen.facts, Cert.DbranchRefIdeal.Gen.facts,
    Cert.DbranchAt.Gen.facts, Cert.DbranchAtIdeal.Gen.facts, Cert.DbranchAtRefIdeal.Gen.facts,
    Cert.Dglu.Gen.facts, Cert.DgluIdeal.Gen.facts, Cert.DgluRefIdeal.Gen.facts,
    Cert.FfnDwIn.Gen.facts, Cert.FfnDwInIdeal.Gen.facts, Cert.FfnDwInRefIdeal.Gen.facts,
    Cert.AdamwFfn.Gen.facts, Cert.AdamwFfnIdeal.Gen.facts, Cert.AdamwFfnRefIdeal.Gen.facts,
    Cert.AdamwGate.Gen.facts, Cert.AdamwGateIdeal.Gen.facts, Cert.AdamwGateRefIdeal.Gen.facts,
    Cert.AdamwOut.Gen.facts, Cert.AdamwOutIdeal.Gen.facts, Cert.AdamwOutRefIdeal.Gen.facts,
    Cert.AdamwBranch.Gen.facts, Cert.AdamwBranchIdeal.Gen.facts, Cert.AdamwBranchRefIdeal.Gen.facts,
    Cert.AdamwGlu.Gen.facts, Cert.AdamwGluIdeal.Gen.facts, Cert.AdamwGluRefIdeal.Gen.facts,
    Cert.AdamwAlpha.Gen.facts, Cert.AdamwAlphaIdeal.Gen.facts, Cert.AdamwAlphaRefIdeal.Gen.facts,
    Cert.AdamwBias.Gen.facts, Cert.AdamwBiasIdeal.Gen.facts, Cert.AdamwBiasRefIdeal.Gen.facts,
    Cert.AdamwRep.Gen.facts, Cert.AdamwRepIdeal.Gen.facts, Cert.AdamwRepRefIdeal.Gen.facts,
    Cert.Dalpha.Gen.facts, Cert.DalphaIdeal.Gen.facts, Cert.DalphaRefIdeal.Gen.facts,
    Cert.Pre_attn_finite.Gen.facts, Cert.Pre_glapost_finite.Gen.facts, Cert.Pre_ffnact_finite.Gen.facts, Cert.Pre_ffnnorm_finite.Gen.facts, Cert.Pre_mixnorm_finite.Gen.facts,
    Cert.Pre_losshead_finite.Gen.facts, Cert.Pre_s5gate_finite.Gen.facts,
    fun m ρ _ => Cert.Kernel.Gen.frame m ρ, fun m ρ _ => Cert.KernelIdeal.Gen.frame m ρ, Cert.Merge.frame_reference,
    fun m ρ _ => Cert.Attn.Gen.frame m ρ, fun m ρ _ => Cert.AttnIdeal.Gen.frame m ρ, fun m ρ _ => Cert.AttnIdeal.Gen.frame m ρ,
    Cert.Attention.frame_reference, fun m ρ _ => Cert.Attention.frame_reference m ρ trivial,
    fun m ρ _ => Cert.GlaPost.Gen.frame m ρ, fun m ρ _ => Cert.GlaPostIdeal.Gen.frame m ρ, fun m ρ _ => Cert.GlaPostIdeal.Gen.frame m ρ,
    Cert.GlaPost.frame_reference, fun m ρ _ => Cert.GlaPost.frame_reference m ρ trivial,
    fun m ρ _ => Cert.FfnAct.Gen.frame m ρ, fun m ρ _ => Cert.FfnActIdeal.Gen.frame m ρ, fun m ρ _ => Cert.FfnActIdeal.Gen.frame m ρ,
    Cert.FfnAct.frame_reference, fun m ρ _ => Cert.FfnAct.frame_reference m ρ trivial,
    fun m ρ _ => Cert.FfnNorm.Gen.frame m ρ, fun m ρ _ => Cert.FfnNormIdeal.Gen.frame m ρ, fun m ρ _ => Cert.FfnNormIdeal.Gen.frame m ρ,
    Cert.FfnNorm.frame_reference, fun m ρ _ => Cert.FfnNorm.frame_reference m ρ trivial,
    fun m ρ _ => Cert.MixNorm.Gen.frame m ρ, fun m ρ _ => Cert.MixNormIdeal.Gen.frame m ρ, fun m ρ _ => Cert.MixNormIdeal.Gen.frame m ρ,
    Cert.MixNorm.frame_reference, fun m ρ _ => Cert.MixNorm.frame_reference m ρ trivial,
    fun m ρ _ => Cert.LossHead.Gen.frame m ρ, fun m ρ _ => Cert.LossHeadIdeal.Gen.frame m ρ, fun m ρ _ => Cert.LossHeadIdeal.Gen.frame m ρ,
    Cert.LossHead.frame_reference, fun m ρ _ => Cert.LossHead.frame_reference m ρ trivial,
    fun m ρ _ => Cert.GlaPrep.Gen.frame m ρ, fun m ρ _ => Cert.GlaPrepIdeal.Gen.frame m ρ, Cert.GlaPrep.frame_reference,
    fun m ρ _ => Cert.S5Gate.Gen.frame m ρ, fun m ρ _ => Cert.S5GateIdeal.Gen.frame m ρ, fun m ρ _ => Cert.S5GateIdeal.Gen.frame m ρ,
    Cert.S5Gate.frame_reference, fun m ρ _ => Cert.S5Gate.frame_reference m ρ trivial,
    fun m ρ _ => Cert.S5Out.Gen.frame m ρ, fun m ρ _ => Cert.S5OutIdeal.Gen.frame m ρ, Cert.S5Out.frame_reference,
    fun m ρ _ => Cert.GlaOut.Gen.frame m ρ, fun m ρ _ => Cert.GlaOutIdeal.Gen.frame m ρ, Cert.GlaOut.frame_reference,
    fun m ρ _ => Cert.GlaGate.Gen.frame m ρ, fun m ρ _ => Cert.GlaGateIdeal.Gen.frame m ρ, Cert.GlaGate.frame_reference,
    fun m ρ _ => Cert.MergeOut.Gen.frame m ρ, fun m ρ _ => Cert.MergeOutIdeal.Gen.frame m ρ, Cert.MergeOut.frame_reference,
    fun m ρ _ => Cert.FfnUp.Gen.frame m ρ, fun m ρ _ => Cert.FfnUpIdeal.Gen.frame m ρ, Cert.FfnUp.frame_reference,
    fun m ρ _ => Cert.MixIn.Gen.frame m ρ, fun m ρ _ => Cert.MixInIdeal.Gen.frame m ρ, Cert.MixIn.frame_reference,
    fun m ρ _ => Cert.Dwin.Gen.frame m ρ, fun m ρ _ => Cert.DwinIdeal.Gen.frame m ρ, Cert.Dwin.frame_reference,
    fun m ρ _ => Cert.FfnDown.Gen.frame m ρ, fun m ρ _ => Cert.FfnDownIdeal.Gen.frame m ρ, Cert.FfnDown.frame_reference,
    fun m ρ _ => Cert.MixDz.Gen.frame m ρ, fun m ρ _ => Cert.MixDzIdeal.Gen.frame m ρ, Cert.MixDz.frame_reference,
    fun m ρ _ => Cert.Adamw.Gen.frame m ρ, fun m ρ _ => Cert.AdamwIdeal.Gen.frame m ρ, Cert.Adamw.frame_reference,
    fun m ρ _ => Cert.FfnDw.Gen.frame m ρ, fun m ρ _ => Cert.FfnDwIdeal.Gen.frame m ρ, Cert.FfnDw.frame_reference,
    fun m ρ _ => Cert.Dwgate.Gen.frame m ρ, fun m ρ _ => Cert.DwgateIdeal.Gen.frame m ρ, Cert.Dwgate.frame_reference,
    fun m ρ _ => Cert.Dwout.Gen.frame m ρ, fun m ρ _ => Cert.DwoutIdeal.Gen.frame m ρ, Cert.Dwout.frame_reference,
    fun m ρ _ => Cert.Dbranch.Gen.frame m ρ, fun m ρ _ => Cert.DbranchIdeal.Gen.frame m ρ, Cert.Dbranch.frame_reference,
    fun m ρ _ => Cert.DbranchAt.Gen.frame m ρ, fun m ρ _ => Cert.DbranchAtIdeal.Gen.frame m ρ, Cert.DbranchAt.frame_reference,
    fun m ρ _ => Cert.Dglu.Gen.frame m ρ, fun m ρ _ => Cert.DgluIdeal.Gen.frame m ρ, Cert.Dglu.frame_reference,
    fun m ρ _ => Cert.FfnDwIn.Gen.frame m ρ, fun m ρ _ => Cert.FfnDwInIdeal.Gen.frame m ρ, Cert.FfnDwIn.frame_reference,
    fun m ρ _ => Cert.AdamwFfn.Gen.frame m ρ, fun m ρ _ => Cert.AdamwFfnIdeal.Gen.frame m ρ, Cert.AdamwFfn.frame_reference,
    fun m ρ _ => Cert.AdamwGate.Gen.frame m ρ, fun m ρ _ => Cert.AdamwGateIdeal.Gen.frame m ρ, Cert.AdamwGate.frame_reference,
    fun m ρ _ => Cert.AdamwOut.Gen.frame m ρ, fun m ρ _ => Cert.AdamwOutIdeal.Gen.frame m ρ, Cert.AdamwOut.frame_reference,
    fun m ρ _ => Cert.AdamwBranch.Gen.frame m ρ, fun m ρ _ => Cert.AdamwBranchIdeal.Gen.frame m ρ, Cert.AdamwBranch.frame_reference,
    fun m ρ _ => Cert.AdamwGlu.Gen.frame m ρ, fun m ρ _ => Cert.AdamwGluIdeal.Gen.frame m ρ, Cert.AdamwGlu.frame_reference,
    fun m ρ _ => Cert.AdamwAlpha.Gen.frame m ρ, fun m ρ _ => Cert.AdamwAlphaIdeal.Gen.frame m ρ, Cert.AdamwAlpha.frame_reference,
    fun m ρ _ => Cert.AdamwBias.Gen.frame m ρ, fun m ρ _ => Cert.AdamwBiasIdeal.Gen.frame m ρ, Cert.AdamwBias.frame_reference,
    fun m ρ _ => Cert.AdamwRep.Gen.frame m ρ, fun m ρ _ => Cert.AdamwRepIdeal.Gen.frame m ρ, Cert.AdamwRep.frame_reference,
    fun m ρ _ => Cert.Dalpha.Gen.frame m ρ, fun m ρ _ => Cert.DalphaIdeal.Gen.frame m ρ, Cert.Dalpha.frame_reference,
    trivial, Cert.Merge.algebraic, Cert.Attention.preserves, Cert.Attention.algebraic,
    trivial, Cert.GlaPost.algebraic, trivial, Cert.FfnAct.algebraic, trivial, Cert.FfnNorm.algebraic, trivial, Cert.MixNorm.algebraic,
    trivial, Cert.LossHead.algebraic, trivial, Cert.GlaPrep.algebraic,
    trivial, Cert.S5Gate.algebraic,
    trivial, Cert.S5Out.algebraic, trivial, Cert.GlaOut.algebraic, trivial, Cert.GlaGate.algebraic,
    trivial, Cert.MergeOut.algebraic, trivial, Cert.FfnUp.algebraic, trivial, Cert.MixIn.algebraic,
    trivial, Cert.Dwin.algebraic, trivial, Cert.FfnDown.algebraic, trivial, Cert.MixDz.algebraic, trivial, Cert.Adamw.algebraic,
    trivial, Cert.FfnDw.algebraic,
    trivial, Cert.Dwgate.algebraic, trivial, Cert.Dwout.algebraic, trivial, Cert.Dbranch.algebraic,
    trivial, Cert.DbranchAt.algebraic, trivial, Cert.Dglu.algebraic, trivial, Cert.FfnDwIn.algebraic,
    trivial, Cert.AdamwFfn.algebraic, trivial, Cert.AdamwGate.algebraic, trivial, Cert.AdamwOut.algebraic, trivial, Cert.AdamwBranch.algebraic,
    trivial, Cert.AdamwGlu.algebraic, trivial, Cert.AdamwAlpha.algebraic, trivial, Cert.AdamwBias.algebraic, trivial, Cert.AdamwRep.algebraic,
    trivial, Cert.Dalpha.algebraic⟩

end Cert.Proof

end
